-- ==== Defs.lean ====
def Pre_Kernel [hPre_experts_named : Cert.Pre_experts_named.Facts] (m : (ℓ : Loc Cert.Kernel.nD Cert.Kernel.τ Cert.Kernel.sig) → Buf (Elt Bits) ℓ) : Prop :=
  ∀ c : Dev Cert.Kernel.nD,
    (Cert.Pre_experts_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_named : Cert.Pre_experts_named.Facts] (m : (ℓ : Loc Cert.KernelIdeal.nD Cert.KernelIdeal.τ Cert.KernelIdeal.sig) → Buf (Elt Ideal) ℓ) : Prop :=
  ∀ c : Dev Cert.KernelIdeal.nD,
    (Cert.Pre_experts_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_named [hPre_experts_named : Cert.Pre_experts_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_experts_named : Cert.Pre_experts_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_named [hReferenceIdeal : Cert.ReferenceIdeal.Facts] [hPre_experts_named : Cert.Pre_experts_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_named : Cert.Pre_experts_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_experts_named : Cert.Pre_experts_named.Facts),
    quiescent_Kernel (hKernel := hKernel) (hPre_experts_named := hPre_experts_named)
    ∧ quiescent_KernelIdeal (hKernelIdeal := hKernelIdeal) (hPre_experts_named := hPre_experts_named)
    ∧ quiescent_ReferenceIdeal (hReferenceIdeal := hReferenceIdeal)
    ∧ quiescent_ReferenceIdeal_pre_experts_named (hReferenceIdeal := hReferenceIdeal) (hPre_experts_named := hPre_experts_named)
    ∧ preserves_Kernel_KernelIdeal
    ∧ algebraic_KernelIdeal_ReferenceIdeal (hKernelIdeal := hKernelIdeal) (hReferenceIdeal := hReferenceIdeal) (hPre_experts_named := hPre_experts_named)
-- ==== Pre_experts_named.lean ====
abbrev S64x1x4096 : Shape := ⟨3, ![64, 1, 4096]⟩
abbrev S64x1x8 : Shape := ⟨3, ![64, 1, 8]⟩
abbrev S32x2816x4096 : Shape := ⟨3, ![32, 2816, 4096]⟩
abbrev S32x2816 : Shape := ⟨2, ![32, 2816]⟩
abbrev S32x4096x1408 : Shape := ⟨3, ![32, 4096, 1408]⟩
abbrev S32x4096 : Shape := ⟨2, ![32, 4096]⟩
abbrev S_ : Shape := ⟨0, ![]⟩

class Facts : Prop where
  bcast_S_S64x1x8 : S_.BroadcastsInDim S64x1x8 (![] : Fin 0 → Fin S64x1x8.rank)

variable [Facts]

def fn {F : FTy → Type} [FloatOps F] (main_arg0 : FVec F S64x1x4096 .bf16) (main_arg1 : IVec S64x1x8 32) (main_arg2 : FVec F S64x1x8 .f32) (main_arg3 : FVec F S32x2816x4096 .fp8e4m3) (main_arg4 : FVec F S32x2816 .f32) (main_arg5 : FVec F S32x4096x1408 .fp8e4m3) (main_arg6 : FVec F S32x4096 .f32) : IVec S64x1x8 1 :=
  let main_c : IVec S_ 32 := constantI S_ 32 0#32
  let main_v0 : IVec S64x1x8 32 := broadcastInDim S64x1x8 ![] bcast_S_S64x1x8 main_c
  let main_v1 : IVec S64x1x8 1 := cmpi .sge main_arg1 main_v0
  let main_c_0 : IVec S_ 32 := constantI S_ 32 31#32
  let main_v2 : IVec S64x1x8 32 := broadcastInDim S64x1x8 ![] bcast_S_S64x1x8 main_c_0
  let main_v3 : IVec S64x1x8 1 := cmpi .sle main_arg1 main_v2
  let main_v4 : IVec S64x1x8 1 := andi main_v1 main_v3
  main_v4
-- ==== Kernel.lean ====
abbrev S64x1x4096 : Shape := ⟨3, ![64, 1, 4096]⟩
abbrev S64x1x8 : Shape := ⟨3, ![64, 1, 8]⟩
abbrev S32x2816x4096 : Shape := ⟨3, ![32, 2816, 4096]⟩
abbrev S32x2816 : Shape := ⟨2, ![32, 2816]⟩
abbrev S32x4096x1408 : Shape := ⟨3, ![32, 4096, 1408]⟩
abbrev S32x4096 : Shape := ⟨2, ![32, 4096]⟩
abbrev S64x8 : Shape := ⟨2, ![64, 8]⟩
abbrev S64x4096 : Shape := ⟨2, ![64, 4096]⟩
abbrev S2x2816x4096 : Shape := ⟨3, ![2, 2816, 4096]⟩
abbrev S2x4096x1408 : Shape := ⟨3, ![2, 4096, 1408]⟩
abbrev S2x1x2816 : Shape := ⟨3, ![2, 1, 2816]⟩
abbrev S2x1x4096 : Shape := ⟨3, ![2, 1, 4096]⟩
abbrev S64x1408 : Shape := ⟨2, ![64, 1408]⟩
abbrev S32 : Shape := ⟨1, ![32]⟩
abbrev S33 : Shape := ⟨1, ![33]⟩
abbrev S2x6 : Shape := ⟨2, ![2, 6]⟩
abbrev S2x4 : Shape := ⟨2, ![2, 4]⟩
abbrev S1 : Shape := ⟨1, ![1]⟩
abbrev S1x1 : Shape := ⟨2, ![1, 1]⟩
abbrev S_ : Shape := ⟨0, ![]⟩
abbrev S1x1x2816 : Shape := ⟨3, ![1, 1, 2816]⟩
abbrev S1x2816 : Shape := ⟨2, ![1, 2816]⟩
abbrev S1x1x4096 : Shape := ⟨3, ![1, 1, 4096]⟩
abbrev S1x4096 : Shape := ⟨2, ![1, 4096]⟩
abbrev S1x256x4096 : Shape := ⟨3, ![1, 256, 4096]⟩
abbrev S256x4096 : Shape := ⟨2, ![256, 4096]⟩
abbrev S1x128x4096 : Shape := ⟨3, ![1, 128, 4096]⟩
abbrev S128x4096 : Shape := ⟨2, ![128, 4096]⟩
abbrev S1x1024x1408 : Shape := ⟨3, ![1, 1024, 1408]⟩
abbrev S1024x1408 : Shape := ⟨2, ![1024, 1408]⟩
abbrev S64 : Shape := ⟨1, ![64]⟩
abbrev S64x1 : Shape := ⟨2, ![64, 1]⟩
abbrev S64x256 : Shape := ⟨2, ![64, 256]⟩
abbrev S1x1x256 : Shape := ⟨3, ![1, 1, 256]⟩
abbrev S1x256 : Shape := ⟨2, ![1, 256]⟩
abbrev S64x128 : Shape := ⟨2, ![64, 128]⟩
abbrev S1x1x128 : Shape := ⟨3, ![1, 1, 128]⟩
abbrev S1x128 : Shape := ⟨2, ![1, 128]⟩
abbrev S64x1024 : Shape := ⟨2, ![64, 1024]⟩
abbrev S1x1x1024 : Shape := ⟨3, ![1, 1, 1024]⟩
abbrev S1x1024 : Shape := ⟨2, ![1, 1024]⟩

abbrev nBuf : Space → Nat
  | .hbm => 12
  | .vmem => 10
  | .smem => 3
  | _ => 0

abbrev bufTy : (tb : Table) → Fin (tcTables nBuf tb) → BufTy
  | .hbm, ⟨0, _⟩ => ⟨S64x1x4096, .bf16⟩
  | .hbm, ⟨1, _⟩ => ⟨S64x1x8, .i32⟩
  | .hbm, ⟨2, _⟩ => ⟨S64x1x8, .f32⟩
  | .hbm, ⟨3, _⟩ => ⟨S32x2816x4096, .fp8e4m3⟩
  | .hbm, ⟨4, _⟩ => ⟨S32x2816, .f32⟩
  | .hbm, ⟨5, _⟩ => ⟨S32x4096x1408, .fp8e4m3⟩
  | .hbm, ⟨6, _⟩ => ⟨S32x4096, .f32⟩
  | .hbm, ⟨7, _⟩ => ⟨S64x8, .i32⟩
  | .hbm, ⟨8, _⟩ => ⟨S64x8, .f32⟩
  | .hbm, ⟨9, _⟩ => ⟨S64x4096, .bf16⟩
  | .hbm, ⟨10, _⟩ => ⟨S64x4096, .bf16⟩
  | .hbm, ⟨11, _⟩ => ⟨S64x1x4096, .bf16⟩
  | .local _ .vmem, ⟨0, _⟩ => ⟨S64x8, .i32⟩
  | .local _ .vmem, ⟨1, _⟩ => ⟨S64x8, .f32⟩
  | .local _ .vmem, ⟨2, _⟩ => ⟨S64x4096, .bf16⟩
  | .local _ .vmem, ⟨3, _⟩ => ⟨S64x4096, .bf16⟩
  | .local _ .vmem, ⟨4, _⟩ => ⟨S2x2816x4096, .fp8e4m3⟩
  | .local _ .vmem, ⟨5, _⟩ => ⟨S2x4096x1408, .fp8e4m3⟩
  | .local _ .vmem, ⟨6, _⟩ => ⟨S2x1x2816, .f32⟩
  | .local _ .vmem, ⟨7, _⟩ => ⟨S2x1x4096, .f32⟩
  | .local _ .vmem, ⟨8, _⟩ => ⟨S64x1408, .bf16⟩
  | .local _ .vmem, ⟨9, _⟩ => ⟨S64x4096, .f32⟩
  | .local _ .smem, ⟨0, _⟩ => ⟨S64x8, .i32⟩
  | .local _ .smem, ⟨1, _⟩ => ⟨S32, .i32⟩
  | .local _ .smem, ⟨2, _⟩ => ⟨S33, .i32⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 0, rfl⟩
abbrev cc0_scratch6 : Ref sig .tc := ⟨.smem, 1, rfl⟩
abbrev cc0_scratch7 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_31 : BitVec 32 := 0#32
  let c64_i32 : BitVec 32 := 64#32
  let v32 : BitVec 32 := Scalar.addi c0_i32_31 c64_i32
  let c1_i32 : BitVec 32 := 1#32
  ⟨c0_i32_31, v32, c1_i32⟩
def k0_off1 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v53 : Index := Scalar.indexCast arg19
  let c0_52 : Index := 0#32
  ![v53.toNat, 0]
def k0_off2 (v54 : BitVec 32) : Fin 1 → Nat :=
  let v55 : Index := Scalar.indexCast v54
  ![v55.toNat]

def k0_chk1 (v54 : BitVec 32) : Prop :=
  (∀ a, (k0_off2 v54) a + S1.size a ≤ S32.size a)
theorem k0_off2_inb : ∀ (v54 : BitVec 32) (k0_hw1 : k0_chk1 v54), ∀ a, (k0_off2 v54) a + S1.size a ≤ S32.size a := fun v54 k0_hw1 => k0_hw1

def k0_off3 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v57 : Index := Scalar.indexCast arg19
  let c1_54 : Index := 1#32
  ![v57.toNat, 1]
def k0_off4 (v58 : BitVec 32) : Fin 1 → Nat :=
  let v59 : Index := Scalar.indexCast v58
  ![v59.toNat]

def k0_chk2 (v58 : BitVec 32) : Prop :=
  (∀ a, (k0_off4 v58) a + S1.size a ≤ S32.size a)
theorem k0_off4_inb : ∀ (v58 : BitVec 32) (k0_hw2 : k0_chk2 v58), ∀ a, (k0_off4 v58) a + S1.size a ≤ S32.size a := fun v58 k0_hw2 => k0_hw2

def k0_off5 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v61 : Index := Scalar.indexCast arg19
  let c2_56 : Index := 2#32
  ![v61.toNat, 2]
def k0_off6 (v62 : BitVec 32) : Fin 1 → Nat :=
  let v63 : Index := Scalar.indexCast v62
  ![v63.toNat]

def k0_chk3 (v62 : BitVec 32) : Prop :=
  (∀ a, (k0_off6 v62) a + S1.size a ≤ S32.size a)
theorem k0_off6_inb : ∀ (v62 : BitVec 32) (k0_hw3 : k0_chk3 v62), ∀ a, (k0_off6 v62) a + S1.size a ≤ S32.size a := fun v62 k0_hw3 => k0_hw3

def k0_off7 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v65 : Index := Scalar.indexCast arg19
  let c3_58 : Index := 3#32
  ![v65.toNat, 3]
def k0_off8 (v66 : BitVec 32) : Fin 1 → Nat :=
  let v67 : Index := Scalar.indexCast v66
  ![v67.toNat]

def k0_chk4 (v66 : BitVec 32) : Prop :=
  (∀ a, (k0_off8 v66) a + S1.size a ≤ S32.size a)
theorem k0_off8_inb : ∀ (v66 : BitVec 32) (k0_hw4 : k0_chk4 v66), ∀ a, (k0_off8 v66) a + S1.size a ≤ S32.size a := fun v66 k0_hw4 => k0_hw4

def k0_off9 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v69 : Index := Scalar.indexCast arg19
  let c4_60 : Index := 4#32
  ![v69.toNat, 4]
def k0_off10 (v70 : BitVec 32) : Fin 1 → Nat :=
  let v71 : Index := Scalar.indexCast v70
  ![v71.toNat]

def k0_chk5 (v70 : BitVec 32) : Prop :=
  (∀ a, (k0_off10 v70) a + S1.size a ≤ S32.size a)
theorem k0_off10_inb : ∀ (v70 : BitVec 32) (k0_hw5 : k0_chk5 v70), ∀ a, (k0_off10 v70) a + S1.size a ≤ S32.size a := fun v70 k0_hw5 => k0_hw5

def k0_off11 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v73 : Index := Scalar.indexCast arg19
  let c5_62 : Index := 5#32
  ![v73.toNat, 5]
def k0_off12 (v74 : BitVec 32) : Fin 1 → Nat :=
  let v75 : Index := Scalar.indexCast v74
  ![v75.toNat]

def k0_chk6 (v74 : BitVec 32) : Prop :=
  (∀ a, (k0_off12 v74) a + S1.size a ≤ S32.size a)
theorem k0_off12_inb : ∀ (v74 : BitVec 32) (k0_hw6 : k0_chk6 v74), ∀ a, (k0_off12 v74) a + S1.size a ≤ S32.size a := fun v74 k0_hw6 => k0_hw6

def k0_off13 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v77 : Index := Scalar.indexCast arg19
  let c6_64 : Index := 6#32
  ![v77.toNat, 6]
def k0_off14 (v78 : BitVec 32) : Fin 1 → Nat :=
  let v79 : Index := Scalar.indexCast v78
  ![v79.toNat]

def k0_chk7 (v78 : BitVec 32) : Prop :=
  (∀ a, (k0_off14 v78) a + S1.size a ≤ S32.size a)
theorem k0_off14_inb : ∀ (v78 : BitVec 32) (k0_hw7 : k0_chk7 v78), ∀ a, (k0_off14 v78) a + S1.size a ≤ S32.size a := fun v78 k0_hw7 => k0_hw7

def k0_off15 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let v81 : Index := Scalar.indexCast arg19
  let c7_66 : Index := 7#32
  ![v81.toNat, 7]
def k0_off16 (v82 : BitVec 32) : Fin 1 → Nat :=
  let v83 : Index := Scalar.indexCast v82
  ![v83.toNat]

def k0_chk8 (v82 : BitVec 32) : Prop :=
  (∀ a, (k0_off16 v82) a + S1.size a ≤ S32.size a)
theorem k0_off16_inb : ∀ (v82 : BitVec 32) (k0_hw8 : k0_chk8 v82), ∀ a, (k0_off16 v82) a + S1.size a ≤ S32.size a := fun v82 k0_hw8 => k0_hw8

@[reducible] def k0_t2_loop : Scf.Loop 32 :=
  let c0_i32_34 : BitVec 32 := 0#32
  let c32_i32 : BitVec 32 := 32#32
  let v33 : BitVec 32 := Scalar.addi c0_i32_34 c32_i32
  let c1_i32_35 : BitVec 32 := 1#32
  ⟨c0_i32_34, v33, c1_i32_35⟩
def k0_off17 (arg20 : BitVec 32) : Fin 1 → Nat :=
  let v53 : Index := Scalar.indexCast arg20
  ![v53.toNat]

def k0_chk9 (arg20 : BitVec 32) : Prop :=
  (∀ a, (k0_off17 arg20) a + S1.size a ≤ S33.size a)
theorem k0_off17_inb : ∀ (arg20 : BitVec 32) (k0_hw9 : k0_chk9 arg20), ∀ a, (k0_off17 arg20) a + S1.size a ≤ S33.size a := fun arg20 k0_hw9 => k0_hw9

def k0_off18 (k0_t2 : Fin k0_t2_loop.trips) : Fin 1 → Nat :=
  let c0_i32_34 : BitVec 32 := 0#32
  let c1_i32_35 : BitVec 32 := 1#32
  let arg19 : BitVec 32 := Scf.iv c0_i32_34 c1_i32_35 k0_t2
  let v55 : Index := Scalar.indexCast arg19
  ![v55.toNat]
def k0_off19 (v53 : BitVec 32) : Fin 2 → Nat :=
  let c0_i32_58 : BitVec 32 := 0#32
  ![v53.toNat, 0]
def k0_cond1 (v34 : BitVec 32) : BitVec 1 :=
  let c0_i32_37 : BitVec 32 := 0#32
  let v35 : BitVec 1 := Scalar.cmpi .sgt v34 c0_i32_37
  let v36 : BitVec 32 := Scalar.extui v35
  let c0_i32_38 : BitVec 32 := 0#32
  let v37 : BitVec 1 := Scalar.cmpi .ne v36 c0_i32_38
  v37

def k0_off20 (v53 : BitVec 32) : Fin 2 → Nat :=
  let c0_i32_64 : BitVec 32 := 0#32
  ![v53.toNat, 0]
def k0_off21 (v53 : BitVec 32) : Fin 3 → Nat :=
  let c0_i32_70 : BitVec 32 := 0#32
  let c0_i32_71 : BitVec 32 := 0#32
  ![v53.toNat, 0, 0]
def k0_off22 (v53 : BitVec 32) : Fin 3 → Nat :=
  let c1408_i32_76 : BitVec 32 := 1408#32
  let c0_i32_77 : BitVec 32 := 0#32
  ![v53.toNat, 1408, 0]
def k0_off23 (v53 : BitVec 32) : Fin 3 → Nat :=
  let c256_i32_82 : BitVec 32 := 256#32
  let c0_i32_83 : BitVec 32 := 0#32
  ![v53.toNat, 256, 0]
def k0_off24 (v53 : BitVec 32) : Fin 3 → Nat :=
  let c1664_i32_88 : BitVec 32 := 1664#32
  let c0_i32_89 : BitVec 32 := 0#32
  ![v53.toNat, 1664, 0]
def k0_off25 (v53 : BitVec 32) : Fin 3 → Nat :=
  let c512_i32_93 : BitVec 32 := 512#32
  let c0_i32_94 : BitVec 32 := 0#32
  ![v53.toNat, 512, 0]
def k0_off26 (v53 : BitVec 32) : Fin 3 → Nat :=
  let c1920_i32_99 : BitVec 32 := 1920#32
  let c0_i32_100 : BitVec 32 := 0#32
  ![v53.toNat, 1920, 0]
def k0_off27 (v53 : BitVec 32) : Fin 3 → Nat :=
  let c768_i32_104 : BitVec 32 := 768#32
  let c0_i32_105 : BitVec 32 := 0#32
  ![v53.toNat, 768, 0]
def k0_off28 (v53 : BitVec 32) : Fin 3 → Nat :=
  let c2176_i32_110 : BitVec 32 := 2176#32
  let c0_i32_111 : BitVec 32 := 0#32
  ![v53.toNat, 2176, 0]
def k0_off29 (v53 : BitVec 32) : Fin 3 → Nat :=
  let c1024_i32_115 : BitVec 32 := 1024#32
  let c0_i32_116 : BitVec 32 := 0#32
  ![v53.toNat, 1024, 0]
def k0_off30 (v53 : BitVec 32) : Fin 3 → Nat :=
  let c2432_i32_121 : BitVec 32 := 2432#32
  let c0_i32_122 : BitVec 32 := 0#32
  ![v53.toNat, 2432, 0]
def k0_off31 (v53 : BitVec 32) : Fin 3 → Nat :=
  let c1280_i32_126 : BitVec 32 := 1280#32
  let c0_i32_127 : BitVec 32 := 0#32
  ![v53.toNat, 1280, 0]
def k0_off32 (v53 : BitVec 32) : Fin 3 → Nat :=
  let c2688_i32_132 : BitVec 32 := 2688#32
  let c0_i32_133 : BitVec 32 := 0#32
  ![v53.toNat, 2688, 0]
def k0_off33 (v53 : BitVec 32) : Fin 3 → Nat :=
  let c0_i32_139 : BitVec 32 := 0#32
  let c0_i32_140 : BitVec 32 := 0#32
  ![v53.toNat, 0, 0]
def k0_off34 (v53 : BitVec 32) : Fin 3 → Nat :=
  let c1024_i32_146 : BitVec 32 := 1024#32
  let c0_i32_147 : BitVec 32 := 0#32
  ![v53.toNat, 1024, 0]
def k0_off35 (v53 : BitVec 32) : Fin 3 → Nat :=
  let c2048_i32_152 : BitVec 32 := 2048#32
  let c0_i32_153 : BitVec 32 := 0#32
  ![v53.toNat, 2048, 0]
def k0_off36 (v53 : BitVec 32) : Fin 3 → Nat :=
  let c3072_i32_158 : BitVec 32 := 3072#32
  let c0_i32_159 : BitVec 32 := 0#32
  ![v53.toNat, 3072, 0]

def k0_chk10_0 (v34 : BitVec 32) (v53 : BitVec 32) : Prop :=
  (∀ (k0_h1 : k0_cond1 v34 = 1#1), ∀ a, (k0_off19 v53) a + S1x2816.size a ≤ S32x2816.size a) ∧
  (∀ (k0_h1 : k0_cond1 v34 = 1#1), ∀ a, (k0_off20 v53) a + S1x4096.size a ≤ S32x4096.size a) ∧
  (∀ (k0_h1 : k0_cond1 v34 = 1#1), ∀ a, (k0_off21 v53) a + S1x256x4096.size a ≤ S32x2816x4096.size a) ∧
  (∀ (k0_h1 : k0_cond1 v34 = 1#1), ∀ (hinb : ∀ a, (k0_off21 v53) a + S1x256x4096.size a ≤ S32x2816x4096.size a), (Rect.unit (s := S32x2816x4096) (k0_off21 v53) S1x256x4096.size hinb).WholeWords (EltTy.packing .fp8e4m3)) ∧
  (∀ (k0_h1 : k0_cond1 v34 = 1#1), ∀ a, (k0_off22 v53) a + S1x256x4096.size a ≤ S32x2816x4096.size a) ∧
  (∀ (k0_h1 : k0_cond1 v34 = 1#1), ∀ (hinb : ∀ a, (k0_off22 v53) a + S1x256x4096.size a ≤ S32x2816x4096.size a), (Rect.unit (s := S32x2816x4096) (k0_off22 v53) S1x256x4096.size hinb).WholeWords (EltTy.packing .fp8e4m3)) ∧
  (∀ (k0_h1 : k0_cond1 v34 = 1#1), ∀ a, (k0_off23 v53) a + S1x256x4096.size a ≤ S32x2816x4096.size a) ∧
  (∀ (k0_h1 : k0_cond1 v34 = 1#1), ∀ (hinb : ∀ a, (k0_off23 v53) a + S1x256x4096.size a ≤ S32x2816x4096.size a), (Rect.unit (s := S32x2816x4096) (k0_off23 v53) S1x256x4096.size hinb).WholeWords (EltTy.packing .fp8e4m3)) ∧
  (∀ (k0_h1 : k0_cond1 v34 = 1#1), ∀ a, (k0_off24 v53) a + S1x256x4096.size a ≤ S32x2816x4096.size a) ∧
  (∀ (k0_h1 : k0_cond1 v34 = 1#1), ∀ (hinb : ∀ a, (k0_off24 v53) a + S1x256x4096.size a ≤ S32x2816x4096.size a), (Rect.unit (s := S32x2816x4096) (k0_off24 v53) S1x256x4096.size hinb).WholeWords (EltTy.packing .fp8e4m3)) ∧
  (∀ (k0_h1 : k0_cond1 v34 = 1#1), ∀ a, (k0_off25 v53) a + S1x256x4096.size a ≤ S32x2816x4096.size a) ∧
  (∀ (k0_h1 : k0_cond1 v34 = 1#1), ∀ (hinb : ∀ a, (k0_off25 v53) a + S1x256x4096.size a ≤ S32x2816x4096.size a), (Rect.unit (s := S32x2816x4096) (k0_off25 v53) S1x256x4096.size hinb).WholeWords (EltTy.packing .fp8e4m3)) ∧
  (∀ (k0_h1 : k0_cond1 v34 = 1#1), ∀ a, (k0_off26 v53) a + S1x256x4096.size a ≤ S32x2816x4096.size a) ∧
  (∀ (k0_h1 : k0_cond1 v34 = 1#1), ∀ (hinb : ∀ a, (k0_off26 v53) a + S1x256x4096.size a ≤ S32x2816x4096.size a), (Rect.unit (s := S32x2816x4096) (k0_off26 v53) S1x256x4096.size hinb).WholeWords (EltTy.packing .fp8e4m3)) ∧
  (∀ (k0_h1 : k0_cond1 v34 = 1#1), ∀ a, (k0_off27 v53) a + S1x256x4096.size a ≤ S32x2816x4096.size a) ∧
  (∀ (k0_h1 : k0_cond1 v34 = 1#1), ∀ (hinb : ∀ a, (k0_off27 v53) a + S1x256x4096.size a ≤ S32x2816x4096.size a), (Rect.unit (s := S32x2816x4096) (k0_off27 v53) S1x256x4096.size hinb).WholeWords (EltTy.packing .fp8e4m3)) ∧
  (∀ (k0_h1 : k0_cond1 v34 = 1#1), ∀ a, (k0_off28 v53) a + S1x256x4096.size a ≤ S32x2816x4096.size a) ∧
  (∀ (k0_h1 : k0_cond1 v34 = 1#1), ∀ (hinb : ∀ a, (k0_off28 v53) a + S1x256x4096.size a ≤ S32x2816x4096.size a), (Rect.unit (s := S32x2816x4096) (k0_off28 v53) S1x256x4096.size hinb).WholeWords (EltTy.packing .fp8e4m3)) ∧
  (∀ (k0_h1 : k0_cond1 v34 = 1#1), ∀ a, (k0_off29 v53) a + S1x256x4096.size a ≤ S32x2816x4096.size a) ∧
  (∀ (k0_h1 : k0_cond1 v34 = 1#1), ∀ (hinb : ∀ a, (k0_off29 v53) a + S1x256x4096.size a ≤ S32x2816x4096.size a), (Rect.unit (s := S32x2816x4096) (k0_off29 v53) S1x256x4096.size hinb).WholeWords (EltTy.packing .fp8e4m3)) ∧
  (∀ (k0_h1 : k0_cond1 v34 = 1#1), ∀ a, (k0_off30 v53) a + S1x256x4096.size a ≤ S32x2816x4096.size a) ∧
  (∀ (k0_h1 : k0_cond1 v34 = 1#1), ∀ (hinb : ∀ a, (k0_off30 v53) a + S1x256x4096.size a ≤ S32x2816x4096.size a), (Rect.unit (s := S32x2816x4096) (k0_off30 v53) S1x256x4096.size hinb).WholeWords (EltTy.packing .fp8e4m3)) ∧
  (∀ (k0_h1 : k0_cond1 v34 = 1#1), ∀ a, (k0_off31 v53) a + S1x128x4096.size a ≤ S32x2816x4096.size a) ∧
  (∀ (k0_h1 : k0_cond1 v34 = 1#1), ∀ (hinb : ∀ a, (k0_off31 v53) a + S1x128x4096.size a ≤ S32x2816x4096.size a), (Rect.unit (s := S32x2816x4096) (k0_off31 v53) S1x128x4096.size hinb).WholeWords (EltTy.packing .fp8e4m3)) ∧
  (∀ (k0_h1 : k0_cond1 v34 = 1#1), ∀ a, (k0_off32 v53) a + S1x128x4096.size a ≤ S32x2816x4096.size a) ∧
  (∀ (k0_h1 : k0_cond1 v34 = 1#1), ∀ (hinb : ∀ a, (k0_off32 v53) a + S1x128x4096.size a ≤ S32x2816x4096.size a), (Rect.unit (s := S32x2816x4096) (k0_off32 v53) S1x128x4096.size hinb).WholeWords (EltTy.packing .fp8e4m3)) ∧
  (∀ (k0_h1 : k0_cond1 v34 = 1#1), ∀ a, (k0_off33 v53) a + S1x1024x1408.size a ≤ S32x4096x1408.size a) ∧
  (∀ (k0_h1 : k0_cond1 v34 = 1#1), ∀ (hinb : ∀ a, (k0_off33 v53) a + S1x1024x1408.size a ≤ S32x4096x1408.size a), (Rect.unit (s := S32x4096x1408) (k0_off33 v53) S1x1024x1408.size hinb).WholeWords (EltTy.packing .fp8e4m3)) ∧
  (∀ (k0_h1 : k0_cond1 v34 = 1#1), ∀ a, (k0_off34 v53) a + S1x1024x1408.size a ≤ S32x4096x1408.size a) ∧
  (∀ (k0_h1 : k0_cond1 v34 = 1#1), ∀ (hinb : ∀ a, (k0_off34 v53) a + S1x1024x1408.size a ≤ S32x4096x1408.size a), (Rect.unit (s := S32x4096x1408) (k0_off34 v53) S1x1024x1408.size hinb).WholeWords (EltTy.packing .fp8e4m3)) ∧
  (∀ (k0_h1 : k0_cond1 v34 = 1#1), ∀ a, (k0_off35 v53) a + S1x1024x1408.size a ≤ S32x4096x1408.size a) ∧
  (∀ (k0_h1 : k0_cond1 v34 = 1#1), ∀ (hinb : ∀ a, (k0_off35 v53) a + S1x1024x1408.size a ≤ S32x4096x1408.size a), (Rect.unit (s := S32x4096x1408) (k0_off35 v53) S1x1024x1408.size hinb).WholeWords (EltTy.packing .fp8e4m3))
def k0_chk10_1 (v34 : BitVec 32) (v53 : BitVec 32) : Prop :=
  (∀ (k0_h1 : k0_cond1 v34 = 1#1), ∀ a, (k0_off36 v53) a + S1x1024x1408.size a ≤ S32x4096x1408.size a) ∧
  (∀ (k0_h1 : k0_cond1 v34 = 1#1), ∀ (hinb : ∀ a, (k0_off36 v53) a + S1x1024x1408.size a ≤ S32x4096x1408.size a), (Rect.unit (s := S32x4096x1408) (k0_off36 v53) S1x1024x1408.size hinb).WholeWords (EltTy.packing .fp8e4m3))
def k0_chk10 (v34 : BitVec 32) (v53 : BitVec 32) : Prop :=
  k0_chk10_0 v34 v53 ∧
  k0_chk10_1 v34 v53
theorem k0_off19_inb : ∀ (v34 : BitVec 32) (v53 : BitVec 32) (k0_hw10 : k0_chk10 v34 v53), ∀ (k0_h1 : k0_cond1 v34 = 1#1), ∀ a, (k0_off19 v53) a + S1x2816.size a ≤ S32x2816.size a := fun v34 v53 k0_hw10 k0_h1 => k0_hw10.1.1 k0_h1
theorem k0_off20_inb : ∀ (v34 : BitVec 32) (v53 : BitVec 32) (k0_hw10 : k0_chk10 v34 v53), ∀ (k0_h1 : k0_cond1 v34 = 1#1), ∀ a, (k0_off20 v53) a + S1x4096.size a ≤ S32x4096.size a := fun v34 v53 k0_hw10 k0_h1 => k0_hw10.1.2.1 k0_h1
theorem k0_off21_inb : ∀ (v34 : BitVec 32) (v53 : BitVec 32) (k0_hw10 : k0_chk10 v34 v53), ∀ (k0_h1 : k0_cond1 v34 = 1#1), ∀ a, (k0_off21 v53) a + S1x256x4096.size a ≤ S32x2816x4096.size a := fun v34 v53 k0_hw10 k0_h1 => k0_hw10.1.2.2.1 k0_h1
theorem k0_off21_wordsfp8e4m3 : ∀ (v34 : BitVec 32) (v53 : BitVec 32) (k0_hw10 : k0_chk10 v34 v53), ∀ (k0_h1 : k0_cond1 v34 = 1#1), (Rect.unit (s := S32x2816x4096) (k0_off21 v53) S1x256x4096.size (k0_off21_inb v34 v53 k0_hw10 k0_h1)).WholeWords (EltTy.packing .fp8e4m3) := fun v34 v53 k0_hw10 k0_h1 => k0_hw10.1.2.2.2.1 k0_h1 (k0_off21_inb v34 v53 k0_hw10 k0_h1)
theorem k0_off22_inb : ∀ (v34 : BitVec 32) (v53 : BitVec 32) (k0_hw10 : k0_chk10 v34 v53), ∀ (k0_h1 : k0_cond1 v34 = 1#1), ∀ a, (k0_off22 v53) a + S1x256x4096.size a ≤ S32x2816x4096.size a := fun v34 v53 k0_hw10 k0_h1 => k0_hw10.1.2.2.2.2.1 k0_h1
theorem k0_off22_wordsfp8e4m3 : ∀ (v34 : BitVec 32) (v53 : BitVec 32) (k0_hw10 : k0_chk10 v34 v53), ∀ (k0_h1 : k0_cond1 v34 = 1#1), (Rect.unit (s := S32x2816x4096) (k0_off22 v53) S1x256x4096.size (k0_off22_inb v34 v53 k0_hw10 k0_h1)).WholeWords (EltTy.packing .fp8e4m3) := fun v34 v53 k0_hw10 k0_h1 => k0_hw10.1.2.2.2.2.2.1 k0_h1 (k0_off22_inb v34 v53 k0_hw10 k0_h1)
theorem k0_off23_inb : ∀ (v34 : BitVec 32) (v53 : BitVec 32) (k0_hw10 : k0_chk10 v34 v53), ∀ (k0_h1 : k0_cond1 v34 = 1#1), ∀ a, (k0_off23 v53) a + S1x256x4096.size a ≤ S32x2816x4096.size a := fun v34 v53 k0_hw10 k0_h1 => k0_hw10.1.2.2.2.2.2.2.1 k0_h1
theorem k0_off23_wordsfp8e4m3 : ∀ (v34 : BitVec 32) (v53 : BitVec 32) (k0_hw10 : k0_chk10 v34 v53), ∀ (k0_h1 : k0_cond1 v34 = 1#1), (Rect.unit (s := S32x2816x4096) (k0_off23 v53) S1x256x4096.size (k0_off23_inb v34 v53 k0_hw10 k0_h1)).WholeWords (EltTy.packing .fp8e4m3) := fun v34 v53 k0_hw10 k0_h1 => k0_hw10.1.2.2.2.2.2.2.2.1 k0_h1 (k0_off23_inb v34 v53 k0_hw10 k0_h1)
theorem k0_off24_inb : ∀ (v34 : BitVec 32) (v53 : BitVec 32) (k0_hw10 : k0_chk10 v34 v53), ∀ (k0_h1 : k0_cond1 v34 = 1#1), ∀ a, (k0_off24 v53) a + S1x256x4096.size a ≤ S32x2816x4096.size a := fun v34 v53 k0_hw10 k0_h1 => k0_hw10.1.2.2.2.2.2.2.2.2.1 k0_h1
theorem k0_off24_wordsfp8e4m3 : ∀ (v34 : BitVec 32) (v53 : BitVec 32) (k0_hw10 : k0_chk10 v34 v53), ∀ (k0_h1 : k0_cond1 v34 = 1#1), (Rect.unit (s := S32x2816x4096) (k0_off24 v53) S1x256x4096.size (k0_off24_inb v34 v53 k0_hw10 k0_h1)).WholeWords (EltTy.packing .fp8e4m3) := fun v34 v53 k0_hw10 k0_h1 => k0_hw10.1.2.2.2.2.2.2.2.2.2.1 k0_h1 (k0_off24_inb v34 v53 k0_hw10 k0_h1)
theorem k0_off25_inb : ∀ (v34 : BitVec 32) (v53 : BitVec 32) (k0_hw10 : k0_chk10 v34 v53), ∀ (k0_h1 : k0_cond1 v34 = 1#1), ∀ a, (k0_off25 v53) a + S1x256x4096.size a ≤ S32x2816x4096.size a := fun v34 v53 k0_hw10 k0_h1 => k0_hw10.1.2.2.2.2.2.2.2.2.2.2.1 k0_h1
theorem k0_off25_wordsfp8e4m3 : ∀ (v34 : BitVec 32) (v53 : BitVec 32) (k0_hw10 : k0_chk10 v34 v53), ∀ (k0_h1 : k0_cond1 v34 = 1#1), (Rect.unit (s := S32x2816x4096) (k0_off25 v53) S1x256x4096.size (k0_off25_inb v34 v53 k0_hw10 k0_h1)).WholeWords (EltTy.packing .fp8e4m3) := fun v34 v53 k0_hw10 k0_h1 => k0_hw10.1.2.2.2.2.2.2.2.2.2.2.2.1 k0_h1 (k0_off25_inb v34 v53 k0_hw10 k0_h1)
theorem k0_off26_inb : ∀ (v34 : BitVec 32) (v53 : BitVec 32) (k0_hw10 : k0_chk10 v34 v53), ∀ (k0_h1 : k0_cond1 v34 = 1#1), ∀ a, (k0_off26 v53) a + S1x256x4096.size a ≤ S32x2816x4096.size a := fun v34 v53 k0_hw10 k0_h1 => k0_hw10.1.2.2.2.2.2.2.2.2.2.2.2.2.1 k0_h1
theorem k0_off26_wordsfp8e4m3 : ∀ (v34 : BitVec 32) (v53 : BitVec 32) (k0_hw10 : k0_chk10 v34 v53), ∀ (k0_h1 : k0_cond1 v34 = 1#1), (Rect.unit (s := S32x2816x4096) (k0_off26 v53) S1x256x4096.size (k0_off26_inb v34 v53 k0_hw10 k0_h1)).WholeWords (EltTy.packing .fp8e4m3) := fun v34 v53 k0_hw10 k0_h1 => k0_hw10.1.2.2.2.2.2.2.2.2.2.2.2.2.2.1 k0_h1 (k0_off26_inb v34 v53 k0_hw10 k0_h1)
theorem k0_off27_inb : ∀ (v34 : BitVec 32) (v53 : BitVec 32) (k0_hw10 : k0_chk10 v34 v53), ∀ (k0_h1 : k0_cond1 v34 = 1#1), ∀ a, (k0_off27 v53) a + S1x256x4096.size a ≤ S32x2816x4096.size a := fun v34 v53 k0_hw10 k0_h1 => k0_hw10.1.2.2.2.2.2.2.2.2.2.2.2.2.2.2.1 k0_h1
theorem k0_off27_wordsfp8e4m3 : ∀ (v34 : BitVec 32) (v53 : BitVec 32) (k0_hw10 : k0_chk10 v34 v53), ∀ (k0_h1 : k0_cond1 v34 = 1#1), (Rect.unit (s := S32x2816x4096) (k0_off27 v53) S1x256x4096.size (k0_off27_inb v34 v53 k0_hw10 k0_h1)).WholeWords (EltTy.packing .fp8e4m3) := fun v34 v53 k0_hw10 k0_h1 => k0_hw10.1.2.2.2.2.2.2.2.2.2.2.2.2.2.2.2.1 k0_h1 (k0_off27_inb v34 v53 k0_hw10 k0_h1)
theorem k0_off28_inb : ∀ (v34 : BitVec 32) (v53 : BitVec 32) (k0_hw10 : k0_chk10 v34 v53), ∀ (k0_h1 : k0_cond1 v34 = 1#1), ∀ a, (k0_off28 v53) a + S1x256x4096.size a ≤ S32x2816x4096.size a := fun v34 v53 k0_hw10 k0_h1 => k0_hw10.1.2.2.2.2.2.2.2.2.2.2.2.2.2.2.2.2.1 k0_h1
theorem k0_off28_wordsfp8e4m3 : ∀ (v34 : BitVec 32) (v53 : BitVec 32) (k0_hw10 : k0_chk10 v34 v53), ∀ (k0_h1 : k0_cond1 v34 = 1#1), (Rect.unit (s := S32x2816x4096) (k0_off28 v53) S1x256x4096.size (k0_off28_inb v34 v53 k0_hw10 k0_h1)).WholeWords (EltTy.packing .fp8e4m3) := fun v34 v53 k0_hw10 k0_h1 => k0_hw10.1.2.2.2.2.2.2.2.2.2.2.2.2.2.2.2.2.2.1 k0_h1 (k0_off28_inb v34 v53 k0_hw10 k0_h1)
theorem k0_off29_inb : ∀ (v34 : BitVec 32) (v53 : BitVec 32) (k0_hw10 : k0_chk10 v34 v53), ∀ (k0_h1 : k0_cond1 v34 = 1#1), ∀ a, (k0_off29 v53) a + S1x256x4096.size a ≤ S32x2816x4096.size a := fun v34 v53 k0_hw10 k0_h1 => k0_hw10.1.2.2.2.2.2.2.2.2.2.2.2.2.2.2.2.2.2.2.1 k0_h1
theorem k0_off29_wordsfp8e4m3 : ∀ (v34 : BitVec 32) (v53 : BitVec 32) (k0_hw10 : k0_chk10 v34 v53), ∀ (k0_h1 : k0_cond1 v34 = 1#1), (Rect.unit (s := S32x2816x4096) (k0_off29 v53) S1x256x4096.size (k0_off29_inb v34 v53 k0_hw10 k0_h1)).WholeWords (EltTy.packing .fp8e4m3) := fun v34 v53 k0_hw10 k0_h1 => k0_hw10.1.2.2.2.2.2.2.2.2.2.2.2.2.2.2.2.2.2.2.2.1 k0_h1 (k0_off29_inb v34 v53 k0_hw10 k0_h1)
theorem k0_off30_inb : ∀ (v34 : BitVec 32) (v53 : BitVec 32) (k0_hw10 : k0_chk10 v34 v53), ∀ (k0_h1 : k0_cond1 v34 = 1#1), ∀ a, (k0_off30 v53) a + S1x256x4096.size a ≤ S32x2816x4096.size a := fun v34 v53 k0_hw10 k0_h1 => k0_hw10.1.2.2.2.2.2.2.2.2.2.2.2.2.2.2.2.2.2.2.2.2.1 k0_h1
theorem k0_off30_wordsfp8e4m3 : ∀ (v34 : BitVec 32) (v53 : BitVec 32) (k0_hw10 : k0_chk10 v34 v53), ∀ (k0_h1 : k0_cond1 v34 = 1#1), (Rect.unit (s := S32x2816x4096) (k0_off30 v53) S1x256x4096.size (k0_off30_inb v34 v53 k0_hw10 k0_h1)).WholeWords (EltTy.packing .fp8e4m3) := fun v34 v53 k0_hw10 k0_h1 => k0_hw10.1.2.2.2.2.2.2.2.2.2.2.2.2.2.2.2.2.2.2.2.2.2.1 k0_h1 (k0_off30_inb v34 v53 k0_hw10 k0_h1)
theorem k0_off31_inb : ∀ (v34 : BitVec 32) (v53 : BitVec 32) (k0_hw10 : k0_chk10 v34 v53), ∀ (k0_h1 : k0_cond1 v34 = 1#1), ∀ a, (k0_off31 v53) a + S1x128x4096.size a ≤ S32x2816x4096.size a := fun v34 v53 k0_hw10 k0_h1 => k0_hw10.1.2.2.2.2.2.2.2.2.2.2.2.2.2.2.2.2.2.2.2.2.2.2.1 k0_h1
theorem k0_off31_wordsfp8e4m3 : ∀ (v34 : BitVec 32) (v53 : BitVec 32) (k0_hw10 : k0_chk10 v34 v53), ∀ (k0_h1 : k0_cond1 v34 = 1#1), (Rect.unit (s := S32x2816x4096) (k0_off31 v53) S1x128x4096.size (k0_off31_inb v34 v53 k0_hw10 k0_h1)).WholeWords (EltTy.packing .fp8e4m3) := fun v34 v53 k0_hw10 k0_h1 => k0_hw10.1.2.2.2.2.2.2.2.2.2.2.2.2.2.2.2.2.2.2.2.2.2.2.2.1 k0_h1 (k0_off31_inb v34 v53 k0_hw10 k0_h1)
theorem k0_off32_inb : ∀ (v34 : BitVec 32) (v53 : BitVec 32) (k0_hw10 : k0_chk10 v34 v53), ∀ (k0_h1 : k0_cond1 v34 = 1#1), ∀ a, (k0_off32 v53) a + S1x128x4096.size a ≤ S32x2816x4096.size a := fun v34 v53 k0_hw10 k0_h1 => k0_hw10.1.2.2.2.2.2.2.2.2.2.2.2.2.2.2.2.2.2.2.2.2.2.2.2.2.1 k0_h1
theorem k0_off32_wordsfp8e4m3 : ∀ (v34 : BitVec 32) (v53 : BitVec 32) (k0_hw10 : k0_chk10 v34 v53), ∀ (k0_h1 : k0_cond1 v34 = 1#1), (Rect.unit (s := S32x2816x4096) (k0_off32 v53) S1x128x4096.size (k0_off32_inb v34 v53 k0_hw10 k0_h1)).WholeWords (EltTy.packing .fp8e4m3) := fun v34 v53 k0_hw10 k0_h1 => k0_hw10.1.2.2.2.2.2.2.2.2.2.2.2.2.2.2.2.2.2.2.2.2.2.2.2.2.2.1 k0_h1 (k0_off32_inb v34 v53 k0_hw10 k0_h1)
theorem k0_off33_inb : ∀ (v34 : BitVec 32) (v53 : BitVec 32) (k0_hw10 : k0_chk10 v34 v53), ∀ (k0_h1 : k0_cond1 v34 = 1#1), ∀ a, (k0_off33 v53) a + S1x1024x1408.size a ≤ S32x4096x1408.size a := fun v34 v53 k0_hw10 k0_h1 => k0_hw10.1.2.2.2.2.2.2.2.2.2.2.2.2.2.2.2.2.2.2.2.2.2.2.2.2.2.2.1 k0_h1
theorem k0_off33_wordsfp8e4m3 : ∀ (v34 : BitVec 32) (v53 : BitVec 32) (k0_hw10 : k0_chk10 v34 v53), ∀ (k0_h1 : k0_cond1 v34 = 1#1), (Rect.unit (s := S32x4096x1408) (k0_off33 v53) S1x1024x1408.size (k0_off33_inb v34 v53 k0_hw10 k0_h1)).WholeWords (EltTy.packing .fp8e4m3) := fun v34 v53 k0_hw10 k0_h1 => k0_hw10.1.2.2.2.2.2.2.2.2.2.2.2.2.2.2.2.2.2.2.2.2.2.2.2.2.2.2.2.1 k0_h1 (k0_off33_inb v34 v53 k0_hw10 k0_h1)
theorem k0_off34_inb : ∀ (v34 : BitVec 32) (v53 : BitVec 32) (k0_hw10 : k0_chk10 v34 v53), ∀ (k0_h1 : k0_cond1 v34 = 1#1), ∀ a, (k0_off34 v53) a + S1x1024x1408.size a ≤ S32x4096x1408.size a := fun v34 v53 k0_hw10 k0_h1 => k0_hw10.1.2.2.2.2.2.2.2.2.2.2.2.2.2.2.2.2.2.2.2.2.2.2.2.2.2.2.2.2.1 k0_h1
theorem k0_off34_wordsfp8e4m3 : ∀ (v34 : BitVec 32) (v53 : BitVec 32) (k0_hw10 : k0_chk10 v34 v53), ∀ (k0_h1 : k0_cond1 v34 = 1#1), (Rect.unit (s := S32x4096x1408) (k0_off34 v53) S1x1024x1408.size (k0_off34_inb v34 v53 k0_hw10 k0_h1)).WholeWords (EltTy.packing .fp8e4m3) := fun v34 v53 k0_hw10 k0_h1 => k0_hw10.1.2.2.2.2.2.2.2.2.2.2.2.2.2.2.2.2.2.2.2.2.2.2.2.2.2.2.2.2.2.1 k0_h1 (k0_off34_inb v34 v53 k0_hw10 k0_h1)
theorem k0_off35_inb : ∀ (v34 : BitVec 32) (v53 : BitVec 32) (k0_hw10 : k0_chk10 v34 v53), ∀ (k0_h1 : k0_cond1 v34 = 1#1), ∀ a, (k0_off35 v53) a + S1x1024x1408.size a ≤ S32x4096x1408.size a := fun v34 v53 k0_hw10 k0_h1 => k0_hw10.1.2.2.2.2.2.2.2.2.2.2.2.2.2.2.2.2.2.2.2.2.2.2.2.2.2.2.2.2.2.2.1 k0_h1
theorem k0_off35_wordsfp8e4m3 : ∀ (v34 : BitVec 32) (v53 : BitVec 32) (k0_hw10 : k0_chk10 v34 v53), ∀ (k0_h1 : k0_cond1 v34 = 1#1), (Rect.unit (s := S32x4096x1408) (k0_off35 v53) S1x1024x1408.size (k0_off35_inb v34 v53 k0_hw10 k0_h1)).WholeWords (EltTy.packing .fp8e4m3) := fun v34 v53 k0_hw10 k0_h1 => k0_hw10.1.2.2.2.2.2.2.2.2.2.2.2.2.2.2.2.2.2.2.2.2.2.2.2.2.2.2.2.2.2.2.2 k0_h1 (k0_off35_inb v34 v53 k0_hw10 k0_h1)
theorem k0_off36_inb : ∀ (v34 : BitVec 32) (v53 : BitVec 32) (k0_hw10 : k0_chk10 v34 v53), ∀ (k0_h1 : k0_cond1 v34 = 1#1), ∀ a, (k0_off36 v53) a + S1x1024x1408.size a ≤ S32x4096x1408.size a := fun v34 v53 k0_hw10 k0_h1 => k0_hw10.2.1 k0_h1
theorem k0_off36_wordsfp8e4m3 : ∀ (v34 : BitVec 32) (v53 : BitVec 32) (k0_hw10 : k0_chk10 v34 v53), ∀ (k0_h1 : k0_cond1 v34 = 1#1), (Rect.unit (s := S32x4096x1408) (k0_off36 v53) S1x1024x1408.size (k0_off36_inb v34 v53 k0_hw10 k0_h1)).WholeWords (EltTy.packing .fp8e4m3) := fun v34 v53 k0_hw10 k0_h1 => k0_hw10.2.2 k0_h1 (k0_off36_inb v34 v53 k0_hw10 k0_h1)

def k0_off37 (v53 : BitVec 32) : Fin 2 → Nat :=
  let c0_i32_58 : BitVec 32 := 0#32
  ![v53.toNat, 0]
def k0_cond2 (v34 : BitVec 32) : BitVec 1 :=
  let c1_i32_39 : BitVec 32 := 1#32
  let v38 : BitVec 1 := Scalar.cmpi .sgt v34 c1_i32_39
  let v39 : BitVec 32 := Scalar.extui v38
  let c0_i32_40 : BitVec 32 := 0#32
  let v40 : BitVec 1 := Scalar.cmpi .ne v39 c0_i32_40
  v40

def k0_off38 (v53 : BitVec 32) : Fin 2 → Nat :=
  let c0_i32_64 : BitVec 32 := 0#32
  ![v53.toNat, 0]
def k0_off39 (v53 : BitVec 32) : Fin 3 → Nat :=
  let c0_i32_70 : BitVec 32 := 0#32
  let c0_i32_71 : BitVec 32 := 0#32
  ![v53.toNat, 0, 0]
def k0_off40 (v53 : BitVec 32) : Fin 3 → Nat :=
  let c1408_i32_76 : BitVec 32 := 1408#32
  let c0_i32_77 : BitVec 32 := 0#32
  ![v53.toNat, 1408, 0]
def k0_off41 (v53 : BitVec 32) : Fin 3 → Nat :=
  let c256_i32_82 : BitVec 32 := 256#32
  let c0_i32_83 : BitVec 32 := 0#32
  ![v53.toNat, 256, 0]
def k0_off42 (v53 : BitVec 32) : Fin 3 → Nat :=
  let c1664_i32_88 : BitVec 32 := 1664#32
  let c0_i32_89 : BitVec 32 := 0#32
  ![v53.toNat, 1664, 0]
def k0_off43 (v53 : BitVec 32) : Fin 3 → Nat :=
  let c512_i32_93 : BitVec 32 := 512#32
  let c0_i32_94 : BitVec 32 := 0#32
  ![v53.toNat, 512, 0]
def k0_off44 (v53 : BitVec 32) : Fin 3 → Nat :=
  let c1920_i32_99 : BitVec 32 := 1920#32
  let c0_i32_100 : BitVec 32 := 0#32
  ![v53.toNat, 1920, 0]
def k0_off45 (v53 : BitVec 32) : Fin 3 → Nat :=
  let c768_i32_104 : BitVec 32 := 768#32
  let c0_i32_105 : BitVec 32 := 0#32
  ![v53.toNat, 768, 0]
def k0_off46 (v53 : BitVec 32) : Fin 3 → Nat :=
  let c2176_i32_110 : BitVec 32 := 2176#32
  let c0_i32_111 : BitVec 32 := 0#32
  ![v53.toNat, 2176, 0]
def k0_off47 (v53 : BitVec 32) : Fin 3 → Nat :=
  let c1024_i32_115 : BitVec 32 := 1024#32
  let c0_i32_116 : BitVec 32 := 0#32
  ![v53.toNat, 1024, 0]
def k0_off48 (v53 : BitVec 32) : Fin 3 → Nat :=
  let c2432_i32_121 : BitVec 32 := 2432#32
  let c0_i32_122 : BitVec 32 := 0#32
  ![v53.toNat, 2432, 0]
def k0_off49 (v53 : BitVec 32) : Fin 3 → Nat :=
  let c1280_i32_126 : BitVec 32 := 1280#32
  let c0_i32_127 : BitVec 32 := 0#32
  ![v53.toNat, 1280, 0]
def k0_off50 (v53 : BitVec 32) : Fin 3 → Nat :=
  let c2688_i32_132 : BitVec 32 := 2688#32
  let c0_i32_133 : BitVec 32 := 0#32
  ![v53.toNat, 2688, 0]
def k0_off51 (v53 : BitVec 32) : Fin 3 → Nat :=
  let c0_i32_139 : BitVec 32 := 0#32
  let c0_i32_140 : BitVec 32 := 0#32
  ![v53.toNat, 0, 0]
def k0_off52 (v53 : BitVec 32) : Fin 3 → Nat :=
  let c1024_i32_146 : BitVec 32 := 1024#32
  let c0_i32_147 : BitVec 32 := 0#32
  ![v53.toNat, 1024, 0]
def k0_off53 (v53 : BitVec 32) : Fin 3 → Nat :=
  let c2048_i32_152 : BitVec 32 := 2048#32
  let c0_i32_153 : BitVec 32 := 0#32
  ![v53.toNat, 2048, 0]
def k0_off54 (v53 : BitVec 32) : Fin 3 → Nat :=
  let c3072_i32_158 : BitVec 32 := 3072#32
  let c0_i32_159 : BitVec 32 := 0#32
  ![v53.toNat, 3072, 0]

def k0_chk11_0 (v34 : BitVec 32) (v53 : BitVec 32) : Prop :=
  (∀ (k0_h2 : k0_cond2 v34 = 1#1), ∀ a, (k0_off37 v53) a + S1x2816.size a ≤ S32x2816.size a) ∧
  (∀ (k0_h2 : k0_cond2 v34 = 1#1), ∀ a, (k0_off38 v53) a + S1x4096.size a ≤ S32x4096.size a) ∧
  (∀ (k0_h2 : k0_cond2 v34 = 1#1), ∀ a, (k0_off39 v53) a + S1x256x4096.size a ≤ S32x2816x4096.size a) ∧
  (∀ (k0_h2 : k0_cond2 v34 = 1#1), ∀ (hinb : ∀ a, (k0_off39 v53) a + S1x256x4096.size a ≤ S32x2816x4096.size a), (Rect.unit (s := S32x2816x4096) (k0_off39 v53) S1x256x4096.size hinb).WholeWords (EltTy.packing .fp8e4m3)) ∧
  (∀ (k0_h2 : k0_cond2 v34 = 1#1), ∀ a, (k0_off40 v53) a + S1x256x4096.size a ≤ S32x2816x4096.size a) ∧
  (∀ (k0_h2 : k0_cond2 v34 = 1#1), ∀ (hinb : ∀ a, (k0_off40 v53) a + S1x256x4096.size a ≤ S32x2816x4096.size a), (Rect.unit (s := S32x2816x4096) (k0_off40 v53) S1x256x4096.size hinb).WholeWords (EltTy.packing .fp8e4m3)) ∧
  (∀ (k0_h2 : k0_cond2 v34 = 1#1), ∀ a, (k0_off41 v53) a + S1x256x4096.size a ≤ S32x2816x4096.size a) ∧
  (∀ (k0_h2 : k0_cond2 v34 = 1#1), ∀ (hinb : ∀ a, (k0_off41 v53) a + S1x256x4096.size a ≤ S32x2816x4096.size a), (Rect.unit (s := S32x2816x4096) (k0_off41 v53) S1x256x4096.size hinb).WholeWords (EltTy.packing .fp8e4m3)) ∧
  (∀ (k0_h2 : k0_cond2 v34 = 1#1), ∀ a, (k0_off42 v53) a + S1x256x4096.size a ≤ S32x2816x4096.size a) ∧
  (∀ (k0_h2 : k0_cond2 v34 = 1#1), ∀ (hinb : ∀ a, (k0_off42 v53) a + S1x256x4096.size a ≤ S32x2816x4096.size a), (Rect.unit (s := S32x2816x4096) (k0_off42 v53) S1x256x4096.size hinb).WholeWords (EltTy.packing .fp8e4m3)) ∧
  (∀ (k0_h2 : k0_cond2 v34 = 1#1), ∀ a, (k0_off43 v53) a + S1x256x4096.size a ≤ S32x2816x4096.size a) ∧
  (∀ (k0_h2 : k0_cond2 v34 = 1#1), ∀ (hinb : ∀ a, (k0_off43 v53) a + S1x256x4096.size a ≤ S32x2816x4096.size a), (Rect.unit (s := S32x2816x4096) (k0_off43 v53) S1x256x4096.size hinb).WholeWords (EltTy.packing .fp8e4m3)) ∧
  (∀ (k0_h2 : k0_cond2 v34 = 1#1), ∀ a, (k0_off44 v53) a + S1x256x4096.size a ≤ S32x2816x4096.size a) ∧
  (∀ (k0_h2 : k0_cond2 v34 = 1#1), ∀ (hinb : ∀ a, (k0_off44 v53) a + S1x256x4096.size a ≤ S32x2816x4096.size a), (Rect.unit (s := S32x2816x4096) (k0_off44 v53) S1x256x4096.size hinb).WholeWords (EltTy.packing .fp8e4m3)) ∧
  (∀ (k0_h2 : k0_cond2 v34 = 1#1), ∀ a, (k0_off45 v53) a + S1x256x4096.size a ≤ S32x2816x4096.size a) ∧
  (∀ (k0_h2 : k0_cond2 v34 = 1#1), ∀ (hinb : ∀ a, (k0_off45 v53) a + S1x256x4096.size a ≤ S32x2816x4096.size a), (Rect.unit (s := S32x2816x4096) (k0_off45 v53) S1x256x4096.size hinb).WholeWords (EltTy.packing .fp8e4m3)) ∧
  (∀ (k0_h2 : k0_cond2 v34 = 1#1), ∀ a, (k0_off46 v53) a + S1x256x4096.size a ≤ S32x2816x4096.size a) ∧
  (∀ (k0_h2 : k0_cond2 v34 = 1#1), ∀ (hinb : ∀ a, (k0_off46 v53) a + S1x256x4096.size a ≤ S32x2816x4096.size a), (Rect.unit (s := S32x2816x4096) (k0_off46 v53) S1x256x4096.size hinb).WholeWords (EltTy.packing .fp8e4m3)) ∧
  (∀ (k0_h2 : k0_cond2 v34 = 1#1), ∀ a, (k0_off47 v53) a + S1x256x4096.size a ≤ S32x2816x4096.size a) ∧
  (∀ (k0_h2 : k0_cond2 v34 = 1#1), ∀ (hinb : ∀ a, (k0_off47 v53) a + S1x256x4096.size a ≤ S32x2816x4096.size a), (Rect.unit (s := S32x2816x4096) (k0_off47 v53) S1x256x4096.size hinb).WholeWords (EltTy.packing .fp8e4m3)) ∧
  (∀ (k0_h2 : k0_cond2 v34 = 1#1), ∀ a, (k0_off48 v53) a + S1x256x4096.size a ≤ S32x2816x4096.size a) ∧
  (∀ (k0_h2 : k0_cond2 v34 = 1#1), ∀ (hinb : ∀ a, (k0_off48 v53) a + S1x256x4096.size a ≤ S32x2816x4096.size a), (Rect.unit (s := S32x2816x4096) (k0_off48 v53) S1x256x4096.size hinb).WholeWords (EltTy.packing .fp8e4m3)) ∧
  (∀ (k0_h2 : k0_cond2 v34 = 1#1), ∀ a, (k0_off49 v53) a + S1x128x4096.size a ≤ S32x2816x4096.size a) ∧
  (∀ (k0_h2 : k0_cond2 v34 = 1#1), ∀ (hinb : ∀ a, (k0_off49 v53) a + S1x128x4096.size a ≤ S32x2816x4096.size a), (Rect.unit (s := S32x2816x4096) (k0_off49 v53) S1x128x4096.size hinb).WholeWords (EltTy.packing .fp8e4m3)) ∧
  (∀ (k0_h2 : k0_cond2 v34 = 1#1), ∀ a, (k0_off50 v53) a + S1x128x4096.size a ≤ S32x2816x4096.size a) ∧
  (∀ (k0_h2 : k0_cond2 v34 = 1#1), ∀ (hinb : ∀ a, (k0_off50 v53) a + S1x128x4096.size a ≤ S32x2816x4096.size a), (Rect.unit (s := S32x2816x4096) (k0_off50 v53) S1x128x4096.size hinb).WholeWords (EltTy.packing .fp8e4m3)) ∧
  (∀ (k0_h2 : k0_cond2 v34 = 1#1), ∀ a, (k0_off51 v53) a + S1x1024x1408.size a ≤ S32x4096x1408.size a) ∧
  (∀ (k0_h2 : k0_cond2 v34 = 1#1), ∀ (hinb : ∀ a, (k0_off51 v53) a + S1x1024x1408.size a ≤ S32x4096x1408.size a), (Rect.unit (s := S32x4096x1408) (k0_off51 v53) S1x1024x1408.size hinb).WholeWords (EltTy.packing .fp8e4m3)) ∧
  (∀ (k0_h2 : k0_cond2 v34 = 1#1), ∀ a, (k0_off52 v53) a + S1x1024x1408.size a ≤ S32x4096x1408.size a) ∧
  (∀ (k0_h2 : k0_cond2 v34 = 1#1), ∀ (hinb : ∀ a, (k0_off52 v53) a + S1x1024x1408.size a ≤ S32x4096x1408.size a), (Rect.unit (s := S32x4096x1408) (k0_off52 v53) S1x1024x1408.size hinb).WholeWords (EltTy.packing .fp8e4m3)) ∧
  (∀ (k0_h2 : k0_cond2 v34 = 1#1), ∀ a, (k0_off53 v53) a + S1x1024x1408.size a ≤ S32x4096x1408.size a) ∧
  (∀ (k0_h2 : k0_cond2 v34 = 1#1), ∀ (hinb : ∀ a, (k0_off53 v53) a + S1x1024x1408.size a ≤ S32x4096x1408.size a), (Rect.unit (s := S32x4096x1408) (k0_off53 v53) S1x1024x1408.size hinb).WholeWords (EltTy.packing .fp8e4m3))
def k0_chk11_1 (v34 : BitVec 32) (v53 : BitVec 32) : Prop :=
  (∀ (k0_h2 : k0_cond2 v34 = 1#1), ∀ a, (k0_off54 v53) a + S1x1024x1408.size a ≤ S32x4096x1408.size a) ∧
  (∀ (k0_h2 : k0_cond2 v34 = 1#1), ∀ (hinb : ∀ a, (k0_off54 v53) a + S1x1024x1408.size a ≤ S32x4096x1408.size a), (Rect.unit (s := S32x4096x1408) (k0_off54 v53) S1x1024x1408.size hinb).WholeWords (EltTy.packing .fp8e4m3))
def k0_chk11 (v34 : BitVec 32) (v53 : BitVec 32) : Prop :=
  k0_chk11_0 v34 v53 ∧
  k0_chk11_1 v34 v53
theorem k0_off37_inb : ∀ (v34 : BitVec 32) (v53 : BitVec 32) (k0_hw11 : k0_chk11 v34 v53), ∀ (k0_h2 : k0_cond2 v34 = 1#1), ∀ a, (k0_off37 v53) a + S1x2816.size a ≤ S32x2816.size a := fun v34 v53 k0_hw11 k0_h2 => k0_hw11.1.1 k0_h2
theorem k0_off38_inb : ∀ (v34 : BitVec 32) (v53 : BitVec 32) (k0_hw11 : k0_chk11 v34 v53), ∀ (k0_h2 : k0_cond2 v34 = 1#1), ∀ a, (k0_off38 v53) a + S1x4096.size a ≤ S32x4096.size a := fun v34 v53 k0_hw11 k0_h2 => k0_hw11.1.2.1 k0_h2
theorem k0_off39_inb : ∀ (v34 : BitVec 32) (v53 : BitVec 32) (k0_hw11 : k0_chk11 v34 v53), ∀ (k0_h2 : k0_cond2 v34 = 1#1), ∀ a, (k0_off39 v53) a + S1x256x4096.size a ≤ S32x2816x4096.size a := fun v34 v53 k0_hw11 k0_h2 => k0_hw11.1.2.2.1 k0_h2
theorem k0_off39_wordsfp8e4m3 : ∀ (v34 : BitVec 32) (v53 : BitVec 32) (k0_hw11 : k0_chk11 v34 v53), ∀ (k0_h2 : k0_cond2 v34 = 1#1), (Rect.unit (s := S32x2816x4096) (k0_off39 v53) S1x256x4096.size (k0_off39_inb v34 v53 k0_hw11 k0_h2)).WholeWords (EltTy.packing .fp8e4m3) := fun v34 v53 k0_hw11 k0_h2 => k0_hw11.1.2.2.2.1 k0_h2 (k0_off39_inb v34 v53 k0_hw11 k0_h2)
theorem k0_off40_inb : ∀ (v34 : BitVec 32) (v53 : BitVec 32) (k0_hw11 : k0_chk11 v34 v53), ∀ (k0_h2 : k0_cond2 v34 = 1#1), ∀ a, (k0_off40 v53) a + S1x256x4096.size a ≤ S32x2816x4096.size a := fun v34 v53 k0_hw11 k0_h2 => k0_hw11.1.2.2.2.2.1 k0_h2
theorem k0_off40_wordsfp8e4m3 : ∀ (v34 : BitVec 32) (v53 : BitVec 32) (k0_hw11 : k0_chk11 v34 v53), ∀ (k0_h2 : k0_cond2 v34 = 1#1), (Rect.unit (s := S32x2816x4096) (k0_off40 v53) S1x256x4096.size (k0_off40_inb v34 v53 k0_hw11 k0_h2)).WholeWords (EltTy.packing .fp8e4m3) := fun v34 v53 k0_hw11 k0_h2 => k0_hw11.1.2.2.2.2.2.1 k0_h2 (k0_off40_inb v34 v53 k0_hw11 k0_h2)
theorem k0_off41_inb : ∀ (v34 : BitVec 32) (v53 : BitVec 32) (k0_hw11 : k0_chk11 v34 v53), ∀ (k0_h2 : k0_cond2 v34 = 1#1), ∀ a, (k0_off41 v53) a + S1x256x4096.size a ≤ S32x2816x4096.size a := fun v34 v53 k0_hw11 k0_h2 => k0_hw11.1.2.2.2.2.2.2.1 k0_h2
theorem k0_off41_wordsfp8e4m3 : ∀ (v34 : BitVec 32) (v53 : BitVec 32) (k0_hw11 : k0_chk11 v34 v53), ∀ (k0_h2 : k0_cond2 v34 = 1#1), (Rect.unit (s := S32x2816x4096) (k0_off41 v53) S1x256x4096.size (k0_off41_inb v34 v53 k0_hw11 k0_h2)).WholeWords (EltTy.packing .fp8e4m3) := fun v34 v53 k0_hw11 k0_h2 => k0_hw11.1.2.2.2.2.2.2.2.1 k0_h2 (k0_off41_inb v34 v53 k0_hw11 k0_h2)
theorem k0_off42_inb : ∀ (v34 : BitVec 32) (v53 : BitVec 32) (k0_hw11 : k0_chk11 v34 v53), ∀ (k0_h2 : k0_cond2 v34 = 1#1), ∀ a, (k0_off42 v53) a + S1x256x4096.size a ≤ S32x2816x4096.size a := fun v34 v53 k0_hw11 k0_h2 => k0_hw11.1.2.2.2.2.2.2.2.2.1 k0_h2
theorem k0_off42_wordsfp8e4m3 : ∀ (v34 : BitVec 32) (v53 : BitVec 32) (k0_hw11 : k0_chk11 v34 v53), ∀ (k0_h2 : k0_cond2 v34 = 1#1), (Rect.unit (s := S32x2816x4096) (k0_off42 v53) S1x256x4096.size (k0_off42_inb v34 v53 k0_hw11 k0_h2)).WholeWords (EltTy.packing .fp8e4m3) := fun v34 v53 k0_hw11 k0_h2 => k0_hw11.1.2.2.2.2.2.2.2.2.2.1 k0_h2 (k0_off42_inb v34 v53 k0_hw11 k0_h2)
theorem k0_off43_inb : ∀ (v34 : BitVec 32) (v53 : BitVec 32) (k0_hw11 : k0_chk11 v34 v53), ∀ (k0_h2 : k0_cond2 v34 = 1#1), ∀ a, (k0_off43 v53) a + S1x256x4096.size a ≤ S32x2816x4096.size a := fun v34 v53 k0_hw11 k0_h2 => k0_hw11.1.2.2.2.2.2.2.2.2.2.2.1 k0_h2
theorem k0_off43_wordsfp8e4m3 : ∀ (v34 : BitVec 32) (v53 : BitVec 32) (k0_hw11 : k0_chk11 v34 v53), ∀ (k0_h2 : k0_cond2 v34 = 1#1), (Rect.unit (s := S32x2816x4096) (k0_off43 v53) S1x256x4096.size (k0_off43_inb v34 v53 k0_hw11 k0_h2)).WholeWords (EltTy.packing .fp8e4m3) := fun v34 v53 k0_hw11 k0_h2 => k0_hw11.1.2.2.2.2.2.2.2.2.2.2.2.1 k0_h2 (k0_off43_inb v34 v53 k0_hw11 k0_h2)
theorem k0_off44_inb : ∀ (v34 : BitVec 32) (v53 : BitVec 32) (k0_hw11 : k0_chk11 v34 v53), ∀ (k0_h2 : k0_cond2 v34 = 1#1), ∀ a, (k0_off44 v53) a + S1x256x4096.size a ≤ S32x2816x4096.size a := fun v34 v53 k0_hw11 k0_h2 => k0_hw11.1.2.2.2.2.2.2.2.2.2.2.2.2.1 k0_h2
theorem k0_off44_wordsfp8e4m3 : ∀ (v34 : BitVec 32) (v53 : BitVec 32) (k0_hw11 : k0_chk11 v34 v53), ∀ (k0_h2 : k0_cond2 v34 = 1#1), (Rect.unit (s := S32x2816x4096) (k0_off44 v53) S1x256x4096.size (k0_off44_inb v34 v53 k0_hw11 k0_h2)).WholeWords (EltTy.packing .fp8e4m3) := fun v34 v53 k0_hw11 k0_h2 => k0_hw11.1.2.2.2.2.2.2.2.2.2.2.2.2.2.1 k0_h2 (k0_off44_inb v34 v53 k0_hw11 k0_h2)
theorem k0_off45_inb : ∀ (v34 : BitVec 32) (v53 : BitVec 32) (k0_hw11 : k0_chk11 v34 v53), ∀ (k0_h2 : k0_cond2 v34 = 1#1), ∀ a, (k0_off45 v53) a + S1x256x4096.size a ≤ S32x2816x4096.size a := fun v34 v53 k0_hw11 k0_h2 => k0_hw11.1.2.2.2.2.2.2.2.2.2.2.2.2.2.2.1 k0_h2
theorem k0_off45_wordsfp8e4m3 : ∀ (v34 : BitVec 32) (v53 : BitVec 32) (k0_hw11 : k0_chk11 v34 v53), ∀ (k0_h2 : k0_cond2 v34 = 1#1), (Rect.unit (s := S32x2816x4096) (k0_off45 v53) S1x256x4096.size (k0_off45_inb v34 v53 k0_hw11 k0_h2)).WholeWords (EltTy.packing .fp8e4m3) := fun v34 v53 k0_hw11 k0_h2 => k0_hw11.1.2.2.2.2.2.2.2.2.2.2.2.2.2.2.2.1 k0_h2 (k0_off45_inb v34 v53 k0_hw11 k0_h2)
theorem k0_off46_inb : ∀ (v34 : BitVec 32) (v53 : BitVec 32) (k0_hw11 : k0_chk11 v34 v53), ∀ (k0_h2 : k0_cond2 v34 = 1#1), ∀ a, (k0_off46 v53) a + S1x256x4096.size a ≤ S32x2816x4096.size a := fun v34 v53 k0_hw11 k0_h2 => k0_hw11.1.2.2.2.2.2.2.2.2.2.2.2.2.2.2.2.2.1 k0_h2
theorem k0_off46_wordsfp8e4m3 : ∀ (v34 : BitVec 32) (v53 : BitVec 32) (k0_hw11 : k0_chk11 v34 v53), ∀ (k0_h2 : k0_cond2 v34 = 1#1), (Rect.unit (s := S32x2816x4096) (k0_off46 v53) S1x256x4096.size (k0_off46_inb v34 v53 k0_hw11 k0_h2)).WholeWords (EltTy.packing .fp8e4m3) := fun v34 v53 k0_hw11 k0_h2 => k0_hw11.1.2.2.2.2.2.2.2.2.2.2.2.2.2.2.2.2.2.1 k0_h2 (k0_off46_inb v34 v53 k0_hw11 k0_h2)
theorem k0_off47_inb : ∀ (v34 : BitVec 32) (v53 : BitVec 32) (k0_hw11 : k0_chk11 v34 v53), ∀ (k0_h2 : k0_cond2 v34 = 1#1), ∀ a, (k0_off47 v53) a + S1x256x4096.size a ≤ S32x2816x4096.size a := fun v34 v53 k0_hw11 k0_h2 => k0_hw11.1.2.2.2.2.2.2.2.2.2.2.2.2.2.2.2.2.2.2.1 k0_h2
theorem k0_off47_wordsfp8e4m3 : ∀ (v34 : BitVec 32) (v53 : BitVec 32) (k0_hw11 : k0_chk11 v34 v53), ∀ (k0_h2 : k0_cond2 v34 = 1#1), (Rect.unit (s := S32x2816x4096) (k0_off47 v53) S1x256x4096.size (k0_off47_inb v34 v53 k0_hw11 k0_h2)).WholeWords (EltTy.packing .fp8e4m3) := fun v34 v53 k0_hw11 k0_h2 => k0_hw11.1.2.2.2.2.2.2.2.2.2.2.2.2.2.2.2.2.2.2.2.1 k0_h2 (k0_off47_inb v34 v53 k0_hw11 k0_h2)
theorem k0_off48_inb : ∀ (v34 : BitVec 32) (v53 : BitVec 32) (k0_hw11 : k0_chk11 v34 v53), ∀ (k0_h2 : k0_cond2 v34 = 1#1), ∀ a, (k0_off48 v53) a + S1x256x4096.size a ≤ S32x2816x4096.size a := fun v34 v53 k0_hw11 k0_h2 => k0_hw11.1.2.2.2.2.2.2.2.2.2.2.2.2.2.2.2.2.2.2.2.2.1 k0_h2
theorem k0_off48_wordsfp8e4m3 : ∀ (v34 : BitVec 32) (v53 : BitVec 32) (k0_hw11 : k0_chk11 v34 v53), ∀ (k0_h2 : k0_cond2 v34 = 1#1), (Rect.unit (s := S32x2816x4096) (k0_off48 v53) S1x256x4096.size (k0_off48_inb v34 v53 k0_hw11 k0_h2)).WholeWords (EltTy.packing .fp8e4m3) := fun v34 v53 k0_hw11 k0_h2 => k0_hw11.1.2.2.2.2.2.2.2.2.2.2.2.2.2.2.2.2.2.2.2.2.2.1 k0_h2 (k0_off48_inb v34 v53 k0_hw11 k0_h2)
theorem k0_off49_inb : ∀ (v34 : BitVec 32) (v53 : BitVec 32) (k0_hw11 : k0_chk11 v34 v53), ∀ (k0_h2 : k0_cond2 v34 = 1#1), ∀ a, (k0_off49 v53) a + S1x128x4096.size a ≤ S32x2816x4096.size a := fun v34 v53 k0_hw11 k0_h2 => k0_hw11.1.2.2.2.2.2.2.2.2.2.2.2.2.2.2.2.2.2.2.2.2.2.2.1 k0_h2
theorem k0_off49_wordsfp8e4m3 : ∀ (v34 : BitVec 32) (v53 : BitVec 32) (k0_hw11 : k0_chk11 v34 v53), ∀ (k0_h2 : k0_cond2 v34 = 1#1), (Rect.unit (s := S32x2816x4096) (k0_off49 v53) S1x128x4096.size (k0_off49_inb v34 v53 k0_hw11 k0_h2)).WholeWords (EltTy.packing .fp8e4m3) := fun v34 v53 k0_hw11 k0_h2 => k0_hw11.1.2.2.2.2.2.2.2.2.2.2.2.2.2.2.2.2.2.2.2.2.2.2.2.1 k0_h2 (k0_off49_inb v34 v53 k0_hw11 k0_h2)
theorem k0_off50_inb : ∀ (v34 : BitVec 32) (v53 : BitVec 32) (k0_hw11 : k0_chk11 v34 v53), ∀ (k0_h2 : k0_cond2 v34 = 1#1), ∀ a, (k0_off50 v53) a + S1x128x4096.size a ≤ S32x2816x4096.size a := fun v34 v53 k0_hw11 k0_h2 => k0_hw11.1.2.2.2.2.2.2.2.2.2.2.2.2.2.2.2.2.2.2.2.2.2.2.2.2.1 k0_h2
theorem k0_off50_wordsfp8e4m3 : ∀ (v34 : BitVec 32) (v53 : BitVec 32) (k0_hw11 : k0_chk11 v34 v53), ∀ (k0_h2 : k0_cond2 v34 = 1#1), (Rect.unit (s := S32x2816x4096) (k0_off50 v53) S1x128x4096.size (k0_off50_inb v34 v53 k0_hw11 k0_h2)).WholeWords (EltTy.packing .fp8e4m3) := fun v34 v53 k0_hw11 k0_h2 => k0_hw11.1.2.2.2.2.2.2.2.2.2.2.2.2.2.2.2.2.2.2.2.2.2.2.2.2.2.1 k0_h2 (k0_off50_inb v34 v53 k0_hw11 k0_h2)
theorem k0_off51_inb : ∀ (v34 : BitVec 32) (v53 : BitVec 32) (k0_hw11 : k0_chk11 v34 v53), ∀ (k0_h2 : k0_cond2 v34 = 1#1), ∀ a, (k0_off51 v53) a + S1x1024x1408.size a ≤ S32x4096x1408.size a := fun v34 v53 k0_hw11 k0_h2 => k0_hw11.1.2.2.2.2.2.2.2.2.2.2.2.2.2.2.2.2.2.2.2.2.2.2.2.2.2.2.1 k0_h2
theorem k0_off51_wordsfp8e4m3 : ∀ (v34 : BitVec 32) (v53 : BitVec 32) (k0_hw11 : k0_chk11 v34 v53), ∀ (k0_h2 : k0_cond2 v34 = 1#1), (Rect.unit (s := S32x4096x1408) (k0_off51 v53) S1x1024x1408.size (k0_off51_inb v34 v53 k0_hw11 k0_h2)).WholeWords (EltTy.packing .fp8e4m3) := fun v34 v53 k0_hw11 k0_h2 => k0_hw11.1.2.2.2.2.2.2.2.2.2.2.2.2.2.2.2.2.2.2.2.2.2.2.2.2.2.2.2.1 k0_h2 (k0_off51_inb v34 v53 k0_hw11 k0_h2)
theorem k0_off52_inb : ∀ (v34 : BitVec 32) (v53 : BitVec 32) (k0_hw11 : k0_chk11 v34 v53), ∀ (k0_h2 : k0_cond2 v34 = 1#1), ∀ a, (k0_off52 v53) a + S1x1024x1408.size a ≤ S32x4096x1408.size a := fun v34 v53 k0_hw11 k0_h2 => k0_hw11.1.2.2.2.2.2.2.2.2.2.2.2.2.2.2.2.2.2.2.2.2.2.2.2.2.2.2.2.2.1 k0_h2
theorem k0_off52_wordsfp8e4m3 : ∀ (v34 : BitVec 32) (v53 : BitVec 32) (k0_hw11 : k0_chk11 v34 v53), ∀ (k0_h2 : k0_cond2 v34 = 1#1), (Rect.unit (s := S32x4096x1408) (k0_off52 v53) S1x1024x1408.size (k0_off52_inb v34 v53 k0_hw11 k0_h2)).WholeWords (EltTy.packing .fp8e4m3) := fun v34 v53 k0_hw11 k0_h2 => k0_hw11.1.2.2.2.2.2.2.2.2.2.2.2.2.2.2.2.2.2.2.2.2.2.2.2.2.2.2.2.2.2.1 k0_h2 (k0_off52_inb v34 v53 k0_hw11 k0_h2)
theorem k0_off53_inb : ∀ (v34 : BitVec 32) (v53 : BitVec 32) (k0_hw11 : k0_chk11 v34 v53), ∀ (k0_h2 : k0_cond2 v34 = 1#1), ∀ a, (k0_off53 v53) a + S1x1024x1408.size a ≤ S32x4096x1408.size a := fun v34 v53 k0_hw11 k0_h2 => k0_hw11.1.2.2.2.2.2.2.2.2.2.2.2.2.2.2.2.2.2.2.2.2.2.2.2.2.2.2.2.2.2.2.1 k0_h2
theorem k0_off53_wordsfp8e4m3 : ∀ (v34 : BitVec 32) (v53 : BitVec 32) (k0_hw11 : k0_chk11 v34 v53), ∀ (k0_h2 : k0_cond2 v34 = 1#1), (Rect.unit (s := S32x4096x1408) (k0_off53 v53) S1x1024x1408.size (k0_off53_inb v34 v53 k0_hw11 k0_h2)).WholeWords (EltTy.packing .fp8e4m3) := fun v34 v53 k0_hw11 k0_h2 => k0_hw11.1.2.2.2.2.2.2.2.2.2.2.2.2.2.2.2.2.2.2.2.2.2.2.2.2.2.2.2.2.2.2.2 k0_h2 (k0_off53_inb v34 v53 k0_hw11 k0_h2)
theorem k0_off54_inb : ∀ (v34 : BitVec 32) (v53 : BitVec 32) (k0_hw11 : k0_chk11 v34 v53), ∀ (k0_h2 : k0_cond2 v34 = 1#1), ∀ a, (k0_off54 v53) a + S1x1024x1408.size a ≤ S32x4096x1408.size a := fun v34 v53 k0_hw11 k0_h2 => k0_hw11.2.1 k0_h2
theorem k0_off54_wordsfp8e4m3 : ∀ (v34 : BitVec 32) (v53 : BitVec 32) (k0_hw11 : k0_chk11 v34 v53), ∀ (k0_h2 : k0_cond2 v34 = 1#1), (Rect.unit (s := S32x4096x1408) (k0_off54 v53) S1x1024x1408.size (k0_off54_inb v34 v53 k0_hw11 k0_h2)).WholeWords (EltTy.packing .fp8e4m3) := fun v34 v53 k0_hw11 k0_h2 => k0_hw11.2.2 k0_h2 (k0_off54_inb v34 v53 k0_hw11 k0_h2)

@[reducible] def k0_t3_loop (v34 : BitVec 32) : Scf.Loop 32 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_46 : BitVec 32 := 1#32
  ⟨c0_i32_44, v49, c1_i32_46⟩

def k0_off55 (v34 : BitVec 32) (k0_t3 : Fin (k0_t3_loop v34).trips) : Fin 1 → Nat :=
  let c0_i32_44 : BitVec 32 := 0#32
  let c1_i32_46 : BitVec 32 := 1#32
  let arg19 : BitVec 32 := Scf.iv c0_i32_44 c1_i32_46 k0_t3
  let v54 : Index := Scalar.indexCast arg19
  ![v54.toNat]
def k0_off56 (v34 : BitVec 32) (k0_t3 : Fin (k0_t3_loop v34).trips) : Fin 1 → Nat :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let c1_i32_53 : BitVec 32 := 1#32
  let v58 : BitVec 32 := Scalar.subi v34 c1_i32_53
  let v59 : BitVec 32 := Scalar.minsi v56 v58
  let v60 : Index := Scalar.indexCast v59
  ![v60.toNat]
def k0_off57 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_60 : BitVec 32 := 0#32
  ![v53.toNat, 0]
def k0_off58 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_61 : BitVec 32 := 0#32
  let c0_i32_62 : BitVec 32 := 0#32
  ![v53.toNat, 0, 0]
def k0_off59 (v55 : BitVec 32) : Fin 3 → Nat :=
  let c0_i32_63 : BitVec 32 := 0#32
  let c0_i32_64 : BitVec 32 := 0#32
  ![v55.toNat, 0, 0]

def k0_off60 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_65 : BitVec 32 := 0#32
  ![v53.toNat, 0]
def k0_off61 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1408_i32 : BitVec 32 := 1408#32
  let c0_i32_66 : BitVec 32 := 0#32
  ![v53.toNat, 1408, 0]
def k0_off62 (v55 : BitVec 32) : Fin 3 → Nat :=
  let c1408_i32_67 : BitVec 32 := 1408#32
  let c0_i32_68 : BitVec 32 := 0#32
  ![v55.toNat, 1408, 0]
def k0_off63 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_70 : BitVec 32 := 0#32
  let c0_i32_71 : BitVec 32 := 0#32
  ![v53.toNat, 0, 0]
def k0_off64 (v55 : BitVec 32) : Fin 2 → Nat :=
  let c0_i32_72 : BitVec 32 := 0#32
  ![v55.toNat, 0]
def k0_off65 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_74 : BitVec 32 := 0#32
  let c0_i32_75 : BitVec 32 := 0#32
  ![v53.toNat, 0, 0]
def k0_off66 (v55 : BitVec 32) : Fin 2 → Nat :=
  let c0_i32_76 : BitVec 32 := 0#32
  ![v55.toNat, 0]
def k0_off67 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v94 : Index := Scalar.indexCast v53
  let c0_77 : Index := 0#32
  let c0_78 : Index := 0#32
  ![v94.toNat, 0, 0]
def k0_off68 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v97 : Index := Scalar.indexCast v53
  let c1408 : Index := 1408#32
  let c0_79 : Index := 0#32
  ![v97.toNat, 1408, 0]
def k0_off69 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v106 : Index := Scalar.indexCast v53
  let c0_86 : Index := 0#32
  let c0_87 : Index := 0#32
  ![v106.toNat, 0, 0]
def k0_off70 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v111 : Index := Scalar.indexCast v53
  let c0_88 : Index := 0#32
  let c1408_89 : Index := 1408#32
  ![v111.toNat, 0, 1408]
def k0_off71 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_266 : BitVec 32 := 0#32
  ![v53.toNat, 0]
def k0_cond3 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v123 : BitVec 32 := Scalar.extui v57
  let c0_i32_92 : BitVec 32 := 0#32
  let v124 : BitVec 1 := Scalar.cmpi .ne v123 c0_i32_92
  v124

def k0_off72 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_267 : BitVec 32 := 0#32
  let c0_i32_268 : BitVec 32 := 0#32
  ![v53.toNat, 0, 0]
def k0_off73 (v61 : BitVec 32) : Fin 3 → Nat :=
  let c0_i32_269 : BitVec 32 := 0#32
  let c0_i32_270 : BitVec 32 := 0#32
  ![v61.toNat, 0, 0]

def k0_off74 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_271 : BitVec 32 := 0#32
  ![v53.toNat, 0]
def k0_off75 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1408_i32_272 : BitVec 32 := 1408#32
  let c0_i32_273 : BitVec 32 := 0#32
  ![v53.toNat, 1408, 0]
def k0_off76 (v61 : BitVec 32) : Fin 3 → Nat :=
  let c1408_i32_274 : BitVec 32 := 1408#32
  let c0_i32_275 : BitVec 32 := 0#32
  ![v61.toNat, 1408, 0]
def k0_off77 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1_i32_93 : BitVec 32 := 1#32
  ![v53.toNat, 1]
def k0_off78 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c256_i32 : BitVec 32 := 256#32
  let c0_i32_94 : BitVec 32 := 0#32
  ![v53.toNat, 256, 0]
def k0_off79 (v55 : BitVec 32) : Fin 3 → Nat :=
  let c256_i32_95 : BitVec 32 := 256#32
  let c0_i32_96 : BitVec 32 := 0#32
  ![v55.toNat, 256, 0]
def k0_off80 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1664_i32 : BitVec 32 := 1664#32
  let c0_i32_98 : BitVec 32 := 0#32
  ![v53.toNat, 1664, 0]
def k0_off81 (v55 : BitVec 32) : Fin 3 → Nat :=
  let c1664_i32_99 : BitVec 32 := 1664#32
  let c0_i32_100 : BitVec 32 := 0#32
  ![v55.toNat, 1664, 0]
def k0_off82 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v137 : Index := Scalar.indexCast v53
  let c256 : Index := 256#32
  let c0_101 : Index := 0#32
  ![v137.toNat, 256, 0]
def k0_off83 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v140 : Index := Scalar.indexCast v53
  let c1664 : Index := 1664#32
  let c0_102 : Index := 0#32
  ![v140.toNat, 1664, 0]
def k0_off84 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v149 : Index := Scalar.indexCast v53
  let c0_109 : Index := 0#32
  let c256_110 : Index := 256#32
  ![v149.toNat, 0, 256]
def k0_off85 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v154 : Index := Scalar.indexCast v53
  let c0_111 : Index := 0#32
  let c1664_112 : Index := 1664#32
  ![v154.toNat, 0, 1664]
def k0_off86 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1_i32_266 : BitVec 32 := 1#32
  ![v53.toNat, 1]
def k0_cond4 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v166 : BitVec 32 := Scalar.extui v57
  let c0_i32_115 : BitVec 32 := 0#32
  let v167 : BitVec 1 := Scalar.cmpi .ne v166 c0_i32_115
  v167

def k0_off87 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c256_i32_267 : BitVec 32 := 256#32
  let c0_i32_268 : BitVec 32 := 0#32
  ![v53.toNat, 256, 0]
def k0_off88 (v61 : BitVec 32) : Fin 3 → Nat :=
  let c256_i32_269 : BitVec 32 := 256#32
  let c0_i32_270 : BitVec 32 := 0#32
  ![v61.toNat, 256, 0]
def k0_off89 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1664_i32_272 : BitVec 32 := 1664#32
  let c0_i32_273 : BitVec 32 := 0#32
  ![v53.toNat, 1664, 0]
def k0_off90 (v61 : BitVec 32) : Fin 3 → Nat :=
  let c1664_i32_274 : BitVec 32 := 1664#32
  let c0_i32_275 : BitVec 32 := 0#32
  ![v61.toNat, 1664, 0]
def k0_off91 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2_i32_116 : BitVec 32 := 2#32
  ![v53.toNat, 2]
def k0_off92 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c512_i32 : BitVec 32 := 512#32
  let c0_i32_117 : BitVec 32 := 0#32
  ![v53.toNat, 512, 0]
def k0_off93 (v55 : BitVec 32) : Fin 3 → Nat :=
  let c512_i32_118 : BitVec 32 := 512#32
  let c0_i32_119 : BitVec 32 := 0#32
  ![v55.toNat, 512, 0]
def k0_off94 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1920_i32 : BitVec 32 := 1920#32
  let c0_i32_121 : BitVec 32 := 0#32
  ![v53.toNat, 1920, 0]
def k0_off95 (v55 : BitVec 32) : Fin 3 → Nat :=
  let c1920_i32_122 : BitVec 32 := 1920#32
  let c0_i32_123 : BitVec 32 := 0#32
  ![v55.toNat, 1920, 0]
def k0_off96 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v180 : Index := Scalar.indexCast v53
  let c512 : Index := 512#32
  let c0_124 : Index := 0#32
  ![v180.toNat, 512, 0]
def k0_off97 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v183 : Index := Scalar.indexCast v53
  let c1920 : Index := 1920#32
  let c0_125 : Index := 0#32
  ![v183.toNat, 1920, 0]
def k0_off98 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v192 : Index := Scalar.indexCast v53
  let c0_132 : Index := 0#32
  let c512_133 : Index := 512#32
  ![v192.toNat, 0, 512]
def k0_off99 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v197 : Index := Scalar.indexCast v53
  let c0_134 : Index := 0#32
  let c1920_135 : Index := 1920#32
  ![v197.toNat, 0, 1920]
def k0_off100 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2_i32_266 : BitVec 32 := 2#32
  ![v53.toNat, 2]
def k0_cond5 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v209 : BitVec 32 := Scalar.extui v57
  let c0_i32_138 : BitVec 32 := 0#32
  let v210 : BitVec 1 := Scalar.cmpi .ne v209 c0_i32_138
  v210

def k0_off101 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c512_i32_267 : BitVec 32 := 512#32
  let c0_i32_268 : BitVec 32 := 0#32
  ![v53.toNat, 512, 0]
def k0_off102 (v61 : BitVec 32) : Fin 3 → Nat :=
  let c512_i32_269 : BitVec 32 := 512#32
  let c0_i32_270 : BitVec 32 := 0#32
  ![v61.toNat, 512, 0]
def k0_off103 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1920_i32_272 : BitVec 32 := 1920#32
  let c0_i32_273 : BitVec 32 := 0#32
  ![v53.toNat, 1920, 0]
def k0_off104 (v61 : BitVec 32) : Fin 3 → Nat :=
  let c1920_i32_274 : BitVec 32 := 1920#32
  let c0_i32_275 : BitVec 32 := 0#32
  ![v61.toNat, 1920, 0]
def k0_off105 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c3_i32 : BitVec 32 := 3#32
  ![v53.toNat, 3]
def k0_off106 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c768_i32 : BitVec 32 := 768#32
  let c0_i32_139 : BitVec 32 := 0#32
  ![v53.toNat, 768, 0]
def k0_off107 (v55 : BitVec 32) : Fin 3 → Nat :=
  let c768_i32_140 : BitVec 32 := 768#32
  let c0_i32_141 : BitVec 32 := 0#32
  ![v55.toNat, 768, 0]
def k0_off108 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2176_i32 : BitVec 32 := 2176#32
  let c0_i32_143 : BitVec 32 := 0#32
  ![v53.toNat, 2176, 0]
def k0_off109 (v55 : BitVec 32) : Fin 3 → Nat :=
  let c2176_i32_144 : BitVec 32 := 2176#32
  let c0_i32_145 : BitVec 32 := 0#32
  ![v55.toNat, 2176, 0]
def k0_off110 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v223 : Index := Scalar.indexCast v53
  let c768 : Index := 768#32
  let c0_146 : Index := 0#32
  ![v223.toNat, 768, 0]
def k0_off111 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v226 : Index := Scalar.indexCast v53
  let c2176 : Index := 2176#32
  let c0_147 : Index := 0#32
  ![v226.toNat, 2176, 0]
def k0_off112 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v235 : Index := Scalar.indexCast v53
  let c0_154 : Index := 0#32
  let c768_155 : Index := 768#32
  ![v235.toNat, 0, 768]
def k0_off113 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v240 : Index := Scalar.indexCast v53
  let c0_156 : Index := 0#32
  let c2176_157 : Index := 2176#32
  ![v240.toNat, 0, 2176]
def k0_off114 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c3_i32_266 : BitVec 32 := 3#32
  ![v53.toNat, 3]
def k0_cond6 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v252 : BitVec 32 := Scalar.extui v57
  let c0_i32_160 : BitVec 32 := 0#32
  let v253 : BitVec 1 := Scalar.cmpi .ne v252 c0_i32_160
  v253

def k0_off115 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c768_i32_267 : BitVec 32 := 768#32
  let c0_i32_268 : BitVec 32 := 0#32
  ![v53.toNat, 768, 0]
def k0_off116 (v61 : BitVec 32) : Fin 3 → Nat :=
  let c768_i32_269 : BitVec 32 := 768#32
  let c0_i32_270 : BitVec 32 := 0#32
  ![v61.toNat, 768, 0]
def k0_off117 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2176_i32_272 : BitVec 32 := 2176#32
  let c0_i32_273 : BitVec 32 := 0#32
  ![v53.toNat, 2176, 0]
def k0_off118 (v61 : BitVec 32) : Fin 3 → Nat :=
  let c2176_i32_274 : BitVec 32 := 2176#32
  let c0_i32_275 : BitVec 32 := 0#32
  ![v61.toNat, 2176, 0]
def k0_off119 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c4_i32 : BitVec 32 := 4#32
  ![v53.toNat, 4]
def k0_off120 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1024_i32 : BitVec 32 := 1024#32
  let c0_i32_161 : BitVec 32 := 0#32
  ![v53.toNat, 1024, 0]
def k0_off121 (v55 : BitVec 32) : Fin 3 → Nat :=
  let c1024_i32_162 : BitVec 32 := 1024#32
  let c0_i32_163 : BitVec 32 := 0#32
  ![v55.toNat, 1024, 0]
def k0_off122 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2432_i32 : BitVec 32 := 2432#32
  let c0_i32_165 : BitVec 32 := 0#32
  ![v53.toNat, 2432, 0]
def k0_off123 (v55 : BitVec 32) : Fin 3 → Nat :=
  let c2432_i32_166 : BitVec 32 := 2432#32
  let c0_i32_167 : BitVec 32 := 0#32
  ![v55.toNat, 2432, 0]
def k0_off124 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v266 : Index := Scalar.indexCast v53
  let c1024 : Index := 1024#32
  let c0_168 : Index := 0#32
  ![v266.toNat, 1024, 0]
def k0_off125 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v269 : Index := Scalar.indexCast v53
  let c2432 : Index := 2432#32
  let c0_169 : Index := 0#32
  ![v269.toNat, 2432, 0]
def k0_off126 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v278 : Index := Scalar.indexCast v53
  let c0_176 : Index := 0#32
  let c1024_177 : Index := 1024#32
  ![v278.toNat, 0, 1024]
def k0_off127 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v283 : Index := Scalar.indexCast v53
  let c0_178 : Index := 0#32
  let c2432_179 : Index := 2432#32
  ![v283.toNat, 0, 2432]
def k0_off128 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c4_i32_266 : BitVec 32 := 4#32
  ![v53.toNat, 4]
def k0_cond7 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v295 : BitVec 32 := Scalar.extui v57
  let c0_i32_182 : BitVec 32 := 0#32
  let v296 : BitVec 1 := Scalar.cmpi .ne v295 c0_i32_182
  v296

def k0_off129 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1024_i32_267 : BitVec 32 := 1024#32
  let c0_i32_268 : BitVec 32 := 0#32
  ![v53.toNat, 1024, 0]
def k0_off130 (v61 : BitVec 32) : Fin 3 → Nat :=
  let c1024_i32_269 : BitVec 32 := 1024#32
  let c0_i32_270 : BitVec 32 := 0#32
  ![v61.toNat, 1024, 0]
def k0_off131 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2432_i32_272 : BitVec 32 := 2432#32
  let c0_i32_273 : BitVec 32 := 0#32
  ![v53.toNat, 2432, 0]
def k0_off132 (v61 : BitVec 32) : Fin 3 → Nat :=
  let c2432_i32_274 : BitVec 32 := 2432#32
  let c0_i32_275 : BitVec 32 := 0#32
  ![v61.toNat, 2432, 0]
def k0_off133 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c5_i32 : BitVec 32 := 5#32
  ![v53.toNat, 5]
def k0_off134 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1280_i32 : BitVec 32 := 1280#32
  let c0_i32_183 : BitVec 32 := 0#32
  ![v53.toNat, 1280, 0]
def k0_off135 (v55 : BitVec 32) : Fin 3 → Nat :=
  let c1280_i32_184 : BitVec 32 := 1280#32
  let c0_i32_185 : BitVec 32 := 0#32
  ![v55.toNat, 1280, 0]
def k0_off136 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2688_i32 : BitVec 32 := 2688#32
  let c0_i32_187 : BitVec 32 := 0#32
  ![v53.toNat, 2688, 0]
def k0_off137 (v55 : BitVec 32) : Fin 3 → Nat :=
  let c2688_i32_188 : BitVec 32 := 2688#32
  let c0_i32_189 : BitVec 32 := 0#32
  ![v55.toNat, 2688, 0]
def k0_off138 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v309 : Index := Scalar.indexCast v53
  let c1280 : Index := 1280#32
  let c0_190 : Index := 0#32
  ![v309.toNat, 1280, 0]
def k0_off139 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v312 : Index := Scalar.indexCast v53
  let c2688 : Index := 2688#32
  let c0_191 : Index := 0#32
  ![v312.toNat, 2688, 0]
def k0_off140 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v321 : Index := Scalar.indexCast v53
  let c0_195 : Index := 0#32
  let c1280_196 : Index := 1280#32
  ![v321.toNat, 0, 1280]
def k0_off141 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v326 : Index := Scalar.indexCast v53
  let c0_197 : Index := 0#32
  let c2688_198 : Index := 2688#32
  ![v326.toNat, 0, 2688]
def k0_off142 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c5_i32_266 : BitVec 32 := 5#32
  ![v53.toNat, 5]
def k0_cond8 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v338 : BitVec 32 := Scalar.extui v57
  let c0_i32_201 : BitVec 32 := 0#32
  let v339 : BitVec 1 := Scalar.cmpi .ne v338 c0_i32_201
  v339

def k0_off143 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1280_i32_267 : BitVec 32 := 1280#32
  let c0_i32_268 : BitVec 32 := 0#32
  ![v53.toNat, 1280, 0]
def k0_off144 (v61 : BitVec 32) : Fin 3 → Nat :=
  let c1280_i32_269 : BitVec 32 := 1280#32
  let c0_i32_270 : BitVec 32 := 0#32
  ![v61.toNat, 1280, 0]
def k0_off145 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2688_i32_272 : BitVec 32 := 2688#32
  let c0_i32_273 : BitVec 32 := 0#32
  ![v53.toNat, 2688, 0]
def k0_off146 (v61 : BitVec 32) : Fin 3 → Nat :=
  let c2688_i32_274 : BitVec 32 := 2688#32
  let c0_i32_275 : BitVec 32 := 0#32
  ![v61.toNat, 2688, 0]
def k0_off147 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_202 : BitVec 32 := 0#32
  ![v53.toNat, 0]
def k0_off148 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_203 : BitVec 32 := 0#32
  let c0_i32_204 : BitVec 32 := 0#32
  ![v53.toNat, 0, 0]
def k0_off149 (v55 : BitVec 32) : Fin 3 → Nat :=
  let c0_i32_205 : BitVec 32 := 0#32
  let c0_i32_206 : BitVec 32 := 0#32
  ![v55.toNat, 0, 0]
def k0_off150 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v347 : Index := Scalar.indexCast v53
  let c0_209 : Index := 0#32
  let c0_210 : Index := 0#32
  ![v347.toNat, 0, 0]
def k0_off151 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v352 : Index := Scalar.indexCast v53
  let c0_214 : Index := 0#32
  let c0_215 : Index := 0#32
  ![v352.toNat, 0, 0]
def k0_off152 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_266 : BitVec 32 := 0#32
  ![v53.toNat, 0]
def k0_cond9 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v363 : BitVec 32 := Scalar.extui v57
  let c0_i32_218 : BitVec 32 := 0#32
  let v364 : BitVec 1 := Scalar.cmpi .ne v363 c0_i32_218
  v364

def k0_off153 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_267 : BitVec 32 := 0#32
  let c0_i32_268 : BitVec 32 := 0#32
  ![v53.toNat, 0, 0]
def k0_off154 (v61 : BitVec 32) : Fin 3 → Nat :=
  let c0_i32_269 : BitVec 32 := 0#32
  let c0_i32_270 : BitVec 32 := 0#32
  ![v61.toNat, 0, 0]
def k0_off155 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1_i32_219 : BitVec 32 := 1#32
  ![v53.toNat, 1]
def k0_off156 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1024_i32_220 : BitVec 32 := 1024#32
  let c0_i32_221 : BitVec 32 := 0#32
  ![v53.toNat, 1024, 0]
def k0_off157 (v55 : BitVec 32) : Fin 3 → Nat :=
  let c1024_i32_222 : BitVec 32 := 1024#32
  let c0_i32_223 : BitVec 32 := 0#32
  ![v55.toNat, 1024, 0]
def k0_off158 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v372 : Index := Scalar.indexCast v53
  let c1024_226 : Index := 1024#32
  let c0_227 : Index := 0#32
  ![v372.toNat, 1024, 0]
def k0_off159 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v377 : Index := Scalar.indexCast v53
  let c0_231 : Index := 0#32
  let c1024_232 : Index := 1024#32
  ![v377.toNat, 0, 1024]
def k0_off160 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1_i32_266 : BitVec 32 := 1#32
  ![v53.toNat, 1]
def k0_cond10 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v388 : BitVec 32 := Scalar.extui v57
  let c0_i32_235 : BitVec 32 := 0#32
  let v389 : BitVec 1 := Scalar.cmpi .ne v388 c0_i32_235
  v389

def k0_off161 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c1024_i32_267 : BitVec 32 := 1024#32
  let c0_i32_268 : BitVec 32 := 0#32
  ![v53.toNat, 1024, 0]
def k0_off162 (v61 : BitVec 32) : Fin 3 → Nat :=
  let c1024_i32_269 : BitVec 32 := 1024#32
  let c0_i32_270 : BitVec 32 := 0#32
  ![v61.toNat, 1024, 0]
def k0_off163 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2_i32_236 : BitVec 32 := 2#32
  ![v53.toNat, 2]
def k0_off164 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2048_i32 : BitVec 32 := 2048#32
  let c0_i32_237 : BitVec 32 := 0#32
  ![v53.toNat, 2048, 0]
def k0_off165 (v55 : BitVec 32) : Fin 3 → Nat :=
  let c2048_i32_238 : BitVec 32 := 2048#32
  let c0_i32_239 : BitVec 32 := 0#32
  ![v55.toNat, 2048, 0]
def k0_off166 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v397 : Index := Scalar.indexCast v53
  let c2048 : Index := 2048#32
  let c0_242 : Index := 0#32
  ![v397.toNat, 2048, 0]
def k0_off167 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v402 : Index := Scalar.indexCast v53
  let c0_246 : Index := 0#32
  let c2048_247 : Index := 2048#32
  ![v402.toNat, 0, 2048]
def k0_off168 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2_i32_266 : BitVec 32 := 2#32
  ![v53.toNat, 2]
def k0_cond11 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v413 : BitVec 32 := Scalar.extui v57
  let c0_i32_250 : BitVec 32 := 0#32
  let v414 : BitVec 1 := Scalar.cmpi .ne v413 c0_i32_250
  v414

def k0_off169 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c2048_i32_267 : BitVec 32 := 2048#32
  let c0_i32_268 : BitVec 32 := 0#32
  ![v53.toNat, 2048, 0]
def k0_off170 (v61 : BitVec 32) : Fin 3 → Nat :=
  let c2048_i32_269 : BitVec 32 := 2048#32
  let c0_i32_270 : BitVec 32 := 0#32
  ![v61.toNat, 2048, 0]
def k0_off171 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c3_i32_251 : BitVec 32 := 3#32
  ![v53.toNat, 3]
def k0_off172 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c3072_i32 : BitVec 32 := 3072#32
  let c0_i32_252 : BitVec 32 := 0#32
  ![v53.toNat, 3072, 0]
def k0_off173 (v55 : BitVec 32) : Fin 3 → Nat :=
  let c3072_i32_253 : BitVec 32 := 3072#32
  let c0_i32_254 : BitVec 32 := 0#32
  ![v55.toNat, 3072, 0]

def k0_chk13_0 (v55 : BitVec 32) : Prop :=
  (∀ a, (k0_off59 v55) a + S1x256x4096.size a ≤ S32x2816x4096.size a) ∧
  (∀ (hinb : ∀ a, (k0_off59 v55) a + S1x256x4096.size a ≤ S32x2816x4096.size a), (Rect.unit (s := S32x2816x4096) (k0_off59 v55) S1x256x4096.size hinb).WholeWords (EltTy.packing .fp8e4m3)) ∧
  (∀ a, (k0_off62 v55) a + S1x256x4096.size a ≤ S32x2816x4096.size a) ∧
  (∀ (hinb : ∀ a, (k0_off62 v55) a + S1x256x4096.size a ≤ S32x2816x4096.size a), (Rect.unit (s := S32x2816x4096) (k0_off62 v55) S1x256x4096.size hinb).WholeWords (EltTy.packing .fp8e4m3)) ∧
  (∀ a, (k0_off64 v55) a + S1x2816.size a ≤ S32x2816.size a) ∧
  (∀ a, (k0_off66 v55) a + S1x4096.size a ≤ S32x4096.size a) ∧
  (∀ a, (k0_off79 v55) a + S1x256x4096.size a ≤ S32x2816x4096.size a) ∧
  (∀ (hinb : ∀ a, (k0_off79 v55) a + S1x256x4096.size a ≤ S32x2816x4096.size a), (Rect.unit (s := S32x2816x4096) (k0_off79 v55) S1x256x4096.size hinb).WholeWords (EltTy.packing .fp8e4m3)) ∧
  (∀ a, (k0_off81 v55) a + S1x256x4096.size a ≤ S32x2816x4096.size a) ∧
  (∀ (hinb : ∀ a, (k0_off81 v55) a + S1x256x4096.size a ≤ S32x2816x4096.size a), (Rect.unit (s := S32x2816x4096) (k0_off81 v55) S1x256x4096.size hinb).WholeWords (EltTy.packing .fp8e4m3)) ∧
  (∀ a, (k0_off93 v55) a + S1x256x4096.size a ≤ S32x2816x4096.size a) ∧
  (∀ (hinb : ∀ a, (k0_off93 v55) a + S1x256x4096.size a ≤ S32x2816x4096.size a), (Rect.unit (s := S32x2816x4096) (k0_off93 v55) S1x256x4096.size hinb).WholeWords (EltTy.packing .fp8e4m3)) ∧
  (∀ a, (k0_off95 v55) a + S1x256x4096.size a ≤ S32x2816x4096.size a) ∧
  (∀ (hinb : ∀ a, (k0_off95 v55) a + S1x256x4096.size a ≤ S32x2816x4096.size a), (Rect.unit (s := S32x2816x4096) (k0_off95 v55) S1x256x4096.size hinb).WholeWords (EltTy.packing .fp8e4m3)) ∧
  (∀ a, (k0_off107 v55) a + S1x256x4096.size a ≤ S32x2816x4096.size a) ∧
  (∀ (hinb : ∀ a, (k0_off107 v55) a + S1x256x4096.size a ≤ S32x2816x4096.size a), (Rect.unit (s := S32x2816x4096) (k0_off107 v55) S1x256x4096.size hinb).WholeWords (EltTy.packing .fp8e4m3)) ∧
  (∀ a, (k0_off109 v55) a + S1x256x4096.size a ≤ S32x2816x4096.size a) ∧
  (∀ (hinb : ∀ a, (k0_off109 v55) a + S1x256x4096.size a ≤ S32x2816x4096.size a), (Rect.unit (s := S32x2816x4096) (k0_off109 v55) S1x256x4096.size hinb).WholeWords (EltTy.packing .fp8e4m3)) ∧
  (∀ a, (k0_off121 v55) a + S1x256x4096.size a ≤ S32x2816x4096.size a) ∧
  (∀ (hinb : ∀ a, (k0_off121 v55) a + S1x256x4096.size a ≤ S32x2816x4096.size a), (Rect.unit (s := S32x2816x4096) (k0_off121 v55) S1x256x4096.size hinb).WholeWords (EltTy.packing .fp8e4m3)) ∧
  (∀ a, (k0_off123 v55) a + S1x256x4096.size a ≤ S32x2816x4096.size a) ∧
  (∀ (hinb : ∀ a, (k0_off123 v55) a + S1x256x4096.size a ≤ S32x2816x4096.size a), (Rect.unit (s := S32x2816x4096) (k0_off123 v55) S1x256x4096.size hinb).WholeWords (EltTy.packing .fp8e4m3)) ∧
  (∀ a, (k0_off135 v55) a + S1x128x4096.size a ≤ S32x2816x4096.size a) ∧
  (∀ (hinb : ∀ a, (k0_off135 v55) a + S1x128x4096.size a ≤ S32x2816x4096.size a), (Rect.unit (s := S32x2816x4096) (k0_off135 v55) S1x128x4096.size hinb).WholeWords (EltTy.packing .fp8e4m3)) ∧
  (∀ a, (k0_off137 v55) a + S1x128x4096.size a ≤ S32x2816x4096.size a) ∧
  (∀ (hinb : ∀ a, (k0_off137 v55) a + S1x128x4096.size a ≤ S32x2816x4096.size a), (Rect.unit (s := S32x2816x4096) (k0_off137 v55) S1x128x4096.size hinb).WholeWords (EltTy.packing .fp8e4m3)) ∧
  (∀ a, (k0_off149 v55) a + S1x1024x1408.size a ≤ S32x4096x1408.size a) ∧
  (∀ (hinb : ∀ a, (k0_off149 v55) a + S1x1024x1408.size a ≤ S32x4096x1408.size a), (Rect.unit (s := S32x4096x1408) (k0_off149 v55) S1x1024x1408.size hinb).WholeWords (EltTy.packing .fp8e4m3)) ∧
  (∀ a, (k0_off157 v55) a + S1x1024x1408.size a ≤ S32x4096x1408.size a) ∧
  (∀ (hinb : ∀ a, (k0_off157 v55) a + S1x1024x1408.size a ≤ S32x4096x1408.size a), (Rect.unit (s := S32x4096x1408) (k0_off157 v55) S1x1024x1408.size hinb).WholeWords (EltTy.packing .fp8e4m3)) ∧
  (∀ a, (k0_off165 v55) a + S1x1024x1408.size a ≤ S32x4096x1408.size a) ∧
  (∀ (hinb : ∀ a, (k0_off165 v55) a + S1x1024x1408.size a ≤ S32x4096x1408.size a), (Rect.unit (s := S32x4096x1408) (k0_off165 v55) S1x1024x1408.size hinb).WholeWords (EltTy.packing .fp8e4m3))
def k0_chk13_1 (v55 : BitVec 32) : Prop :=
  (∀ a, (k0_off173 v55) a + S1x1024x1408.size a ≤ S32x4096x1408.size a) ∧
  (∀ (hinb : ∀ a, (k0_off173 v55) a + S1x1024x1408.size a ≤ S32x4096x1408.size a), (Rect.unit (s := S32x4096x1408) (k0_off173 v55) S1x1024x1408.size hinb).WholeWords (EltTy.packing .fp8e4m3))
def k0_chk13 (v55 : BitVec 32) : Prop :=
  k0_chk13_0 v55 ∧
  k0_chk13_1 v55
theorem k0_off59_inb : ∀ (v55 : BitVec 32) (k0_hw13 : k0_chk13 v55), ∀ a, (k0_off59 v55) a + S1x256x4096.size a ≤ S32x2816x4096.size a := fun v55 k0_hw13 => k0_hw13.1.1
theorem k0_off59_wordsfp8e4m3 : ∀ (v55 : BitVec 32) (k0_hw13 : k0_chk13 v55), (Rect.unit (s := S32x2816x4096) (k0_off59 v55) S1x256x4096.size (k0_off59_inb v55 k0_hw13)).WholeWords (EltTy.packing .fp8e4m3) := fun v55 k0_hw13 => k0_hw13.1.2.1 (k0_off59_inb v55 k0_hw13)
theorem k0_off62_inb : ∀ (v55 : BitVec 32) (k0_hw13 : k0_chk13 v55), ∀ a, (k0_off62 v55) a + S1x256x4096.size a ≤ S32x2816x4096.size a := fun v55 k0_hw13 => k0_hw13.1.2.2.1
theorem k0_off62_wordsfp8e4m3 : ∀ (v55 : BitVec 32) (k0_hw13 : k0_chk13 v55), (Rect.unit (s := S32x2816x4096) (k0_off62 v55) S1x256x4096.size (k0_off62_inb v55 k0_hw13)).WholeWords (EltTy.packing .fp8e4m3) := fun v55 k0_hw13 => k0_hw13.1.2.2.2.1 (k0_off62_inb v55 k0_hw13)
theorem k0_off64_inb : ∀ (v55 : BitVec 32) (k0_hw13 : k0_chk13 v55), ∀ a, (k0_off64 v55) a + S1x2816.size a ≤ S32x2816.size a := fun v55 k0_hw13 => k0_hw13.1.2.2.2.2.1
theorem k0_off66_inb : ∀ (v55 : BitVec 32) (k0_hw13 : k0_chk13 v55), ∀ a, (k0_off66 v55) a + S1x4096.size a ≤ S32x4096.size a := fun v55 k0_hw13 => k0_hw13.1.2.2.2.2.2.1
theorem k0_off79_inb : ∀ (v55 : BitVec 32) (k0_hw13 : k0_chk13 v55), ∀ a, (k0_off79 v55) a + S1x256x4096.size a ≤ S32x2816x4096.size a := fun v55 k0_hw13 => k0_hw13.1.2.2.2.2.2.2.1
theorem k0_off79_wordsfp8e4m3 : ∀ (v55 : BitVec 32) (k0_hw13 : k0_chk13 v55), (Rect.unit (s := S32x2816x4096) (k0_off79 v55) S1x256x4096.size (k0_off79_inb v55 k0_hw13)).WholeWords (EltTy.packing .fp8e4m3) := fun v55 k0_hw13 => k0_hw13.1.2.2.2.2.2.2.2.1 (k0_off79_inb v55 k0_hw13)
theorem k0_off81_inb : ∀ (v55 : BitVec 32) (k0_hw13 : k0_chk13 v55), ∀ a, (k0_off81 v55) a + S1x256x4096.size a ≤ S32x2816x4096.size a := fun v55 k0_hw13 => k0_hw13.1.2.2.2.2.2.2.2.2.1
theorem k0_off81_wordsfp8e4m3 : ∀ (v55 : BitVec 32) (k0_hw13 : k0_chk13 v55), (Rect.unit (s := S32x2816x4096) (k0_off81 v55) S1x256x4096.size (k0_off81_inb v55 k0_hw13)).WholeWords (EltTy.packing .fp8e4m3) := fun v55 k0_hw13 => k0_hw13.1.2.2.2.2.2.2.2.2.2.1 (k0_off81_inb v55 k0_hw13)
theorem k0_off93_inb : ∀ (v55 : BitVec 32) (k0_hw13 : k0_chk13 v55), ∀ a, (k0_off93 v55) a + S1x256x4096.size a ≤ S32x2816x4096.size a := fun v55 k0_hw13 => k0_hw13.1.2.2.2.2.2.2.2.2.2.2.1
theorem k0_off93_wordsfp8e4m3 : ∀ (v55 : BitVec 32) (k0_hw13 : k0_chk13 v55), (Rect.unit (s := S32x2816x4096) (k0_off93 v55) S1x256x4096.size (k0_off93_inb v55 k0_hw13)).WholeWords (EltTy.packing .fp8e4m3) := fun v55 k0_hw13 => k0_hw13.1.2.2.2.2.2.2.2.2.2.2.2.1 (k0_off93_inb v55 k0_hw13)
theorem k0_off95_inb : ∀ (v55 : BitVec 32) (k0_hw13 : k0_chk13 v55), ∀ a, (k0_off95 v55) a + S1x256x4096.size a ≤ S32x2816x4096.size a := fun v55 k0_hw13 => k0_hw13.1.2.2.2.2.2.2.2.2.2.2.2.2.1
theorem k0_off95_wordsfp8e4m3 : ∀ (v55 : BitVec 32) (k0_hw13 : k0_chk13 v55), (Rect.unit (s := S32x2816x4096) (k0_off95 v55) S1x256x4096.size (k0_off95_inb v55 k0_hw13)).WholeWords (EltTy.packing .fp8e4m3) := fun v55 k0_hw13 => k0_hw13.1.2.2.2.2.2.2.2.2.2.2.2.2.2.1 (k0_off95_inb v55 k0_hw13)
theorem k0_off107_inb : ∀ (v55 : BitVec 32) (k0_hw13 : k0_chk13 v55), ∀ a, (k0_off107 v55) a + S1x256x4096.size a ≤ S32x2816x4096.size a := fun v55 k0_hw13 => k0_hw13.1.2.2.2.2.2.2.2.2.2.2.2.2.2.2.1
theorem k0_off107_wordsfp8e4m3 : ∀ (v55 : BitVec 32) (k0_hw13 : k0_chk13 v55), (Rect.unit (s := S32x2816x4096) (k0_off107 v55) S1x256x4096.size (k0_off107_inb v55 k0_hw13)).WholeWords (EltTy.packing .fp8e4m3) := fun v55 k0_hw13 => k0_hw13.1.2.2.2.2.2.2.2.2.2.2.2.2.2.2.2.1 (k0_off107_inb v55 k0_hw13)
theorem k0_off109_inb : ∀ (v55 : BitVec 32) (k0_hw13 : k0_chk13 v55), ∀ a, (k0_off109 v55) a + S1x256x4096.size a ≤ S32x2816x4096.size a := fun v55 k0_hw13 => k0_hw13.1.2.2.2.2.2.2.2.2.2.2.2.2.2.2.2.2.1
theorem k0_off109_wordsfp8e4m3 : ∀ (v55 : BitVec 32) (k0_hw13 : k0_chk13 v55), (Rect.unit (s := S32x2816x4096) (k0_off109 v55) S1x256x4096.size (k0_off109_inb v55 k0_hw13)).WholeWords (EltTy.packing .fp8e4m3) := fun v55 k0_hw13 => k0_hw13.1.2.2.2.2.2.2.2.2.2.2.2.2.2.2.2.2.2.1 (k0_off109_inb v55 k0_hw13)
theorem k0_off121_inb : ∀ (v55 : BitVec 32) (k0_hw13 : k0_chk13 v55), ∀ a, (k0_off121 v55) a + S1x256x4096.size a ≤ S32x2816x4096.size a := fun v55 k0_hw13 => k0_hw13.1.2.2.2.2.2.2.2.2.2.2.2.2.2.2.2.2.2.2.1
theorem k0_off121_wordsfp8e4m3 : ∀ (v55 : BitVec 32) (k0_hw13 : k0_chk13 v55), (Rect.unit (s := S32x2816x4096) (k0_off121 v55) S1x256x4096.size (k0_off121_inb v55 k0_hw13)).WholeWords (EltTy.packing .fp8e4m3) := fun v55 k0_hw13 => k0_hw13.1.2.2.2.2.2.2.2.2.2.2.2.2.2.2.2.2.2.2.2.1 (k0_off121_inb v55 k0_hw13)
theorem k0_off123_inb : ∀ (v55 : BitVec 32) (k0_hw13 : k0_chk13 v55), ∀ a, (k0_off123 v55) a + S1x256x4096.size a ≤ S32x2816x4096.size a := fun v55 k0_hw13 => k0_hw13.1.2.2.2.2.2.2.2.2.2.2.2.2.2.2.2.2.2.2.2.2.1
theorem k0_off123_wordsfp8e4m3 : ∀ (v55 : BitVec 32) (k0_hw13 : k0_chk13 v55), (Rect.unit (s := S32x2816x4096) (k0_off123 v55) S1x256x4096.size (k0_off123_inb v55 k0_hw13)).WholeWords (EltTy.packing .fp8e4m3) := fun v55 k0_hw13 => k0_hw13.1.2.2.2.2.2.2.2.2.2.2.2.2.2.2.2.2.2.2.2.2.2.1 (k0_off123_inb v55 k0_hw13)
theorem k0_off135_inb : ∀ (v55 : BitVec 32) (k0_hw13 : k0_chk13 v55), ∀ a, (k0_off135 v55) a + S1x128x4096.size a ≤ S32x2816x4096.size a := fun v55 k0_hw13 => k0_hw13.1.2.2.2.2.2.2.2.2.2.2.2.2.2.2.2.2.2.2.2.2.2.2.1
theorem k0_off135_wordsfp8e4m3 : ∀ (v55 : BitVec 32) (k0_hw13 : k0_chk13 v55), (Rect.unit (s := S32x2816x4096) (k0_off135 v55) S1x128x4096.size (k0_off135_inb v55 k0_hw13)).WholeWords (EltTy.packing .fp8e4m3) := fun v55 k0_hw13 => k0_hw13.1.2.2.2.2.2.2.2.2.2.2.2.2.2.2.2.2.2.2.2.2.2.2.2.1 (k0_off135_inb v55 k0_hw13)
theorem k0_off137_inb : ∀ (v55 : BitVec 32) (k0_hw13 : k0_chk13 v55), ∀ a, (k0_off137 v55) a + S1x128x4096.size a ≤ S32x2816x4096.size a := fun v55 k0_hw13 => k0_hw13.1.2.2.2.2.2.2.2.2.2.2.2.2.2.2.2.2.2.2.2.2.2.2.2.2.1
theorem k0_off137_wordsfp8e4m3 : ∀ (v55 : BitVec 32) (k0_hw13 : k0_chk13 v55), (Rect.unit (s := S32x2816x4096) (k0_off137 v55) S1x128x4096.size (k0_off137_inb v55 k0_hw13)).WholeWords (EltTy.packing .fp8e4m3) := fun v55 k0_hw13 => k0_hw13.1.2.2.2.2.2.2.2.2.2.2.2.2.2.2.2.2.2.2.2.2.2.2.2.2.2.1 (k0_off137_inb v55 k0_hw13)
theorem k0_off149_inb : ∀ (v55 : BitVec 32) (k0_hw13 : k0_chk13 v55), ∀ a, (k0_off149 v55) a + S1x1024x1408.size a ≤ S32x4096x1408.size a := fun v55 k0_hw13 => k0_hw13.1.2.2.2.2.2.2.2.2.2.2.2.2.2.2.2.2.2.2.2.2.2.2.2.2.2.2.1
theorem k0_off149_wordsfp8e4m3 : ∀ (v55 : BitVec 32) (k0_hw13 : k0_chk13 v55), (Rect.unit (s := S32x4096x1408) (k0_off149 v55) S1x1024x1408.size (k0_off149_inb v55 k0_hw13)).WholeWords (EltTy.packing .fp8e4m3) := fun v55 k0_hw13 => k0_hw13.1.2.2.2.2.2.2.2.2.2.2.2.2.2.2.2.2.2.2.2.2.2.2.2.2.2.2.2.1 (k0_off149_inb v55 k0_hw13)
theorem k0_off157_inb : ∀ (v55 : BitVec 32) (k0_hw13 : k0_chk13 v55), ∀ a, (k0_off157 v55) a + S1x1024x1408.size a ≤ S32x4096x1408.size a := fun v55 k0_hw13 => k0_hw13.1.2.2.2.2.2.2.2.2.2.2.2.2.2.2.2.2.2.2.2.2.2.2.2.2.2.2.2.2.1
theorem k0_off157_wordsfp8e4m3 : ∀ (v55 : BitVec 32) (k0_hw13 : k0_chk13 v55), (Rect.unit (s := S32x4096x1408) (k0_off157 v55) S1x1024x1408.size (k0_off157_inb v55 k0_hw13)).WholeWords (EltTy.packing .fp8e4m3) := fun v55 k0_hw13 => k0_hw13.1.2.2.2.2.2.2.2.2.2.2.2.2.2.2.2.2.2.2.2.2.2.2.2.2.2.2.2.2.2.1 (k0_off157_inb v55 k0_hw13)
theorem k0_off165_inb : ∀ (v55 : BitVec 32) (k0_hw13 : k0_chk13 v55), ∀ a, (k0_off165 v55) a + S1x1024x1408.size a ≤ S32x4096x1408.size a := fun v55 k0_hw13 => k0_hw13.1.2.2.2.2.2.2.2.2.2.2.2.2.2.2.2.2.2.2.2.2.2.2.2.2.2.2.2.2.2.2.1
theorem k0_off165_wordsfp8e4m3 : ∀ (v55 : BitVec 32) (k0_hw13 : k0_chk13 v55), (Rect.unit (s := S32x4096x1408) (k0_off165 v55) S1x1024x1408.size (k0_off165_inb v55 k0_hw13)).WholeWords (EltTy.packing .fp8e4m3) := fun v55 k0_hw13 => k0_hw13.1.2.2.2.2.2.2.2.2.2.2.2.2.2.2.2.2.2.2.2.2.2.2.2.2.2.2.2.2.2.2.2 (k0_off165_inb v55 k0_hw13)
theorem k0_off173_inb : ∀ (v55 : BitVec 32) (k0_hw13 : k0_chk13 v55), ∀ a, (k0_off173 v55) a + S1x1024x1408.size a ≤ S32x4096x1408.size a := fun v55 k0_hw13 => k0_hw13.2.1
theorem k0_off173_wordsfp8e4m3 : ∀ (v55 : BitVec 32) (k0_hw13 : k0_chk13 v55), (Rect.unit (s := S32x4096x1408) (k0_off173 v55) S1x1024x1408.size (k0_off173_inb v55 k0_hw13)).WholeWords (EltTy.packing .fp8e4m3) := fun v55 k0_hw13 => k0_hw13.2.2 (k0_off173_inb v55 k0_hw13)

def k0_off174 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v422 : Index := Scalar.indexCast v53
  let c3072 : Index := 3072#32
  let c0_257 : Index := 0#32
  ![v422.toNat, 3072, 0]
def k0_off175 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let v427 : Index := Scalar.indexCast v53
  let c0_261 : Index := 0#32
  let c3072_262 : Index := 3072#32
  ![v427.toNat, 0, 3072]
def k0_off176 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c3_i32_266 : BitVec 32 := 3#32
  ![v53.toNat, 3]
def k0_cond12 (v34 : BitVec 32) (k0_t3 : Fin (k0_t3_loop v34).trips) : BitVec 1 :=
  let c0_i32_44 : BitVec 32 := 0#32
  let c1_i32_46 : BitVec 32 := 1#32
  let arg19 : BitVec 32 := Scf.iv c0_i32_44 c1_i32_46 k0_t3
  let c2_i32_52 : BitVec 32 := 2#32
  let v56 : BitVec 32 := Scalar.addi arg19 c2_i32_52
  let v57 : BitVec 1 := Scalar.cmpi .slt v56 v34
  let v438 : BitVec 32 := Scalar.extui v57
  let c0_i32_265 : BitVec 32 := 0#32
  let v439 : BitVec 1 := Scalar.cmpi .ne v438 c0_i32_265
  v439

def k0_off177 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c3072_i32_267 : BitVec 32 := 3072#32
  let c0_i32_268 : BitVec 32 := 0#32
  ![v53.toNat, 3072, 0]
def k0_off178 (v61 : BitVec 32) : Fin 3 → Nat :=
  let c3072_i32_269 : BitVec 32 := 3072#32
  let c0_i32_270 : BitVec 32 := 0#32
  ![v61.toNat, 3072, 0]
def k0_off179 (v34 : BitVec 32) (k0_t3 : Fin (k0_t3_loop v34).trips) : Fin 2 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_271 : BitVec 32 := 0#32
  ![v53.toNat, 0]
def k0_off180 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_272 : BitVec 32 := 0#32
  let c0_i32_273 : BitVec 32 := 0#32
  ![v53.toNat, 0, 0]
def k0_off181 (v61 : BitVec 32) : Fin 2 → Nat :=
  let c0_i32_274 : BitVec 32 := 0#32
  ![v61.toNat, 0]
def k0_off182 (v34 : BitVec 32) (k0_t3 : Fin (k0_t3_loop v34).trips) : Fin 3 → Nat :=
  let c0_i32_44 : BitVec 32 := 0#32
  let c1_i32_46 : BitVec 32 := 1#32
  let arg19 : BitVec 32 := Scf.iv c0_i32_44 c1_i32_46 k0_t3
  let c2_i32 : BitVec 32 := 2#32
  let v53 : BitVec 32 := Scalar.remsi arg19 c2_i32
  let c0_i32_276 : BitVec 32 := 0#32
  let c0_i32_277 : BitVec 32 := 0#32
  ![v53.toNat, 0, 0]
def k0_off183 (v61 : BitVec 32) : Fin 2 → Nat :=
  let c0_i32_278 : BitVec 32 := 0#32
  ![v61.toNat, 0]

def k0_chk14_0 (v34 : BitVec 32) (k0_t3 : Fin (k0_t3_loop v34).trips) (v61 : BitVec 32) : Prop :=
  (∀ (k0_h3 : k0_cond3 v34 k0_t3 = 1#1), ∀ a, (k0_off73 v61) a + S1x256x4096.size a ≤ S32x2816x4096.size a) ∧
  (∀ (k0_h3 : k0_cond3 v34 k0_t3 = 1#1), ∀ (hinb : ∀ a, (k0_off73 v61) a + S1x256x4096.size a ≤ S32x2816x4096.size a), (Rect.unit (s := S32x2816x4096) (k0_off73 v61) S1x256x4096.size hinb).WholeWords (EltTy.packing .fp8e4m3)) ∧
  (∀ (k0_h3 : k0_cond3 v34 k0_t3 = 1#1), ∀ a, (k0_off76 v61) a + S1x256x4096.size a ≤ S32x2816x4096.size a) ∧
  (∀ (k0_h3 : k0_cond3 v34 k0_t3 = 1#1), ∀ (hinb : ∀ a, (k0_off76 v61) a + S1x256x4096.size a ≤ S32x2816x4096.size a), (Rect.unit (s := S32x2816x4096) (k0_off76 v61) S1x256x4096.size hinb).WholeWords (EltTy.packing .fp8e4m3)) ∧
  (∀ (k0_h4 : k0_cond4 v34 k0_t3 = 1#1), ∀ a, (k0_off88 v61) a + S1x256x4096.size a ≤ S32x2816x4096.size a) ∧
  (∀ (k0_h4 : k0_cond4 v34 k0_t3 = 1#1), ∀ (hinb : ∀ a, (k0_off88 v61) a + S1x256x4096.size a ≤ S32x2816x4096.size a), (Rect.unit (s := S32x2816x4096) (k0_off88 v61) S1x256x4096.size hinb).WholeWords (EltTy.packing .fp8e4m3)) ∧
  (∀ (k0_h4 : k0_cond4 v34 k0_t3 = 1#1), ∀ a, (k0_off90 v61) a + S1x256x4096.size a ≤ S32x2816x4096.size a) ∧
  (∀ (k0_h4 : k0_cond4 v34 k0_t3 = 1#1), ∀ (hinb : ∀ a, (k0_off90 v61) a + S1x256x4096.size a ≤ S32x2816x4096.size a), (Rect.unit (s := S32x2816x4096) (k0_off90 v61) S1x256x4096.size hinb).WholeWords (EltTy.packing .fp8e4m3)) ∧
  (∀ (k0_h5 : k0_cond5 v34 k0_t3 = 1#1), ∀ a, (k0_off102 v61) a + S1x256x4096.size a ≤ S32x2816x4096.size a) ∧
  (∀ (k0_h5 : k0_cond5 v34 k0_t3 = 1#1), ∀ (hinb : ∀ a, (k0_off102 v61) a + S1x256x4096.size a ≤ S32x2816x4096.size a), (Rect.unit (s := S32x2816x4096) (k0_off102 v61) S1x256x4096.size hinb).WholeWords (EltTy.packing .fp8e4m3)) ∧
  (∀ (k0_h5 : k0_cond5 v34 k0_t3 = 1#1), ∀ a, (k0_off104 v61) a + S1x256x4096.size a ≤ S32x2816x4096.size a) ∧
  (∀ (k0_h5 : k0_cond5 v34 k0_t3 = 1#1), ∀ (hinb : ∀ a, (k0_off104 v61) a + S1x256x4096.size a ≤ S32x2816x4096.size a), (Rect.unit (s := S32x2816x4096) (k0_off104 v61) S1x256x4096.size hinb).WholeWords (EltTy.packing .fp8e4m3)) ∧
  (∀ (k0_h6 : k0_cond6 v34 k0_t3 = 1#1), ∀ a, (k0_off116 v61) a + S1x256x4096.size a ≤ S32x2816x4096.size a) ∧
  (∀ (k0_h6 : k0_cond6 v34 k0_t3 = 1#1), ∀ (hinb : ∀ a, (k0_off116 v61) a + S1x256x4096.size a ≤ S32x2816x4096.size a), (Rect.unit (s := S32x2816x4096) (k0_off116 v61) S1x256x4096.size hinb).WholeWords (EltTy.packing .fp8e4m3)) ∧
  (∀ (k0_h6 : k0_cond6 v34 k0_t3 = 1#1), ∀ a, (k0_off118 v61) a + S1x256x4096.size a ≤ S32x2816x4096.size a) ∧
  (∀ (k0_h6 : k0_cond6 v34 k0_t3 = 1#1), ∀ (hinb : ∀ a, (k0_off118 v61) a + S1x256x4096.size a ≤ S32x2816x4096.size a), (Rect.unit (s := S32x2816x4096) (k0_off118 v61) S1x256x4096.size hinb).WholeWords (EltTy.packing .fp8e4m3)) ∧
  (∀ (k0_h7 : k0_cond7 v34 k0_t3 = 1#1), ∀ a, (k0_off130 v61) a + S1x256x4096.size a ≤ S32x2816x4096.size a) ∧
  (∀ (k0_h7 : k0_cond7 v34 k0_t3 = 1#1), ∀ (hinb : ∀ a, (k0_off130 v61) a + S1x256x4096.size a ≤ S32x2816x4096.size a), (Rect.unit (s := S32x2816x4096) (k0_off130 v61) S1x256x4096.size hinb).WholeWords (EltTy.packing .fp8e4m3)) ∧
  (∀ (k0_h7 : k0_cond7 v34 k0_t3 = 1#1), ∀ a, (k0_off132 v61) a + S1x256x4096.size a ≤ S32x2816x4096.size a) ∧
  (∀ (k0_h7 : k0_cond7 v34 k0_t3 = 1#1), ∀ (hinb : ∀ a, (k0_off132 v61) a + S1x256x4096.size a ≤ S32x2816x4096.size a), (Rect.unit (s := S32x2816x4096) (k0_off132 v61) S1x256x4096.size hinb).WholeWords (EltTy.packing .fp8e4m3)) ∧
  (∀ (k0_h8 : k0_cond8 v34 k0_t3 = 1#1), ∀ a, (k0_off144 v61) a + S1x128x4096.size a ≤ S32x2816x4096.size a) ∧
  (∀ (k0_h8 : k0_cond8 v34 k0_t3 = 1#1), ∀ (hinb : ∀ a, (k0_off144 v61) a + S1x128x4096.size a ≤ S32x2816x4096.size a), (Rect.unit (s := S32x2816x4096) (k0_off144 v61) S1x128x4096.size hinb).WholeWords (EltTy.packing .fp8e4m3)) ∧
  (∀ (k0_h8 : k0_cond8 v34 k0_t3 = 1#1), ∀ a, (k0_off146 v61) a + S1x128x4096.size a ≤ S32x2816x4096.size a) ∧
  (∀ (k0_h8 : k0_cond8 v34 k0_t3 = 1#1), ∀ (hinb : ∀ a, (k0_off146 v61) a + S1x128x4096.size a ≤ S32x2816x4096.size a), (Rect.unit (s := S32x2816x4096) (k0_off146 v61) S1x128x4096.size hinb).WholeWords (EltTy.packing .fp8e4m3)) ∧
  (∀ (k0_h9 : k0_cond9 v34 k0_t3 = 1#1), ∀ a, (k0_off154 v61) a + S1x1024x1408.size a ≤ S32x4096x1408.size a) ∧
  (∀ (k0_h9 : k0_cond9 v34 k0_t3 = 1#1), ∀ (hinb : ∀ a, (k0_off154 v61) a + S1x1024x1408.size a ≤ S32x4096x1408.size a), (Rect.unit (s := S32x4096x1408) (k0_off154 v61) S1x1024x1408.size hinb).WholeWords (EltTy.packing .fp8e4m3)) ∧
  (∀ (k0_h10 : k0_cond10 v34 k0_t3 = 1#1), ∀ a, (k0_off162 v61) a + S1x1024x1408.size a ≤ S32x4096x1408.size a) ∧
  (∀ (k0_h10 : k0_cond10 v34 k0_t3 = 1#1), ∀ (hinb : ∀ a, (k0_off162 v61) a + S1x1024x1408.size a ≤ S32x4096x1408.size a), (Rect.unit (s := S32x4096x1408) (k0_off162 v61) S1x1024x1408.size hinb).WholeWords (EltTy.packing .fp8e4m3)) ∧
  (∀ (k0_h11 : k0_cond11 v34 k0_t3 = 1#1), ∀ a, (k0_off170 v61) a + S1x1024x1408.size a ≤ S32x4096x1408.size a) ∧
  (∀ (k0_h11 : k0_cond11 v34 k0_t3 = 1#1), ∀ (hinb : ∀ a, (k0_off170 v61) a + S1x1024x1408.size a ≤ S32x4096x1408.size a), (Rect.unit (s := S32x4096x1408) (k0_off170 v61) S1x1024x1408.size hinb).WholeWords (EltTy.packing .fp8e4m3)) ∧
  (∀ (k0_h12 : k0_cond12 v34 k0_t3 = 1#1), ∀ a, (k0_off178 v61) a + S1x1024x1408.size a ≤ S32x4096x1408.size a) ∧
  (∀ (k0_h12 : k0_cond12 v34 k0_t3 = 1#1), ∀ (hinb : ∀ a, (k0_off178 v61) a + S1x1024x1408.size a ≤ S32x4096x1408.size a), (Rect.unit (s := S32x4096x1408) (k0_off178 v61) S1x1024x1408.size hinb).WholeWords (EltTy.packing .fp8e4m3))
def k0_chk14_1 (v34 : BitVec 32) (k0_t3 : Fin (k0_t3_loop v34).trips) (v61 : BitVec 32) : Prop :=
  (∀ (k0_h12 : k0_cond12 v34 k0_t3 = 1#1), ∀ a, (k0_off181 v61) a + S1x2816.size a ≤ S32x2816.size a) ∧
  (∀ (k0_h12 : k0_cond12 v34 k0_t3 = 1#1), ∀ a, (k0_off183 v61) a + S1x4096.size a ≤ S32x4096.size a)
def k0_chk14 (v34 : BitVec 32) (k0_t3 : Fin (k0_t3_loop v34).trips) (v61 : BitVec 32) : Prop :=
  k0_chk14_0 v34 k0_t3 v61 ∧
  k0_chk14_1 v34 k0_t3 v61
theorem k0_off73_inb : ∀ (v34 : BitVec 32) (k0_t3 : Fin (k0_t3_loop v34).trips) (v61 : BitVec 32) (k0_hw14 : k0_chk14 v34 k0_t3 v61), ∀ (k0_h3 : k0_cond3 v34 k0_t3 = 1#1), ∀ a, (k0_off73 v61) a + S1x256x4096.size a ≤ S32x2816x4096.size a := fun v34 k0_t3 v61 k0_hw14 k0_h3 => k0_hw14.1.1 k0_h3
theorem k0_off73_wordsfp8e4m3 : ∀ (v34 : BitVec 32) (k0_t3 : Fin (k0_t3_loop v34).trips) (v61 : BitVec 32) (k0_hw14 : k0_chk14 v34 k0_t3 v61), ∀ (k0_h3 : k0_cond3 v34 k0_t3 = 1#1), (Rect.unit (s := S32x2816x4096) (k0_off73 v61) S1x256x4096.size (k0_off73_inb v34 k0_t3 v61 k0_hw14 k0_h3)).WholeWords (EltTy.packing .fp8e4m3) := fun v34 k0_t3 v61 k0_hw14 k0_h3 => k0_hw14.1.2.1 k0_h3 (k0_off73_inb v34 k0_t3 v61 k0_hw14 k0_h3)
theorem k0_off76_inb : ∀ (v34 : BitVec 32) (k0_t3 : Fin (k0_t3_loop v34).trips) (v61 : BitVec 32) (k0_hw14 : k0_chk14 v34 k0_t3 v61), ∀ (k0_h3 : k0_cond3 v34 k0_t3 = 1#1), ∀ a, (k0_off76 v61) a + S1x256x4096.size a ≤ S32x2816x4096.size a := fun v34 k0_t3 v61 k0_hw14 k0_h3 => k0_hw14.1.2.2.1 k0_h3
theorem k0_off76_wordsfp8e4m3 : ∀ (v34 : BitVec 32) (k0_t3 : Fin (k0_t3_loop v34).trips) (v61 : BitVec 32) (k0_hw14 : k0_chk14 v34 k0_t3 v61), ∀ (k0_h3 : k0_cond3 v34 k0_t3 = 1#1), (Rect.unit (s := S32x2816x4096) (k0_off76 v61) S1x256x4096.size (k0_off76_inb v34 k0_t3 v61 k0_hw14 k0_h3)).WholeWords (EltTy.packing .fp8e4m3) := fun v34 k0_t3 v61 k0_hw14 k0_h3 => k0_hw14.1.2.2.2.1 k0_h3 (k0_off76_inb v34 k0_t3 v61 k0_hw14 k0_h3)
theorem k0_off88_inb : ∀ (v34 : BitVec 32) (k0_t3 : Fin (k0_t3_loop v34).trips) (v61 : BitVec 32) (k0_hw14 : k0_chk14 v34 k0_t3 v61), ∀ (k0_h4 : k0_cond4 v34 k0_t3 = 1#1), ∀ a, (k0_off88 v61) a + S1x256x4096.size a ≤ S32x2816x4096.size a := fun v34 k0_t3 v61 k0_hw14 k0_h4 => k0_hw14.1.2.2.2.2.1 k0_h4
theorem k0_off88_wordsfp8e4m3 : ∀ (v34 : BitVec 32) (k0_t3 : Fin (k0_t3_loop v34).trips) (v61 : BitVec 32) (k0_hw14 : k0_chk14 v34 k0_t3 v61), ∀ (k0_h4 : k0_cond4 v34 k0_t3 = 1#1), (Rect.unit (s := S32x2816x4096) (k0_off88 v61) S1x256x4096.size (k0_off88_inb v34 k0_t3 v61 k0_hw14 k0_h4)).WholeWords (EltTy.packing .fp8e4m3) := fun v34 k0_t3 v61 k0_hw14 k0_h4 => k0_hw14.1.2.2.2.2.2.1 k0_h4 (k0_off88_inb v34 k0_t3 v61 k0_hw14 k0_h4)
theorem k0_off90_inb : ∀ (v34 : BitVec 32) (k0_t3 : Fin (k0_t3_loop v34).trips) (v61 : BitVec 32) (k0_hw14 : k0_chk14 v34 k0_t3 v61), ∀ (k0_h4 : k0_cond4 v34 k0_t3 = 1#1), ∀ a, (k0_off90 v61) a + S1x256x4096.size a ≤ S32x2816x4096.size a := fun v34 k0_t3 v61 k0_hw14 k0_h4 => k0_hw14.1.2.2.2.2.2.2.1 k0_h4
theorem k0_off90_wordsfp8e4m3 : ∀ (v34 : BitVec 32) (k0_t3 : Fin (k0_t3_loop v34).trips) (v61 : BitVec 32) (k0_hw14 : k0_chk14 v34 k0_t3 v61), ∀ (k0_h4 : k0_cond4 v34 k0_t3 = 1#1), (Rect.unit (s := S32x2816x4096) (k0_off90 v61) S1x256x4096.size (k0_off90_inb v34 k0_t3 v61 k0_hw14 k0_h4)).WholeWords (EltTy.packing .fp8e4m3) := fun v34 k0_t3 v61 k0_hw14 k0_h4 => k0_hw14.1.2.2.2.2.2.2.2.1 k0_h4 (k0_off90_inb v34 k0_t3 v61 k0_hw14 k0_h4)
theorem k0_off102_inb : ∀ (v34 : BitVec 32) (k0_t3 : Fin (k0_t3_loop v34).trips) (v61 : BitVec 32) (k0_hw14 : k0_chk14 v34 k0_t3 v61), ∀ (k0_h5 : k0_cond5 v34 k0_t3 = 1#1), ∀ a, (k0_off102 v61) a + S1x256x4096.size a ≤ S32x2816x4096.size a := fun v34 k0_t3 v61 k0_hw14 k0_h5 => k0_hw14.1.2.2.2.2.2.2.2.2.1 k0_h5
theorem k0_off102_wordsfp8e4m3 : ∀ (v34 : BitVec 32) (k0_t3 : Fin (k0_t3_loop v34).trips) (v61 : BitVec 32) (k0_hw14 : k0_chk14 v34 k0_t3 v61), ∀ (k0_h5 : k0_cond5 v34 k0_t3 = 1#1), (Rect.unit (s := S32x2816x4096) (k0_off102 v61) S1x256x4096.size (k0_off102_inb v34 k0_t3 v61 k0_hw14 k0_h5)).WholeWords (EltTy.packing .fp8e4m3) := fun v34 k0_t3 v61 k0_hw14 k0_h5 => k0_hw14.1.2.2.2.2.2.2.2.2.2.1 k0_h5 (k0_off102_inb v34 k0_t3 v61 k0_hw14 k0_h5)
theorem k0_off104_inb : ∀ (v34 : BitVec 32) (k0_t3 : Fin (k0_t3_loop v34).trips) (v61 : BitVec 32) (k0_hw14 : k0_chk14 v34 k0_t3 v61), ∀ (k0_h5 : k0_cond5 v34 k0_t3 = 1#1), ∀ a, (k0_off104 v61) a + S1x256x4096.size a ≤ S32x2816x4096.size a := fun v34 k0_t3 v61 k0_hw14 k0_h5 => k0_hw14.1.2.2.2.2.2.2.2.2.2.2.1 k0_h5
theorem k0_off104_wordsfp8e4m3 : ∀ (v34 : BitVec 32) (k0_t3 : Fin (k0_t3_loop v34).trips) (v61 : BitVec 32) (k0_hw14 : k0_chk14 v34 k0_t3 v61), ∀ (k0_h5 : k0_cond5 v34 k0_t3 = 1#1), (Rect.unit (s := S32x2816x4096) (k0_off104 v61) S1x256x4096.size (k0_off104_inb v34 k0_t3 v61 k0_hw14 k0_h5)).WholeWords (EltTy.packing .fp8e4m3) := fun v34 k0_t3 v61 k0_hw14 k0_h5 => k0_hw14.1.2.2.2.2.2.2.2.2.2.2.2.1 k0_h5 (k0_off104_inb v34 k0_t3 v61 k0_hw14 k0_h5)
theorem k0_off116_inb : ∀ (v34 : BitVec 32) (k0_t3 : Fin (k0_t3_loop v34).trips) (v61 : BitVec 32) (k0_hw14 : k0_chk14 v34 k0_t3 v61), ∀ (k0_h6 : k0_cond6 v34 k0_t3 = 1#1), ∀ a, (k0_off116 v61) a + S1x256x4096.size a ≤ S32x2816x4096.size a := fun v34 k0_t3 v61 k0_hw14 k0_h6 => k0_hw14.1.2.2.2.2.2.2.2.2.2.2.2.2.1 k0_h6
theorem k0_off116_wordsfp8e4m3 : ∀ (v34 : BitVec 32) (k0_t3 : Fin (k0_t3_loop v34).trips) (v61 : BitVec 32) (k0_hw14 : k0_chk14 v34 k0_t3 v61), ∀ (k0_h6 : k0_cond6 v34 k0_t3 = 1#1), (Rect.unit (s := S32x2816x4096) (k0_off116 v61) S1x256x4096.size (k0_off116_inb v34 k0_t3 v61 k0_hw14 k0_h6)).WholeWords (EltTy.packing .fp8e4m3) := fun v34 k0_t3 v61 k0_hw14 k0_h6 => k0_hw14.1.2.2.2.2.2.2.2.2.2.2.2.2.2.1 k0_h6 (k0_off116_inb v34 k0_t3 v61 k0_hw14 k0_h6)
theorem k0_off118_inb : ∀ (v34 : BitVec 32) (k0_t3 : Fin (k0_t3_loop v34).trips) (v61 : BitVec 32) (k0_hw14 : k0_chk14 v34 k0_t3 v61), ∀ (k0_h6 : k0_cond6 v34 k0_t3 = 1#1), ∀ a, (k0_off118 v61) a + S1x256x4096.size a ≤ S32x2816x4096.size a := fun v34 k0_t3 v61 k0_hw14 k0_h6 => k0_hw14.1.2.2.2.2.2.2.2.2.2.2.2.2.2.2.1 k0_h6
theorem k0_off118_wordsfp8e4m3 : ∀ (v34 : BitVec 32) (k0_t3 : Fin (k0_t3_loop v34).trips) (v61 : BitVec 32) (k0_hw14 : k0_chk14 v34 k0_t3 v61), ∀ (k0_h6 : k0_cond6 v34 k0_t3 = 1#1), (Rect.unit (s := S32x2816x4096) (k0_off118 v61) S1x256x4096.size (k0_off118_inb v34 k0_t3 v61 k0_hw14 k0_h6)).WholeWords (EltTy.packing .fp8e4m3) := fun v34 k0_t3 v61 k0_hw14 k0_h6 => k0_hw14.1.2.2.2.2.2.2.2.2.2.2.2.2.2.2.2.1 k0_h6 (k0_off118_inb v34 k0_t3 v61 k0_hw14 k0_h6)
theorem k0_off130_inb : ∀ (v34 : BitVec 32) (k0_t3 : Fin (k0_t3_loop v34).trips) (v61 : BitVec 32) (k0_hw14 : k0_chk14 v34 k0_t3 v61), ∀ (k0_h7 : k0_cond7 v34 k0_t3 = 1#1), ∀ a, (k0_off130 v61) a + S1x256x4096.size a ≤ S32x2816x4096.size a := fun v34 k0_t3 v61 k0_hw14 k0_h7 => k0_hw14.1.2.2.2.2.2.2.2.2.2.2.2.2.2.2.2.2.1 k0_h7
theorem k0_off130_wordsfp8e4m3 : ∀ (v34 : BitVec 32) (k0_t3 : Fin (k0_t3_loop v34).trips) (v61 : BitVec 32) (k0_hw14 : k0_chk14 v34 k0_t3 v61), ∀ (k0_h7 : k0_cond7 v34 k0_t3 = 1#1), (Rect.unit (s := S32x2816x4096) (k0_off130 v61) S1x256x4096.size (k0_off130_inb v34 k0_t3 v61 k0_hw14 k0_h7)).WholeWords (EltTy.packing .fp8e4m3) := fun v34 k0_t3 v61 k0_hw14 k0_h7 => k0_hw14.1.2.2.2.2.2.2.2.2.2.2.2.2.2.2.2.2.2.1 k0_h7 (k0_off130_inb v34 k0_t3 v61 k0_hw14 k0_h7)
theorem k0_off132_inb : ∀ (v34 : BitVec 32) (k0_t3 : Fin (k0_t3_loop v34).trips) (v61 : BitVec 32) (k0_hw14 : k0_chk14 v34 k0_t3 v61), ∀ (k0_h7 : k0_cond7 v34 k0_t3 = 1#1), ∀ a, (k0_off132 v61) a + S1x256x4096.size a ≤ S32x2816x4096.size a := fun v34 k0_t3 v61 k0_hw14 k0_h7 => k0_hw14.1.2.2.2.2.2.2.2.2.2.2.2.2.2.2.2.2.2.2.1 k0_h7
theorem k0_off132_wordsfp8e4m3 : ∀ (v34 : BitVec 32) (k0_t3 : Fin (k0_t3_loop v34).trips) (v61 : BitVec 32) (k0_hw14 : k0_chk14 v34 k0_t3 v61), ∀ (k0_h7 : k0_cond7 v34 k0_t3 = 1#1), (Rect.unit (s := S32x2816x4096) (k0_off132 v61) S1x256x4096.size (k0_off132_inb v34 k0_t3 v61 k0_hw14 k0_h7)).WholeWords (EltTy.packing .fp8e4m3) := fun v34 k0_t3 v61 k0_hw14 k0_h7 => k0_hw14.1.2.2.2.2.2.2.2.2.2.2.2.2.2.2.2.2.2.2.2.1 k0_h7 (k0_off132_inb v34 k0_t3 v61 k0_hw14 k0_h7)
theorem k0_off144_inb : ∀ (v34 : BitVec 32) (k0_t3 : Fin (k0_t3_loop v34).trips) (v61 : BitVec 32) (k0_hw14 : k0_chk14 v34 k0_t3 v61), ∀ (k0_h8 : k0_cond8 v34 k0_t3 = 1#1), ∀ a, (k0_off144 v61) a + S1x128x4096.size a ≤ S32x2816x4096.size a := fun v34 k0_t3 v61 k0_hw14 k0_h8 => k0_hw14.1.2.2.2.2.2.2.2.2.2.2.2.2.2.2.2.2.2.2.2.2.1 k0_h8
theorem k0_off144_wordsfp8e4m3 : ∀ (v34 : BitVec 32) (k0_t3 : Fin (k0_t3_loop v34).trips) (v61 : BitVec 32) (k0_hw14 : k0_chk14 v34 k0_t3 v61), ∀ (k0_h8 : k0_cond8 v34 k0_t3 = 1#1), (Rect.unit (s := S32x2816x4096) (k0_off144 v61) S1x128x4096.size (k0_off144_inb v34 k0_t3 v61 k0_hw14 k0_h8)).WholeWords (EltTy.packing .fp8e4m3) := fun v34 k0_t3 v61 k0_hw14 k0_h8 => k0_hw14.1.2.2.2.2.2.2.2.2.2.2.2.2.2.2.2.2.2.2.2.2.2.1 k0_h8 (k0_off144_inb v34 k0_t3 v61 k0_hw14 k0_h8)
theorem k0_off146_inb : ∀ (v34 : BitVec 32) (k0_t3 : Fin (k0_t3_loop v34).trips) (v61 : BitVec 32) (k0_hw14 : k0_chk14 v34 k0_t3 v61), ∀ (k0_h8 : k0_cond8 v34 k0_t3 = 1#1), ∀ a, (k0_off146 v61) a + S1x128x4096.size a ≤ S32x2816x4096.size a := fun v34 k0_t3 v61 k0_hw14 k0_h8 => k0_hw14.1.2.2.2.2.2.2.2.2.2.2.2.2.2.2.2.2.2.2.2.2.2.2.1 k0_h8
theorem k0_off146_wordsfp8e4m3 : ∀ (v34 : BitVec 32) (k0_t3 : Fin (k0_t3_loop v34).trips) (v61 : BitVec 32) (k0_hw14 : k0_chk14 v34 k0_t3 v61), ∀ (k0_h8 : k0_cond8 v34 k0_t3 = 1#1), (Rect.unit (s := S32x2816x4096) (k0_off146 v61) S1x128x4096.size (k0_off146_inb v34 k0_t3 v61 k0_hw14 k0_h8)).WholeWords (EltTy.packing .fp8e4m3) := fun v34 k0_t3 v61 k0_hw14 k0_h8 => k0_hw14.1.2.2.2.2.2.2.2.2.2.2.2.2.2.2.2.2.2.2.2.2.2.2.2.1 k0_h8 (k0_off146_inb v34 k0_t3 v61 k0_hw14 k0_h8)
theorem k0_off154_inb : ∀ (v34 : BitVec 32) (k0_t3 : Fin (k0_t3_loop v34).trips) (v61 : BitVec 32) (k0_hw14 : k0_chk14 v34 k0_t3 v61), ∀ (k0_h9 : k0_cond9 v34 k0_t3 = 1#1), ∀ a, (k0_off154 v61) a + S1x1024x1408.size a ≤ S32x4096x1408.size a := fun v34 k0_t3 v61 k0_hw14 k0_h9 => k0_hw14.1.2.2.2.2.2.2.2.2.2.2.2.2.2.2.2.2.2.2.2.2.2.2.2.2.1 k0_h9
theorem k0_off154_wordsfp8e4m3 : ∀ (v34 : BitVec 32) (k0_t3 : Fin (k0_t3_loop v34).trips) (v61 : BitVec 32) (k0_hw14 : k0_chk14 v34 k0_t3 v61), ∀ (k0_h9 : k0_cond9 v34 k0_t3 = 1#1), (Rect.unit (s := S32x4096x1408) (k0_off154 v61) S1x1024x1408.size (k0_off154_inb v34 k0_t3 v61 k0_hw14 k0_h9)).WholeWords (EltTy.packing .fp8e4m3) := fun v34 k0_t3 v61 k0_hw14 k0_h9 => k0_hw14.1.2.2.2.2.2.2.2.2.2.2.2.2.2.2.2.2.2.2.2.2.2.2.2.2.2.1 k0_h9 (k0_off154_inb v34 k0_t3 v61 k0_hw14 k0_h9)
theorem k0_off162_inb : ∀ (v34 : BitVec 32) (k0_t3 : Fin (k0_t3_loop v34).trips) (v61 : BitVec 32) (k0_hw14 : k0_chk14 v34 k0_t3 v61), ∀ (k0_h10 : k0_cond10 v34 k0_t3 = 1#1), ∀ a, (k0_off162 v61) a + S1x1024x1408.size a ≤ S32x4096x1408.size a := fun v34 k0_t3 v61 k0_hw14 k0_h10 => k0_hw14.1.2.2.2.2.2.2.2.2.2.2.2.2.2.2.2.2.2.2.2.2.2.2.2.2.2.2.1 k0_h10
theorem k0_off162_wordsfp8e4m3 : ∀ (v34 : BitVec 32) (k0_t3 : Fin (k0_t3_loop v34).trips) (v61 : BitVec 32) (k0_hw14 : k0_chk14 v34 k0_t3 v61), ∀ (k0_h10 : k0_cond10 v34 k0_t3 = 1#1), (Rect.unit (s := S32x4096x1408) (k0_off162 v61) S1x1024x1408.size (k0_off162_inb v34 k0_t3 v61 k0_hw14 k0_h10)).WholeWords (EltTy.packing .fp8e4m3) := fun v34 k0_t3 v61 k0_hw14 k0_h10 => k0_hw14.1.2.2.2.2.2.2.2.2.2.2.2.2.2.2.2.2.2.2.2.2.2.2.2.2.2.2.2.1 k0_h10 (k0_off162_inb v34 k0_t3 v61 k0_hw14 k0_h10)
theorem k0_off170_inb : ∀ (v34 : BitVec 32) (k0_t3 : Fin (k0_t3_loop v34).trips) (v61 : BitVec 32) (k0_hw14 : k0_chk14 v34 k0_t3 v61), ∀ (k0_h11 : k0_cond11 v34 k0_t3 = 1#1), ∀ a, (k0_off170 v61) a + S1x1024x1408.size a ≤ S32x4096x1408.size a := fun v34 k0_t3 v61 k0_hw14 k0_h11 => k0_hw14.1.2.2.2.2.2.2.2.2.2.2.2.2.2.2.2.2.2.2.2.2.2.2.2.2.2.2.2.2.1 k0_h11
theorem k0_off170_wordsfp8e4m3 : ∀ (v34 : BitVec 32) (k0_t3 : Fin (k0_t3_loop v34).trips) (v61 : BitVec 32) (k0_hw14 : k0_chk14 v34 k0_t3 v61), ∀ (k0_h11 : k0_cond11 v34 k0_t3 = 1#1), (Rect.unit (s := S32x4096x1408) (k0_off170 v61) S1x1024x1408.size (k0_off170_inb v34 k0_t3 v61 k0_hw14 k0_h11)).WholeWords (EltTy.packing .fp8e4m3) := fun v34 k0_t3 v61 k0_hw14 k0_h11 => k0_hw14.1.2.2.2.2.2.2.2.2.2.2.2.2.2.2.2.2.2.2.2.2.2.2.2.2.2.2.2.2.2.1 k0_h11 (k0_off170_inb v34 k0_t3 v61 k0_hw14 k0_h11)
theorem k0_off178_inb : ∀ (v34 : BitVec 32) (k0_t3 : Fin (k0_t3_loop v34).trips) (v61 : BitVec 32) (k0_hw14 : k0_chk14 v34 k0_t3 v61), ∀ (k0_h12 : k0_cond12 v34 k0_t3 = 1#1), ∀ a, (k0_off178 v61) a + S1x1024x1408.size a ≤ S32x4096x1408.size a := fun v34 k0_t3 v61 k0_hw14 k0_h12 => k0_hw14.1.2.2.2.2.2.2.2.2.2.2.2.2.2.2.2.2.2.2.2.2.2.2.2.2.2.2.2.2.2.2.1 k0_h12
theorem k0_off178_wordsfp8e4m3 : ∀ (v34 : BitVec 32) (k0_t3 : Fin (k0_t3_loop v34).trips) (v61 : BitVec 32) (k0_hw14 : k0_chk14 v34 k0_t3 v61), ∀ (k0_h12 : k0_cond12 v34 k0_t3 = 1#1), (Rect.unit (s := S32x4096x1408) (k0_off178 v61) S1x1024x1408.size (k0_off178_inb v34 k0_t3 v61 k0_hw14 k0_h12)).WholeWords (EltTy.packing .fp8e4m3) := fun v34 k0_t3 v61 k0_hw14 k0_h12 => k0_hw14.1.2.2.2.2.2.2.2.2.2.2.2.2.2.2.2.2.2.2.2.2.2.2.2.2.2.2.2.2.2.2.2 k0_h12 (k0_off178_inb v34 k0_t3 v61 k0_hw14 k0_h12)
theorem k0_off181_inb : ∀ (v34 : BitVec 32) (k0_t3 : Fin (k0_t3_loop v34).trips) (v61 : BitVec 32) (k0_hw14 : k0_chk14 v34 k0_t3 v61), ∀ (k0_h12 : k0_cond12 v34 k0_t3 = 1#1), ∀ a, (k0_off181 v61) a + S1x2816.size a ≤ S32x2816.size a := fun v34 k0_t3 v61 k0_hw14 k0_h12 => k0_hw14.2.1 k0_h12
theorem k0_off183_inb : ∀ (v34 : BitVec 32) (k0_t3 : Fin (k0_t3_loop v34).trips) (v61 : BitVec 32) (k0_hw14 : k0_chk14 v34 k0_t3 v61), ∀ (k0_h12 : k0_cond12 v34 k0_t3 = 1#1), ∀ a, (k0_off183 v61) a + S1x4096.size a ≤ S32x4096.size a := fun v34 k0_t3 v61 k0_hw14 k0_h12 => k0_hw14.2.2 k0_h12

@[reducible] def k0_t4_loop (v34 : BitVec 32) : Scf.Loop 32 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let v46 : BitVec 32 := Scalar.addi c0_i32_44 v45
  let c1_i32_47 : BitVec 32 := 1#32
  ⟨v49, v46, c1_i32_47⟩
def k0_off184 (v34 : BitVec 32) (k0_t4 : Fin (k0_t4_loop v34).trips) : Fin 1 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let v54 : Index := Scalar.indexCast arg19
  ![v54.toNat]
def k0_off185 (v34 : BitVec 32) (k0_t4 : Fin (k0_t4_loop v34).trips) : Fin 1 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let c1_i32_53 : BitVec 32 := 1#32
  let v58 : BitVec 32 := Scalar.subi v34 c1_i32_53
  let v59 : BitVec 32 := Scalar.minsi v56 v58
  let v60 : Index := Scalar.indexCast v59
  ![v60.toNat]
def k0_off186 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_60 : BitVec 32 := 0#32
  ![v53.toNat, 0]
def k0_off187 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_61 : BitVec 32 := 0#32
  let c0_i32_62 : BitVec 32 := 0#32
  ![v53.toNat, 0, 0]
def k0_off188 (v55 : BitVec 32) : Fin 3 → Nat :=
  let c0_i32_63 : BitVec 32 := 0#32
  let c0_i32_64 : BitVec 32 := 0#32
  ![v55.toNat, 0, 0]

def k0_off189 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_65 : BitVec 32 := 0#32
  ![v53.toNat, 0]
def k0_off190 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1408_i32 : BitVec 32 := 1408#32
  let c0_i32_66 : BitVec 32 := 0#32
  ![v53.toNat, 1408, 0]
def k0_off191 (v55 : BitVec 32) : Fin 3 → Nat :=
  let c1408_i32_67 : BitVec 32 := 1408#32
  let c0_i32_68 : BitVec 32 := 0#32
  ![v55.toNat, 1408, 0]
def k0_off192 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_70 : BitVec 32 := 0#32
  let c0_i32_71 : BitVec 32 := 0#32
  ![v53.toNat, 0, 0]
def k0_off193 (v55 : BitVec 32) : Fin 2 → Nat :=
  let c0_i32_72 : BitVec 32 := 0#32
  ![v55.toNat, 0]
def k0_off194 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_74 : BitVec 32 := 0#32
  let c0_i32_75 : BitVec 32 := 0#32
  ![v53.toNat, 0, 0]
def k0_off195 (v55 : BitVec 32) : Fin 2 → Nat :=
  let c0_i32_76 : BitVec 32 := 0#32
  ![v55.toNat, 0]
def k0_off196 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v94 : Index := Scalar.indexCast v53
  let c0_77 : Index := 0#32
  let c0_78 : Index := 0#32
  ![v94.toNat, 0, 0]
def k0_off197 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v97 : Index := Scalar.indexCast v53
  let c1408 : Index := 1408#32
  let c0_79 : Index := 0#32
  ![v97.toNat, 1408, 0]
def k0_off198 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v106 : Index := Scalar.indexCast v53
  let c0_86 : Index := 0#32
  let c0_87 : Index := 0#32
  ![v106.toNat, 0, 0]
def k0_off199 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v111 : Index := Scalar.indexCast v53
  let c0_88 : Index := 0#32
  let c1408_89 : Index := 1408#32
  ![v111.toNat, 0, 1408]
def k0_off200 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_266 : BitVec 32 := 0#32
  ![v53.toNat, 0]
def k0_cond13 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v123 : BitVec 32 := Scalar.extui v57
  let c0_i32_92 : BitVec 32 := 0#32
  let v124 : BitVec 1 := Scalar.cmpi .ne v123 c0_i32_92
  v124

def k0_off201 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_267 : BitVec 32 := 0#32
  let c0_i32_268 : BitVec 32 := 0#32
  ![v53.toNat, 0, 0]
def k0_off202 (v61 : BitVec 32) : Fin 3 → Nat :=
  let c0_i32_269 : BitVec 32 := 0#32
  let c0_i32_270 : BitVec 32 := 0#32
  ![v61.toNat, 0, 0]

def k0_off203 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_271 : BitVec 32 := 0#32
  ![v53.toNat, 0]
def k0_off204 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1408_i32_272 : BitVec 32 := 1408#32
  let c0_i32_273 : BitVec 32 := 0#32
  ![v53.toNat, 1408, 0]
def k0_off205 (v61 : BitVec 32) : Fin 3 → Nat :=
  let c1408_i32_274 : BitVec 32 := 1408#32
  let c0_i32_275 : BitVec 32 := 0#32
  ![v61.toNat, 1408, 0]
def k0_off206 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1_i32_93 : BitVec 32 := 1#32
  ![v53.toNat, 1]
def k0_off207 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c256_i32 : BitVec 32 := 256#32
  let c0_i32_94 : BitVec 32 := 0#32
  ![v53.toNat, 256, 0]
def k0_off208 (v55 : BitVec 32) : Fin 3 → Nat :=
  let c256_i32_95 : BitVec 32 := 256#32
  let c0_i32_96 : BitVec 32 := 0#32
  ![v55.toNat, 256, 0]
def k0_off209 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1664_i32 : BitVec 32 := 1664#32
  let c0_i32_98 : BitVec 32 := 0#32
  ![v53.toNat, 1664, 0]
def k0_off210 (v55 : BitVec 32) : Fin 3 → Nat :=
  let c1664_i32_99 : BitVec 32 := 1664#32
  let c0_i32_100 : BitVec 32 := 0#32
  ![v55.toNat, 1664, 0]
def k0_off211 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v137 : Index := Scalar.indexCast v53
  let c256 : Index := 256#32
  let c0_101 : Index := 0#32
  ![v137.toNat, 256, 0]
def k0_off212 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v140 : Index := Scalar.indexCast v53
  let c1664 : Index := 1664#32
  let c0_102 : Index := 0#32
  ![v140.toNat, 1664, 0]
def k0_off213 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v149 : Index := Scalar.indexCast v53
  let c0_109 : Index := 0#32
  let c256_110 : Index := 256#32
  ![v149.toNat, 0, 256]
def k0_off214 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v154 : Index := Scalar.indexCast v53
  let c0_111 : Index := 0#32
  let c1664_112 : Index := 1664#32
  ![v154.toNat, 0, 1664]
def k0_off215 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1_i32_266 : BitVec 32 := 1#32
  ![v53.toNat, 1]
def k0_cond14 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v166 : BitVec 32 := Scalar.extui v57
  let c0_i32_115 : BitVec 32 := 0#32
  let v167 : BitVec 1 := Scalar.cmpi .ne v166 c0_i32_115
  v167

def k0_off216 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c256_i32_267 : BitVec 32 := 256#32
  let c0_i32_268 : BitVec 32 := 0#32
  ![v53.toNat, 256, 0]
def k0_off217 (v61 : BitVec 32) : Fin 3 → Nat :=
  let c256_i32_269 : BitVec 32 := 256#32
  let c0_i32_270 : BitVec 32 := 0#32
  ![v61.toNat, 256, 0]
def k0_off218 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1664_i32_272 : BitVec 32 := 1664#32
  let c0_i32_273 : BitVec 32 := 0#32
  ![v53.toNat, 1664, 0]
def k0_off219 (v61 : BitVec 32) : Fin 3 → Nat :=
  let c1664_i32_274 : BitVec 32 := 1664#32
  let c0_i32_275 : BitVec 32 := 0#32
  ![v61.toNat, 1664, 0]
def k0_off220 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2_i32_116 : BitVec 32 := 2#32
  ![v53.toNat, 2]
def k0_off221 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c512_i32 : BitVec 32 := 512#32
  let c0_i32_117 : BitVec 32 := 0#32
  ![v53.toNat, 512, 0]
def k0_off222 (v55 : BitVec 32) : Fin 3 → Nat :=
  let c512_i32_118 : BitVec 32 := 512#32
  let c0_i32_119 : BitVec 32 := 0#32
  ![v55.toNat, 512, 0]
def k0_off223 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1920_i32 : BitVec 32 := 1920#32
  let c0_i32_121 : BitVec 32 := 0#32
  ![v53.toNat, 1920, 0]
def k0_off224 (v55 : BitVec 32) : Fin 3 → Nat :=
  let c1920_i32_122 : BitVec 32 := 1920#32
  let c0_i32_123 : BitVec 32 := 0#32
  ![v55.toNat, 1920, 0]
def k0_off225 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v180 : Index := Scalar.indexCast v53
  let c512 : Index := 512#32
  let c0_124 : Index := 0#32
  ![v180.toNat, 512, 0]
def k0_off226 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v183 : Index := Scalar.indexCast v53
  let c1920 : Index := 1920#32
  let c0_125 : Index := 0#32
  ![v183.toNat, 1920, 0]
def k0_off227 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v192 : Index := Scalar.indexCast v53
  let c0_132 : Index := 0#32
  let c512_133 : Index := 512#32
  ![v192.toNat, 0, 512]
def k0_off228 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v197 : Index := Scalar.indexCast v53
  let c0_134 : Index := 0#32
  let c1920_135 : Index := 1920#32
  ![v197.toNat, 0, 1920]
def k0_off229 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2_i32_266 : BitVec 32 := 2#32
  ![v53.toNat, 2]
def k0_cond15 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v209 : BitVec 32 := Scalar.extui v57
  let c0_i32_138 : BitVec 32 := 0#32
  let v210 : BitVec 1 := Scalar.cmpi .ne v209 c0_i32_138
  v210

def k0_off230 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c512_i32_267 : BitVec 32 := 512#32
  let c0_i32_268 : BitVec 32 := 0#32
  ![v53.toNat, 512, 0]
def k0_off231 (v61 : BitVec 32) : Fin 3 → Nat :=
  let c512_i32_269 : BitVec 32 := 512#32
  let c0_i32_270 : BitVec 32 := 0#32
  ![v61.toNat, 512, 0]
def k0_off232 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1920_i32_272 : BitVec 32 := 1920#32
  let c0_i32_273 : BitVec 32 := 0#32
  ![v53.toNat, 1920, 0]
def k0_off233 (v61 : BitVec 32) : Fin 3 → Nat :=
  let c1920_i32_274 : BitVec 32 := 1920#32
  let c0_i32_275 : BitVec 32 := 0#32
  ![v61.toNat, 1920, 0]
def k0_off234 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c3_i32 : BitVec 32 := 3#32
  ![v53.toNat, 3]
def k0_off235 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c768_i32 : BitVec 32 := 768#32
  let c0_i32_139 : BitVec 32 := 0#32
  ![v53.toNat, 768, 0]
def k0_off236 (v55 : BitVec 32) : Fin 3 → Nat :=
  let c768_i32_140 : BitVec 32 := 768#32
  let c0_i32_141 : BitVec 32 := 0#32
  ![v55.toNat, 768, 0]
def k0_off237 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2176_i32 : BitVec 32 := 2176#32
  let c0_i32_143 : BitVec 32 := 0#32
  ![v53.toNat, 2176, 0]
def k0_off238 (v55 : BitVec 32) : Fin 3 → Nat :=
  let c2176_i32_144 : BitVec 32 := 2176#32
  let c0_i32_145 : BitVec 32 := 0#32
  ![v55.toNat, 2176, 0]
def k0_off239 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v223 : Index := Scalar.indexCast v53
  let c768 : Index := 768#32
  let c0_146 : Index := 0#32
  ![v223.toNat, 768, 0]
def k0_off240 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v226 : Index := Scalar.indexCast v53
  let c2176 : Index := 2176#32
  let c0_147 : Index := 0#32
  ![v226.toNat, 2176, 0]
def k0_off241 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v235 : Index := Scalar.indexCast v53
  let c0_154 : Index := 0#32
  let c768_155 : Index := 768#32
  ![v235.toNat, 0, 768]
def k0_off242 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v240 : Index := Scalar.indexCast v53
  let c0_156 : Index := 0#32
  let c2176_157 : Index := 2176#32
  ![v240.toNat, 0, 2176]
def k0_off243 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c3_i32_266 : BitVec 32 := 3#32
  ![v53.toNat, 3]
def k0_cond16 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v252 : BitVec 32 := Scalar.extui v57
  let c0_i32_160 : BitVec 32 := 0#32
  let v253 : BitVec 1 := Scalar.cmpi .ne v252 c0_i32_160
  v253

def k0_off244 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c768_i32_267 : BitVec 32 := 768#32
  let c0_i32_268 : BitVec 32 := 0#32
  ![v53.toNat, 768, 0]
def k0_off245 (v61 : BitVec 32) : Fin 3 → Nat :=
  let c768_i32_269 : BitVec 32 := 768#32
  let c0_i32_270 : BitVec 32 := 0#32
  ![v61.toNat, 768, 0]
def k0_off246 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2176_i32_272 : BitVec 32 := 2176#32
  let c0_i32_273 : BitVec 32 := 0#32
  ![v53.toNat, 2176, 0]
def k0_off247 (v61 : BitVec 32) : Fin 3 → Nat :=
  let c2176_i32_274 : BitVec 32 := 2176#32
  let c0_i32_275 : BitVec 32 := 0#32
  ![v61.toNat, 2176, 0]
def k0_off248 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c4_i32 : BitVec 32 := 4#32
  ![v53.toNat, 4]
def k0_off249 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1024_i32 : BitVec 32 := 1024#32
  let c0_i32_161 : BitVec 32 := 0#32
  ![v53.toNat, 1024, 0]
def k0_off250 (v55 : BitVec 32) : Fin 3 → Nat :=
  let c1024_i32_162 : BitVec 32 := 1024#32
  let c0_i32_163 : BitVec 32 := 0#32
  ![v55.toNat, 1024, 0]
def k0_off251 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2432_i32 : BitVec 32 := 2432#32
  let c0_i32_165 : BitVec 32 := 0#32
  ![v53.toNat, 2432, 0]
def k0_off252 (v55 : BitVec 32) : Fin 3 → Nat :=
  let c2432_i32_166 : BitVec 32 := 2432#32
  let c0_i32_167 : BitVec 32 := 0#32
  ![v55.toNat, 2432, 0]
def k0_off253 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v266 : Index := Scalar.indexCast v53
  let c1024 : Index := 1024#32
  let c0_168 : Index := 0#32
  ![v266.toNat, 1024, 0]
def k0_off254 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v269 : Index := Scalar.indexCast v53
  let c2432 : Index := 2432#32
  let c0_169 : Index := 0#32
  ![v269.toNat, 2432, 0]
def k0_off255 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v278 : Index := Scalar.indexCast v53
  let c0_176 : Index := 0#32
  let c1024_177 : Index := 1024#32
  ![v278.toNat, 0, 1024]
def k0_off256 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v283 : Index := Scalar.indexCast v53
  let c0_178 : Index := 0#32
  let c2432_179 : Index := 2432#32
  ![v283.toNat, 0, 2432]
def k0_off257 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c4_i32_266 : BitVec 32 := 4#32
  ![v53.toNat, 4]
def k0_cond17 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v295 : BitVec 32 := Scalar.extui v57
  let c0_i32_182 : BitVec 32 := 0#32
  let v296 : BitVec 1 := Scalar.cmpi .ne v295 c0_i32_182
  v296

def k0_off258 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1024_i32_267 : BitVec 32 := 1024#32
  let c0_i32_268 : BitVec 32 := 0#32
  ![v53.toNat, 1024, 0]
def k0_off259 (v61 : BitVec 32) : Fin 3 → Nat :=
  let c1024_i32_269 : BitVec 32 := 1024#32
  let c0_i32_270 : BitVec 32 := 0#32
  ![v61.toNat, 1024, 0]
def k0_off260 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2432_i32_272 : BitVec 32 := 2432#32
  let c0_i32_273 : BitVec 32 := 0#32
  ![v53.toNat, 2432, 0]
def k0_off261 (v61 : BitVec 32) : Fin 3 → Nat :=
  let c2432_i32_274 : BitVec 32 := 2432#32
  let c0_i32_275 : BitVec 32 := 0#32
  ![v61.toNat, 2432, 0]
def k0_off262 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c5_i32 : BitVec 32 := 5#32
  ![v53.toNat, 5]
def k0_off263 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1280_i32 : BitVec 32 := 1280#32
  let c0_i32_183 : BitVec 32 := 0#32
  ![v53.toNat, 1280, 0]
def k0_off264 (v55 : BitVec 32) : Fin 3 → Nat :=
  let c1280_i32_184 : BitVec 32 := 1280#32
  let c0_i32_185 : BitVec 32 := 0#32
  ![v55.toNat, 1280, 0]
def k0_off265 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2688_i32 : BitVec 32 := 2688#32
  let c0_i32_187 : BitVec 32 := 0#32
  ![v53.toNat, 2688, 0]
def k0_off266 (v55 : BitVec 32) : Fin 3 → Nat :=
  let c2688_i32_188 : BitVec 32 := 2688#32
  let c0_i32_189 : BitVec 32 := 0#32
  ![v55.toNat, 2688, 0]
def k0_off267 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v309 : Index := Scalar.indexCast v53
  let c1280 : Index := 1280#32
  let c0_190 : Index := 0#32
  ![v309.toNat, 1280, 0]
def k0_off268 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v312 : Index := Scalar.indexCast v53
  let c2688 : Index := 2688#32
  let c0_191 : Index := 0#32
  ![v312.toNat, 2688, 0]
def k0_off269 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v321 : Index := Scalar.indexCast v53
  let c0_195 : Index := 0#32
  let c1280_196 : Index := 1280#32
  ![v321.toNat, 0, 1280]
def k0_off270 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v326 : Index := Scalar.indexCast v53
  let c0_197 : Index := 0#32
  let c2688_198 : Index := 2688#32
  ![v326.toNat, 0, 2688]
def k0_off271 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c5_i32_266 : BitVec 32 := 5#32
  ![v53.toNat, 5]
def k0_cond18 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v338 : BitVec 32 := Scalar.extui v57
  let c0_i32_201 : BitVec 32 := 0#32
  let v339 : BitVec 1 := Scalar.cmpi .ne v338 c0_i32_201
  v339

def k0_off272 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1280_i32_267 : BitVec 32 := 1280#32
  let c0_i32_268 : BitVec 32 := 0#32
  ![v53.toNat, 1280, 0]
def k0_off273 (v61 : BitVec 32) : Fin 3 → Nat :=
  let c1280_i32_269 : BitVec 32 := 1280#32
  let c0_i32_270 : BitVec 32 := 0#32
  ![v61.toNat, 1280, 0]
def k0_off274 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2688_i32_272 : BitVec 32 := 2688#32
  let c0_i32_273 : BitVec 32 := 0#32
  ![v53.toNat, 2688, 0]
def k0_off275 (v61 : BitVec 32) : Fin 3 → Nat :=
  let c2688_i32_274 : BitVec 32 := 2688#32
  let c0_i32_275 : BitVec 32 := 0#32
  ![v61.toNat, 2688, 0]
def k0_off276 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_202 : BitVec 32 := 0#32
  ![v53.toNat, 0]
def k0_off277 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_203 : BitVec 32 := 0#32
  let c0_i32_204 : BitVec 32 := 0#32
  ![v53.toNat, 0, 0]
def k0_off278 (v55 : BitVec 32) : Fin 3 → Nat :=
  let c0_i32_205 : BitVec 32 := 0#32
  let c0_i32_206 : BitVec 32 := 0#32
  ![v55.toNat, 0, 0]
def k0_off279 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v347 : Index := Scalar.indexCast v53
  let c0_209 : Index := 0#32
  let c0_210 : Index := 0#32
  ![v347.toNat, 0, 0]
def k0_off280 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v352 : Index := Scalar.indexCast v53
  let c0_214 : Index := 0#32
  let c0_215 : Index := 0#32
  ![v352.toNat, 0, 0]
def k0_off281 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_266 : BitVec 32 := 0#32
  ![v53.toNat, 0]
def k0_cond19 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v363 : BitVec 32 := Scalar.extui v57
  let c0_i32_218 : BitVec 32 := 0#32
  let v364 : BitVec 1 := Scalar.cmpi .ne v363 c0_i32_218
  v364

def k0_off282 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_267 : BitVec 32 := 0#32
  let c0_i32_268 : BitVec 32 := 0#32
  ![v53.toNat, 0, 0]
def k0_off283 (v61 : BitVec 32) : Fin 3 → Nat :=
  let c0_i32_269 : BitVec 32 := 0#32
  let c0_i32_270 : BitVec 32 := 0#32
  ![v61.toNat, 0, 0]
def k0_off284 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1_i32_219 : BitVec 32 := 1#32
  ![v53.toNat, 1]
def k0_off285 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1024_i32_220 : BitVec 32 := 1024#32
  let c0_i32_221 : BitVec 32 := 0#32
  ![v53.toNat, 1024, 0]
def k0_off286 (v55 : BitVec 32) : Fin 3 → Nat :=
  let c1024_i32_222 : BitVec 32 := 1024#32
  let c0_i32_223 : BitVec 32 := 0#32
  ![v55.toNat, 1024, 0]
def k0_off287 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v372 : Index := Scalar.indexCast v53
  let c1024_226 : Index := 1024#32
  let c0_227 : Index := 0#32
  ![v372.toNat, 1024, 0]
def k0_off288 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v377 : Index := Scalar.indexCast v53
  let c0_231 : Index := 0#32
  let c1024_232 : Index := 1024#32
  ![v377.toNat, 0, 1024]
def k0_off289 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1_i32_266 : BitVec 32 := 1#32
  ![v53.toNat, 1]
def k0_cond20 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v388 : BitVec 32 := Scalar.extui v57
  let c0_i32_235 : BitVec 32 := 0#32
  let v389 : BitVec 1 := Scalar.cmpi .ne v388 c0_i32_235
  v389

def k0_off290 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c1024_i32_267 : BitVec 32 := 1024#32
  let c0_i32_268 : BitVec 32 := 0#32
  ![v53.toNat, 1024, 0]
def k0_off291 (v61 : BitVec 32) : Fin 3 → Nat :=
  let c1024_i32_269 : BitVec 32 := 1024#32
  let c0_i32_270 : BitVec 32 := 0#32
  ![v61.toNat, 1024, 0]
def k0_off292 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2_i32_236 : BitVec 32 := 2#32
  ![v53.toNat, 2]
def k0_off293 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2048_i32 : BitVec 32 := 2048#32
  let c0_i32_237 : BitVec 32 := 0#32
  ![v53.toNat, 2048, 0]
def k0_off294 (v55 : BitVec 32) : Fin 3 → Nat :=
  let c2048_i32_238 : BitVec 32 := 2048#32
  let c0_i32_239 : BitVec 32 := 0#32
  ![v55.toNat, 2048, 0]
def k0_off295 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v397 : Index := Scalar.indexCast v53
  let c2048 : Index := 2048#32
  let c0_242 : Index := 0#32
  ![v397.toNat, 2048, 0]
def k0_off296 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v402 : Index := Scalar.indexCast v53
  let c0_246 : Index := 0#32
  let c2048_247 : Index := 2048#32
  ![v402.toNat, 0, 2048]
def k0_off297 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2_i32_266 : BitVec 32 := 2#32
  ![v53.toNat, 2]
def k0_cond21 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v413 : BitVec 32 := Scalar.extui v57
  let c0_i32_250 : BitVec 32 := 0#32
  let v414 : BitVec 1 := Scalar.cmpi .ne v413 c0_i32_250
  v414

def k0_off298 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c2048_i32_267 : BitVec 32 := 2048#32
  let c0_i32_268 : BitVec 32 := 0#32
  ![v53.toNat, 2048, 0]
def k0_off299 (v61 : BitVec 32) : Fin 3 → Nat :=
  let c2048_i32_269 : BitVec 32 := 2048#32
  let c0_i32_270 : BitVec 32 := 0#32
  ![v61.toNat, 2048, 0]
def k0_off300 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c3_i32_251 : BitVec 32 := 3#32
  ![v53.toNat, 3]
def k0_off301 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c3072_i32 : BitVec 32 := 3072#32
  let c0_i32_252 : BitVec 32 := 0#32
  ![v53.toNat, 3072, 0]
def k0_off302 (v55 : BitVec 32) : Fin 3 → Nat :=
  let c3072_i32_253 : BitVec 32 := 3072#32
  let c0_i32_254 : BitVec 32 := 0#32
  ![v55.toNat, 3072, 0]

def k0_chk15_0 (v55 : BitVec 32) : Prop :=
  (∀ a, (k0_off188 v55) a + S1x256x4096.size a ≤ S32x2816x4096.size a) ∧
  (∀ (hinb : ∀ a, (k0_off188 v55) a + S1x256x4096.size a ≤ S32x2816x4096.size a), (Rect.unit (s := S32x2816x4096) (k0_off188 v55) S1x256x4096.size hinb).WholeWords (EltTy.packing .fp8e4m3)) ∧
  (∀ a, (k0_off191 v55) a + S1x256x4096.size a ≤ S32x2816x4096.size a) ∧
  (∀ (hinb : ∀ a, (k0_off191 v55) a + S1x256x4096.size a ≤ S32x2816x4096.size a), (Rect.unit (s := S32x2816x4096) (k0_off191 v55) S1x256x4096.size hinb).WholeWords (EltTy.packing .fp8e4m3)) ∧
  (∀ a, (k0_off193 v55) a + S1x2816.size a ≤ S32x2816.size a) ∧
  (∀ a, (k0_off195 v55) a + S1x4096.size a ≤ S32x4096.size a) ∧
  (∀ a, (k0_off208 v55) a + S1x256x4096.size a ≤ S32x2816x4096.size a) ∧
  (∀ (hinb : ∀ a, (k0_off208 v55) a + S1x256x4096.size a ≤ S32x2816x4096.size a), (Rect.unit (s := S32x2816x4096) (k0_off208 v55) S1x256x4096.size hinb).WholeWords (EltTy.packing .fp8e4m3)) ∧
  (∀ a, (k0_off210 v55) a + S1x256x4096.size a ≤ S32x2816x4096.size a) ∧
  (∀ (hinb : ∀ a, (k0_off210 v55) a + S1x256x4096.size a ≤ S32x2816x4096.size a), (Rect.unit (s := S32x2816x4096) (k0_off210 v55) S1x256x4096.size hinb).WholeWords (EltTy.packing .fp8e4m3)) ∧
  (∀ a, (k0_off222 v55) a + S1x256x4096.size a ≤ S32x2816x4096.size a) ∧
  (∀ (hinb : ∀ a, (k0_off222 v55) a + S1x256x4096.size a ≤ S32x2816x4096.size a), (Rect.unit (s := S32x2816x4096) (k0_off222 v55) S1x256x4096.size hinb).WholeWords (EltTy.packing .fp8e4m3)) ∧
  (∀ a, (k0_off224 v55) a + S1x256x4096.size a ≤ S32x2816x4096.size a) ∧
  (∀ (hinb : ∀ a, (k0_off224 v55) a + S1x256x4096.size a ≤ S32x2816x4096.size a), (Rect.unit (s := S32x2816x4096) (k0_off224 v55) S1x256x4096.size hinb).WholeWords (EltTy.packing .fp8e4m3)) ∧
  (∀ a, (k0_off236 v55) a + S1x256x4096.size a ≤ S32x2816x4096.size a) ∧
  (∀ (hinb : ∀ a, (k0_off236 v55) a + S1x256x4096.size a ≤ S32x2816x4096.size a), (Rect.unit (s := S32x2816x4096) (k0_off236 v55) S1x256x4096.size hinb).WholeWords (EltTy.packing .fp8e4m3)) ∧
  (∀ a, (k0_off238 v55) a + S1x256x4096.size a ≤ S32x2816x4096.size a) ∧
  (∀ (hinb : ∀ a, (k0_off238 v55) a + S1x256x4096.size a ≤ S32x2816x4096.size a), (Rect.unit (s := S32x2816x4096) (k0_off238 v55) S1x256x4096.size hinb).WholeWords (EltTy.packing .fp8e4m3)) ∧
  (∀ a, (k0_off250 v55) a + S1x256x4096.size a ≤ S32x2816x4096.size a) ∧
  (∀ (hinb : ∀ a, (k0_off250 v55) a + S1x256x4096.size a ≤ S32x2816x4096.size a), (Rect.unit (s := S32x2816x4096) (k0_off250 v55) S1x256x4096.size hinb).WholeWords (EltTy.packing .fp8e4m3)) ∧
  (∀ a, (k0_off252 v55) a + S1x256x4096.size a ≤ S32x2816x4096.size a) ∧
  (∀ (hinb : ∀ a, (k0_off252 v55) a + S1x256x4096.size a ≤ S32x2816x4096.size a), (Rect.unit (s := S32x2816x4096) (k0_off252 v55) S1x256x4096.size hinb).WholeWords (EltTy.packing .fp8e4m3)) ∧
  (∀ a, (k0_off264 v55) a + S1x128x4096.size a ≤ S32x2816x4096.size a) ∧
  (∀ (hinb : ∀ a, (k0_off264 v55) a + S1x128x4096.size a ≤ S32x2816x4096.size a), (Rect.unit (s := S32x2816x4096) (k0_off264 v55) S1x128x4096.size hinb).WholeWords (EltTy.packing .fp8e4m3)) ∧
  (∀ a, (k0_off266 v55) a + S1x128x4096.size a ≤ S32x2816x4096.size a) ∧
  (∀ (hinb : ∀ a, (k0_off266 v55) a + S1x128x4096.size a ≤ S32x2816x4096.size a), (Rect.unit (s := S32x2816x4096) (k0_off266 v55) S1x128x4096.size hinb).WholeWords (EltTy.packing .fp8e4m3)) ∧
  (∀ a, (k0_off278 v55) a + S1x1024x1408.size a ≤ S32x4096x1408.size a) ∧
  (∀ (hinb : ∀ a, (k0_off278 v55) a + S1x1024x1408.size a ≤ S32x4096x1408.size a), (Rect.unit (s := S32x4096x1408) (k0_off278 v55) S1x1024x1408.size hinb).WholeWords (EltTy.packing .fp8e4m3)) ∧
  (∀ a, (k0_off286 v55) a + S1x1024x1408.size a ≤ S32x4096x1408.size a) ∧
  (∀ (hinb : ∀ a, (k0_off286 v55) a + S1x1024x1408.size a ≤ S32x4096x1408.size a), (Rect.unit (s := S32x4096x1408) (k0_off286 v55) S1x1024x1408.size hinb).WholeWords (EltTy.packing .fp8e4m3)) ∧
  (∀ a, (k0_off294 v55) a + S1x1024x1408.size a ≤ S32x4096x1408.size a) ∧
  (∀ (hinb : ∀ a, (k0_off294 v55) a + S1x1024x1408.size a ≤ S32x4096x1408.size a), (Rect.unit (s := S32x4096x1408) (k0_off294 v55) S1x1024x1408.size hinb).WholeWords (EltTy.packing .fp8e4m3))
def k0_chk15_1 (v55 : BitVec 32) : Prop :=
  (∀ a, (k0_off302 v55) a + S1x1024x1408.size a ≤ S32x4096x1408.size a) ∧
  (∀ (hinb : ∀ a, (k0_off302 v55) a + S1x1024x1408.size a ≤ S32x4096x1408.size a), (Rect.unit (s := S32x4096x1408) (k0_off302 v55) S1x1024x1408.size hinb).WholeWords (EltTy.packing .fp8e4m3))
def k0_chk15 (v55 : BitVec 32) : Prop :=
  k0_chk15_0 v55 ∧
  k0_chk15_1 v55
theorem k0_off188_inb : ∀ (v55 : BitVec 32) (k0_hw15 : k0_chk15 v55), ∀ a, (k0_off188 v55) a + S1x256x4096.size a ≤ S32x2816x4096.size a := fun v55 k0_hw15 => k0_hw15.1.1
theorem k0_off188_wordsfp8e4m3 : ∀ (v55 : BitVec 32) (k0_hw15 : k0_chk15 v55), (Rect.unit (s := S32x2816x4096) (k0_off188 v55) S1x256x4096.size (k0_off188_inb v55 k0_hw15)).WholeWords (EltTy.packing .fp8e4m3) := fun v55 k0_hw15 => k0_hw15.1.2.1 (k0_off188_inb v55 k0_hw15)
theorem k0_off191_inb : ∀ (v55 : BitVec 32) (k0_hw15 : k0_chk15 v55), ∀ a, (k0_off191 v55) a + S1x256x4096.size a ≤ S32x2816x4096.size a := fun v55 k0_hw15 => k0_hw15.1.2.2.1
theorem k0_off191_wordsfp8e4m3 : ∀ (v55 : BitVec 32) (k0_hw15 : k0_chk15 v55), (Rect.unit (s := S32x2816x4096) (k0_off191 v55) S1x256x4096.size (k0_off191_inb v55 k0_hw15)).WholeWords (EltTy.packing .fp8e4m3) := fun v55 k0_hw15 => k0_hw15.1.2.2.2.1 (k0_off191_inb v55 k0_hw15)
theorem k0_off193_inb : ∀ (v55 : BitVec 32) (k0_hw15 : k0_chk15 v55), ∀ a, (k0_off193 v55) a + S1x2816.size a ≤ S32x2816.size a := fun v55 k0_hw15 => k0_hw15.1.2.2.2.2.1
theorem k0_off195_inb : ∀ (v55 : BitVec 32) (k0_hw15 : k0_chk15 v55), ∀ a, (k0_off195 v55) a + S1x4096.size a ≤ S32x4096.size a := fun v55 k0_hw15 => k0_hw15.1.2.2.2.2.2.1
theorem k0_off208_inb : ∀ (v55 : BitVec 32) (k0_hw15 : k0_chk15 v55), ∀ a, (k0_off208 v55) a + S1x256x4096.size a ≤ S32x2816x4096.size a := fun v55 k0_hw15 => k0_hw15.1.2.2.2.2.2.2.1
theorem k0_off208_wordsfp8e4m3 : ∀ (v55 : BitVec 32) (k0_hw15 : k0_chk15 v55), (Rect.unit (s := S32x2816x4096) (k0_off208 v55) S1x256x4096.size (k0_off208_inb v55 k0_hw15)).WholeWords (EltTy.packing .fp8e4m3) := fun v55 k0_hw15 => k0_hw15.1.2.2.2.2.2.2.2.1 (k0_off208_inb v55 k0_hw15)
theorem k0_off210_inb : ∀ (v55 : BitVec 32) (k0_hw15 : k0_chk15 v55), ∀ a, (k0_off210 v55) a + S1x256x4096.size a ≤ S32x2816x4096.size a := fun v55 k0_hw15 => k0_hw15.1.2.2.2.2.2.2.2.2.1
theorem k0_off210_wordsfp8e4m3 : ∀ (v55 : BitVec 32) (k0_hw15 : k0_chk15 v55), (Rect.unit (s := S32x2816x4096) (k0_off210 v55) S1x256x4096.size (k0_off210_inb v55 k0_hw15)).WholeWords (EltTy.packing .fp8e4m3) := fun v55 k0_hw15 => k0_hw15.1.2.2.2.2.2.2.2.2.2.1 (k0_off210_inb v55 k0_hw15)
theorem k0_off222_inb : ∀ (v55 : BitVec 32) (k0_hw15 : k0_chk15 v55), ∀ a, (k0_off222 v55) a + S1x256x4096.size a ≤ S32x2816x4096.size a := fun v55 k0_hw15 => k0_hw15.1.2.2.2.2.2.2.2.2.2.2.1
theorem k0_off222_wordsfp8e4m3 : ∀ (v55 : BitVec 32) (k0_hw15 : k0_chk15 v55), (Rect.unit (s := S32x2816x4096) (k0_off222 v55) S1x256x4096.size (k0_off222_inb v55 k0_hw15)).WholeWords (EltTy.packing .fp8e4m3) := fun v55 k0_hw15 => k0_hw15.1.2.2.2.2.2.2.2.2.2.2.2.1 (k0_off222_inb v55 k0_hw15)
theorem k0_off224_inb : ∀ (v55 : BitVec 32) (k0_hw15 : k0_chk15 v55), ∀ a, (k0_off224 v55) a + S1x256x4096.size a ≤ S32x2816x4096.size a := fun v55 k0_hw15 => k0_hw15.1.2.2.2.2.2.2.2.2.2.2.2.2.1
theorem k0_off224_wordsfp8e4m3 : ∀ (v55 : BitVec 32) (k0_hw15 : k0_chk15 v55), (Rect.unit (s := S32x2816x4096) (k0_off224 v55) S1x256x4096.size (k0_off224_inb v55 k0_hw15)).WholeWords (EltTy.packing .fp8e4m3) := fun v55 k0_hw15 => k0_hw15.1.2.2.2.2.2.2.2.2.2.2.2.2.2.1 (k0_off224_inb v55 k0_hw15)
theorem k0_off236_inb : ∀ (v55 : BitVec 32) (k0_hw15 : k0_chk15 v55), ∀ a, (k0_off236 v55) a + S1x256x4096.size a ≤ S32x2816x4096.size a := fun v55 k0_hw15 => k0_hw15.1.2.2.2.2.2.2.2.2.2.2.2.2.2.2.1
theorem k0_off236_wordsfp8e4m3 : ∀ (v55 : BitVec 32) (k0_hw15 : k0_chk15 v55), (Rect.unit (s := S32x2816x4096) (k0_off236 v55) S1x256x4096.size (k0_off236_inb v55 k0_hw15)).WholeWords (EltTy.packing .fp8e4m3) := fun v55 k0_hw15 => k0_hw15.1.2.2.2.2.2.2.2.2.2.2.2.2.2.2.2.1 (k0_off236_inb v55 k0_hw15)
theorem k0_off238_inb : ∀ (v55 : BitVec 32) (k0_hw15 : k0_chk15 v55), ∀ a, (k0_off238 v55) a + S1x256x4096.size a ≤ S32x2816x4096.size a := fun v55 k0_hw15 => k0_hw15.1.2.2.2.2.2.2.2.2.2.2.2.2.2.2.2.2.1
theorem k0_off238_wordsfp8e4m3 : ∀ (v55 : BitVec 32) (k0_hw15 : k0_chk15 v55), (Rect.unit (s := S32x2816x4096) (k0_off238 v55) S1x256x4096.size (k0_off238_inb v55 k0_hw15)).WholeWords (EltTy.packing .fp8e4m3) := fun v55 k0_hw15 => k0_hw15.1.2.2.2.2.2.2.2.2.2.2.2.2.2.2.2.2.2.1 (k0_off238_inb v55 k0_hw15)
theorem k0_off250_inb : ∀ (v55 : BitVec 32) (k0_hw15 : k0_chk15 v55), ∀ a, (k0_off250 v55) a + S1x256x4096.size a ≤ S32x2816x4096.size a := fun v55 k0_hw15 => k0_hw15.1.2.2.2.2.2.2.2.2.2.2.2.2.2.2.2.2.2.2.1
theorem k0_off250_wordsfp8e4m3 : ∀ (v55 : BitVec 32) (k0_hw15 : k0_chk15 v55), (Rect.unit (s := S32x2816x4096) (k0_off250 v55) S1x256x4096.size (k0_off250_inb v55 k0_hw15)).WholeWords (EltTy.packing .fp8e4m3) := fun v55 k0_hw15 => k0_hw15.1.2.2.2.2.2.2.2.2.2.2.2.2.2.2.2.2.2.2.2.1 (k0_off250_inb v55 k0_hw15)
theorem k0_off252_inb : ∀ (v55 : BitVec 32) (k0_hw15 : k0_chk15 v55), ∀ a, (k0_off252 v55) a + S1x256x4096.size a ≤ S32x2816x4096.size a := fun v55 k0_hw15 => k0_hw15.1.2.2.2.2.2.2.2.2.2.2.2.2.2.2.2.2.2.2.2.2.1
theorem k0_off252_wordsfp8e4m3 : ∀ (v55 : BitVec 32) (k0_hw15 : k0_chk15 v55), (Rect.unit (s := S32x2816x4096) (k0_off252 v55) S1x256x4096.size (k0_off252_inb v55 k0_hw15)).WholeWords (EltTy.packing .fp8e4m3) := fun v55 k0_hw15 => k0_hw15.1.2.2.2.2.2.2.2.2.2.2.2.2.2.2.2.2.2.2.2.2.2.1 (k0_off252_inb v55 k0_hw15)
theorem k0_off264_inb : ∀ (v55 : BitVec 32) (k0_hw15 : k0_chk15 v55), ∀ a, (k0_off264 v55) a + S1x128x4096.size a ≤ S32x2816x4096.size a := fun v55 k0_hw15 => k0_hw15.1.2.2.2.2.2.2.2.2.2.2.2.2.2.2.2.2.2.2.2.2.2.2.1
theorem k0_off264_wordsfp8e4m3 : ∀ (v55 : BitVec 32) (k0_hw15 : k0_chk15 v55), (Rect.unit (s := S32x2816x4096) (k0_off264 v55) S1x128x4096.size (k0_off264_inb v55 k0_hw15)).WholeWords (EltTy.packing .fp8e4m3) := fun v55 k0_hw15 => k0_hw15.1.2.2.2.2.2.2.2.2.2.2.2.2.2.2.2.2.2.2.2.2.2.2.2.1 (k0_off264_inb v55 k0_hw15)
theorem k0_off266_inb : ∀ (v55 : BitVec 32) (k0_hw15 : k0_chk15 v55), ∀ a, (k0_off266 v55) a + S1x128x4096.size a ≤ S32x2816x4096.size a := fun v55 k0_hw15 => k0_hw15.1.2.2.2.2.2.2.2.2.2.2.2.2.2.2.2.2.2.2.2.2.2.2.2.2.1
theorem k0_off266_wordsfp8e4m3 : ∀ (v55 : BitVec 32) (k0_hw15 : k0_chk15 v55), (Rect.unit (s := S32x2816x4096) (k0_off266 v55) S1x128x4096.size (k0_off266_inb v55 k0_hw15)).WholeWords (EltTy.packing .fp8e4m3) := fun v55 k0_hw15 => k0_hw15.1.2.2.2.2.2.2.2.2.2.2.2.2.2.2.2.2.2.2.2.2.2.2.2.2.2.1 (k0_off266_inb v55 k0_hw15)
theorem k0_off278_inb : ∀ (v55 : BitVec 32) (k0_hw15 : k0_chk15 v55), ∀ a, (k0_off278 v55) a + S1x1024x1408.size a ≤ S32x4096x1408.size a := fun v55 k0_hw15 => k0_hw15.1.2.2.2.2.2.2.2.2.2.2.2.2.2.2.2.2.2.2.2.2.2.2.2.2.2.2.1
theorem k0_off278_wordsfp8e4m3 : ∀ (v55 : BitVec 32) (k0_hw15 : k0_chk15 v55), (Rect.unit (s := S32x4096x1408) (k0_off278 v55) S1x1024x1408.size (k0_off278_inb v55 k0_hw15)).WholeWords (EltTy.packing .fp8e4m3) := fun v55 k0_hw15 => k0_hw15.1.2.2.2.2.2.2.2.2.2.2.2.2.2.2.2.2.2.2.2.2.2.2.2.2.2.2.2.1 (k0_off278_inb v55 k0_hw15)
theorem k0_off286_inb : ∀ (v55 : BitVec 32) (k0_hw15 : k0_chk15 v55), ∀ a, (k0_off286 v55) a + S1x1024x1408.size a ≤ S32x4096x1408.size a := fun v55 k0_hw15 => k0_hw15.1.2.2.2.2.2.2.2.2.2.2.2.2.2.2.2.2.2.2.2.2.2.2.2.2.2.2.2.2.1
theorem k0_off286_wordsfp8e4m3 : ∀ (v55 : BitVec 32) (k0_hw15 : k0_chk15 v55), (Rect.unit (s := S32x4096x1408) (k0_off286 v55) S1x1024x1408.size (k0_off286_inb v55 k0_hw15)).WholeWords (EltTy.packing .fp8e4m3) := fun v55 k0_hw15 => k0_hw15.1.2.2.2.2.2.2.2.2.2.2.2.2.2.2.2.2.2.2.2.2.2.2.2.2.2.2.2.2.2.1 (k0_off286_inb v55 k0_hw15)
theorem k0_off294_inb : ∀ (v55 : BitVec 32) (k0_hw15 : k0_chk15 v55), ∀ a, (k0_off294 v55) a + S1x1024x1408.size a ≤ S32x4096x1408.size a := fun v55 k0_hw15 => k0_hw15.1.2.2.2.2.2.2.2.2.2.2.2.2.2.2.2.2.2.2.2.2.2.2.2.2.2.2.2.2.2.2.1
theorem k0_off294_wordsfp8e4m3 : ∀ (v55 : BitVec 32) (k0_hw15 : k0_chk15 v55), (Rect.unit (s := S32x4096x1408) (k0_off294 v55) S1x1024x1408.size (k0_off294_inb v55 k0_hw15)).WholeWords (EltTy.packing .fp8e4m3) := fun v55 k0_hw15 => k0_hw15.1.2.2.2.2.2.2.2.2.2.2.2.2.2.2.2.2.2.2.2.2.2.2.2.2.2.2.2.2.2.2.2 (k0_off294_inb v55 k0_hw15)
theorem k0_off302_inb : ∀ (v55 : BitVec 32) (k0_hw15 : k0_chk15 v55), ∀ a, (k0_off302 v55) a + S1x1024x1408.size a ≤ S32x4096x1408.size a := fun v55 k0_hw15 => k0_hw15.2.1
theorem k0_off302_wordsfp8e4m3 : ∀ (v55 : BitVec 32) (k0_hw15 : k0_chk15 v55), (Rect.unit (s := S32x4096x1408) (k0_off302 v55) S1x1024x1408.size (k0_off302_inb v55 k0_hw15)).WholeWords (EltTy.packing .fp8e4m3) := fun v55 k0_hw15 => k0_hw15.2.2 (k0_off302_inb v55 k0_hw15)

def k0_off303 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v422 : Index := Scalar.indexCast v53
  let c3072 : Index := 3072#32
  let c0_257 : Index := 0#32
  ![v422.toNat, 3072, 0]
def k0_off304 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let v427 : Index := Scalar.indexCast v53
  let c0_261 : Index := 0#32
  let c3072_262 : Index := 3072#32
  ![v427.toNat, 0, 3072]
def k0_off305 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c3_i32_266 : BitVec 32 := 3#32
  ![v53.toNat, 3]
def k0_cond22 (v34 : BitVec 32) (k0_t4 : Fin (k0_t4_loop v34).trips) : BitVec 1 :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32_52 : BitVec 32 := 2#32
  let v56 : BitVec 32 := Scalar.addi arg19 c2_i32_52
  let v57 : BitVec 1 := Scalar.cmpi .slt v56 v34
  let v438 : BitVec 32 := Scalar.extui v57
  let c0_i32_265 : BitVec 32 := 0#32
  let v439 : BitVec 1 := Scalar.cmpi .ne v438 c0_i32_265
  v439

def k0_off306 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c3072_i32_267 : BitVec 32 := 3072#32
  let c0_i32_268 : BitVec 32 := 0#32
  ![v53.toNat, 3072, 0]
def k0_off307 (v61 : BitVec 32) : Fin 3 → Nat :=
  let c3072_i32_269 : BitVec 32 := 3072#32
  let c0_i32_270 : BitVec 32 := 0#32
  ![v61.toNat, 3072, 0]
def k0_off308 (v34 : BitVec 32) (k0_t4 : Fin (k0_t4_loop v34).trips) : Fin 2 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_271 : BitVec 32 := 0#32
  ![v53.toNat, 0]
def k0_off309 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_272 : BitVec 32 := 0#32
  let c0_i32_273 : BitVec 32 := 0#32
  ![v53.toNat, 0, 0]
def k0_off310 (v61 : BitVec 32) : Fin 2 → Nat :=
  let c0_i32_274 : BitVec 32 := 0#32
  ![v61.toNat, 0]
def k0_off311 (v34 : BitVec 32) (k0_t4 : Fin (k0_t4_loop v34).trips) : Fin 3 → Nat :=
  let c0_i32_44 : BitVec 32 := 0#32
  let v45 : BitVec 32 := Scalar.subi v34 c0_i32_44
  let c1_i32_45 : BitVec 32 := 1#32
  let v47 : BitVec 32 := Scalar.divsi v45 c1_i32_45
  let v48 : BitVec 32 := Scalar.muli v47 c1_i32_45
  let v49 : BitVec 32 := Scalar.addi c0_i32_44 v48
  let c1_i32_47 : BitVec 32 := 1#32
  let arg19 : BitVec 32 := Scf.iv v49 c1_i32_47 k0_t4
  let c2_i32 : BitVec 32 := 2#32
  let v53 : BitVec 32 := Scalar.remsi arg19 c2_i32
  let c0_i32_276 : BitVec 32 := 0#32
  let c0_i32_277 : BitVec 32 := 0#32
  ![v53.toNat, 0, 0]

def k0_chk12_0 (v34 : BitVec 32) : Prop :=
  ((k0_t3_loop v34).OK) ∧
  (∀ k0_t3 : Fin (k0_t3_loop v34).trips, ∀ a, (k0_off55 v34 k0_t3) a + S1.size a ≤ S33.size a) ∧
  (∀ k0_t3 : Fin (k0_t3_loop v34).trips, ∀ a, (k0_off56 v34 k0_t3) a + S1.size a ≤ S33.size a) ∧
  (∀ k0_t3 : Fin (k0_t3_loop v34).trips, ∀ a, (k0_off57 v34 k0_t3) a + S1x1.size a ≤ S2x6.size a) ∧
  (∀ k0_t3 : Fin (k0_t3_loop v34).trips, ∀ a, (k0_off58 v34 k0_t3) a + S1x256x4096.size a ≤ S2x2816x4096.size a) ∧
  (∀ k0_t3 : Fin (k0_t3_loop v34).trips, ∀ (hinb : ∀ a, (k0_off58 v34 k0_t3) a + S1x256x4096.size a ≤ S2x2816x4096.size a), (Rect.unit (s := S2x2816x4096) (k0_off58 v34 k0_t3) S1x256x4096.size hinb).WholeWords (EltTy.packing .fp8e4m3)) ∧
  (∀ k0_t3 : Fin (k0_t3_loop v34).trips, ∀ a, (k0_off60 v34 k0_t3) a + S1x1.size a ≤ S2x6.size a) ∧
  (∀ k0_t3 : Fin (k0_t3_loop v34).trips, ∀ a, (k0_off61 v34 k0_t3) a + S1x256x4096.size a ≤ S2x2816x4096.size a) ∧
  (∀ k0_t3 : Fin (k0_t3_loop v34).trips, ∀ (hinb : ∀ a, (k0_off61 v34 k0_t3) a + S1x256x4096.size a ≤ S2x2816x4096.size a), (Rect.unit (s := S2x2816x4096) (k0_off61 v34 k0_t3) S1x256x4096.size hinb).WholeWords (EltTy.packing .fp8e4m3)) ∧
  (∀ k0_t3 : Fin (k0_t3_loop v34).trips, ∀ a, (k0_off63 v34 k0_t3) a + S1x1x2816.size a ≤ S2x1x2816.size a) ∧
  (∀ k0_t3 : Fin (k0_t3_loop v34).trips, ∀ a, (k0_off65 v34 k0_t3) a + S1x1x4096.size a ≤ S2x1x4096.size a) ∧
  (∀ k0_t3 : Fin (k0_t3_loop v34).trips, ∀ a, (k0_off67 v34 k0_t3) a + S1x256x4096.size a ≤ S2x2816x4096.size a) ∧
  (∀ k0_t3 : Fin (k0_t3_loop v34).trips, ∀ a, (k0_off68 v34 k0_t3) a + S1x256x4096.size a ≤ S2x2816x4096.size a) ∧
  (∀ k0_t3 : Fin (k0_t3_loop v34).trips, ∀ a, (k0_off69 v34 k0_t3) a + S1x1x256.size a ≤ S2x1x2816.size a) ∧
  (∀ k0_t3 : Fin (k0_t3_loop v34).trips, ∀ a, (k0_off70 v34 k0_t3) a + S1x1x256.size a ≤ S2x1x2816.size a) ∧
  (∀ k0_t3 : Fin (k0_t3_loop v34).trips, ∀ (k0_h3 : k0_cond3 v34 k0_t3 = 1#1), ∀ a, (k0_off71 v34 k0_t3) a + S1x1.size a ≤ S2x6.size a) ∧
  (∀ k0_t3 : Fin (k0_t3_loop v34).trips, ∀ (k0_h3 : k0_cond3 v34 k0_t3 = 1#1), ∀ a, (k0_off72 v34 k0_t3) a + S1x256x4096.size a ≤ S2x2816x4096.size a) ∧
  (∀ k0_t3 : Fin (k0_t3_loop v34).trips, ∀ (k0_h3 : k0_cond3 v34 k0_t3 = 1#1), ∀ (hinb : ∀ a, (k0_off72 v34 k0_t3) a + S1x256x4096.size a ≤ S2x2816x4096.size a), (Rect.unit (s := S2x2816x4096) (k0_off72 v34 k0_t3) S1x256x4096.size hinb).WholeWords (EltTy.packing .fp8e4m3)) ∧
  (∀ k0_t3 : Fin (k0_t3_loop v34).trips, ∀ (k0_h3 : k0_cond3 v34 k0_t3 = 1#1), ∀ a, (k0_off74 v34 k0_t3) a + S1x1.size a ≤ S2x6.size a) ∧
  (∀ k0_t3 : Fin (k0_t3_loop v34).trips, ∀ (k0_h3 : k0_cond3 v34 k0_t3 = 1#1), ∀ a, (k0_off75 v34 k0_t3) a + S1x256x4096.size a ≤ S2x2816x4096.size a) ∧
  (∀ k0_t3 : Fin (k0_t3_loop v34).trips, ∀ (k0_h3 : k0_cond3 v34 k0_t3 = 1#1), ∀ (hinb : ∀ a, (k0_off75 v34 k0_t3) a + S1x256x4096.size a ≤ S2x2816x4096.size a), (Rect.unit (s := S2x2816x4096) (k0_off75 v34 k0_t3) S1x256x4096.size hinb).WholeWords (EltTy.packing .fp8e4m3)) ∧
  (∀ k0_t3 : Fin (k0_t3_loop v34).trips, ∀ a, (k0_off77 v34 k0_t3) a + S1x1.size a ≤ S2x6.size a) ∧
  (∀ k0_t3 : Fin (k0_t3_loop v34).trips, ∀ a, (k0_off78 v34 k0_t3) a + S1x256x4096.size a ≤ S2x2816x4096.size a) ∧
  (∀ k0_t3 : Fin (k0_t3_loop v34).trips, ∀ (hinb : ∀ a, (k0_off78 v34 k0_t3) a + S1x256x4096.size a ≤ S2x2816x4096.size a), (Rect.unit (s := S2x2816x4096) (k0_off78 v34 k0_t3) S1x256x4096.size hinb).WholeWords (EltTy.packing .fp8e4m3)) ∧
  (∀ k0_t3 : Fin (k0_t3_loop v34).trips, ∀ a, (k0_off80 v34 k0_t3) a + S1x256x4096.size a ≤ S2x2816x4096.size a) ∧
  (∀ k0_t3 : Fin (k0_t3_loop v34).trips, ∀ (hinb : ∀ a, (k0_off80 v34 k0_t3) a + S1x256x4096.size a ≤ S2x2816x4096.size a), (Rect.unit (s := S2x2816x4096) (k0_off80 v34 k0_t3) S1x256x4096.size hinb).WholeWords (EltTy.packing .fp8e4m3)) ∧
  (∀ k0_t3 : Fin (k0_t3_loop v34).trips, ∀ a, (k0_off82 v34 k0_t3) a + S1x256x4096.size a ≤ S2x2816x4096.size a) ∧
  (∀ k0_t3 : Fin (k0_t3_loop v34).trips, ∀ a, (k0_off83 v34 k0_t3) a + S1x256x4096.size a ≤ S2x2816x4096.size a) ∧
  (∀ k0_t3 : Fin (k0_t3_loop v34).trips, ∀ a, (k0_off84 v34 k0_t3) a + S1x1x256.size a ≤ S2x1x2816.size a) ∧
  (∀ k0_t3 : Fin (k0_t3_loop v34).trips, ∀ a, (k0_off85 v34 k0_t3) a + S1x1x256.size a ≤ S2x1x2816.size a) ∧
  (∀ k0_t3 : Fin (k0_t3_loop v34).trips, ∀ (k0_h4 : k0_cond4 v34 k0_t3 = 1#1), ∀ a, (k0_off86 v34 k0_t3) a + S1x1.size a ≤ S2x6.size a) ∧
  (∀ k0_t3 : Fin (k0_t3_loop v34).trips, ∀ (k0_h4 : k0_cond4 v34 k0_t3 = 1#1), ∀ a, (k0_off87 v34 k0_t3) a + S1x256x4096.size a ≤ S2x2816x4096.size a)
def k0_chk12_1 (v34 : BitVec 32) : Prop :=
  (∀ k0_t3 : Fin (k0_t3_loop v34).trips, ∀ (k0_h4 : k0_cond4 v34 k0_t3 = 1#1), ∀ (hinb : ∀ a, (k0_off87 v34 k0_t3) a + S1x256x4096.size a ≤ S2x2816x4096.size a), (Rect.unit (s := S2x2816x4096) (k0_off87 v34 k0_t3) S1x256x4096.size hinb).WholeWords (EltTy.packing .fp8e4m3)) ∧
  (∀ k0_t3 : Fin (k0_t3_loop v34).trips, ∀ (k0_h4 : k0_cond4 v34 k0_t3 = 1#1), ∀ a, (k0_off89 v34 k0_t3) a + S1x256x4096.size a ≤ S2x2816x4096.size a) ∧
  (∀ k0_t3 : Fin (k0_t3_loop v34).trips, ∀ (k0_h4 : k0_cond4 v34 k0_t3 = 1#1), ∀ (hinb : ∀ a, (k0_off89 v34 k0_t3) a + S1x256x4096.size a ≤ S2x2816x4096.size a), (Rect.unit (s := S2x2816x4096) (k0_off89 v34 k0_t3) S1x256x4096.size hinb).WholeWords (EltTy.packing .fp8e4m3)) ∧
  (∀ k0_t3 : Fin (k0_t3_loop v34).trips, ∀ a, (k0_off91 v34 k0_t3) a + S1x1.size a ≤ S2x6.size a) ∧
  (∀ k0_t3 : Fin (k0_t3_loop v34).trips, ∀ a, (k0_off92 v34 k0_t3) a + S1x256x4096.size a ≤ S2x2816x4096.size a) ∧
  (∀ k0_t3 : Fin (k0_t3_loop v34).trips, ∀ (hinb : ∀ a, (k0_off92 v34 k0_t3) a + S1x256x4096.size a ≤ S2x2816x4096.size a), (Rect.unit (s := S2x2816x4096) (k0_off92 v34 k0_t3) S1x256x4096.size hinb).WholeWords (EltTy.packing .fp8e4m3)) ∧
  (∀ k0_t3 : Fin (k0_t3_loop v34).trips, ∀ a, (k0_off94 v34 k0_t3) a + S1x256x4096.size a ≤ S2x2816x4096.size a) ∧
  (∀ k0_t3 : Fin (k0_t3_loop v34).trips, ∀ (hinb : ∀ a, (k0_off94 v34 k0_t3) a + S1x256x4096.size a ≤ S2x2816x4096.size a), (Rect.unit (s := S2x2816x4096) (k0_off94 v34 k0_t3) S1x256x4096.size hinb).WholeWords (EltTy.packing .fp8e4m3)) ∧
  (∀ k0_t3 : Fin (k0_t3_loop v34).trips, ∀ a, (k0_off96 v34 k0_t3) a + S1x256x4096.size a ≤ S2x2816x4096.size a) ∧
  (∀ k0_t3 : Fin (k0_t3_loop v34).trips, ∀ a, (k0_off97 v34 k0_t3) a + S1x256x4096.size a ≤ S2x2816x4096.size a) ∧
  (∀ k0_t3 : Fin (k0_t3_loop v34).trips, ∀ a, (k0_off98 v34 k0_t3) a + S1x1x256.size a ≤ S2x1x2816.size a) ∧
  (∀ k0_t3 : Fin (k0_t3_loop v34).trips, ∀ a, (k0_off99 v34 k0_t3) a + S1x1x256.size a ≤ S2x1x2816.size a) ∧
  (∀ k0_t3 : Fin (k0_t3_loop v34).trips, ∀ (k0_h5 : k0_cond5 v34 k0_t3 = 1#1), ∀ a, (k0_off100 v34 k0_t3) a + S1x1.size a ≤ S2x6.size a) ∧
  (∀ k0_t3 : Fin (k0_t3_loop v34).trips, ∀ (k0_h5 : k0_cond5 v34 k0_t3 = 1#1), ∀ a, (k0_off101 v34 k0_t3) a + S1x256x4096.size a ≤ S2x2816x4096.size a) ∧
  (∀ k0_t3 : Fin (k0_t3_loop v34).trips, ∀ (k0_h5 : k0_cond5 v34 k0_t3 = 1#1), ∀ (hinb : ∀ a, (k0_off101 v34 k0_t3) a + S1x256x4096.size a ≤ S2x2816x4096.size a), (Rect.unit (s := S2x2816x4096) (k0_off101 v34 k0_t3) S1x256x4096.size hinb).WholeWords (EltTy.packing .fp8e4m3)) ∧
  (∀ k0_t3 : Fin (k0_t3_loop v34).trips, ∀ (k0_h5 : k0_cond5 v34 k0_t3 = 1#1), ∀ a, (k0_off103 v34 k0_t3) a + S1x256x4096.size a ≤ S2x2816x4096.size a) ∧
  (∀ k0_t3 : Fin (k0_t3_loop v34).trips, ∀ (k0_h5 : k0_cond5 v34 k0_t3 = 1#1), ∀ (hinb : ∀ a, (k0_off103 v34 k0_t3) a + S1x256x4096.size a ≤ S2x2816x4096.size a), (Rect.unit (s := S2x2816x4096) (k0_off103 v34 k0_t3) S1x256x4096.size hinb).WholeWords (EltTy.packing .fp8e4m3)) ∧
  (∀ k0_t3 : Fin (k0_t3_loop v34).trips, ∀ a, (k0_off105 v34 k0_t3) a + S1x1.size a ≤ S2x6.size a) ∧
  (∀ k0_t3 : Fin (k0_t3_loop v34).trips, ∀ a, (k0_off106 v34 k0_t3) a + S1x256x4096.size a ≤ S2x2816x4096.size a) ∧
  (∀ k0_t3 : Fin (k0_t3_loop v34).trips, ∀ (hinb : ∀ a, (k0_off106 v34 k0_t3) a + S1x256x4096.size a ≤ S2x2816x4096.size a), (Rect.unit (s := S2x2816x4096) (k0_off106 v34 k0_t3) S1x256x4096.size hinb).WholeWords (EltTy.packing .fp8e4m3)) ∧
  (∀ k0_t3 : Fin (k0_t3_loop v34).trips, ∀ a, (k0_off108 v34 k0_t3) a + S1x256x4096.size a ≤ S2x2816x4096.size a) ∧
  (∀ k0_t3 : Fin (k0_t3_loop v34).trips, ∀ (hinb : ∀ a, (k0_off108 v34 k0_t3) a + S1x256x4096.size a ≤ S2x2816x4096.size a), (Rect.unit (s := S2x2816x4096) (k0_off108 v34 k0_t3) S1x256x4096.size hinb).WholeWords (EltTy.packing .fp8e4m3)) ∧
  (∀ k0_t3 : Fin (k0_t3_loop v34).trips, ∀ a, (k0_off110 v34 k0_t3) a + S1x256x4096.size a ≤ S2x2816x4096.size a) ∧
  (∀ k0_t3 : Fin (k0_t3_loop v34).trips, ∀ a, (k0_off111 v34 k0_t3) a + S1x256x4096.size a ≤ S2x2816x4096.size a) ∧
  (∀ k0_t3 : Fin (k0_t3_loop v34).trips, ∀ a, (k0_off112 v34 k0_t3) a + S1x1x256.size a ≤ S2x1x2816.size a) ∧
  (∀ k0_t3 : Fin (k0_t3_loop v34).trips, ∀ a, (k0_off113 v34 k0_t3) a + S1x1x256.size a ≤ S2x1x2816.size a) ∧
  (∀ k0_t3 : Fin (k0_t3_loop v34).trips, ∀ (k0_h6 : k0_cond6 v34 k0_t3 = 1#1), ∀ a, (k0_off114 v34 k0_t3) a + S1x1.size a ≤ S2x6.size a) ∧
  (∀ k0_t3 : Fin (k0_t3_loop v34).trips, ∀ (k0_h6 : k0_cond6 v34 k0_t3 = 1#1), ∀ a, (k0_off115 v34 k0_t3) a + S1x256x4096.size a ≤ S2x2816x4096.size a) ∧
  (∀ k0_t3 : Fin (k0_t3_loop v34).trips, ∀ (k0_h6 : k0_cond6 v34 k0_t3 = 1#1), ∀ (hinb : ∀ a, (k0_off115 v34 k0_t3) a + S1x256x4096.size a ≤ S2x2816x4096.size a), (Rect.unit (s := S2x2816x4096) (k0_off115 v34 k0_t3) S1x256x4096.size hinb).WholeWords (EltTy.packing .fp8e4m3)) ∧
  (∀ k0_t3 : Fin (k0_t3_loop v34).trips, ∀ (k0_h6 : k0_cond6 v34 k0_t3 = 1#1), ∀ a, (k0_off117 v34 k0_t3) a + S1x256x4096.size a ≤ S2x2816x4096.size a) ∧
  (∀ k0_t3 : Fin (k0_t3_loop v34).trips, ∀ (k0_h6 : k0_cond6 v34 k0_t3 = 1#1), ∀ (hinb : ∀ a, (k0_off117 v34 k0_t3) a + S1x256x4096.size a ≤ S2x2816x4096.size a), (Rect.unit (s := S2x2816x4096) (k0_off117 v34 k0_t3) S1x256x4096.size hinb).WholeWords (EltTy.packing .fp8e4m3)) ∧
  (∀ k0_t3 : Fin (k0_t3_loop v34).trips, ∀ a, (k0_off119 v34 k0_t3) a + S1x1.size a ≤ S2x6.size a)
def k0_chk12_2 (v34 : BitVec 32) : Prop :=
  (∀ k0_t3 : Fin (k0_t3_loop v34).trips, ∀ a, (k0_off120 v34 k0_t3) a + S1x256x4096.size a ≤ S2x2816x4096.size a) ∧
  (∀ k0_t3 : Fin (k0_t3_loop v34).trips, ∀ (hinb : ∀ a, (k0_off120 v34 k0_t3) a + S1x256x4096.size a ≤ S2x2816x4096.size a), (Rect.unit (s := S2x2816x4096) (k0_off120 v34 k0_t3) S1x256x4096.size hinb).WholeWords (EltTy.packing .fp8e4m3)) ∧
  (∀ k0_t3 : Fin (k0_t3_loop v34).trips, ∀ a, (k0_off122 v34 k0_t3) a + S1x256x4096.size a ≤ S2x2816x4096.size a) ∧
  (∀ k0_t3 : Fin (k0_t3_loop v34).trips, ∀ (hinb : ∀ a, (k0_off122 v34 k0_t3) a + S1x256x4096.size a ≤ S2x2816x4096.size a), (Rect.unit (s := S2x2816x4096) (k0_off122 v34 k0_t3) S1x256x4096.size hinb).WholeWords (EltTy.packing .fp8e4m3)) ∧
  (∀ k0_t3 : Fin (k0_t3_loop v34).trips, ∀ a, (k0_off124 v34 k0_t3) a + S1x256x4096.size a ≤ S2x2816x4096.size a) ∧
  (∀ k0_t3 : Fin (k0_t3_loop v34).trips, ∀ a, (k0_off125 v34 k0_t3) a + S1x256x4096.size a ≤ S2x2816x4096.size a) ∧
  (∀ k0_t3 : Fin (k0_t3_loop v34).trips, ∀ a, (k0_off126 v34 k0_t3) a + S1x1x256.size a ≤ S2x1x2816.size a) ∧
  (∀ k0_t3 : Fin (k0_t3_loop v34).trips, ∀ a, (k0_off127 v34 k0_t3) a + S1x1x256.size a ≤ S2x1x2816.size a) ∧
  (∀ k0_t3 : Fin (k0_t3_loop v34).trips, ∀ (k0_h7 : k0_cond7 v34 k0_t3 = 1#1), ∀ a, (k0_off128 v34 k0_t3) a + S1x1.size a ≤ S2x6.size a) ∧
  (∀ k0_t3 : Fin (k0_t3_loop v34).trips, ∀ (k0_h7 : k0_cond7 v34 k0_t3 = 1#1), ∀ a, (k0_off129 v34 k0_t3) a + S1x256x4096.size a ≤ S2x2816x4096.size a) ∧
  (∀ k0_t3 : Fin (k0_t3_loop v34).trips, ∀ (k0_h7 : k0_cond7 v34 k0_t3 = 1#1), ∀ (hinb : ∀ a, (k0_off129 v34 k0_t3) a + S1x256x4096.size a ≤ S2x2816x4096.size a), (Rect.unit (s := S2x2816x4096) (k0_off129 v34 k0_t3) S1x256x4096.size hinb).WholeWords (EltTy.packing .fp8e4m3)) ∧
  (∀ k0_t3 : Fin (k0_t3_loop v34).trips, ∀ (k0_h7 : k0_cond7 v34 k0_t3 = 1#1), ∀ a, (k0_off131 v34 k0_t3) a + S1x256x4096.size a ≤ S2x2816x4096.size a) ∧
  (∀ k0_t3 : Fin (k0_t3_loop v34).trips, ∀ (k0_h7 : k0_cond7 v34 k0_t3 = 1#1), ∀ (hinb : ∀ a, (k0_off131 v34 k0_t3) a + S1x256x4096.size a ≤ S2x2816x4096.size a), (Rect.unit (s := S2x2816x4096) (k0_off131 v34 k0_t3) S1x256x4096.size hinb).WholeWords (EltTy.packing .fp8e4m3)) ∧
  (∀ k0_t3 : Fin (k0_t3_loop v34).trips, ∀ a, (k0_off133 v34 k0_t3) a + S1x1.size a ≤ S2x6.size a) ∧
  (∀ k0_t3 : Fin (k0_t3_loop v34).trips, ∀ a, (k0_off134 v34 k0_t3) a + S1x128x4096.size a ≤ S2x2816x4096.size a) ∧
  (∀ k0_t3 : Fin (k0_t3_loop v34).trips, ∀ (hinb : ∀ a, (k0_off134 v34 k0_t3) a + S1x128x4096.size a ≤ S2x2816x4096.size a), (Rect.unit (s := S2x2816x4096) (k0_off134 v34 k0_t3) S1x128x4096.size hinb).WholeWords (EltTy.packing .fp8e4m3)) ∧
  (∀ k0_t3 : Fin (k0_t3_loop v34).trips, ∀ a, (k0_off136 v34 k0_t3) a + S1x128x4096.size a ≤ S2x2816x4096.size a) ∧
  (∀ k0_t3 : Fin (k0_t3_loop v34).trips, ∀ (hinb : ∀ a, (k0_off136 v34 k0_t3) a + S1x128x4096.size a ≤ S2x2816x4096.size a), (Rect.unit (s := S2x2816x4096) (k0_off136 v34 k0_t3) S1x128x4096.size hinb).WholeWords (EltTy.packing .fp8e4m3)) ∧
  (∀ k0_t3 : Fin (k0_t3_loop v34).trips, ∀ a, (k0_off138 v34 k0_t3) a + S1x128x4096.size a ≤ S2x2816x4096.size a) ∧
  (∀ k0_t3 : Fin (k0_t3_loop v34).trips, ∀ a, (k0_off139 v34 k0_t3) a + S1x128x4096.size a ≤ S2x2816x4096.size a) ∧
  (∀ k0_t3 : Fin (k0_t3_loop v34).trips, ∀ a, (k0_off140 v34 k0_t3) a + S1x1x128.size a ≤ S2x1x2816.size a) ∧
  (∀ k0_t3 : Fin (k0_t3_loop v34).trips, ∀ a, (k0_off141 v34 k0_t3) a + S1x1x128.size a ≤ S2x1x2816.size a) ∧
  (∀ k0_t3 : Fin (k0_t3_loop v34).trips, ∀ (k0_h8 : k0_cond8 v34 k0_t3 = 1#1), ∀ a, (k0_off142 v34 k0_t3) a + S1x1.size a ≤ S2x6.size a) ∧
  (∀ k0_t3 : Fin (k0_t3_loop v34).trips, ∀ (k0_h8 : k0_cond8 v34 k0_t3 = 1#1), ∀ a, (k0_off143 v34 k0_t3) a + S1x128x4096.size a ≤ S2x2816x4096.size a) ∧
  (∀ k0_t3 : Fin (k0_t3_loop v34).trips, ∀ (k0_h8 : k0_cond8 v34 k0_t3 = 1#1), ∀ (hinb : ∀ a, (k0_off143 v34 k0_t3) a + S1x128x4096.size a ≤ S2x2816x4096.size a), (Rect.unit (s := S2x2816x4096) (k0_off143 v34 k0_t3) S1x128x4096.size hinb).WholeWords (EltTy.packing .fp8e4m3)) ∧
  (∀ k0_t3 : Fin (k0_t3_loop v34).trips, ∀ (k0_h8 : k0_cond8 v34 k0_t3 = 1#1), ∀ a, (k0_off145 v34 k0_t3) a + S1x128x4096.size a ≤ S2x2816x4096.size a) ∧
  (∀ k0_t3 : Fin (k0_t3_loop v34).trips, ∀ (k0_h8 : k0_cond8 v34 k0_t3 = 1#1), ∀ (hinb : ∀ a, (k0_off145 v34 k0_t3) a + S1x128x4096.size a ≤ S2x2816x4096.size a), (Rect.unit (s := S2x2816x4096) (k0_off145 v34 k0_t3) S1x128x4096.size hinb).WholeWords (EltTy.packing .fp8e4m3)) ∧
  (∀ k0_t3 : Fin (k0_t3_loop v34).trips, ∀ a, (k0_off147 v34 k0_t3) a + S1x1.size a ≤ S2x4.size a) ∧
  (∀ k0_t3 : Fin (k0_t3_loop v34).trips, ∀ a, (k0_off148 v34 k0_t3) a + S1x1024x1408.size a ≤ S2x4096x1408.size a) ∧
  (∀ k0_t3 : Fin (k0_t3_loop v34).trips, ∀ (hinb : ∀ a, (k0_off148 v34 k0_t3) a + S1x1024x1408.size a ≤ S2x4096x1408.size a), (Rect.unit (s := S2x4096x1408) (k0_off148 v34 k0_t3) S1x1024x1408.size hinb).WholeWords (EltTy.packing .fp8e4m3)) ∧
  (∀ k0_t3 : Fin (k0_t3_loop v34).trips, ∀ a, (k0_off150 v34 k0_t3) a + S1x1024x1408.size a ≤ S2x4096x1408.size a) ∧
  (∀ k0_t3 : Fin (k0_t3_loop v34).trips, ∀ a, (k0_off151 v34 k0_t3) a + S1x1x1024.size a ≤ S2x1x4096.size a)
def k0_chk12_3 (v34 : BitVec 32) : Prop :=
  (∀ k0_t3 : Fin (k0_t3_loop v34).trips, ∀ (k0_h9 : k0_cond9 v34 k0_t3 = 1#1), ∀ a, (k0_off152 v34 k0_t3) a + S1x1.size a ≤ S2x4.size a) ∧
  (∀ k0_t3 : Fin (k0_t3_loop v34).trips, ∀ (k0_h9 : k0_cond9 v34 k0_t3 = 1#1), ∀ a, (k0_off153 v34 k0_t3) a + S1x1024x1408.size a ≤ S2x4096x1408.size a) ∧
  (∀ k0_t3 : Fin (k0_t3_loop v34).trips, ∀ (k0_h9 : k0_cond9 v34 k0_t3 = 1#1), ∀ (hinb : ∀ a, (k0_off153 v34 k0_t3) a + S1x1024x1408.size a ≤ S2x4096x1408.size a), (Rect.unit (s := S2x4096x1408) (k0_off153 v34 k0_t3) S1x1024x1408.size hinb).WholeWords (EltTy.packing .fp8e4m3)) ∧
  (∀ k0_t3 : Fin (k0_t3_loop v34).trips, ∀ a, (k0_off155 v34 k0_t3) a + S1x1.size a ≤ S2x4.size a) ∧
  (∀ k0_t3 : Fin (k0_t3_loop v34).trips, ∀ a, (k0_off156 v34 k0_t3) a + S1x1024x1408.size a ≤ S2x4096x1408.size a) ∧
  (∀ k0_t3 : Fin (k0_t3_loop v34).trips, ∀ (hinb : ∀ a, (k0_off156 v34 k0_t3) a + S1x1024x1408.size a ≤ S2x4096x1408.size a), (Rect.unit (s := S2x4096x1408) (k0_off156 v34 k0_t3) S1x1024x1408.size hinb).WholeWords (EltTy.packing .fp8e4m3)) ∧
  (∀ k0_t3 : Fin (k0_t3_loop v34).trips, ∀ a, (k0_off158 v34 k0_t3) a + S1x1024x1408.size a ≤ S2x4096x1408.size a) ∧
  (∀ k0_t3 : Fin (k0_t3_loop v34).trips, ∀ a, (k0_off159 v34 k0_t3) a + S1x1x1024.size a ≤ S2x1x4096.size a) ∧
  (∀ k0_t3 : Fin (k0_t3_loop v34).trips, ∀ (k0_h10 : k0_cond10 v34 k0_t3 = 1#1), ∀ a, (k0_off160 v34 k0_t3) a + S1x1.size a ≤ S2x4.size a) ∧
  (∀ k0_t3 : Fin (k0_t3_loop v34).trips, ∀ (k0_h10 : k0_cond10 v34 k0_t3 = 1#1), ∀ a, (k0_off161 v34 k0_t3) a + S1x1024x1408.size a ≤ S2x4096x1408.size a) ∧
  (∀ k0_t3 : Fin (k0_t3_loop v34).trips, ∀ (k0_h10 : k0_cond10 v34 k0_t3 = 1#1), ∀ (hinb : ∀ a, (k0_off161 v34 k0_t3) a + S1x1024x1408.size a ≤ S2x4096x1408.size a), (Rect.unit (s := S2x4096x1408) (k0_off161 v34 k0_t3) S1x1024x1408.size hinb).WholeWords (EltTy.packing .fp8e4m3)) ∧
  (∀ k0_t3 : Fin (k0_t3_loop v34).trips, ∀ a, (k0_off163 v34 k0_t3) a + S1x1.size a ≤ S2x4.size a) ∧
  (∀ k0_t3 : Fin (k0_t3_loop v34).trips, ∀ a, (k0_off164 v34 k0_t3) a + S1x1024x1408.size a ≤ S2x4096x1408.size a) ∧
  (∀ k0_t3 : Fin (k0_t3_loop v34).trips, ∀ (hinb : ∀ a, (k0_off164 v34 k0_t3) a + S1x1024x1408.size a ≤ S2x4096x1408.size a), (Rect.unit (s := S2x4096x1408) (k0_off164 v34 k0_t3) S1x1024x1408.size hinb).WholeWords (EltTy.packing .fp8e4m3)) ∧
  (∀ k0_t3 : Fin (k0_t3_loop v34).trips, ∀ a, (k0_off166 v34 k0_t3) a + S1x1024x1408.size a ≤ S2x4096x1408.size a) ∧
  (∀ k0_t3 : Fin (k0_t3_loop v34).trips, ∀ a, (k0_off167 v34 k0_t3) a + S1x1x1024.size a ≤ S2x1x4096.size a) ∧
  (∀ k0_t3 : Fin (k0_t3_loop v34).trips, ∀ (k0_h11 : k0_cond11 v34 k0_t3 = 1#1), ∀ a, (k0_off168 v34 k0_t3) a + S1x1.size a ≤ S2x4.size a) ∧
  (∀ k0_t3 : Fin (k0_t3_loop v34).trips, ∀ (k0_h11 : k0_cond11 v34 k0_t3 = 1#1), ∀ a, (k0_off169 v34 k0_t3) a + S1x1024x1408.size a ≤ S2x4096x1408.size a) ∧
  (∀ k0_t3 : Fin (k0_t3_loop v34).trips, ∀ (k0_h11 : k0_cond11 v34 k0_t3 = 1#1), ∀ (hinb : ∀ a, (k0_off169 v34 k0_t3) a + S1x1024x1408.size a ≤ S2x4096x1408.size a), (Rect.unit (s := S2x4096x1408) (k0_off169 v34 k0_t3) S1x1024x1408.size hinb).WholeWords (EltTy.packing .fp8e4m3)) ∧
  (∀ k0_t3 : Fin (k0_t3_loop v34).trips, ∀ a, (k0_off171 v34 k0_t3) a + S1x1.size a ≤ S2x4.size a) ∧
  (∀ k0_t3 : Fin (k0_t3_loop v34).trips, ∀ a, (k0_off172 v34 k0_t3) a + S1x1024x1408.size a ≤ S2x4096x1408.size a) ∧
  (∀ k0_t3 : Fin (k0_t3_loop v34).trips, ∀ (hinb : ∀ a, (k0_off172 v34 k0_t3) a + S1x1024x1408.size a ≤ S2x4096x1408.size a), (Rect.unit (s := S2x4096x1408) (k0_off172 v34 k0_t3) S1x1024x1408.size hinb).WholeWords (EltTy.packing .fp8e4m3)) ∧
  (∀ k0_t3 : Fin (k0_t3_loop v34).trips, ∀ a, (k0_off174 v34 k0_t3) a + S1x1024x1408.size a ≤ S2x4096x1408.size a) ∧
  (∀ k0_t3 : Fin (k0_t3_loop v34).trips, ∀ a, (k0_off175 v34 k0_t3) a + S1x1x1024.size a ≤ S2x1x4096.size a) ∧
  (∀ k0_t3 : Fin (k0_t3_loop v34).trips, ∀ (k0_h12 : k0_cond12 v34 k0_t3 = 1#1), ∀ a, (k0_off176 v34 k0_t3) a + S1x1.size a ≤ S2x4.size a) ∧
  (∀ k0_t3 : Fin (k0_t3_loop v34).trips, ∀ (k0_h12 : k0_cond12 v34 k0_t3 = 1#1), ∀ a, (k0_off177 v34 k0_t3) a + S1x1024x1408.size a ≤ S2x4096x1408.size a) ∧
  (∀ k0_t3 : Fin (k0_t3_loop v34).trips, ∀ (k0_h12 : k0_cond12 v34 k0_t3 = 1#1), ∀ (hinb : ∀ a, (k0_off177 v34 k0_t3) a + S1x1024x1408.size a ≤ S2x4096x1408.size a), (Rect.unit (s := S2x4096x1408) (k0_off177 v34 k0_t3) S1x1024x1408.size hinb).WholeWords (EltTy.packing .fp8e4m3)) ∧
  (∀ k0_t3 : Fin (k0_t3_loop v34).trips, ∀ (k0_h12 : k0_cond12 v34 k0_t3 = 1#1), ∀ a, (k0_off179 v34 k0_t3) a + S1x1.size a ≤ S2x6.size a) ∧
  (∀ k0_t3 : Fin (k0_t3_loop v34).trips, ∀ (k0_h12 : k0_cond12 v34 k0_t3 = 1#1), ∀ a, (k0_off180 v34 k0_t3) a + S1x1x2816.size a ≤ S2x1x2816.size a) ∧
  (∀ k0_t3 : Fin (k0_t3_loop v34).trips, ∀ (k0_h12 : k0_cond12 v34 k0_t3 = 1#1), ∀ a, (k0_off182 v34 k0_t3) a + S1x1x4096.size a ≤ S2x1x4096.size a) ∧
  ((k0_t4_loop v34).OK) ∧
  (∀ k0_t4 : Fin (k0_t4_loop v34).trips, ∀ a, (k0_off184 v34 k0_t4) a + S1.size a ≤ S33.size a)
def k0_chk12_4 (v34 : BitVec 32) : Prop :=
  (∀ k0_t4 : Fin (k0_t4_loop v34).trips, ∀ a, (k0_off185 v34 k0_t4) a + S1.size a ≤ S33.size a) ∧
  (∀ k0_t4 : Fin (k0_t4_loop v34).trips, ∀ a, (k0_off186 v34 k0_t4) a + S1x1.size a ≤ S2x6.size a) ∧
  (∀ k0_t4 : Fin (k0_t4_loop v34).trips, ∀ a, (k0_off187 v34 k0_t4) a + S1x256x4096.size a ≤ S2x2816x4096.size a) ∧
  (∀ k0_t4 : Fin (k0_t4_loop v34).trips, ∀ (hinb : ∀ a, (k0_off187 v34 k0_t4) a + S1x256x4096.size a ≤ S2x2816x4096.size a), (Rect.unit (s := S2x2816x4096) (k0_off187 v34 k0_t4) S1x256x4096.size hinb).WholeWords (EltTy.packing .fp8e4m3)) ∧
  (∀ k0_t4 : Fin (k0_t4_loop v34).trips, ∀ a, (k0_off189 v34 k0_t4) a + S1x1.size a ≤ S2x6.size a) ∧
  (∀ k0_t4 : Fin (k0_t4_loop v34).trips, ∀ a, (k0_off190 v34 k0_t4) a + S1x256x4096.size a ≤ S2x2816x4096.size a) ∧
  (∀ k0_t4 : Fin (k0_t4_loop v34).trips, ∀ (hinb : ∀ a, (k0_off190 v34 k0_t4) a + S1x256x4096.size a ≤ S2x2816x4096.size a), (Rect.unit (s := S2x2816x4096) (k0_off190 v34 k0_t4) S1x256x4096.size hinb).WholeWords (EltTy.packing .fp8e4m3)) ∧
  (∀ k0_t4 : Fin (k0_t4_loop v34).trips, ∀ a, (k0_off192 v34 k0_t4) a + S1x1x2816.size a ≤ S2x1x2816.size a) ∧
  (∀ k0_t4 : Fin (k0_t4_loop v34).trips, ∀ a, (k0_off194 v34 k0_t4) a + S1x1x4096.size a ≤ S2x1x4096.size a) ∧
  (∀ k0_t4 : Fin (k0_t4_loop v34).trips, ∀ a, (k0_off196 v34 k0_t4) a + S1x256x4096.size a ≤ S2x2816x4096.size a) ∧
  (∀ k0_t4 : Fin (k0_t4_loop v34).trips, ∀ a, (k0_off197 v34 k0_t4) a + S1x256x4096.size a ≤ S2x2816x4096.size a) ∧
  (∀ k0_t4 : Fin (k0_t4_loop v34).trips, ∀ a, (k0_off198 v34 k0_t4) a + S1x1x256.size a ≤ S2x1x2816.size a) ∧
  (∀ k0_t4 : Fin (k0_t4_loop v34).trips, ∀ a, (k0_off199 v34 k0_t4) a + S1x1x256.size a ≤ S2x1x2816.size a) ∧
  (∀ k0_t4 : Fin (k0_t4_loop v34).trips, ∀ (k0_h13 : k0_cond13 v34 k0_t4 = 1#1), ∀ a, (k0_off200 v34 k0_t4) a + S1x1.size a ≤ S2x6.size a) ∧
  (∀ k0_t4 : Fin (k0_t4_loop v34).trips, ∀ (k0_h13 : k0_cond13 v34 k0_t4 = 1#1), ∀ a, (k0_off201 v34 k0_t4) a + S1x256x4096.size a ≤ S2x2816x4096.size a) ∧
  (∀ k0_t4 : Fin (k0_t4_loop v34).trips, ∀ (k0_h13 : k0_cond13 v34 k0_t4 = 1#1), ∀ (hinb : ∀ a, (k0_off201 v34 k0_t4) a + S1x256x4096.size a ≤ S2x2816x4096.size a), (Rect.unit (s := S2x2816x4096) (k0_off201 v34 k0_t4) S1x256x4096.size hinb).WholeWords (EltTy.packing .fp8e4m3)) ∧
  (∀ k0_t4 : Fin (k0_t4_loop v34).trips, ∀ (k0_h13 : k0_cond13 v34 k0_t4 = 1#1), ∀ a, (k0_off203 v34 k0_t4) a + S1x1.size a ≤ S2x6.size a) ∧
  (∀ k0_t4 : Fin (k0_t4_loop v34).trips, ∀ (k0_h13 : k0_cond13 v34 k0_t4 = 1#1), ∀ a, (k0_off204 v34 k0_t4) a + S1x256x4096.size a ≤ S2x2816x4096.size a) ∧
  (∀ k0_t4 : Fin (k0_t4_loop v34).trips, ∀ (k0_h13 : k0_cond13 v34 k0_t4 = 1#1), ∀ (hinb : ∀ a, (k0_off204 v34 k0_t4) a + S1x256x4096.size a ≤ S2x2816x4096.size a), (Rect.unit (s := S2x2816x4096) (k0_off204 v34 k0_t4) S1x256x4096.size hinb).WholeWords (EltTy.packing .fp8e4m3)) ∧
  (∀ k0_t4 : Fin (k0_t4_loop v34).trips, ∀ a, (k0_off206 v34 k0_t4) a + S1x1.size a ≤ S2x6.size a) ∧
  (∀ k0_t4 : Fin (k0_t4_loop v34).trips, ∀ a, (k0_off207 v34 k0_t4) a + S1x256x4096.size a ≤ S2x2816x4096.size a) ∧
  (∀ k0_t4 : Fin (k0_t4_loop v34).trips, ∀ (hinb : ∀ a, (k0_off207 v34 k0_t4) a + S1x256x4096.size a ≤ S2x2816x4096.size a), (Rect.unit (s := S2x2816x4096) (k0_off207 v34 k0_t4) S1x256x4096.size hinb).WholeWords (EltTy.packing .fp8e4m3)) ∧
  (∀ k0_t4 : Fin (k0_t4_loop v34).trips, ∀ a, (k0_off209 v34 k0_t4) a + S1x256x4096.size a ≤ S2x2816x4096.size a) ∧
  (∀ k0_t4 : Fin (k0_t4_loop v34).trips, ∀ (hinb : ∀ a, (k0_off209 v34 k0_t4) a + S1x256x4096.size a ≤ S2x2816x4096.size a), (Rect.unit (s := S2x2816x4096) (k0_off209 v34 k0_t4) S1x256x4096.size hinb).WholeWords (EltTy.packing .fp8e4m3)) ∧
  (∀ k0_t4 : Fin (k0_t4_loop v34).trips, ∀ a, (k0_off211 v34 k0_t4) a + S1x256x4096.size a ≤ S2x2816x4096.size a) ∧
  (∀ k0_t4 : Fin (k0_t4_loop v34).trips, ∀ a, (k0_off212 v34 k0_t4) a + S1x256x4096.size a ≤ S2x2816x4096.size a) ∧
  (∀ k0_t4 : Fin (k0_t4_loop v34).trips, ∀ a, (k0_off213 v34 k0_t4) a + S1x1x256.size a ≤ S2x1x2816.size a) ∧
  (∀ k0_t4 : Fin (k0_t4_loop v34).trips, ∀ a, (k0_off214 v34 k0_t4) a + S1x1x256.size a ≤ S2x1x2816.size a) ∧
  (∀ k0_t4 : Fin (k0_t4_loop v34).trips, ∀ (k0_h14 : k0_cond14 v34 k0_t4 = 1#1), ∀ a, (k0_off215 v34 k0_t4) a + S1x1.size a ≤ S2x6.size a) ∧
  (∀ k0_t4 : Fin (k0_t4_loop v34).trips, ∀ (k0_h14 : k0_cond14 v34 k0_t4 = 1#1), ∀ a, (k0_off216 v34 k0_t4) a + S1x256x4096.size a ≤ S2x2816x4096.size a) ∧
  (∀ k0_t4 : Fin (k0_t4_loop v34).trips, ∀ (k0_h14 : k0_cond14 v34 k0_t4 = 1#1), ∀ (hinb : ∀ a, (k0_off216 v34 k0_t4) a + S1x256x4096.size a ≤ S2x2816x4096.size a), (Rect.unit (s := S2x2816x4096) (k0_off216 v34 k0_t4) S1x256x4096.size hinb).WholeWords (EltTy.packing .fp8e4m3)) ∧
  (∀ k0_t4 : Fin (k0_t4_loop v34).trips, ∀ (k0_h14 : k0_cond14 v34 k0_t4 = 1#1), ∀ a, (k0_off218 v34 k0_t4) a + S1x256x4096.size a ≤ S2x2816x4096.size a)
def k0_chk12_5 (v34 : BitVec 32) : Prop :=
  (∀ k0_t4 : Fin (k0_t4_loop v34).trips, ∀ (k0_h14 : k0_cond14 v34 k0_t4 = 1#1), ∀ (hinb : ∀ a, (k0_off218 v34 k0_t4) a + S1x256x4096.size a ≤ S2x2816x4096.size a), (Rect.unit (s := S2x2816x4096) (k0_off218 v34 k0_t4) S1x256x4096.size hinb).WholeWords (EltTy.packing .fp8e4m3)) ∧
  (∀ k0_t4 : Fin (k0_t4_loop v34).trips, ∀ a, (k0_off220 v34 k0_t4) a + S1x1.size a ≤ S2x6.size a) ∧
  (∀ k0_t4 : Fin (k0_t4_loop v34).trips, ∀ a, (k0_off221 v34 k0_t4) a + S1x256x4096.size a ≤ S2x2816x4096.size a) ∧
  (∀ k0_t4 : Fin (k0_t4_loop v34).trips, ∀ (hinb : ∀ a, (k0_off221 v34 k0_t4) a + S1x256x4096.size a ≤ S2x2816x4096.size a), (Rect.unit (s := S2x2816x4096) (k0_off221 v34 k0_t4) S1x256x4096.size hinb).WholeWords (EltTy.packing .fp8e4m3)) ∧
  (∀ k0_t4 : Fin (k0_t4_loop v34).trips, ∀ a, (k0_off223 v34 k0_t4) a + S1x256x4096.size a ≤ S2x2816x4096.size a) ∧
  (∀ k0_t4 : Fin (k0_t4_loop v34).trips, ∀ (hinb : ∀ a, (k0_off223 v34 k0_t4) a + S1x256x4096.size a ≤ S2x2816x4096.size a), (Rect.unit (s := S2x2816x4096) (k0_off223 v34 k0_t4) S1x256x4096.size hinb).WholeWords (EltTy.packing .fp8e4m3)) ∧
  (∀ k0_t4 : Fin (k0_t4_loop v34).trips, ∀ a, (k0_off225 v34 k0_t4) a + S1x256x4096.size a ≤ S2x2816x4096.size a) ∧
  (∀ k0_t4 : Fin (k0_t4_loop v34).trips, ∀ a, (k0_off226 v34 k0_t4) a + S1x256x4096.size a ≤ S2x2816x4096.size a) ∧
  (∀ k0_t4 : Fin (k0_t4_loop v34).trips, ∀ a, (k0_off227 v34 k0_t4) a + S1x1x256.size a ≤ S2x1x2816.size a) ∧
  (∀ k0_t4 : Fin (k0_t4_loop v34).trips, ∀ a, (k0_off228 v34 k0_t4) a + S1x1x256.size a ≤ S2x1x2816.size a) ∧
  (∀ k0_t4 : Fin (k0_t4_loop v34).trips, ∀ (k0_h15 : k0_cond15 v34 k0_t4 = 1#1), ∀ a, (k0_off229 v34 k0_t4) a + S1x1.size a ≤ S2x6.size a) ∧
  (∀ k0_t4 : Fin (k0_t4_loop v34).trips, ∀ (k0_h15 : k0_cond15 v34 k0_t4 = 1#1), ∀ a, (k0_off230 v34 k0_t4) a + S1x256x4096.size a ≤ S2x2816x4096.size a) ∧
  (∀ k0_t4 : Fin (k0_t4_loop v34).trips, ∀ (k0_h15 : k0_cond15 v34 k0_t4 = 1#1), ∀ (hinb : ∀ a, (k0_off230 v34 k0_t4) a + S1x256x4096.size a ≤ S2x2816x4096.size a), (Rect.unit (s := S2x2816x4096) (k0_off230 v34 k0_t4) S1x256x4096.size hinb).WholeWords (EltTy.packing .fp8e4m3)) ∧
  (∀ k0_t4 : Fin (k0_t4_loop v34).trips, ∀ (k0_h15 : k0_cond15 v34 k0_t4 = 1#1), ∀ a, (k0_off232 v34 k0_t4) a + S1x256x4096.size a ≤ S2x2816x4096.size a) ∧
  (∀ k0_t4 : Fin (k0_t4_loop v34).trips, ∀ (k0_h15 : k0_cond15 v34 k0_t4 = 1#1), ∀ (hinb : ∀ a, (k0_off232 v34 k0_t4) a + S1x256x4096.size a ≤ S2x2816x4096.size a), (Rect.unit (s := S2x2816x4096) (k0_off232 v34 k0_t4) S1x256x4096.size hinb).WholeWords (EltTy.packing .fp8e4m3)) ∧
  (∀ k0_t4 : Fin (k0_t4_loop v34).trips, ∀ a, (k0_off234 v34 k0_t4) a + S1x1.size a ≤ S2x6.size a) ∧
  (∀ k0_t4 : Fin (k0_t4_loop v34).trips, ∀ a, (k0_off235 v34 k0_t4) a + S1x256x4096.size a ≤ S2x2816x4096.size a) ∧
  (∀ k0_t4 : Fin (k0_t4_loop v34).trips, ∀ (hinb : ∀ a, (k0_off235 v34 k0_t4) a + S1x256x4096.size a ≤ S2x2816x4096.size a), (Rect.unit (s := S2x2816x4096) (k0_off235 v34 k0_t4) S1x256x4096.size hinb).WholeWords (EltTy.packing .fp8e4m3)) ∧
  (∀ k0_t4 : Fin (k0_t4_loop v34).trips, ∀ a, (k0_off237 v34 k0_t4) a + S1x256x4096.size a ≤ S2x2816x4096.size a) ∧
  (∀ k0_t4 : Fin (k0_t4_loop v34).trips, ∀ (hinb : ∀ a, (k0_off237 v34 k0_t4) a + S1x256x4096.size a ≤ S2x2816x4096.size a), (Rect.unit (s := S2x2816x4096) (k0_off237 v34 k0_t4) S1x256x4096.size hinb).WholeWords (EltTy.packing .fp8e4m3)) ∧
  (∀ k0_t4 : Fin (k0_t4_loop v34).trips, ∀ a, (k0_off239 v34 k0_t4) a + S1x256x4096.size a ≤ S2x2816x4096.size a) ∧
  (∀ k0_t4 : Fin (k0_t4_loop v34).trips, ∀ a, (k0_off240 v34 k0_t4) a + S1x256x4096.size a ≤ S2x2816x4096.size a) ∧
  (∀ k0_t4 : Fin (k0_t4_loop v34).trips, ∀ a, (k0_off241 v34 k0_t4) a + S1x1x256.size a ≤ S2x1x2816.size a) ∧
  (∀ k0_t4 : Fin (k0_t4_loop v34).trips, ∀ a, (k0_off242 v34 k0_t4) a + S1x1x256.size a ≤ S2x1x2816.size a) ∧
  (∀ k0_t4 : Fin (k0_t4_loop v34).trips, ∀ (k0_h16 : k0_cond16 v34 k0_t4 = 1#1), ∀ a, (k0_off243 v34 k0_t4) a + S1x1.size a ≤ S2x6.size a) ∧
  (∀ k0_t4 : Fin (k0_t4_loop v34).trips, ∀ (k0_h16 : k0_cond16 v34 k0_t4 = 1#1), ∀ a, (k0_off244 v34 k0_t4) a + S1x256x4096.size a ≤ S2x2816x4096.size a) ∧
  (∀ k0_t4 : Fin (k0_t4_loop v34).trips, ∀ (k0_h16 : k0_cond16 v34 k0_t4 = 1#1), ∀ (hinb : ∀ a, (k0_off244 v34 k0_t4) a + S1x256x4096.size a ≤ S2x2816x4096.size a), (Rect.unit (s := S2x2816x4096) (k0_off244 v34 k0_t4) S1x256x4096.size hinb).WholeWords (EltTy.packing .fp8e4m3)) ∧
  (∀ k0_t4 : Fin (k0_t4_loop v34).trips, ∀ (k0_h16 : k0_cond16 v34 k0_t4 = 1#1), ∀ a, (k0_off246 v34 k0_t4) a + S1x256x4096.size a ≤ S2x2816x4096.size a) ∧
  (∀ k0_t4 : Fin (k0_t4_loop v34).trips, ∀ (k0_h16 : k0_cond16 v34 k0_t4 = 1#1), ∀ (hinb : ∀ a, (k0_off246 v34 k0_t4) a + S1x256x4096.size a ≤ S2x2816x4096.size a), (Rect.unit (s := S2x2816x4096) (k0_off246 v34 k0_t4) S1x256x4096.size hinb).WholeWords (EltTy.packing .fp8e4m3)) ∧
  (∀ k0_t4 : Fin (k0_t4_loop v34).trips, ∀ a, (k0_off248 v34 k0_t4) a + S1x1.size a ≤ S2x6.size a) ∧
  (∀ k0_t4 : Fin (k0_t4_loop v34).trips, ∀ a, (k0_off249 v34 k0_t4) a + S1x256x4096.size a ≤ S2x2816x4096.size a) ∧
  (∀ k0_t4 : Fin (k0_t4_loop v34).trips, ∀ (hinb : ∀ a, (k0_off249 v34 k0_t4) a + S1x256x4096.size a ≤ S2x2816x4096.size a), (Rect.unit (s := S2x2816x4096) (k0_off249 v34 k0_t4) S1x256x4096.size hinb).WholeWords (EltTy.packing .fp8e4m3))
def k0_chk12_6 (v34 : BitVec 32) : Prop :=
  (∀ k0_t4 : Fin (k0_t4_loop v34).trips, ∀ a, (k0_off251 v34 k0_t4) a + S1x256x4096.size a ≤ S2x2816x4096.size a) ∧
  (∀ k0_t4 : Fin (k0_t4_loop v34).trips, ∀ (hinb : ∀ a, (k0_off251 v34 k0_t4) a + S1x256x4096.size a ≤ S2x2816x4096.size a), (Rect.unit (s := S2x2816x4096) (k0_off251 v34 k0_t4) S1x256x4096.size hinb).WholeWords (EltTy.packing .fp8e4m3)) ∧
  (∀ k0_t4 : Fin (k0_t4_loop v34).trips, ∀ a, (k0_off253 v34 k0_t4) a + S1x256x4096.size a ≤ S2x2816x4096.size a) ∧
  (∀ k0_t4 : Fin (k0_t4_loop v34).trips, ∀ a, (k0_off254 v34 k0_t4) a + S1x256x4096.size a ≤ S2x2816x4096.size a) ∧
  (∀ k0_t4 : Fin (k0_t4_loop v34).trips, ∀ a, (k0_off255 v34 k0_t4) a + S1x1x256.size a ≤ S2x1x2816.size a) ∧
  (∀ k0_t4 : Fin (k0_t4_loop v34).trips, ∀ a, (k0_off256 v34 k0_t4) a + S1x1x256.size a ≤ S2x1x2816.size a) ∧
  (∀ k0_t4 : Fin (k0_t4_loop v34).trips, ∀ (k0_h17 : k0_cond17 v34 k0_t4 = 1#1), ∀ a, (k0_off257 v34 k0_t4) a + S1x1.size a ≤ S2x6.size a) ∧
  (∀ k0_t4 : Fin (k0_t4_loop v34).trips, ∀ (k0_h17 : k0_cond17 v34 k0_t4 = 1#1), ∀ a, (k0_off258 v34 k0_t4) a + S1x256x4096.size a ≤ S2x2816x4096.size a) ∧
  (∀ k0_t4 : Fin (k0_t4_loop v34).trips, ∀ (k0_h17 : k0_cond17 v34 k0_t4 = 1#1), ∀ (hinb : ∀ a, (k0_off258 v34 k0_t4) a + S1x256x4096.size a ≤ S2x2816x4096.size a), (Rect.unit (s := S2x2816x4096) (k0_off258 v34 k0_t4) S1x256x4096.size hinb).WholeWords (EltTy.packing .fp8e4m3)) ∧
  (∀ k0_t4 : Fin (k0_t4_loop v34).trips, ∀ (k0_h17 : k0_cond17 v34 k0_t4 = 1#1), ∀ a, (k0_off260 v34 k0_t4) a + S1x256x4096.size a ≤ S2x2816x4096.size a) ∧
  (∀ k0_t4 : Fin (k0_t4_loop v34).trips, ∀ (k0_h17 : k0_cond17 v34 k0_t4 = 1#1), ∀ (hinb : ∀ a, (k0_off260 v34 k0_t4) a + S1x256x4096.size a ≤ S2x2816x4096.size a), (Rect.unit (s := S2x2816x4096) (k0_off260 v34 k0_t4) S1x256x4096.size hinb).WholeWords (EltTy.packing .fp8e4m3)) ∧
  (∀ k0_t4 : Fin (k0_t4_loop v34).trips, ∀ a, (k0_off262 v34 k0_t4) a + S1x1.size a ≤ S2x6.size a) ∧
  (∀ k0_t4 : Fin (k0_t4_loop v34).trips, ∀ a, (k0_off263 v34 k0_t4) a + S1x128x4096.size a ≤ S2x2816x4096.size a) ∧
  (∀ k0_t4 : Fin (k0_t4_loop v34).trips, ∀ (hinb : ∀ a, (k0_off263 v34 k0_t4) a + S1x128x4096.size a ≤ S2x2816x4096.size a), (Rect.unit (s := S2x2816x4096) (k0_off263 v34 k0_t4) S1x128x4096.size hinb).WholeWords (EltTy.packing .fp8e4m3)) ∧
  (∀ k0_t4 : Fin (k0_t4_loop v34).trips, ∀ a, (k0_off265 v34 k0_t4) a + S1x128x4096.size a ≤ S2x2816x4096.size a) ∧
  (∀ k0_t4 : Fin (k0_t4_loop v34).trips, ∀ (hinb : ∀ a, (k0_off265 v34 k0_t4) a + S1x128x4096.size a ≤ S2x2816x4096.size a), (Rect.unit (s := S2x2816x4096) (k0_off265 v34 k0_t4) S1x128x4096.size hinb).WholeWords (EltTy.packing .fp8e4m3)) ∧
  (∀ k0_t4 : Fin (k0_t4_loop v34).trips, ∀ a, (k0_off267 v34 k0_t4) a + S1x128x4096.size a ≤ S2x2816x4096.size a) ∧
  (∀ k0_t4 : Fin (k0_t4_loop v34).trips, ∀ a, (k0_off268 v34 k0_t4) a + S1x128x4096.size a ≤ S2x2816x4096.size a) ∧
  (∀ k0_t4 : Fin (k0_t4_loop v34).trips, ∀ a, (k0_off269 v34 k0_t4) a + S1x1x128.size a ≤ S2x1x2816.size a) ∧
  (∀ k0_t4 : Fin (k0_t4_loop v34).trips, ∀ a, (k0_off270 v34 k0_t4) a + S1x1x128.size a ≤ S2x1x2816.size a) ∧
  (∀ k0_t4 : Fin (k0_t4_loop v34).trips, ∀ (k0_h18 : k0_cond18 v34 k0_t4 = 1#1), ∀ a, (k0_off271 v34 k0_t4) a + S1x1.size a ≤ S2x6.size a) ∧
  (∀ k0_t4 : Fin (k0_t4_loop v34).trips, ∀ (k0_h18 : k0_cond18 v34 k0_t4 = 1#1), ∀ a, (k0_off272 v34 k0_t4) a + S1x128x4096.size a ≤ S2x2816x4096.size a) ∧
  (∀ k0_t4 : Fin (k0_t4_loop v34).trips, ∀ (k0_h18 : k0_cond18 v34 k0_t4 = 1#1), ∀ (hinb : ∀ a, (k0_off272 v34 k0_t4) a + S1x128x4096.size a ≤ S2x2816x4096.size a), (Rect.unit (s := S2x2816x4096) (k0_off272 v34 k0_t4) S1x128x4096.size hinb).WholeWords (EltTy.packing .fp8e4m3)) ∧
  (∀ k0_t4 : Fin (k0_t4_loop v34).trips, ∀ (k0_h18 : k0_cond18 v34 k0_t4 = 1#1), ∀ a, (k0_off274 v34 k0_t4) a + S1x128x4096.size a ≤ S2x2816x4096.size a) ∧
  (∀ k0_t4 : Fin (k0_t4_loop v34).trips, ∀ (k0_h18 : k0_cond18 v34 k0_t4 = 1#1), ∀ (hinb : ∀ a, (k0_off274 v34 k0_t4) a + S1x128x4096.size a ≤ S2x2816x4096.size a), (Rect.unit (s := S2x2816x4096) (k0_off274 v34 k0_t4) S1x128x4096.size hinb).WholeWords (EltTy.packing .fp8e4m3)) ∧
  (∀ k0_t4 : Fin (k0_t4_loop v34).trips, ∀ a, (k0_off276 v34 k0_t4) a + S1x1.size a ≤ S2x4.size a) ∧
  (∀ k0_t4 : Fin (k0_t4_loop v34).trips, ∀ a, (k0_off277 v34 k0_t4) a + S1x1024x1408.size a ≤ S2x4096x1408.size a) ∧
  (∀ k0_t4 : Fin (k0_t4_loop v34).trips, ∀ (hinb : ∀ a, (k0_off277 v34 k0_t4) a + S1x1024x1408.size a ≤ S2x4096x1408.size a), (Rect.unit (s := S2x4096x1408) (k0_off277 v34 k0_t4) S1x1024x1408.size hinb).WholeWords (EltTy.packing .fp8e4m3)) ∧
  (∀ k0_t4 : Fin (k0_t4_loop v34).trips, ∀ a, (k0_off279 v34 k0_t4) a + S1x1024x1408.size a ≤ S2x4096x1408.size a) ∧
  (∀ k0_t4 : Fin (k0_t4_loop v34).trips, ∀ a, (k0_off280 v34 k0_t4) a + S1x1x1024.size a ≤ S2x1x4096.size a) ∧
  (∀ k0_t4 : Fin (k0_t4_loop v34).trips, ∀ (k0_h19 : k0_cond19 v34 k0_t4 = 1#1), ∀ a, (k0_off281 v34 k0_t4) a + S1x1.size a ≤ S2x4.size a) ∧
  (∀ k0_t4 : Fin (k0_t4_loop v34).trips, ∀ (k0_h19 : k0_cond19 v34 k0_t4 = 1#1), ∀ a, (k0_off282 v34 k0_t4) a + S1x1024x1408.size a ≤ S2x4096x1408.size a)
def k0_chk12_7 (v34 : BitVec 32) : Prop :=
  (∀ k0_t4 : Fin (k0_t4_loop v34).trips, ∀ (k0_h19 : k0_cond19 v34 k0_t4 = 1#1), ∀ (hinb : ∀ a, (k0_off282 v34 k0_t4) a + S1x1024x1408.size a ≤ S2x4096x1408.size a), (Rect.unit (s := S2x4096x1408) (k0_off282 v34 k0_t4) S1x1024x1408.size hinb).WholeWords (EltTy.packing .fp8e4m3)) ∧
  (∀ k0_t4 : Fin (k0_t4_loop v34).trips, ∀ a, (k0_off284 v34 k0_t4) a + S1x1.size a ≤ S2x4.size a) ∧
  (∀ k0_t4 : Fin (k0_t4_loop v34).trips, ∀ a, (k0_off285 v34 k0_t4) a + S1x1024x1408.size a ≤ S2x4096x1408.size a) ∧
  (∀ k0_t4 : Fin (k0_t4_loop v34).trips, ∀ (hinb : ∀ a, (k0_off285 v34 k0_t4) a + S1x1024x1408.size a ≤ S2x4096x1408.size a), (Rect.unit (s := S2x4096x1408) (k0_off285 v34 k0_t4) S1x1024x1408.size hinb).WholeWords (EltTy.packing .fp8e4m3)) ∧
  (∀ k0_t4 : Fin (k0_t4_loop v34).trips, ∀ a, (k0_off287 v34 k0_t4) a + S1x1024x1408.size a ≤ S2x4096x1408.size a) ∧
  (∀ k0_t4 : Fin (k0_t4_loop v34).trips, ∀ a, (k0_off288 v34 k0_t4) a + S1x1x1024.size a ≤ S2x1x4096.size a) ∧
  (∀ k0_t4 : Fin (k0_t4_loop v34).trips, ∀ (k0_h20 : k0_cond20 v34 k0_t4 = 1#1), ∀ a, (k0_off289 v34 k0_t4) a + S1x1.size a ≤ S2x4.size a) ∧
  (∀ k0_t4 : Fin (k0_t4_loop v34).trips, ∀ (k0_h20 : k0_cond20 v34 k0_t4 = 1#1), ∀ a, (k0_off290 v34 k0_t4) a + S1x1024x1408.size a ≤ S2x4096x1408.size a) ∧
  (∀ k0_t4 : Fin (k0_t4_loop v34).trips, ∀ (k0_h20 : k0_cond20 v34 k0_t4 = 1#1), ∀ (hinb : ∀ a, (k0_off290 v34 k0_t4) a + S1x1024x1408.size a ≤ S2x4096x1408.size a), (Rect.unit (s := S2x4096x1408) (k0_off290 v34 k0_t4) S1x1024x1408.size hinb).WholeWords (EltTy.packing .fp8e4m3)) ∧
  (∀ k0_t4 : Fin (k0_t4_loop v34).trips, ∀ a, (k0_off292 v34 k0_t4) a + S1x1.size a ≤ S2x4.size a) ∧
  (∀ k0_t4 : Fin (k0_t4_loop v34).trips, ∀ a, (k0_off293 v34 k0_t4) a + S1x1024x1408.size a ≤ S2x4096x1408.size a) ∧
  (∀ k0_t4 : Fin (k0_t4_loop v34).trips, ∀ (hinb : ∀ a, (k0_off293 v34 k0_t4) a + S1x1024x1408.size a ≤ S2x4096x1408.size a), (Rect.unit (s := S2x4096x1408) (k0_off293 v34 k0_t4) S1x1024x1408.size hinb).WholeWords (EltTy.packing .fp8e4m3)) ∧
  (∀ k0_t4 : Fin (k0_t4_loop v34).trips, ∀ a, (k0_off295 v34 k0_t4) a + S1x1024x1408.size a ≤ S2x4096x1408.size a) ∧
  (∀ k0_t4 : Fin (k0_t4_loop v34).trips, ∀ a, (k0_off296 v34 k0_t4) a + S1x1x1024.size a ≤ S2x1x4096.size a) ∧
  (∀ k0_t4 : Fin (k0_t4_loop v34).trips, ∀ (k0_h21 : k0_cond21 v34 k0_t4 = 1#1), ∀ a, (k0_off297 v34 k0_t4) a + S1x1.size a ≤ S2x4.size a) ∧
  (∀ k0_t4 : Fin (k0_t4_loop v34).trips, ∀ (k0_h21 : k0_cond21 v34 k0_t4 = 1#1), ∀ a, (k0_off298 v34 k0_t4) a + S1x1024x1408.size a ≤ S2x4096x1408.size a) ∧
  (∀ k0_t4 : Fin (k0_t4_loop v34).trips, ∀ (k0_h21 : k0_cond21 v34 k0_t4 = 1#1), ∀ (hinb : ∀ a, (k0_off298 v34 k0_t4) a + S1x1024x1408.size a ≤ S2x4096x1408.size a), (Rect.unit (s := S2x4096x1408) (k0_off298 v34 k0_t4) S1x1024x1408.size hinb).WholeWords (EltTy.packing .fp8e4m3)) ∧
  (∀ k0_t4 : Fin (k0_t4_loop v34).trips, ∀ a, (k0_off300 v34 k0_t4) a + S1x1.size a ≤ S2x4.size a) ∧
  (∀ k0_t4 : Fin (k0_t4_loop v34).trips, ∀ a, (k0_off301 v34 k0_t4) a + S1x1024x1408.size a ≤ S2x4096x1408.size a) ∧
  (∀ k0_t4 : Fin (k0_t4_loop v34).trips, ∀ (hinb : ∀ a, (k0_off301 v34 k0_t4) a + S1x1024x1408.size a ≤ S2x4096x1408.size a), (Rect.unit (s := S2x4096x1408) (k0_off301 v34 k0_t4) S1x1024x1408.size hinb).WholeWords (EltTy.packing .fp8e4m3)) ∧
  (∀ k0_t4 : Fin (k0_t4_loop v34).trips, ∀ a, (k0_off303 v34 k0_t4) a + S1x1024x1408.size a ≤ S2x4096x1408.size a) ∧
  (∀ k0_t4 : Fin (k0_t4_loop v34).trips, ∀ a, (k0_off304 v34 k0_t4) a + S1x1x1024.size a ≤ S2x1x4096.size a) ∧
  (∀ k0_t4 : Fin (k0_t4_loop v34).trips, ∀ (k0_h22 : k0_cond22 v34 k0_t4 = 1#1), ∀ a, (k0_off305 v34 k0_t4) a + S1x1.size a ≤ S2x4.size a) ∧
  (∀ k0_t4 : Fin (k0_t4_loop v34).trips, ∀ (k0_h22 : k0_cond22 v34 k0_t4 = 1#1), ∀ a, (k0_off306 v34 k0_t4) a + S1x1024x1408.size a ≤ S2x4096x1408.size a) ∧
  (∀ k0_t4 : Fin (k0_t4_loop v34).trips, ∀ (k0_h22 : k0_cond22 v34 k0_t4 = 1#1), ∀ (hinb : ∀ a, (k0_off306 v34 k0_t4) a + S1x1024x1408.size a ≤ S2x4096x1408.size a), (Rect.unit (s := S2x4096x1408) (k0_off306 v34 k0_t4) S1x1024x1408.size hinb).WholeWords (EltTy.packing .fp8e4m3)) ∧
  (∀ k0_t4 : Fin (k0_t4_loop v34).trips, ∀ (k0_h22 : k0_cond22 v34 k0_t4 = 1#1), ∀ a, (k0_off308 v34 k0_t4) a + S1x1.size a ≤ S2x6.size a) ∧
  (∀ k0_t4 : Fin (k0_t4_loop v34).trips, ∀ (k0_h22 : k0_cond22 v34 k0_t4 = 1#1), ∀ a, (k0_off309 v34 k0_t4) a + S1x1x2816.size a ≤ S2x1x2816.size a) ∧
  (∀ k0_t4 : Fin (k0_t4_loop v34).trips, ∀ (k0_h22 : k0_cond22 v34 k0_t4 = 1#1), ∀ a, (k0_off311 v34 k0_t4) a + S1x1x4096.size a ≤ S2x1x4096.size a)
def k0_chk12 (v34 : BitVec 32) : Prop :=
  k0_chk12_0 v34 ∧
  k0_chk12_1 v34 ∧
  k0_chk12_2 v34 ∧
  k0_chk12_3 v34 ∧
  k0_chk12_4 v34 ∧
  k0_chk12_5 v34 ∧
  k0_chk12_6 v34 ∧
  k0_chk12_7 v34
theorem k0_t3_ok : ∀ (v34 : BitVec 32) (k0_hw12 : k0_chk12 v34), (k0_t3_loop v34).OK := fun v34 k0_hw12 => k0_hw12.1.1
theorem k0_off55_inb : ∀ (v34 : BitVec 32) (k0_hw12 : k0_chk12 v34) (k0_t3 : Fin (k0_t3_loop v34).trips), ∀ a, (k0_off55 v34 k0_t3) a + S1.size a ≤ S33.size a := fun v34 k0_hw12 k0_t3 => k0_hw12.1.2.1 k0_t3
theorem k0_off56_inb : ∀ (v34 : BitVec 32) (k0_hw12 : k0_chk12 v34) (k0_t3 : Fin (k0_t3_loop v34).trips), ∀ a, (k0_off56 v34 k0_t3) a + S1.size a ≤ S33.size a := fun v34 k0_hw12 k0_t3 => k0_hw12.1.2.2.1 k0_t3
theorem k0_off57_inb : ∀ (v34 : BitVec 32) (k0_hw12 : k0_chk12 v34) (k0_t3 : Fin (k0_t3_loop v34).trips), ∀ a, (k0_off57 v34 k0_t3) a + S1x1.size a ≤ S2x6.size a := fun v34 k0_hw12 k0_t3 => k0_hw12.1.2.2.2.1 k0_t3
theorem k0_off58_inb : ∀ (v34 : BitVec 32) (k0_hw12 : k0_chk12 v34) (k0_t3 : Fin (k0_t3_loop v34).trips), ∀ a, (k0_off58 v34 k0_t3) a + S1x256x4096.size a ≤ S2x2816x4096.size a := fun v34 k0_hw12 k0_t3 => k0_hw12.1.2.2.2.2.1 k0_t3
theorem k0_off58_wordsfp8e4m3 : ∀ (v34 : BitVec 32) (k0_hw12 : k0_chk12 v34) (k0_t3 : Fin (k0_t3_loop v34).trips), (Rect.unit (s := S2x2816x4096) (k0_off58 v34 k0_t3) S1x256x4096.size (k0_off58_inb v34 k0_hw12 k0_t3)).WholeWords (EltTy.packing .fp8e4m3) := fun v34 k0_hw12 k0_t3 => k0_hw12.1.2.2.2.2.2.1 k0_t3 (k0_off58_inb v34 k0_hw12 k0_t3)
theorem k0_off60_inb : ∀ (v34 : BitVec 32) (k0_hw12 : k0_chk12 v34) (k0_t3 : Fin (k0_t3_loop v34).trips), ∀ a, (k0_off60 v34 k0_t3) a + S1x1.size a ≤ S2x6.size a := fun v34 k0_hw12 k0_t3 => k0_hw12.1.2.2.2.2.2.2.1 k0_t3
theorem k0_off61_inb : ∀ (v34 : BitVec 32) (k0_hw12 : k0_chk12 v34) (k0_t3 : Fin (k0_t3_loop v34).trips), ∀ a, (k0_off61 v34 k0_t3) a + S1x256x4096.size a ≤ S2x2816x4096.size a := fun v34 k0_hw12 k0_t3 => k0_hw12.1.2.2.2.2.2.2.2.1 k0_t3
theorem k0_off61_wordsfp8e4m3 : ∀ (v34 : BitVec 32) (k0_hw12 : k0_chk12 v34) (k0_t3 : Fin (k0_t3_loop v34).trips), (Rect.unit (s := S2x2816x4096) (k0_off61 v34 k0_t3) S1x256x4096.size (k0_off61_inb v34 k0_hw12 k0_t3)).WholeWords (EltTy.packing .fp8e4m3) := fun v34 k0_hw12 k0_t3 => k0_hw12.1.2.2.2.2.2.2.2.2.1 k0_t3 (k0_off61_inb v34 k0_hw12 k0_t3)
theorem k0_off63_inb : ∀ (v34 : BitVec 32) (k0_hw12 : k0_chk12 v34) (k0_t3 : Fin (k0_t3_loop v34).trips), ∀ a, (k0_off63 v34 k0_t3) a + S1x1x2816.size a ≤ S2x1x2816.size a := fun v34 k0_hw12 k0_t3 => k0_hw12.1.2.2.2.2.2.2.2.2.2.1 k0_t3
theorem k0_off65_inb : ∀ (v34 : BitVec 32) (k0_hw12 : k0_chk12 v34) (k0_t3 : Fin (k0_t3_loop v34).trips), ∀ a, (k0_off65 v34 k0_t3) a + S1x1x4096.size a ≤ S2x1x4096.size a := fun v34 k0_hw12 k0_t3 => k0_hw12.1.2.2.2.2.2.2.2.2.2.2.1 k0_t3
theorem k0_off67_inb : ∀ (v34 : BitVec 32) (k0_hw12 : k0_chk12 v34) (k0_t3 : Fin (k0_t3_loop v34).trips), ∀ a, (k0_off67 v34 k0_t3) a + S1x256x4096.size a ≤ S2x2816x4096.size a := fun v34 k0_hw12 k0_t3 => k0_hw12.1.2.2.2.2.2.2.2.2.2.2.2.1 k0_t3
theorem k0_off68_inb : ∀ (v34 : BitVec 32) (k0_hw12 : k0_chk12 v34) (k0_t3 : Fin (k0_t3_loop v34).trips), ∀ a, (k0_off68 v34 k0_t3) a + S1x256x4096.size a ≤ S2x2816x4096.size a := fun v34 k0_hw12 k0_t3 => k0_hw12.1.2.2.2.2.2.2.2.2.2.2.2.2.1 k0_t3
theorem k0_off69_inb : ∀ (v34 : BitVec 32) (k0_hw12 : k0_chk12 v34) (k0_t3 : Fin (k0_t3_loop v34).trips), ∀ a, (k0_off69 v34 k0_t3) a + S1x1x256.size a ≤ S2x1x2816.size a := fun v34 k0_hw12 k0_t3 => k0_hw12.1.2.2.2.2.2.2.2.2.2.2.2.2.2.1 k0_t3
theorem k0_off70_inb : ∀ (v34 : BitVec 32) (k0_hw12 : k0_chk12 v34) (k0_t3 : Fin (k0_t3_loop v34).trips), ∀ a, (k0_off70 v34 k0_t3) a + S1x1x256.size a ≤ S2x1x2816.size a := fun v34 k0_hw12 k0_t3 => k0_hw12.1.2.2.2.2.2.2.2.2.2.2.2.2.2.2.1 k0_t3
theorem k0_off71_inb : ∀ (v34 : BitVec 32) (k0_hw12 : k0_chk12 v34) (k0_t3 : Fin (k0_t3_loop v34).trips), ∀ (k0_h3 : k0_cond3 v34 k0_t3 = 1#1), ∀ a, (k0_off71 v34 k0_t3) a + S1x1.size a ≤ S2x6.size a := fun v34 k0_hw12 k0_t3 k0_h3 => k0_hw12.1.2.2.2.2.2.2.2.2.2.2.2.2.2.2.2.1 k0_t3 k0_h3
theorem k0_off72_inb : ∀ (v34 : BitVec 32) (k0_hw12 : k0_chk12 v34) (k0_t3 : Fin (k0_t3_loop v34).trips), ∀ (k0_h3 : k0_cond3 v34 k0_t3 = 1#1), ∀ a, (k0_off72 v34 k0_t3) a + S1x256x4096.size a ≤ S2x2816x4096.size a := fun v34 k0_hw12 k0_t3 k0_h3 => k0_hw12.1.2.2.2.2.2.2.2.2.2.2.2.2.2.2.2.2.1 k0_t3 k0_h3
theorem k0_off72_wordsfp8e4m3 : ∀ (v34 : BitVec 32) (k0_hw12 : k0_chk12 v34) (k0_t3 : Fin (k0_t3_loop v34).trips), ∀ (k0_h3 : k0_cond3 v34 k0_t3 = 1#1), (Rect.unit (s := S2x2816x4096) (k0_off72 v34 k0_t3) S1x256x4096.size (k0_off72_inb v34 k0_hw12 k0_t3 k0_h3)).WholeWords (EltTy.packing .fp8e4m3) := fun v34 k0_hw12 k0_t3 k0_h3 => k0_hw12.1.2.2.2.2.2.2.2.2.2.2.2.2.2.2.2.2.2.1 k0_t3 k0_h3 (k0_off72_inb v34 k0_hw12 k0_t3 k0_h3)
theorem k0_off74_inb : ∀ (v34 : BitVec 32) (k0_hw12 : k0_chk12 v34) (k0_t3 : Fin (k0_t3_loop v34).trips), ∀ (k0_h3 : k0_cond3 v34 k0_t3 = 1#1), ∀ a, (k0_off74 v34 k0_t3) a + S1x1.size a ≤ S2x6.size a := fun v34 k0_hw12 k0_t3 k0_h3 => k0_hw12.1.2.2.2.2.2.2.2.2.2.2.2.2.2.2.2.2.2.2.1 k0_t3 k0_h3
theorem k0_off75_inb : ∀ (v34 : BitVec 32) (k0_hw12 : k0_chk12 v34) (k0_t3 : Fin (k0_t3_loop v34).trips), ∀ (k0_h3 : k0_cond3 v34 k0_t3 = 1#1), ∀ a, (k0_off75 v34 k0_t3) a + S1x256x4096.size a ≤ S2x2816x4096.size a := fun v34 k0_hw12 k0_t3 k0_h3 => k0_hw12.1.2.2.2.2.2.2.2.2.2.2.2.2.2.2.2.2.2.2.2.1 k0_t3 k0_h3
theorem k0_off75_wordsfp8e4m3 : ∀ (v34 : BitVec 32) (k0_hw12 : k0_chk12 v34) (k0_t3 : Fin (k0_t3_loop v34).trips), ∀ (k0_h3 : k0_cond3 v34 k0_t3 = 1#1), (Rect.unit (s := S2x2816x4096) (k0_off75 v34 k0_t3) S1x256x4096.size (k0_off75_inb v34 k0_hw12 k0_t3 k0_h3)).WholeWords (EltTy.packing .fp8e4m3) := fun v34 k0_hw12 k0_t3 k0_h3 => k0_hw12.1.2.2.2.2.2.2.2.2.2.2.2.2.2.2.2.2.2.2.2.2.1 k0_t3 k0_h3 (k0_off75_inb v34 k0_hw12 k0_t3 k0_h3)
theorem k0_off77_inb : ∀ (v34 : BitVec 32) (k0_hw12 : k0_chk12 v34) (k0_t3 : Fin (k0_t3_loop v34).trips), ∀ a, (k0_off77 v34 k0_t3) a + S1x1.size a ≤ S2x6.size a := fun v34 k0_hw12 k0_t3 => k0_hw12.1.2.2.2.2.2.2.2.2.2.2.2.2.2.2.2.2.2.2.2.2.2.1 k0_t3
theorem k0_off78_inb : ∀ (v34 : BitVec 32) (k0_hw12 : k0_chk12 v34) (k0_t3 : Fin (k0_t3_loop v34).trips), ∀ a, (k0_off78 v34 k0_t3) a + S1x256x4096.size a ≤ S2x2816x4096.size a := fun v34 k0_hw12 k0_t3 => k0_hw12.1.2.2.2.2.2.2.2.2.2.2.2.2.2.2.2.2.2.2.2.2.2.2.1 k0_t3
theorem k0_off78_wordsfp8e4m3 : ∀ (v34 : BitVec 32) (k0_hw12 : k0_chk12 v34) (k0_t3 : Fin (k0_t3_loop v34).trips), (Rect.unit (s := S2x2816x4096) (k0_off78 v34 k0_t3) S1x256x4096.size (k0_off78_inb v34 k0_hw12 k0_t3)).WholeWords (EltTy.packing .fp8e4m3) := fun v34 k0_hw12 k0_t3 => k0_hw12.1.2.2.2.2.2.2.2.2.2.2.2.2.2.2.2.2.2.2.2.2.2.2.2.1 k0_t3 (k0_off78_inb v34 k0_hw12 k0_t3)
theorem k0_off80_inb : ∀ (v34 : BitVec 32) (k0_hw12 : k0_chk12 v34) (k0_t3 : Fin (k0_t3_loop v34).trips), ∀ a, (k0_off80 v34 k0_t3) a + S1x256x4096.size a ≤ S2x2816x4096.size a := fun v34 k0_hw12 k0_t3 => k0_hw12.1.2.2.2.2.2.2.2.2.2.2.2.2.2.2.2.2.2.2.2.2.2.2.2.2.1 k0_t3
theorem k0_off80_wordsfp8e4m3 : ∀ (v34 : BitVec 32) (k0_hw12 : k0_chk12 v34) (k0_t3 : Fin (k0_t3_loop v34).trips), (Rect.unit (s := S2x2816x4096) (k0_off80 v34 k0_t3) S1x256x4096.size (k0_off80_inb v34 k0_hw12 k0_t3)).WholeWords (EltTy.packing .fp8e4m3) := fun v34 k0_hw12 k0_t3 => k0_hw12.1.2.2.2.2.2.2.2.2.2.2.2.2.2.2.2.2.2.2.2.2.2.2.2.2.2.1 k0_t3 (k0_off80_inb v34 k0_hw12 k0_t3)
theorem k0_off82_inb : ∀ (v34 : BitVec 32) (k0_hw12 : k0_chk12 v34) (k0_t3 : Fin (k0_t3_loop v34).trips), ∀ a, (k0_off82 v34 k0_t3) a + S1x256x4096.size a ≤ S2x2816x4096.size a := fun v34 k0_hw12 k0_t3 => k0_hw12.1.2.2.2.2.2.2.2.2.2.2.2.2.2.2.2.2.2.2.2.2.2.2.2.2.2.2.1 k0_t3
theorem k0_off83_inb : ∀ (v34 : BitVec 32) (k0_hw12 : k0_chk12 v34) (k0_t3 : Fin (k0_t3_loop v34).trips), ∀ a, (k0_off83 v34 k0_t3) a + S1x256x4096.size a ≤ S2x2816x4096.size a := fun v34 k0_hw12 k0_t3 => k0_hw12.1.2.2.2.2.2.2.2.2.2.2.2.2.2.2.2.2.2.2.2.2.2.2.2.2.2.2.2.1 k0_t3
theorem k0_off84_inb : ∀ (v34 : BitVec 32) (k0_hw12 : k0_chk12 v34) (k0_t3 : Fin (k0_t3_loop v34).trips), ∀ a, (k0_off84 v34 k0_t3) a + S1x1x256.size a ≤ S2x1x2816.size a := fun v34 k0_hw12 k0_t3 => k0_hw12.1.2.2.2.2.2.2.2.2.2.2.2.2.2.2.2.2.2.2.2.2.2.2.2.2.2.2.2.2.1 k0_t3
theorem k0_off85_inb : ∀ (v34 : BitVec 32) (k0_hw12 : k0_chk12 v34) (k0_t3 : Fin (k0_t3_loop v34).trips), ∀ a, (k0_off85 v34 k0_t3) a + S1x1x256.size a ≤ S2x1x2816.size a := fun v34 k0_hw12 k0_t3 => k0_hw12.1.2.2.2.2.2.2.2.2.2.2.2.2.2.2.2.2.2.2.2.2.2.2.2.2.2.2.2.2.2.1 k0_t3
theorem k0_off86_inb : ∀ (v34 : BitVec 32) (k0_hw12 : k0_chk12 v34) (k0_t3 : Fin (k0_t3_loop v34).trips), ∀ (k0_h4 : k0_cond4 v34 k0_t3 = 1#1), ∀ a, (k0_off86 v34 k0_t3) a + S1x1.size a ≤ S2x6.size a := fun v34 k0_hw12 k0_t3 k0_h4 => k0_hw12.1.2.2.2.2.2.2.2.2.2.2.2.2.2.2.2.2.2.2.2.2.2.2.2.2.2.2.2.2.2.2.1 k0_t3 k0_h4
theorem k0_off87_inb : ∀ (v34 : BitVec 32) (k0_hw12 : k0_chk12 v34) (k0_t3 : Fin (k0_t3_loop v34).trips), ∀ (k0_h4 : k0_cond4 v34 k0_t3 = 1#1), ∀ a, (k0_off87 v34 k0_t3) a + S1x256x4096.size a ≤ S2x2816x4096.size a := fun v34 k0_hw12 k0_t3 k0_h4 => k0_hw12.1.2.2.2.2.2.2.2.2.2.2.2.2.2.2.2.2.2.2.2.2.2.2.2.2.2.2.2.2.2.2.2 k0_t3 k0_h4
theorem k0_off87_wordsfp8e4m3 : ∀ (v34 : BitVec 32) (k0_hw12 : k0_chk12 v34) (k0_t3 : Fin (k0_t3_loop v34).trips), ∀ (k0_h4 : k0_cond4 v34 k0_t3 = 1#1), (Rect.unit (s := S2x2816x4096) (k0_off87 v34 k0_t3) S1x256x4096.size (k0_off87_inb v34 k0_hw12 k0_t3 k0_h4)).WholeWords (EltTy.packing .fp8e4m3) := fun v34 k0_hw12 k0_t3 k0_h4 => k0_hw12.2.1.1 k0_t3 k0_h4 (k0_off87_inb v34 k0_hw12 k0_t3 k0_h4)
theorem k0_off89_inb : ∀ (v34 : BitVec 32) (k0_hw12 : k0_chk12 v34) (k0_t3 : Fin (k0_t3_loop v34).trips), ∀ (k0_h4 : k0_cond4 v34 k0_t3 = 1#1), ∀ a, (k0_off89 v34 k0_t3) a + S1x256x4096.size a ≤ S2x2816x4096.size a := fun v34 k0_hw12 k0_t3 k0_h4 => k0_hw12.2.1.2.1 k0_t3 k0_h4
theorem k0_off89_wordsfp8e4m3 : ∀ (v34 : BitVec 32) (k0_hw12 : k0_chk12 v34) (k0_t3 : Fin (k0_t3_loop v34).trips), ∀ (k0_h4 : k0_cond4 v34 k0_t3 = 1#1), (Rect.unit (s := S2x2816x4096) (k0_off89 v34 k0_t3) S1x256x4096.size (k0_off89_inb v34 k0_hw12 k0_t3 k0_h4)).WholeWords (EltTy.packing .fp8e4m3) := fun v34 k0_hw12 k0_t3 k0_h4 => k0_hw12.2.1.2.2.1 k0_t3 k0_h4 (k0_off89_inb v34 k0_hw12 k0_t3 k0_h4)
theorem k0_off91_inb : ∀ (v34 : BitVec 32) (k0_hw12 : k0_chk12 v34) (k0_t3 : Fin (k0_t3_loop v34).trips), ∀ a, (k0_off91 v34 k0_t3) a + S1x1.size a ≤ S2x6.size a := fun v34 k0_hw12 k0_t3 => k0_hw12.2.1.2.2.2.1 k0_t3
theorem k0_off92_inb : ∀ (v34 : BitVec 32) (k0_hw12 : k0_chk12 v34) (k0_t3 : Fin (k0_t3_loop v34).trips), ∀ a, (k0_off92 v34 k0_t3) a + S1x256x4096.size a ≤ S2x2816x4096.size a := fun v34 k0_hw12 k0_t3 => k0_hw12.2.1.2.2.2.2.1 k0_t3
theorem k0_off92_wordsfp8e4m3 : ∀ (v34 : BitVec 32) (k0_hw12 : k0_chk12 v34) (k0_t3 : Fin (k0_t3_loop v34).trips), (Rect.unit (s := S2x2816x4096) (k0_off92 v34 k0_t3) S1x256x4096.size (k0_off92_inb v34 k0_hw12 k0_t3)).WholeWords (EltTy.packing .fp8e4m3) := fun v34 k0_hw12 k0_t3 => k0_hw12.2.1.2.2.2.2.2.1 k0_t3 (k0_off92_inb v34 k0_hw12 k0_t3)
theorem k0_off94_inb : ∀ (v34 : BitVec 32) (k0_hw12 : k0_chk12 v34) (k0_t3 : Fin (k0_t3_loop v34).trips), ∀ a, (k0_off94 v34 k0_t3) a + S1x256x4096.size a ≤ S2x2816x4096.size a := fun v34 k0_hw12 k0_t3 => k0_hw12.2.1.2.2.2.2.2.2.1 k0_t3
theorem k0_off94_wordsfp8e4m3 : ∀ (v34 : BitVec 32) (k0_hw12 : k0_chk12 v34) (k0_t3 : Fin (k0_t3_loop v34).trips), (Rect.unit (s := S2x2816x4096) (k0_off94 v34 k0_t3) S1x256x4096.size (k0_off94_inb v34 k0_hw12 k0_t3)).WholeWords (EltTy.packing .fp8e4m3) := fun v34 k0_hw12 k0_t3 => k0_hw12.2.1.2.2.2.2.2.2.2.1 k0_t3 (k0_off94_inb v34 k0_hw12 k0_t3)
theorem k0_off96_inb : ∀ (v34 : BitVec 32) (k0_hw12 : k0_chk12 v34) (k0_t3 : Fin (k0_t3_loop v34).trips), ∀ a, (k0_off96 v34 k0_t3) a + S1x256x4096.size a ≤ S2x2816x4096.size a := fun v34 k0_hw12 k0_t3 => k0_hw12.2.1.2.2.2.2.2.2.2.2.1 k0_t3
theorem k0_off97_inb : ∀ (v34 : BitVec 32) (k0_hw12 : k0_chk12 v34) (k0_t3 : Fin (k0_t3_loop v34).trips), ∀ a, (k0_off97 v34 k0_t3) a + S1x256x4096.size a ≤ S2x2816x4096.size a := fun v34 k0_hw12 k0_t3 => k0_hw12.2.1.2.2.2.2.2.2.2.2.2.1 k0_t3
theorem k0_off98_inb : ∀ (v34 : BitVec 32) (k0_hw12 : k0_chk12 v34) (k0_t3 : Fin (k0_t3_loop v34).trips), ∀ a, (k0_off98 v34 k0_t3) a + S1x1x256.size a ≤ S2x1x2816.size a := fun v34 k0_hw12 k0_t3 => k0_hw12.2.1.2.2.2.2.2.2.2.2.2.2.1 k0_t3
theorem k0_off99_inb : ∀ (v34 : BitVec 32) (k0_hw12 : k0_chk12 v34) (k0_t3 : Fin (k0_t3_loop v34).trips), ∀ a, (k0_off99 v34 k0_t3) a + S1x1x256.size a ≤ S2x1x2816.size a := fun v34 k0_hw12 k0_t3 => k0_hw12.2.1.2.2.2.2.2.2.2.2.2.2.2.1 k0_t3
theorem k0_off100_inb : ∀ (v34 : BitVec 32) (k0_hw12 : k0_chk12 v34) (k0_t3 : Fin (k0_t3_loop v34).trips), ∀ (k0_h5 : k0_cond5 v34 k0_t3 = 1#1), ∀ a, (k0_off100 v34 k0_t3) a + S1x1.size a ≤ S2x6.size a := fun v34 k0_hw12 k0_t3 k0_h5 => k0_hw12.2.1.2.2.2.2.2.2.2.2.2.2.2.2.1 k0_t3 k0_h5
theorem k0_off101_inb : ∀ (v34 : BitVec 32) (k0_hw12 : k0_chk12 v34) (k0_t3 : Fin (k0_t3_loop v34).trips), ∀ (k0_h5 : k0_cond5 v34 k0_t3 = 1#1), ∀ a, (k0_off101 v34 k0_t3) a + S1x256x4096.size a ≤ S2x2816x4096.size a := fun v34 k0_hw12 k0_t3 k0_h5 => k0_hw12.2.1.2.2.2.2.2.2.2.2.2.2.2.2.2.1 k0_t3 k0_h5
theorem k0_off101_wordsfp8e4m3 : ∀ (v34 : BitVec 32) (k0_hw12 : k0_chk12 v34) (k0_t3 : Fin (k0_t3_loop v34).trips), ∀ (k0_h5 : k0_cond5 v34 k0_t3 = 1#1), (Rect.unit (s := S2x2816x4096) (k0_off101 v34 k0_t3) S1x256x4096.size (k0_off101_inb v34 k0_hw12 k0_t3 k0_h5)).WholeWords (EltTy.packing .fp8e4m3) := fun v34 k0_hw12 k0_t3 k0_h5 => k0_hw12.2.1.2.2.2.2.2.2.2.2.2.2.2.2.2.2.1 k0_t3 k0_h5 (k0_off101_inb v34 k0_hw12 k0_t3 k0_h5)
theorem k0_off103_inb : ∀ (v34 : BitVec 32) (k0_hw12 : k0_chk12 v34) (k0_t3 : Fin (k0_t3_loop v34).trips), ∀ (k0_h5 : k0_cond5 v34 k0_t3 = 1#1), ∀ a, (k0_off103 v34 k0_t3) a + S1x256x4096.size a ≤ S2x2816x4096.size a := fun v34 k0_hw12 k0_t3 k0_h5 => k0_hw12.2.1.2.2.2.2.2.2.2.2.2.2.2.2.2.2.2.1 k0_t3 k0_h5
theorem k0_off103_wordsfp8e4m3 : ∀ (v34 : BitVec 32) (k0_hw12 : k0_chk12 v34) (k0_t3 : Fin (k0_t3_loop v34).trips), ∀ (k0_h5 : k0_cond5 v34 k0_t3 = 1#1), (Rect.unit (s := S2x2816x4096) (k0_off103 v34 k0_t3) S1x256x4096.size (k0_off103_inb v34 k0_hw12 k0_t3 k0_h5)).WholeWords (EltTy.packing .fp8e4m3) := fun v34 k0_hw12 k0_t3 k0_h5 => k0_hw12.2.1.2.2.2.2.2.2.2.2.2.2.2.2.2.2.2.2.1 k0_t3 k0_h5 (k0_off103_inb v34 k0_hw12 k0_t3 k0_h5)
theorem k0_off105_inb : ∀ (v34 : BitVec 32) (k0_hw12 : k0_chk12 v34) (k0_t3 : Fin (k0_t3_loop v34).trips), ∀ a, (k0_off105 v34 k0_t3) a + S1x1.size a ≤ S2x6.size a := fun v34 k0_hw12 k0_t3 => k0_hw12.2.1.2.2.2.2.2.2.2.2.2.2.2.2.2.2.2.2.2.1 k0_t3
theorem k0_off106_inb : ∀ (v34 : BitVec 32) (k0_hw12 : k0_chk12 v34) (k0_t3 : Fin (k0_t3_loop v34).trips), ∀ a, (k0_off106 v34 k0_t3) a + S1x256x4096.size a ≤ S2x2816x4096.size a := fun v34 k0_hw12 k0_t3 => k0_hw12.2.1.2.2.2.2.2.2.2.2.2.2.2.2.2.2.2.2.2.2.1 k0_t3
theorem k0_off106_wordsfp8e4m3 : ∀ (v34 : BitVec 32) (k0_hw12 : k0_chk12 v34) (k0_t3 : Fin (k0_t3_loop v34).trips), (Rect.unit (s := S2x2816x4096) (k0_off106 v34 k0_t3) S1x256x4096.size (k0_off106_inb v34 k0_hw12 k0_t3)).WholeWords (EltTy.packing .fp8e4m3) := fun v34 k0_hw12 k0_t3 => k0_hw12.2.1.2.2.2.2.2.2.2.2.2.2.2.2.2.2.2.2.2.2.2.1 k0_t3 (k0_off106_inb v34 k0_hw12 k0_t3)
theorem k0_off108_inb : ∀ (v34 : BitVec 32) (k0_hw12 : k0_chk12 v34) (k0_t3 : Fin (k0_t3_loop v34).trips), ∀ a, (k0_off108 v34 k0_t3) a + S1x256x4096.size a ≤ S2x2816x4096.size a := fun v34 k0_hw12 k0_t3 => k0_hw12.2.1.2.2.2.2.2.2.2.2.2.2.2.2.2.2.2.2.2.2.2.2.1 k0_t3
theorem k0_off108_wordsfp8e4m3 : ∀ (v34 : BitVec 32) (k0_hw12 : k0_chk12 v34) (k0_t3 : Fin (k0_t3_loop v34).trips), (Rect.unit (s := S2x2816x4096) (k0_off108 v34 k0_t3) S1x256x4096.size (k0_off108_inb v34 k0_hw12 k0_t3)).WholeWords (EltTy.packing .fp8e4m3) := fun v34 k0_hw12 k0_t3 => k0_hw12.2.1.2.2.2.2.2.2.2.2.2.2.2.2.2.2.2.2.2.2.2.2.2.1 k0_t3 (k0_off108_inb v34 k0_hw12 k0_t3)
theorem k0_off110_inb : ∀ (v34 : BitVec 32) (k0_hw12 : k0_chk12 v34) (k0_t3 : Fin (k0_t3_loop v34).trips), ∀ a, (k0_off110 v34 k0_t3) a + S1x256x4096.size a ≤ S2x2816x4096.size a := fun v34 k0_hw12 k0_t3 => k0_hw12.2.1.2.2.2.2.2.2.2.2.2.2.2.2.2.2.2.2.2.2.2.2.2.2.1 k0_t3
theorem k0_off111_inb : ∀ (v34 : BitVec 32) (k0_hw12 : k0_chk12 v34) (k0_t3 : Fin (k0_t3_loop v34).trips), ∀ a, (k0_off111 v34 k0_t3) a + S1x256x4096.size a ≤ S2x2816x4096.size a := fun v34 k0_hw12 k0_t3 => k0_hw12.2.1.2.2.2.2.2.2.2.2.2.2.2.2.2.2.2.2.2.2.2.2.2.2.2.1 k0_t3
theorem k0_off112_inb : ∀ (v34 : BitVec 32) (k0_hw12 : k0_chk12 v34) (k0_t3 : Fin (k0_t3_loop v34).trips), ∀ a, (k0_off112 v34 k0_t3) a + S1x1x256.size a ≤ S2x1x2816.size a := fun v34 k0_hw12 k0_t3 => k0_hw12.2.1.2.2.2.2.2.2.2.2.2.2.2.2.2.2.2.2.2.2.2.2.2.2.2.2.1 k0_t3
theorem k0_off113_inb : ∀ (v34 : BitVec 32) (k0_hw12 : k0_chk12 v34) (k0_t3 : Fin (k0_t3_loop v34).trips), ∀ a, (k0_off113 v34 k0_t3) a + S1x1x256.size a ≤ S2x1x2816.size a := fun v34 k0_hw12 k0_t3 => k0_hw12.2.1.2.2.2.2.2.2.2.2.2.2.2.2.2.2.2.2.2.2.2.2.2.2.2.2.2.1 k0_t3
theorem k0_off114_inb : ∀ (v34 : BitVec 32) (k0_hw12 : k0_chk12 v34) (k0_t3 : Fin (k0_t3_loop v34).trips), ∀ (k0_h6 : k0_cond6 v34 k0_t3 = 1#1), ∀ a, (k0_off114 v34 k0_t3) a + S1x1.size a ≤ S2x6.size a := fun v34 k0_hw12 k0_t3 k0_h6 => k0_hw12.2.1.2.2.2.2.2.2.2.2.2.2.2.2.2.2.2.2.2.2.2.2.2.2.2.2.2.2.1 k0_t3 k0_h6
theorem k0_off115_inb : ∀ (v34 : BitVec 32) (k0_hw12 : k0_chk12 v34) (k0_t3 : Fin (k0_t3_loop v34).trips), ∀ (k0_h6 : k0_cond6 v34 k0_t3 = 1#1), ∀ a, (k0_off115 v34 k0_t3) a + S1x256x4096.size a ≤ S2x2816x4096.size a := fun v34 k0_hw12 k0_t3 k0_h6 => k0_hw12.2.1.2.2.2.2.2.2.2.2.2.2.2.2.2.2.2.2.2.2.2.2.2.2.2.2.2.2.2.1 k0_t3 k0_h6
theorem k0_off115_wordsfp8e4m3 : ∀ (v34 : BitVec 32) (k0_hw12 : k0_chk12 v34) (k0_t3 : Fin (k0_t3_loop v34).trips), ∀ (k0_h6 : k0_cond6 v34 k0_t3 = 1#1), (Rect.unit (s := S2x2816x4096) (k0_off115 v34 k0_t3) S1x256x4096.size (k0_off115_inb v34 k0_hw12 k0_t3 k0_h6)).WholeWords (EltTy.packing .fp8e4m3) := fun v34 k0_hw12 k0_t3 k0_h6 => k0_hw12.2.1.2.2.2.2.2.2.2.2.2.2.2.2.2.2.2.2.2.2.2.2.2.2.2.2.2.2.2.2.1 k0_t3 k0_h6 (k0_off115_inb v34 k0_hw12 k0_t3 k0_h6)
theorem k0_off117_inb : ∀ (v34 : BitVec 32) (k0_hw12 : k0_chk12 v34) (k0_t3 : Fin (k0_t3_loop v34).trips), ∀ (k0_h6 : k0_cond6 v34 k0_t3 = 1#1), ∀ a, (k0_off117 v34 k0_t3) a + S1x256x4096.size a ≤ S2x2816x4096.size a := fun v34 k0_hw12 k0_t3 k0_h6 => k0_hw12.2.1.2.2.2.2.2.2.2.2.2.2.2.2.2.2.2.2.2.2.2.2.2.2.2.2.2.2.2.2.2.1 k0_t3 k0_h6
theorem k0_off117_wordsfp8e4m3 : ∀ (v34 : BitVec 32) (k0_hw12 : k0_chk12 v34) (k0_t3 : Fin (k0_t3_loop v34).trips), ∀ (k0_h6 : k0_cond6 v34 k0_t3 = 1#1), (Rect.unit (s := S2x2816x4096) (k0_off117 v34 k0_t3) S1x256x4096.size (k0_off117_inb v34 k0_hw12 k0_t3 k0_h6)).WholeWords (EltTy.packing .fp8e4m3) := fun v34 k0_hw12 k0_t3 k0_h6 => k0_hw12.2.1.2.2.2.2.2.2.2.2.2.2.2.2.2.2.2.2.2.2.2.2.2.2.2.2.2.2.2.2.2.2.1 k0_t3 k0_h6 (k0_off117_inb v34 k0_hw12 k0_t3 k0_h6)
theorem k0_off119_inb : ∀ (v34 : BitVec 32) (k0_hw12 : k0_chk12 v34) (k0_t3 : Fin (k0_t3_loop v34).trips), ∀ a, (k0_off119 v34 k0_t3) a + S1x1.size a ≤ S2x6.size a := fun v34 k0_hw12 k0_t3 => k0_hw12.2.1.2.2.2.2.2.2.2.2.2.2.2.2.2.2.2.2.2.2.2.2.2.2.2.2.2.2.2.2.2.2.2 k0_t3
theorem k0_off120_inb : ∀ (v34 : BitVec 32) (k0_hw12 : k0_chk12 v34) (k0_t3 : Fin (k0_t3_loop v34).trips), ∀ a, (k0_off120 v34 k0_t3) a + S1x256x4096.size a ≤ S2x2816x4096.size a := fun v34 k0_hw12 k0_t3 => k0_hw12.2.2.1.1 k0_t3
theorem k0_off120_wordsfp8e4m3 : ∀ (v34 : BitVec 32) (k0_hw12 : k0_chk12 v34) (k0_t3 : Fin (k0_t3_loop v34).trips), (Rect.unit (s := S2x2816x4096) (k0_off120 v34 k0_t3) S1x256x4096.size (k0_off120_inb v34 k0_hw12 k0_t3)).WholeWords (EltTy.packing .fp8e4m3) := fun v34 k0_hw12 k0_t3 => k0_hw12.2.2.1.2.1 k0_t3 (k0_off120_inb v34 k0_hw12 k0_t3)
theorem k0_off122_inb : ∀ (v34 : BitVec 32) (k0_hw12 : k0_chk12 v34) (k0_t3 : Fin (k0_t3_loop v34).trips), ∀ a, (k0_off122 v34 k0_t3) a + S1x256x4096.size a ≤ S2x2816x4096.size a := fun v34 k0_hw12 k0_t3 => k0_hw12.2.2.1.2.2.1 k0_t3
theorem k0_off122_wordsfp8e4m3 : ∀ (v34 : BitVec 32) (k0_hw12 : k0_chk12 v34) (k0_t3 : Fin (k0_t3_loop v34).trips), (Rect.unit (s := S2x2816x4096) (k0_off122 v34 k0_t3) S1x256x4096.size (k0_off122_inb v34 k0_hw12 k0_t3)).WholeWords (EltTy.packing .fp8e4m3) := fun v34 k0_hw12 k0_t3 => k0_hw12.2.2.1.2.2.2.1 k0_t3 (k0_off122_inb v34 k0_hw12 k0_t3)
theorem k0_off124_inb : ∀ (v34 : BitVec 32) (k0_hw12 : k0_chk12 v34) (k0_t3 : Fin (k0_t3_loop v34).trips), ∀ a, (k0_off124 v34 k0_t3) a + S1x256x4096.size a ≤ S2x2816x4096.size a := fun v34 k0_hw12 k0_t3 => k0_hw12.2.2.1.2.2.2.2.1 k0_t3
theorem k0_off125_inb : ∀ (v34 : BitVec 32) (k0_hw12 : k0_chk12 v34) (k0_t3 : Fin (k0_t3_loop v34).trips), ∀ a, (k0_off125 v34 k0_t3) a + S1x256x4096.size a ≤ S2x2816x4096.size a := fun v34 k0_hw12 k0_t3 => k0_hw12.2.2.1.2.2.2.2.2.1 k0_t3
theorem k0_off126_inb : ∀ (v34 : BitVec 32) (k0_hw12 : k0_chk12 v34) (k0_t3 : Fin (k0_t3_loop v34).trips), ∀ a, (k0_off126 v34 k0_t3) a + S1x1x256.size a ≤ S2x1x2816.size a := fun v34 k0_hw12 k0_t3 => k0_hw12.2.2.1.2.2.2.2.2.2.1 k0_t3
theorem k0_off127_inb : ∀ (v34 : BitVec 32) (k0_hw12 : k0_chk12 v34) (k0_t3 : Fin (k0_t3_loop v34).trips), ∀ a, (k0_off127 v34 k0_t3) a + S1x1x256.size a ≤ S2x1x2816.size a := fun v34 k0_hw12 k0_t3 => k0_hw12.2.2.1.2.2.2.2.2.2.2.1 k0_t3
theorem k0_off128_inb : ∀ (v34 : BitVec 32) (k0_hw12 : k0_chk12 v34) (k0_t3 : Fin (k0_t3_loop v34).trips), ∀ (k0_h7 : k0_cond7 v34 k0_t3 = 1#1), ∀ a, (k0_off128 v34 k0_t3) a + S1x1.size a ≤ S2x6.size a := fun v34 k0_hw12 k0_t3 k0_h7 => k0_hw12.2.2.1.2.2.2.2.2.2.2.2.1 k0_t3 k0_h7
theorem k0_off129_inb : ∀ (v34 : BitVec 32) (k0_hw12 : k0_chk12 v34) (k0_t3 : Fin (k0_t3_loop v34).trips), ∀ (k0_h7 : k0_cond7 v34 k0_t3 = 1#1), ∀ a, (k0_off129 v34 k0_t3) a + S1x256x4096.size a ≤ S2x2816x4096.size a := fun v34 k0_hw12 k0_t3 k0_h7 => k0_hw12.2.2.1.2.2.2.2.2.2.2.2.2.1 k0_t3 k0_h7
theorem k0_off129_wordsfp8e4m3 : ∀ (v34 : BitVec 32) (k0_hw12 : k0_chk12 v34) (k0_t3 : Fin (k0_t3_loop v34).trips), ∀ (k0_h7 : k0_cond7 v34 k0_t3 = 1#1), (Rect.unit (s := S2x2816x4096) (k0_off129 v34 k0_t3) S1x256x4096.size (k0_off129_inb v34 k0_hw12 k0_t3 k0_h7)).WholeWords (EltTy.packing .fp8e4m3) := fun v34 k0_hw12 k0_t3 k0_h7 => k0_hw12.2.2.1.2.2.2.2.2.2.2.2.2.2.1 k0_t3 k0_h7 (k0_off129_inb v34 k0_hw12 k0_t3 k0_h7)
theorem k0_off131_inb : ∀ (v34 : BitVec 32) (k0_hw12 : k0_chk12 v34) (k0_t3 : Fin (k0_t3_loop v34).trips), ∀ (k0_h7 : k0_cond7 v34 k0_t3 = 1#1), ∀ a, (k0_off131 v34 k0_t3) a + S1x256x4096.size a ≤ S2x2816x4096.size a := fun v34 k0_hw12 k0_t3 k0_h7 => k0_hw12.2.2.1.2.2.2.2.2.2.2.2.2.2.2.1 k0_t3 k0_h7
theorem k0_off131_wordsfp8e4m3 : ∀ (v34 : BitVec 32) (k0_hw12 : k0_chk12 v34) (k0_t3 : Fin (k0_t3_loop v34).trips), ∀ (k0_h7 : k0_cond7 v34 k0_t3 = 1#1), (Rect.unit (s := S2x2816x4096) (k0_off131 v34 k0_t3) S1x256x4096.size (k0_off131_inb v34 k0_hw12 k0_t3 k0_h7)).WholeWords (EltTy.packing .fp8e4m3) := fun v34 k0_hw12 k0_t3 k0_h7 => k0_hw12.2.2.1.2.2.2.2.2.2.2.2.2.2.2.2.1 k0_t3 k0_h7 (k0_off131_inb v34 k0_hw12 k0_t3 k0_h7)
theorem k0_off133_inb : ∀ (v34 : BitVec 32) (k0_hw12 : k0_chk12 v34) (k0_t3 : Fin (k0_t3_loop v34).trips), ∀ a, (k0_off133 v34 k0_t3) a + S1x1.size a ≤ S2x6.size a := fun v34 k0_hw12 k0_t3 => k0_hw12.2.2.1.2.2.2.2.2.2.2.2.2.2.2.2.2.1 k0_t3
theorem k0_off134_inb : ∀ (v34 : BitVec 32) (k0_hw12 : k0_chk12 v34) (k0_t3 : Fin (k0_t3_loop v34).trips), ∀ a, (k0_off134 v34 k0_t3) a + S1x128x4096.size a ≤ S2x2816x4096.size a := fun v34 k0_hw12 k0_t3 => k0_hw12.2.2.1.2.2.2.2.2.2.2.2.2.2.2.2.2.2.1 k0_t3
theorem k0_off134_wordsfp8e4m3 : ∀ (v34 : BitVec 32) (k0_hw12 : k0_chk12 v34) (k0_t3 : Fin (k0_t3_loop v34).trips), (Rect.unit (s := S2x2816x4096) (k0_off134 v34 k0_t3) S1x128x4096.size (k0_off134_inb v34 k0_hw12 k0_t3)).WholeWords (EltTy.packing .fp8e4m3) := fun v34 k0_hw12 k0_t3 => k0_hw12.2.2.1.2.2.2.2.2.2.2.2.2.2.2.2.2.2.2.1 k0_t3 (k0_off134_inb v34 k0_hw12 k0_t3)
theorem k0_off136_inb : ∀ (v34 : BitVec 32) (k0_hw12 : k0_chk12 v34) (k0_t3 : Fin (k0_t3_loop v34).trips), ∀ a, (k0_off136 v34 k0_t3) a + S1x128x4096.size a ≤ S2x2816x4096.size a := fun v34 k0_hw12 k0_t3 => k0_hw12.2.2.1.2.2.2.2.2.2.2.2.2.2.2.2.2.2.2.2.1 k0_t3
theorem k0_off136_wordsfp8e4m3 : ∀ (v34 : BitVec 32) (k0_hw12 : k0_chk12 v34) (k0_t3 : Fin (k0_t3_loop v34).trips), (Rect.unit (s := S2x2816x4096) (k0_off136 v34 k0_t3) S1x128x4096.size (k0_off136_inb v34 k0_hw12 k0_t3)).WholeWords (EltTy.packing .fp8e4m3) := fun v34 k0_hw12 k0_t3 => k0_hw12.2.2.1.2.2.2.2.2.2.2.2.2.2.2.2.2.2.2.2.2.1 k0_t3 (k0_off136_inb v34 k0_hw12 k0_t3)
theorem k0_off138_inb : ∀ (v34 : BitVec 32) (k0_hw12 : k0_chk12 v34) (k0_t3 : Fin (k0_t3_loop v34).trips), ∀ a, (k0_off138 v34 k0_t3) a + S1x128x4096.size a ≤ S2x2816x4096.size a := fun v34 k0_hw12 k0_t3 => k0_hw12.2.2.1.2.2.2.2.2.2.2.2.2.2.2.2.2.2.2.2.2.2.1 k0_t3
theorem k0_off139_inb : ∀ (v34 : BitVec 32) (k0_hw12 : k0_chk12 v34) (k0_t3 : Fin (k0_t3_loop v34).trips), ∀ a, (k0_off139 v34 k0_t3) a + S1x128x4096.size a ≤ S2x2816x4096.size a := fun v34 k0_hw12 k0_t3 => k0_hw12.2.2.1.2.2.2.2.2.2.2.2.2.2.2.2.2.2.2.2.2.2.2.1 k0_t3
theorem k0_off140_inb : ∀ (v34 : BitVec 32) (k0_hw12 : k0_chk12 v34) (k0_t3 : Fin (k0_t3_loop v34).trips), ∀ a, (k0_off140 v34 k0_t3) a + S1x1x128.size a ≤ S2x1x2816.size a := fun v34 k0_hw12 k0_t3 => k0_hw12.2.2.1.2.2.2.2.2.2.2.2.2.2.2.2.2.2.2.2.2.2.2.2.1 k0_t3
theorem k0_off141_inb : ∀ (v34 : BitVec 32) (k0_hw12 : k0_chk12 v34) (k0_t3 : Fin (k0_t3_loop v34).trips), ∀ a, (k0_off141 v34 k0_t3) a + S1x1x128.size a ≤ S2x1x2816.size a := fun v34 k0_hw12 k0_t3 => k0_hw12.2.2.1.2.2.2.2.2.2.2.2.2.2.2.2.2.2.2.2.2.2.2.2.2.1 k0_t3
theorem k0_off142_inb : ∀ (v34 : BitVec 32) (k0_hw12 : k0_chk12 v34) (k0_t3 : Fin (k0_t3_loop v34).trips), ∀ (k0_h8 : k0_cond8 v34 k0_t3 = 1#1), ∀ a, (k0_off142 v34 k0_t3) a + S1x1.size a ≤ S2x6.size a := fun v34 k0_hw12 k0_t3 k0_h8 => k0_hw12.2.2.1.2.2.2.2.2.2.2.2.2.2.2.2.2.2.2.2.2.2.2.2.2.2.1 k0_t3 k0_h8
theorem k0_off143_inb : ∀ (v34 : BitVec 32) (k0_hw12 : k0_chk12 v34) (k0_t3 : Fin (k0_t3_loop v34).trips), ∀ (k0_h8 : k0_cond8 v34 k0_t3 = 1#1), ∀ a, (k0_off143 v34 k0_t3) a + S1x128x4096.size a ≤ S2x2816x4096.size a := fun v34 k0_hw12 k0_t3 k0_h8 => k0_hw12.2.2.1.2.2.2.2.2.2.2.2.2.2.2.2.2.2.2.2.2.2.2.2.2.2.2.1 k0_t3 k0_h8
theorem k0_off143_wordsfp8e4m3 : ∀ (v34 : BitVec 32) (k0_hw12 : k0_chk12 v34) (k0_t3 : Fin (k0_t3_loop v34).trips), ∀ (k0_h8 : k0_cond8 v34 k0_t3 = 1#1), (Rect.unit (s := S2x2816x4096) (k0_off143 v34 k0_t3) S1x128x4096.size (k0_off143_inb v34 k0_hw12 k0_t3 k0_h8)).WholeWords (EltTy.packing .fp8e4m3) := fun v34 k0_hw12 k0_t3 k0_h8 => k0_hw12.2.2.1.2.2.2.2.2.2.2.2.2.2.2.2.2.2.2.2.2.2.2.2.2.2.2.2.1 k0_t3 k0_h8 (k0_off143_inb v34 k0_hw12 k0_t3 k0_h8)
theorem k0_off145_inb : ∀ (v34 : BitVec 32) (k0_hw12 : k0_chk12 v34) (k0_t3 : Fin (k0_t3_loop v34).trips), ∀ (k0_h8 : k0_cond8 v34 k0_t3 = 1#1), ∀ a, (k0_off145 v34 k0_t3) a + S1x128x4096.size a ≤ S2x2816x4096.size a := fun v34 k0_hw12 k0_t3 k0_h8 => k0_hw12.2.2.1.2.2.2.2.2.2.2.2.2.2.2.2.2.2.2.2.2.2.2.2.2.2.2.2.2.1 k0_t3 k0_h8
theorem k0_off145_wordsfp8e4m3 : ∀ (v34 : BitVec 32) (k0_hw12 : k0_chk12 v34) (k0_t3 : Fin (k0_t3_loop v34).trips), ∀ (k0_h8 : k0_cond8 v34 k0_t3 = 1#1), (Rect.unit (s := S2x2816x4096) (k0_off145 v34 k0_t3) S1x128x4096.size (k0_off145_inb v34 k0_hw12 k0_t3 k0_h8)).WholeWords (EltTy.packing .fp8e4m3) := fun v34 k0_hw12 k0_t3 k0_h8 => k0_hw12.2.2.1.2.2.2.2.2.2.2.2.2.2.2.2.2.2.2.2.2.2.2.2.2.2.2.2.2.2.1 k0_t3 k0_h8 (k0_off145_inb v34 k0_hw12 k0_t3 k0_h8)
theorem k0_off147_inb : ∀ (v34 : BitVec 32) (k0_hw12 : k0_chk12 v34) (k0_t3 : Fin (k0_t3_loop v34).trips), ∀ a, (k0_off147 v34 k0_t3) a + S1x1.size a ≤ S2x4.size a := fun v34 k0_hw12 k0_t3 => k0_hw12.2.2.1.2.2.2.2.2.2.2.2.2.2.2.2.2.2.2.2.2.2.2.2.2.2.2.2.2.2.2.1 k0_t3
theorem k0_off148_inb : ∀ (v34 : BitVec 32) (k0_hw12 : k0_chk12 v34) (k0_t3 : Fin (k0_t3_loop v34).trips), ∀ a, (k0_off148 v34 k0_t3) a + S1x1024x1408.size a ≤ S2x4096x1408.size a := fun v34 k0_hw12 k0_t3 => k0_hw12.2.2.1.2.2.2.2.2.2.2.2.2.2.2.2.2.2.2.2.2.2.2.2.2.2.2.2.2.2.2.2.1 k0_t3
theorem k0_off148_wordsfp8e4m3 : ∀ (v34 : BitVec 32) (k0_hw12 : k0_chk12 v34) (k0_t3 : Fin (k0_t3_loop v34).trips), (Rect.unit (s := S2x4096x1408) (k0_off148 v34 k0_t3) S1x1024x1408.size (k0_off148_inb v34 k0_hw12 k0_t3)).WholeWords (EltTy.packing .fp8e4m3) := fun v34 k0_hw12 k0_t3 => k0_hw12.2.2.1.2.2.2.2.2.2.2.2.2.2.2.2.2.2.2.2.2.2.2.2.2.2.2.2.2.2.2.2.2.1 k0_t3 (k0_off148_inb v34 k0_hw12 k0_t3)
theorem k0_off150_inb : ∀ (v34 : BitVec 32) (k0_hw12 : k0_chk12 v34) (k0_t3 : Fin (k0_t3_loop v34).trips), ∀ a, (k0_off150 v34 k0_t3) a + S1x1024x1408.size a ≤ S2x4096x1408.size a := fun v34 k0_hw12 k0_t3 => k0_hw12.2.2.1.2.2.2.2.2.2.2.2.2.2.2.2.2.2.2.2.2.2.2.2.2.2.2.2.2.2.2.2.2.2.1 k0_t3
theorem k0_off151_inb : ∀ (v34 : BitVec 32) (k0_hw12 : k0_chk12 v34) (k0_t3 : Fin (k0_t3_loop v34).trips), ∀ a, (k0_off151 v34 k0_t3) a + S1x1x1024.size a ≤ S2x1x4096.size a := fun v34 k0_hw12 k0_t3 => k0_hw12.2.2.1.2.2.2.2.2.2.2.2.2.2.2.2.2.2.2.2.2.2.2.2.2.2.2.2.2.2.2.2.2.2.2 k0_t3
theorem k0_off152_inb : ∀ (v34 : BitVec 32) (k0_hw12 : k0_chk12 v34) (k0_t3 : Fin (k0_t3_loop v34).trips), ∀ (k0_h9 : k0_cond9 v34 k0_t3 = 1#1), ∀ a, (k0_off152 v34 k0_t3) a + S1x1.size a ≤ S2x4.size a := fun v34 k0_hw12 k0_t3 k0_h9 => k0_hw12.2.2.2.1.1 k0_t3 k0_h9
theorem k0_off153_inb : ∀ (v34 : BitVec 32) (k0_hw12 : k0_chk12 v34) (k0_t3 : Fin (k0_t3_loop v34).trips), ∀ (k0_h9 : k0_cond9 v34 k0_t3 = 1#1), ∀ a, (k0_off153 v34 k0_t3) a + S1x1024x1408.size a ≤ S2x4096x1408.size a := fun v34 k0_hw12 k0_t3 k0_h9 => k0_hw12.2.2.2.1.2.1 k0_t3 k0_h9
theorem k0_off153_wordsfp8e4m3 : ∀ (v34 : BitVec 32) (k0_hw12 : k0_chk12 v34) (k0_t3 : Fin (k0_t3_loop v34).trips), ∀ (k0_h9 : k0_cond9 v34 k0_t3 = 1#1), (Rect.unit (s := S2x4096x1408) (k0_off153 v34 k0_t3) S1x1024x1408.size (k0_off153_inb v34 k0_hw12 k0_t3 k0_h9)).WholeWords (EltTy.packing .fp8e4m3) := fun v34 k0_hw12 k0_t3 k0_h9 => k0_hw12.2.2.2.1.2.2.1 k0_t3 k0_h9 (k0_off153_inb v34 k0_hw12 k0_t3 k0_h9)
theorem k0_off155_inb : ∀ (v34 : BitVec 32) (k0_hw12 : k0_chk12 v34) (k0_t3 : Fin (k0_t3_loop v34).trips), ∀ a, (k0_off155 v34 k0_t3) a + S1x1.size a ≤ S2x4.size a := fun v34 k0_hw12 k0_t3 => k0_hw12.2.2.2.1.2.2.2.1 k0_t3
theorem k0_off156_inb : ∀ (v34 : BitVec 32) (k0_hw12 : k0_chk12 v34) (k0_t3 : Fin (k0_t3_loop v34).trips), ∀ a, (k0_off156 v34 k0_t3) a + S1x1024x1408.size a ≤ S2x4096x1408.size a := fun v34 k0_hw12 k0_t3 => k0_hw12.2.2.2.1.2.2.2.2.1 k0_t3
theorem k0_off156_wordsfp8e4m3 : ∀ (v34 : BitVec 32) (k0_hw12 : k0_chk12 v34) (k0_t3 : Fin (k0_t3_loop v34).trips), (Rect.unit (s := S2x4096x1408) (k0_off156 v34 k0_t3) S1x1024x1408.size (k0_off156_inb v34 k0_hw12 k0_t3)).WholeWords (EltTy.packing .fp8e4m3) := fun v34 k0_hw12 k0_t3 => k0_hw12.2.2.2.1.2.2.2.2.2.1 k0_t3 (k0_off156_inb v34 k0_hw12 k0_t3)
theorem k0_off158_inb : ∀ (v34 : BitVec 32) (k0_hw12 : k0_chk12 v34) (k0_t3 : Fin (k0_t3_loop v34).trips), ∀ a, (k0_off158 v34 k0_t3) a + S1x1024x1408.size a ≤ S2x4096x1408.size a := fun v34 k0_hw12 k0_t3 => k0_hw12.2.2.2.1.2.2.2.2.2.2.1 k0_t3
theorem k0_off159_inb : ∀ (v34 : BitVec 32) (k0_hw12 : k0_chk12 v34) (k0_t3 : Fin (k0_t3_loop v34).trips), ∀ a, (k0_off159 v34 k0_t3) a + S1x1x1024.size a ≤ S2x1x4096.size a := fun v34 k0_hw12 k0_t3 => k0_hw12.2.2.2.1.2.2.2.2.2.2.2.1 k0_t3
theorem k0_off160_inb : ∀ (v34 : BitVec 32) (k0_hw12 : k0_chk12 v34) (k0_t3 : Fin (k0_t3_loop v34).trips), ∀ (k0_h10 : k0_cond10 v34 k0_t3 = 1#1), ∀ a, (k0_off160 v34 k0_t3) a + S1x1.size a ≤ S2x4.size a := fun v34 k0_hw12 k0_t3 k0_h10 => k0_hw12.2.2.2.1.2.2.2.2.2.2.2.2.1 k0_t3 k0_h10
theorem k0_off161_inb : ∀ (v34 : BitVec 32) (k0_hw12 : k0_chk12 v34) (k0_t3 : Fin (k0_t3_loop v34).trips), ∀ (k0_h10 : k0_cond10 v34 k0_t3 = 1#1), ∀ a, (k0_off161 v34 k0_t3) a + S1x1024x1408.size a ≤ S2x4096x1408.size a := fun v34 k0_hw12 k0_t3 k0_h10 => k0_hw12.2.2.2.1.2.2.2.2.2.2.2.2.2.1 k0_t3 k0_h10
theorem k0_off161_wordsfp8e4m3 : ∀ (v34 : BitVec 32) (k0_hw12 : k0_chk12 v34) (k0_t3 : Fin (k0_t3_loop v34).trips), ∀ (k0_h10 : k0_cond10 v34 k0_t3 = 1#1), (Rect.unit (s := S2x4096x1408) (k0_off161 v34 k0_t3) S1x1024x1408.size (k0_off161_inb v34 k0_hw12 k0_t3 k0_h10)).WholeWords (EltTy.packing .fp8e4m3) := fun v34 k0_hw12 k0_t3 k0_h10 => k0_hw12.2.2.2.1.2.2.2.2.2.2.2.2.2.2.1 k0_t3 k0_h10 (k0_off161_inb v34 k0_hw12 k0_t3 k0_h10)
theorem k0_off163_inb : ∀ (v34 : BitVec 32) (k0_hw12 : k0_chk12 v34) (k0_t3 : Fin (k0_t3_loop v34).trips), ∀ a, (k0_off163 v34 k0_t3) a + S1x1.size a ≤ S2x4.size a := fun v34 k0_hw12 k0_t3 => k0_hw12.2.2.2.1.2.2.2.2.2.2.2.2.2.2.2.1 k0_t3
theorem k0_off164_inb : ∀ (v34 : BitVec 32) (k0_hw12 : k0_chk12 v34) (k0_t3 : Fin (k0_t3_loop v34).trips), ∀ a, (k0_off164 v34 k0_t3) a + S1x1024x1408.size a ≤ S2x4096x1408.size a := fun v34 k0_hw12 k0_t3 => k0_hw12.2.2.2.1.2.2.2.2.2.2.2.2.2.2.2.2.1 k0_t3
theorem k0_off164_wordsfp8e4m3 : ∀ (v34 : BitVec 32) (k0_hw12 : k0_chk12 v34) (k0_t3 : Fin (k0_t3_loop v34).trips), (Rect.unit (s := S2x4096x1408) (k0_off164 v34 k0_t3) S1x1024x1408.size (k0_off164_inb v34 k0_hw12 k0_t3)).WholeWords (EltTy.packing .fp8e4m3) := fun v34 k0_hw12 k0_t3 => k0_hw12.2.2.2.1.2.2.2.2.2.2.2.2.2.2.2.2.2.1 k0_t3 (k0_off164_inb v34 k0_hw12 k0_t3)
theorem k0_off166_inb : ∀ (v34 : BitVec 32) (k0_hw12 : k0_chk12 v34) (k0_t3 : Fin (k0_t3_loop v34).trips), ∀ a, (k0_off166 v34 k0_t3) a + S1x1024x1408.size a ≤ S2x4096x1408.size a := fun v34 k0_hw12 k0_t3 => k0_hw12.2.2.2.1.2.2.2.2.2.2.2.2.2.2.2.2.2.2.1 k0_t3
theorem k0_off167_inb : ∀ (v34 : BitVec 32) (k0_hw12 : k0_chk12 v34) (k0_t3 : Fin (k0_t3_loop v34).trips), ∀ a, (k0_off167 v34 k0_t3) a + S1x1x1024.size a ≤ S2x1x4096.size a := fun v34 k0_hw12 k0_t3 => k0_hw12.2.2.2.1.2.2.2.2.2.2.2.2.2.2.2.2.2.2.2.1 k0_t3
theorem k0_off168_inb : ∀ (v34 : BitVec 32) (k0_hw12 : k0_chk12 v34) (k0_t3 : Fin (k0_t3_loop v34).trips), ∀ (k0_h11 : k0_cond11 v34 k0_t3 = 1#1), ∀ a, (k0_off168 v34 k0_t3) a + S1x1.size a ≤ S2x4.size a := fun v34 k0_hw12 k0_t3 k0_h11 => k0_hw12.2.2.2.1.2.2.2.2.2.2.2.2.2.2.2.2.2.2.2.2.1 k0_t3 k0_h11
theorem k0_off169_inb : ∀ (v34 : BitVec 32) (k0_hw12 : k0_chk12 v34) (k0_t3 : Fin (k0_t3_loop v34).trips), ∀ (k0_h11 : k0_cond11 v34 k0_t3 = 1#1), ∀ a, (k0_off169 v34 k0_t3) a + S1x1024x1408.size a ≤ S2x4096x1408.size a := fun v34 k0_hw12 k0_t3 k0_h11 => k0_hw12.2.2.2.1.2.2.2.2.2.2.2.2.2.2.2.2.2.2.2.2.2.1 k0_t3 k0_h11
theorem k0_off169_wordsfp8e4m3 : ∀ (v34 : BitVec 32) (k0_hw12 : k0_chk12 v34) (k0_t3 : Fin (k0_t3_loop v34).trips), ∀ (k0_h11 : k0_cond11 v34 k0_t3 = 1#1), (Rect.unit (s := S2x4096x1408) (k0_off169 v34 k0_t3) S1x1024x1408.size (k0_off169_inb v34 k0_hw12 k0_t3 k0_h11)).WholeWords (EltTy.packing .fp8e4m3) := fun v34 k0_hw12 k0_t3 k0_h11 => k0_hw12.2.2.2.1.2.2.2.2.2.2.2.2.2.2.2.2.2.2.2.2.2.2.1 k0_t3 k0_h11 (k0_off169_inb v34 k0_hw12 k0_t3 k0_h11)
theorem k0_off171_inb : ∀ (v34 : BitVec 32) (k0_hw12 : k0_chk12 v34) (k0_t3 : Fin (k0_t3_loop v34).trips), ∀ a, (k0_off171 v34 k0_t3) a + S1x1.size a ≤ S2x4.size a := fun v34 k0_hw12 k0_t3 => k0_hw12.2.2.2.1.2.2.2.2.2.2.2.2.2.2.2.2.2.2.2.2.2.2.2.1 k0_t3
theorem k0_off172_inb : ∀ (v34 : BitVec 32) (k0_hw12 : k0_chk12 v34) (k0_t3 : Fin (k0_t3_loop v34).trips), ∀ a, (k0_off172 v34 k0_t3) a + S1x1024x1408.size a ≤ S2x4096x1408.size a := fun v34 k0_hw12 k0_t3 => k0_hw12.2.2.2.1.2.2.2.2.2.2.2.2.2.2.2.2.2.2.2.2.2.2.2.2.1 k0_t3
theorem k0_off172_wordsfp8e4m3 : ∀ (v34 : BitVec 32) (k0_hw12 : k0_chk12 v34) (k0_t3 : Fin (k0_t3_loop v34).trips), (Rect.unit (s := S2x4096x1408) (k0_off172 v34 k0_t3) S1x1024x1408.size (k0_off172_inb v34 k0_hw12 k0_t3)).WholeWords (EltTy.packing .fp8e4m3) := fun v34 k0_hw12 k0_t3 => k0_hw12.2.2.2.1.2.2.2.2.2.2.2.2.2.2.2.2.2.2.2.2.2.2.2.2.2.1 k0_t3 (k0_off172_inb v34 k0_hw12 k0_t3)
theorem k0_off174_inb : ∀ (v34 : BitVec 32) (k0_hw12 : k0_chk12 v34) (k0_t3 : Fin (k0_t3_loop v34).trips), ∀ a, (k0_off174 v34 k0_t3) a + S1x1024x1408.size a ≤ S2x4096x1408.size a := fun v34 k0_hw12 k0_t3 => k0_hw12.2.2.2.1.2.2.2.2.2.2.2.2.2.2.2.2.2.2.2.2.2.2.2.2.2.2.1 k0_t3
theorem k0_off175_inb : ∀ (v34 : BitVec 32) (k0_hw12 : k0_chk12 v34) (k0_t3 : Fin (k0_t3_loop v34).trips), ∀ a, (k0_off175 v34 k0_t3) a + S1x1x1024.size a ≤ S2x1x4096.size a := fun v34 k0_hw12 k0_t3 => k0_hw12.2.2.2.1.2.2.2.2.2.2.2.2.2.2.2.2.2.2.2.2.2.2.2.2.2.2.2.1 k0_t3
theorem k0_off176_inb : ∀ (v34 : BitVec 32) (k0_hw12 : k0_chk12 v34) (k0_t3 : Fin (k0_t3_loop v34).trips), ∀ (k0_h12 : k0_cond12 v34 k0_t3 = 1#1), ∀ a, (k0_off176 v34 k0_t3) a + S1x1.size a ≤ S2x4.size a := fun v34 k0_hw12 k0_t3 k0_h12 => k0_hw12.2.2.2.1.2.2.2.2.2.2.2.2.2.2.2.2.2.2.2.2.2.2.2.2.2.2.2.2.1 k0_t3 k0_h12
theorem k0_off177_inb : ∀ (v34 : BitVec 32) (k0_hw12 : k0_chk12 v34) (k0_t3 : Fin (k0_t3_loop v34).trips), ∀ (k0_h12 : k0_cond12 v34 k0_t3 = 1#1), ∀ a, (k0_off177 v34 k0_t3) a + S1x1024x1408.size a ≤ S2x4096x1408.size a := fun v34 k0_hw12 k0_t3 k0_h12 => k0_hw12.2.2.2.1.2.2.2.2.2.2.2.2.2.2.2.2.2.2.2.2.2.2.2.2.2.2.2.2.2.1 k0_t3 k0_h12
theorem k0_off177_wordsfp8e4m3 : ∀ (v34 : BitVec 32) (k0_hw12 : k0_chk12 v34) (k0_t3 : Fin (k0_t3_loop v34).trips), ∀ (k0_h12 : k0_cond12 v34 k0_t3 = 1#1), (Rect.unit (s := S2x4096x1408) (k0_off177 v34 k0_t3) S1x1024x1408.size (k0_off177_inb v34 k0_hw12 k0_t3 k0_h12)).WholeWords (EltTy.packing .fp8e4m3) := fun v34 k0_hw12 k0_t3 k0_h12 => k0_hw12.2.2.2.1.2.2.2.2.2.2.2.2.2.2.2.2.2.2.2.2.2.2.2.2.2.2.2.2.2.2.1 k0_t3 k0_h12 (k0_off177_inb v34 k0_hw12 k0_t3 k0_h12)
theorem k0_off179_inb : ∀ (v34 : BitVec 32) (k0_hw12 : k0_chk12 v34) (k0_t3 : Fin (k0_t3_loop v34).trips), ∀ (k0_h12 : k0_cond12 v34 k0_t3 = 1#1), ∀ a, (k0_off179 v34 k0_t3) a + S1x1.size a ≤ S2x6.size a := fun v34 k0_hw12 k0_t3 k0_h12 => k0_hw12.2.2.2.1.2.2.2.2.2.2.2.2.2.2.2.2.2.2.2.2.2.2.2.2.2.2.2.2.2.2.2.1 k0_t3 k0_h12
theorem k0_off180_inb : ∀ (v34 : BitVec 32) (k0_hw12 : k0_chk12 v34) (k0_t3 : Fin (k0_t3_loop v34).trips), ∀ (k0_h12 : k0_cond12 v34 k0_t3 = 1#1), ∀ a, (k0_off180 v34 k0_t3) a + S1x1x2816.size a ≤ S2x1x2816.size a := fun v34 k0_hw12 k0_t3 k0_h12 => k0_hw12.2.2.2.1.2.2.2.2.2.2.2.2.2.2.2.2.2.2.2.2.2.2.2.2.2.2.2.2.2.2.2.2.1 k0_t3 k0_h12
theorem k0_off182_inb : ∀ (v34 : BitVec 32) (k0_hw12 : k0_chk12 v34) (k0_t3 : Fin (k0_t3_loop v34).trips), ∀ (k0_h12 : k0_cond12 v34 k0_t3 = 1#1), ∀ a, (k0_off182 v34 k0_t3) a + S1x1x4096.size a ≤ S2x1x4096.size a := fun v34 k0_hw12 k0_t3 k0_h12 => k0_hw12.2.2.2.1.2.2.2.2.2.2.2.2.2.2.2.2.2.2.2.2.2.2.2.2.2.2.2.2.2.2.2.2.2.1 k0_t3 k0_h12
theorem k0_t4_ok : ∀ (v34 : BitVec 32) (k0_hw12 : k0_chk12 v34), (k0_t4_loop v34).OK := fun v34 k0_hw12 => k0_hw12.2.2.2.1.2.2.2.2.2.2.2.2.2.2.2.2.2.2.2.2.2.2.2.2.2.2.2.2.2.2.2.2.2.2.1
theorem k0_off184_inb : ∀ (v34 : BitVec 32) (k0_hw12 : k0_chk12 v34) (k0_t4 : Fin (k0_t4_loop v34).trips), ∀ a, (k0_off184 v34 k0_t4) a + S1.size a ≤ S33.size a := fun v34 k0_hw12 k0_t4 => k0_hw12.2.2.2.1.2.2.2.2.2.2.2.2.2.2.2.2.2.2.2.2.2.2.2.2.2.2.2.2.2.2.2.2.2.2.2 k0_t4
theorem k0_off185_inb : ∀ (v34 : BitVec 32) (k0_hw12 : k0_chk12 v34) (k0_t4 : Fin (k0_t4_loop v34).trips), ∀ a, (k0_off185 v34 k0_t4) a + S1.size a ≤ S33.size a := fun v34 k0_hw12 k0_t4 => k0_hw12.2.2.2.2.1.1 k0_t4
theorem k0_off186_inb : ∀ (v34 : BitVec 32) (k0_hw12 : k0_chk12 v34) (k0_t4 : Fin (k0_t4_loop v34).trips), ∀ a, (k0_off186 v34 k0_t4) a + S1x1.size a ≤ S2x6.size a := fun v34 k0_hw12 k0_t4 => k0_hw12.2.2.2.2.1.2.1 k0_t4
theorem k0_off187_inb : ∀ (v34 : BitVec 32) (k0_hw12 : k0_chk12 v34) (k0_t4 : Fin (k0_t4_loop v34).trips), ∀ a, (k0_off187 v34 k0_t4) a + S1x256x4096.size a ≤ S2x2816x4096.size a := fun v34 k0_hw12 k0_t4 => k0_hw12.2.2.2.2.1.2.2.1 k0_t4
theorem k0_off187_wordsfp8e4m3 : ∀ (v34 : BitVec 32) (k0_hw12 : k0_chk12 v34) (k0_t4 : Fin (k0_t4_loop v34).trips), (Rect.unit (s := S2x2816x4096) (k0_off187 v34 k0_t4) S1x256x4096.size (k0_off187_inb v34 k0_hw12 k0_t4)).WholeWords (EltTy.packing .fp8e4m3) := fun v34 k0_hw12 k0_t4 => k0_hw12.2.2.2.2.1.2.2.2.1 k0_t4 (k0_off187_inb v34 k0_hw12 k0_t4)
theorem k0_off189_inb : ∀ (v34 : BitVec 32) (k0_hw12 : k0_chk12 v34) (k0_t4 : Fin (k0_t4_loop v34).trips), ∀ a, (k0_off189 v34 k0_t4) a + S1x1.size a ≤ S2x6.size a := fun v34 k0_hw12 k0_t4 => k0_hw12.2.2.2.2.1.2.2.2.2.1 k0_t4
theorem k0_off190_inb : ∀ (v34 : BitVec 32) (k0_hw12 : k0_chk12 v34) (k0_t4 : Fin (k0_t4_loop v34).trips), ∀ a, (k0_off190 v34 k0_t4) a + S1x256x4096.size a ≤ S2x2816x4096.size a := fun v34 k0_hw12 k0_t4 => k0_hw12.2.2.2.2.1.2.2.2.2.2.1 k0_t4
theorem k0_off190_wordsfp8e4m3 : ∀ (v34 : BitVec 32) (k0_hw12 : k0_chk12 v34) (k0_t4 : Fin (k0_t4_loop v34).trips), (Rect.unit (s := S2x2816x4096) (k0_off190 v34 k0_t4) S1x256x4096.size (k0_off190_inb v34 k0_hw12 k0_t4)).WholeWords (EltTy.packing .fp8e4m3) := fun v34 k0_hw12 k0_t4 => k0_hw12.2.2.2.2.1.2.2.2.2.2.2.1 k0_t4 (k0_off190_inb v34 k0_hw12 k0_t4)
theorem k0_off192_inb : ∀ (v34 : BitVec 32) (k0_hw12 : k0_chk12 v34) (k0_t4 : Fin (k0_t4_loop v34).trips), ∀ a, (k0_off192 v34 k0_t4) a + S1x1x2816.size a ≤ S2x1x2816.size a := fun v34 k0_hw12 k0_t4 => k0_hw12.2.2.2.2.1.2.2.2.2.2.2.2.1 k0_t4
theorem k0_off194_inb : ∀ (v34 : BitVec 32) (k0_hw12 : k0_chk12 v34) (k0_t4 : Fin (k0_t4_loop v34).trips), ∀ a, (k0_off194 v34 k0_t4) a + S1x1x4096.size a ≤ S2x1x4096.size a := fun v34 k0_hw12 k0_t4 => k0_hw12.2.2.2.2.1.2.2.2.2.2.2.2.2.1 k0_t4
theorem k0_off196_inb : ∀ (v34 : BitVec 32) (k0_hw12 : k0_chk12 v34) (k0_t4 : Fin (k0_t4_loop v34).trips), ∀ a, (k0_off196 v34 k0_t4) a + S1x256x4096.size a ≤ S2x2816x4096.size a := fun v34 k0_hw12 k0_t4 => k0_hw12.2.2.2.2.1.2.2.2.2.2.2.2.2.2.1 k0_t4
theorem k0_off197_inb : ∀ (v34 : BitVec 32) (k0_hw12 : k0_chk12 v34) (k0_t4 : Fin (k0_t4_loop v34).trips), ∀ a, (k0_off197 v34 k0_t4) a + S1x256x4096.size a ≤ S2x2816x4096.size a := fun v34 k0_hw12 k0_t4 => k0_hw12.2.2.2.2.1.2.2.2.2.2.2.2.2.2.2.1 k0_t4
theorem k0_off198_inb : ∀ (v34 : BitVec 32) (k0_hw12 : k0_chk12 v34) (k0_t4 : Fin (k0_t4_loop v34).trips), ∀ a, (k0_off198 v34 k0_t4) a + S1x1x256.size a ≤ S2x1x2816.size a := fun v34 k0_hw12 k0_t4 => k0_hw12.2.2.2.2.1.2.2.2.2.2.2.2.2.2.2.2.1 k0_t4
theorem k0_off199_inb : ∀ (v34 : BitVec 32) (k0_hw12 : k0_chk12 v34) (k0_t4 : Fin (k0_t4_loop v34).trips), ∀ a, (k0_off199 v34 k0_t4) a + S1x1x256.size a ≤ S2x1x2816.size a := fun v34 k0_hw12 k0_t4 => k0_hw12.2.2.2.2.1.2.2.2.2.2.2.2.2.2.2.2.2.1 k0_t4
theorem k0_off200_inb : ∀ (v34 : BitVec 32) (k0_hw12 : k0_chk12 v34) (k0_t4 : Fin (k0_t4_loop v34).trips), ∀ (k0_h13 : k0_cond13 v34 k0_t4 = 1#1), ∀ a, (k0_off200 v34 k0_t4) a + S1x1.size a ≤ S2x6.size a := fun v34 k0_hw12 k0_t4 k0_h13 => k0_hw12.2.2.2.2.1.2.2.2.2.2.2.2.2.2.2.2.2.2.1 k0_t4 k0_h13
theorem k0_off201_inb : ∀ (v34 : BitVec 32) (k0_hw12 : k0_chk12 v34) (k0_t4 : Fin (k0_t4_loop v34).trips), ∀ (k0_h13 : k0_cond13 v34 k0_t4 = 1#1), ∀ a, (k0_off201 v34 k0_t4) a + S1x256x4096.size a ≤ S2x2816x4096.size a := fun v34 k0_hw12 k0_t4 k0_h13 => k0_hw12.2.2.2.2.1.2.2.2.2.2.2.2.2.2.2.2.2.2.2.1 k0_t4 k0_h13
theorem k0_off201_wordsfp8e4m3 : ∀ (v34 : BitVec 32) (k0_hw12 : k0_chk12 v34) (k0_t4 : Fin (k0_t4_loop v34).trips), ∀ (k0_h13 : k0_cond13 v34 k0_t4 = 1#1), (Rect.unit (s := S2x2816x4096) (k0_off201 v34 k0_t4) S1x256x4096.size (k0_off201_inb v34 k0_hw12 k0_t4 k0_h13)).WholeWords (EltTy.packing .fp8e4m3) := fun v34 k0_hw12 k0_t4 k0_h13 => k0_hw12.2.2.2.2.1.2.2.2.2.2.2.2.2.2.2.2.2.2.2.2.1 k0_t4 k0_h13 (k0_off201_inb v34 k0_hw12 k0_t4 k0_h13)
theorem k0_off203_inb : ∀ (v34 : BitVec 32) (k0_hw12 : k0_chk12 v34) (k0_t4 : Fin (k0_t4_loop v34).trips), ∀ (k0_h13 : k0_cond13 v34 k0_t4 = 1#1), ∀ a, (k0_off203 v34 k0_t4) a + S1x1.size a ≤ S2x6.size a := fun v34 k0_hw12 k0_t4 k0_h13 => k0_hw12.2.2.2.2.1.2.2.2.2.2.2.2.2.2.2.2.2.2.2.2.2.1 k0_t4 k0_h13
theorem k0_off204_inb : ∀ (v34 : BitVec 32) (k0_hw12 : k0_chk12 v34) (k0_t4 : Fin (k0_t4_loop v34).trips), ∀ (k0_h13 : k0_cond13 v34 k0_t4 = 1#1), ∀ a, (k0_off204 v34 k0_t4) a + S1x256x4096.size a ≤ S2x2816x4096.size a := fun v34 k0_hw12 k0_t4 k0_h13 => k0_hw12.2.2.2.2.1.2.2.2.2.2.2.2.2.2.2.2.2.2.2.2.2.2.1 k0_t4 k0_h13
theorem k0_off204_wordsfp8e4m3 : ∀ (v34 : BitVec 32) (k0_hw12 : k0_chk12 v34) (k0_t4 : Fin (k0_t4_loop v34).trips), ∀ (k0_h13 : k0_cond13 v34 k0_t4 = 1#1), (Rect.unit (s := S2x2816x4096) (k0_off204 v34 k0_t4) S1x256x4096.size (k0_off204_inb v34 k0_hw12 k0_t4 k0_h13)).WholeWords (EltTy.packing .fp8e4m3) := fun v34 k0_hw12 k0_t4 k0_h13 => k0_hw12.2.2.2.2.1.2.2.2.2.2.2.2.2.2.2.2.2.2.2.2.2.2.2.1 k0_t4 k0_h13 (k0_off204_inb v34 k0_hw12 k0_t4 k0_h13)
theorem k0_off206_inb : ∀ (v34 : BitVec 32) (k0_hw12 : k0_chk12 v34) (k0_t4 : Fin (k0_t4_loop v34).trips), ∀ a, (k0_off206 v34 k0_t4) a + S1x1.size a ≤ S2x6.size a := fun v34 k0_hw12 k0_t4 => k0_hw12.2.2.2.2.1.2.2.2.2.2.2.2.2.2.2.2.2.2.2.2.2.2.2.2.1 k0_t4
theorem k0_off207_inb : ∀ (v34 : BitVec 32) (k0_hw12 : k0_chk12 v34) (k0_t4 : Fin (k0_t4_loop v34).trips), ∀ a, (k0_off207 v34 k0_t4) a + S1x256x4096.size a ≤ S2x2816x4096.size a := fun v34 k0_hw12 k0_t4 => k0_hw12.2.2.2.2.1.2.2.2.2.2.2.2.2.2.2.2.2.2.2.2.2.2.2.2.2.1 k0_t4
theorem k0_off207_wordsfp8e4m3 : ∀ (v34 : BitVec 32) (k0_hw12 : k0_chk12 v34) (k0_t4 : Fin (k0_t4_loop v34).trips), (Rect.unit (s := S2x2816x4096) (k0_off207 v34 k0_t4) S1x256x4096.size (k0_off207_inb v34 k0_hw12 k0_t4)).WholeWords (EltTy.packing .fp8e4m3) := fun v34 k0_hw12 k0_t4 => k0_hw12.2.2.2.2.1.2.2.2.2.2.2.2.2.2.2.2.2.2.2.2.2.2.2.2.2.2.1 k0_t4 (k0_off207_inb v34 k0_hw12 k0_t4)
theorem k0_off209_inb : ∀ (v34 : BitVec 32) (k0_hw12 : k0_chk12 v34) (k0_t4 : Fin (k0_t4_loop v34).trips), ∀ a, (k0_off209 v34 k0_t4) a + S1x256x4096.size a ≤ S2x2816x4096.size a := fun v34 k0_hw12 k0_t4 => k0_hw12.2.2.2.2.1.2.2.2.2.2.2.2.2.2.2.2.2.2.2.2.2.2.2.2.2.2.2.1 k0_t4
theorem k0_off209_wordsfp8e4m3 : ∀ (v34 : BitVec 32) (k0_hw12 : k0_chk12 v34) (k0_t4 : Fin (k0_t4_loop v34).trips), (Rect.unit (s := S2x2816x4096) (k0_off209 v34 k0_t4) S1x256x4096.size (k0_off209_inb v34 k0_hw12 k0_t4)).WholeWords (EltTy.packing .fp8e4m3) := fun v34 k0_hw12 k0_t4 => k0_hw12.2.2.2.2.1.2.2.2.2.2.2.2.2.2.2.2.2.2.2.2.2.2.2.2.2.2.2.2.1 k0_t4 (k0_off209_inb v34 k0_hw12 k0_t4)
theorem k0_off211_inb : ∀ (v34 : BitVec 32) (k0_hw12 : k0_chk12 v34) (k0_t4 : Fin (k0_t4_loop v34).trips), ∀ a, (k0_off211 v34 k0_t4) a + S1x256x4096.size a ≤ S2x2816x4096.size a := fun v34 k0_hw12 k0_t4 => k0_hw12.2.2.2.2.1.2.2.2.2.2.2.2.2.2.2.2.2.2.2.2.2.2.2.2.2.2.2.2.2.1 k0_t4
theorem k0_off212_inb : ∀ (v34 : BitVec 32) (k0_hw12 : k0_chk12 v34) (k0_t4 : Fin (k0_t4_loop v34).trips), ∀ a, (k0_off212 v34 k0_t4) a + S1x256x4096.size a ≤ S2x2816x4096.size a := fun v34 k0_hw12 k0_t4 => k0_hw12.2.2.2.2.1.2.2.2.2.2.2.2.2.2.2.2.2.2.2.2.2.2.2.2.2.2.2.2.2.2.1 k0_t4
theorem k0_off213_inb : ∀ (v34 : BitVec 32) (k0_hw12 : k0_chk12 v34) (k0_t4 : Fin (k0_t4_loop v34).trips), ∀ a, (k0_off213 v34 k0_t4) a + S1x1x256.size a ≤ S2x1x2816.size a := fun v34 k0_hw12 k0_t4 => k0_hw12.2.2.2.2.1.2.2.2.2.2.2.2.2.2.2.2.2.2.2.2.2.2.2.2.2.2.2.2.2.2.2.1 k0_t4
theorem k0_off214_inb : ∀ (v34 : BitVec 32) (k0_hw12 : k0_chk12 v34) (k0_t4 : Fin (k0_t4_loop v34).trips), ∀ a, (k0_off214 v34 k0_t4) a + S1x1x256.size a ≤ S2x1x2816.size a := fun v34 k0_hw12 k0_t4 => k0_hw12.2.2.2.2.1.2.2.2.2.2.2.2.2.2.2.2.2.2.2.2.2.2.2.2.2.2.2.2.2.2.2.2.1 k0_t4
theorem k0_off215_inb : ∀ (v34 : BitVec 32) (k0_hw12 : k0_chk12 v34) (k0_t4 : Fin (k0_t4_loop v34).trips), ∀ (k0_h14 : k0_cond14 v34 k0_t4 = 1#1), ∀ a, (k0_off215 v34 k0_t4) a + S1x1.size a ≤ S2x6.size a := fun v34 k0_hw12 k0_t4 k0_h14 => k0_hw12.2.2.2.2.1.2.2.2.2.2.2.2.2.2.2.2.2.2.2.2.2.2.2.2.2.2.2.2.2.2.2.2.2.1 k0_t4 k0_h14
theorem k0_off216_inb : ∀ (v34 : BitVec 32) (k0_hw12 : k0_chk12 v34) (k0_t4 : Fin (k0_t4_loop v34).trips), ∀ (k0_h14 : k0_cond14 v34 k0_t4 = 1#1), ∀ a, (k0_off216 v34 k0_t4) a + S1x256x4096.size a ≤ S2x2816x4096.size a := fun v34 k0_hw12 k0_t4 k0_h14 => k0_hw12.2.2.2.2.1.2.2.2.2.2.2.2.2.2.2.2.2.2.2.2.2.2.2.2.2.2.2.2.2.2.2.2.2.2.1 k0_t4 k0_h14
theorem k0_off216_wordsfp8e4m3 : ∀ (v34 : BitVec 32) (k0_hw12 : k0_chk12 v34) (k0_t4 : Fin (k0_t4_loop v34).trips), ∀ (k0_h14 : k0_cond14 v34 k0_t4 = 1#1), (Rect.unit (s := S2x2816x4096) (k0_off216 v34 k0_t4) S1x256x4096.size (k0_off216_inb v34 k0_hw12 k0_t4 k0_h14)).WholeWords (EltTy.packing .fp8e4m3) := fun v34 k0_hw12 k0_t4 k0_h14 => k0_hw12.2.2.2.2.1.2.2.2.2.2.2.2.2.2.2.2.2.2.2.2.2.2.2.2.2.2.2.2.2.2.2.2.2.2.2.1 k0_t4 k0_h14 (k0_off216_inb v34 k0_hw12 k0_t4 k0_h14)
theorem k0_off218_inb : ∀ (v34 : BitVec 32) (k0_hw12 : k0_chk12 v34) (k0_t4 : Fin (k0_t4_loop v34).trips), ∀ (k0_h14 : k0_cond14 v34 k0_t4 = 1#1), ∀ a, (k0_off218 v34 k0_t4) a + S1x256x4096.size a ≤ S2x2816x4096.size a := fun v34 k0_hw12 k0_t4 k0_h14 => k0_hw12.2.2.2.2.1.2.2.2.2.2.2.2.2.2.2.2.2.2.2.2.2.2.2.2.2.2.2.2.2.2.2.2.2.2.2.2 k0_t4 k0_h14
theorem k0_off218_wordsfp8e4m3 : ∀ (v34 : BitVec 32) (k0_hw12 : k0_chk12 v34) (k0_t4 : Fin (k0_t4_loop v34).trips), ∀ (k0_h14 : k0_cond14 v34 k0_t4 = 1#1), (Rect.unit (s := S2x2816x4096) (k0_off218 v34 k0_t4) S1x256x4096.size (k0_off218_inb v34 k0_hw12 k0_t4 k0_h14)).WholeWords (EltTy.packing .fp8e4m3) := fun v34 k0_hw12 k0_t4 k0_h14 => k0_hw12.2.2.2.2.2.1.1 k0_t4 k0_h14 (k0_off218_inb v34 k0_hw12 k0_t4 k0_h14)
theorem k0_off220_inb : ∀ (v34 : BitVec 32) (k0_hw12 : k0_chk12 v34) (k0_t4 : Fin (k0_t4_loop v34).trips), ∀ a, (k0_off220 v34 k0_t4) a + S1x1.size a ≤ S2x6.size a := fun v34 k0_hw12 k0_t4 => k0_hw12.2.2.2.2.2.1.2.1 k0_t4
theorem k0_off221_inb : ∀ (v34 : BitVec 32) (k0_hw12 : k0_chk12 v34) (k0_t4 : Fin (k0_t4_loop v34).trips), ∀ a, (k0_off221 v34 k0_t4) a + S1x256x4096.size a ≤ S2x2816x4096.size a := fun v34 k0_hw12 k0_t4 => k0_hw12.2.2.2.2.2.1.2.2.1 k0_t4
theorem k0_off221_wordsfp8e4m3 : ∀ (v34 : BitVec 32) (k0_hw12 : k0_chk12 v34) (k0_t4 : Fin (k0_t4_loop v34).trips), (Rect.unit (s := S2x2816x4096) (k0_off221 v34 k0_t4) S1x256x4096.size (k0_off221_inb v34 k0_hw12 k0_t4)).WholeWords (EltTy.packing .fp8e4m3) := fun v34 k0_hw12 k0_t4 => k0_hw12.2.2.2.2.2.1.2.2.2.1 k0_t4 (k0_off221_inb v34 k0_hw12 k0_t4)
theorem k0_off223_inb : ∀ (v34 : BitVec 32) (k0_hw12 : k0_chk12 v34) (k0_t4 : Fin (k0_t4_loop v34).trips), ∀ a, (k0_off223 v34 k0_t4) a + S1x256x4096.size a ≤ S2x2816x4096.size a := fun v34 k0_hw12 k0_t4 => k0_hw12.2.2.2.2.2.1.2.2.2.2.1 k0_t4
theorem k0_off223_wordsfp8e4m3 : ∀ (v34 : BitVec 32) (k0_hw12 : k0_chk12 v34) (k0_t4 : Fin (k0_t4_loop v34).trips), (Rect.unit (s := S2x2816x4096) (k0_off223 v34 k0_t4) S1x256x4096.size (k0_off223_inb v34 k0_hw12 k0_t4)).WholeWords (EltTy.packing .fp8e4m3) := fun v34 k0_hw12 k0_t4 => k0_hw12.2.2.2.2.2.1.2.2.2.2.2.1 k0_t4 (k0_off223_inb v34 k0_hw12 k0_t4)
theorem k0_off225_inb : ∀ (v34 : BitVec 32) (k0_hw12 : k0_chk12 v34) (k0_t4 : Fin (k0_t4_loop v34).trips), ∀ a, (k0_off225 v34 k0_t4) a + S1x256x4096.size a ≤ S2x2816x4096.size a := fun v34 k0_hw12 k0_t4 => k0_hw12.2.2.2.2.2.1.2.2.2.2.2.2.1 k0_t4
theorem k0_off226_inb : ∀ (v34 : BitVec 32) (k0_hw12 : k0_chk12 v34) (k0_t4 : Fin (k0_t4_loop v34).trips), ∀ a, (k0_off226 v34 k0_t4) a + S1x256x4096.size a ≤ S2x2816x4096.size a := fun v34 k0_hw12 k0_t4 => k0_hw12.2.2.2.2.2.1.2.2.2.2.2.2.2.1 k0_t4
theorem k0_off227_inb : ∀ (v34 : BitVec 32) (k0_hw12 : k0_chk12 v34) (k0_t4 : Fin (k0_t4_loop v34).trips), ∀ a, (k0_off227 v34 k0_t4) a + S1x1x256.size a ≤ S2x1x2816.size a := fun v34 k0_hw12 k0_t4 => k0_hw12.2.2.2.2.2.1.2.2.2.2.2.2.2.2.1 k0_t4
theorem k0_off228_inb : ∀ (v34 : BitVec 32) (k0_hw12 : k0_chk12 v34) (k0_t4 : Fin (k0_t4_loop v34).trips), ∀ a, (k0_off228 v34 k0_t4) a + S1x1x256.size a ≤ S2x1x2816.size a := fun v34 k0_hw12 k0_t4 => k0_hw12.2.2.2.2.2.1.2.2.2.2.2.2.2.2.2.1 k0_t4
theorem k0_off229_inb : ∀ (v34 : BitVec 32) (k0_hw12 : k0_chk12 v34) (k0_t4 : Fin (k0_t4_loop v34).trips), ∀ (k0_h15 : k0_cond15 v34 k0_t4 = 1#1), ∀ a, (k0_off229 v34 k0_t4) a + S1x1.size a ≤ S2x6.size a := fun v34 k0_hw12 k0_t4 k0_h15 => k0_hw12.2.2.2.2.2.1.2.2.2.2.2.2.2.2.2.2.1 k0_t4 k0_h15
theorem k0_off230_inb : ∀ (v34 : BitVec 32) (k0_hw12 : k0_chk12 v34) (k0_t4 : Fin (k0_t4_loop v34).trips), ∀ (k0_h15 : k0_cond15 v34 k0_t4 = 1#1), ∀ a, (k0_off230 v34 k0_t4) a + S1x256x4096.size a ≤ S2x2816x4096.size a := fun v34 k0_hw12 k0_t4 k0_h15 => k0_hw12.2.2.2.2.2.1.2.2.2.2.2.2.2.2.2.2.2.1 k0_t4 k0_h15
theorem k0_off230_wordsfp8e4m3 : ∀ (v34 : BitVec 32) (k0_hw12 : k0_chk12 v34) (k0_t4 : Fin (k0_t4_loop v34).trips), ∀ (k0_h15 : k0_cond15 v34 k0_t4 = 1#1), (Rect.unit (s := S2x2816x4096) (k0_off230 v34 k0_t4) S1x256x4096.size (k0_off230_inb v34 k0_hw12 k0_t4 k0_h15)).WholeWords (EltTy.packing .fp8e4m3) := fun v34 k0_hw12 k0_t4 k0_h15 => k0_hw12.2.2.2.2.2.1.2.2.2.2.2.2.2.2.2.2.2.2.1 k0_t4 k0_h15 (k0_off230_inb v34 k0_hw12 k0_t4 k0_h15)
theorem k0_off232_inb : ∀ (v34 : BitVec 32) (k0_hw12 : k0_chk12 v34) (k0_t4 : Fin (k0_t4_loop v34).trips), ∀ (k0_h15 : k0_cond15 v34 k0_t4 = 1#1), ∀ a, (k0_off232 v34 k0_t4) a + S1x256x4096.size a ≤ S2x2816x4096.size a := fun v34 k0_hw12 k0_t4 k0_h15 => k0_hw12.2.2.2.2.2.1.2.2.2.2.2.2.2.2.2.2.2.2.2.1 k0_t4 k0_h15
theorem k0_off232_wordsfp8e4m3 : ∀ (v34 : BitVec 32) (k0_hw12 : k0_chk12 v34) (k0_t4 : Fin (k0_t4_loop v34).trips), ∀ (k0_h15 : k0_cond15 v34 k0_t4 = 1#1), (Rect.unit (s := S2x2816x4096) (k0_off232 v34 k0_t4) S1x256x4096.size (k0_off232_inb v34 k0_hw12 k0_t4 k0_h15)).WholeWords (EltTy.packing .fp8e4m3) := fun v34 k0_hw12 k0_t4 k0_h15 => k0_hw12.2.2.2.2.2.1.2.2.2.2.2.2.2.2.2.2.2.2.2.2.1 k0_t4 k0_h15 (k0_off232_inb v34 k0_hw12 k0_t4 k0_h15)
theorem k0_off234_inb : ∀ (v34 : BitVec 32) (k0_hw12 : k0_chk12 v34) (k0_t4 : Fin (k0_t4_loop v34).trips), ∀ a, (k0_off234 v34 k0_t4) a + S1x1.size a ≤ S2x6.size a := fun v34 k0_hw12 k0_t4 => k0_hw12.2.2.2.2.2.1.2.2.2.2.2.2.2.2.2.2.2.2.2.2.2.1 k0_t4
theorem k0_off235_inb : ∀ (v34 : BitVec 32) (k0_hw12 : k0_chk12 v34) (k0_t4 : Fin (k0_t4_loop v34).trips), ∀ a, (k0_off235 v34 k0_t4) a + S1x256x4096.size a ≤ S2x2816x4096.size a := fun v34 k0_hw12 k0_t4 => k0_hw12.2.2.2.2.2.1.2.2.2.2.2.2.2.2.2.2.2.2.2.2.2.2.1 k0_t4
theorem k0_off235_wordsfp8e4m3 : ∀ (v34 : BitVec 32) (k0_hw12 : k0_chk12 v34) (k0_t4 : Fin (k0_t4_loop v34).trips), (Rect.unit (s := S2x2816x4096) (k0_off235 v34 k0_t4) S1x256x4096.size (k0_off235_inb v34 k0_hw12 k0_t4)).WholeWords (EltTy.packing .fp8e4m3) := fun v34 k0_hw12 k0_t4 => k0_hw12.2.2.2.2.2.1.2.2.2.2.2.2.2.2.2.2.2.2.2.2.2.2.2.1 k0_t4 (k0_off235_inb v34 k0_hw12 k0_t4)
theorem k0_off237_inb : ∀ (v34 : BitVec 32) (k0_hw12 : k0_chk12 v34) (k0_t4 : Fin (k0_t4_loop v34).trips), ∀ a, (k0_off237 v34 k0_t4) a + S1x256x4096.size a ≤ S2x2816x4096.size a := fun v34 k0_hw12 k0_t4 => k0_hw12.2.2.2.2.2.1.2.2.2.2.2.2.2.2.2.2.2.2.2.2.2.2.2.2.1 k0_t4
theorem k0_off237_wordsfp8e4m3 : ∀ (v34 : BitVec 32) (k0_hw12 : k0_chk12 v34) (k0_t4 : Fin (k0_t4_loop v34).trips), (Rect.unit (s := S2x2816x4096) (k0_off237 v34 k0_t4) S1x256x4096.size (k0_off237_inb v34 k0_hw12 k0_t4)).WholeWords (EltTy.packing .fp8e4m3) := fun v34 k0_hw12 k0_t4 => k0_hw12.2.2.2.2.2.1.2.2.2.2.2.2.2.2.2.2.2.2.2.2.2.2.2.2.2.1 k0_t4 (k0_off237_inb v34 k0_hw12 k0_t4)
theorem k0_off239_inb : ∀ (v34 : BitVec 32) (k0_hw12 : k0_chk12 v34) (k0_t4 : Fin (k0_t4_loop v34).trips), ∀ a, (k0_off239 v34 k0_t4) a + S1x256x4096.size a ≤ S2x2816x4096.size a := fun v34 k0_hw12 k0_t4 => k0_hw12.2.2.2.2.2.1.2.2.2.2.2.2.2.2.2.2.2.2.2.2.2.2.2.2.2.2.1 k0_t4
theorem k0_off240_inb : ∀ (v34 : BitVec 32) (k0_hw12 : k0_chk12 v34) (k0_t4 : Fin (k0_t4_loop v34).trips), ∀ a, (k0_off240 v34 k0_t4) a + S1x256x4096.size a ≤ S2x2816x4096.size a := fun v34 k0_hw12 k0_t4 => k0_hw12.2.2.2.2.2.1.2.2.2.2.2.2.2.2.2.2.2.2.2.2.2.2.2.2.2.2.2.1 k0_t4
theorem k0_off241_inb : ∀ (v34 : BitVec 32) (k0_hw12 : k0_chk12 v34) (k0_t4 : Fin (k0_t4_loop v34).trips), ∀ a, (k0_off241 v34 k0_t4) a + S1x1x256.size a ≤ S2x1x2816.size a := fun v34 k0_hw12 k0_t4 => k0_hw12.2.2.2.2.2.1.2.2.2.2.2.2.2.2.2.2.2.2.2.2.2.2.2.2.2.2.2.2.1 k0_t4
theorem k0_off242_inb : ∀ (v34 : BitVec 32) (k0_hw12 : k0_chk12 v34) (k0_t4 : Fin (k0_t4_loop v34).trips), ∀ a, (k0_off242 v34 k0_t4) a + S1x1x256.size a ≤ S2x1x2816.size a := fun v34 k0_hw12 k0_t4 => k0_hw12.2.2.2.2.2.1.2.2.2.2.2.2.2.2.2.2.2.2.2.2.2.2.2.2.2.2.2.2.2.1 k0_t4
theorem k0_off243_inb : ∀ (v34 : BitVec 32) (k0_hw12 : k0_chk12 v34) (k0_t4 : Fin (k0_t4_loop v34).trips), ∀ (k0_h16 : k0_cond16 v34 k0_t4 = 1#1), ∀ a, (k0_off243 v34 k0_t4) a + S1x1.size a ≤ S2x6.size a := fun v34 k0_hw12 k0_t4 k0_h16 => k0_hw12.2.2.2.2.2.1.2.2.2.2.2.2.2.2.2.2.2.2.2.2.2.2.2.2.2.2.2.2.2.2.1 k0_t4 k0_h16
theorem k0_off244_inb : ∀ (v34 : BitVec 32) (k0_hw12 : k0_chk12 v34) (k0_t4 : Fin (k0_t4_loop v34).trips), ∀ (k0_h16 : k0_cond16 v34 k0_t4 = 1#1), ∀ a, (k0_off244 v34 k0_t4) a + S1x256x4096.size a ≤ S2x2816x4096.size a := fun v34 k0_hw12 k0_t4 k0_h16 => k0_hw12.2.2.2.2.2.1.2.2.2.2.2.2.2.2.2.2.2.2.2.2.2.2.2.2.2.2.2.2.2.2.2.1 k0_t4 k0_h16
theorem k0_off244_wordsfp8e4m3 : ∀ (v34 : BitVec 32) (k0_hw12 : k0_chk12 v34) (k0_t4 : Fin (k0_t4_loop v34).trips), ∀ (k0_h16 : k0_cond16 v34 k0_t4 = 1#1), (Rect.unit (s := S2x2816x4096) (k0_off244 v34 k0_t4) S1x256x4096.size (k0_off244_inb v34 k0_hw12 k0_t4 k0_h16)).WholeWords (EltTy.packing .fp8e4m3) := fun v34 k0_hw12 k0_t4 k0_h16 => k0_hw12.2.2.2.2.2.1.2.2.2.2.2.2.2.2.2.2.2.2.2.2.2.2.2.2.2.2.2.2.2.2.2.2.1 k0_t4 k0_h16 (k0_off244_inb v34 k0_hw12 k0_t4 k0_h16)
theorem k0_off246_inb : ∀ (v34 : BitVec 32) (k0_hw12 : k0_chk12 v34) (k0_t4 : Fin (k0_t4_loop v34).trips), ∀ (k0_h16 : k0_cond16 v34 k0_t4 = 1#1), ∀ a, (k0_off246 v34 k0_t4) a + S1x256x4096.size a ≤ S2x2816x4096.size a := fun v34 k0_hw12 k0_t4 k0_h16 => k0_hw12.2.2.2.2.2.1.2.2.2.2.2.2.2.2.2.2.2.2.2.2.2.2.2.2.2.2.2.2.2.2.2.2.2.1 k0_t4 k0_h16
theorem k0_off246_wordsfp8e4m3 : ∀ (v34 : BitVec 32) (k0_hw12 : k0_chk12 v34) (k0_t4 : Fin (k0_t4_loop v34).trips), ∀ (k0_h16 : k0_cond16 v34 k0_t4 = 1#1), (Rect.unit (s := S2x2816x4096) (k0_off246 v34 k0_t4) S1x256x4096.size (k0_off246_inb v34 k0_hw12 k0_t4 k0_h16)).WholeWords (EltTy.packing .fp8e4m3) := fun v34 k0_hw12 k0_t4 k0_h16 => k0_hw12.2.2.2.2.2.1.2.2.2.2.2.2.2.2.2.2.2.2.2.2.2.2.2.2.2.2.2.2.2.2.2.2.2.2.1 k0_t4 k0_h16 (k0_off246_inb v34 k0_hw12 k0_t4 k0_h16)
theorem k0_off248_inb : ∀ (v34 : BitVec 32) (k0_hw12 : k0_chk12 v34) (k0_t4 : Fin (k0_t4_loop v34).trips), ∀ a, (k0_off248 v34 k0_t4) a + S1x1.size a ≤ S2x6.size a := fun v34 k0_hw12 k0_t4 => k0_hw12.2.2.2.2.2.1.2.2.2.2.2.2.2.2.2.2.2.2.2.2.2.2.2.2.2.2.2.2.2.2.2.2.2.2.2.1 k0_t4
theorem k0_off249_inb : ∀ (v34 : BitVec 32) (k0_hw12 : k0_chk12 v34) (k0_t4 : Fin (k0_t4_loop v34).trips), ∀ a, (k0_off249 v34 k0_t4) a + S1x256x4096.size a ≤ S2x2816x4096.size a := fun v34 k0_hw12 k0_t4 => k0_hw12.2.2.2.2.2.1.2.2.2.2.2.2.2.2.2.2.2.2.2.2.2.2.2.2.2.2.2.2.2.2.2.2.2.2.2.2.1 k0_t4
theorem k0_off249_wordsfp8e4m3 : ∀ (v34 : BitVec 32) (k0_hw12 : k0_chk12 v34) (k0_t4 : Fin (k0_t4_loop v34).trips), (Rect.unit (s := S2x2816x4096) (k0_off249 v34 k0_t4) S1x256x4096.size (k0_off249_inb v34 k0_hw12 k0_t4)).WholeWords (EltTy.packing .fp8e4m3) := fun v34 k0_hw12 k0_t4 => k0_hw12.2.2.2.2.2.1.2.2.2.2.2.2.2.2.2.2.2.2.2.2.2.2.2.2.2.2.2.2.2.2.2.2.2.2.2.2.2 k0_t4 (k0_off249_inb v34 k0_hw12 k0_t4)
theorem k0_off251_inb : ∀ (v34 : BitVec 32) (k0_hw12 : k0_chk12 v34) (k0_t4 : Fin (k0_t4_loop v34).trips), ∀ a, (k0_off251 v34 k0_t4) a + S1x256x4096.size a ≤ S2x2816x4096.size a := fun v34 k0_hw12 k0_t4 => k0_hw12.2.2.2.2.2.2.1.1 k0_t4
theorem k0_off251_wordsfp8e4m3 : ∀ (v34 : BitVec 32) (k0_hw12 : k0_chk12 v34) (k0_t4 : Fin (k0_t4_loop v34).trips), (Rect.unit (s := S2x2816x4096) (k0_off251 v34 k0_t4) S1x256x4096.size (k0_off251_inb v34 k0_hw12 k0_t4)).WholeWords (EltTy.packing .fp8e4m3) := fun v34 k0_hw12 k0_t4 => k0_hw12.2.2.2.2.2.2.1.2.1 k0_t4 (k0_off251_inb v34 k0_hw12 k0_t4)
theorem k0_off253_inb : ∀ (v34 : BitVec 32) (k0_hw12 : k0_chk12 v34) (k0_t4 : Fin (k0_t4_loop v34).trips), ∀ a, (k0_off253 v34 k0_t4) a + S1x256x4096.size a ≤ S2x2816x4096.size a := fun v34 k0_hw12 k0_t4 => k0_hw12.2.2.2.2.2.2.1.2.2.1 k0_t4
theorem k0_off254_inb : ∀ (v34 : BitVec 32) (k0_hw12 : k0_chk12 v34) (k0_t4 : Fin (k0_t4_loop v34).trips), ∀ a, (k0_off254 v34 k0_t4) a + S1x256x4096.size a ≤ S2x2816x4096.size a := fun v34 k0_hw12 k0_t4 => k0_hw12.2.2.2.2.2.2.1.2.2.2.1 k0_t4
theorem k0_off255_inb : ∀ (v34 : BitVec 32) (k0_hw12 : k0_chk12 v34) (k0_t4 : Fin (k0_t4_loop v34).trips), ∀ a, (k0_off255 v34 k0_t4) a + S1x1x256.size a ≤ S2x1x2816.size a := fun v34 k0_hw12 k0_t4 => k0_hw12.2.2.2.2.2.2.1.2.2.2.2.1 k0_t4
theorem k0_off256_inb : ∀ (v34 : BitVec 32) (k0_hw12 : k0_chk12 v34) (k0_t4 : Fin (k0_t4_loop v34).trips), ∀ a, (k0_off256 v34 k0_t4) a + S1x1x256.size a ≤ S2x1x2816.size a := fun v34 k0_hw12 k0_t4 => k0_hw12.2.2.2.2.2.2.1.2.2.2.2.2.1 k0_t4
theorem k0_off257_inb : ∀ (v34 : BitVec 32) (k0_hw12 : k0_chk12 v34) (k0_t4 : Fin (k0_t4_loop v34).trips), ∀ (k0_h17 : k0_cond17 v34 k0_t4 = 1#1), ∀ a, (k0_off257 v34 k0_t4) a + S1x1.size a ≤ S2x6.size a := fun v34 k0_hw12 k0_t4 k0_h17 => k0_hw12.2.2.2.2.2.2.1.2.2.2.2.2.2.1 k0_t4 k0_h17
theorem k0_off258_inb : ∀ (v34 : BitVec 32) (k0_hw12 : k0_chk12 v34) (k0_t4 : Fin (k0_t4_loop v34).trips), ∀ (k0_h17 : k0_cond17 v34 k0_t4 = 1#1), ∀ a, (k0_off258 v34 k0_t4) a + S1x256x4096.size a ≤ S2x2816x4096.size a := fun v34 k0_hw12 k0_t4 k0_h17 => k0_hw12.2.2.2.2.2.2.1.2.2.2.2.2.2.2.1 k0_t4 k0_h17
theorem k0_off258_wordsfp8e4m3 : ∀ (v34 : BitVec 32) (k0_hw12 : k0_chk12 v34) (k0_t4 : Fin (k0_t4_loop v34).trips), ∀ (k0_h17 : k0_cond17 v34 k0_t4 = 1#1), (Rect.unit (s := S2x2816x4096) (k0_off258 v34 k0_t4) S1x256x4096.size (k0_off258_inb v34 k0_hw12 k0_t4 k0_h17)).WholeWords (EltTy.packing .fp8e4m3) := fun v34 k0_hw12 k0_t4 k0_h17 => k0_hw12.2.2.2.2.2.2.1.2.2.2.2.2.2.2.2.1 k0_t4 k0_h17 (k0_off258_inb v34 k0_hw12 k0_t4 k0_h17)
theorem k0_off260_inb : ∀ (v34 : BitVec 32) (k0_hw12 : k0_chk12 v34) (k0_t4 : Fin (k0_t4_loop v34).trips), ∀ (k0_h17 : k0_cond17 v34 k0_t4 = 1#1), ∀ a, (k0_off260 v34 k0_t4) a + S1x256x4096.size a ≤ S2x2816x4096.size a := fun v34 k0_hw12 k0_t4 k0_h17 => k0_hw12.2.2.2.2.2.2.1.2.2.2.2.2.2.2.2.2.1 k0_t4 k0_h17
theorem k0_off260_wordsfp8e4m3 : ∀ (v34 : BitVec 32) (k0_hw12 : k0_chk12 v34) (k0_t4 : Fin (k0_t4_loop v34).trips), ∀ (k0_h17 : k0_cond17 v34 k0_t4 = 1#1), (Rect.unit (s := S2x2816x4096) (k0_off260 v34 k0_t4) S1x256x4096.size (k0_off260_inb v34 k0_hw12 k0_t4 k0_h17)).WholeWords (EltTy.packing .fp8e4m3) := fun v34 k0_hw12 k0_t4 k0_h17 => k0_hw12.2.2.2.2.2.2.1.2.2.2.2.2.2.2.2.2.2.1 k0_t4 k0_h17 (k0_off260_inb v34 k0_hw12 k0_t4 k0_h17)
theorem k0_off262_inb : ∀ (v34 : BitVec 32) (k0_hw12 : k0_chk12 v34) (k0_t4 : Fin (k0_t4_loop v34).trips), ∀ a, (k0_off262 v34 k0_t4) a + S1x1.size a ≤ S2x6.size a := fun v34 k0_hw12 k0_t4 => k0_hw12.2.2.2.2.2.2.1.2.2.2.2.2.2.2.2.2.2.2.1 k0_t4
theorem k0_off263_inb : ∀ (v34 : BitVec 32) (k0_hw12 : k0_chk12 v34) (k0_t4 : Fin (k0_t4_loop v34).trips), ∀ a, (k0_off263 v34 k0_t4) a + S1x128x4096.size a ≤ S2x2816x4096.size a := fun v34 k0_hw12 k0_t4 => k0_hw12.2.2.2.2.2.2.1.2.2.2.2.2.2.2.2.2.2.2.2.1 k0_t4
theorem k0_off263_wordsfp8e4m3 : ∀ (v34 : BitVec 32) (k0_hw12 : k0_chk12 v34) (k0_t4 : Fin (k0_t4_loop v34).trips), (Rect.unit (s := S2x2816x4096) (k0_off263 v34 k0_t4) S1x128x4096.size (k0_off263_inb v34 k0_hw12 k0_t4)).WholeWords (EltTy.packing .fp8e4m3) := fun v34 k0_hw12 k0_t4 => k0_hw12.2.2.2.2.2.2.1.2.2.2.2.2.2.2.2.2.2.2.2.2.1 k0_t4 (k0_off263_inb v34 k0_hw12 k0_t4)
theorem k0_off265_inb : ∀ (v34 : BitVec 32) (k0_hw12 : k0_chk12 v34) (k0_t4 : Fin (k0_t4_loop v34).trips), ∀ a, (k0_off265 v34 k0_t4) a + S1x128x4096.size a ≤ S2x2816x4096.size a := fun v34 k0_hw12 k0_t4 => k0_hw12.2.2.2.2.2.2.1.2.2.2.2.2.2.2.2.2.2.2.2.2.2.1 k0_t4
theorem k0_off265_wordsfp8e4m3 : ∀ (v34 : BitVec 32) (k0_hw12 : k0_chk12 v34) (k0_t4 : Fin (k0_t4_loop v34).trips), (Rect.unit (s := S2x2816x4096) (k0_off265 v34 k0_t4) S1x128x4096.size (k0_off265_inb v34 k0_hw12 k0_t4)).WholeWords (EltTy.packing .fp8e4m3) := fun v34 k0_hw12 k0_t4 => k0_hw12.2.2.2.2.2.2.1.2.2.2.2.2.2.2.2.2.2.2.2.2.2.2.1 k0_t4 (k0_off265_inb v34 k0_hw12 k0_t4)
theorem k0_off267_inb : ∀ (v34 : BitVec 32) (k0_hw12 : k0_chk12 v34) (k0_t4 : Fin (k0_t4_loop v34).trips), ∀ a, (k0_off267 v34 k0_t4) a + S1x128x4096.size a ≤ S2x2816x4096.size a := fun v34 k0_hw12 k0_t4 => k0_hw12.2.2.2.2.2.2.1.2.2.2.2.2.2.2.2.2.2.2.2.2.2.2.2.1 k0_t4
theorem k0_off268_inb : ∀ (v34 : BitVec 32) (k0_hw12 : k0_chk12 v34) (k0_t4 : Fin (k0_t4_loop v34).trips), ∀ a, (k0_off268 v34 k0_t4) a + S1x128x4096.size a ≤ S2x2816x4096.size a := fun v34 k0_hw12 k0_t4 => k0_hw12.2.2.2.2.2.2.1.2.2.2.2.2.2.2.2.2.2.2.2.2.2.2.2.2.1 k0_t4
theorem k0_off269_inb : ∀ (v34 : BitVec 32) (k0_hw12 : k0_chk12 v34) (k0_t4 : Fin (k0_t4_loop v34).trips), ∀ a, (k0_off269 v34 k0_t4) a + S1x1x128.size a ≤ S2x1x2816.size a := fun v34 k0_hw12 k0_t4 => k0_hw12.2.2.2.2.2.2.1.2.2.2.2.2.2.2.2.2.2.2.2.2.2.2.2.2.2.1 k0_t4
theorem k0_off270_inb : ∀ (v34 : BitVec 32) (k0_hw12 : k0_chk12 v34) (k0_t4 : Fin (k0_t4_loop v34).trips), ∀ a, (k0_off270 v34 k0_t4) a + S1x1x128.size a ≤ S2x1x2816.size a := fun v34 k0_hw12 k0_t4 => k0_hw12.2.2.2.2.2.2.1.2.2.2.2.2.2.2.2.2.2.2.2.2.2.2.2.2.2.2.1 k0_t4
theorem k0_off271_inb : ∀ (v34 : BitVec 32) (k0_hw12 : k0_chk12 v34) (k0_t4 : Fin (k0_t4_loop v34).trips), ∀ (k0_h18 : k0_cond18 v34 k0_t4 = 1#1), ∀ a, (k0_off271 v34 k0_t4) a + S1x1.size a ≤ S2x6.size a := fun v34 k0_hw12 k0_t4 k0_h18 => k0_hw12.2.2.2.2.2.2.1.2.2.2.2.2.2.2.2.2.2.2.2.2.2.2.2.2.2.2.2.1 k0_t4 k0_h18
theorem k0_off272_inb : ∀ (v34 : BitVec 32) (k0_hw12 : k0_chk12 v34) (k0_t4 : Fin (k0_t4_loop v34).trips), ∀ (k0_h18 : k0_cond18 v34 k0_t4 = 1#1), ∀ a, (k0_off272 v34 k0_t4) a + S1x128x4096.size a ≤ S2x2816x4096.size a := fun v34 k0_hw12 k0_t4 k0_h18 => k0_hw12.2.2.2.2.2.2.1.2.2.2.2.2.2.2.2.2.2.2.2.2.2.2.2.2.2.2.2.2.1 k0_t4 k0_h18
theorem k0_off272_wordsfp8e4m3 : ∀ (v34 : BitVec 32) (k0_hw12 : k0_chk12 v34) (k0_t4 : Fin (k0_t4_loop v34).trips), ∀ (k0_h18 : k0_cond18 v34 k0_t4 = 1#1), (Rect.unit (s := S2x2816x4096) (k0_off272 v34 k0_t4) S1x128x4096.size (k0_off272_inb v34 k0_hw12 k0_t4 k0_h18)).WholeWords (EltTy.packing .fp8e4m3) := fun v34 k0_hw12 k0_t4 k0_h18 => k0_hw12.2.2.2.2.2.2.1.2.2.2.2.2.2.2.2.2.2.2.2.2.2.2.2.2.2.2.2.2.2.1 k0_t4 k0_h18 (k0_off272_inb v34 k0_hw12 k0_t4 k0_h18)
theorem k0_off274_inb : ∀ (v34 : BitVec 32) (k0_hw12 : k0_chk12 v34) (k0_t4 : Fin (k0_t4_loop v34).trips), ∀ (k0_h18 : k0_cond18 v34 k0_t4 = 1#1), ∀ a, (k0_off274 v34 k0_t4) a + S1x128x4096.size a ≤ S2x2816x4096.size a := fun v34 k0_hw12 k0_t4 k0_h18 => k0_hw12.2.2.2.2.2.2.1.2.2.2.2.2.2.2.2.2.2.2.2.2.2.2.2.2.2.2.2.2.2.2.1 k0_t4 k0_h18
theorem k0_off274_wordsfp8e4m3 : ∀ (v34 : BitVec 32) (k0_hw12 : k0_chk12 v34) (k0_t4 : Fin (k0_t4_loop v34).trips), ∀ (k0_h18 : k0_cond18 v34 k0_t4 = 1#1), (Rect.unit (s := S2x2816x4096) (k0_off274 v34 k0_t4) S1x128x4096.size (k0_off274_inb v34 k0_hw12 k0_t4 k0_h18)).WholeWords (EltTy.packing .fp8e4m3) := fun v34 k0_hw12 k0_t4 k0_h18 => k0_hw12.2.2.2.2.2.2.1.2.2.2.2.2.2.2.2.2.2.2.2.2.2.2.2.2.2.2.2.2.2.2.2.1 k0_t4 k0_h18 (k0_off274_inb v34 k0_hw12 k0_t4 k0_h18)
theorem k0_off276_inb : ∀ (v34 : BitVec 32) (k0_hw12 : k0_chk12 v34) (k0_t4 : Fin (k0_t4_loop v34).trips), ∀ a, (k0_off276 v34 k0_t4) a + S1x1.size a ≤ S2x4.size a := fun v34 k0_hw12 k0_t4 => k0_hw12.2.2.2.2.2.2.1.2.2.2.2.2.2.2.2.2.2.2.2.2.2.2.2.2.2.2.2.2.2.2.2.2.1 k0_t4
theorem k0_off277_inb : ∀ (v34 : BitVec 32) (k0_hw12 : k0_chk12 v34) (k0_t4 : Fin (k0_t4_loop v34).trips), ∀ a, (k0_off277 v34 k0_t4) a + S1x1024x1408.size a ≤ S2x4096x1408.size a := fun v34 k0_hw12 k0_t4 => k0_hw12.2.2.2.2.2.2.1.2.2.2.2.2.2.2.2.2.2.2.2.2.2.2.2.2.2.2.2.2.2.2.2.2.2.1 k0_t4
theorem k0_off277_wordsfp8e4m3 : ∀ (v34 : BitVec 32) (k0_hw12 : k0_chk12 v34) (k0_t4 : Fin (k0_t4_loop v34).trips), (Rect.unit (s := S2x4096x1408) (k0_off277 v34 k0_t4) S1x1024x1408.size (k0_off277_inb v34 k0_hw12 k0_t4)).WholeWords (EltTy.packing .fp8e4m3) := fun v34 k0_hw12 k0_t4 => k0_hw12.2.2.2.2.2.2.1.2.2.2.2.2.2.2.2.2.2.2.2.2.2.2.2.2.2.2.2.2.2.2.2.2.2.2.1 k0_t4 (k0_off277_inb v34 k0_hw12 k0_t4)
theorem k0_off279_inb : ∀ (v34 : BitVec 32) (k0_hw12 : k0_chk12 v34) (k0_t4 : Fin (k0_t4_loop v34).trips), ∀ a, (k0_off279 v34 k0_t4) a + S1x1024x1408.size a ≤ S2x4096x1408.size a := fun v34 k0_hw12 k0_t4 => k0_hw12.2.2.2.2.2.2.1.2.2.2.2.2.2.2.2.2.2.2.2.2.2.2.2.2.2.2.2.2.2.2.2.2.2.2.2.1 k0_t4
theorem k0_off280_inb : ∀ (v34 : BitVec 32) (k0_hw12 : k0_chk12 v34) (k0_t4 : Fin (k0_t4_loop v34).trips), ∀ a, (k0_off280 v34 k0_t4) a + S1x1x1024.size a ≤ S2x1x4096.size a := fun v34 k0_hw12 k0_t4 => k0_hw12.2.2.2.2.2.2.1.2.2.2.2.2.2.2.2.2.2.2.2.2.2.2.2.2.2.2.2.2.2.2.2.2.2.2.2.2.1 k0_t4
theorem k0_off281_inb : ∀ (v34 : BitVec 32) (k0_hw12 : k0_chk12 v34) (k0_t4 : Fin (k0_t4_loop v34).trips), ∀ (k0_h19 : k0_cond19 v34 k0_t4 = 1#1), ∀ a, (k0_off281 v34 k0_t4) a + S1x1.size a ≤ S2x4.size a := fun v34 k0_hw12 k0_t4 k0_h19 => k0_hw12.2.2.2.2.2.2.1.2.2.2.2.2.2.2.2.2.2.2.2.2.2.2.2.2.2.2.2.2.2.2.2.2.2.2.2.2.2.1 k0_t4 k0_h19
theorem k0_off282_inb : ∀ (v34 : BitVec 32) (k0_hw12 : k0_chk12 v34) (k0_t4 : Fin (k0_t4_loop v34).trips), ∀ (k0_h19 : k0_cond19 v34 k0_t4 = 1#1), ∀ a, (k0_off282 v34 k0_t4) a + S1x1024x1408.size a ≤ S2x4096x1408.size a := fun v34 k0_hw12 k0_t4 k0_h19 => k0_hw12.2.2.2.2.2.2.1.2.2.2.2.2.2.2.2.2.2.2.2.2.2.2.2.2.2.2.2.2.2.2.2.2.2.2.2.2.2.2 k0_t4 k0_h19
theorem k0_off282_wordsfp8e4m3 : ∀ (v34 : BitVec 32) (k0_hw12 : k0_chk12 v34) (k0_t4 : Fin (k0_t4_loop v34).trips), ∀ (k0_h19 : k0_cond19 v34 k0_t4 = 1#1), (Rect.unit (s := S2x4096x1408) (k0_off282 v34 k0_t4) S1x1024x1408.size (k0_off282_inb v34 k0_hw12 k0_t4 k0_h19)).WholeWords (EltTy.packing .fp8e4m3) := fun v34 k0_hw12 k0_t4 k0_h19 => k0_hw12.2.2.2.2.2.2.2.1 k0_t4 k0_h19 (k0_off282_inb v34 k0_hw12 k0_t4 k0_h19)
theorem k0_off284_inb : ∀ (v34 : BitVec 32) (k0_hw12 : k0_chk12 v34) (k0_t4 : Fin (k0_t4_loop v34).trips), ∀ a, (k0_off284 v34 k0_t4) a + S1x1.size a ≤ S2x4.size a := fun v34 k0_hw12 k0_t4 => k0_hw12.2.2.2.2.2.2.2.2.1 k0_t4
theorem k0_off285_inb : ∀ (v34 : BitVec 32) (k0_hw12 : k0_chk12 v34) (k0_t4 : Fin (k0_t4_loop v34).trips), ∀ a, (k0_off285 v34 k0_t4) a + S1x1024x1408.size a ≤ S2x4096x1408.size a := fun v34 k0_hw12 k0_t4 => k0_hw12.2.2.2.2.2.2.2.2.2.1 k0_t4
theorem k0_off285_wordsfp8e4m3 : ∀ (v34 : BitVec 32) (k0_hw12 : k0_chk12 v34) (k0_t4 : Fin (k0_t4_loop v34).trips), (Rect.unit (s := S2x4096x1408) (k0_off285 v34 k0_t4) S1x1024x1408.size (k0_off285_inb v34 k0_hw12 k0_t4)).WholeWords (EltTy.packing .fp8e4m3) := fun v34 k0_hw12 k0_t4 => k0_hw12.2.2.2.2.2.2.2.2.2.2.1 k0_t4 (k0_off285_inb v34 k0_hw12 k0_t4)
theorem k0_off287_inb : ∀ (v34 : BitVec 32) (k0_hw12 : k0_chk12 v34) (k0_t4 : Fin (k0_t4_loop v34).trips), ∀ a, (k0_off287 v34 k0_t4) a + S1x1024x1408.size a ≤ S2x4096x1408.size a := fun v34 k0_hw12 k0_t4 => k0_hw12.2.2.2.2.2.2.2.2.2.2.2.1 k0_t4
theorem k0_off288_inb : ∀ (v34 : BitVec 32) (k0_hw12 : k0_chk12 v34) (k0_t4 : Fin (k0_t4_loop v34).trips), ∀ a, (k0_off288 v34 k0_t4) a + S1x1x1024.size a ≤ S2x1x4096.size a := fun v34 k0_hw12 k0_t4 => k0_hw12.2.2.2.2.2.2.2.2.2.2.2.2.1 k0_t4
theorem k0_off289_inb : ∀ (v34 : BitVec 32) (k0_hw12 : k0_chk12 v34) (k0_t4 : Fin (k0_t4_loop v34).trips), ∀ (k0_h20 : k0_cond20 v34 k0_t4 = 1#1), ∀ a, (k0_off289 v34 k0_t4) a + S1x1.size a ≤ S2x4.size a := fun v34 k0_hw12 k0_t4 k0_h20 => k0_hw12.2.2.2.2.2.2.2.2.2.2.2.2.2.1 k0_t4 k0_h20
theorem k0_off290_inb : ∀ (v34 : BitVec 32) (k0_hw12 : k0_chk12 v34) (k0_t4 : Fin (k0_t4_loop v34).trips), ∀ (k0_h20 : k0_cond20 v34 k0_t4 = 1#1), ∀ a, (k0_off290 v34 k0_t4) a + S1x1024x1408.size a ≤ S2x4096x1408.size a := fun v34 k0_hw12 k0_t4 k0_h20 => k0_hw12.2.2.2.2.2.2.2.2.2.2.2.2.2.2.1 k0_t4 k0_h20
theorem k0_off290_wordsfp8e4m3 : ∀ (v34 : BitVec 32) (k0_hw12 : k0_chk12 v34) (k0_t4 : Fin (k0_t4_loop v34).trips), ∀ (k0_h20 : k0_cond20 v34 k0_t4 = 1#1), (Rect.unit (s := S2x4096x1408) (k0_off290 v34 k0_t4) S1x1024x1408.size (k0_off290_inb v34 k0_hw12 k0_t4 k0_h20)).WholeWords (EltTy.packing .fp8e4m3) := fun v34 k0_hw12 k0_t4 k0_h20 => k0_hw12.2.2.2.2.2.2.2.2.2.2.2.2.2.2.2.1 k0_t4 k0_h20 (k0_off290_inb v34 k0_hw12 k0_t4 k0_h20)
theorem k0_off292_inb : ∀ (v34 : BitVec 32) (k0_hw12 : k0_chk12 v34) (k0_t4 : Fin (k0_t4_loop v34).trips), ∀ a, (k0_off292 v34 k0_t4) a + S1x1.size a ≤ S2x4.size a := fun v34 k0_hw12 k0_t4 => k0_hw12.2.2.2.2.2.2.2.2.2.2.2.2.2.2.2.2.1 k0_t4
theorem k0_off293_inb : ∀ (v34 : BitVec 32) (k0_hw12 : k0_chk12 v34) (k0_t4 : Fin (k0_t4_loop v34).trips), ∀ a, (k0_off293 v34 k0_t4) a + S1x1024x1408.size a ≤ S2x4096x1408.size a := fun v34 k0_hw12 k0_t4 => k0_hw12.2.2.2.2.2.2.2.2.2.2.2.2.2.2.2.2.2.1 k0_t4
theorem k0_off293_wordsfp8e4m3 : ∀ (v34 : BitVec 32) (k0_hw12 : k0_chk12 v34) (k0_t4 : Fin (k0_t4_loop v34).trips), (Rect.unit (s := S2x4096x1408) (k0_off293 v34 k0_t4) S1x1024x1408.size (k0_off293_inb v34 k0_hw12 k0_t4)).WholeWords (EltTy.packing .fp8e4m3) := fun v34 k0_hw12 k0_t4 => k0_hw12.2.2.2.2.2.2.2.2.2.2.2.2.2.2.2.2.2.2.1 k0_t4 (k0_off293_inb v34 k0_hw12 k0_t4)
theorem k0_off295_inb : ∀ (v34 : BitVec 32) (k0_hw12 : k0_chk12 v34) (k0_t4 : Fin (k0_t4_loop v34).trips), ∀ a, (k0_off295 v34 k0_t4) a + S1x1024x1408.size a ≤ S2x4096x1408.size a := fun v34 k0_hw12 k0_t4 => k0_hw12.2.2.2.2.2.2.2.2.2.2.2.2.2.2.2.2.2.2.2.1 k0_t4
theorem k0_off296_inb : ∀ (v34 : BitVec 32) (k0_hw12 : k0_chk12 v34) (k0_t4 : Fin (k0_t4_loop v34).trips), ∀ a, (k0_off296 v34 k0_t4) a + S1x1x1024.size a ≤ S2x1x4096.size a := fun v34 k0_hw12 k0_t4 => k0_hw12.2.2.2.2.2.2.2.2.2.2.2.2.2.2.2.2.2.2.2.2.1 k0_t4
theorem k0_off297_inb : ∀ (v34 : BitVec 32) (k0_hw12 : k0_chk12 v34) (k0_t4 : Fin (k0_t4_loop v34).trips), ∀ (k0_h21 : k0_cond21 v34 k0_t4 = 1#1), ∀ a, (k0_off297 v34 k0_t4) a + S1x1.size a ≤ S2x4.size a := fun v34 k0_hw12 k0_t4 k0_h21 => k0_hw12.2.2.2.2.2.2.2.2.2.2.2.2.2.2.2.2.2.2.2.2.2.1 k0_t4 k0_h21
theorem k0_off298_inb : ∀ (v34 : BitVec 32) (k0_hw12 : k0_chk12 v34) (k0_t4 : Fin (k0_t4_loop v34).trips), ∀ (k0_h21 : k0_cond21 v34 k0_t4 = 1#1), ∀ a, (k0_off298 v34 k0_t4) a + S1x1024x1408.size a ≤ S2x4096x1408.size a := fun v34 k0_hw12 k0_t4 k0_h21 => k0_hw12.2.2.2.2.2.2.2.2.2.2.2.2.2.2.2.2.2.2.2.2.2.2.1 k0_t4 k0_h21
theorem k0_off298_wordsfp8e4m3 : ∀ (v34 : BitVec 32) (k0_hw12 : k0_chk12 v34) (k0_t4 : Fin (k0_t4_loop v34).trips), ∀ (k0_h21 : k0_cond21 v34 k0_t4 = 1#1), (Rect.unit (s := S2x4096x1408) (k0_off298 v34 k0_t4) S1x1024x1408.size (k0_off298_inb v34 k0_hw12 k0_t4 k0_h21)).WholeWords (EltTy.packing .fp8e4m3) := fun v34 k0_hw12 k0_t4 k0_h21 => k0_hw12.2.2.2.2.2.2.2.2.2.2.2.2.2.2.2.2.2.2.2.2.2.2.2.1 k0_t4 k0_h21 (k0_off298_inb v34 k0_hw12 k0_t4 k0_h21)
theorem k0_off300_inb : ∀ (v34 : BitVec 32) (k0_hw12 : k0_chk12 v34) (k0_t4 : Fin (k0_t4_loop v34).trips), ∀ a, (k0_off300 v34 k0_t4) a + S1x1.size a ≤ S2x4.size a := fun v34 k0_hw12 k0_t4 => k0_hw12.2.2.2.2.2.2.2.2.2.2.2.2.2.2.2.2.2.2.2.2.2.2.2.2.1 k0_t4
theorem k0_off301_inb : ∀ (v34 : BitVec 32) (k0_hw12 : k0_chk12 v34) (k0_t4 : Fin (k0_t4_loop v34).trips), ∀ a, (k0_off301 v34 k0_t4) a + S1x1024x1408.size a ≤ S2x4096x1408.size a := fun v34 k0_hw12 k0_t4 => k0_hw12.2.2.2.2.2.2.2.2.2.2.2.2.2.2.2.2.2.2.2.2.2.2.2.2.2.1 k0_t4
theorem k0_off301_wordsfp8e4m3 : ∀ (v34 : BitVec 32) (k0_hw12 : k0_chk12 v34) (k0_t4 : Fin (k0_t4_loop v34).trips), (Rect.unit (s := S2x4096x1408) (k0_off301 v34 k0_t4) S1x1024x1408.size (k0_off301_inb v34 k0_hw12 k0_t4)).WholeWords (EltTy.packing .fp8e4m3) := fun v34 k0_hw12 k0_t4 => k0_hw12.2.2.2.2.2.2.2.2.2.2.2.2.2.2.2.2.2.2.2.2.2.2.2.2.2.2.1 k0_t4 (k0_off301_inb v34 k0_hw12 k0_t4)
theorem k0_off303_inb : ∀ (v34 : BitVec 32) (k0_hw12 : k0_chk12 v34) (k0_t4 : Fin (k0_t4_loop v34).trips), ∀ a, (k0_off303 v34 k0_t4) a + S1x1024x1408.size a ≤ S2x4096x1408.size a := fun v34 k0_hw12 k0_t4 => k0_hw12.2.2.2.2.2.2.2.2.2.2.2.2.2.2.2.2.2.2.2.2.2.2.2.2.2.2.2.1 k0_t4
theorem k0_off304_inb : ∀ (v34 : BitVec 32) (k0_hw12 : k0_chk12 v34) (k0_t4 : Fin (k0_t4_loop v34).trips), ∀ a, (k0_off304 v34 k0_t4) a + S1x1x1024.size a ≤ S2x1x4096.size a := fun v34 k0_hw12 k0_t4 => k0_hw12.2.2.2.2.2.2.2.2.2.2.2.2.2.2.2.2.2.2.2.2.2.2.2.2.2.2.2.2.1 k0_t4
theorem k0_off305_inb : ∀ (v34 : BitVec 32) (k0_hw12 : k0_chk12 v34) (k0_t4 : Fin (k0_t4_loop v34).trips), ∀ (k0_h22 : k0_cond22 v34 k0_t4 = 1#1), ∀ a, (k0_off305 v34 k0_t4) a + S1x1.size a ≤ S2x4.size a := fun v34 k0_hw12 k0_t4 k0_h22 => k0_hw12.2.2.2.2.2.2.2.2.2.2.2.2.2.2.2.2.2.2.2.2.2.2.2.2.2.2.2.2.2.1 k0_t4 k0_h22
theorem k0_off306_inb : ∀ (v34 : BitVec 32) (k0_hw12 : k0_chk12 v34) (k0_t4 : Fin (k0_t4_loop v34).trips), ∀ (k0_h22 : k0_cond22 v34 k0_t4 = 1#1), ∀ a, (k0_off306 v34 k0_t4) a + S1x1024x1408.size a ≤ S2x4096x1408.size a := fun v34 k0_hw12 k0_t4 k0_h22 => k0_hw12.2.2.2.2.2.2.2.2.2.2.2.2.2.2.2.2.2.2.2.2.2.2.2.2.2.2.2.2.2.2.1 k0_t4 k0_h22
theorem k0_off306_wordsfp8e4m3 : ∀ (v34 : BitVec 32) (k0_hw12 : k0_chk12 v34) (k0_t4 : Fin (k0_t4_loop v34).trips), ∀ (k0_h22 : k0_cond22 v34 k0_t4 = 1#1), (Rect.unit (s := S2x4096x1408) (k0_off306 v34 k0_t4) S1x1024x1408.size (k0_off306_inb v34 k0_hw12 k0_t4 k0_h22)).WholeWords (EltTy.packing .fp8e4m3) := fun v34 k0_hw12 k0_t4 k0_h22 => k0_hw12.2.2.2.2.2.2.2.2.2.2.2.2.2.2.2.2.2.2.2.2.2.2.2.2.2.2.2.2.2.2.2.1 k0_t4 k0_h22 (k0_off306_inb v34 k0_hw12 k0_t4 k0_h22)
theorem k0_off308_inb : ∀ (v34 : BitVec 32) (k0_hw12 : k0_chk12 v34) (k0_t4 : Fin (k0_t4_loop v34).trips), ∀ (k0_h22 : k0_cond22 v34 k0_t4 = 1#1), ∀ a, (k0_off308 v34 k0_t4) a + S1x1.size a ≤ S2x6.size a := fun v34 k0_hw12 k0_t4 k0_h22 => k0_hw12.2.2.2.2.2.2.2.2.2.2.2.2.2.2.2.2.2.2.2.2.2.2.2.2.2.2.2.2.2.2.2.2.1 k0_t4 k0_h22
theorem k0_off309_inb : ∀ (v34 : BitVec 32) (k0_hw12 : k0_chk12 v34) (k0_t4 : Fin (k0_t4_loop v34).trips), ∀ (k0_h22 : k0_cond22 v34 k0_t4 = 1#1), ∀ a, (k0_off309 v34 k0_t4) a + S1x1x2816.size a ≤ S2x1x2816.size a := fun v34 k0_hw12 k0_t4 k0_h22 => k0_hw12.2.2.2.2.2.2.2.2.2.2.2.2.2.2.2.2.2.2.2.2.2.2.2.2.2.2.2.2.2.2.2.2.2.1 k0_t4 k0_h22
theorem k0_off311_inb : ∀ (v34 : BitVec 32) (k0_hw12 : k0_chk12 v34) (k0_t4 : Fin (k0_t4_loop v34).trips), ∀ (k0_h22 : k0_cond22 v34 k0_t4 = 1#1), ∀ a, (k0_off311 v34 k0_t4) a + S1x1x4096.size a ≤ S2x1x4096.size a := fun v34 k0_hw12 k0_t4 k0_h22 => k0_hw12.2.2.2.2.2.2.2.2.2.2.2.2.2.2.2.2.2.2.2.2.2.2.2.2.2.2.2.2.2.2.2.2.2.2 k0_t4 k0_h22

def k0_off312 (v61 : BitVec 32) : Fin 2 → Nat :=
  let c0_i32_278 : BitVec 32 := 0#32
  ![v61.toNat, 0]

def k0_chk16_0 (v34 : BitVec 32) (k0_t4 : Fin (k0_t4_loop v34).trips) (v61 : BitVec 32) : Prop :=
  (∀ (k0_h13 : k0_cond13 v34 k0_t4 = 1#1), ∀ a, (k0_off202 v61) a + S1x256x4096.size a ≤ S32x2816x4096.size a) ∧
  (∀ (k0_h13 : k0_cond13 v34 k0_t4 = 1#1), ∀ (hinb : ∀ a, (k0_off202 v61) a + S1x256x4096.size a ≤ S32x2816x4096.size a), (Rect.unit (s := S32x2816x4096) (k0_off202 v61) S1x256x4096.size hinb).WholeWords (EltTy.packing .fp8e4m3)) ∧
  (∀ (k0_h13 : k0_cond13 v34 k0_t4 = 1#1), ∀ a, (k0_off205 v61) a + S1x256x4096.size a ≤ S32x2816x4096.size a) ∧
  (∀ (k0_h13 : k0_cond13 v34 k0_t4 = 1#1), ∀ (hinb : ∀ a, (k0_off205 v61) a + S1x256x4096.size a ≤ S32x2816x4096.size a), (Rect.unit (s := S32x2816x4096) (k0_off205 v61) S1x256x4096.size hinb).WholeWords (EltTy.packing .fp8e4m3)) ∧
  (∀ (k0_h14 : k0_cond14 v34 k0_t4 = 1#1), ∀ a, (k0_off217 v61) a + S1x256x4096.size a ≤ S32x2816x4096.size a) ∧
  (∀ (k0_h14 : k0_cond14 v34 k0_t4 = 1#1), ∀ (hinb : ∀ a, (k0_off217 v61) a + S1x256x4096.size a ≤ S32x2816x4096.size a), (Rect.unit (s := S32x2816x4096) (k0_off217 v61) S1x256x4096.size hinb).WholeWords (EltTy.packing .fp8e4m3)) ∧
  (∀ (k0_h14 : k0_cond14 v34 k0_t4 = 1#1), ∀ a, (k0_off219 v61) a + S1x256x4096.size a ≤ S32x2816x4096.size a) ∧
  (∀ (k0_h14 : k0_cond14 v34 k0_t4 = 1#1), ∀ (hinb : ∀ a, (k0_off219 v61) a + S1x256x4096.size a ≤ S32x2816x4096.size a), (Rect.unit (s := S32x2816x4096) (k0_off219 v61) S1x256x4096.size hinb).WholeWords (EltTy.packing .fp8e4m3)) ∧
  (∀ (k0_h15 : k0_cond15 v34 k0_t4 = 1#1), ∀ a, (k0_off231 v61) a + S1x256x4096.size a ≤ S32x2816x4096.size a) ∧
  (∀ (k0_h15 : k0_cond15 v34 k0_t4 = 1#1), ∀ (hinb : ∀ a, (k0_off231 v61) a + S1x256x4096.size a ≤ S32x2816x4096.size a), (Rect.unit (s := S32x2816x4096) (k0_off231 v61) S1x256x4096.size hinb).WholeWords (EltTy.packing .fp8e4m3)) ∧
  (∀ (k0_h15 : k0_cond15 v34 k0_t4 = 1#1), ∀ a, (k0_off233 v61) a + S1x256x4096.size a ≤ S32x2816x4096.size a) ∧
  (∀ (k0_h15 : k0_cond15 v34 k0_t4 = 1#1), ∀ (hinb : ∀ a, (k0_off233 v61) a + S1x256x4096.size a ≤ S32x2816x4096.size a), (Rect.unit (s := S32x2816x4096) (k0_off233 v61) S1x256x4096.size hinb).WholeWords (EltTy.packing .fp8e4m3)) ∧
  (∀ (k0_h16 : k0_cond16 v34 k0_t4 = 1#1), ∀ a, (k0_off245 v61) a + S1x256x4096.size a ≤ S32x2816x4096.size a) ∧
  (∀ (k0_h16 : k0_cond16 v34 k0_t4 = 1#1), ∀ (hinb : ∀ a, (k0_off245 v61) a + S1x256x4096.size a ≤ S32x2816x4096.size a), (Rect.unit (s := S32x2816x4096) (k0_off245 v61) S1x256x4096.size hinb).WholeWords (EltTy.packing .fp8e4m3)) ∧
  (∀ (k0_h16 : k0_cond16 v34 k0_t4 = 1#1), ∀ a, (k0_off247 v61) a + S1x256x4096.size a ≤ S32x2816x4096.size a) ∧
  (∀ (k0_h16 : k0_cond16 v34 k0_t4 = 1#1), ∀ (hinb : ∀ a, (k0_off247 v61) a + S1x256x4096.size a ≤ S32x2816x4096.size a), (Rect.unit (s := S32x2816x4096) (k0_off247 v61) S1x256x4096.size hinb).WholeWords (EltTy.packing .fp8e4m3)) ∧
  (∀ (k0_h17 : k0_cond17 v34 k0_t4 = 1#1), ∀ a, (k0_off259 v61) a + S1x256x4096.size a ≤ S32x2816x4096.size a) ∧
  (∀ (k0_h17 : k0_cond17 v34 k0_t4 = 1#1), ∀ (hinb : ∀ a, (k0_off259 v61) a + S1x256x4096.size a ≤ S32x2816x4096.size a), (Rect.unit (s := S32x2816x4096) (k0_off259 v61) S1x256x4096.size hinb).WholeWords (EltTy.packing .fp8e4m3)) ∧
  (∀ (k0_h17 : k0_cond17 v34 k0_t4 = 1#1), ∀ a, (k0_off261 v61) a + S1x256x4096.size a ≤ S32x2816x4096.size a) ∧
  (∀ (k0_h17 : k0_cond17 v34 k0_t4 = 1#1), ∀ (hinb : ∀ a, (k0_off261 v61) a + S1x256x4096.size a ≤ S32x2816x4096.size a), (Rect.unit (s := S32x2816x4096) (k0_off261 v61) S1x256x4096.size hinb).WholeWords (EltTy.packing .fp8e4m3)) ∧
  (∀ (k0_h18 : k0_cond18 v34 k0_t4 = 1#1), ∀ a, (k0_off273 v61) a + S1x128x4096.size a ≤ S32x2816x4096.size a) ∧
  (∀ (k0_h18 : k0_cond18 v34 k0_t4 = 1#1), ∀ (hinb : ∀ a, (k0_off273 v61) a + S1x128x4096.size a ≤ S32x2816x4096.size a), (Rect.unit (s := S32x2816x4096) (k0_off273 v61) S1x128x4096.size hinb).WholeWords (EltTy.packing .fp8e4m3)) ∧
  (∀ (k0_h18 : k0_cond18 v34 k0_t4 = 1#1), ∀ a, (k0_off275 v61) a + S1x128x4096.size a ≤ S32x2816x4096.size a) ∧
  (∀ (k0_h18 : k0_cond18 v34 k0_t4 = 1#1), ∀ (hinb : ∀ a, (k0_off275 v61) a + S1x128x4096.size a ≤ S32x2816x4096.size a), (Rect.unit (s := S32x2816x4096) (k0_off275 v61) S1x128x4096.size hinb).WholeWords (EltTy.packing .fp8e4m3)) ∧
  (∀ (k0_h19 : k0_cond19 v34 k0_t4 = 1#1), ∀ a, (k0_off283 v61) a + S1x1024x1408.size a ≤ S32x4096x1408.size a) ∧
  (∀ (k0_h19 : k0_cond19 v34 k0_t4 = 1#1), ∀ (hinb : ∀ a, (k0_off283 v61) a + S1x1024x1408.size a ≤ S32x4096x1408.size a), (Rect.unit (s := S32x4096x1408) (k0_off283 v61) S1x1024x1408.size hinb).WholeWords (EltTy.packing .fp8e4m3)) ∧
  (∀ (k0_h20 : k0_cond20 v34 k0_t4 = 1#1), ∀ a, (k0_off291 v61) a + S1x1024x1408.size a ≤ S32x4096x1408.size a) ∧
  (∀ (k0_h20 : k0_cond20 v34 k0_t4 = 1#1), ∀ (hinb : ∀ a, (k0_off291 v61) a + S1x1024x1408.size a ≤ S32x4096x1408.size a), (Rect.unit (s := S32x4096x1408) (k0_off291 v61) S1x1024x1408.size hinb).WholeWords (EltTy.packing .fp8e4m3)) ∧
  (∀ (k0_h21 : k0_cond21 v34 k0_t4 = 1#1), ∀ a, (k0_off299 v61) a + S1x1024x1408.size a ≤ S32x4096x1408.size a) ∧
  (∀ (k0_h21 : k0_cond21 v34 k0_t4 = 1#1), ∀ (hinb : ∀ a, (k0_off299 v61) a + S1x1024x1408.size a ≤ S32x4096x1408.size a), (Rect.unit (s := S32x4096x1408) (k0_off299 v61) S1x1024x1408.size hinb).WholeWords (EltTy.packing .fp8e4m3)) ∧
  (∀ (k0_h22 : k0_cond22 v34 k0_t4 = 1#1), ∀ a, (k0_off307 v61) a + S1x1024x1408.size a ≤ S32x4096x1408.size a) ∧
  (∀ (k0_h22 : k0_cond22 v34 k0_t4 = 1#1), ∀ (hinb : ∀ a, (k0_off307 v61) a + S1x1024x1408.size a ≤ S32x4096x1408.size a), (Rect.unit (s := S32x4096x1408) (k0_off307 v61) S1x1024x1408.size hinb).WholeWords (EltTy.packing .fp8e4m3))
def k0_chk16_1 (v34 : BitVec 32) (k0_t4 : Fin (k0_t4_loop v34).trips) (v61 : BitVec 32) : Prop :=
  (∀ (k0_h22 : k0_cond22 v34 k0_t4 = 1#1), ∀ a, (k0_off310 v61) a + S1x2816.size a ≤ S32x2816.size a) ∧
  (∀ (k0_h22 : k0_cond22 v34 k0_t4 = 1#1), ∀ a, (k0_off312 v61) a + S1x4096.size a ≤ S32x4096.size a)
def k0_chk16 (v34 : BitVec 32) (k0_t4 : Fin (k0_t4_loop v34).trips) (v61 : BitVec 32) : Prop :=
  k0_chk16_0 v34 k0_t4 v61 ∧
  k0_chk16_1 v34 k0_t4 v61
theorem k0_off202_inb : ∀ (v34 : BitVec 32) (k0_t4 : Fin (k0_t4_loop v34).trips) (v61 : BitVec 32) (k0_hw16 : k0_chk16 v34 k0_t4 v61), ∀ (k0_h13 : k0_cond13 v34 k0_t4 = 1#1), ∀ a, (k0_off202 v61) a + S1x256x4096.size a ≤ S32x2816x4096.size a := fun v34 k0_t4 v61 k0_hw16 k0_h13 => k0_hw16.1.1 k0_h13
theorem k0_off202_wordsfp8e4m3 : ∀ (v34 : BitVec 32) (k0_t4 : Fin (k0_t4_loop v34).trips) (v61 : BitVec 32) (k0_hw16 : k0_chk16 v34 k0_t4 v61), ∀ (k0_h13 : k0_cond13 v34 k0_t4 = 1#1), (Rect.unit (s := S32x2816x4096) (k0_off202 v61) S1x256x4096.size (k0_off202_inb v34 k0_t4 v61 k0_hw16 k0_h13)).WholeWords (EltTy.packing .fp8e4m3) := fun v34 k0_t4 v61 k0_hw16 k0_h13 => k0_hw16.1.2.1 k0_h13 (k0_off202_inb v34 k0_t4 v61 k0_hw16 k0_h13)
theorem k0_off205_inb : ∀ (v34 : BitVec 32) (k0_t4 : Fin (k0_t4_loop v34).trips) (v61 : BitVec 32) (k0_hw16 : k0_chk16 v34 k0_t4 v61), ∀ (k0_h13 : k0_cond13 v34 k0_t4 = 1#1), ∀ a, (k0_off205 v61) a + S1x256x4096.size a ≤ S32x2816x4096.size a := fun v34 k0_t4 v61 k0_hw16 k0_h13 => k0_hw16.1.2.2.1 k0_h13
theorem k0_off205_wordsfp8e4m3 : ∀ (v34 : BitVec 32) (k0_t4 : Fin (k0_t4_loop v34).trips) (v61 : BitVec 32) (k0_hw16 : k0_chk16 v34 k0_t4 v61), ∀ (k0_h13 : k0_cond13 v34 k0_t4 = 1#1), (Rect.unit (s := S32x2816x4096) (k0_off205 v61) S1x256x4096.size (k0_off205_inb v34 k0_t4 v61 k0_hw16 k0_h13)).WholeWords (EltTy.packing .fp8e4m3) := fun v34 k0_t4 v61 k0_hw16 k0_h13 => k0_hw16.1.2.2.2.1 k0_h13 (k0_off205_inb v34 k0_t4 v61 k0_hw16 k0_h13)
theorem k0_off217_inb : ∀ (v34 : BitVec 32) (k0_t4 : Fin (k0_t4_loop v34).trips) (v61 : BitVec 32) (k0_hw16 : k0_chk16 v34 k0_t4 v61), ∀ (k0_h14 : k0_cond14 v34 k0_t4 = 1#1), ∀ a, (k0_off217 v61) a + S1x256x4096.size a ≤ S32x2816x4096.size a := fun v34 k0_t4 v61 k0_hw16 k0_h14 => k0_hw16.1.2.2.2.2.1 k0_h14
theorem k0_off217_wordsfp8e4m3 : ∀ (v34 : BitVec 32) (k0_t4 : Fin (k0_t4_loop v34).trips) (v61 : BitVec 32) (k0_hw16 : k0_chk16 v34 k0_t4 v61), ∀ (k0_h14 : k0_cond14 v34 k0_t4 = 1#1), (Rect.unit (s := S32x2816x4096) (k0_off217 v61) S1x256x4096.size (k0_off217_inb v34 k0_t4 v61 k0_hw16 k0_h14)).WholeWords (EltTy.packing .fp8e4m3) := fun v34 k0_t4 v61 k0_hw16 k0_h14 => k0_hw16.1.2.2.2.2.2.1 k0_h14 (k0_off217_inb v34 k0_t4 v61 k0_hw16 k0_h14)
theorem k0_off219_inb : ∀ (v34 : BitVec 32) (k0_t4 : Fin (k0_t4_loop v34).trips) (v61 : BitVec 32) (k0_hw16 : k0_chk16 v34 k0_t4 v61), ∀ (k0_h14 : k0_cond14 v34 k0_t4 = 1#1), ∀ a, (k0_off219 v61) a + S1x256x4096.size a ≤ S32x2816x4096.size a := fun v34 k0_t4 v61 k0_hw16 k0_h14 => k0_hw16.1.2.2.2.2.2.2.1 k0_h14
theorem k0_off219_wordsfp8e4m3 : ∀ (v34 : BitVec 32) (k0_t4 : Fin (k0_t4_loop v34).trips) (v61 : BitVec 32) (k0_hw16 : k0_chk16 v34 k0_t4 v61), ∀ (k0_h14 : k0_cond14 v34 k0_t4 = 1#1), (Rect.unit (s := S32x2816x4096) (k0_off219 v61) S1x256x4096.size (k0_off219_inb v34 k0_t4 v61 k0_hw16 k0_h14)).WholeWords (EltTy.packing .fp8e4m3) := fun v34 k0_t4 v61 k0_hw16 k0_h14 => k0_hw16.1.2.2.2.2.2.2.2.1 k0_h14 (k0_off219_inb v34 k0_t4 v61 k0_hw16 k0_h14)
theorem k0_off231_inb : ∀ (v34 : BitVec 32) (k0_t4 : Fin (k0_t4_loop v34).trips) (v61 : BitVec 32) (k0_hw16 : k0_chk16 v34 k0_t4 v61), ∀ (k0_h15 : k0_cond15 v34 k0_t4 = 1#1), ∀ a, (k0_off231 v61) a + S1x256x4096.size a ≤ S32x2816x4096.size a := fun v34 k0_t4 v61 k0_hw16 k0_h15 => k0_hw16.1.2.2.2.2.2.2.2.2.1 k0_h15
theorem k0_off231_wordsfp8e4m3 : ∀ (v34 : BitVec 32) (k0_t4 : Fin (k0_t4_loop v34).trips) (v61 : BitVec 32) (k0_hw16 : k0_chk16 v34 k0_t4 v61), ∀ (k0_h15 : k0_cond15 v34 k0_t4 = 1#1), (Rect.unit (s := S32x2816x4096) (k0_off231 v61) S1x256x4096.size (k0_off231_inb v34 k0_t4 v61 k0_hw16 k0_h15)).WholeWords (EltTy.packing .fp8e4m3) := fun v34 k0_t4 v61 k0_hw16 k0_h15 => k0_hw16.1.2.2.2.2.2.2.2.2.2.1 k0_h15 (k0_off231_inb v34 k0_t4 v61 k0_hw16 k0_h15)
theorem k0_off233_inb : ∀ (v34 : BitVec 32) (k0_t4 : Fin (k0_t4_loop v34).trips) (v61 : BitVec 32) (k0_hw16 : k0_chk16 v34 k0_t4 v61), ∀ (k0_h15 : k0_cond15 v34 k0_t4 = 1#1), ∀ a, (k0_off233 v61) a + S1x256x4096.size a ≤ S32x2816x4096.size a := fun v34 k0_t4 v61 k0_hw16 k0_h15 => k0_hw16.1.2.2.2.2.2.2.2.2.2.2.1 k0_h15
theorem k0_off233_wordsfp8e4m3 : ∀ (v34 : BitVec 32) (k0_t4 : Fin (k0_t4_loop v34).trips) (v61 : BitVec 32) (k0_hw16 : k0_chk16 v34 k0_t4 v61), ∀ (k0_h15 : k0_cond15 v34 k0_t4 = 1#1), (Rect.unit (s := S32x2816x4096) (k0_off233 v61) S1x256x4096.size (k0_off233_inb v34 k0_t4 v61 k0_hw16 k0_h15)).WholeWords (EltTy.packing .fp8e4m3) := fun v34 k0_t4 v61 k0_hw16 k0_h15 => k0_hw16.1.2.2.2.2.2.2.2.2.2.2.2.1 k0_h15 (k0_off233_inb v34 k0_t4 v61 k0_hw16 k0_h15)
theorem k0_off245_inb : ∀ (v34 : BitVec 32) (k0_t4 : Fin (k0_t4_loop v34).trips) (v61 : BitVec 32) (k0_hw16 : k0_chk16 v34 k0_t4 v61), ∀ (k0_h16 : k0_cond16 v34 k0_t4 = 1#1), ∀ a, (k0_off245 v61) a + S1x256x4096.size a ≤ S32x2816x4096.size a := fun v34 k0_t4 v61 k0_hw16 k0_h16 => k0_hw16.1.2.2.2.2.2.2.2.2.2.2.2.2.1 k0_h16
theorem k0_off245_wordsfp8e4m3 : ∀ (v34 : BitVec 32) (k0_t4 : Fin (k0_t4_loop v34).trips) (v61 : BitVec 32) (k0_hw16 : k0_chk16 v34 k0_t4 v61), ∀ (k0_h16 : k0_cond16 v34 k0_t4 = 1#1), (Rect.unit (s := S32x2816x4096) (k0_off245 v61) S1x256x4096.size (k0_off245_inb v34 k0_t4 v61 k0_hw16 k0_h16)).WholeWords (EltTy.packing .fp8e4m3) := fun v34 k0_t4 v61 k0_hw16 k0_h16 => k0_hw16.1.2.2.2.2.2.2.2.2.2.2.2.2.2.1 k0_h16 (k0_off245_inb v34 k0_t4 v61 k0_hw16 k0_h16)
theorem k0_off247_inb : ∀ (v34 : BitVec 32) (k0_t4 : Fin (k0_t4_loop v34).trips) (v61 : BitVec 32) (k0_hw16 : k0_chk16 v34 k0_t4 v61), ∀ (k0_h16 : k0_cond16 v34 k0_t4 = 1#1), ∀ a, (k0_off247 v61) a + S1x256x4096.size a ≤ S32x2816x4096.size a := fun v34 k0_t4 v61 k0_hw16 k0_h16 => k0_hw16.1.2.2.2.2.2.2.2.2.2.2.2.2.2.2.1 k0_h16
theorem k0_off247_wordsfp8e4m3 : ∀ (v34 : BitVec 32) (k0_t4 : Fin (k0_t4_loop v34).trips) (v61 : BitVec 32) (k0_hw16 : k0_chk16 v34 k0_t4 v61), ∀ (k0_h16 : k0_cond16 v34 k0_t4 = 1#1), (Rect.unit (s := S32x2816x4096) (k0_off247 v61) S1x256x4096.size (k0_off247_inb v34 k0_t4 v61 k0_hw16 k0_h16)).WholeWords (EltTy.packing .fp8e4m3) := fun v34 k0_t4 v61 k0_hw16 k0_h16 => k0_hw16.1.2.2.2.2.2.2.2.2.2.2.2.2.2.2.2.1 k0_h16 (k0_off247_inb v34 k0_t4 v61 k0_hw16 k0_h16)
theorem k0_off259_inb : ∀ (v34 : BitVec 32) (k0_t4 : Fin (k0_t4_loop v34).trips) (v61 : BitVec 32) (k0_hw16 : k0_chk16 v34 k0_t4 v61), ∀ (k0_h17 : k0_cond17 v34 k0_t4 = 1#1), ∀ a, (k0_off259 v61) a + S1x256x4096.size a ≤ S32x2816x4096.size a := fun v34 k0_t4 v61 k0_hw16 k0_h17 => k0_hw16.1.2.2.2.2.2.2.2.2.2.2.2.2.2.2.2.2.1 k0_h17
theorem k0_off259_wordsfp8e4m3 : ∀ (v34 : BitVec 32) (k0_t4 : Fin (k0_t4_loop v34).trips) (v61 : BitVec 32) (k0_hw16 : k0_chk16 v34 k0_t4 v61), ∀ (k0_h17 : k0_cond17 v34 k0_t4 = 1#1), (Rect.unit (s := S32x2816x4096) (k0_off259 v61) S1x256x4096.size (k0_off259_inb v34 k0_t4 v61 k0_hw16 k0_h17)).WholeWords (EltTy.packing .fp8e4m3) := fun v34 k0_t4 v61 k0_hw16 k0_h17 => k0_hw16.1.2.2.2.2.2.2.2.2.2.2.2.2.2.2.2.2.2.1 k0_h17 (k0_off259_inb v34 k0_t4 v61 k0_hw16 k0_h17)
theorem k0_off261_inb : ∀ (v34 : BitVec 32) (k0_t4 : Fin (k0_t4_loop v34).trips) (v61 : BitVec 32) (k0_hw16 : k0_chk16 v34 k0_t4 v61), ∀ (k0_h17 : k0_cond17 v34 k0_t4 = 1#1), ∀ a, (k0_off261 v61) a + S1x256x4096.size a ≤ S32x2816x4096.size a := fun v34 k0_t4 v61 k0_hw16 k0_h17 => k0_hw16.1.2.2.2.2.2.2.2.2.2.2.2.2.2.2.2.2.2.2.1 k0_h17
theorem k0_off261_wordsfp8e4m3 : ∀ (v34 : BitVec 32) (k0_t4 : Fin (k0_t4_loop v34).trips) (v61 : BitVec 32) (k0_hw16 : k0_chk16 v34 k0_t4 v61), ∀ (k0_h17 : k0_cond17 v34 k0_t4 = 1#1), (Rect.unit (s := S32x2816x4096) (k0_off261 v61) S1x256x4096.size (k0_off261_inb v34 k0_t4 v61 k0_hw16 k0_h17)).WholeWords (EltTy.packing .fp8e4m3) := fun v34 k0_t4 v61 k0_hw16 k0_h17 => k0_hw16.1.2.2.2.2.2.2.2.2.2.2.2.2.2.2.2.2.2.2.2.1 k0_h17 (k0_off261_inb v34 k0_t4 v61 k0_hw16 k0_h17)
theorem k0_off273_inb : ∀ (v34 : BitVec 32) (k0_t4 : Fin (k0_t4_loop v34).trips) (v61 : BitVec 32) (k0_hw16 : k0_chk16 v34 k0_t4 v61), ∀ (k0_h18 : k0_cond18 v34 k0_t4 = 1#1), ∀ a, (k0_off273 v61) a + S1x128x4096.size a ≤ S32x2816x4096.size a := fun v34 k0_t4 v61 k0_hw16 k0_h18 => k0_hw16.1.2.2.2.2.2.2.2.2.2.2.2.2.2.2.2.2.2.2.2.2.1 k0_h18
theorem k0_off273_wordsfp8e4m3 : ∀ (v34 : BitVec 32) (k0_t4 : Fin (k0_t4_loop v34).trips) (v61 : BitVec 32) (k0_hw16 : k0_chk16 v34 k0_t4 v61), ∀ (k0_h18 : k0_cond18 v34 k0_t4 = 1#1), (Rect.unit (s := S32x2816x4096) (k0_off273 v61) S1x128x4096.size (k0_off273_inb v34 k0_t4 v61 k0_hw16 k0_h18)).WholeWords (EltTy.packing .fp8e4m3) := fun v34 k0_t4 v61 k0_hw16 k0_h18 => k0_hw16.1.2.2.2.2.2.2.2.2.2.2.2.2.2.2.2.2.2.2.2.2.2.1 k0_h18 (k0_off273_inb v34 k0_t4 v61 k0_hw16 k0_h18)
theorem k0_off275_inb : ∀ (v34 : BitVec 32) (k0_t4 : Fin (k0_t4_loop v34).trips) (v61 : BitVec 32) (k0_hw16 : k0_chk16 v34 k0_t4 v61), ∀ (k0_h18 : k0_cond18 v34 k0_t4 = 1#1), ∀ a, (k0_off275 v61) a + S1x128x4096.size a ≤ S32x2816x4096.size a := fun v34 k0_t4 v61 k0_hw16 k0_h18 => k0_hw16.1.2.2.2.2.2.2.2.2.2.2.2.2.2.2.2.2.2.2.2.2.2.2.1 k0_h18
theorem k0_off275_wordsfp8e4m3 : ∀ (v34 : BitVec 32) (k0_t4 : Fin (k0_t4_loop v34).trips) (v61 : BitVec 32) (k0_hw16 : k0_chk16 v34 k0_t4 v61), ∀ (k0_h18 : k0_cond18 v34 k0_t4 = 1#1), (Rect.unit (s := S32x2816x4096) (k0_off275 v61) S1x128x4096.size (k0_off275_inb v34 k0_t4 v61 k0_hw16 k0_h18)).WholeWords (EltTy.packing .fp8e4m3) := fun v34 k0_t4 v61 k0_hw16 k0_h18 => k0_hw16.1.2.2.2.2.2.2.2.2.2.2.2.2.2.2.2.2.2.2.2.2.2.2.2.1 k0_h18 (k0_off275_inb v34 k0_t4 v61 k0_hw16 k0_h18)
theorem k0_off283_inb : ∀ (v34 : BitVec 32) (k0_t4 : Fin (k0_t4_loop v34).trips) (v61 : BitVec 32) (k0_hw16 : k0_chk16 v34 k0_t4 v61), ∀ (k0_h19 : k0_cond19 v34 k0_t4 = 1#1), ∀ a, (k0_off283 v61) a + S1x1024x1408.size a ≤ S32x4096x1408.size a := fun v34 k0_t4 v61 k0_hw16 k0_h19 => k0_hw16.1.2.2.2.2.2.2.2.2.2.2.2.2.2.2.2.2.2.2.2.2.2.2.2.2.1 k0_h19
theorem k0_off283_wordsfp8e4m3 : ∀ (v34 : BitVec 32) (k0_t4 : Fin (k0_t4_loop v34).trips) (v61 : BitVec 32) (k0_hw16 : k0_chk16 v34 k0_t4 v61), ∀ (k0_h19 : k0_cond19 v34 k0_t4 = 1#1), (Rect.unit (s := S32x4096x1408) (k0_off283 v61) S1x1024x1408.size (k0_off283_inb v34 k0_t4 v61 k0_hw16 k0_h19)).WholeWords (EltTy.packing .fp8e4m3) := fun v34 k0_t4 v61 k0_hw16 k0_h19 => k0_hw16.1.2.2.2.2.2.2.2.2.2.2.2.2.2.2.2.2.2.2.2.2.2.2.2.2.2.1 k0_h19 (k0_off283_inb v34 k0_t4 v61 k0_hw16 k0_h19)
theorem k0_off291_inb : ∀ (v34 : BitVec 32) (k0_t4 : Fin (k0_t4_loop v34).trips) (v61 : BitVec 32) (k0_hw16 : k0_chk16 v34 k0_t4 v61), ∀ (k0_h20 : k0_cond20 v34 k0_t4 = 1#1), ∀ a, (k0_off291 v61) a + S1x1024x1408.size a ≤ S32x4096x1408.size a := fun v34 k0_t4 v61 k0_hw16 k0_h20 => k0_hw16.1.2.2.2.2.2.2.2.2.2.2.2.2.2.2.2.2.2.2.2.2.2.2.2.2.2.2.1 k0_h20
theorem k0_off291_wordsfp8e4m3 : ∀ (v34 : BitVec 32) (k0_t4 : Fin (k0_t4_loop v34).trips) (v61 : BitVec 32) (k0_hw16 : k0_chk16 v34 k0_t4 v61), ∀ (k0_h20 : k0_cond20 v34 k0_t4 = 1#1), (Rect.unit (s := S32x4096x1408) (k0_off291 v61) S1x1024x1408.size (k0_off291_inb v34 k0_t4 v61 k0_hw16 k0_h20)).WholeWords (EltTy.packing .fp8e4m3) := fun v34 k0_t4 v61 k0_hw16 k0_h20 => k0_hw16.1.2.2.2.2.2.2.2.2.2.2.2.2.2.2.2.2.2.2.2.2.2.2.2.2.2.2.2.1 k0_h20 (k0_off291_inb v34 k0_t4 v61 k0_hw16 k0_h20)
theorem k0_off299_inb : ∀ (v34 : BitVec 32) (k0_t4 : Fin (k0_t4_loop v34).trips) (v61 : BitVec 32) (k0_hw16 : k0_chk16 v34 k0_t4 v61), ∀ (k0_h21 : k0_cond21 v34 k0_t4 = 1#1), ∀ a, (k0_off299 v61) a + S1x1024x1408.size a ≤ S32x4096x1408.size a := fun v34 k0_t4 v61 k0_hw16 k0_h21 => k0_hw16.1.2.2.2.2.2.2.2.2.2.2.2.2.2.2.2.2.2.2.2.2.2.2.2.2.2.2.2.2.1 k0_h21
theorem k0_off299_wordsfp8e4m3 : ∀ (v34 : BitVec 32) (k0_t4 : Fin (k0_t4_loop v34).trips) (v61 : BitVec 32) (k0_hw16 : k0_chk16 v34 k0_t4 v61), ∀ (k0_h21 : k0_cond21 v34 k0_t4 = 1#1), (Rect.unit (s := S32x4096x1408) (k0_off299 v61) S1x1024x1408.size (k0_off299_inb v34 k0_t4 v61 k0_hw16 k0_h21)).WholeWords (EltTy.packing .fp8e4m3) := fun v34 k0_t4 v61 k0_hw16 k0_h21 => k0_hw16.1.2.2.2.2.2.2.2.2.2.2.2.2.2.2.2.2.2.2.2.2.2.2.2.2.2.2.2.2.2.1 k0_h21 (k0_off299_inb v34 k0_t4 v61 k0_hw16 k0_h21)
theorem k0_off307_inb : ∀ (v34 : BitVec 32) (k0_t4 : Fin (k0_t4_loop v34).trips) (v61 : BitVec 32) (k0_hw16 : k0_chk16 v34 k0_t4 v61), ∀ (k0_h22 : k0_cond22 v34 k0_t4 = 1#1), ∀ a, (k0_off307 v61) a + S1x1024x1408.size a ≤ S32x4096x1408.size a := fun v34 k0_t4 v61 k0_hw16 k0_h22 => k0_hw16.1.2.2.2.2.2.2.2.2.2.2.2.2.2.2.2.2.2.2.2.2.2.2.2.2.2.2.2.2.2.2.1 k0_h22
theorem k0_off307_wordsfp8e4m3 : ∀ (v34 : BitVec 32) (k0_t4 : Fin (k0_t4_loop v34).trips) (v61 : BitVec 32) (k0_hw16 : k0_chk16 v34 k0_t4 v61), ∀ (k0_h22 : k0_cond22 v34 k0_t4 = 1#1), (Rect.unit (s := S32x4096x1408) (k0_off307 v61) S1x1024x1408.size (k0_off307_inb v34 k0_t4 v61 k0_hw16 k0_h22)).WholeWords (EltTy.packing .fp8e4m3) := fun v34 k0_t4 v61 k0_hw16 k0_h22 => k0_hw16.1.2.2.2.2.2.2.2.2.2.2.2.2.2.2.2.2.2.2.2.2.2.2.2.2.2.2.2.2.2.2.2 k0_h22 (k0_off307_inb v34 k0_t4 v61 k0_hw16 k0_h22)
theorem k0_off310_inb : ∀ (v34 : BitVec 32) (k0_t4 : Fin (k0_t4_loop v34).trips) (v61 : BitVec 32) (k0_hw16 : k0_chk16 v34 k0_t4 v61), ∀ (k0_h22 : k0_cond22 v34 k0_t4 = 1#1), ∀ a, (k0_off310 v61) a + S1x2816.size a ≤ S32x2816.size a := fun v34 k0_t4 v61 k0_hw16 k0_h22 => k0_hw16.2.1 k0_h22
theorem k0_off312_inb : ∀ (v34 : BitVec 32) (k0_t4 : Fin (k0_t4_loop v34).trips) (v61 : BitVec 32) (k0_hw16 : k0_chk16 v34 k0_t4 v61), ∀ (k0_h22 : k0_cond22 v34 k0_t4 = 1#1), ∀ a, (k0_off312 v61) a + S1x4096.size a ≤ S32x4096.size a := fun v34 k0_t4 v61 k0_hw16 k0_h22 => k0_hw16.2.2 k0_h22

abbrev stage0_0 : Fin 1 → Memref sig .tc .smem S64x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S64x1x4096 : Shape := ⟨3, ![64, 1, 4096]⟩
abbrev S64x1x8 : Shape := ⟨3, ![64, 1, 8]⟩
abbrev S32x2816x4096 : Shape := ⟨3, ![32, 2816, 4096]⟩
abbrev S32x2816 : Shape := ⟨2, ![32, 2816]⟩
abbrev S32x4096x1408 : Shape := ⟨3, ![32, 4096, 1408]⟩
abbrev S32x4096 : Shape := ⟨2, ![32, 4096]⟩
abbrev S64x4096 : Shape := ⟨2, ![64, 4096]⟩
abbrev S32x1408x4096 : Shape := ⟨3, ![32, 1408, 4096]⟩
abbrev S64x32x1408 : Shape := ⟨3, ![64, 32, 1408]⟩
abbrev S32x1408 : Shape := ⟨2, ![32, 1408]⟩
abbrev S1x32x1408 : Shape := ⟨3, ![1, 32, 1408]⟩
abbrev S_ : Shape := ⟨0, ![]⟩
abbrev S32x4096x64 : Shape := ⟨3, ![32, 4096, 64]⟩
abbrev S64x32x4096 : Shape := ⟨3, ![64, 32, 4096]⟩
abbrev S64x8x1 : Shape := ⟨3, ![64, 8, 1]⟩
abbrev S32 : Shape := ⟨1, ![32]⟩
abbrev S1x1x32 : Shape := ⟨3, ![1, 1, 32]⟩
abbrev S64x8x32 : Shape := ⟨3, ![64, 8, 32]⟩
abbrev S64x32 : Shape := ⟨2, ![64, 32]⟩
abbrev S1x32x4096 : Shape := ⟨3, ![1, 32, 4096]⟩
abbrev S64x32x1 : Shape := ⟨3, ![64, 32, 1]⟩

abbrev nBuf : Space → Nat
  | .hbm => 59
  | .vmem => 4
  | .smem => 0
  | _ => 0

abbrev bufTy : (tb : Table) → Fin (tcTables nBuf tb) → BufTy
  | .hbm, ⟨0, _⟩ => ⟨S64x1x4096, .bf16⟩
  | .hbm, ⟨1, _⟩ => ⟨S64x1x8, .i32⟩
  | .hbm, ⟨2, _⟩ => ⟨S64x1x8, .f32⟩
  | .hbm, ⟨3, _⟩ => ⟨S32x2816x4096, .fp8e4m3⟩
  | .hbm, ⟨4, _⟩ => ⟨S32x2816, .f32⟩
  | .hbm, ⟨5, _⟩ => ⟨S32x4096x1408, .fp8e4m3⟩
  | .hbm, ⟨6, _⟩ => ⟨S32x4096, .f32⟩
  | .hbm, ⟨7, _⟩ => ⟨S64x4096, .bf16⟩
  | .hbm, ⟨8, _⟩ => ⟨S32x2816x4096, .bf16⟩
  | .hbm, ⟨9, _⟩ => ⟨S32x4096x1408, .bf16⟩
  | .hbm, ⟨10, _⟩ => ⟨S32x1408x4096, .bf16⟩
  | .hbm, ⟨11, _⟩ => ⟨S32x1408x4096, .bf16⟩
  | .hbm, ⟨12, _⟩ => ⟨S64x32x1408, .f32⟩
  | .hbm, ⟨13, _⟩ => ⟨S64x32x1408, .f32⟩
  | .hbm, ⟨14, _⟩ => ⟨S32x1408, .f32⟩
  | .hbm, ⟨15, _⟩ => ⟨S1x32x1408, .f32⟩
  | .hbm, ⟨16, _⟩ => ⟨S64x32x1408, .f32⟩
  | .hbm, ⟨17, _⟩ => ⟨S64x32x1408, .f32⟩
  | .hbm, ⟨18, _⟩ => ⟨S32x1408, .f32⟩
  | .hbm, ⟨19, _⟩ => ⟨S1x32x1408, .f32⟩
  | .hbm, ⟨20, _⟩ => ⟨S64x32x1408, .f32⟩
  | .hbm, ⟨21, _⟩ => ⟨S64x32x1408, .f32⟩
  | .hbm, ⟨22, _⟩ => ⟨S64x32x1408, .f32⟩
  | .hbm, ⟨23, _⟩ => ⟨S64x32x1408, .f32⟩
  | .hbm, ⟨24, _⟩ => ⟨S_, .f32⟩
  | .hbm, ⟨25, _⟩ => ⟨S64x32x1408, .f32⟩
  | .hbm, ⟨26, _⟩ => ⟨S64x32x1408, .f32⟩
  | .hbm, ⟨27, _⟩ => ⟨S_, .f32⟩
  | .hbm, ⟨28, _⟩ => ⟨S64x32x1408, .f32⟩
  | .hbm, ⟨29, _⟩ => ⟨S64x32x1408, .f32⟩
  | .hbm, ⟨30, _⟩ => ⟨S64x32x1408, .f32⟩
  | .hbm, ⟨31, _⟩ => ⟨S64x32x1408, .f32⟩
  | .hbm, ⟨32, _⟩ => ⟨S64x32x1408, .bf16⟩
  | .hbm, ⟨33, _⟩ => ⟨S32x4096x64, .f32⟩
  | .hbm, ⟨34, _⟩ => ⟨S64x32x4096, .f32⟩
  | .hbm, ⟨35, _⟩ => ⟨S64x8x1, .i32⟩
  | .hbm, ⟨36, _⟩ => ⟨S64x8x1, .f32⟩
  | .hbm, ⟨37, _⟩ => ⟨S32, .i32⟩
  | .hbm, ⟨38, _⟩ => ⟨S1x1x32, .i32⟩
  | .hbm, ⟨39, _⟩ => ⟨S64x8x32, .i32⟩
  | .hbm, ⟨40, _⟩ => ⟨S64x8x32, .i32⟩
  | .hbm, ⟨41, _⟩ => ⟨S64x8x32, .i1⟩
  | .hbm, ⟨42, _⟩ => ⟨S_, .f32⟩
  | .hbm, ⟨43, _⟩ => ⟨S_, .f32⟩
  | .hbm, ⟨44, _⟩ => ⟨S64x8x32, .f32⟩
  | .hbm, ⟨45, _⟩ => ⟨S64x8x32, .f32⟩
  | .hbm, ⟨46, _⟩ => ⟨S64x8x32, .f32⟩
  | .hbm, ⟨47, _⟩ => ⟨S_, .f32⟩
  | .hbm, ⟨48, _⟩ => ⟨S64x32, .f32⟩
  | .hbm, ⟨49, _⟩ => ⟨S1x32x4096, .f32⟩
  | .hbm, ⟨50, _⟩ => ⟨S64x32x4096, .f32⟩
  | .hbm, ⟨51, _⟩ => ⟨S64x32x4096, .f32⟩
  | .hbm, ⟨52, _⟩ => ⟨S64x32x1, .f32⟩
  | .hbm, ⟨53, _⟩ => ⟨S64x32x4096, .f32⟩
  | .hbm, ⟨54, _⟩ => ⟨S64x32x4096, .f32⟩
  | .hbm, ⟨55, _⟩ => ⟨S_, .f32⟩
  | .hbm, ⟨56, _⟩ => ⟨S64x4096, .f32⟩
  | .hbm, ⟨57, _⟩ => ⟨S64x4096, .bf16⟩
  | .hbm, ⟨58, _⟩ => ⟨S64x1x4096, .bf16⟩
  | .local _ .vmem, ⟨0, _⟩ => ⟨S32x2816x4096, .fp8e4m3⟩
  | .local _ .vmem, ⟨1, _⟩ => ⟨S32x4096x1408, .fp8e4m3⟩
  | .local _ .vmem, ⟨2, _⟩ => ⟨S32x2816x4096, .bf16⟩
  | .local _ .vmem, ⟨3, _⟩ => ⟨S32x4096x1408, .bf16⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x2816x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4096x1408 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2816x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4096x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Flight.lean ====
/-
  Transfers in flight on one semaphore cell, with the order of the issues forgotten: what the cell owes (`T` units,
  `u` of them consumed) and what the last wait hands back (`P`).
-/
module

public import Idealize.ShloMosaic.Lib.MixedBatch
public import Idealize.ShloMosaic.Lib.Pipeline.FrameBody
public import Idealize.ShloMosaic.Lib.Tactic

@[expose] public section

noncomputable section

namespace Cert.Flight

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : ℕ} {τ : Topo} {sig : RefSig} {Val : EltTy → Type}

local notation "𝕄" => MT nD τ sig Unit Val ℕ (Pipeline.UD sig nD τ) ℕ

/-- The counters the batches of transfers use. -/
abbrev EC : UEmb Counters (MT nD τ sig Unit Val ℕ (Pipeline.UD sig nD τ) ℕ) := countersEmb (U := Pipeline.UD sig nD τ)

/-- A batch with every transfer issued: `T` units in all, `u` consumed, and `P` what the last wait brings. -/
def Flying (c : Thread nD τ) (sm : SemLoc sig) (T : ℕ) (P : sProp 𝕄) (u : ℕ) : sProp 𝕄 :=
  iprop(∃ (n : ℕ) (A : Fin n → ℕ) (D : Fin n → sProp 𝕄),
    ⌜(∀ t, 0 < A t) ∧ sumTo A n = T ∧ (bigSep Finset.univ D ⊢ P)⌝ ∗ MixedBatch EC c sm () A D n u)

variable {Λ : Labels} {defs : Defs nD τ sig Val Λ} (𝒱 : Variants) (c : Thread nD τ) (bd : Option 𝒱.V)
variable {α : Type} {sp sp' : Space} {s : Shape} {e : EltTy} {n : ℕ}

theorem Flying.close {sm : SemLoc sig} {A : Fin n → ℕ} {D : Fin n → sProp 𝕄} {T : ℕ} {P : sProp 𝕄}
    (h0 : ∀ t, 0 < A t) (hT : sumTo A n = T) (hP : bigSep Finset.univ D ⊢ P) :
    MixedBatch EC c sm () A D n 0 ⊢ Flying c sm T P 0 := by
  iintro H
  unfold Flying
  iexists n, A, D
  isplitr
  · ipureintro; exact ⟨h0, hT, hP⟩
  iexact H

/-- Issuing the next transfer of a batch: the whole source array is lent and the window of the destination, and
    what comes back is the window at contents `g`, which do not depend on what it held. -/
theorem wp_issue {Q : α → sProp 𝕄} {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {w : Buf Val (src.view.loc c)}
    {S : Finset (Idx (dst.view.loc c))} {fd g : Buf Val (dst.view.loc c)} {A : Fin n → ℕ}
    {D : Fin n → sProp 𝕄} {j : ℕ} (hS : dst.view.set = S)
    (hj : j < n) (hA : dst.view.amount sm = A ⟨j, hj⟩)
    (hg : ∀ x, dst.view.read Val g x = via.apply (src.view.read Val w) x)
    (hD : iprop((dst.view.loc c ↦[S]{fullShare} g) ∗ (src.view.loc c ↦{q} w)) ⊢ D ⟨j, hj⟩) :
    iprop((src.view.loc c ↦{q} w) ∗ (dst.view.loc c ↦[S]{fullShare} fd) ∗ MixedBatch EC c sm () A D j 0)
      ⊢ iprop((MixedBatch EC c sm () A D (j + 1) 0 -∗ wp frame (wpE defs 𝒱 c bd) Set.univ (k ⟨⟩) Q)
          -∗ wp frame (wpE defs 𝒱 c bd) Set.univ (.op (.enqueueDmaAs src (.here dst) via sm hsrc hdst hsem) k) Q) := by
  subst hS
  have hw : ∀ i ∈ dst.view.set, dst.view.write Val fd (via.apply (src.view.read Val w)) Finset.univ i = g i := by
    intro i hi
    obtain ⟨x, -, rfl⟩ := Finset.mem_map.mp hi
    have h := hg x
    rw [View.read_apply] at h
    rw [View.write_emb_of_mem _ _ (Finset.mem_univ x), ← h, cast_cast, cast_eq]
  unfold MixedBatch
  iintro ⟨Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hs' := ((pointsTo_split_subset (ℓ := src.view.loc c) (q := q) (f := w) (Finset.subset_univ src.view.set)).1) $$ Hs
  icases Hs' with ⟨Hs, Hrest⟩
  iapply (wp_enqueueDmaAs 𝒱 c bd Set.univ () (A ⟨j, hj⟩) hA) $$ [Hs Hd] [Ht Hrest]
  · isplitl [Hs]; · iexact Hs
    iapply (pointsTo_writeUpdate c (subset_refl _)) $$ Hd
  · iapply (mixedBatch_creditUpdate_with EC ⟨j, hj⟩ (put := iprop(src.view.loc c ↦[Finset.univ \ src.view.set]{q} w)) (by
      iintro ⟨Hr, Hd, Hs⟩
      iapply hD
      isplitl [Hd]
      · iapply (Entails.of_eq (pointsTo_congr (g := g) hw)); iexact Hd
      iapply ((pointsTo_split_subset (ℓ := src.view.loc c) (q := q) (f := w) (Finset.subset_univ src.view.set)).2)
      isplitl [Hs] <;> iassumption))
    isplitr; · iexact Hinv
    isplitl [Ht]; · iexact Ht
    iexact Hrest
  iintro Hcred'
  iapply Hk
  iexists γ, γ₀, κ
  isplitr; · iexact Hinv
  isplitl [HI]; · iexact HI
  isplitl [H0]; · iexact H0
  rw [show sumTo A (j + 1) - 0 = (sumTo A j - 0) + A ⟨j, hj⟩ by rw [sumTo_succ A hj]; omega, ← tallyAt_add]
  icombine Hcred Hcred' as H
  iexact H

/-- A wait that is not the last of its batch. -/
theorem wp_wait_more {Q : α → sProp 𝕄} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} {J T u : ℕ} {P : sProp 𝕄} (hJ : dstw.view.dmaCredit = J) (hu : u + J ≤ T) :
    iprop(Flying c (.dma sem) T P u ∗ ∃ W, owes c 0 W)
      ⊢ iprop((iprop(Flying c (.dma sem) T P (u + J) ∗ ∃ W, owes c 0 W) -∗ wp frame (wpE defs 𝒱 c bd) Set.univ (k ⟨⟩) Q)
          -∗ wp frame (wpE defs 𝒱 c bd) Set.univ (.op (.waitDma2 sem srcw dstw hsrc hdst) k) Q) := by
  unfold Flying
  iintro ⟨⟨%n, %A, %D, %h, HB⟩, ⟨%W, HO⟩⟩ Hk
  iapply (wp_waitMixedBatch EC 𝒱 c bd () hJ (u := u) (j := n) (A := A) (D := D) (by rw [h.2.1]; exact hu)) $$ [HB HO]
  · isplitl [HB] <;> iassumption
  iintro ⟨HB, HO⟩
  iapply Hk
  isplitl [HB]
  · iexists n, A, D
    isplitr
    · ipureintro; exact h
    iexact HB
  iexists _
  iexact HO

/-- The last wait of a batch. -/
theorem wp_wait_last {Q : α → sProp 𝕄} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} {J T u : ℕ} {P : sProp 𝕄} (hJ : dstw.view.dmaCredit = J) (hu : u + J = T) :
    iprop(Flying c (.dma sem) T P u ∗ ∃ W, owes c 0 W)
      ⊢ iprop((iprop(P ∗ semVal (c, .dma sem) 0 ∗ ∃ W, owes c 0 W) -∗ wp frame (wpE defs 𝒱 c bd) Set.univ (k ⟨⟩) Q)
          -∗ wp frame (wpE defs 𝒱 c bd) Set.univ (.op (.waitDma2 sem srcw dstw hsrc hdst) k) Q) := by
  unfold Flying
  iintro ⟨⟨%n, %A, %D, %h, HB⟩, ⟨%W, HO⟩⟩ Hk
  iapply (wp_waitMixedBatchAll EC 𝒱 c bd () hJ h.1 (u := u) (D := D) (by rw [h.2.1]; exact hu)) $$ [HB HO]
  · isplitl [HB] <;> iassumption
  iintro ⟨HD, Hv, HO⟩
  iapply Hk
  isplitl [HD]
  · iapply h.2.2; iexact HD
  isplitl [Hv]; · iexact Hv
  iexists _
  iexact HO

end Cert.Flight
-- ==== Proof.Kernel.Geometry.lean ====
/-
  The kernel's buffers, the windows its transfers move, what a window holds once it landed, and the semaphore cells.
-/
module

public import proofs.«01_k».proof.Proof.Gen.Kernel.Skeleton
public import proofs.«01_k».proof.Proof.Flight
public import Idealize.ShloMosaic.Lib.ValueIdxCore

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The operands -/

abbrev M0 : Memref sig .tc .smem S64x8 .i32 := Memref.whole cc0_stg0_0
abbrev M1 : Memref sig .tc .vmem S64x8 .i32 := Memref.whole cc0_stg1_0
abbrev M2 : Memref sig .tc .vmem S64x8 .f32 := Memref.whole cc0_stg2_0
abbrev M3 : Memref sig .tc .vmem S64x4096 .bf16 := Memref.whole cc0_stg3_0
abbrev M4 : Memref sig .tc .hbm S32x2816 .f32 := Memref.whole main_arg4
abbrev M5 : Memref sig .tc .hbm S32x4096 .f32 := Memref.whole main_arg6
abbrev M6 : Memref sig .tc .hbm S32x2816x4096 .fp8e4m3 := Memref.whole main_arg3
abbrev M7 : Memref sig .tc .hbm S32x4096x1408 .fp8e4m3 := Memref.whole main_arg5
abbrev M8 : Memref sig .tc .vmem S64x4096 .bf16 := Memref.whole cc0_stg4_0
abbrev M9 : Memref sig .tc .vmem S2x2816x4096 .fp8e4m3 := Memref.whole cc0_scratch0
abbrev M10 : Memref sig .tc .vmem S2x4096x1408 .fp8e4m3 := Memref.whole cc0_scratch1
abbrev M11 : Memref sig .tc .vmem S2x1x2816 .f32 := Memref.whole cc0_scratch2
abbrev M12 : Memref sig .tc .vmem S2x1x4096 .f32 := Memref.whole cc0_scratch3
abbrev M13 : Memref sig .tc .vmem S64x1408 .bf16 := Memref.whole cc0_scratch4
abbrev M14 : Memref sig .tc .vmem S64x4096 .f32 := Memref.whole cc0_scratch5
abbrev M15 : Memref sig .tc .smem S32 .i32 := Memref.whole cc0_scratch6
abbrev M16 : Memref sig .tc .smem S33 .i32 := Memref.whole cc0_scratch7

/-- The arrays the body is lent: the token ids (twice), the combine weights, the tokens, the two scales, the two weights. -/
structure Ins (F : FTy → Type) where
  ids : S64x8.Idx → BitVec 32
  cw : S64x8.Idx → F .f32
  x : S64x4096.Idx → F .bf16
  sg : S32x2816.Idx → F .f32
  sd : S32x4096.Idx → F .f32
  wg : S32x2816x4096.Idx → F .fp8e4m3
  wd : S32x4096x1408.Idx → F .fp8e4m3

/-! ## Windows of the two slots -/

/-- Rows `r … r+L-1` of slot `s`. -/
def win {d0 d1 d2 : ℕ} (s r L : ℕ) : Finset (⟨3, ![d0, d1, d2]⟩ : Shape).Idx :=
  Finset.univ.filter fun i => (i 0 : ℕ) = s ∧ r ≤ (i 1 : ℕ) ∧ (i 1 : ℕ) < r + L

theorem mem_win {d0 d1 d2 s r L : ℕ} {i : (⟨3, ![d0, d1, d2]⟩ : Shape).Idx} :
    i ∈ win s r L ↔ (i 0 : ℕ) = s ∧ r ≤ (i 1 : ℕ) ∧ (i 1 : ℕ) < r + L := by
  simp [win]

theorem set_rect {d0 d1 d2 s r L : ℕ} (h : ∀ a, (![s, r, 0] : Fin 3 → ℕ) a + (![1, L, d2] : Fin 3 → ℕ) a ≤ (⟨3, ![d0, d1, d2]⟩ : Shape).size a) :
    (Rect.unit (s := ⟨3, ![d0, d1, d2]⟩) ![s, r, 0] ![1, L, d2] h).set = win s r L := by
  ext i
  rw [Rect.mem_set_unit, mem_win]
  have h2 := (i 2).isLt
  constructor
  · intro H
    have H0 := H 0; have H1 := H 1
    simp at H0 H1
    omega
  · rintro ⟨H0, H1, H2⟩ a
    fin_cases a
    · simp; omega
    · simp; omega
    · simpa using h2

/-- Row start of window `m` of the twelve of a gate/up slot (six gate tiles, six up tiles) and its number of rows. -/
def gOff (m : ℕ) : ℕ := if m < 6 then 256 * m else 1408 + 256 * (m - 6)
def gLen (m : ℕ) : ℕ := if m % 6 = 5 then 128 else 256

/-! ## What a landed window holds: the expert's rows, whichever slot -/

def gC (a : Ins F) (e : Fin 32) : S2x2816x4096.Idx → F .fp8e4m3 := fun i => a.wg (ValueIdx.ix3 e (i 1) (i 2))
def dC (a : Ins F) (e : Fin 32) : S2x4096x1408.Idx → F .fp8e4m3 := fun i => a.wd (ValueIdx.ix3 e (i 1) (i 2))
def sgC (a : Ins F) (e : Fin 32) : S2x1x2816.Idx → F .f32 := fun i => a.sg (ValueIdx.ix2 e (i 2))
def sdC (a : Ins F) (e : Fin 32) : S2x1x4096.Idx → F .f32 := fun i => a.sd (ValueIdx.ix2 e (i 2))

/-! ## The semaphore cells -/

/-- Cell `(s, j)` of the gate/up semaphores, cell `(s, q)` of the down semaphores. -/
def gsem (s j : ℕ) : DmaSem sig := if h : 5 + 6 * s + j < 25 then ⟨5 + 6 * s + j, h⟩ else 0
def dsem (s q : ℕ) : DmaSem sig := if h : 17 + 4 * s + q < 25 then ⟨17 + 4 * s + q, h⟩ else 0

theorem gsem_eq {s j : ℕ} {o : Fin 2 → ℕ} {h : ∀ a, o a + S1x1.size a ≤ S2x6.size a} {hq : S1x1.Squeezes S_} (ho : o = ![s, j]) :
    ((cc0_scratch8.slice (Rect.unit (s := S2x6) o S1x1.size h)).squeeze S_ hq).sem = gsem s j := by
  subst ho
  have hs0 : s < 2 := by have := h 0; simp at this; omega
  have hj0 : j < 6 := by have := h 1; simp at this; omega
  interval_cases s <;> interval_cases j <;> (clear hs0 hj0; revert hq h; decide +kernel)

theorem dsem_eq {s j : ℕ} {o : Fin 2 → ℕ} {h : ∀ a, o a + S1x1.size a ≤ S2x4.size a} {hq : S1x1.Squeezes S_} (ho : o = ![s, j]) :
    ((cc0_scratch9.slice (Rect.unit (s := S2x4) o S1x1.size h)).squeeze S_ hq).sem = dsem s j := by
  subst ho
  have hs0 : s < 2 := by have := h 0; simp at this; omega
  have hj0 : j < 4 := by have := h 1; simp at this; omega
  interval_cases s <;> interval_cases j <;> (clear hs0 hj0; revert hq h; decide +kernel)

/-! ## Amounts of the transfers -/

def JG (L : ℕ) : ℕ := sig.dmaCredit .tc (Kind.tc.table .vmem) M9.view.buf ⟨2, ![L, 4096]⟩ .fp8e4m3
def JD : ℕ := sig.dmaCredit .tc (Kind.tc.table .vmem) M10.view.buf S1024x1408 .fp8e4m3
def JSG : ℕ := sig.dmaCredit .tc (Kind.tc.table .vmem) M11.view.buf S1x2816 .f32
def JSD : ℕ := sig.dmaCredit .tc (Kind.tc.table .vmem) M12.view.buf S1x4096 .f32

theorem JG_pos {L : ℕ} (h : 0 < L) : 0 < JG L := sig.dmaCredit_pos _ _ _ _ _ (by simp [Shape.numel, Fin.prod_univ_two, h])
theorem JD_pos : 0 < JD := sig.dmaCredit_pos _ _ _ _ _ (by decide)
theorem JSG_pos : 0 < JSG := sig.dmaCredit_pos _ _ _ _ _ (by decide)
theorem JSD_pos : 0 < JSD := sig.dmaCredit_pos _ _ _ _ _ (by decide)

/-! ## A window at rest and a window landed -/

variable (c : Dev nD) (a : Ins F)

/-- Window `m` of slot `s` of the gate/up buffer at some contents, with the share of the weight array its transfer reads through. -/
def gHome (s m : ℕ) : sProp 𝕄 :=
  iprop((∃ f, M9.view.loc (c : Thread nD τ) ↦[win s (gOff m) (gLen m)]{fullShare} f) ∗ (M6.view.loc (c : Thread nD τ) ↦{shareTokN fullShare (12 * s + m)} a.wg))
/-- The same window once expert `e`'s rows landed. -/
def gLand (s m : ℕ) (e : Fin 32) : sProp 𝕄 :=
  iprop((M9.view.loc (c : Thread nD τ) ↦[win s (gOff m) (gLen m)]{fullShare} gC a e) ∗ (M6.view.loc (c : Thread nD τ) ↦{shareTokN fullShare (12 * s + m)} a.wg))
def dHome (s q : ℕ) : sProp 𝕄 :=
  iprop((∃ f, M10.view.loc (c : Thread nD τ) ↦[win s (1024 * q) 1024]{fullShare} f) ∗ (M7.view.loc (c : Thread nD τ) ↦{shareTokN fullShare (4 * s + q)} a.wd))
def dLand (s q : ℕ) (e : Fin 32) : sProp 𝕄 :=
  iprop((M10.view.loc (c : Thread nD τ) ↦[win s (1024 * q) 1024]{fullShare} dC a e) ∗ (M7.view.loc (c : Thread nD τ) ↦{shareTokN fullShare (4 * s + q)} a.wd))
def sgHome (s : ℕ) : sProp 𝕄 :=
  iprop((∃ f, M11.view.loc (c : Thread nD τ) ↦[win s 0 1]{fullShare} f) ∗ (M4.view.loc (c : Thread nD τ) ↦{shareTokN fullShare s} a.sg))
def sgLand (s : ℕ) (e : Fin 32) : sProp 𝕄 :=
  iprop((M11.view.loc (c : Thread nD τ) ↦[win s 0 1]{fullShare} sgC a e) ∗ (M4.view.loc (c : Thread nD τ) ↦{shareTokN fullShare s} a.sg))
def sdHome (s : ℕ) : sProp 𝕄 :=
  iprop((∃ f, M12.view.loc (c : Thread nD τ) ↦[win s 0 1]{fullShare} f) ∗ (M5.view.loc (c : Thread nD τ) ↦{shareTokN fullShare s} a.sd))
def sdLand (s : ℕ) (e : Fin 32) : sProp 𝕄 :=
  iprop((M12.view.loc (c : Thread nD τ) ↦[win s 0 1]{fullShare} sdC a e) ∗ (M5.view.loc (c : Thread nD τ) ↦{shareTokN fullShare s} a.sd))

instance (s m : ℕ) (e : Fin 32) : Storable (upEmb : UEmb _ 𝕄) (gLand c a s m e) := by unfold gLand; infer_instance
instance (s m : ℕ) (e : Fin 32) : Storable (upEmb : UEmb _ 𝕄) (dLand c a s m e) := by unfold dLand; infer_instance
instance (s : ℕ) (e : Fin 32) : Storable (upEmb : UEmb _ 𝕄) (sgLand c a s e) := by unfold sgLand; infer_instance
instance (s : ℕ) (e : Fin 32) : Storable (upEmb : UEmb _ 𝕄) (sdLand c a s e) := by unfold sdLand; infer_instance

theorem gLand_home (s m : ℕ) (e : Fin 32) : gLand c a s m e ⊢ gHome c a s m := by
  unfold gLand gHome
  iintro ⟨H, Hs⟩
  isplitl [H]
  · iexists gC a e; iexact H
  iexact Hs
theorem dLand_home (s m : ℕ) (e : Fin 32) : dLand c a s m e ⊢ dHome c a s m := by
  unfold dLand dHome
  iintro ⟨H, Hs⟩
  isplitl [H]
  · iexists dC a e; iexact H
  iexact Hs
theorem sgLand_home (s : ℕ) (e : Fin 32) : sgLand c a s e ⊢ sgHome c a s := by
  unfold sgLand sgHome
  iintro ⟨H, Hs⟩
  isplitl [H]
  · iexists sgC a e; iexact H
  iexact Hs
theorem sdLand_home (s : ℕ) (e : Fin 32) : sdLand c a s e ⊢ sdHome c a s := by
  unfold sdLand sdHome
  iintro ⟨H, Hs⟩
  isplitl [H]
  · iexists sdC a e; iexact H
  iexact Hs

end Cert.Kernel.Hand
-- ==== Proof.Kernel.Rules.lean ====
/-
  One step of the kernel at a time: issuing a transfer into a window, waiting for it, loading from a window that landed.
-/
module

public import proofs.«01_k».proof.Proof.Kernel.Geometry

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-! ## The set of a window and what is read through it -/

theorem set_g {s r L : ℕ} {o : Fin 3 → ℕ} {h} {hr} {hq : (⟨3, ![1, L, 4096]⟩ : Shape).Squeezes ⟨2, ![L, 4096]⟩} (ho : o = ![s, r, 0]) :
    ((M9.slice (Rect.unit (s := S2x2816x4096) o ![1, L, 4096] h) hr).squeeze ⟨2, ![L, 4096]⟩ hq).view.set = win s r L := by
  subst ho
  show (((View.whole _).slice _).reshape _ _).set = _
  rw [View.set_reshape, View.set_slice_whole]
  exact set_rect h

theorem set_d {s r : ℕ} {o : Fin 3 → ℕ} {h} {hr} {hq : S1x1024x1408.Squeezes S1024x1408} (ho : o = ![s, r, 0]) :
    ((M10.slice (Rect.unit (s := S2x4096x1408) o S1x1024x1408.size h) hr).squeeze S1024x1408 hq).view.set = win s r 1024 := by
  subst ho
  show (((View.whole _).slice _).reshape _ _).set = _
  rw [View.set_reshape, View.set_slice_whole]
  exact set_rect h

theorem set_sg {s : ℕ} {o : Fin 3 → ℕ} {h} {hr} {hq : S1x1x2816.Squeezes S1x2816} (ho : o = ![s, 0, 0]) :
    ((M11.slice (Rect.unit (s := S2x1x2816) o S1x1x2816.size h) hr).squeeze S1x2816 hq).view.set = win s 0 1 := by
  subst ho
  show (((View.whole _).slice _).reshape _ _).set = _
  rw [View.set_reshape, View.set_slice_whole]
  exact set_rect h

theorem set_sd {s : ℕ} {o : Fin 3 → ℕ} {h} {hr} {hq : S1x1x4096.Squeezes S1x4096} (ho : o = ![s, 0, 0]) :
    ((M12.slice (Rect.unit (s := S2x1x4096) o S1x1x4096.size h) hr).squeeze S1x4096 hq).view.set = win s 0 1 := by
  subst ho
  show (((View.whole _).slice _).reshape _ _).set = _
  rw [View.set_reshape, View.set_slice_whole]
  exact set_rect h

theorem read_g {s r L : ℕ} {v : BitVec 32} {e : Fin 32} {o o' : Fin 3 → ℕ} {h h'} {hr hr'} {hq hq' : (⟨3, ![1, L, 4096]⟩ : Shape).Squeezes ⟨2, ![L, 4096]⟩}
    (ho : o = ![s, r, 0]) (ho' : o' = ![v.toNat, r, 0]) (he : v.toNat = e) (x) :
    ((M9.slice (Rect.unit (s := S2x2816x4096) o ![1, L, 4096] h) hr).squeeze ⟨2, ![L, 4096]⟩ hq).view.read (Elt F) (gC a e) x
      = ((M6.slice (Rect.unit (s := S32x2816x4096) o' ![1, L, 4096] h') hr').squeeze ⟨2, ![L, 4096]⟩ hq').view.read (Elt F) a.wg x := by
  rw [he] at ho'
  subst ho ho'
  show a.wg _ = a.wg _
  refine congrArg a.wg (funext fun k => Fin.ext ?_)
  show (_ : ℕ) = ((Rect.unit (s := S32x2816x4096) ![(e : ℕ), r, 0] ![1, L, 4096] h').emb (Shape.reshapeEquiv _ x) k : ℕ)
  rw [Shape.reshapeEquiv_cons_one (d := ![L, 4096])]
  fin_cases k
  · simp [Rect.emb_apply, ValueIdx.ix3]; rfl
  · show (((Rect.unit (s := S2x2816x4096) ![s, r, 0] ![1, L, 4096] h).emb (Shape.reshapeEquiv _ x) 1 : Fin _) : ℕ) = _
    rw [Shape.reshapeEquiv_cons_one (d := ![L, 4096])]; rfl
  · show (((Rect.unit (s := S2x2816x4096) ![s, r, 0] ![1, L, 4096] h).emb (Shape.reshapeEquiv _ x) 2 : Fin _) : ℕ) = _
    rw [Shape.reshapeEquiv_cons_one (d := ![L, 4096])]; rfl

theorem read_d {s r : ℕ} {v : BitVec 32} {e : Fin 32} {o o' : Fin 3 → ℕ} {h h'} {hr hr'} {hq hq' : S1x1024x1408.Squeezes S1024x1408}
    (ho : o = ![s, r, 0]) (ho' : o' = ![v.toNat, r, 0]) (he : v.toNat = e) (x) :
    ((M10.slice (Rect.unit (s := S2x4096x1408) o S1x1024x1408.size h) hr).squeeze S1024x1408 hq).view.read (Elt F) (dC a e) x
      = ((M7.slice (Rect.unit (s := S32x4096x1408) o' S1x1024x1408.size h') hr').squeeze S1024x1408 hq').view.read (Elt F) a.wd x := by
  rw [he] at ho'
  subst ho ho'
  show a.wd _ = a.wd _
  refine congrArg a.wd (funext fun k => Fin.ext ?_)
  show (_ : ℕ) = ((Rect.unit (s := S32x4096x1408) ![(e : ℕ), r, 0] S1x1024x1408.size h').emb (Shape.reshapeEquiv _ x) k : ℕ)
  rw [Shape.reshapeEquiv_cons_one (d := ![1024, 1408])]
  fin_cases k
  · simp [Rect.emb_apply, ValueIdx.ix3]; rfl
  · show (((Rect.unit (s := S2x4096x1408) ![s, r, 0] S1x1024x1408.size h).emb (Shape.reshapeEquiv _ x) 1 : Fin _) : ℕ) = _
    rw [Shape.reshapeEquiv_cons_one (d := ![1024, 1408])]; rfl
  · show (((Rect.unit (s := S2x4096x1408) ![s, r, 0] S1x1024x1408.size h).emb (Shape.reshapeEquiv _ x) 2 : Fin _) : ℕ) = _
    rw [Shape.reshapeEquiv_cons_one (d := ![1024, 1408])]; rfl

theorem read_sg {s : ℕ} {v : BitVec 32} {e : Fin 32} {o : Fin 3 → ℕ} {o' : Fin 2 → ℕ} {h h'} {hr hr'} {hq : S1x1x2816.Squeezes S1x2816}
    (ho : o = ![s, 0, 0]) (ho' : o' = ![v.toNat, 0]) (he : v.toNat = e) (x) :
    ((M11.slice (Rect.unit (s := S2x1x2816) o S1x1x2816.size h) hr).squeeze S1x2816 hq).view.read (Elt F) (sgC a e) x
      = (M4.slice (Rect.unit (s := S32x2816) o' S1x2816.size h') hr').view.read (Elt F) a.sg x := by
  rw [he] at ho'
  subst ho ho'
  show a.sg _ = a.sg _
  refine congrArg a.sg (funext fun k => Fin.ext ?_)
  show (_ : ℕ) = ((Rect.unit (s := S32x2816) ![(e : ℕ), 0] S1x2816.size h').emb x k : ℕ)
  have h0 : (x 0 : ℕ) = 0 := by have := (x 0).isLt; simp at this; omega
  fin_cases k
  · simp [Rect.emb_apply, ValueIdx.ix2, h0]
  · show (((Rect.unit (s := S2x1x2816) ![s, 0, 0] S1x1x2816.size h).emb (Shape.reshapeEquiv _ x) 2 : Fin _) : ℕ) = _
    rw [Shape.reshapeEquiv_cons_one (d := ![1, 2816])]; rfl

theorem read_sd {s : ℕ} {v : BitVec 32} {e : Fin 32} {o : Fin 3 → ℕ} {o' : Fin 2 → ℕ} {h h'} {hr hr'} {hq : S1x1x4096.Squeezes S1x4096}
    (ho : o = ![s, 0, 0]) (ho' : o' = ![v.toNat, 0]) (he : v.toNat = e) (x) :
    ((M12.slice (Rect.unit (s := S2x1x4096) o S1x1x4096.size h) hr).squeeze S1x4096 hq).view.read (Elt F) (sdC a e) x
      = (M5.slice (Rect.unit (s := S32x4096) o' S1x4096.size h') hr').view.read (Elt F) a.sd x := by
  rw [he] at ho'
  subst ho ho'
  show a.sd _ = a.sd _
  refine congrArg a.sd (funext fun k => Fin.ext ?_)
  show (_ : ℕ) = ((Rect.unit (s := S32x4096) ![(e : ℕ), 0] S1x4096.size h').emb x k : ℕ)
  have h0 : (x 0 : ℕ) = 0 := by have := (x 0).isLt; simp at this; omega
  fin_cases k
  · simp [Rect.emb_apply, ValueIdx.ix2, h0]
  · show (((Rect.unit (s := S2x1x4096) ![s, 0, 0] S1x1x4096.size h).emb (Shape.reshapeEquiv _ x) 2 : Fin _) : ℕ) = _
    rw [Shape.reshapeEquiv_cons_one (d := ![1, 4096])]; rfl

/-! ## Issuing -/

variable {n : ℕ} {A : Fin n → ℕ} {j : ℕ}

theorem wp_enq_g {Q : α → sProp 𝕄} {D : Fin n → sProp 𝕄} (s m : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {sem : DmaSem sig} {h1 h2 h3}
    {k : PUnit → Prog (TpuEff nD τ sig (Elt F) Λ .tc) α}
    (hL : gLen m = L) (ho : o = ![s, gOff m, 0]) (ho' : o' = ![v.toNat, gOff m, 0]) (he : v.toNat = e) (hsm : sm = sem)
    (hj : j < n) (hA : JG L = A ⟨j, hj⟩) (hD : gLand c a s m e ⊢ D ⟨j, hj⟩) :
    iprop(gHome c a s m ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  subst hsm
  subst hL
  unfold gHome
  iintro ⟨⟨⟨%f, Hd⟩, Hs⟩, HB⟩ Hk
  iapply (wp_issue 𝒱 (c : Thread nD τ) bd (set_g ho) hj (by exact hA) (fun x => read_g a ho ho' he x)
    (hD := (show _ ⊢ gLand c a s m e by unfold gLand; exact .rfl).trans hD)) $$ [Hd Hs HB]
  · isplitl [Hs]; · iexact Hs
    isplitl [Hd]; · iexact Hd
    iexact HB
  iexact Hk

theorem wp_enq_d {Q : α → sProp 𝕄} {D : Fin n → sProp 𝕄} (s q : ℕ) {v : BitVec 32} {e : Fin 32} {o o' : Fin 3 → ℕ} {h h'} {hr hr'}
    {hq hq' : S1x1024x1408.Squeezes S1024x1408} {sm : DmaSem sig} {sem : DmaSem sig} {h1 h2 h3}
    {k : PUnit → Prog (TpuEff nD τ sig (Elt F) Λ .tc) α}
    (ho : o = ![s, 1024 * q, 0]) (ho' : o' = ![v.toNat, 1024 * q, 0]) (he : v.toNat = e) (hsm : sm = sem)
    (hj : j < n) (hA : JD = A ⟨j, hj⟩) (hD : dLand c a s q e ⊢ D ⟨j, hj⟩) :
    iprop(dHome c a s q ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma ((M7.slice (Rect.unit (s := S32x4096x1408) o' S1x1024x1408.size h') hr').squeeze S1024x1408 hq')
              (.here ((M10.slice (Rect.unit (s := S2x4096x1408) o S1x1024x1408.size h) hr).squeeze S1024x1408 hq)) (.dma sm) h1 h2 h3) k) Q) := by
  subst hsm
  unfold dHome
  iintro ⟨⟨⟨%f, Hd⟩, Hs⟩, HB⟩ Hk
  iapply (wp_issue 𝒱 (c : Thread nD τ) bd (set_d ho) hj (by exact hA) (fun x => read_d a ho ho' he x)
    (hD := (show _ ⊢ dLand c a s q e by unfold dLand; exact .rfl).trans hD)) $$ [Hd Hs HB]
  · isplitl [Hs]; · iexact Hs
    isplitl [Hd]; · iexact Hd
    iexact HB
  iexact Hk

theorem wp_enq_sg {Q : α → sProp 𝕄} {D : Fin n → sProp 𝕄} (s : ℕ) {v : BitVec 32} {e : Fin 32} {o : Fin 3 → ℕ} {o' : Fin 2 → ℕ} {h h'} {hr hr'}
    {hq : S1x1x2816.Squeezes S1x2816} {sm : DmaSem sig} {sem : DmaSem sig} {h1 h2 h3}
    {k : PUnit → Prog (TpuEff nD τ sig (Elt F) Λ .tc) α}
    (ho : o = ![s, 0, 0]) (ho' : o' = ![v.toNat, 0]) (he : v.toNat = e) (hsm : sm = sem)
    (hj : j < n) (hA : JSG = A ⟨j, hj⟩) (hD : sgLand c a s e ⊢ D ⟨j, hj⟩) :
    iprop(sgHome c a s ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma (M4.slice (Rect.unit (s := S32x2816) o' S1x2816.size h') hr')
              (.here ((M11.slice (Rect.unit (s := S2x1x2816) o S1x1x2816.size h) hr).squeeze S1x2816 hq)) (.dma sm) h1 h2 h3) k) Q) := by
  subst hsm
  unfold sgHome
  iintro ⟨⟨⟨%f, Hd⟩, Hs⟩, HB⟩ Hk
  iapply (wp_issue 𝒱 (c : Thread nD τ) bd (set_sg ho) hj (by exact hA) (fun x => read_sg a ho ho' he x)
    (hD := (show _ ⊢ sgLand c a s e by unfold sgLand; exact .rfl).trans hD)) $$ [Hd Hs HB]
  · isplitl [Hs]; · iexact Hs
    isplitl [Hd]; · iexact Hd
    iexact HB
  iexact Hk

theorem wp_enq_sd {Q : α → sProp 𝕄} {D : Fin n → sProp 𝕄} (s : ℕ) {v : BitVec 32} {e : Fin 32} {o : Fin 3 → ℕ} {o' : Fin 2 → ℕ} {h h'} {hr hr'}
    {hq : S1x1x4096.Squeezes S1x4096} {sm : DmaSem sig} {sem : DmaSem sig} {h1 h2 h3}
    {k : PUnit → Prog (TpuEff nD τ sig (Elt F) Λ .tc) α}
    (ho : o = ![s, 0, 0]) (ho' : o' = ![v.toNat, 0]) (he : v.toNat = e) (hsm : sm = sem)
    (hj : j < n) (hA : JSD = A ⟨j, hj⟩) (hD : sdLand c a s e ⊢ D ⟨j, hj⟩) :
    iprop(sdHome c a s ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma (M5.slice (Rect.unit (s := S32x4096) o' S1x4096.size h') hr')
              (.here ((M12.slice (Rect.unit (s := S2x1x4096) o S1x1x4096.size h) hr).squeeze S1x4096 hq)) (.dma sm) h1 h2 h3) k) Q) := by
  subst hsm
  unfold sdHome
  iintro ⟨⟨⟨%f, Hd⟩, Hs⟩, HB⟩ Hk
  iapply (wp_issue 𝒱 (c : Thread nD τ) bd (set_sd ho) hj (by exact hA) (fun x => read_sd a ho ho' he x)
    (hD := (show _ ⊢ sdLand c a s e by unfold sdLand; exact .rfl).trans hD)) $$ [Hd Hs HB]
  · isplitl [Hs]; · iexact Hs
    isplitl [Hd]; · iexact Hd
    iexact HB
  iexact Hk

/-! ## The cells: batches of a slot's transfers -/

def A2 (x y : ℕ) : Fin 2 → ℕ := fun t => if t = 0 then x else y
def D2 (P R : sProp 𝕄) : Fin 2 → sProp 𝕄 := fun t => if t = 0 then P else R
instance D2_storable {P R : sProp 𝕄} [hP : Storable (upEmb : UEmb _ 𝕄) P] [hR : Storable (upEmb : UEmb _ 𝕄) R] (t : Fin 2) :
    Storable (upEmb : UEmb _ 𝕄) (D2 P R t) := by
  fin_cases t
  · exact hP
  · exact hR
def A1 (x : ℕ) : Fin 1 → ℕ := fun _ => x
def D1 (P : sProp 𝕄) : Fin 1 → sProp 𝕄 := fun _ => P
instance D1_storable {P : sProp 𝕄} [hP : Storable (upEmb : UEmb _ 𝕄) P] (t : Fin 1) : Storable (upEmb : UEmb _ 𝕄) (D1 P t) := hP
def A4 (x y z w : ℕ) : Fin 4 → ℕ := ![x, y, z, w]
def D4 (P R S T : sProp 𝕄) : Fin 4 → sProp 𝕄
  | 0 => P
  | 1 => R
  | 2 => S
  | 3 => T
instance D4_storable {P R S T : sProp 𝕄} [hP : Storable (upEmb : UEmb _ 𝕄) P] [hR : Storable (upEmb : UEmb _ 𝕄) R]
    [hS : Storable (upEmb : UEmb _ 𝕄) S] [hT : Storable (upEmb : UEmb _ 𝕄) T] (t : Fin 4) : Storable (upEmb : UEmb _ 𝕄) (D4 P R S T t) := by
  fin_cases t
  · exact hP
  · exact hR
  · exact hS
  · exact hT

theorem close1 {sm : SemLoc sig} {x : ℕ} {P : sProp 𝕄} (hx : 0 < x) :
    MixedBatch EC (c : Thread nD τ) sm () (A1 x) (D1 P) 1 0 ⊢ Flying (c : Thread nD τ) sm x P 0 :=
  Flying.close (c : Thread nD τ) (fun _ => hx) (by simp [sumTo, A1]) (by
    rw [Finset.univ_unique, bigSep_singleton]; exact .rfl)

theorem close2 {sm : SemLoc sig} {x y : ℕ} {P R : sProp 𝕄} (hx : 0 < x) (hy : 0 < y) :
    MixedBatch EC (c : Thread nD τ) sm () (A2 x y) (D2 P R) 2 0 ⊢ Flying (c : Thread nD τ) sm (x + y) iprop(P ∗ R) 0 :=
  Flying.close (c : Thread nD τ) (fun t => by fin_cases t <;> assumption) (by simp [sumTo, A2]) (by
    rw [show (Finset.univ : Finset (Fin 2)) = insert 0 {1} by decide, bigSep_insert (by decide), bigSep_singleton]; exact .rfl)

theorem close4 {sm : SemLoc sig} {x y z w : ℕ} {P R S T : sProp 𝕄} (hx : 0 < x) (hy : 0 < y) (hz : 0 < z) (hw : 0 < w) :
    MixedBatch EC (c : Thread nD τ) sm () (A4 x y z w) (D4 P R S T) 4 0 ⊢ Flying (c : Thread nD τ) sm (x + y + z + w) iprop(P ∗ R ∗ S ∗ T) 0 :=
  Flying.close (c : Thread nD τ) (fun t => by fin_cases t <;> assumption) (by simp [sumTo, A4]) (by
    rw [show (Finset.univ : Finset (Fin 4)) = insert 0 (insert 1 (insert 2 {3})) by decide, bigSep_insert (by decide), bigSep_insert (by decide),
      bigSep_insert (by decide), bigSep_singleton]; exact .rfl)

/-! ## Waiting -/

theorem wait_amount_g {L m : ℕ} (hL : gLen m = L) {o : Fin 3 → ℕ} {h} {hr} {hq : (⟨3, ![1, L, 4096]⟩ : Shape).Squeezes ⟨2, ![L, 4096]⟩} :
    ((M9.slice (Rect.unit (s := S2x2816x4096) o ![1, L, 4096] h) hr).squeeze ⟨2, ![L, 4096]⟩ hq).view.dmaCredit = JG (gLen m) := by
  subst hL; rfl

/-! ## Loading from what landed -/

/-- The rows of window `m` as the body loads them. -/
def gTile (m L : ℕ) (hm : gOff m + L ≤ 2816) (e : Fin 32) : (⟨3, ![1, L, 4096]⟩ : Shape).Idx → Elt F .fp8e4m3 :=
  fun i => a.wg (ValueIdx.ix3 e ⟨gOff m + i 1, by have := (i 1).isLt; simp at this; omega⟩ (i 2))
def dTile (q : ℕ) (hq : q < 4) (e : Fin 32) : S1x1024x1408.Idx → Elt F .fp8e4m3 :=
  fun i => a.wd (ValueIdx.ix3 e ⟨1024 * q + i 1, by have := (i 1).isLt; simp at this; omega⟩ (i 2))
def sgTile (r L : ℕ) (hr : r + L ≤ 2816) (e : Fin 32) : (⟨3, ![1, 1, L]⟩ : Shape).Idx → Elt F .f32 :=
  fun i => a.sg (ValueIdx.ix2 e ⟨r + i 2, by have := (i 2).isLt; simp at this; omega⟩)
def sdTile (q : ℕ) (hq : q < 4) (e : Fin 32) : S1x1x1024.Idx → Elt F .f32 :=
  fun i => a.sd (ValueIdx.ix2 e ⟨1024 * q + i 2, by have := (i 2).isLt; simp at this; omega⟩)

theorem wp_ld_g {Q : α → sProp 𝕄} (s m : ℕ) {L : ℕ} {e : Fin 32} {o : Fin 3 → ℕ} {h} {h1}
    {k : ((⟨3, ![1, L, 4096]⟩ : Shape).Idx → Elt F .fp8e4m3) → Prog (TpuEff nD τ sig (Elt F) Λ .tc) α}
    (hL : gLen m = L) (hm : gOff m + L ≤ 2816) (ho : o = ![s, gOff m, 0]) :
    gLand c a s m e
      ⊢ iprop((gLand c a s m e -∗ wp frame (wpE defs 𝒱 (c : Thread nD τ) bd) Set.univ (k (gTile a m L hm e)) Q)
          -∗ wp frame (wpE defs 𝒱 (c : Thread nD τ) bd) Set.univ
            (.op (.load M9 (Rect.unit (s := S2x2816x4096) o ![1, L, 4096] h).toLoadRect h1) k) Q) := by
  subst hL ho
  unfold gLand
  iintro ⟨H, Hs⟩ Hk
  iapply (wp_load_rect 𝒱 (c : Thread nD τ) bd Set.univ (m := M9) (r := Rect.unit (s := S2x2816x4096) ![s, gOff m, 0] ![1, gLen m, 4096] h) (f := gC a e) (S := win s (gOff m) (gLen m))
    (hS := subset_of_eq ((View.set_slice_whole _ _).trans (set_rect h)))) $$ H
  iintro H
  rw [show (M9.access (Rect.unit (s := S2x2816x4096) ![s, gOff m, 0] ![1, gLen m, 4096] h)).read (Elt F) (gC a e) = gTile a m (gLen m) hm e from by
    funext x
    show a.wg _ = a.wg _
    refine congrArg a.wg (funext fun t => Fin.ext ?_)
    fin_cases t
    · rfl
    · show gOff m + 1 * (x 1 : ℕ) = gOff m + (x 1 : ℕ); omega
    · show 0 + 1 * (x 2 : ℕ) = (x 2 : ℕ); omega]
  iapply Hk
  isplitl [H] <;> iassumption

theorem wp_ld_d {Q : α → sProp 𝕄} (s q : ℕ) {e : Fin 32} {o : Fin 3 → ℕ} {h} {h1}
    {k : (S1x1024x1408.Idx → Elt F .fp8e4m3) → Prog (TpuEff nD τ sig (Elt F) Λ .tc) α}
    (hq : q < 4) (ho : o = ![s, 1024 * q, 0]) :
    dLand c a s q e
      ⊢ iprop((dLand c a s q e -∗ wp frame (wpE defs 𝒱 (c : Thread nD τ) bd) Set.univ (k (dTile a q hq e)) Q)
          -∗ wp frame (wpE defs 𝒱 (c : Thread nD τ) bd) Set.univ
            (.op (.load M10 (Rect.unit (s := S2x4096x1408) o S1x1024x1408.size h).toLoadRect h1) k) Q) := by
  subst ho
  unfold dLand
  iintro ⟨H, Hs⟩ Hk
  iapply (wp_load_rect 𝒱 (c : Thread nD τ) bd Set.univ (m := M10) (r := Rect.unit (s := S2x4096x1408) ![s, 1024 * q, 0] S1x1024x1408.size h) (f := dC a e) (S := win s (1024 * q) 1024)
    (hS := subset_of_eq ((View.set_slice_whole _ _).trans (set_rect h)))) $$ H
  iintro H
  rw [show (M10.access (Rect.unit (s := S2x4096x1408) ![s, 1024 * q, 0] S1x1024x1408.size h)).read (Elt F) (dC a e) = dTile a q hq e from by
    funext x
    show a.wd _ = a.wd _
    refine congrArg a.wd (funext fun t => Fin.ext ?_)
    fin_cases t
    · rfl
    · show 1024 * q + 1 * (x 1 : ℕ) = 1024 * q + (x 1 : ℕ); omega
    · show 0 + 1 * (x 2 : ℕ) = (x 2 : ℕ); omega]
  iapply Hk
  isplitl [H] <;> iassumption

theorem set_rect_sub {d0 d2 s r L : ℕ} (h : ∀ a, (![s, 0, r] : Fin 3 → ℕ) a + (![1, 1, L] : Fin 3 → ℕ) a ≤ (⟨3, ![d0, 1, d2]⟩ : Shape).size a) :
    (Rect.unit (s := ⟨3, ![d0, 1, d2]⟩) ![s, 0, r] ![1, 1, L] h).set ⊆ win s 0 1 := by
  intro i hi
  rw [Rect.mem_set_unit] at hi
  rw [mem_win]
  have H0 := hi 0; have H1 := hi 1
  simp at H0 H1
  refine ⟨?_, ?_, ?_⟩ <;> simp <;> omega

theorem wp_ld_sg {Q : α → sProp 𝕄} (s r L : ℕ) {e : Fin 32} {o : Fin 3 → ℕ} {h} {h1}
    {k : ((⟨3, ![1, 1, L]⟩ : Shape).Idx → Elt F .f32) → Prog (TpuEff nD τ sig (Elt F) Λ .tc) α}
    (hr : r + L ≤ 2816) (ho : o = ![s, 0, r]) :
    sgLand c a s e
      ⊢ iprop((sgLand c a s e -∗ wp frame (wpE defs 𝒱 (c : Thread nD τ) bd) Set.univ (k (sgTile a r L hr e)) Q)
          -∗ wp frame (wpE defs 𝒱 (c : Thread nD τ) bd) Set.univ
            (.op (.load M11 (Rect.unit (s := S2x1x2816) o ![1, 1, L] h).toLoadRect h1) k) Q) := by
  subst ho
  unfold sgLand
  iintro ⟨H, Hs⟩ Hk
  iapply (wp_load_rect 𝒱 (c : Thread nD τ) bd Set.univ (m := M11) (r := Rect.unit (s := S2x1x2816) ![s, 0, r] ![1, 1, L] h) (f := sgC a e) (S := win s 0 1)
    (hS := (subset_of_eq (View.set_slice_whole _ _)).trans (set_rect_sub h))) $$ H
  iintro H
  rw [show (M11.access (Rect.unit (s := S2x1x2816) ![s, 0, r] ![1, 1, L] h)).read (Elt F) (sgC a e) = sgTile a r L hr e from by
    funext x
    show a.sg _ = a.sg _
    refine congrArg a.sg (funext fun t => Fin.ext ?_)
    fin_cases t
    · rfl
    · show r + 1 * (x 2 : ℕ) = r + (x 2 : ℕ); omega]
  iapply Hk
  isplitl [H] <;> iassumption

theorem wp_ld_sd {Q : α → sProp 𝕄} (s q : ℕ) {e : Fin 32} {o : Fin 3 → ℕ} {h} {h1}
    {k : (S1x1x1024.Idx → Elt F .f32) → Prog (TpuEff nD τ sig (Elt F) Λ .tc) α}
    (hq : q < 4) (ho : o = ![s, 0, 1024 * q]) :
    sdLand c a s e
      ⊢ iprop((sdLand c a s e -∗ wp frame (wpE defs 𝒱 (c : Thread nD τ) bd) Set.univ (k (sdTile a q hq e)) Q)
          -∗ wp frame (wpE defs 𝒱 (c : Thread nD τ) bd) Set.univ
            (.op (.load M12 (Rect.unit (s := S2x1x4096) o S1x1x1024.size h).toLoadRect h1) k) Q) := by
  subst ho
  unfold sdLand
  iintro ⟨H, Hs⟩ Hk
  iapply (wp_load_rect 𝒱 (c : Thread nD τ) bd Set.univ (m := M12) (r := Rect.unit (s := S2x1x4096) ![s, 0, 1024 * q] S1x1x1024.size h) (f := sdC a e) (S := win s 0 1)
    (hS := (subset_of_eq (View.set_slice_whole _ _)).trans (set_rect_sub h))) $$ H
  iintro H
  rw [show (M12.access (Rect.unit (s := S2x1x4096) ![s, 0, 1024 * q] S1x1x1024.size h)).read (Elt F) (sdC a e) = sdTile a q hq e from by
    funext x
    show a.sd _ = a.sd _
    refine congrArg a.sd (funext fun t => Fin.ext ?_)
    fin_cases t
    · rfl
    · show 1024 * q + 1 * (x 2 : ℕ) = 1024 * q + (x 2 : ℕ); omega]
  iapply Hk
  isplitl [H] <;> iassumption

end Cert.Kernel.Hand
-- ==== Proof.Kernel.Steps.lean ====
/-
  What the kernel computes for one expert — its intermediate activations `hVal` and the accumulator after it, `accNext` —,
  and the loads and stores of the whole-array operands and of these two buffers.
-/
module

public import proofs.«01_k».proof.Proof.Kernel.Rules

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-! ## One expert's intermediate activations -/

/-- Column tile `j` of the intermediate activations (the first five, 256 columns each). -/
def hT (j : ℕ) (hj : j < 5) (e : Fin 32) : S64x256.Idx → Elt F .bf16 :=
  k0_pay2 (gTile a j 256 (by unfold gOff; split <;> omega) e) (gTile a (6 + j) 256 (by unfold gOff; split <;> omega) e) a.x a.x
    (sgTile a (256 * j) 256 (by omega) e) (sgTile a (1408 + 256 * j) 256 (by omega) e)

/-- The last column tile, 128 columns. -/
def hT5 (e : Fin 32) : S64x128.Idx → Elt F .bf16 :=
  k0_pay14 (k0_pay12 (gTile a 5 128 (by decide) e) (gTile a 11 128 (by decide) e) a.x (sgTile a 2688 128 (by decide) e))
    (k0_pay13 (gTile a 5 128 (by decide) e) (gTile a 11 128 (by decide) e) a.x (sgTile a 1280 128 (by decide) e))

/-- Expert `e`'s intermediate activations, of every token. -/
def hVal (e : Fin 32) : S64x1408.Idx → Elt F .bf16 := fun i =>
  if h : (i 1 : ℕ) < 1280 then hT a ((i 1 : ℕ) / 256) (by omega) e (ValueIdx.ix2 (i 0) ⟨(i 1 : ℕ) % 256, Nat.mod_lt _ (by decide)⟩)
  else hT5 a e (ValueIdx.ix2 (i 0) ⟨(i 1 : ℕ) - 1280, by have := (i 1).isLt; simp at this; omega⟩)

/-- The buffer once `j` tiles were stored over contents `f`. -/
def hMid (j : ℕ) (e : Fin 32) (f : S64x1408.Idx → Elt F .bf16) : S64x1408.Idx → Elt F .bf16 := fun i =>
  if (i 1 : ℕ) < 256 * j then hVal a e i else f i

theorem hMid_zero (e : Fin 32) (f : S64x1408.Idx → Elt F .bf16) : hMid a 0 e f = f := by funext i; simp [hMid]
theorem hMid_six (e : Fin 32) (f : S64x1408.Idx → Elt F .bf16) : hMid a 6 e f = hVal a e := by
  funext i
  have := (i 1).isLt
  simp at this
  unfold hMid
  rw [if_pos (by omega)]

/-! ## The accumulator -/

/-- The combine weights of the expert a word names. -/
def cCol (e : Fin 32) : S64x1.Idx → Elt F .f32 := k0_pay1 (BitVec.ofNat 32 e) a.ids a.cw

theorem cCol_eq {v : BitVec 32} {e : Fin 32} (he : v.toNat = e) : k0_pay1 v a.ids a.cw = cCol a e := by
  unfold cCol
  rw [← he, BitVec.ofNat_toNat, BitVec.setWidth_eq]

/-- Columns `1024 q …` of an accumulator. -/
def accTile (q : ℕ) (hq : q < 4) (f : S64x4096.Idx → Elt F .f32) : S64x1024.Idx → Elt F .f32 := fun y =>
  f (ValueIdx.ix2 (y 0) ⟨1024 * q + y 1, by have := (y 1).isLt; simp at this; omega⟩)

/-- The accumulator after expert `e`. -/
def accNext (e : Fin 32) (f : S64x4096.Idx → Elt F .f32) : S64x4096.Idx → Elt F .f32 := fun i =>
  have hq : (i 1 : ℕ) / 1024 < 4 := by have := (i 1).isLt; simp at this; omega
  k0_pay15 (cCol a e) (hVal a e) (dTile a ((i 1 : ℕ) / 1024) hq e) (accTile ((i 1 : ℕ) / 1024) hq f) (sdTile a ((i 1 : ℕ) / 1024) hq e)
    (ValueIdx.ix2 (i 0) ⟨(i 1 : ℕ) % 1024, Nat.mod_lt _ (by decide)⟩)

/-- The accumulator once `q` column blocks of expert `e` were added. -/
def accMid (q : ℕ) (e : Fin 32) (f : S64x4096.Idx → Elt F .f32) : S64x4096.Idx → Elt F .f32 := fun i =>
  if (i 1 : ℕ) < 1024 * q then accNext a e f i else f i

theorem accMid_zero (e : Fin 32) (f : S64x4096.Idx → Elt F .f32) : accMid a 0 e f = f := by funext i; simp [accMid]
theorem accMid_four (e : Fin 32) (f : S64x4096.Idx → Elt F .f32) : accMid a 4 e f = accNext a e f := by
  funext i
  have := (i 1).isLt
  simp at this
  unfold accMid
  rw [if_pos (by omega)]

/-! ## A store of full-height columns -/

theorem write_cols_bf {r L : ℕ} {o : Fin 2 → ℕ} {h} (ho : o = ![0, r]) (f : S64x1408.Idx → Elt F .bf16) (w : (⟨2, ![64, L]⟩ : Shape).Idx → Elt F .bf16) :
    (M13.access (Rect.unit (s := S64x1408) o ![64, L] h)).write (Elt F) f w Finset.univ
      = fun i => if h' : r ≤ (i 1 : ℕ) ∧ (i 1 : ℕ) < r + L then w (ValueIdx.ix2 (i 0) ⟨(i 1 : ℕ) - r, by omega⟩) else f i := by
  subst ho
  funext i
  by_cases h' : r ≤ (i 1 : ℕ) ∧ (i 1 : ℕ) < r + L
  · rw [dif_pos h']
    have hi : i = (M13.access (Rect.unit (s := S64x1408) ![0, r] ![64, L] h)).emb (ValueIdx.ix2 (i 0) ⟨(i 1 : ℕ) - r, by omega⟩) := by
      funext t
      apply Fin.ext
      fin_cases t
      · show (i 0 : ℕ) = 0 + 1 * (i 0 : ℕ); omega
      · show (i 1 : ℕ) = r + 1 * ((i 1 : ℕ) - r); omega
    conv_lhs => rw [hi]
    rw [View.write_emb_of_mem _ _ (Finset.mem_univ _)]
    rfl
  · rw [dif_neg h']
    apply View.write_of_not_mem
    intro hi
    apply h'
    rw [View.setOn_univ] at hi
    erw [View.set_slice_whole] at hi
    rw [Rect.mem_set_unit] at hi
    simpa using hi 1

theorem write_cols_f {r L : ℕ} {o : Fin 2 → ℕ} {h} (ho : o = ![0, r]) (f : S64x4096.Idx → Elt F .f32) (w : (⟨2, ![64, L]⟩ : Shape).Idx → Elt F .f32) :
    (M14.access (Rect.unit (s := S64x4096) o ![64, L] h)).write (Elt F) f w Finset.univ
      = fun i => if h' : r ≤ (i 1 : ℕ) ∧ (i 1 : ℕ) < r + L then w (ValueIdx.ix2 (i 0) ⟨(i 1 : ℕ) - r, by omega⟩) else f i := by
  subst ho
  funext i
  by_cases h' : r ≤ (i 1 : ℕ) ∧ (i 1 : ℕ) < r + L
  · rw [dif_pos h']
    have hi : i = (M14.access (Rect.unit (s := S64x4096) ![0, r] ![64, L] h)).emb (ValueIdx.ix2 (i 0) ⟨(i 1 : ℕ) - r, by omega⟩) := by
      funext t
      apply Fin.ext
      fin_cases t
      · show (i 0 : ℕ) = 0 + 1 * (i 0 : ℕ); omega
      · show (i 1 : ℕ) = r + 1 * ((i 1 : ℕ) - r); omega
    conv_lhs => rw [hi]
    rw [View.write_emb_of_mem _ _ (Finset.mem_univ _)]
    rfl
  · rw [dif_neg h']
    apply View.write_of_not_mem
    intro hi
    apply h'
    rw [View.setOn_univ] at hi
    erw [View.set_slice_whole] at hi
    rw [Rect.mem_set_unit] at hi
    simpa using hi 1

theorem hMid_succ {j : ℕ} (hj : j < 5) (e : Fin 32) (f : S64x1408.Idx → Elt F .bf16) :
    (fun i : S64x1408.Idx => if h' : 256 * j ≤ (i 1 : ℕ) ∧ (i 1 : ℕ) < 256 * j + 256 then hT a j hj e (ValueIdx.ix2 (i 0) ⟨(i 1 : ℕ) - 256 * j, by omega⟩)
      else hMid a j e f i) = hMid a (j + 1) e f := by
  funext i
  unfold hMid
  by_cases h : 256 * j ≤ (i 1 : ℕ) ∧ (i 1 : ℕ) < 256 * j + 256
  · rw [dif_pos h, if_pos (by omega)]
    unfold hVal
    rw [dif_pos (by omega)]
    have h1 : (i 1 : ℕ) / 256 = j := by omega
    have h2 : (i 1 : ℕ) % 256 = (i 1 : ℕ) - 256 * j := by omega
    simp only [h1, h2]
  · rw [dif_neg h]
    by_cases h2 : (i 1 : ℕ) < 256 * j
    · rw [if_pos h2, if_pos (by omega)]
    · rw [if_neg h2, if_neg (by omega)]

theorem hMid_last (e : Fin 32) (f : S64x1408.Idx → Elt F .bf16) :
    (fun i : S64x1408.Idx => if h' : 1280 ≤ (i 1 : ℕ) ∧ (i 1 : ℕ) < 1280 + 128 then hT5 a e (ValueIdx.ix2 (i 0) ⟨(i 1 : ℕ) - 1280, by omega⟩)
      else hMid a 5 e f i) = hVal a e := by
  funext i
  have := (i 1).isLt
  simp at this
  by_cases h : 1280 ≤ (i 1 : ℕ) ∧ (i 1 : ℕ) < 1280 + 128
  · rw [dif_pos h]
    unfold hVal
    rw [dif_neg (by omega)]
  · rw [dif_neg h]
    unfold hMid
    rw [if_pos (by omega)]

theorem accMid_succ {q : ℕ} (hq : q < 4) (e : Fin 32) (f : S64x4096.Idx → Elt F .f32) :
    (fun i : S64x4096.Idx => if h' : 1024 * q ≤ (i 1 : ℕ) ∧ (i 1 : ℕ) < 1024 * q + 1024 then
        k0_pay15 (cCol a e) (hVal a e) (dTile a q hq e) (accTile q hq f) (sdTile a q hq e) (ValueIdx.ix2 (i 0) ⟨(i 1 : ℕ) - 1024 * q, by omega⟩)
      else accMid a q e f i) = accMid a (q + 1) e f := by
  funext i
  unfold accMid
  by_cases h : 1024 * q ≤ (i 1 : ℕ) ∧ (i 1 : ℕ) < 1024 * q + 1024
  · rw [dif_pos h, if_pos (by omega)]
    have h1 : q = (i 1 : ℕ) / 1024 := by omega
    subst h1
    have h2 : (i 1 : ℕ) - 1024 * ((i 1 : ℕ) / 1024) = (i 1 : ℕ) % 1024 := by omega
    unfold accNext
    simp only [h2]
  · rw [dif_neg h]
    by_cases h2 : (i 1 : ℕ) < 1024 * q
    · rw [if_pos h2, if_pos (by omega)]
    · rw [if_neg h2, if_neg (by omega)]

/-! ## The rules -/

theorem wp_st_h {Q : α → sProp 𝕄} (j : ℕ) (hj : j < 5) {e : Fin 32} {f : S64x1408.Idx → Elt F .bf16} {o : Fin 2 → ℕ} {h} {w : S64x256.Idx → Elt F .bf16} {h1 h2}
    {k : PUnit → Prog (TpuEff nD τ sig (Elt F) Λ .tc) α} (ho : o = ![0, 256 * j]) (hw : w = hT a j hj e) :
    (M13.view.loc (c : Thread nD τ) ↦{fullShare} hMid a j e f)
      ⊢ iprop(((M13.view.loc (c : Thread nD τ) ↦{fullShare} hMid a (j + 1) e f) -∗ wp frame (wpE defs 𝒱 (c : Thread nD τ) bd) Set.univ (k ⟨⟩) Q)
          -∗ wp frame (wpE defs 𝒱 (c : Thread nD τ) bd) Set.univ
            (.op (.store M13 (Rect.unit (s := S64x1408) o S64x256.size h) w Finset.univ h1 h2) k) Q) := by
  subst hw
  iintro H Hk
  iapply (wp_store 𝒱 (c : Thread nD τ) bd Set.univ (m := M13) (r := Rect.unit (s := S64x1408) o S64x256.size h) (f := hMid a j e f)
    (S := Finset.univ) (hS := Finset.subset_univ _)) $$ H
  iintro H
  iapply Hk
  have hs := (write_cols_bf (h := h) ho (hMid a j e f) (hT a j hj e)).trans (hMid_succ a hj e f)
  iapply (Entails.of_eq (congrArg (fun g : S64x1408.Idx → Elt F .bf16 => (M13.view.loc (c : Thread nD τ) ↦{fullShare} g : sProp 𝕄)) hs))
  iexact H

theorem wp_st_h5 {Q : α → sProp 𝕄} {e : Fin 32} {f : S64x1408.Idx → Elt F .bf16} {o : Fin 2 → ℕ} {h} {w : S64x128.Idx → Elt F .bf16} {h1 h2}
    {k : PUnit → Prog (TpuEff nD τ sig (Elt F) Λ .tc) α} (ho : o = ![0, 1280]) (hw : w = hT5 a e) :
    (M13.view.loc (c : Thread nD τ) ↦{fullShare} hMid a 5 e f)
      ⊢ iprop(((M13.view.loc (c : Thread nD τ) ↦{fullShare} hVal a e) -∗ wp frame (wpE defs 𝒱 (c : Thread nD τ) bd) Set.univ (k ⟨⟩) Q)
          -∗ wp frame (wpE defs 𝒱 (c : Thread nD τ) bd) Set.univ
            (.op (.store M13 (Rect.unit (s := S64x1408) o S64x128.size h) w Finset.univ h1 h2) k) Q) := by
  subst hw
  iintro H Hk
  iapply (wp_store 𝒱 (c : Thread nD τ) bd Set.univ (m := M13) (r := Rect.unit (s := S64x1408) o S64x128.size h) (f := hMid a 5 e f)
    (S := Finset.univ) (hS := Finset.subset_univ _)) $$ H
  iintro H
  iapply Hk
  have hs := (write_cols_bf (h := h) ho (hMid a 5 e f) (hT5 a e)).trans (hMid_last a e f)
  iapply (Entails.of_eq (congrArg (fun g : S64x1408.Idx → Elt F .bf16 => (M13.view.loc (c : Thread nD τ) ↦{fullShare} g : sProp 𝕄)) hs))
  iexact H

theorem wp_st_acc {Q : α → sProp 𝕄} (q : ℕ) (hq : q < 4) {e : Fin 32} {f : S64x4096.Idx → Elt F .f32} {o : Fin 2 → ℕ} {h} {w : S64x1024.Idx → Elt F .f32} {h1 h2}
    {k : PUnit → Prog (TpuEff nD τ sig (Elt F) Λ .tc) α} (ho : o = ![0, 1024 * q])
    (hw : w = k0_pay15 (cCol a e) (hVal a e) (dTile a q hq e) (accTile q hq f) (sdTile a q hq e)) :
    (M14.view.loc (c : Thread nD τ) ↦{fullShare} accMid a q e f)
      ⊢ iprop(((M14.view.loc (c : Thread nD τ) ↦{fullShare} accMid a (q + 1) e f) -∗ wp frame (wpE defs 𝒱 (c : Thread nD τ) bd) Set.univ (k ⟨⟩) Q)
          -∗ wp frame (wpE defs 𝒱 (c : Thread nD τ) bd) Set.univ
            (.op (.store M14 (Rect.unit (s := S64x4096) o S64x1024.size h) w Finset.univ h1 h2) k) Q) := by
  subst hw
  iintro H Hk
  iapply (wp_store 𝒱 (c : Thread nD τ) bd Set.univ (m := M14) (r := Rect.unit (s := S64x4096) o S64x1024.size h) (f := accMid a q e f)
    (S := Finset.univ) (hS := Finset.subset_univ _)) $$ H
  iintro H
  iapply Hk
  have hs := (write_cols_f (h := h) ho (accMid a q e f) (k0_pay15 (cCol a e) (hVal a e) (dTile a q hq e) (accTile q hq f) (sdTile a q hq e))).trans
    (accMid_succ a hq e f)
  iapply (Entails.of_eq (congrArg (fun g : S64x4096.Idx → Elt F .f32 => (M14.view.loc (c : Thread nD τ) ↦{fullShare} g : sProp 𝕄)) hs))
  iexact H

theorem wp_ld_acc {Q : α → sProp 𝕄} (q : ℕ) (hq : q < 4) {e : Fin 32} {f : S64x4096.Idx → Elt F .f32} {o : Fin 2 → ℕ} {h} {h1}
    {k : (S64x1024.Idx → Elt F .f32) → Prog (TpuEff nD τ sig (Elt F) Λ .tc) α} (ho : o = ![0, 1024 * q]) :
    (M14.view.loc (c : Thread nD τ) ↦{fullShare} accMid a q e f)
      ⊢ iprop(((M14.view.loc (c : Thread nD τ) ↦{fullShare} accMid a q e f) -∗ wp frame (wpE defs 𝒱 (c : Thread nD τ) bd) Set.univ (k (accTile q hq f)) Q)
          -∗ wp frame (wpE defs 𝒱 (c : Thread nD τ) bd) Set.univ
            (.op (.load M14 (Rect.unit (s := S64x4096) o S64x1024.size h).toLoadRect h1) k) Q) := by
  subst ho
  iintro H Hk
  iapply (wp_load_rect 𝒱 (c : Thread nD τ) bd Set.univ (m := M14) (r := Rect.unit (s := S64x4096) ![0, 1024 * q] S64x1024.size h) (f := accMid a q e f)
    (S := Finset.univ) (hS := Finset.subset_univ _)) $$ H
  iintro H
  rw [show (M14.access (Rect.unit (s := S64x4096) ![0, 1024 * q] S64x1024.size h)).read (Elt F) (accMid a q e f) = accTile q hq f from by
    funext y
    show accMid a q e f _ = f _
    have hy : ∀ i : S64x4096.Idx, 1024 * q ≤ (i 1 : ℕ) → accMid a q e f i = f i := fun i hi => by
      unfold accMid; rw [if_neg (by omega)]
    rw [hy _ (by show 1024 * q ≤ 1024 * q + 1 * (y 1 : ℕ); omega)]
    refine congrArg f (funext fun t => Fin.ext ?_)
    fin_cases t
    · show 0 + 1 * (y 0 : ℕ) = (y 0 : ℕ); omega
    · show 1024 * q + 1 * (y 1 : ℕ) = 1024 * q + (y 1 : ℕ); omega]
  iapply Hk
  iexact H

/-- A load whose value is not used. -/
theorem wp_ld_dead {Q : α → sProp 𝕄} {cs : CoreSpace} {s : Shape} {ty : EltTy} {m : Memref sig .tc cs s ty} {r : LoadRect s} {hl : m.view.LoadsAt r}
    {k : (r.shape.Idx → Elt F ty) → Prog (TpuEff nD τ sig (Elt F) Λ .tc) α} {k' : Prog (TpuEff nD τ sig (Elt F) Λ .tc) α} {q : PosShare TreeShare}
    {f : Buf (Elt F) (m.view.loc (c : Thread nD τ))} (hk : ∀ v, k v = k') :
    (m.view.loc (c : Thread nD τ) ↦{q} f)
      ⊢ iprop(((m.view.loc (c : Thread nD τ) ↦{q} f) -∗ wp frame (wpE defs 𝒱 (c : Thread nD τ) bd) Set.univ k' Q)
          -∗ wp frame (wpE defs 𝒱 (c : Thread nD τ) bd) Set.univ (.op (.load m r hl) k) Q) := by
  iintro H Hk
  iapply (wp_load 𝒱 (c : Thread nD τ) bd Set.univ (S := Finset.univ) (hS := Finset.subset_univ _)) $$ H
  iintro H
  rw [hk]
  iapply Hk
  iexact H

/-- A load of a whole buffer. -/
theorem wp_ld_whole {Q : α → sProp 𝕄} {cs : CoreSpace} {s : Shape} {ty : EltTy} {m : Memref sig .tc cs s ty} {o : Fin s.rank → ℕ} {h} {hl : m.view.LoadsAt (Rect.unit o s.size h).toLoadRect}
    {k : (s.Idx → Elt F ty) → Prog (TpuEff nD τ sig (Elt F) Λ .tc) α} {q : PosShare TreeShare}
    {f : Buf (Elt F) (m.view.loc (c : Thread nD τ))} (v : s.Idx → Elt F ty) (ho : o = fun _ => 0) (hv : m.view.read (Elt F) f = v) :
    (m.view.loc (c : Thread nD τ) ↦{q} f)
      ⊢ iprop(((m.view.loc (c : Thread nD τ) ↦{q} f) -∗ wp frame (wpE defs 𝒱 (c : Thread nD τ) bd) Set.univ (k v) Q)
          -∗ wp frame (wpE defs 𝒱 (c : Thread nD τ) bd) Set.univ (.op (.load m (Rect.unit o s.size h).toLoadRect hl) k) Q) := by
  subst ho hv
  iintro H Hk
  iapply (wp_load 𝒱 (c : Thread nD τ) bd Set.univ (S := Finset.univ) (hS := Finset.subset_univ _)) $$ H
  iintro H
  rw [show m.view.readAt (Elt F) (Rect.unit (fun _ => 0) s.size h).toLoadRect f = m.view.read (Elt F) f from by
    funext x
    show m.view.read (Elt F) f _ = _
    refine congrArg _ (funext fun t => Fin.ext ?_)
    show 0 + 1 * (x t : ℕ) = x t
    omega]
  iapply Hk
  iexact H

/-- Word `n` of the list of active experts. -/
def ordAt (f : S33.Idx → BitVec 32) (n : ℕ) : BitVec 32 := if h : n < 33 then f (ValueIdx.ix1 ⟨n, h⟩) else 0

theorem wp_ld_ord {Q : α → sProp 𝕄} {n : ℕ} {q : PosShare TreeShare} {f : S33.Idx → BitVec 32} {o : Fin 1 → ℕ} {h} {hn} {hw}
    {k : BitVec 32 → Prog (TpuEff nD τ sig (Elt F) Λ .tc) α} (ho : o = ![n]) :
    (M16.view.loc (c : Thread nD τ) ↦{q} f)
      ⊢ iprop(((M16.view.loc (c : Thread nD τ) ↦{q} f) -∗ wp frame (wpE defs 𝒱 (c : Thread nD τ) bd) Set.univ (k (ordAt f n)) Q)
          -∗ wp frame (wpE defs 𝒱 (c : Thread nD τ) bd) Set.univ
            ((smemLoad (Val := Elt F) (nD := nD) (τ := τ) (Λ := Λ) M16 (Rect.unit (s := S33) o S1.size h) hn hw).bind k) Q) := by
  subst ho
  rw [show (smemLoad (Val := Elt F) (nD := nD) (τ := τ) (Λ := Λ) M16 (Rect.unit (s := S33) ![n] S1.size h) hn hw).bind k
    = smemLoadElt M16 (Rect.unit (s := S33) ![n] S1.size h) (View.loads_smem_one hw hn) (Shape.Idx.first (hn.symm ▸ Nat.one_pos)) k from rfl]
  iintro H Hk
  iapply (wp_smemLoadElt 𝒱 (c : Thread nD τ) bd Set.univ (m := M16) (r := Rect.unit (s := S33) ![n] S1.size h) (f := f)
    (hw := View.loads_smem_one hw hn) (x := Shape.Idx.first (hn.symm ▸ Nat.one_pos)) (k := k)
    (S := Finset.univ) (hS := Finset.subset_univ _)) $$ H
  iintro H
  rw [show ordAt f n = (M16.access (Rect.unit (s := S33) ![n] S1.size h)).read (Elt F) f (Shape.Idx.first (hn.symm ▸ Nat.one_pos)) from by
    have hn' : n < 33 := by have := h 0; simp at this; omega
    unfold ordAt
    rw [dif_pos hn']
    show f _ = f _
    refine congrArg f (funext fun t => Fin.ext ?_)
    fin_cases t
    show n = n + 1 * ((Shape.Idx.first (s := S1) (hn.symm ▸ Nat.one_pos) 0 : Fin _) : ℕ)
    have := (Shape.Idx.first (s := S1) (hn.symm ▸ Nat.one_pos) 0).isLt
    simp at this
    omega]
  iapply Hk $$ H

end Cert.Kernel.Hand
-- ==== Proof.Kernel.Cells.lean ====
/-
  A slot's semaphore cells: the transfers in flight on each, the cell at rest, and the waits.
-/
module

public import proofs.«01_k».proof.Proof.Kernel.Steps

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-- The waits the core recorded, whatever they are. -/
def ow : sProp 𝕄 := iprop(∃ W, owes (c : Thread nD τ) 0 W)

/-- Gate tile `j` and up tile `j` of expert `e` in flight into slot `s`. -/
def gFly (s j : ℕ) (e : Fin 32) : sProp 𝕄 :=
  Flying (c : Thread nD τ) (.dma (gsem s j)) (JG (gLen j) + JG (gLen (6 + j))) iprop(gLand c a s j e ∗ gLand c a s (6 + j) e) 0
def gHalf (s j : ℕ) (e : Fin 32) : sProp 𝕄 :=
  Flying (c : Thread nD τ) (.dma (gsem s j)) (JG (gLen j) + JG (gLen (6 + j))) iprop(gLand c a s j e ∗ gLand c a s (6 + j) e) (0 + JG (gLen j))
def gDone (s j : ℕ) (e : Fin 32) : sProp 𝕄 :=
  iprop(gLand c a s j e ∗ gLand c a s (6 + j) e ∗ semVal ((c : Thread nD τ), .dma (gsem s j)) 0)
def gIdle (s j : ℕ) : sProp 𝕄 :=
  iprop(gHome c a s j ∗ gHome c a s (6 + j) ∗ semVal ((c : Thread nD τ), .dma (gsem s j)) 0)

/-- Cell 0 of a slot also carries the two rows of scales. -/
def T0 : ℕ := JG (gLen 0) + JG (gLen 6) + JSG + JSD
def P0 (s : ℕ) (e : Fin 32) : sProp 𝕄 := iprop(gLand c a s 0 e ∗ gLand c a s 6 e ∗ sgLand c a s e ∗ sdLand c a s e)
def zFly (s : ℕ) (e : Fin 32) (u : ℕ) : sProp 𝕄 := Flying (c : Thread nD τ) (.dma (gsem s 0)) T0 (P0 c a s e) u
def zDone (s : ℕ) (e : Fin 32) : sProp 𝕄 := iprop(P0 c a s e ∗ semVal ((c : Thread nD τ), .dma (gsem s 0)) 0)
def zIdle (s : ℕ) : sProp 𝕄 :=
  iprop((gHome c a s 0 ∗ gHome c a s 6 ∗ sgHome c a s ∗ sdHome c a s) ∗ semVal ((c : Thread nD τ), .dma (gsem s 0)) 0)
/-- Cell 0 with its two tiles issued and the two rows of scales not yet. -/
def zHalf (s : ℕ) (e : Fin 32) : sProp 𝕄 :=
  MixedBatch EC (c : Thread nD τ) (.dma (gsem s 0)) () (A4 (JG (gLen 0)) (JG (gLen 6)) JSG JSD)
    (D4 (gLand c a s 0 e) (gLand c a s 6 e) (sgLand c a s e) (sdLand c a s e)) 2 0

def dFly (s q : ℕ) (e : Fin 32) : sProp 𝕄 := Flying (c : Thread nD τ) (.dma (dsem s q)) JD (dLand c a s q e) 0
def dDone (s q : ℕ) (e : Fin 32) : sProp 𝕄 := iprop(dLand c a s q e ∗ semVal ((c : Thread nD τ), .dma (dsem s q)) 0)
def dIdle (s q : ℕ) : sProp 𝕄 := iprop(dHome c a s q ∗ semVal ((c : Thread nD τ), .dma (dsem s q)) 0)

theorem gDone_idle (s j : ℕ) (e : Fin 32) :
    iprop(gLand c a s j e ∗ gLand c a s (6 + j) e ∗ semVal ((c : Thread nD τ), .dma (gsem s j)) 0) ⊢ gIdle c a s j := by
  unfold gIdle
  iintro ⟨H1, H2, H3⟩
  isplitl [H1]; · iapply (gLand_home c a s j e) $$ H1
  isplitl [H2]; · iapply (gLand_home c a s (6 + j) e) $$ H2
  iexact H3
theorem dDone_idle (s q : ℕ) (e : Fin 32) :
    iprop(dLand c a s q e ∗ semVal ((c : Thread nD τ), .dma (dsem s q)) 0) ⊢ dIdle c a s q := by
  unfold dIdle
  iintro ⟨H1, H3⟩
  isplitl [H1]; · iapply (dLand_home c a s q e) $$ H1
  iexact H3

/-! ## Waits -/

theorem wp_wait_g1 {Q : α → sProp 𝕄} (s j L : ℕ) (e : Fin 32) {sm : DmaSem sig} {o : Fin 3 → ℕ} {h} {hr} {hq : (⟨3, ![1, L, 4096]⟩ : Shape).Squeezes ⟨2, ![L, 4096]⟩}
    {sp' : Space} {s' : Shape} {e' : EltTy} {srcw : Memref sig .tc sp' s' e'} {h1 h2}
    {k : PUnit → Prog (TpuEff nD τ sig (Elt F) Λ .tc) α} (hL : gLen j = L) (hsm : sm = gsem s j) :
    iprop(gFly c a s j e ∗ ow c)
      ⊢ iprop((iprop(gHalf c a s j e ∗ ow c) -∗ wp frame (wpE defs 𝒱 (c : Thread nD τ) bd) Set.univ (k ⟨⟩) Q)
          -∗ wp frame (wpE defs 𝒱 (c : Thread nD τ) bd) Set.univ
            (.op (.waitDma2 sm srcw ((M9.slice (Rect.unit (s := S2x2816x4096) o ![1, L, 4096] h) hr).squeeze ⟨2, ![L, 4096]⟩ hq) h1 h2) k) Q) := by
  subst hL hsm
  unfold gFly gHalf ow
  exact wp_wait_more 𝒱 (c : Thread nD τ) bd (wait_amount_g rfl) (by omega)

theorem wp_wait_g2 {Q : α → sProp 𝕄} (s j L : ℕ) (e : Fin 32) {sm : DmaSem sig} {o : Fin 3 → ℕ} {h} {hr} {hq : (⟨3, ![1, L, 4096]⟩ : Shape).Squeezes ⟨2, ![L, 4096]⟩}
    {sp' : Space} {s' : Shape} {e' : EltTy} {srcw : Memref sig .tc sp' s' e'} {h1 h2}
    {k : PUnit → Prog (TpuEff nD τ sig (Elt F) Λ .tc) α} (hL : gLen (6 + j) = L) (hsm : sm = gsem s j) :
    iprop(gHalf c a s j e ∗ ow c)
      ⊢ iprop((iprop((gLand c a s j e ∗ gLand c a s (6 + j) e ∗ semVal ((c : Thread nD τ), .dma (gsem s j)) 0) ∗ ow c) -∗ wp frame (wpE defs 𝒱 (c : Thread nD τ) bd) Set.univ (k ⟨⟩) Q)
          -∗ wp frame (wpE defs 𝒱 (c : Thread nD τ) bd) Set.univ
            (.op (.waitDma2 sm srcw ((M9.slice (Rect.unit (s := S2x2816x4096) o ![1, L, 4096] h) hr).squeeze ⟨2, ![L, 4096]⟩ hq) h1 h2) k) Q) := by
  subst hL hsm
  unfold gHalf ow
  iintro H Hk
  iapply (wp_wait_last 𝒱 (c : Thread nD τ) bd (wait_amount_g rfl) (by omega)) $$ H
  iintro ⟨⟨H1, H2⟩, Hv, HO⟩
  iapply Hk
  isplitr [HO]
  · isplitl [H1]; · iexact H1
    isplitl [H2] <;> iassumption
  iexact HO

theorem wp_wait_d {Q : α → sProp 𝕄} (s q : ℕ) (e : Fin 32) {sm : DmaSem sig} {o : Fin 3 → ℕ} {h} {hr} {hq : S1x1024x1408.Squeezes S1024x1408}
    {sp' : Space} {s' : Shape} {e' : EltTy} {srcw : Memref sig .tc sp' s' e'} {h1 h2}
    {k : PUnit → Prog (TpuEff nD τ sig (Elt F) Λ .tc) α} (hsm : sm = dsem s q) :
    iprop(dFly c a s q e ∗ ow c)
      ⊢ iprop((iprop((dLand c a s q e ∗ semVal ((c : Thread nD τ), .dma (dsem s q)) 0) ∗ ow c) -∗ wp frame (wpE defs 𝒱 (c : Thread nD τ) bd) Set.univ (k ⟨⟩) Q)
          -∗ wp frame (wpE defs 𝒱 (c : Thread nD τ) bd) Set.univ
            (.op (.waitDma2 sm srcw ((M10.slice (Rect.unit (s := S2x4096x1408) o S1x1024x1408.size h) hr).squeeze S1024x1408 hq) h1 h2) k) Q) := by
  subst hsm
  unfold dFly ow
  iintro H Hk
  iapply (wp_wait_last 𝒱 (c : Thread nD τ) bd (J := JD) rfl (by omega)) $$ H
  iintro ⟨H1, Hv, HO⟩
  iapply Hk
  isplitr [HO]
  · isplitl [H1]; · iexact H1
    iexact Hv
  iexact HO

theorem wp_wait_zg {Q : α → sProp 𝕄} (s u : ℕ) (e : Fin 32) {sm : DmaSem sig} {o : Fin 3 → ℕ} {h} {hr} {hq : S1x256x4096.Squeezes S256x4096}
    {sp' : Space} {s' : Shape} {e' : EltTy} {srcw : Memref sig .tc sp' s' e'} {h1 h2}
    {k : PUnit → Prog (TpuEff nD τ sig (Elt F) Λ .tc) α} (hu : u + JG 256 ≤ T0) (hsm : sm = gsem s 0) :
    iprop(zFly c a s e u ∗ ow c)
      ⊢ iprop((iprop(zFly c a s e (u + JG 256) ∗ ow c) -∗ wp frame (wpE defs 𝒱 (c : Thread nD τ) bd) Set.univ (k ⟨⟩) Q)
          -∗ wp frame (wpE defs 𝒱 (c : Thread nD τ) bd) Set.univ
            (.op (.waitDma2 sm srcw ((M9.slice (Rect.unit (s := S2x2816x4096) o S1x256x4096.size h) hr).squeeze S256x4096 hq) h1 h2) k) Q) := by
  subst hsm
  unfold zFly ow
  exact wp_wait_more 𝒱 (c : Thread nD τ) bd rfl hu

theorem wp_wait_zsg {Q : α → sProp 𝕄} (s u : ℕ) (e : Fin 32) {sm : DmaSem sig} {o : Fin 3 → ℕ} {h} {hr} {hq : S1x1x2816.Squeezes S1x2816}
    {sp' : Space} {s' : Shape} {e' : EltTy} {srcw : Memref sig .tc sp' s' e'} {h1 h2}
    {k : PUnit → Prog (TpuEff nD τ sig (Elt F) Λ .tc) α} (hu : u + JSG ≤ T0) (hsm : sm = gsem s 0) :
    iprop(zFly c a s e u ∗ ow c)
      ⊢ iprop((iprop(zFly c a s e (u + JSG) ∗ ow c) -∗ wp frame (wpE defs 𝒱 (c : Thread nD τ) bd) Set.univ (k ⟨⟩) Q)
          -∗ wp frame (wpE defs 𝒱 (c : Thread nD τ) bd) Set.univ
            (.op (.waitDma2 sm srcw ((M11.slice (Rect.unit (s := S2x1x2816) o S1x1x2816.size h) hr).squeeze S1x2816 hq) h1 h2) k) Q) := by
  subst hsm
  unfold zFly ow
  exact wp_wait_more 𝒱 (c : Thread nD τ) bd rfl hu

theorem wp_wait_zsd {Q : α → sProp 𝕄} (s u : ℕ) (e : Fin 32) {sm : DmaSem sig} {o : Fin 3 → ℕ} {h} {hr} {hq : S1x1x4096.Squeezes S1x4096}
    {sp' : Space} {s' : Shape} {e' : EltTy} {srcw : Memref sig .tc sp' s' e'} {h1 h2}
    {k : PUnit → Prog (TpuEff nD τ sig (Elt F) Λ .tc) α} (hu : u + JSD = T0) (hsm : sm = gsem s 0) :
    iprop(zFly c a s e u ∗ ow c)
      ⊢ iprop((iprop(((gLand c a s 0 e ∗ gLand c a s 6 e ∗ sgLand c a s e ∗ sdLand c a s e) ∗ semVal ((c : Thread nD τ), .dma (gsem s 0)) 0) ∗ ow c) -∗ wp frame (wpE defs 𝒱 (c : Thread nD τ) bd) Set.univ (k ⟨⟩) Q)
          -∗ wp frame (wpE defs 𝒱 (c : Thread nD τ) bd) Set.univ
            (.op (.waitDma2 sm srcw ((M12.slice (Rect.unit (s := S2x1x4096) o S1x1x4096.size h) hr).squeeze S1x4096 hq) h1 h2) k) Q) := by
  subst hsm
  unfold zFly P0 ow
  iintro H Hk
  iapply (wp_wait_last 𝒱 (c : Thread nD τ) bd (J := JSD) rfl hu) $$ H
  iintro ⟨H1, Hv, HO⟩
  iapply Hk
  isplitr [HO]
  · isplitl [H1]; · iexact H1
    iexact Hv
  iexact HO

/-- A hand rule leaves its continuation applied, `(Prog.ret x).bind k`: the next statement is `k x`. -/
theorem ret_bind' {E : Type → Type} {β γ : Type} (x : β) (k : β → Prog E γ) : (Prog.ret x).bind k = k x := rfl

end Cert.Kernel.Hand
-- ==== Proof.Kernel.Enq.lean ====
/-
  Issuing a slot's transfers: each cell goes from rest, through what is half issued, to in flight.
-/
module

public import proofs.«01_k».proof.Proof.Kernel.Cells

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-- A batch of two tiles, of four transfers in the order of the main loop, and of four in the order of the start. -/
def B2 (s j : ℕ) (e : Fin 32) (n : ℕ) : sProp 𝕄 :=
  MixedBatch EC (c : Thread nD τ) (.dma (gsem s j)) () (A2 (JG (gLen j)) (JG (gLen (6 + j)))) (D2 (gLand c a s j e) (gLand c a s (6 + j) e)) n 0
def B4 (s : ℕ) (e : Fin 32) (n : ℕ) : sProp 𝕄 :=
  MixedBatch EC (c : Thread nD τ) (.dma (gsem s 0)) () (A4 (JG (gLen 0)) (JG (gLen 6)) JSG JSD)
    (D4 (gLand c a s 0 e) (gLand c a s 6 e) (sgLand c a s e) (sdLand c a s e)) n 0
def BP (s : ℕ) (e : Fin 32) (n : ℕ) : sProp 𝕄 :=
  MixedBatch EC (c : Thread nD τ) (.dma (gsem s 0)) () (A4 JSG JSD (JG (gLen 0)) (JG (gLen 6)))
    (D4 (sgLand c a s e) (sdLand c a s e) (gLand c a s 0 e) (gLand c a s 6 e)) n 0
def gOpen (s j : ℕ) (e : Fin 32) : sProp 𝕄 := iprop(gHome c a s (6 + j) ∗ B2 c a s j e 1)
def zOpen (s : ℕ) (e : Fin 32) : sProp 𝕄 := iprop(gHome c a s 6 ∗ B4 c a s e 1)
def pOpen (s : ℕ) (e : Fin 32) : sProp 𝕄 := iprop((sdHome c a s ∗ gHome c a s 0 ∗ gHome c a s 6) ∗ BP c a s e 1)
def pOpen2 (s : ℕ) (e : Fin 32) : sProp 𝕄 := iprop((gHome c a s 0 ∗ gHome c a s 6) ∗ BP c a s e 2)
def pOpen3 (s : ℕ) (e : Fin 32) : sProp 𝕄 := iprop(gHome c a s 6 ∗ BP c a s e 3)

theorem gLen_pos (m : ℕ) : 0 < gLen m := by unfold gLen; split <;> decide

theorem Flying.mono {c : Thread nD τ} {sm : SemLoc sig} {T T' u : ℕ} {P P' : sProp 𝕄} (hT : T = T') (hP : P ⊢ P') :
    Flying c sm T P u ⊢ Flying c sm T' P' u := by
  subst hT
  unfold Flying
  iintro ⟨%n, %A, %D, %hh, H⟩
  iexists n, A, D
  isplitr
  · ipureintro; exact ⟨hh.1, hh.2.1, hh.2.2.trans hP⟩
  iexact H

theorem B4_close (s : ℕ) (e : Fin 32) : B4 c a s e 4 ⊢ zFly c a s e 0 :=
  close4 c (JG_pos (gLen_pos 0)) (JG_pos (gLen_pos 6)) JSG_pos JSD_pos
theorem BP_close (s : ℕ) (e : Fin 32) : BP c a s e 4 ⊢ zFly c a s e 0 :=
  (close4 c JSG_pos JSD_pos (JG_pos (gLen_pos 0)) (JG_pos (gLen_pos 6))).trans
    (Flying.mono (by unfold T0; omega) (by
      unfold P0
      iintro ⟨H1, H2, H3, H4⟩
      isplitl [H3]; · iexact H3
      isplitl [H4]; · iexact H4
      isplitl [H1]; · iexact H1
      iexact H2))

theorem wp_enq_g1 {Q : α → sProp 𝕄} (s j : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen j = L) (ho : o = ![s, gOff j, 0]) (ho' : o' = ![v.toNat, gOff j, 0]) (he : v.toNat = e) (hsm : sm = gsem s j) :
    gIdle c a s j
      ⊢ iprop((gOpen c a s j e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold gIdle gOpen B2
  iintro ⟨H1, H2, Hv⟩ HK
  imod (mixedBatch_alloc' (Lvl := ℕ) EC (c : Thread nD τ) () (A2 (JG (gLen j)) (JG (gLen (6 + j)))) (D2 (gLand c a s j e) (gLand c a s (6 + j) e)) (E := Set.univ)) $$ Hv with HB
  iapply (wp_enq_g 𝒱 c bd a s j hL ho ho' he hsm (by decide : 0 < 2) (by subst hL; rfl) .rfl (A := A2 (JG (gLen j)) (JG (gLen (6 + j)))) (D := D2 (gLand c a s j e) (gLand c a s (6 + j) e))) $$ [H1 HB]
  · isplitl [H1]; · iexact H1
    iexact HB
  iintro HB
  iapply HK
  isplitl [H2]; · iexact H2
  iexact HB
theorem wp_enq_g2 {Q : α → sProp 𝕄} (s j : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen (6 + j) = L) (ho : o = ![s, gOff (6 + j), 0]) (ho' : o' = ![v.toNat, gOff (6 + j), 0]) (he : v.toNat = e) (hsm : sm = gsem s j) :
    gOpen c a s j e
      ⊢ iprop((gFly c a s j e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold gOpen B2
  iintro ⟨H1, HB⟩ HK
  iapply (wp_enq_g 𝒱 c bd a s (6 + j) hL ho ho' he hsm (by decide : 1 < 2) (by subst hL; rfl) .rfl (A := A2 (JG (gLen j)) (JG (gLen (6 + j)))) (D := D2 (gLand c a s j e) (gLand c a s (6 + j) e))) $$ [H1 HB]
  · isplitl [H1]; · iexact H1
    iexact HB
  iintro HB
  iapply HK
  unfold gFly
  iapply (close2 c (JG_pos (gLen_pos j)) (JG_pos (gLen_pos (6 + j)))) $$ HB
theorem wp_enq_d1 {Q : α → sProp 𝕄} (s q : ℕ) {v : BitVec 32} {e : Fin 32} {o o' : Fin 3 → ℕ} {h h'} {hr hr'}
    {hq hq' : S1x1024x1408.Squeezes S1024x1408} {sm : DmaSem sig} {h1 h2 h3}
    {k : PUnit → Prog (TpuEff nD τ sig (Elt F) Λ .tc) α}
    (ho : o = ![s, 1024 * q, 0]) (ho' : o' = ![v.toNat, 1024 * q, 0]) (he : v.toNat = e) (hsm : sm = dsem s q) :
    dIdle c a s q
      ⊢ iprop((dFly c a s q e -∗ wp frame (wpE defs 𝒱 (c : Thread nD τ) bd) Set.univ (k ⟨⟩) Q)
          -∗ wp frame (wpE defs 𝒱 (c : Thread nD τ) bd) Set.univ
            (.op (.enqueueDma ((M7.slice (Rect.unit (s := S32x4096x1408) o' S1x1024x1408.size h') hr').squeeze S1024x1408 hq')
              (.here ((M10.slice (Rect.unit (s := S2x4096x1408) o S1x1024x1408.size h) hr).squeeze S1024x1408 hq)) (.dma sm) h1 h2 h3) k) Q) := by
  unfold dIdle dFly
  iintro ⟨H1, Hv⟩ HK
  imod (mixedBatch_alloc' (Lvl := ℕ) EC (c : Thread nD τ) () (A1 JD) (D1 (dLand c a s q e)) (E := Set.univ)) $$ Hv with HB
  iapply (wp_enq_d 𝒱 c bd a s q ho ho' he hsm (by decide : 0 < 1) rfl .rfl (A := A1 JD) (D := D1 (dLand c a s q e))) $$ [H1 HB]
  · isplitl [H1]; · iexact H1
    iexact HB
  iintro HB
  iapply HK
  iapply (close1 c JD_pos) $$ HB
theorem wp_enq_z1 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 0 = L) (ho : o = ![s, gOff 0, 0]) (ho' : o' = ![v.toNat, gOff 0, 0]) (he : v.toNat = e) (hsm : sm = gsem s 0) :
    gIdle c a s 0
      ⊢ iprop((zOpen c a s e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold gIdle zOpen B4
  iintro ⟨H1, H2, Hv⟩ HK
  imod (mixedBatch_alloc' (Lvl := ℕ) EC (c : Thread nD τ) () (A4 (JG (gLen 0)) (JG (gLen 6)) JSG JSD) (D4 (gLand c a s 0 e) (gLand c a s 6 e) (sgLand c a s e) (sdLand c a s e)) (E := Set.univ)) $$ Hv with HB
  iapply (wp_enq_g 𝒱 c bd a s 0 hL ho ho' he hsm (by decide : 0 < 4) (by subst hL; rfl) .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  isplitl [H2]; · iexact H2
  iexact HB
theorem wp_enq_z2 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 6 = L) (ho : o = ![s, gOff 6, 0]) (ho' : o' = ![v.toNat, gOff 6, 0]) (he : v.toNat = e) (hsm : sm = gsem s 0) :
    zOpen c a s e
      ⊢ iprop((zHalf c a s e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold zOpen B4 zHalf
  iintro ⟨H1, HB⟩ HK
  iapply (wp_enq_g 𝒱 c bd a s 6 hL ho ho' he hsm (by decide : 1 < 4) (by subst hL; rfl) .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  iexact HB
theorem wp_enq_z3 {Q : α → sProp 𝕄} (s : ℕ) {v : BitVec 32} {e : Fin 32} {o : Fin 3 → ℕ} {o' : Fin 2 → ℕ} {h h'} {hr hr'}
    {hq : S1x1x2816.Squeezes S1x2816} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    iprop(sgHome c a s ∗ zHalf c a s e)
      ⊢ iprop((B4 c a s e 3 -∗ wp frame (wpE defs 𝒱 (c : Thread nD τ) bd) Set.univ (k ⟨⟩) Q)
          -∗ wp frame (wpE defs 𝒱 (c : Thread nD τ) bd) Set.univ
            (.op (.enqueueDma (M4.slice (Rect.unit (s := S32x2816) o' S1x2816.size h') hr')
              (.here ((M11.slice (Rect.unit (s := S2x1x2816) o S1x1x2816.size h) hr).squeeze S1x2816 hq)) (.dma sm) h1 h2 h3) k) Q) := by
  unfold B4 zHalf
  iintro ⟨H1, HB⟩ HK
  iapply (wp_enq_sg 𝒱 c bd a s ho ho' he hsm (by decide : 2 < 4) rfl .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  iexact HB
theorem wp_enq_z4 {Q : α → sProp 𝕄} (s : ℕ) {v : BitVec 32} {e : Fin 32} {o : Fin 3 → ℕ} {o' : Fin 2 → ℕ} {h h'} {hr hr'}
    {hq : S1x1x4096.Squeezes S1x4096} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    iprop(sdHome c a s ∗ B4 c a s e 3)
      ⊢ iprop((zFly c a s e 0 -∗ wp frame (wpE defs 𝒱 (c : Thread nD τ) bd) Set.univ (k ⟨⟩) Q)
          -∗ wp frame (wpE defs 𝒱 (c : Thread nD τ) bd) Set.univ
            (.op (.enqueueDma (M5.slice (Rect.unit (s := S32x4096) o' S1x4096.size h') hr')
              (.here ((M12.slice (Rect.unit (s := S2x1x4096) o S1x1x4096.size h) hr).squeeze S1x4096 hq)) (.dma sm) h1 h2 h3) k) Q) := by
  unfold B4
  iintro ⟨H1, HB⟩ HK
  iapply (wp_enq_sd 𝒱 c bd a s ho ho' he hsm (by decide : 3 < 4) rfl .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  iapply (show B4 c a s e (3 + 1) ⊢ _ from B4_close c a s e)
  unfold B4; iexact HB
theorem wp_enq_p1 {Q : α → sProp 𝕄} (s : ℕ) {v : BitVec 32} {e : Fin 32} {o : Fin 3 → ℕ} {o' : Fin 2 → ℕ} {h h'} {hr hr'}
    {hq : S1x1x2816.Squeezes S1x2816} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    zIdle c a s
      ⊢ iprop((pOpen c a s e -∗ wp frame (wpE defs 𝒱 (c : Thread nD τ) bd) Set.univ (k ⟨⟩) Q)
          -∗ wp frame (wpE defs 𝒱 (c : Thread nD τ) bd) Set.univ
            (.op (.enqueueDma (M4.slice (Rect.unit (s := S32x2816) o' S1x2816.size h') hr')
              (.here ((M11.slice (Rect.unit (s := S2x1x2816) o S1x1x2816.size h) hr).squeeze S1x2816 hq)) (.dma sm) h1 h2 h3) k) Q) := by
  unfold zIdle pOpen BP
  iintro ⟨⟨H1, H2, H3, H4⟩, Hv⟩ HK
  imod (mixedBatch_alloc' (Lvl := ℕ) EC (c : Thread nD τ) () (A4 JSG JSD (JG (gLen 0)) (JG (gLen 6))) (D4 (sgLand c a s e) (sdLand c a s e) (gLand c a s 0 e) (gLand c a s 6 e)) (E := Set.univ)) $$ Hv with HB
  iapply (wp_enq_sg 𝒱 c bd a s ho ho' he hsm (by decide : 0 < 4) rfl .rfl (A := A4 JSG JSD (JG (gLen 0)) (JG (gLen 6))) (D := D4 (sgLand c a s e) (sdLand c a s e) (gLand c a s 0 e) (gLand c a s 6 e))) $$ [H3 HB]
  · isplitl [H3]; · iexact H3
    iexact HB
  iintro HB
  iapply HK
  isplitr [HB]
  · isplitl [H4]; · iexact H4
    isplitl [H1]; · iexact H1
    iexact H2
  iexact HB
theorem wp_enq_p2 {Q : α → sProp 𝕄} (s : ℕ) {v : BitVec 32} {e : Fin 32} {o : Fin 3 → ℕ} {o' : Fin 2 → ℕ} {h h'} {hr hr'}
    {hq : S1x1x4096.Squeezes S1x4096} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    pOpen c a s e
      ⊢ iprop((pOpen2 c a s e -∗ wp frame (wpE defs 𝒱 (c : Thread nD τ) bd) Set.univ (k ⟨⟩) Q)
          -∗ wp frame (wpE defs 𝒱 (c : Thread nD τ) bd) Set.univ
            (.op (.enqueueDma (M5.slice (Rect.unit (s := S32x4096) o' S1x4096.size h') hr')
              (.here ((M12.slice (Rect.unit (s := S2x1x4096) o S1x1x4096.size h) hr).squeeze S1x4096 hq)) (.dma sm) h1 h2 h3) k) Q) := by
  unfold pOpen pOpen2 BP
  iintro ⟨⟨H1, H2⟩, HB⟩ HK
  iapply (wp_enq_sd 𝒱 c bd a s ho ho' he hsm (by decide : 1 < 4) rfl .rfl (A := A4 JSG JSD (JG (gLen 0)) (JG (gLen 6))) (D := D4 (sgLand c a s e) (sdLand c a s e) (gLand c a s 0 e) (gLand c a s 6 e))) $$ [H1 HB]
  · isplitl [H1]; · iexact H1
    iexact HB
  iintro HB
  iapply HK
  isplitl [H2]; · iexact H2
  iexact HB
theorem wp_enq_p3 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 0 = L) (ho : o = ![s, gOff 0, 0]) (ho' : o' = ![v.toNat, gOff 0, 0]) (he : v.toNat = e) (hsm : sm = gsem s 0) :
    pOpen2 c a s e
      ⊢ iprop((pOpen3 c a s e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold pOpen2 pOpen3 BP
  iintro ⟨⟨H1, H2⟩, HB⟩ HK
  iapply (wp_enq_g 𝒱 c bd a s 0 hL ho ho' he hsm (by decide : 2 < 4) (by subst hL; rfl) .rfl (A := A4 JSG JSD (JG (gLen 0)) (JG (gLen 6))) (D := D4 (sgLand c a s e) (sdLand c a s e) (gLand c a s 0 e) (gLand c a s 6 e))) $$ [H1 HB]
  · isplitl [H1]; · iexact H1
    iexact HB
  iintro HB
  iapply HK
  isplitl [H2]; · iexact H2
  iexact HB
theorem wp_enq_p4 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 6 = L) (ho : o = ![s, gOff 6, 0]) (ho' : o' = ![v.toNat, gOff 6, 0]) (he : v.toNat = e) (hsm : sm = gsem s 0) :
    pOpen3 c a s e
      ⊢ iprop((zFly c a s e 0 -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold pOpen3 BP
  iintro ⟨H1, HB⟩ HK
  iapply (wp_enq_g 𝒱 c bd a s 6 hL ho ho' he hsm (by decide : 3 < 4) (by subst hL; rfl) .rfl (A := A4 JSG JSD (JG (gLen 0)) (JG (gLen 6))) (D := D4 (sgLand c a s e) (sdLand c a s e) (gLand c a s 0 e) (gLand c a s 6 e))) $$ [H1 HB]
  · isplitl [H1]; · iexact H1
    iexact HB
  iintro HB
  iapply HK
  iapply (show BP c a s e (3 + 1) ⊢ _ from BP_close c a s e)
  unfold BP; iexact HB

end Cert.Kernel.Hand
-- ==== Proof.Kernel.Loads.lean ====
/-
  Loads of whole buffers, and the slot of a trip.
-/
module

public import proofs.«01_k».proof.Proof.Kernel.Enq

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- Loading the tokens, and the whole hidden tile. -/
theorem wp_ld_x {α : Type} {Q : α → sProp 𝕄} {h} {hl : M3.view.LoadsAt (Rect.unit (s := S64x4096) ![0, 0] S64x4096.size h).toLoadRect}
    {k : (S64x4096.Idx → Elt F .bf16) → Prog (TpuEff nD τ sig (Elt F) Λ₀ .tc) α} {q : PosShare TreeShare} {f : S64x4096.Idx → Elt F .bf16} :
    (M3.view.loc (c : Thread nD τ) ↦{q} f)
      ⊢ iprop(((M3.view.loc (c : Thread nD τ) ↦{q} f) -∗ wp frame (wpE defs 𝒱 (c : Thread nD τ) bd) Set.univ (k f) Q)
          -∗ wp frame (wpE defs 𝒱 (c : Thread nD τ) bd) Set.univ (.op (.load M3 (Rect.unit (s := S64x4096) ![0, 0] S64x4096.size h).toLoadRect hl) k) Q) :=
  wp_ld_whole 𝒱 c bd (m := M3) (f := f) f (by funext i; fin_cases i <;> rfl) rfl
theorem wp_ld_h {α : Type} {Q : α → sProp 𝕄} {h} {hl : M13.view.LoadsAt (Rect.unit (s := S64x1408) ![0, 0] S64x1408.size h).toLoadRect}
    {k : (S64x1408.Idx → Elt F .bf16) → Prog (TpuEff nD τ sig (Elt F) Λ₀ .tc) α} {q : PosShare TreeShare} {f : S64x1408.Idx → Elt F .bf16} :
    (M13.view.loc (c : Thread nD τ) ↦{q} f)
      ⊢ iprop(((M13.view.loc (c : Thread nD τ) ↦{q} f) -∗ wp frame (wpE defs 𝒱 (c : Thread nD τ) bd) Set.univ (k f) Q)
          -∗ wp frame (wpE defs 𝒱 (c : Thread nD τ) bd) Set.univ (.op (.load M13 (Rect.unit (s := S64x1408) ![0, 0] S64x1408.size h).toLoadRect hl) k) Q) :=
  wp_ld_whole 𝒱 c bd (m := M13) (f := f) f (by funext i; fin_cases i <;> rfl) rfl
theorem wp_ld_ids {α : Type} {Q : α → sProp 𝕄} {h} {hl : M1.view.LoadsAt (Rect.unit (s := S64x8) ![0, 0] S64x8.size h).toLoadRect}
    {k : (S64x8.Idx → Elt F .i32) → Prog (TpuEff nD τ sig (Elt F) Λ₀ .tc) α} {q : PosShare TreeShare} {f : S64x8.Idx → Elt F .i32} :
    (M1.view.loc (c : Thread nD τ) ↦{q} f)
      ⊢ iprop(((M1.view.loc (c : Thread nD τ) ↦{q} f) -∗ wp frame (wpE defs 𝒱 (c : Thread nD τ) bd) Set.univ (k f) Q)
          -∗ wp frame (wpE defs 𝒱 (c : Thread nD τ) bd) Set.univ (.op (.load M1 (Rect.unit (s := S64x8) ![0, 0] S64x8.size h).toLoadRect hl) k) Q) :=
  wp_ld_whole 𝒱 c bd (m := M1) (f := f) f (by funext i; fin_cases i <;> rfl) rfl
theorem wp_ld_cw {α : Type} {Q : α → sProp 𝕄} {h} {hl : M2.view.LoadsAt (Rect.unit (s := S64x8) ![0, 0] S64x8.size h).toLoadRect}
    {k : (S64x8.Idx → Elt F .f32) → Prog (TpuEff nD τ sig (Elt F) Λ₀ .tc) α} {q : PosShare TreeShare} {f : S64x8.Idx → Elt F .f32} :
    (M2.view.loc (c : Thread nD τ) ↦{q} f)
      ⊢ iprop(((M2.view.loc (c : Thread nD τ) ↦{q} f) -∗ wp frame (wpE defs 𝒱 (c : Thread nD τ) bd) Set.univ (k f) Q)
          -∗ wp frame (wpE defs 𝒱 (c : Thread nD τ) bd) Set.univ (.op (.load M2 (Rect.unit (s := S64x8) ![0, 0] S64x8.size h).toLoadRect hl) k) Q) :=
  wp_ld_whole 𝒱 c bd (m := M2) (f := f) f (by funext i; fin_cases i <;> rfl) rfl

/-- The slot of trip `k`. -/
def sl {v34 : BitVec 32} (k : Fin (k0_t3_loop v34).trips) : ℕ := (Scalar.remsi (Scf.iv 0#32 1#32 k) 2#32).toNat

end Cert.Kernel.Hand
-- ==== Proof.Kernel.TripA.lean ====
/-
  One trip of the main loop, piece by piece: the first half of the gate and up tiles.
-/
module

public import proofs.«01_k».proof.Proof.Kernel.Loads

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem run10 (v34 : BitVec 32) (hw12 : k0_chk12 v34) (k : Fin (k0_t3_loop v34).trips) (v0 v1 : BitVec 32) (e : Fin 32) (ord : S33.Idx → BitVec 32) (n1 n2 : ℕ) (q : PosShare TreeShare) (hv0 : v0 = 0#32) (hv1 : v1 = 1#32)
    (ho1 : k0_off55 v34 k = ![n1]) (ho2 : k0_off56 v34 k = ![n2]) (hw13 : k0_chk13 (ordAt ord n1)) (hw14 : k0_chk14 v34 k (ordAt ord n2)) (he : (ordAt ord n1).toNat = e) {Q : _ → sProp 𝕄} :
    iprop((M16.view.loc (c : Thread nD τ) ↦{q} ord) ∗ (M1.view.loc (c : Thread nD τ) ↦{fullShare} a.ids) ∗ (M2.view.loc (c : Thread nD τ) ↦{fullShare} a.cw) ∗ zFly c a (sl k) e 0 ∗ ow c)
      ⊢ iprop((iprop((M16.view.loc (c : Thread nD τ) ↦{q} ord) ∗ (M1.view.loc (c : Thread nD τ) ↦{fullShare} a.ids) ∗ (M2.view.loc (c : Thread nD τ) ↦{fullShare} a.cw) ∗ zFly c a (sl k) e (0 + JG 256 + JG 256) ∗ ow c)
          -∗ Q ⟨Scalar.remsi (Scf.iv v0 v1 k) 2#32, ordAt ord n1, hw13, Scalar.cmpi .slt (Scalar.addi (Scf.iv v0 v1 k) 2#32) v34, ordAt ord n2, hw14, cCol a e⟩)
        -∗ wp frame (wpE defs 𝒱 (c : Thread nD τ) bd) Set.univ
          (k0_part10 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 v0 v1 k) Q) := by
  rw [k0_part10_eq_skeleton]
  unfold k0_part10_skel
  iintro ⟨H16, H1, H2, Hz, HO⟩ HK
  subst hv0 hv1
  rw [← cCol_eq a he]
  iapply (wp_ld_ord 𝒱 c bd ho1) $$ H16
  iintro H16
  iapply (wp_assume 𝒱 (c : Thread nD τ) bd Set.univ hw13)
  iapply (wp_ld_ord 𝒱 c bd (hn := numel1_S1) (hw := rfl) ho2) $$ H16
  iintro H16
  iapply (wp_assume 𝒱 (c : Thread nD τ) bd Set.univ hw14)
  iapply (wp_ld_ids 𝒱 c bd) $$ H1
  iintro H1
  iapply (wp_ld_cw 𝒱 c bd) $$ H2
  iintro H2
  iapply (wp_wait_zg 𝒱 c bd a (sl k) 0 e (by decide +kernel) (gsem_eq rfl)) $$ [Hz HO]
  · isplitl [Hz] <;> iassumption
  iintro ⟨Hz, HO⟩
  iapply (wp_wait_zg 𝒱 c bd a (sl k) (0 + JG 256) e (by decide +kernel) (gsem_eq rfl)) $$ [Hz HO]
  · isplitl [Hz] <;> iassumption
  iintro ⟨Hz, HO⟩
  try simp only [ret_bind']
  iapply (le_wp_ret _ _)
  iapply HK
  isplitl [H16]; · iexact H16
  isplitl [H1]; · iexact H1
  isplitl [H2]; · iexact H2
  isplitl [Hz]; · iexact Hz
  iexact HO

theorem run11 (v34 : BitVec 32) (hw12 : k0_chk12 v34) (k : Fin (k0_t3_loop v34).trips) (v53 v55 : BitVec 32) (hw13 : k0_chk13 v55) (e : Fin 32) (f13 : S64x1408.Idx → Elt F .bf16)
     {Q : _ → sProp 𝕄} :
    iprop(zFly c a (sl k) e (0 + JG 256 + JG 256) ∗ ow c ∗ (M3.view.loc (c : Thread nD τ) ↦{fullShare} a.x) ∗ (M13.view.loc (c : Thread nD τ) ↦{fullShare} (hMid a 0 e f13)))
      ⊢ iprop((iprop(gDone c a (sl k) 0 e ∗ sgLand c a (sl k) e ∗ sdLand c a (sl k) e ∗ ow c ∗ (M3.view.loc (c : Thread nD τ) ↦{fullShare} a.x) ∗ (M13.view.loc (c : Thread nD τ) ↦{fullShare} (hMid a 0 e f13)))
          -∗ Q (hT a 0 (by decide) e))
        -∗ wp frame (wpE defs 𝒱 (c : Thread nD τ) bd) Set.univ
          (k0_part11 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13) Q) := by
  rw [k0_part11_eq_skeleton]
  unfold k0_part11_skel gDone
  iintro ⟨Hz, HO, H3, H13⟩ HK
  iapply (wp_wait_zsg 𝒱 c bd a (sl k) (0 + JG 256 + JG 256) e (by decide +kernel) (gsem_eq rfl)) $$ [Hz HO]
  · isplitl [Hz] <;> iassumption
  iintro ⟨Hz, HO⟩
  iapply (wp_wait_zsd 𝒱 c bd a (sl k) (0 + JG 256 + JG 256 + JSG) e (by decide +kernel) (gsem_eq rfl)) $$ [Hz HO]
  · isplitl [Hz] <;> iassumption
  iintro ⟨⟨⟨HA, HB, Hsg, Hsd⟩, HV⟩, HO⟩
  iapply (wp_ld_g 𝒱 c bd a (sl k) 0 (L := 256) rfl (by decide) rfl) $$ HA
  iintro HA
  iapply (wp_ld_g 𝒱 c bd a (sl k) 6 (L := 256) rfl (by decide) rfl) $$ HB
  iintro HB
  iapply (wp_ld_x 𝒱 c bd) $$ H3
  iintro H3
  iapply (wp_ld_x 𝒱 c bd) $$ H3
  iintro H3
  iapply (wp_ld_sg 𝒱 c bd a (sl k) 0 256 (by decide) rfl) $$ Hsg
  iintro Hsg
  iapply (wp_ld_sg 𝒱 c bd a (sl k) 1408 256 (by decide) rfl) $$ Hsg
  iintro Hsg
  iapply (wp_ld_dead 𝒱 c bd (fun _ => rfl)) $$ H13
  iintro H13
  unfold hT
  try simp only [ret_bind']
  iapply (le_wp_ret _ _)
  iapply HK
  isplitl [HA HB HV]
  · isplitl [HA]; · iexact HA
    isplitl [HB] <;> iassumption
  isplitl [Hsg]; · iexact Hsg
  isplitl [Hsd]; · iexact Hsd
  isplitl [HO]; · iexact HO
  isplitl [H3]; · iexact H3
  iexact H13

theorem run12 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v122 : S64x256.Idx → Elt F .bf16) (e e' : Fin 32) (f13 : S64x1408.Idx → Elt F .bf16)
    (he' : k0_cond3 v34 k = 1#1 → v61.toNat = e') (h122 : v122 = hT a 0 (by decide) e) {Q : _ → sProp 𝕄} :
    iprop((M13.view.loc (c : Thread nD τ) ↦{fullShare} (hMid a 0 e f13)) ∗ gDone c a (sl k) 0 e ∗ gFly c a (sl k) 1 e ∗ ow c ∗ (M3.view.loc (c : Thread nD τ) ↦{fullShare} a.x) ∗ sgLand c a (sl k) e)
      ⊢ iprop((iprop((M13.view.loc (c : Thread nD τ) ↦{fullShare} (hMid a 1 e f13)) ∗ (if k0_cond3 v34 k = 1#1 then zHalf c a (sl k) e' else gIdle c a (sl k) 0) ∗ gDone c a (sl k) 1 e ∗ ow c ∗ (M3.view.loc (c : Thread nD τ) ↦{fullShare} a.x) ∗ sgLand c a (sl k) e)
          -∗ Q ⟨k0_pay3 (gTile a 7 256 (by decide) e) a.x, k0_pay4 (gTile a 1 256 (by decide) e) a.x (sgTile a 256 256 (by decide) e)⟩)
        -∗ wp frame (wpE defs 𝒱 (c : Thread nD τ) bd) Set.univ
          (k0_part12 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v122) Q) := by
  rw [k0_part12_eq_skeleton]
  unfold k0_part12_skel gDone
  iintro ⟨H13, Hg0, Hg1, HO, H3, Hsg⟩ HK
  iapply (wp_st_h 𝒱 c bd a 0 (by decide) (e := e) rfl h122) $$ H13
  iintro H13
  simp only [ret_bind']
  ihave Hi := (gDone_idle c a (sl k) 0 e) $$ Hg0
  by_cases h : k0_cond3 v34 k = 1#1
  case' pos =>
    rw [dif_pos h, if_pos h]
    iapply (wp_enq_z1 𝒱 c bd a (sl k) rfl rfl rfl (he' h) (gsem_eq rfl)) $$ Hi
    iintro Hi
    iapply (wp_enq_z2 𝒱 c bd a (sl k) rfl rfl rfl (he' h) (gsem_eq rfl)) $$ Hi
    iintro Hi
  case' neg =>
    rw [dif_neg h, if_neg h]
  all_goals
    try simp only [ret_bind']
    iapply (wp_wait_g1 𝒱 c bd a (sl k) 1 256 e rfl (gsem_eq rfl)) $$ [Hg1 HO]
    · isplitl [Hg1] <;> iassumption
    iintro ⟨Hg1, HO⟩
    iapply (wp_wait_g2 𝒱 c bd a (sl k) 1 256 e rfl (gsem_eq rfl)) $$ [Hg1 HO]
    · isplitl [Hg1] <;> iassumption
    iintro ⟨⟨HA, HB, HV⟩, HO⟩
    iapply (wp_ld_g 𝒱 c bd a (sl k) 1 (L := 256) rfl (by decide) rfl) $$ HA
    iintro HA
    iapply (wp_ld_g 𝒱 c bd a (sl k) 7 (L := 256) rfl (by decide) rfl) $$ HB
    iintro HB
    iapply (wp_ld_x 𝒱 c bd) $$ H3
    iintro H3
    iapply (wp_ld_x 𝒱 c bd) $$ H3
    iintro H3
    iapply (wp_ld_sg 𝒱 c bd a (sl k) 256 256 (by decide) rfl) $$ Hsg
    iintro Hsg
    try simp only [ret_bind']
    iapply (le_wp_ret _ _)
    iapply HK
    isplitl [H13]; · iexact H13
    isplitl [Hi]; · iexact Hi
    isplitl [HA HB HV]
    · isplitl [HA]; · iexact HA
      isplitl [HB] <;> iassumption
    isplitl [HO]; · iexact HO
    isplitl [H3]; · iexact H3
    iexact Hsg

theorem run13 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v148 v153 : S64x256.Idx → Elt F .f32) (e e' : Fin 32) (f13 : S64x1408.Idx → Elt F .bf16)
    (he' : k0_cond4 v34 k = 1#1 → v61.toNat = e') (h148 : v148 = k0_pay3 (gTile a 7 256 (by decide) e) a.x) (h153 : v153 = k0_pay4 (gTile a 1 256 (by decide) e) a.x (sgTile a 256 256 (by decide) e)) {Q : _ → sProp 𝕄} :
    iprop((M13.view.loc (c : Thread nD τ) ↦{fullShare} (hMid a 1 e f13)) ∗ gDone c a (sl k) 1 e ∗ gFly c a (sl k) 2 e ∗ ow c ∗ (M3.view.loc (c : Thread nD τ) ↦{fullShare} a.x) ∗ sgLand c a (sl k) e)
      ⊢ iprop((iprop((M13.view.loc (c : Thread nD τ) ↦{fullShare} (hMid a 2 e f13)) ∗ (if k0_cond4 v34 k = 1#1 then gFly c a (sl k) 1 e' else gIdle c a (sl k) 1) ∗ gDone c a (sl k) 2 e ∗ ow c ∗ (M3.view.loc (c : Thread nD τ) ↦{fullShare} a.x) ∗ sgLand c a (sl k) e)
          -∗ Q ⟨k0_pay6 (gTile a 8 256 (by decide) e), k0_pay7 (gTile a 2 256 (by decide) e) a.x⟩)
        -∗ wp frame (wpE defs 𝒱 (c : Thread nD τ) bd) Set.univ
          (k0_part13 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v148 v153) Q) := by
  rw [k0_part13_eq_skeleton]
  unfold k0_part13_skel gDone
  iintro ⟨H13, Hg1, Hg2, HO, H3, Hsg⟩ HK
  iapply (wp_ld_sg 𝒱 c bd a (sl k) 1664 256 (by decide) rfl) $$ Hsg
  iintro Hsg
  iapply (wp_ld_dead 𝒱 c bd (fun _ => rfl)) $$ H13
  iintro H13
  iapply (wp_st_h 𝒱 c bd a 1 (by decide) (e := e) rfl (by subst h148 h153; rfl)) $$ H13
  iintro H13
  simp only [ret_bind']
  ihave Hi := (gDone_idle c a (sl k) 1 e) $$ Hg1
  by_cases h : k0_cond4 v34 k = 1#1
  case' pos =>
    rw [dif_pos h, if_pos h]
    iapply (wp_enq_g1 𝒱 c bd a (sl k) 1 rfl rfl rfl (he' h) (gsem_eq rfl)) $$ Hi
    iintro Hi
    iapply (wp_enq_g2 𝒱 c bd a (sl k) 1 rfl rfl rfl (he' h) (gsem_eq rfl)) $$ Hi
    iintro Hi
  case' neg =>
    rw [dif_neg h, if_neg h]
  all_goals
    try simp only [ret_bind']
    iapply (wp_wait_g1 𝒱 c bd a (sl k) 2 256 e rfl (gsem_eq rfl)) $$ [Hg2 HO]
    · isplitl [Hg2] <;> iassumption
    iintro ⟨Hg2, HO⟩
    iapply (wp_wait_g2 𝒱 c bd a (sl k) 2 256 e rfl (gsem_eq rfl)) $$ [Hg2 HO]
    · isplitl [Hg2] <;> iassumption
    iintro ⟨⟨HA, HB, HV⟩, HO⟩
    iapply (wp_ld_g 𝒱 c bd a (sl k) 2 (L := 256) rfl (by decide) rfl) $$ HA
    iintro HA
    iapply (wp_ld_g 𝒱 c bd a (sl k) 8 (L := 256) rfl (by decide) rfl) $$ HB
    iintro HB
    iapply (wp_ld_x 𝒱 c bd) $$ H3
    iintro H3
    try simp only [ret_bind']
    iapply (le_wp_ret _ _)
    iapply HK
    isplitl [H13]; · iexact H13
    isplitl [Hi]; · iexact Hi
    isplitl [HA HB HV]
    · isplitl [HA]; · iexact HA
      isplitl [HB] <;> iassumption
    isplitl [HO]; · iexact HO
    isplitl [H3]; · iexact H3
    iexact Hsg

theorem run14 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v185 : S256x4096.Idx → Elt F .fp8e4m3) (v188 : S64x256.Idx → Elt F .f32) (e e' : Fin 32) (f13 : S64x1408.Idx → Elt F .bf16)
    (he' : k0_cond5 v34 k = 1#1 → v61.toNat = e') (h185 : v185 = k0_pay6 (gTile a 8 256 (by decide) e)) (h188 : v188 = k0_pay7 (gTile a 2 256 (by decide) e) a.x) {Q : _ → sProp 𝕄} :
    iprop((M13.view.loc (c : Thread nD τ) ↦{fullShare} (hMid a 2 e f13)) ∗ gDone c a (sl k) 2 e ∗ gFly c a (sl k) 3 e ∗ ow c ∗ (M3.view.loc (c : Thread nD τ) ↦{fullShare} a.x) ∗ sgLand c a (sl k) e)
      ⊢ iprop((iprop((M13.view.loc (c : Thread nD τ) ↦{fullShare} (hMid a 3 e f13)) ∗ (if k0_cond5 v34 k = 1#1 then gFly c a (sl k) 2 e' else gIdle c a (sl k) 2) ∗ gDone c a (sl k) 3 e ∗ ow c ∗ (M3.view.loc (c : Thread nD τ) ↦{fullShare} a.x) ∗ sgLand c a (sl k) e)
          -∗ Q ⟨⟩)
        -∗ wp frame (wpE defs 𝒱 (c : Thread nD τ) bd) Set.univ
          (k0_part14 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v185 v188) Q) := by
  rw [k0_part14_eq_skeleton]
  unfold k0_part14_skel gDone
  iintro ⟨H13, Hg2, Hg3, HO, H3, Hsg⟩ HK
  iapply (wp_ld_x 𝒱 c bd) $$ H3
  iintro H3
  iapply (wp_ld_sg 𝒱 c bd a (sl k) 512 256 (by decide) rfl) $$ Hsg
  iintro Hsg
  iapply (wp_ld_sg 𝒱 c bd a (sl k) 1920 256 (by decide) rfl) $$ Hsg
  iintro Hsg
  iapply (wp_ld_dead 𝒱 c bd (fun _ => rfl)) $$ H13
  iintro H13
  iapply (wp_st_h 𝒱 c bd a 2 (by decide) (e := e) rfl (by subst h185 h188; rfl)) $$ H13
  iintro H13
  simp only [ret_bind']
  ihave Hi := (gDone_idle c a (sl k) 2 e) $$ Hg2
  by_cases h : k0_cond5 v34 k = 1#1
  case' pos =>
    rw [dif_pos h, if_pos h]
    iapply (wp_enq_g1 𝒱 c bd a (sl k) 2 rfl rfl rfl (he' h) (gsem_eq rfl)) $$ Hi
    iintro Hi
    iapply (wp_enq_g2 𝒱 c bd a (sl k) 2 rfl rfl rfl (he' h) (gsem_eq rfl)) $$ Hi
    iintro Hi
  case' neg =>
    rw [dif_neg h, if_neg h]
  all_goals
    try simp only [ret_bind']
    iapply (wp_wait_g1 𝒱 c bd a (sl k) 3 256 e rfl (gsem_eq rfl)) $$ [Hg3 HO]
    · isplitl [Hg3] <;> iassumption
    iintro ⟨Hg3, HO⟩
    iapply (wp_wait_g2 𝒱 c bd a (sl k) 3 256 e rfl (gsem_eq rfl)) $$ [Hg3 HO]
    · isplitl [Hg3] <;> iassumption
    iintro ⟨⟨HA, HB, HV⟩, HO⟩
    try simp only [ret_bind']
    iapply (le_wp_ret _ _)
    iapply HK
    isplitl [H13]; · iexact H13
    isplitl [Hi]; · iexact Hi
    isplitl [HA HB HV]
    · isplitl [HA]; · iexact HA
      isplitl [HB] <;> iassumption
    isplitl [HO]; · iexact HO
    isplitl [H3]; · iexact H3
    iexact Hsg

end Cert.Kernel.Hand
-- ==== Proof.Kernel.TripB.lean ====
/-
  One trip of the main loop, piece by piece: the other tiles, and the down projection.
-/
module

public import proofs.«01_k».proof.Proof.Kernel.Loads

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem run15 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (e e' : Fin 32) (f13 : S64x1408.Idx → Elt F .bf16)
    (he' : k0_cond6 v34 k = 1#1 → v61.toNat = e') {Q : _ → sProp 𝕄} :
    iprop((M13.view.loc (c : Thread nD τ) ↦{fullShare} (hMid a 3 e f13)) ∗ gDone c a (sl k) 3 e ∗ gFly c a (sl k) 4 e ∗ ow c ∗ (M3.view.loc (c : Thread nD τ) ↦{fullShare} a.x) ∗ sgLand c a (sl k) e)
      ⊢ iprop((iprop((M13.view.loc (c : Thread nD τ) ↦{fullShare} (hMid a 4 e f13)) ∗ (if k0_cond6 v34 k = 1#1 then gFly c a (sl k) 3 e' else gIdle c a (sl k) 3) ∗ gHalf c a (sl k) 4 e ∗ ow c ∗ (M3.view.loc (c : Thread nD τ) ↦{fullShare} a.x) ∗ sgLand c a (sl k) e)
          -∗ Q ⟨⟩)
        -∗ wp frame (wpE defs 𝒱 (c : Thread nD τ) bd) Set.univ
          (k0_part15 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14) Q) := by
  rw [k0_part15_eq_skeleton]
  unfold k0_part15_skel gDone
  iintro ⟨H13, Hg3, Hg4, HO, H3, Hsg⟩ HK
  icases Hg3 with ⟨HA, HB, HV⟩
  iapply (wp_ld_g 𝒱 c bd a (sl k) 3 (L := 256) rfl (by decide) rfl) $$ HA
  iintro HA
  iapply (wp_ld_g 𝒱 c bd a (sl k) 9 (L := 256) rfl (by decide) rfl) $$ HB
  iintro HB
  iapply (wp_ld_x 𝒱 c bd) $$ H3
  iintro H3
  iapply (wp_ld_x 𝒱 c bd) $$ H3
  iintro H3
  iapply (wp_ld_sg 𝒱 c bd a (sl k) 768 256 (by decide) rfl) $$ Hsg
  iintro Hsg
  iapply (wp_ld_sg 𝒱 c bd a (sl k) 2176 256 (by decide) rfl) $$ Hsg
  iintro Hsg
  iapply (wp_ld_dead 𝒱 c bd (fun _ => rfl)) $$ H13
  iintro H13
  iapply (wp_st_h 𝒱 c bd a 3 (by decide) (e := e) rfl rfl) $$ H13
  iintro H13
  simp only [ret_bind']
  ihave Hi := (gDone_idle c a (sl k) 3 e) $$ [HA HB HV]
  · isplitl [HA]; · iexact HA
    isplitl [HB] <;> iassumption
  by_cases h : k0_cond6 v34 k = 1#1
  case' pos =>
    rw [dif_pos h, if_pos h]
    iapply (wp_enq_g1 𝒱 c bd a (sl k) 3 rfl rfl rfl (he' h) (gsem_eq rfl)) $$ Hi
    iintro Hi
    iapply (wp_enq_g2 𝒱 c bd a (sl k) 3 rfl rfl rfl (he' h) (gsem_eq rfl)) $$ Hi
    iintro Hi
  case' neg =>
    rw [dif_neg h, if_neg h]
  all_goals
    try simp only [ret_bind']
    iapply (wp_wait_g1 𝒱 c bd a (sl k) 4 256 e rfl (gsem_eq rfl)) $$ [Hg4 HO]
    · isplitl [Hg4] <;> iassumption
    iintro ⟨Hg4, HO⟩
    try simp only [ret_bind']
    iapply (le_wp_ret _ _)
    iapply HK
    isplitl [H13]; · iexact H13
    isplitl [Hi]; · iexact Hi
    isplitl [Hg4]; · iexact Hg4
    isplitl [HO]; · iexact HO
    isplitl [H3]; · iexact H3
    iexact Hsg

theorem run16 (v34 : BitVec 32) (hw12 : k0_chk12 v34) (k : Fin (k0_t3_loop v34).trips) (v53 v55 : BitVec 32) (hw13 : k0_chk13 v55) (v57 : BitVec 1) (e : Fin 32) (f13 : S64x1408.Idx → Elt F .bf16)
     {Q : _ → sProp 𝕄} :
    iprop((M13.view.loc (c : Thread nD τ) ↦{fullShare} (hMid a 4 e f13)) ∗ gHalf c a (sl k) 4 e ∗ ow c ∗ (M3.view.loc (c : Thread nD τ) ↦{fullShare} a.x) ∗ sgLand c a (sl k) e)
      ⊢ iprop((iprop((M13.view.loc (c : Thread nD τ) ↦{fullShare} (hMid a 5 e f13)) ∗ gDone c a (sl k) 4 e ∗ ow c ∗ (M3.view.loc (c : Thread nD τ) ↦{fullShare} a.x) ∗ sgLand c a (sl k) e)
          -∗ Q ⟨⟩)
        -∗ wp frame (wpE defs 𝒱 (c : Thread nD τ) bd) Set.univ
          (k0_part16 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57) Q) := by
  rw [k0_part16_eq_skeleton]
  unfold k0_part16_skel gDone
  iintro ⟨H13, Hg4, HO, H3, Hsg⟩ HK
  iapply (wp_wait_g2 𝒱 c bd a (sl k) 4 256 e rfl (gsem_eq rfl)) $$ [Hg4 HO]
  · isplitl [Hg4] <;> iassumption
  iintro ⟨⟨HA, HB, HV⟩, HO⟩
  iapply (wp_ld_g 𝒱 c bd a (sl k) 4 (L := 256) rfl (by decide) rfl) $$ HA
  iintro HA
  iapply (wp_ld_g 𝒱 c bd a (sl k) 10 (L := 256) rfl (by decide) rfl) $$ HB
  iintro HB
  iapply (wp_ld_x 𝒱 c bd) $$ H3
  iintro H3
  iapply (wp_ld_x 𝒱 c bd) $$ H3
  iintro H3
  iapply (wp_ld_sg 𝒱 c bd a (sl k) 1024 256 (by decide) rfl) $$ Hsg
  iintro Hsg
  iapply (wp_ld_sg 𝒱 c bd a (sl k) 2432 256 (by decide) rfl) $$ Hsg
  iintro Hsg
  iapply (wp_ld_dead 𝒱 c bd (fun _ => rfl)) $$ H13
  iintro H13
  iapply (wp_st_h 𝒱 c bd a 4 (by decide) (e := e) rfl rfl) $$ H13
  iintro H13
  simp only [ret_bind']
  try simp only [ret_bind']
  iapply (le_wp_ret _ _)
  iapply HK
  isplitl [H13]; · iexact H13
  isplitl [HA HB HV]
  · isplitl [HA]; · iexact HA
    isplitl [HB] <;> iassumption
  isplitl [HO]; · iexact HO
  isplitl [H3]; · iexact H3
  iexact Hsg

theorem run17 (v34 : BitVec 32) (hw12 : k0_chk12 v34) (k : Fin (k0_t3_loop v34).trips) (v53 v55 : BitVec 32) (hw13 : k0_chk13 v55) (v61 : BitVec 32) (hw14 : k0_chk14 v34 k v61) (e e' : Fin 32)
    (he' : k0_cond7 v34 k = 1#1 → v61.toNat = e') {Q : _ → sProp 𝕄} :
    iprop(gDone c a (sl k) 4 e ∗ gFly c a (sl k) 5 e ∗ ow c ∗ (M3.view.loc (c : Thread nD τ) ↦{fullShare} a.x) ∗ sgLand c a (sl k) e)
      ⊢ iprop((iprop((if k0_cond7 v34 k = 1#1 then gFly c a (sl k) 4 e' else gIdle c a (sl k) 4) ∗ gDone c a (sl k) 5 e ∗ ow c ∗ (M3.view.loc (c : Thread nD τ) ↦{fullShare} a.x) ∗ sgLand c a (sl k) e)
          -∗ Q ⟨k0_pay12 (gTile a 5 128 (by decide) e) (gTile a 11 128 (by decide) e) a.x (sgTile a 2688 128 (by decide) e), k0_pay13 (gTile a 5 128 (by decide) e) (gTile a 11 128 (by decide) e) a.x (sgTile a 1280 128 (by decide) e)⟩)
        -∗ wp frame (wpE defs 𝒱 (c : Thread nD τ) bd) Set.univ
          (k0_part17 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v61 hw14) Q) := by
  rw [k0_part17_eq_skeleton]
  unfold k0_part17_skel gDone
  iintro ⟨Hg4, Hg5, HO, H3, Hsg⟩ HK
  ihave Hi := (gDone_idle c a (sl k) 4 e) $$ Hg4
  by_cases h : k0_cond7 v34 k = 1#1
  case' pos =>
    rw [dif_pos h, if_pos h]
    iapply (wp_enq_g1 𝒱 c bd a (sl k) 4 rfl rfl rfl (he' h) (gsem_eq rfl)) $$ Hi
    iintro Hi
    iapply (wp_enq_g2 𝒱 c bd a (sl k) 4 rfl rfl rfl (he' h) (gsem_eq rfl)) $$ Hi
    iintro Hi
  case' neg =>
    rw [dif_neg h, if_neg h]
  all_goals
    try simp only [ret_bind']
    iapply (wp_wait_g1 𝒱 c bd a (sl k) 5 128 e rfl (gsem_eq rfl)) $$ [Hg5 HO]
    · isplitl [Hg5] <;> iassumption
    iintro ⟨Hg5, HO⟩
    iapply (wp_wait_g2 𝒱 c bd a (sl k) 5 128 e rfl (gsem_eq rfl)) $$ [Hg5 HO]
    · isplitl [Hg5] <;> iassumption
    iintro ⟨⟨HA, HB, HV⟩, HO⟩
    iapply (wp_ld_g 𝒱 c bd a (sl k) 5 (L := 128) rfl (by decide) rfl) $$ HA
    iintro HA
    iapply (wp_ld_g 𝒱 c bd a (sl k) 11 (L := 128) rfl (by decide) rfl) $$ HB
    iintro HB
    iapply (wp_ld_x 𝒱 c bd) $$ H3
    iintro H3
    iapply (wp_ld_sg 𝒱 c bd a (sl k) 1280 128 (by decide) rfl) $$ Hsg
    iintro Hsg
    iapply (wp_ld_sg 𝒱 c bd a (sl k) 2688 128 (by decide) rfl) $$ Hsg
    iintro Hsg
    try simp only [ret_bind']
    iapply (le_wp_ret _ _)
    iapply HK
    isplitl [Hi]; · iexact Hi
    isplitl [HA HB HV]
    · isplitl [HA]; · iexact HA
      isplitl [HB] <;> iassumption
    isplitl [HO]; · iexact HO
    isplitl [H3]; · iexact H3
    iexact Hsg

theorem run18 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v71 : S64x1.Idx → Elt F .f32) (v330 v332 : S64x128.Idx → Elt F .f32) (e e' : Fin 32) (f13 : S64x1408.Idx → Elt F .bf16) (f14 : S64x4096.Idx → Elt F .f32)
    (he' : k0_cond8 v34 k = 1#1 → v61.toNat = e') (h71 : v71 = cCol a e) (h330 : v330 = k0_pay12 (gTile a 5 128 (by decide) e) (gTile a 11 128 (by decide) e) a.x (sgTile a 2688 128 (by decide) e)) (h332 : v332 = k0_pay13 (gTile a 5 128 (by decide) e) (gTile a 11 128 (by decide) e) a.x (sgTile a 1280 128 (by decide) e)) {Q : _ → sProp 𝕄} :
    iprop((M13.view.loc (c : Thread nD τ) ↦{fullShare} (hMid a 5 e f13)) ∗ (M14.view.loc (c : Thread nD τ) ↦{fullShare} (accMid a 0 e f14)) ∗ gDone c a (sl k) 5 e ∗ dFly c a (sl k) 0 e ∗ ow c ∗ sdLand c a (sl k) e)
      ⊢ iprop((iprop((M13.view.loc (c : Thread nD τ) ↦{fullShare} (hVal a e)) ∗ (M14.view.loc (c : Thread nD τ) ↦{fullShare} (accMid a 1 e f14)) ∗ (if k0_cond8 v34 k = 1#1 then gFly c a (sl k) 5 e' else gIdle c a (sl k) 5) ∗ (if k0_cond9 v34 k = 1#1 then dFly c a (sl k) 0 e' else dIdle c a (sl k) 0) ∗ ow c ∗ sdLand c a (sl k) e)
          -∗ Q ⟨⟩)
        -∗ wp frame (wpE defs 𝒱 (c : Thread nD τ) bd) Set.univ
          (k0_part18 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v71 v330 v332) Q) := by
  rw [k0_part18_eq_skeleton]
  unfold k0_part18_skel gDone
  iintro ⟨H13, H14, Hg5, Hd0, HO, Hsd⟩ HK
  iapply (wp_ld_dead 𝒱 c bd (fun _ => rfl)) $$ H13
  iintro H13
  iapply (wp_st_h5 𝒱 c bd a (e := e) rfl (by subst h330 h332; rfl)) $$ H13
  iintro H13
  simp only [ret_bind']
  ihave Hi := (gDone_idle c a (sl k) 5 e) $$ Hg5
  by_cases h : k0_cond8 v34 k = 1#1
  case' pos =>
    rw [dif_pos h, if_pos h]
    iapply (wp_enq_g1 𝒱 c bd a (sl k) 5 rfl rfl rfl (he' h) (gsem_eq rfl)) $$ Hi
    iintro Hi
    iapply (wp_enq_g2 𝒱 c bd a (sl k) 5 rfl rfl rfl (he' h) (gsem_eq rfl)) $$ Hi
    iintro Hi
  case' neg =>
    rw [dif_neg h, if_neg h]
  all_goals
    try simp only [ret_bind']
    iapply (wp_wait_d 𝒱 c bd a (sl k) 0 e (dsem_eq rfl)) $$ [Hd0 HO]
    · isplitl [Hd0] <;> iassumption
    iintro ⟨⟨HD, HVd⟩, HO⟩
    iapply (wp_ld_h 𝒱 c bd) $$ H13
    iintro H13
    iapply (wp_ld_d 𝒱 c bd a (sl k) 0 (by decide) rfl) $$ HD
    iintro HD
    iapply (wp_ld_acc 𝒱 c bd a 0 (by decide) (e := e) (f := f14) rfl) $$ H14
    iintro H14
    iapply (wp_ld_sd 𝒱 c bd a (sl k) 0 (by decide) rfl) $$ Hsd
    iintro Hsd
    iapply (wp_ld_dead 𝒱 c bd (fun _ => rfl)) $$ H14
    iintro H14
    iapply (wp_st_acc 𝒱 c bd a 0 (by decide) (e := e) (f := f14) rfl (by subst h71; rfl)) $$ H14
    iintro H14
    simp only [ret_bind']
    ihave Hj := (dDone_idle c a (sl k) 0 e) $$ [HD HVd]
    · isplitl [HD] <;> iassumption
    by_cases h' : k0_cond9 v34 k = 1#1
    case' pos =>
      rw [dif_pos h', if_pos h']
      iapply (wp_enq_d1 𝒱 c bd a (sl k) 0 rfl rfl (he' h') (dsem_eq rfl)) $$ Hj
      iintro Hj
    case' neg =>
      rw [dif_neg h', if_neg h']
    all_goals
      try simp only [ret_bind']
      iapply (le_wp_ret _ _)
      iapply HK
      isplitl [H13]; · iexact H13
      isplitl [H14]; · iexact H14
      isplitl [Hi]; · iexact Hi
      isplitl [Hj]; · iexact Hj
      isplitl [HO]; · iexact HO
      iexact Hsd

theorem run19 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v71 : S64x1.Idx → Elt F .f32) (e e' : Fin 32) (f14 : S64x4096.Idx → Elt F .f32)
    (he' : k0_cond10 v34 k = 1#1 → v61.toNat = e') (h71 : v71 = cCol a e) {Q : _ → sProp 𝕄} :
    iprop((M13.view.loc (c : Thread nD τ) ↦{fullShare} (hVal a e)) ∗ (M14.view.loc (c : Thread nD τ) ↦{fullShare} (accMid a 1 e f14)) ∗ dFly c a (sl k) 1 e ∗ dFly c a (sl k) 2 e ∗ ow c ∗ sdLand c a (sl k) e)
      ⊢ iprop((iprop((M13.view.loc (c : Thread nD τ) ↦{fullShare} (hVal a e)) ∗ (M14.view.loc (c : Thread nD τ) ↦{fullShare} (accMid a 2 e f14)) ∗ (if k0_cond10 v34 k = 1#1 then dFly c a (sl k) 1 e' else dIdle c a (sl k) 1) ∗ dDone c a (sl k) 2 e ∗ ow c ∗ sdLand c a (sl k) e)
          -∗ Q (hVal a e))
        -∗ wp frame (wpE defs 𝒱 (c : Thread nD τ) bd) Set.univ
          (k0_part19 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v71) Q) := by
  rw [k0_part19_eq_skeleton]
  unfold k0_part19_skel dDone
  iintro ⟨H13, H14, Hd1, Hd2, HO, Hsd⟩ HK
  iapply (wp_wait_d 𝒱 c bd a (sl k) 1 e (dsem_eq rfl)) $$ [Hd1 HO]
  · isplitl [Hd1] <;> iassumption
  iintro ⟨⟨HD, HVd⟩, HO⟩
  iapply (wp_ld_h 𝒱 c bd) $$ H13
  iintro H13
  iapply (wp_ld_d 𝒱 c bd a (sl k) 1 (by decide) rfl) $$ HD
  iintro HD
  iapply (wp_ld_acc 𝒱 c bd a 1 (by decide) (e := e) (f := f14) rfl) $$ H14
  iintro H14
  iapply (wp_ld_sd 𝒱 c bd a (sl k) 1 (by decide) rfl) $$ Hsd
  iintro Hsd
  iapply (wp_ld_dead 𝒱 c bd (fun _ => rfl)) $$ H14
  iintro H14
  iapply (wp_st_acc 𝒱 c bd a 1 (by decide) (e := e) (f := f14) rfl (by subst h71; rfl)) $$ H14
  iintro H14
  simp only [ret_bind']
  ihave Hj := (dDone_idle c a (sl k) 1 e) $$ [HD HVd]
  · isplitl [HD] <;> iassumption
  by_cases h : k0_cond10 v34 k = 1#1
  case' pos =>
    rw [dif_pos h, if_pos h]
    iapply (wp_enq_d1 𝒱 c bd a (sl k) 1 rfl rfl (he' h) (dsem_eq rfl)) $$ Hj
    iintro Hj
  case' neg =>
    rw [dif_neg h, if_neg h]
  all_goals
    try simp only [ret_bind']
    iapply (wp_wait_d 𝒱 c bd a (sl k) 2 e (dsem_eq rfl)) $$ [Hd2 HO]
    · isplitl [Hd2] <;> iassumption
    iintro ⟨⟨HD, HVd⟩, HO⟩
    iapply (wp_ld_h 𝒱 c bd) $$ H13
    iintro H13
    try simp only [ret_bind']
    iapply (le_wp_ret _ _)
    iapply HK
    isplitl [H13]; · iexact H13
    isplitl [H14]; · iexact H14
    isplitl [Hj]; · iexact Hj
    isplitl [HD HVd]
    · isplitl [HD] <;> iassumption
    isplitl [HO]; · iexact HO
    iexact Hsd

theorem run20 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v71 : S64x1.Idx → Elt F .f32) (v396 : S64x1408.Idx → Elt F .bf16) (e e' : Fin 32) (f14 : S64x4096.Idx → Elt F .f32)
    (he' : k0_cond11 v34 k = 1#1 → v61.toNat = e') (h71 : v71 = cCol a e) (h396 : v396 = hVal a e) {Q : _ → sProp 𝕄} :
    iprop((M13.view.loc (c : Thread nD τ) ↦{fullShare} (hVal a e)) ∗ (M14.view.loc (c : Thread nD τ) ↦{fullShare} (accMid a 2 e f14)) ∗ dDone c a (sl k) 2 e ∗ dFly c a (sl k) 3 e ∗ ow c ∗ sdLand c a (sl k) e)
      ⊢ iprop((iprop((M13.view.loc (c : Thread nD τ) ↦{fullShare} (hVal a e)) ∗ (M14.view.loc (c : Thread nD τ) ↦{fullShare} (accMid a 3 e f14)) ∗ (if k0_cond11 v34 k = 1#1 then dFly c a (sl k) 2 e' else dIdle c a (sl k) 2) ∗ dDone c a (sl k) 3 e ∗ ow c ∗ sdLand c a (sl k) e)
          -∗ Q ⟨accTile 3 (by decide) f14, k0_pay18 (hVal a e) (dTile a 3 (by decide) e) (sdTile a 3 (by decide) e), k0_pay19 v71⟩)
        -∗ wp frame (wpE defs 𝒱 (c : Thread nD τ) bd) Set.univ
          (k0_part20 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v71 v396) Q) := by
  rw [k0_part20_eq_skeleton]
  unfold k0_part20_skel dDone
  iintro ⟨H13, H14, Hd2, Hd3, HO, Hsd⟩ HK
  icases Hd2 with ⟨HD, HVd⟩
  iapply (wp_ld_d 𝒱 c bd a (sl k) 2 (by decide) rfl) $$ HD
  iintro HD
  iapply (wp_ld_acc 𝒱 c bd a 2 (by decide) (e := e) (f := f14) rfl) $$ H14
  iintro H14
  iapply (wp_ld_sd 𝒱 c bd a (sl k) 2 (by decide) rfl) $$ Hsd
  iintro Hsd
  iapply (wp_ld_dead 𝒱 c bd (fun _ => rfl)) $$ H14
  iintro H14
  iapply (wp_st_acc 𝒱 c bd a 2 (by decide) (e := e) (f := f14) rfl (by subst h71 h396; rfl)) $$ H14
  iintro H14
  simp only [ret_bind']
  ihave Hj := (dDone_idle c a (sl k) 2 e) $$ [HD HVd]
  · isplitl [HD] <;> iassumption
  by_cases h : k0_cond11 v34 k = 1#1
  case' pos =>
    rw [dif_pos h, if_pos h]
    iapply (wp_enq_d1 𝒱 c bd a (sl k) 2 rfl rfl (he' h) (dsem_eq rfl)) $$ Hj
    iintro Hj
  case' neg =>
    rw [dif_neg h, if_neg h]
  all_goals
    try simp only [ret_bind']
    iapply (wp_wait_d 𝒱 c bd a (sl k) 3 e (dsem_eq rfl)) $$ [Hd3 HO]
    · isplitl [Hd3] <;> iassumption
    iintro ⟨⟨HD, HVd⟩, HO⟩
    iapply (wp_ld_h 𝒱 c bd) $$ H13
    iintro H13
    iapply (wp_ld_d 𝒱 c bd a (sl k) 3 (by decide) rfl) $$ HD
    iintro HD
    iapply (wp_ld_acc 𝒱 c bd a 3 (by decide) (e := e) (f := f14) rfl) $$ H14
    iintro H14
    iapply (wp_ld_sd 𝒱 c bd a (sl k) 3 (by decide) rfl) $$ Hsd
    iintro Hsd
    try simp only [ret_bind']
    iapply (le_wp_ret _ _)
    iapply HK
    isplitl [H13]; · iexact H13
    isplitl [H14]; · iexact H14
    isplitl [Hj]; · iexact Hj
    isplitl [HD HVd]
    · isplitl [HD] <;> iassumption
    isplitl [HO]; · iexact HO
    iexact Hsd

end Cert.Kernel.Hand
-- ==== Proof.Kernel.Trip.lean ====
/-
  One trip of the main loop.
-/
module

public import proofs.«01_k».proof.Proof.Kernel.TripA
public import proofs.«01_k».proof.Proof.Kernel.TripB

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- Every transfer of expert `e` into slot `s` in flight; the slot at rest. -/
def slotFly (s : ℕ) (e : Fin 32) : sProp 𝕄 :=
  iprop(zFly c a s e 0 ∗ gFly c a s 1 e ∗ gFly c a s 2 e ∗ gFly c a s 3 e ∗ gFly c a s 4 e ∗ gFly c a s 5 e ∗ dFly c a s 0 e ∗ dFly c a s 1 e ∗ dFly c a s 2 e ∗ dFly c a s 3 e)
def slotIdle (s : ℕ) : sProp 𝕄 :=
  iprop(zIdle c a s ∗ gIdle c a s 1 ∗ gIdle c a s 2 ∗ gIdle c a s 3 ∗ gIdle c a s 4 ∗ gIdle c a s 5 ∗ dIdle c a s 0 ∗ dIdle c a s 1 ∗ dIdle c a s 2 ∗ dIdle c a s 3)

theorem trip (v34 : BitVec 32) (hw12 : k0_chk12 v34) (k : Fin (k0_t3_loop v34).trips) (e e' : Fin 32) (ord : S33.Idx → BitVec 32) (n1 n2 : ℕ)
    (q : PosShare TreeShare) (f13 : S64x1408.Idx → Elt F .bf16) (f14 : S64x4096.Idx → Elt F .f32)
    (ho1 : k0_off55 v34 k = ![n1]) (ho2 : k0_off56 v34 k = ![n2]) (hw13 : k0_chk13 (ordAt ord n1)) (hw14 : k0_chk14 v34 k (ordAt ord n2))
    (he : (ordAt ord n1).toNat = e) (he' : k0_cond3 v34 k = 1#1 → (ordAt ord n2).toNat = e') {Q : _ → sProp 𝕄} :
    iprop((M16.view.loc (c : Thread nD τ) ↦{q} ord) ∗ (M1.view.loc (c : Thread nD τ) ↦{fullShare} a.ids) ∗ (M2.view.loc (c : Thread nD τ) ↦{fullShare} a.cw) ∗ (M3.view.loc (c : Thread nD τ) ↦{fullShare} a.x) ∗ (M13.view.loc (c : Thread nD τ) ↦{fullShare} f13) ∗ (M14.view.loc (c : Thread nD τ) ↦{fullShare} f14) ∗ ow c ∗ slotFly c a (sl k) e)
      ⊢ iprop((iprop((M16.view.loc (c : Thread nD τ) ↦{q} ord) ∗ (M1.view.loc (c : Thread nD τ) ↦{fullShare} a.ids) ∗ (M2.view.loc (c : Thread nD τ) ↦{fullShare} a.cw) ∗ (M3.view.loc (c : Thread nD τ) ↦{fullShare} a.x) ∗ (M13.view.loc (c : Thread nD τ) ↦{fullShare} (hVal a e)) ∗ (M14.view.loc (c : Thread nD τ) ↦{fullShare} (accNext a e f14)) ∗ ow c
          ∗ (if k0_cond3 v34 k = 1#1 then slotFly c a (sl k) e' else slotIdle c a (sl k)))
          -∗ Q ())
        -∗ wp frame (wpE defs 𝒱 (c : Thread nD τ) bd) Set.univ (k0_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k ()) Q) := by
  unfold k0_t3_body slotFly
  iintro ⟨H16, H1, H2, H3, H13, H14, HO, Hz, Hg1, Hg2, Hg3, Hg4, Hg5, Hd0, Hd1, Hd2, Hd3⟩ HK
  rw [← hMid_zero a e f13, ← accMid_zero a e f14]
  rw [wp_bind]
  iapply (run10 𝒱 c bd a v34 hw12 k 0#32 1#32 e ord n1 n2 q rfl rfl ho1 ho2 hw13 hw14 he) $$ [H16 H1 H2 Hz HO]
  · isplitl [H16]; · iexact H16
    isplitl [H1]; · iexact H1
    isplitl [H2]; · iexact H2
    isplitl [Hz]; · iexact Hz
    iexact HO
  iintro ⟨H16, H1, H2, Hz, HO⟩
  rw [wp_bind]
  iapply (run11 𝒱 c bd a v34 hw12 k _ _ hw13 e f13) $$ [Hz HO H3 H13]
  · isplitl [Hz]; · iexact Hz
    isplitl [HO]; · iexact HO
    isplitl [H3]; · iexact H3
    iexact H13
  iintro ⟨Hg0, Hsg, Hsd, HO, H3, H13⟩
  rw [wp_bind]
  iapply (run12 𝒱 c bd a v34 hw12 k _ _ hw13 _ _ hw14 _ e e' f13 he' rfl) $$ [H13 Hg0 Hg1 HO H3 Hsg]
  · isplitl [H13]; · iexact H13
    isplitl [Hg0]; · iexact Hg0
    isplitl [Hg1]; · iexact Hg1
    isplitl [HO]; · iexact HO
    isplitl [H3]; · iexact H3
    iexact Hsg
  iintro ⟨H13, Hz, Hg1, HO, H3, Hsg⟩
  rw [wp_bind]
  iapply (run13 𝒱 c bd a v34 hw12 k _ _ hw13 _ _ hw14 _ _ e e' f13 he' rfl rfl) $$ [H13 Hg1 Hg2 HO H3 Hsg]
  · isplitl [H13]; · iexact H13
    isplitl [Hg1]; · iexact Hg1
    isplitl [Hg2]; · iexact Hg2
    isplitl [HO]; · iexact HO
    isplitl [H3]; · iexact H3
    iexact Hsg
  iintro ⟨H13, Hg1, Hg2, HO, H3, Hsg⟩
  rw [wp_bind]
  iapply (run14 𝒱 c bd a v34 hw12 k _ _ hw13 _ _ hw14 _ _ e e' f13 he' rfl rfl) $$ [H13 Hg2 Hg3 HO H3 Hsg]
  · isplitl [H13]; · iexact H13
    isplitl [Hg2]; · iexact Hg2
    isplitl [Hg3]; · iexact Hg3
    isplitl [HO]; · iexact HO
    isplitl [H3]; · iexact H3
    iexact Hsg
  iintro ⟨H13, Hg2, Hg3, HO, H3, Hsg⟩
  rw [wp_bind]
  iapply (run15 𝒱 c bd a v34 hw12 k _ _ hw13 _ _ hw14 e e' f13 he') $$ [H13 Hg3 Hg4 HO H3 Hsg]
  · isplitl [H13]; · iexact H13
    isplitl [Hg3]; · iexact Hg3
    isplitl [Hg4]; · iexact Hg4
    isplitl [HO]; · iexact HO
    isplitl [H3]; · iexact H3
    iexact Hsg
  iintro ⟨H13, Hg3, Hg4, HO, H3, Hsg⟩
  rw [wp_bind]
  iapply (run16 𝒱 c bd a v34 hw12 k _ _ hw13 _ e f13) $$ [H13 Hg4 HO H3 Hsg]
  · isplitl [H13]; · iexact H13
    isplitl [Hg4]; · iexact Hg4
    isplitl [HO]; · iexact HO
    isplitl [H3]; · iexact H3
    iexact Hsg
  iintro ⟨H13, Hg4, HO, H3, Hsg⟩
  rw [wp_bind]
  iapply (run17 𝒱 c bd a v34 hw12 k _ _ hw13 _ hw14 e e' he') $$ [Hg4 Hg5 HO H3 Hsg]
  · isplitl [Hg4]; · iexact Hg4
    isplitl [Hg5]; · iexact Hg5
    isplitl [HO]; · iexact HO
    isplitl [H3]; · iexact H3
    iexact Hsg
  iintro ⟨Hg4, Hg5, HO, H3, Hsg⟩
  rw [wp_bind]
  iapply (run18 𝒱 c bd a v34 hw12 k _ _ hw13 _ _ hw14 _ _ _ e e' f13 f14 he' rfl rfl rfl) $$ [H13 H14 Hg5 Hd0 HO Hsd]
  · isplitl [H13]; · iexact H13
    isplitl [H14]; · iexact H14
    isplitl [Hg5]; · iexact Hg5
    isplitl [Hd0]; · iexact Hd0
    isplitl [HO]; · iexact HO
    iexact Hsd
  iintro ⟨H13, H14, Hg5, Hd0, HO, Hsd⟩
  rw [wp_bind]
  iapply (run19 𝒱 c bd a v34 hw12 k _ _ hw13 _ _ hw14 _ e e' f14 he' rfl) $$ [H13 H14 Hd1 Hd2 HO Hsd]
  · isplitl [H13]; · iexact H13
    isplitl [H14]; · iexact H14
    isplitl [Hd1]; · iexact Hd1
    isplitl [Hd2]; · iexact Hd2
    isplitl [HO]; · iexact HO
    iexact Hsd
  iintro ⟨H13, H14, Hd1, Hd2, HO, Hsd⟩
  rw [wp_bind]
  iapply (run20 𝒱 c bd a v34 hw12 k _ _ hw13 _ _ hw14 _ _ e e' f14 he' rfl rfl) $$ [H13 H14 Hd2 Hd3 HO Hsd]
  · isplitl [H13]; · iexact H13
    isplitl [H14]; · iexact H14
    isplitl [Hd2]; · iexact Hd2
    isplitl [Hd3]; · iexact Hd3
    isplitl [HO]; · iexact HO
    iexact Hsd
  iintro ⟨H13, H14, Hd2, Hd3, HO, Hsd⟩
  unfold dDone
  icases Hd3 with ⟨HD, HVd⟩
  iapply (wp_ld_dead 𝒱 c bd (fun _ => rfl)) $$ H14
  iintro H14
  iapply (wp_st_acc 𝒱 c bd a 3 (by decide) (e := e) (f := f14) rfl rfl) $$ H14
  iintro H14
  ihave Hd3 := (dDone_idle c a (sl k) 3 e) $$ [HD HVd]
  · isplitl [HD] <;> iassumption
  ihave Hsg := (sgLand_home c a (sl k) e) $$ Hsg
  ihave Hsd := (sdLand_home c a (sl k) e) $$ Hsd
  rw [show accMid a (3 + 1) e f14 = accNext a e f14 from accMid_four a e f14]
  try simp only [ret_bind']
  by_cases h : k0_cond3 v34 k = 1#1
  · have h4 : k0_cond4 v34 k = 1#1 := h
    have h5 : k0_cond5 v34 k = 1#1 := h
    have h6 : k0_cond6 v34 k = 1#1 := h
    have h7 : k0_cond7 v34 k = 1#1 := h
    have h8 : k0_cond8 v34 k = 1#1 := h
    have h9 : k0_cond9 v34 k = 1#1 := h
    have h10 : k0_cond10 v34 k = 1#1 := h
    have h11 : k0_cond11 v34 k = 1#1 := h
    have h12 : k0_cond12 v34 k = 1#1 := h
    rw [dif_pos h12]
    simp only [if_pos h, if_pos h4, if_pos h5, if_pos h6, if_pos h7, if_pos h8, if_pos h9, if_pos h10, if_pos h11]
    iapply (wp_enq_d1 𝒱 c bd a (sl k) 3 rfl rfl (he' h) (dsem_eq rfl)) $$ Hd3
    iintro Hd3
    iapply (wp_enq_z3 𝒱 c bd a (sl k) rfl rfl (he' h) (gsem_eq rfl)) $$ [Hsg Hz]
    · isplitl [Hsg] <;> iassumption
    iintro Hz
    iapply (wp_enq_z4 𝒱 c bd a (sl k) rfl rfl (he' h) (gsem_eq rfl)) $$ [Hsd Hz]
    · isplitl [Hsd] <;> iassumption
    iintro Hz
    iapply (le_wp_ret _ _)
    iapply HK
    isplitl [H16]; · iexact H16
    isplitl [H1]; · iexact H1
    isplitl [H2]; · iexact H2
    isplitl [H3]; · iexact H3
    isplitl [H13]; · iexact H13
    isplitl [H14]; · iexact H14
    isplitl [HO]; · iexact HO
    isplitl [Hz]; · iexact Hz
    isplitl [Hg1]; · iexact Hg1
    isplitl [Hg2]; · iexact Hg2
    isplitl [Hg3]; · iexact Hg3
    isplitl [Hg4]; · iexact Hg4
    isplitl [Hg5]; · iexact Hg5
    isplitl [Hd0]; · iexact Hd0
    isplitl [Hd1]; · iexact Hd1
    isplitl [Hd2]; · iexact Hd2
    iexact Hd3
  · have h4 : ¬ k0_cond4 v34 k = 1#1 := h
    have h5 : ¬ k0_cond5 v34 k = 1#1 := h
    have h6 : ¬ k0_cond6 v34 k = 1#1 := h
    have h7 : ¬ k0_cond7 v34 k = 1#1 := h
    have h8 : ¬ k0_cond8 v34 k = 1#1 := h
    have h9 : ¬ k0_cond9 v34 k = 1#1 := h
    have h10 : ¬ k0_cond10 v34 k = 1#1 := h
    have h11 : ¬ k0_cond11 v34 k = 1#1 := h
    have h12 : ¬ k0_cond12 v34 k = 1#1 := h
    rw [dif_neg h12]
    simp only [if_neg h, if_neg h4, if_neg h5, if_neg h6, if_neg h7, if_neg h8, if_neg h9, if_neg h10, if_neg h11]
    iapply (le_wp_ret _ _)
    iapply HK
    unfold slotIdle zIdle gIdle
    icases Hz with ⟨Hz1, Hz2, HV⟩
    isplitl [H16]; · iexact H16
    isplitl [H1]; · iexact H1
    isplitl [H2]; · iexact H2
    isplitl [H3]; · iexact H3
    isplitl [H13]; · iexact H13
    isplitl [H14]; · iexact H14
    isplitl [HO]; · iexact HO
    isplitl [Hz1 Hz2 Hsg Hsd HV]
    · isplitr [HV]
      · isplitl [Hz1]; · iexact Hz1
        isplitl [Hz2]; · iexact Hz2
        isplitl [Hsg]; · iexact Hsg
        iexact Hsd
      iexact HV
    isplitl [Hg1]; · iexact Hg1
    isplitl [Hg2]; · iexact Hg2
    isplitl [Hg3]; · iexact Hg3
    isplitl [Hg4]; · iexact Hg4
    isplitl [Hg5]; · iexact Hg5
    isplitl [Hd0]; · iexact Hd0
    isplitl [Hd1]; · iexact Hd1
    isplitl [Hd2]; · iexact Hd2
    iexact Hd3

end Cert.Kernel.Hand
-- ==== Proof.Kernel.Words.lean ====
/-
  The words the kernel computes: trips, offsets, conditions, and the facts assumed of them.
-/
module

public import proofs.«01_k».proof.Proof.Kernel.Loads
public import Idealize.ShloMosaic.Lib.Tactic.Disch

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem t3_trips : ∀ n : Fin 33, (k0_t3_loop (BitVec.ofNat 32 n)).trips = n := by decide +kernel
theorem t4_trips : ∀ n : Fin 33, (k0_t4_loop (BitVec.ofNat 32 n)).trips = 0 := by decide +kernel
theorem t3_slot : ∀ n : Fin 33, ∀ k : Fin (k0_t3_loop (BitVec.ofNat 32 n)).trips, sl k = k % 2 := by decide +kernel
theorem t3_off55 : ∀ n : Fin 33, ∀ k : Fin (k0_t3_loop (BitVec.ofNat 32 n)).trips, k0_off55 (BitVec.ofNat 32 n) k = ![(k : ℕ)] := by decide +kernel
theorem t3_off56 : ∀ n : Fin 33, ∀ k : Fin (k0_t3_loop (BitVec.ofNat 32 n)).trips,
    k0_off56 (BitVec.ofNat 32 n) k = ![min ((k : ℕ) + 2) ((n : ℕ) - 1)] := by decide +kernel
theorem t3_cond : ∀ n : Fin 33, ∀ k : Fin (k0_t3_loop (BitVec.ofNat 32 n)).trips,
    (k0_cond3 (BitVec.ofNat 32 n) k = 1#1 ↔ (k : ℕ) + 2 < n) := by decide +kernel
theorem cond1_iff : ∀ n : Fin 33, (k0_cond1 (BitVec.ofNat 32 n) = 1#1 ↔ 0 < (n : ℕ)) := by decide +kernel
theorem cond2_iff : ∀ n : Fin 33, (k0_cond2 (BitVec.ofNat 32 n) = 1#1 ↔ 1 < (n : ℕ)) := by decide +kernel

theorem slot_lt (n : Fin 33) (k : Fin (k0_t3_loop (BitVec.ofNat 32 n)).trips) :
    (Scalar.remsi (Scf.iv 0#32 1#32 k) 2#32).toNat + 1 ≤ 2 := by
  have := t3_slot n k
  unfold sl at this
  omega

/-! Bounds, axis by axis; words whole at a row offset that is a multiple of four. -/

theorem inb1 {x D : ℕ} (h : x + 1 ≤ D) (a : Fin 1) : (![x] : Fin 1 → ℕ) a + (![1] : Fin 1 → ℕ) a ≤ (![D] : Fin 1 → ℕ) a := by
  fin_cases a; exact h
theorem inb2 {x y L M D E : ℕ} (h : x + L ≤ D) (h' : Nat.ble (y + M) E = true) (a : Fin 2) :
    (![x, y] : Fin 2 → ℕ) a + (![L, M] : Fin 2 → ℕ) a ≤ (![D, E] : Fin 2 → ℕ) a := by
  fin_cases a
  · exact h
  · exact Nat.le_of_ble_eq_true h'
theorem inb3 {x y z L M N D E G : ℕ} (h : x + L ≤ D) (h' : Nat.ble (y + M) E = true) (h'' : Nat.ble (z + N) G = true) (a : Fin 3) :
    (![x, y, z] : Fin 3 → ℕ) a + (![L, M, N] : Fin 3 → ℕ) a ≤ (![D, E, G] : Fin 3 → ℕ) a := by
  fin_cases a
  · exact h
  · exact Nat.le_of_ble_eq_true h'
  · exact Nat.le_of_ble_eq_true h''
theorem words3 {A B C x y z L M N : ℕ}
    {inb : ∀ a : Fin 3, (![x, y, z] : Fin 3 → ℕ) a + (![L, M, N] : Fin 3 → ℕ) a ≤ (![A, B, C] : Fin 3 → ℕ) a}
    (ho : Nat.beq (y % 4) 0 = true) (hs : Nat.beq (M % 4) 0 = true) :
    (Rect.unit (s := ⟨3, ![A, B, C]⟩) ![x, y, z] ![L, M, N] inb).WholeWords (EltTy.packing .fp8e4m3) := by
  have h1 : 4 ∣ y := Nat.dvd_of_mod_eq_zero (Nat.eq_of_beq_eq_true ho)
  have h2 : 4 ∣ M := Nat.dvd_of_mod_eq_zero (Nat.eq_of_beq_eq_true hs)
  have h1' : EltTy.packing .fp8e4m3 ∣ (![x, y, z] : Fin 3 → ℕ) (Shape.rowAx (s := ⟨3, ![A, B, C]⟩) (by decide : 2 ≤ 3)) := h1
  have h2' : EltTy.packing .fp8e4m3 ∣ (![L, M, N] : Fin 3 → ℕ) (Shape.rowAx (s := ⟨3, ![A, B, C]⟩) (by decide : 2 ≤ 3)) := h2
  exact Affine.words_of_packed (Affine.packed_dvd (by decide : 2 ≤ 3) h1' h2')

theorem chk9_of (v : BitVec 32) (h : v.toNat < 33) : k0_chk9 v := fun a => inb1 (x := v.toNat) (D := 33) (by omega) a
theorem chk1_of (v : BitVec 32) (h : v.toNat < 32) : k0_chk1 v := fun a => inb1 (x := v.toNat) (D := 32) (by omega) a
theorem chk13_of (v : BitVec 32) (h : v.toNat < 32) : k0_chk13 v := by
  repeat' apply And.intro
  all_goals first
    | (intros; exact inb3 (Nat.succ_le_of_lt h) rfl rfl _)
    | (intros; exact inb2 (Nat.succ_le_of_lt h) rfl _)
    | (intros; exact words3 rfl rfl)
theorem chk10_of (v34 v : BitVec 32) (h : v.toNat < 32) : k0_chk10 v34 v := by
  repeat' apply And.intro
  all_goals first
    | (intros; exact inb3 (Nat.succ_le_of_lt h) rfl rfl _)
    | (intros; exact inb2 (Nat.succ_le_of_lt h) rfl _)
    | (intros; exact words3 rfl rfl)
theorem chk11_of (v34 v : BitVec 32) (h : v.toNat < 32) : k0_chk11 v34 v := by
  repeat' apply And.intro
  all_goals first
    | (intros; exact inb3 (Nat.succ_le_of_lt h) rfl rfl _)
    | (intros; exact inb2 (Nat.succ_le_of_lt h) rfl _)
    | (intros; exact words3 rfl rfl)
theorem chk14_of (v34 : BitVec 32) (k : Fin (k0_t3_loop v34).trips) (v : BitVec 32) (h : v.toNat < 32) : k0_chk14 v34 k v := by
  repeat' apply And.intro
  all_goals first
    | (intros; exact inb3 (Nat.succ_le_of_lt h) rfl rfl _)
    | (intros; exact inb2 (Nat.succ_le_of_lt h) rfl _)
    | (intros; exact words3 rfl rfl)

theorem off55_inb (n : Fin 33) (k : Fin (k0_t3_loop (BitVec.ofNat 32 n)).trips) (a : Fin 1) :
    k0_off55 (BitVec.ofNat 32 n) k a + S1.size a ≤ S33.size a := by
  rw [t3_off55]
  have := k.isLt.trans_eq (t3_trips n)
  exact inb1 (D := 33) (by omega) a
theorem off56_inb (n : Fin 33) (k : Fin (k0_t3_loop (BitVec.ofNat 32 n)).trips) (a : Fin 1) :
    k0_off56 (BitVec.ofNat 32 n) k a + S1.size a ≤ S33.size a := by
  rw [t3_off56]
  have := k.isLt.trans_eq (t3_trips n)
  exact inb1 (D := 33) (by omega) a

theorem t3_ok1 : ∀ n : Fin 33, 0 < (k0_t3_loop (BitVec.ofNat 32 n)).st.toInt := by decide +kernel
theorem t3_ok2 : ∀ n : Fin 33, (k0_t3_loop (BitVec.ofNat 32 n)).lb.toInt +
      ↑(Scf.trips (k0_t3_loop (BitVec.ofNat 32 n)).lb (k0_t3_loop (BitVec.ofNat 32 n)).ub (k0_t3_loop (BitVec.ofNat 32 n)).st) *
        (k0_t3_loop (BitVec.ofNat 32 n)).st.toInt < 2 ^ (32 - 1) := by decide +kernel
theorem t4_ok1 : ∀ n : Fin 33, 0 < (k0_t4_loop (BitVec.ofNat 32 n)).st.toInt := by decide +kernel
theorem t4_ok2 : ∀ n : Fin 33, (k0_t4_loop (BitVec.ofNat 32 n)).lb.toInt +
      ↑(Scf.trips (k0_t4_loop (BitVec.ofNat 32 n)).lb (k0_t4_loop (BitVec.ofNat 32 n)).ub (k0_t4_loop (BitVec.ofNat 32 n)).st) *
        (k0_t4_loop (BitVec.ofNat 32 n)).st.toInt < 2 ^ (32 - 1) := by decide +kernel
theorem t4_elim (n : Fin 33) (k : Fin (k0_t4_loop (BitVec.ofNat 32 n)).trips) : False :=
  Nat.not_lt_zero _ (k.isLt.trans_eq (t4_trips n))

theorem chk12_of (n : Fin 33) : k0_chk12 (BitVec.ofNat 32 n) := by
  repeat' apply And.intro
  all_goals first
    | with_reducible exact t3_ok1 n
    | with_reducible exact t3_ok2 n
    | with_reducible exact t4_ok1 n
    | with_reducible exact t4_ok2 n
    | ((with_reducible intro k); with_reducible exact (t4_elim n k).elim)
    | (intro k; with_reducible exact off55_inb n k)
    | (intro k; intros; with_reducible exact off56_inb n k _)
    | (intro k; intros; (with_reducible show Rect.WholeWords _ _); exact words3 rfl rfl)
    | (intro k; intros; (with_reducible show _ + _ ≤ _); exact inb3 (slot_lt n k) rfl rfl _)
    | (intro k; intros; (with_reducible show _ + _ ≤ _); exact inb2 (slot_lt n k) rfl _)
end Cert.Kernel.Hand
-- ==== Proof.Kernel.Loop.lean ====
/-
  The main loop: at trip `k` of `n` the transfers of trips `k` and `k + 1` are in flight (those below `n`).
-/
module

public import proofs.«01_k».proof.Proof.Kernel.Trip
public import proofs.«01_k».proof.Proof.Kernel.Words

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- The first trip from `k` on that uses slot `s`. -/
def nxt (k s : ℕ) : ℕ := k + (k + s) % 2
/-- Slot `s` before trip `k`. -/
def slotSt (n : ℕ) (E : ℕ → Fin 32) (k s : ℕ) : sProp 𝕄 :=
  if nxt k s < n then slotFly c a s (E (nxt k s)) else slotIdle c a s

/-- The accumulator before trip `k`, the experts listed by `E`. -/
def accAt (E : ℕ → Fin 32) : ℕ → S64x4096.Idx → Elt F .f32
  | 0 => k0_pay39
  | k + 1 => accNext a (E k) (accAt E k)

def loopInv (n : ℕ) (E : ℕ → Fin 32) (ord : S33.Idx → BitVec 32) (k : ℕ) : sProp 𝕄 :=
  iprop((M16.view.loc (c : Thread nD τ) ↦{fullShare} ord) ∗ (M1.view.loc (c : Thread nD τ) ↦{fullShare} a.ids) ∗ (M2.view.loc (c : Thread nD τ) ↦{fullShare} a.cw) ∗ (M3.view.loc (c : Thread nD τ) ↦{fullShare} a.x)
    ∗ (∃ f, (M13.view.loc (c : Thread nD τ) ↦{fullShare} f)) ∗ (M14.view.loc (c : Thread nD τ) ↦{fullShare} accAt a E k) ∗ ow c ∗ slotSt c a n E k 0 ∗ slotSt c a n E k 1)

theorem loop_step (n : Fin 33) (E : ℕ → Fin 32) (ord : S33.Idx → BitVec 32) (hE : ∀ i < (n : ℕ), (ordAt ord i).toNat = E i)
    (hw12 : k0_chk12 (BitVec.ofNat 32 n)) (k : Fin (k0_t3_loop (BitVec.ofNat 32 n)).trips) :
    loopInv c a n E ord k ⊢ wp frame (wpE defs 𝒱 (c : Thread nD τ) bd) Set.univ (k0_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 (BitVec.ofNat 32 n) hw12 k ()) (fun _ => loopInv c a n E ord (k + 1)) := by
  have hk : (k : ℕ) < n := k.isLt.trans_eq (t3_trips n)
  have hsl := t3_slot n k
  have hlt : min ((k : ℕ) + 2) ((n : ℕ) - 1) < n := by omega
  have h1 := hE k hk
  have h2 := hE _ hlt
  have hc : k0_cond3 (BitVec.ofNat 32 n) k = 1#1 → (ordAt ord (min ((k : ℕ) + 2) ((n : ℕ) - 1))).toNat = E (k + 2) := fun h => by
    have := (t3_cond n k).1 h
    rw [show min ((k : ℕ) + 2) ((n : ℕ) - 1) = k + 2 by omega]
    exact hE _ this
  have T := @trip F _ defs 𝒱 c bd a (BitVec.ofNat 32 n) hw12 k (E k) (E (k + 2)) ord k (min ((k : ℕ) + 2) ((n : ℕ) - 1)) fullShare
  unfold loopInv
  iintro ⟨H16, H1, H2, H3, ⟨%f13, H13⟩, H14, HO, HA, HB⟩
  have T := T f13 (accAt a E k) (t3_off55 n k) (t3_off56 n k) (chk13_of _ (by rw [h1]; exact (E _).isLt)) (chk14_of _ k _ (by rw [h2]; exact (E _).isLt)) h1 hc
    (Q := fun _ => loopInv c a n E ord (k + 1))
  unfold loopInv at T
  rcases Nat.mod_two_eq_zero_or_one (k : ℕ) with hp | hp
  · have e0 : nxt k 0 = k := by unfold nxt; omega
    have e1 : nxt k 1 = k + 1 := by unfold nxt; omega
    have e2 : nxt (k + 1) 0 = k + 2 := by unfold nxt; omega
    have e3 : nxt (k + 1) 1 = k + 1 := by unfold nxt; omega
    rw [hsl, hp] at T
    ihave HA := (Entails.of_eq (show slotSt c a n E k 0 = slotFly c a 0 (E k) from by unfold slotSt; rw [e0, if_pos hk])) $$ HA
    iapply T $$ [H16 H1 H2 H3 H13 H14 HO HA]
    · isplitl [H16]; · iexact H16
      isplitl [H1]; · iexact H1
      isplitl [H2]; · iexact H2
      isplitl [H3]; · iexact H3
      isplitl [H13]; · iexact H13
      isplitl [H14]; · iexact H14
      isplitl [HO]; · iexact HO
      iexact HA
    iintro ⟨H16, H1, H2, H3, H13, H14, HO, HA⟩
    isplitl [H16]; · iexact H16
    isplitl [H1]; · iexact H1
    isplitl [H2]; · iexact H2
    isplitl [H3]; · iexact H3
    isplitl [H13]; · iexists _; iexact H13
    isplitl [H14]; · iexact H14
    isplitl [HO]; · iexact HO
    ihave HA := (Entails.of_eq (show (if k0_cond3 (BitVec.ofNat 32 n) k = 1#1 then slotFly c a 0 (E (k + 2)) else slotIdle c a 0) = slotSt c a n E (k + 1) 0 from by
      unfold slotSt; rw [e2]; simp only [t3_cond n k])) $$ HA
    ihave HB := (Entails.of_eq (show slotSt c a n E k 1 = slotSt c a n E (k + 1) 1 from by unfold slotSt; rw [e1, e3])) $$ HB
    isplitl [HA]; · iexact HA
    iexact HB
  · have e0 : nxt k 1 = k := by unfold nxt; omega
    have e1 : nxt k 0 = k + 1 := by unfold nxt; omega
    have e2 : nxt (k + 1) 1 = k + 2 := by unfold nxt; omega
    have e3 : nxt (k + 1) 0 = k + 1 := by unfold nxt; omega
    rw [hsl, hp] at T
    ihave HB := (Entails.of_eq (show slotSt c a n E k 1 = slotFly c a 1 (E k) from by unfold slotSt; rw [e0, if_pos hk])) $$ HB
    iapply T $$ [H16 H1 H2 H3 H13 H14 HO HB]
    · isplitl [H16]; · iexact H16
      isplitl [H1]; · iexact H1
      isplitl [H2]; · iexact H2
      isplitl [H3]; · iexact H3
      isplitl [H13]; · iexact H13
      isplitl [H14]; · iexact H14
      isplitl [HO]; · iexact HO
      iexact HB
    iintro ⟨H16, H1, H2, H3, H13, H14, HO, HB⟩
    isplitl [H16]; · iexact H16
    isplitl [H1]; · iexact H1
    isplitl [H2]; · iexact H2
    isplitl [H3]; · iexact H3
    isplitl [H13]; · iexists _; iexact H13
    isplitl [H14]; · iexact H14
    isplitl [HO]; · iexact HO
    ihave HB := (Entails.of_eq (show (if k0_cond3 (BitVec.ofNat 32 n) k = 1#1 then slotFly c a 1 (E (k + 2)) else slotIdle c a 1) = slotSt c a n E (k + 1) 1 from by
      unfold slotSt; rw [e2]; simp only [t3_cond n k])) $$ HB
    ihave HA := (Entails.of_eq (show slotSt c a n E k 0 = slotSt c a n E (k + 1) 0 from by unfold slotSt; rw [e1, e3])) $$ HA
    isplitl [HA]; · iexact HA
    iexact HB

/-- The whole loop. -/
theorem run_loop (n : Fin 33) (E : ℕ → Fin 32) (ord : S33.Idx → BitVec 32) (hE : ∀ i < (n : ℕ), (ordAt ord i).toNat = E i)
    (hw12 : k0_chk12 (BitVec.ofNat 32 n)) {Q : _ → sProp 𝕄} :
    loopInv c a n E ord 0 ⊢ iprop((loopInv c a n E ord n -∗ Q ()) -∗ wp frame (wpE defs 𝒱 (c : Thread nD τ) bd) Set.univ
      (Scf.Loop.for (k0_t3_loop (BitVec.ofNat 32 n)) (k0_t3_ok (BitVec.ofNat 32 n) hw12) () (k0_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 (BitVec.ofNat 32 n) hw12)) Q) := by
  iintro H HK
  iapply (Scf.wp_for frame (wpE defs 𝒱 (c : Thread nD τ) bd) Set.univ _ _ _ (k0_t3_ok (BitVec.ofNat 32 n) hw12) () _ (fun k _ => loopInv c a n E ord k)
    (fun k _ => loop_step 𝒱 c bd a n E ord hE hw12 k))
  isplitl [H]; · iexact H
  iintro %u H
  rw [show Scf.trips (k0_t3_loop (BitVec.ofNat 32 n)).lb (k0_t3_loop (BitVec.ofNat 32 n)).ub (k0_t3_loop (BitVec.ofNat 32 n)).st = n from t3_trips n]
  iapply HK
  iexact H

/-- The remainder loop runs no trip. -/
theorem run_rest (n : Fin 33) (hw12 : k0_chk12 (BitVec.ofNat 32 n)) (v49 : BitVec 32) {Q : _ → sProp 𝕄} :
    Q () ⊢ wp frame (wpE defs 𝒱 (c : Thread nD τ) bd) Set.univ
      (Scf.Loop.for (k0_t4_loop (BitVec.ofNat 32 n)) (k0_t4_ok (BitVec.ofNat 32 n) hw12) () (k0_t4_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 (BitVec.ofNat 32 n) hw12 v49)) Q := by
  iintro H
  iapply (Scf.wp_for frame (wpE defs 𝒱 (c : Thread nD τ) bd) Set.univ _ _ _ (k0_t4_ok (BitVec.ofNat 32 n) hw12) () _ (fun _ _ => Q ())
    (fun k _ => (t4_elim n k).elim))
  isplitl [H]; · iexact H
  iintro %u H
  iexact H

end Cert.Kernel.Hand
-- ==== Proof.Kernel.Pro.lean ====
/-
  The transfers issued before the loop: every transfer of the first expert into slot 0, of the second into slot 1.
-/
module

public import proofs.«01_k».proof.Proof.Kernel.Trip
public import proofs.«01_k».proof.Proof.Kernel.Words

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem pro2 (v34 : BitVec 32) (h : k0_cond1 v34 = 1#1) (ord : S33.Idx → BitVec 32) (q : PosShare TreeShare) (hw : k0_chk10 v34 (ordAt ord 0)) (e : Fin 32) (he : (ordAt ord 0).toNat = e) {Q : _ → sProp 𝕄} :
    iprop((M16.view.loc (c : Thread nD τ) ↦{q} ord) ∗ zIdle c a 0) ⊢ iprop((iprop((M16.view.loc (c : Thread nD τ) ↦{q} ord) ∗ zFly c a 0 e 0) -∗ Q ⟨ordAt ord 0, hw⟩) -∗ wp frame (wpE defs 𝒱 (c : Thread nD τ) bd) Set.univ (k0_part2 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h) Q) := by
  rw [k0_part2_eq_skeleton]
  unfold k0_part2_skel
  iintro ⟨H16, Hz⟩ HK
  iapply (wp_ld_ord 𝒱 c bd rfl) $$ H16
  iintro H16
  iapply (wp_assume 𝒱 (c : Thread nD τ) bd Set.univ hw)
  iapply (wp_enq_p1 𝒱 c bd a 0 rfl rfl he (gsem_eq rfl)) $$ Hz
  iintro Hz
  iapply (wp_enq_p2 𝒱 c bd a 0 rfl rfl he (gsem_eq rfl)) $$ Hz
  iintro Hz
  iapply (wp_enq_p3 𝒱 c bd a 0 rfl rfl rfl he (gsem_eq rfl)) $$ Hz
  iintro Hz
  iapply (wp_enq_p4 𝒱 c bd a 0 rfl rfl rfl he (gsem_eq rfl)) $$ Hz
  iintro Hz
  iapply (le_wp_ret _ _)
  iapply HK
  isplitl [H16]; · iexact H16
  iexact Hz

theorem pro3 (v34 : BitVec 32) (h : k0_cond1 v34 = 1#1) (v : BitVec 32) (hw : k0_chk10 v34 v) (e : Fin 32) (he : v.toNat = e) {Q : _ → sProp 𝕄} :
    iprop(gIdle c a 0 1 ∗ gIdle c a 0 2) ⊢ iprop((iprop(gFly c a 0 1 e ∗ gFly c a 0 2 e) -∗ Q ()) -∗ wp frame (wpE defs 𝒱 (c : Thread nD τ) bd) Set.univ (k0_part3 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part3_eq_skeleton]
  unfold k0_part3_skel
  iintro ⟨Hg1, Hg2⟩ HK
  iapply (wp_enq_g1 𝒱 c bd a 0 1 rfl rfl rfl he (gsem_eq rfl)) $$ Hg1
  iintro Hg1
  iapply (wp_enq_g2 𝒱 c bd a 0 1 rfl rfl rfl he (gsem_eq rfl)) $$ Hg1
  iintro Hg1
  iapply (wp_enq_g1 𝒱 c bd a 0 2 rfl rfl rfl he (gsem_eq rfl)) $$ Hg2
  iintro Hg2
  iapply (wp_enq_g2 𝒱 c bd a 0 2 rfl rfl rfl he (gsem_eq rfl)) $$ Hg2
  iintro Hg2
  iapply (le_wp_ret _ _)
  iapply HK
  isplitl [Hg1]; · iexact Hg1
  iexact Hg2

theorem pro4 (v34 : BitVec 32) (h : k0_cond1 v34 = 1#1) (v : BitVec 32) (hw : k0_chk10 v34 v) (e : Fin 32) (he : v.toNat = e) {Q : _ → sProp 𝕄} :
    iprop(gIdle c a 0 3 ∗ gIdle c a 0 4) ⊢ iprop((iprop(gFly c a 0 3 e ∗ gFly c a 0 4 e) -∗ Q ()) -∗ wp frame (wpE defs 𝒱 (c : Thread nD τ) bd) Set.univ (k0_part4 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part4_eq_skeleton]
  unfold k0_part4_skel
  iintro ⟨Hg1, Hg2⟩ HK
  iapply (wp_enq_g1 𝒱 c bd a 0 3 rfl rfl rfl he (gsem_eq rfl)) $$ Hg1
  iintro Hg1
  iapply (wp_enq_g2 𝒱 c bd a 0 3 rfl rfl rfl he (gsem_eq rfl)) $$ Hg1
  iintro Hg1
  iapply (wp_enq_g1 𝒱 c bd a 0 4 rfl rfl rfl he (gsem_eq rfl)) $$ Hg2
  iintro Hg2
  iapply (wp_enq_g2 𝒱 c bd a 0 4 rfl rfl rfl he (gsem_eq rfl)) $$ Hg2
  iintro Hg2
  iapply (le_wp_ret _ _)
  iapply HK
  isplitl [Hg1]; · iexact Hg1
  iexact Hg2

theorem pro5 (v34 : BitVec 32) (h : k0_cond1 v34 = 1#1) (v : BitVec 32) (hw : k0_chk10 v34 v) (e : Fin 32) (he : v.toNat = e) {Q : _ → sProp 𝕄} :
    iprop(gIdle c a 0 5 ∗ dIdle c a 0 0 ∗ dIdle c a 0 1 ∗ dIdle c a 0 2) ⊢ iprop((iprop(gFly c a 0 5 e ∗ dFly c a 0 0 e ∗ dFly c a 0 1 e ∗ dFly c a 0 2 e) -∗ Q ()) -∗ wp frame (wpE defs 𝒱 (c : Thread nD τ) bd) Set.univ (k0_part5 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part5_eq_skeleton]
  unfold k0_part5_skel
  iintro ⟨Hg1, Hd0, Hd1, Hd2⟩ HK
  iapply (wp_enq_g1 𝒱 c bd a 0 5 rfl rfl rfl he (gsem_eq rfl)) $$ Hg1
  iintro Hg1
  iapply (wp_enq_g2 𝒱 c bd a 0 5 rfl rfl rfl he (gsem_eq rfl)) $$ Hg1
  iintro Hg1
  iapply (wp_enq_d1 𝒱 c bd a 0 0 rfl rfl he (dsem_eq rfl)) $$ Hd0
  iintro Hd0
  iapply (wp_enq_d1 𝒱 c bd a 0 1 rfl rfl he (dsem_eq rfl)) $$ Hd1
  iintro Hd1
  iapply (wp_enq_d1 𝒱 c bd a 0 2 rfl rfl he (dsem_eq rfl)) $$ Hd2
  iintro Hd2
  iapply (le_wp_ret _ _)
  iapply HK
  isplitl [Hg1]; · iexact Hg1
  isplitl [Hd0]; · iexact Hd0
  isplitl [Hd1]; · iexact Hd1
  iexact Hd2

theorem pro6 (v34 : BitVec 32) (h : k0_cond2 v34 = 1#1) (ord : S33.Idx → BitVec 32) (q : PosShare TreeShare) (hw : k0_chk11 v34 (ordAt ord 1)) (e : Fin 32) (he : (ordAt ord 1).toNat = e) {Q : _ → sProp 𝕄} :
    iprop((M16.view.loc (c : Thread nD τ) ↦{q} ord) ∗ zIdle c a 1) ⊢ iprop((iprop((M16.view.loc (c : Thread nD τ) ↦{q} ord) ∗ zFly c a 1 e 0) -∗ Q ⟨ordAt ord 1, hw⟩) -∗ wp frame (wpE defs 𝒱 (c : Thread nD τ) bd) Set.univ (k0_part6 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h) Q) := by
  rw [k0_part6_eq_skeleton]
  unfold k0_part6_skel
  iintro ⟨H16, Hz⟩ HK
  iapply (wp_ld_ord 𝒱 c bd rfl) $$ H16
  iintro H16
  iapply (wp_assume 𝒱 (c : Thread nD τ) bd Set.univ hw)
  iapply (wp_enq_p1 𝒱 c bd a 1 rfl rfl he (gsem_eq rfl)) $$ Hz
  iintro Hz
  iapply (wp_enq_p2 𝒱 c bd a 1 rfl rfl he (gsem_eq rfl)) $$ Hz
  iintro Hz
  iapply (wp_enq_p3 𝒱 c bd a 1 rfl rfl rfl he (gsem_eq rfl)) $$ Hz
  iintro Hz
  iapply (wp_enq_p4 𝒱 c bd a 1 rfl rfl rfl he (gsem_eq rfl)) $$ Hz
  iintro Hz
  iapply (le_wp_ret _ _)
  iapply HK
  isplitl [H16]; · iexact H16
  iexact Hz

theorem pro7 (v34 : BitVec 32) (h : k0_cond2 v34 = 1#1) (v : BitVec 32) (hw : k0_chk11 v34 v) (e : Fin 32) (he : v.toNat = e) {Q : _ → sProp 𝕄} :
    iprop(gIdle c a 1 1 ∗ gIdle c a 1 2) ⊢ iprop((iprop(gFly c a 1 1 e ∗ gFly c a 1 2 e) -∗ Q ()) -∗ wp frame (wpE defs 𝒱 (c : Thread nD τ) bd) Set.univ (k0_part7 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part7_eq_skeleton]
  unfold k0_part7_skel
  iintro ⟨Hg1, Hg2⟩ HK
  iapply (wp_enq_g1 𝒱 c bd a 1 1 rfl rfl rfl he (gsem_eq rfl)) $$ Hg1
  iintro Hg1
  iapply (wp_enq_g2 𝒱 c bd a 1 1 rfl rfl rfl he (gsem_eq rfl)) $$ Hg1
  iintro Hg1
  iapply (wp_enq_g1 𝒱 c bd a 1 2 rfl rfl rfl he (gsem_eq rfl)) $$ Hg2
  iintro Hg2
  iapply (wp_enq_g2 𝒱 c bd a 1 2 rfl rfl rfl he (gsem_eq rfl)) $$ Hg2
  iintro Hg2
  iapply (le_wp_ret _ _)
  iapply HK
  isplitl [Hg1]; · iexact Hg1
  iexact Hg2

theorem pro8 (v34 : BitVec 32) (h : k0_cond2 v34 = 1#1) (v : BitVec 32) (hw : k0_chk11 v34 v) (e : Fin 32) (he : v.toNat = e) {Q : _ → sProp 𝕄} :
    iprop(gIdle c a 1 3 ∗ gIdle c a 1 4) ⊢ iprop((iprop(gFly c a 1 3 e ∗ gFly c a 1 4 e) -∗ Q ()) -∗ wp frame (wpE defs 𝒱 (c : Thread nD τ) bd) Set.univ (k0_part8 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part8_eq_skeleton]
  unfold k0_part8_skel
  iintro ⟨Hg1, Hg2⟩ HK
  iapply (wp_enq_g1 𝒱 c bd a 1 3 rfl rfl rfl he (gsem_eq rfl)) $$ Hg1
  iintro Hg1
  iapply (wp_enq_g2 𝒱 c bd a 1 3 rfl rfl rfl he (gsem_eq rfl)) $$ Hg1
  iintro Hg1
  iapply (wp_enq_g1 𝒱 c bd a 1 4 rfl rfl rfl he (gsem_eq rfl)) $$ Hg2
  iintro Hg2
  iapply (wp_enq_g2 𝒱 c bd a 1 4 rfl rfl rfl he (gsem_eq rfl)) $$ Hg2
  iintro Hg2
  iapply (le_wp_ret _ _)
  iapply HK
  isplitl [Hg1]; · iexact Hg1
  iexact Hg2

theorem pro9 (v34 : BitVec 32) (h : k0_cond2 v34 = 1#1) (v : BitVec 32) (hw : k0_chk11 v34 v) (e : Fin 32) (he : v.toNat = e) {Q : _ → sProp 𝕄} :
    iprop(gIdle c a 1 5 ∗ dIdle c a 1 0 ∗ dIdle c a 1 1 ∗ dIdle c a 1 2) ⊢ iprop((iprop(gFly c a 1 5 e ∗ dFly c a 1 0 e ∗ dFly c a 1 1 e ∗ dFly c a 1 2 e) -∗ Q ()) -∗ wp frame (wpE defs 𝒱 (c : Thread nD τ) bd) Set.univ (k0_part9 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part9_eq_skeleton]
  unfold k0_part9_skel
  iintro ⟨Hg1, Hd0, Hd1, Hd2⟩ HK
  iapply (wp_enq_g1 𝒱 c bd a 1 5 rfl rfl rfl he (gsem_eq rfl)) $$ Hg1
  iintro Hg1
  iapply (wp_enq_g2 𝒱 c bd a 1 5 rfl rfl rfl he (gsem_eq rfl)) $$ Hg1
  iintro Hg1
  iapply (wp_enq_d1 𝒱 c bd a 1 0 rfl rfl he (dsem_eq rfl)) $$ Hd0
  iintro Hd0
  iapply (wp_enq_d1 𝒱 c bd a 1 1 rfl rfl he (dsem_eq rfl)) $$ Hd1
  iintro Hd1
  iapply (wp_enq_d1 𝒱 c bd a 1 2 rfl rfl he (dsem_eq rfl)) $$ Hd2
  iintro Hd2
  iapply (le_wp_ret _ _)
  iapply HK
  isplitl [Hg1]; · iexact Hg1
  isplitl [Hd0]; · iexact Hd0
  isplitl [Hd1]; · iexact Hd1
  iexact Hd2

end Cert.Kernel.Hand
-- ==== Proof.Kernel.Order.lean ====
/-
  The two words arrays in scalar memory: which experts the tokens name, and the list of them in ascending order.
-/
module

public import proofs.«01_k».proof.Proof.Kernel.Steps
public import Mathlib.Data.Nat.Count
public import proofs.«01_k».proof.Proof.Kernel.Words

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem write_seen {n : ℕ} {o : Fin 1 → ℕ} {h} (ho : o = ![n]) (f : S32.Idx → BitVec 32) (w : BitVec 32) :
    (M15.access (Rect.unit (s := S32) o S1.size h)).write (Elt F) f (fun _ => w) Finset.univ
      = fun i => if (i 0 : ℕ) = n then w else f i := by
  subst ho
  funext i
  by_cases h' : (i 0 : ℕ) = n
  · rw [if_pos h']
    have hi : i = (M15.access (Rect.unit (s := S32) ![n] S1.size h)).emb (ValueIdx.ix1 ⟨0, by decide⟩) := by
      funext t
      apply Fin.ext
      fin_cases t
      show (i 0 : ℕ) = n + 1 * 0; omega
    conv_lhs => rw [hi]
    rw [View.write_emb_of_mem _ _ (Finset.mem_univ _)]
    rfl
  · rw [if_neg h']
    apply View.write_of_not_mem
    intro hi
    apply h'
    rw [View.setOn_univ] at hi
    erw [View.set_slice_whole] at hi
    rw [Rect.mem_set_unit] at hi
    have := hi 0
    simp at this
    omega

theorem wp_st_seen {α : Type} {Q : α → sProp 𝕄} {n : ℕ} {w : BitVec 32} {f : S32.Idx → BitVec 32} (g : S32.Idx → BitVec 32) {o : Fin 1 → ℕ} {h} {h1 h2}
    {k : PUnit → Prog (TpuEff nD τ sig (Elt F) Λ₀ .tc) α} (ho : o = ![n]) (hg : (fun i => if (i 0 : ℕ) = n then w else f i) = g) :
    (M15.view.loc (c : Thread nD τ) ↦{fullShare} f)
      ⊢ iprop(((M15.view.loc (c : Thread nD τ) ↦{fullShare} g) -∗ wp frame (wpE defs 𝒱 (c : Thread nD τ) bd) Set.univ (k ⟨⟩) Q)
          -∗ wp frame (wpE defs 𝒱 (c : Thread nD τ) bd) Set.univ (.op (.store M15 (Rect.unit (s := S32) o S1.size h) (fun _ => w) Finset.univ h1 h2) k) Q) := by
  iintro H Hk
  iapply (wp_store 𝒱 (c : Thread nD τ) bd Set.univ (m := M15) (r := Rect.unit (s := S32) o S1.size h) (f := f)
    (S := Finset.univ) (hS := Finset.subset_univ _)) $$ H
  iintro H
  iapply Hk
  have hs := (write_seen (F := F) (h := h) ho f w).trans hg
  iapply (Entails.of_eq (congrArg (fun g : S32.Idx → BitVec 32 => (M15.view.loc (c : Thread nD τ) ↦{fullShare} g : sProp 𝕄)) hs))
  iexact H

theorem write_ord {n : ℕ} {o : Fin 1 → ℕ} {h} (ho : o = ![n]) (f : S33.Idx → BitVec 32) (w : BitVec 32) :
    (M16.access (Rect.unit (s := S33) o S1.size h)).write (Elt F) f (fun _ => w) Finset.univ
      = fun i => if (i 0 : ℕ) = n then w else f i := by
  subst ho
  funext i
  by_cases h' : (i 0 : ℕ) = n
  · rw [if_pos h']
    have hi : i = (M16.access (Rect.unit (s := S33) ![n] S1.size h)).emb (ValueIdx.ix1 ⟨0, by decide⟩) := by
      funext t
      apply Fin.ext
      fin_cases t
      show (i 0 : ℕ) = n + 1 * 0; omega
    conv_lhs => rw [hi]
    rw [View.write_emb_of_mem _ _ (Finset.mem_univ _)]
    rfl
  · rw [if_neg h']
    apply View.write_of_not_mem
    intro hi
    apply h'
    rw [View.setOn_univ] at hi
    erw [View.set_slice_whole] at hi
    rw [Rect.mem_set_unit] at hi
    have := hi 0
    simp at this
    omega

theorem wp_st_ord {α : Type} {Q : α → sProp 𝕄} {n : ℕ} {w : BitVec 32} {f : S33.Idx → BitVec 32} (g : S33.Idx → BitVec 32) {o : Fin 1 → ℕ} {h} {h1 h2}
    {k : PUnit → Prog (TpuEff nD τ sig (Elt F) Λ₀ .tc) α} (ho : o = ![n]) (hg : (fun i => if (i 0 : ℕ) = n then w else f i) = g) :
    (M16.view.loc (c : Thread nD τ) ↦{fullShare} f)
      ⊢ iprop(((M16.view.loc (c : Thread nD τ) ↦{fullShare} g) -∗ wp frame (wpE defs 𝒱 (c : Thread nD τ) bd) Set.univ (k ⟨⟩) Q)
          -∗ wp frame (wpE defs 𝒱 (c : Thread nD τ) bd) Set.univ (.op (.store M16 (Rect.unit (s := S33) o S1.size h) (fun _ => w) Finset.univ h1 h2) k) Q) := by
  iintro H Hk
  iapply (wp_store 𝒱 (c : Thread nD τ) bd Set.univ (m := M16) (r := Rect.unit (s := S33) o S1.size h) (f := f)
    (S := Finset.univ) (hS := Finset.subset_univ _)) $$ H
  iintro H
  iapply Hk
  have hs := (write_ord (F := F) (h := h) ho f w).trans hg
  iapply (Entails.of_eq (congrArg (fun g : S33.Idx → BitVec 32 => (M16.view.loc (c : Thread nD τ) ↦{fullShare} g : sProp 𝕄)) hs))
  iexact H

/-- Word `n` of the marks. -/
def seenAt (f : S32.Idx → BitVec 32) (n : ℕ) : BitVec 32 := if h : n < 32 then f (ValueIdx.ix1 ⟨n, h⟩) else 0

theorem wp_ld_seen {α : Type} {Q : α → sProp 𝕄} {n : ℕ} {f : S32.Idx → BitVec 32} {o : Fin 1 → ℕ} {h} {hn} {hw}
    {k : BitVec 32 → Prog (TpuEff nD τ sig (Elt F) Λ₀ .tc) α} (ho : o = ![n]) :
    (M15.view.loc (c : Thread nD τ) ↦{fullShare} f)
      ⊢ iprop(((M15.view.loc (c : Thread nD τ) ↦{fullShare} f) -∗ wp frame (wpE defs 𝒱 (c : Thread nD τ) bd) Set.univ (k (seenAt f n)) Q)
          -∗ wp frame (wpE defs 𝒱 (c : Thread nD τ) bd) Set.univ ((smemLoad (Val := Elt F) (nD := nD) (τ := τ) (Λ := Λ₀) M15 (Rect.unit (s := S32) o S1.size h) hn hw).bind k) Q) := by
  subst ho
  rw [show (smemLoad (Val := Elt F) (nD := nD) (τ := τ) (Λ := Λ₀) M15 (Rect.unit (s := S32) ![n] S1.size h) hn hw).bind k
    = smemLoadElt M15 (Rect.unit (s := S32) ![n] S1.size h) (View.loads_smem_one hw hn) (Shape.Idx.first (hn.symm ▸ Nat.one_pos)) k from rfl]
  iintro H Hk
  iapply (wp_smemLoadElt 𝒱 (c : Thread nD τ) bd Set.univ (m := M15) (r := Rect.unit (s := S32) ![n] S1.size h) (f := f)
    (hw := View.loads_smem_one hw hn) (x := Shape.Idx.first (hn.symm ▸ Nat.one_pos)) (k := k)
    (S := Finset.univ) (hS := Finset.subset_univ _)) $$ H
  iintro H
  rw [show seenAt f n = (M15.access (Rect.unit (s := S32) ![n] S1.size h)).read (Elt F) f (Shape.Idx.first (hn.symm ▸ Nat.one_pos)) from by
    have hn' : n < 32 := by have := h 0; simp at this; omega
    unfold seenAt
    rw [dif_pos hn']
    show f _ = f _
    refine congrArg f (funext fun t => Fin.ext ?_)
    fin_cases t
    show n = n + 1 * ((Shape.Idx.first (s := S1) (hn.symm ▸ Nat.one_pos) 0 : Fin _) : ℕ)
    have := (Shape.Idx.first (s := S1) (hn.symm ▸ Nat.one_pos) 0).isLt
    simp at this
    omega]
  iapply Hk $$ H

/-- Word `(t, j)` of the expert ids. -/
def idAt (f : S64x8.Idx → BitVec 32) (t j : ℕ) : BitVec 32 := if h : t < 64 ∧ j < 8 then f (ValueIdx.ix2 ⟨t, h.1⟩ ⟨j, h.2⟩) else 0

theorem wp_ld_id {α : Type} {Q : α → sProp 𝕄} {t j : ℕ} {f : S64x8.Idx → BitVec 32} {o : Fin 2 → ℕ} {h} {hn} {hw}
    {k : BitVec 32 → Prog (TpuEff nD τ sig (Elt F) Λ₀ .tc) α} (ho : o = ![t, j]) :
    (M0.view.loc (c : Thread nD τ) ↦{fullShare} f)
      ⊢ iprop(((M0.view.loc (c : Thread nD τ) ↦{fullShare} f) -∗ wp frame (wpE defs 𝒱 (c : Thread nD τ) bd) Set.univ (k (idAt f t j)) Q)
          -∗ wp frame (wpE defs 𝒱 (c : Thread nD τ) bd) Set.univ ((smemLoad (Val := Elt F) (nD := nD) (τ := τ) (Λ := Λ₀) M0 (Rect.unit (s := S64x8) o S1x1.size h) hn hw).bind k) Q) := by
  subst ho
  rw [show (smemLoad (Val := Elt F) (nD := nD) (τ := τ) (Λ := Λ₀) M0 (Rect.unit (s := S64x8) ![t, j] S1x1.size h) hn hw).bind k
    = smemLoadElt M0 (Rect.unit (s := S64x8) ![t, j] S1x1.size h) (View.loads_smem_one hw hn) (Shape.Idx.first (hn.symm ▸ Nat.one_pos)) k from rfl]
  iintro H Hk
  iapply (wp_smemLoadElt 𝒱 (c : Thread nD τ) bd Set.univ (m := M0) (r := Rect.unit (s := S64x8) ![t, j] S1x1.size h) (f := f)
    (hw := View.loads_smem_one hw hn) (x := Shape.Idx.first (hn.symm ▸ Nat.one_pos)) (k := k)
    (S := Finset.univ) (hS := Finset.subset_univ _)) $$ H
  iintro H
  rw [show idAt f t j = (M0.access (Rect.unit (s := S64x8) ![t, j] S1x1.size h)).read (Elt F) f (Shape.Idx.first (hn.symm ▸ Nat.one_pos)) from by
    have hn' : t < 64 ∧ j < 8 := by have h0 := h 0; have h1 := h 1; simp at h0 h1; omega
    unfold idAt
    rw [dif_pos hn']
    show f _ = f _
    refine congrArg f (funext fun u => Fin.ext ?_)
    fin_cases u
    · show t = t + 1 * ((Shape.Idx.first (s := S1x1) (hn.symm ▸ Nat.one_pos) 0 : Fin _) : ℕ)
      have := (Shape.Idx.first (s := S1x1) (hn.symm ▸ Nat.one_pos) 0).isLt
      simp at this
      omega
    · show j = j + 1 * ((Shape.Idx.first (s := S1x1) (hn.symm ▸ Nat.one_pos) 1 : Fin _) : ℕ)
      have := (Shape.Idx.first (s := S1x1) (hn.symm ▸ Nat.one_pos) 1).isLt
      simp at this
      omega]
  iapply Hk $$ H

/-! ## Clearing the marks -/

def clr (i : ℕ) (f : S32.Idx → BitVec 32) : S32.Idx → BitVec 32 := fun x => if (x 0 : ℕ) < i then 0#32 else f x

theorem clr_succ (i : ℕ) (f : S32.Idx → BitVec 32) : (fun x : S32.Idx => if (x 0 : ℕ) = i then 0#32 else clr i f x) = clr (i + 1) f := by
  funext x
  unfold clr
  by_cases h : (x 0 : ℕ) = i
  · rw [if_pos h, if_pos (by omega)]
  · rw [if_neg h]
    by_cases h2 : (x 0 : ℕ) < i
    · rw [if_pos h2, if_pos (by omega)]
    · rw [if_neg h2, if_neg (by omega)]

/-- One mark cleared: a load whose value is not used, then the store. -/
theorem wp_clr {α : Type} {Q : α → sProp 𝕄} (i : ℕ) {f : S32.Idx → BitVec 32} {o o' : Fin 1 → ℕ} {h h'} {hn hw h1 h2}
    {k : PUnit → Prog (TpuEff nD τ sig (Elt F) Λ₀ .tc) α} (ho : o = ![i]) (ho' : o' = ![i]) :
    (M15.view.loc (c : Thread nD τ) ↦{fullShare} clr i f)
      ⊢ iprop(((M15.view.loc (c : Thread nD τ) ↦{fullShare} clr (i + 1) f) -∗ wp frame (wpE defs 𝒱 (c : Thread nD τ) bd) Set.univ (k ⟨⟩) Q)
          -∗ wp frame (wpE defs 𝒱 (c : Thread nD τ) bd) Set.univ ((smemLoad (Val := Elt F) (nD := nD) (τ := τ) (Λ := Λ₀) M15 (Rect.unit (s := S32) o S1.size h) hn hw).bind
            (fun _ => .op (.store M15 (Rect.unit (s := S32) o' S1.size h') (fun _ => 0#32) Finset.univ h1 h2) k)) Q) := by
  iintro H Hk
  iapply (wp_ld_seen 𝒱 c bd ho) $$ H
  iintro H
  iapply (wp_st_seen 𝒱 c bd (clr (i + 1) f) ho' (clr_succ i f)) $$ H
  iintro H
  iapply Hk $$ H

theorem run32 {f : S32.Idx → BitVec 32} {Q : _ → sProp 𝕄} :
    (M15.view.loc (c : Thread nD τ) ↦{fullShare} f) ⊢ iprop(((M15.view.loc (c : Thread nD τ) ↦{fullShare} clr 15 f) -∗ Q ()) -∗ wp frame (wpE defs 𝒱 (c : Thread nD τ) bd) Set.univ (k0_part32 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [k0_part32_eq_skeleton]
  unfold k0_part32_skel
  iintro H Hk
  ihave H := (Entails.of_eq (congrArg (fun g : S32.Idx → BitVec 32 => ((M15.view.loc (c : Thread nD τ) ↦{fullShare} g) : sProp 𝕄)) (show f = clr 0 f from by funext x; simp [clr]))) $$ H
  iapply (wp_clr 𝒱 c bd 0 (hn := numel1_S1) (hw := rfl) rfl rfl) $$ H
  iintro H
  iapply (wp_clr 𝒱 c bd 1 (hn := numel1_S1) (hw := rfl) rfl rfl) $$ H
  iintro H
  iapply (wp_clr 𝒱 c bd 2 (hn := numel1_S1) (hw := rfl) rfl rfl) $$ H
  iintro H
  iapply (wp_clr 𝒱 c bd 3 (hn := numel1_S1) (hw := rfl) rfl rfl) $$ H
  iintro H
  iapply (wp_clr 𝒱 c bd 4 (hn := numel1_S1) (hw := rfl) rfl rfl) $$ H
  iintro H
  iapply (wp_clr 𝒱 c bd 5 (hn := numel1_S1) (hw := rfl) rfl rfl) $$ H
  iintro H
  iapply (wp_clr 𝒱 c bd 6 (hn := numel1_S1) (hw := rfl) rfl rfl) $$ H
  iintro H
  iapply (wp_clr 𝒱 c bd 7 (hn := numel1_S1) (hw := rfl) rfl rfl) $$ H
  iintro H
  iapply (wp_clr 𝒱 c bd 8 (hn := numel1_S1) (hw := rfl) rfl rfl) $$ H
  iintro H
  iapply (wp_clr 𝒱 c bd 9 (hn := numel1_S1) (hw := rfl) rfl rfl) $$ H
  iintro H
  iapply (wp_clr 𝒱 c bd 10 (hn := numel1_S1) (hw := rfl) rfl rfl) $$ H
  iintro H
  iapply (wp_clr 𝒱 c bd 11 (hn := numel1_S1) (hw := rfl) rfl rfl) $$ H
  iintro H
  iapply (wp_clr 𝒱 c bd 12 (hn := numel1_S1) (hw := rfl) rfl rfl) $$ H
  iintro H
  iapply (wp_clr 𝒱 c bd 13 (hn := numel1_S1) (hw := rfl) rfl rfl) $$ H
  iintro H
  iapply (wp_clr 𝒱 c bd 14 (hn := numel1_S1) (hw := rfl) rfl rfl) $$ H
  iintro H
  iapply (le_wp_ret _ _)
  iapply Hk $$ H

theorem run33 {f : S32.Idx → BitVec 32} {Q : _ → sProp 𝕄} :
    (M15.view.loc (c : Thread nD τ) ↦{fullShare} clr 15 f) ⊢ iprop(((M15.view.loc (c : Thread nD τ) ↦{fullShare} clr 30 f) -∗ Q ()) -∗ wp frame (wpE defs 𝒱 (c : Thread nD τ) bd) Set.univ (k0_part33 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [k0_part33_eq_skeleton]
  unfold k0_part33_skel
  iintro H Hk
  iapply (wp_clr 𝒱 c bd 15 (hn := numel1_S1) (hw := rfl) rfl rfl) $$ H
  iintro H
  iapply (wp_clr 𝒱 c bd 16 (hn := numel1_S1) (hw := rfl) rfl rfl) $$ H
  iintro H
  iapply (wp_clr 𝒱 c bd 17 (hn := numel1_S1) (hw := rfl) rfl rfl) $$ H
  iintro H
  iapply (wp_clr 𝒱 c bd 18 (hn := numel1_S1) (hw := rfl) rfl rfl) $$ H
  iintro H
  iapply (wp_clr 𝒱 c bd 19 (hn := numel1_S1) (hw := rfl) rfl rfl) $$ H
  iintro H
  iapply (wp_clr 𝒱 c bd 20 (hn := numel1_S1) (hw := rfl) rfl rfl) $$ H
  iintro H
  iapply (wp_clr 𝒱 c bd 21 (hn := numel1_S1) (hw := rfl) rfl rfl) $$ H
  iintro H
  iapply (wp_clr 𝒱 c bd 22 (hn := numel1_S1) (hw := rfl) rfl rfl) $$ H
  iintro H
  iapply (wp_clr 𝒱 c bd 23 (hn := numel1_S1) (hw := rfl) rfl rfl) $$ H
  iintro H
  iapply (wp_clr 𝒱 c bd 24 (hn := numel1_S1) (hw := rfl) rfl rfl) $$ H
  iintro H
  iapply (wp_clr 𝒱 c bd 25 (hn := numel1_S1) (hw := rfl) rfl rfl) $$ H
  iintro H
  iapply (wp_clr 𝒱 c bd 26 (hn := numel1_S1) (hw := rfl) rfl rfl) $$ H
  iintro H
  iapply (wp_clr 𝒱 c bd 27 (hn := numel1_S1) (hw := rfl) rfl rfl) $$ H
  iintro H
  iapply (wp_clr 𝒱 c bd 28 (hn := numel1_S1) (hw := rfl) rfl rfl) $$ H
  iintro H
  iapply (wp_clr 𝒱 c bd 29 (hn := numel1_S1) (hw := rfl) rfl rfl) $$ H
  iintro H
  iapply (le_wp_ret _ _)
  iapply Hk $$ H

/-! ## Marking the experts the tokens name -/

def flag (P : ℕ → Prop) [DecidablePred P] : S32.Idx → BitVec 32 := fun x => if P (x 0) then 1#32 else 0#32

theorem flag_congr (P P' : ℕ → Prop) [DecidablePred P] [DecidablePred P'] (h : ∀ m, P m ↔ P' m) : flag P = flag P' := by
  funext x; unfold flag; simp only [h]

theorem flag_or (P : ℕ → Prop) [DecidablePred P] (n : ℕ) :
    (fun x : S32.Idx => if (x 0 : ℕ) = n then 1#32 else flag P x) = flag (fun m => P m ∨ m = n) := by
  funext x
  unfold flag
  by_cases h : (x 0 : ℕ) = n
  · rw [if_pos h, if_pos (Or.inr h)]
  · rw [if_neg h]
    simp only [h, or_false]

/-- Word `v`'s mark set: a load whose value is not used, then the store. -/
theorem wp_mark {α : Type} {Q : α → sProp 𝕄} (v : BitVec 32) {P : ℕ → Prop} [DecidablePred P] {o o' : Fin 1 → ℕ} {h h'} {hn hw h1 h2}
    {k : PUnit → Prog (TpuEff nD τ sig (Elt F) Λ₀ .tc) α} (ho : o = ![v.toNat]) (ho' : o' = ![v.toNat]) :
    (M15.view.loc (c : Thread nD τ) ↦{fullShare} flag P)
      ⊢ iprop(((M15.view.loc (c : Thread nD τ) ↦{fullShare} flag (fun m => P m ∨ m = v.toNat)) -∗ wp frame (wpE defs 𝒱 (c : Thread nD τ) bd) Set.univ (k ⟨⟩) Q)
          -∗ wp frame (wpE defs 𝒱 (c : Thread nD τ) bd) Set.univ ((smemLoad (Val := Elt F) (nD := nD) (τ := τ) (Λ := Λ₀) M15 (Rect.unit (s := S32) o S1.size h) hn hw).bind
            (fun _ => .op (.store M15 (Rect.unit (s := S32) o' S1.size h') (fun _ => 1#32) Finset.univ h1 h2) k)) Q) := by
  iintro H Hk
  iapply (wp_ld_seen 𝒱 c bd ho) $$ H
  iintro H
  iapply (wp_st_seen 𝒱 c bd (flag (fun m => P m ∨ m = v.toNat)) ho' (flag_or P v.toNat)) $$ H
  iintro H
  iapply Hk $$ H

theorem t1_trips : k0_t1_loop.trips = 64 := by decide +kernel
theorem t1_off0 : ∀ k : Fin k0_t1_loop.trips, k0_off1 k = ![(k : ℕ), 0] := by decide +kernel
theorem t1_off1 : ∀ k : Fin k0_t1_loop.trips, k0_off3 k = ![(k : ℕ), 1] := by decide +kernel
theorem t1_off2 : ∀ k : Fin k0_t1_loop.trips, k0_off5 k = ![(k : ℕ), 2] := by decide +kernel
theorem t1_off3 : ∀ k : Fin k0_t1_loop.trips, k0_off7 k = ![(k : ℕ), 3] := by decide +kernel
theorem t1_off4 : ∀ k : Fin k0_t1_loop.trips, k0_off9 k = ![(k : ℕ), 4] := by decide +kernel
theorem t1_off5 : ∀ k : Fin k0_t1_loop.trips, k0_off11 k = ![(k : ℕ), 5] := by decide +kernel
theorem t1_off6 : ∀ k : Fin k0_t1_loop.trips, k0_off13 k = ![(k : ℕ), 6] := by decide +kernel
theorem t1_off7 : ∀ k : Fin k0_t1_loop.trips, k0_off15 k = ![(k : ℕ), 7] := by decide +kernel

/-- Expert `m` is named by one of the first `k` tokens. -/
def namedTo (ids : S64x8.Idx → BitVec 32) (k m : ℕ) : Prop := ∃ t : Fin 64, (t : ℕ) < k ∧ ∃ j : Fin 8, (idAt ids t j).toNat = m
instance (ids : S64x8.Idx → BitVec 32) (k : ℕ) : DecidablePred (namedTo ids k) := fun m => by unfold namedTo; infer_instance

theorem namedTo_succ (ids : S64x8.Idx → BitVec 32) (k : ℕ) (hk : k < 64) (m : ℕ) :
    (((((((namedTo ids k m ∨ m = (idAt ids k 0).toNat) ∨ m = (idAt ids k 1).toNat) ∨ m = (idAt ids k 2).toNat) ∨ m = (idAt ids k 3).toNat)
      ∨ m = (idAt ids k 4).toNat) ∨ m = (idAt ids k 5).toNat) ∨ m = (idAt ids k 6).toNat) ∨ m = (idAt ids k 7).toNat ↔ namedTo ids (k + 1) m := by
  have h8 : (∃ j : Fin 8, (idAt ids k j).toNat = m) ↔ m = (idAt ids k 0).toNat ∨ m = (idAt ids k 1).toNat ∨ m = (idAt ids k 2).toNat ∨ m = (idAt ids k 3).toNat
      ∨ m = (idAt ids k 4).toNat ∨ m = (idAt ids k 5).toNat ∨ m = (idAt ids k 6).toNat ∨ m = (idAt ids k 7).toNat := by
    constructor
    · rintro ⟨j, hj⟩
      fin_cases j <;> simp at hj <;> simp [← hj]
    · rintro (h | h | h | h | h | h | h | h)
      exacts [⟨0, h.symm⟩, ⟨1, h.symm⟩, ⟨2, h.symm⟩, ⟨3, h.symm⟩, ⟨4, h.symm⟩, ⟨5, h.symm⟩, ⟨6, h.symm⟩, ⟨7, h.symm⟩]
  have hs : namedTo ids (k + 1) m ↔ namedTo ids k m ∨ ∃ j : Fin 8, (idAt ids k j).toNat = m := by
    constructor
    · rintro ⟨t, ht, hj⟩
      rcases Nat.lt_succ_iff_lt_or_eq.1 ht with h | h
      · exact Or.inl ⟨t, h, hj⟩
      · rw [← h]; exact Or.inr hj
    · rintro (⟨t, ht, hj⟩ | hj)
      · exact ⟨t, Nat.lt_succ_of_lt ht, hj⟩
      · exact ⟨⟨k, hk⟩, Nat.lt_succ_self k, hj⟩
  rw [hs, h8]
  simp only [or_assoc]

theorem run1 (hids : ∀ t j, (idAt a.ids t j).toNat < 32) (k : Fin k0_t1_loop.trips) {P : ℕ → Prop} [DecidablePred P] {Q : _ → sProp 𝕄} :
    iprop((M0.view.loc (c : Thread nD τ) ↦{fullShare} a.ids) ∗ (M15.view.loc (c : Thread nD τ) ↦{fullShare} flag P))
      ⊢ iprop((iprop((M0.view.loc (c : Thread nD τ) ↦{fullShare} a.ids) ∗ (M15.view.loc (c : Thread nD τ) ↦{fullShare} flag (fun m => ((((((P m ∨ m = (idAt a.ids k 0).toNat) ∨ m = (idAt a.ids k 1).toNat) ∨ m = (idAt a.ids k 2).toNat) ∨ m = (idAt a.ids k 3).toNat) ∨ m = (idAt a.ids k 4).toNat) ∨ m = (idAt a.ids k 5).toNat) ∨ m = (idAt a.ids k 6).toNat))) -∗ Q (idAt a.ids k 7)) -∗ wp frame (wpE defs 𝒱 (c : Thread nD τ) bd) Set.univ (k0_part1 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 0#32 1#32 k) Q) := by
  rw [k0_part1_eq_skeleton]
  unfold k0_part1_skel
  iintro ⟨H0, H⟩ Hk
  iapply (wp_ld_id 𝒱 c bd (hn := numel1_S1x1) (hw := rfl) (t1_off0 k)) $$ H0
  iintro H0
  iapply (wp_assume 𝒱 (c : Thread nD τ) bd Set.univ (chk1_of _ (hids k 0)))
  iapply (wp_mark 𝒱 c bd (idAt a.ids k 0) (hn := numel1_S1) (hw := rfl) rfl rfl) $$ H
  iintro H
  iapply (wp_ld_id 𝒱 c bd (hn := numel1_S1x1) (hw := rfl) (t1_off1 k)) $$ H0
  iintro H0
  iapply (wp_assume 𝒱 (c : Thread nD τ) bd Set.univ (chk1_of _ (hids k 1)))
  iapply (wp_mark 𝒱 c bd (idAt a.ids k 1) (hn := numel1_S1) (hw := rfl) rfl rfl) $$ H
  iintro H
  iapply (wp_ld_id 𝒱 c bd (hn := numel1_S1x1) (hw := rfl) (t1_off2 k)) $$ H0
  iintro H0
  iapply (wp_assume 𝒱 (c : Thread nD τ) bd Set.univ (chk1_of _ (hids k 2)))
  iapply (wp_mark 𝒱 c bd (idAt a.ids k 2) (hn := numel1_S1) (hw := rfl) rfl rfl) $$ H
  iintro H
  iapply (wp_ld_id 𝒱 c bd (hn := numel1_S1x1) (hw := rfl) (t1_off3 k)) $$ H0
  iintro H0
  iapply (wp_assume 𝒱 (c : Thread nD τ) bd Set.univ (chk1_of _ (hids k 3)))
  iapply (wp_mark 𝒱 c bd (idAt a.ids k 3) (hn := numel1_S1) (hw := rfl) rfl rfl) $$ H
  iintro H
  iapply (wp_ld_id 𝒱 c bd (hn := numel1_S1x1) (hw := rfl) (t1_off4 k)) $$ H0
  iintro H0
  iapply (wp_assume 𝒱 (c : Thread nD τ) bd Set.univ (chk1_of _ (hids k 4)))
  iapply (wp_mark 𝒱 c bd (idAt a.ids k 4) (hn := numel1_S1) (hw := rfl) rfl rfl) $$ H
  iintro H
  iapply (wp_ld_id 𝒱 c bd (hn := numel1_S1x1) (hw := rfl) (t1_off5 k)) $$ H0
  iintro H0
  iapply (wp_assume 𝒱 (c : Thread nD τ) bd Set.univ (chk1_of _ (hids k 5)))
  iapply (wp_mark 𝒱 c bd (idAt a.ids k 5) (hn := numel1_S1) (hw := rfl) rfl rfl) $$ H
  iintro H
  iapply (wp_ld_id 𝒱 c bd (hn := numel1_S1x1) (hw := rfl) (t1_off6 k)) $$ H0
  iintro H0
  iapply (wp_assume 𝒱 (c : Thread nD τ) bd Set.univ (chk1_of _ (hids k 6)))
  iapply (wp_mark 𝒱 c bd (idAt a.ids k 6) (hn := numel1_S1) (hw := rfl) rfl rfl) $$ H
  iintro H
  iapply (wp_ld_id 𝒱 c bd (hn := numel1_S1x1) (hw := rfl) (t1_off7 k)) $$ H0
  iintro H0
  iapply (le_wp_ret _ _)
  iapply Hk
  isplitl [H0]; · iexact H0
  iexact H

def seenInv (k : ℕ) : sProp 𝕄 := iprop((M0.view.loc (c : Thread nD τ) ↦{fullShare} a.ids) ∗ (M15.view.loc (c : Thread nD τ) ↦{fullShare} flag (namedTo a.ids k)))

theorem seen_step (hids : ∀ t j, (idAt a.ids t j).toNat < 32) (k : Fin k0_t1_loop.trips) :
    seenInv c a k ⊢ wp frame (wpE defs 𝒱 (c : Thread nD τ) bd) Set.univ (k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 k ()) (fun _ => seenInv c a (k + 1)) := by
  have hk : (k : ℕ) < 64 := k.isLt.trans_eq t1_trips
  unfold k0_t1_body seenInv
  iintro ⟨H0, H⟩
  rw [wp_bind]
  iapply (run1 𝒱 c bd a hids k) $$ [H0 H]
  · isplitl [H0] <;> iassumption
  iintro ⟨H0, H⟩
  iapply (wp_assume 𝒱 (c : Thread nD τ) bd Set.univ (chk1_of _ (hids k 7)))
  iapply (wp_mark 𝒱 c bd (idAt a.ids k 7) (hn := numel1_S1) (hw := rfl) rfl rfl) $$ H
  iintro H
  iapply (le_wp_ret _ _)
  isplitl [H0]; · iexact H0
  iapply (Entails.of_eq (congrArg (fun g : S32.Idx → BitVec 32 => ((M15.view.loc (c : Thread nD τ) ↦{fullShare} g) : sProp 𝕄)) (flag_congr _ (namedTo a.ids (k + 1)) (namedTo_succ a.ids k hk))))
  iexact H

theorem run_seen (hids : ∀ t j, (idAt a.ids t j).toNat < 32) {Q : _ → sProp 𝕄} :
    seenInv c a 0 ⊢ iprop((seenInv c a 64 -∗ Q ()) -∗ wp frame (wpE defs 𝒱 (c : Thread nD τ) bd) Set.univ (Scf.Loop.for k0_t1_loop k0_t1_ok () (k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9)) Q) := by
  iintro H HK
  iapply (Scf.wp_for frame (wpE defs 𝒱 (c : Thread nD τ) bd) Set.univ _ _ _ k0_t1_ok () _ (fun k _ => seenInv c a k) (fun k _ => seen_step 𝒱 c bd a hids k))
  isplitl [H]; · iexact H
  iintro %u H
  rw [show Scf.trips k0_t1_loop.lb k0_t1_loop.ub k0_t1_loop.st = 64 from t1_trips]
  iapply HK
  iexact H

/-! ## Listing them -/

/-- Expert `m` is named by some token. -/
abbrev named (ids : S64x8.Idx → BitVec 32) : ℕ → Prop := namedTo ids 64

/-- The `j`-th named expert, ascending. -/
def lst (ids : S64x8.Idx → BitVec 32) (j : ℕ) : Fin 32 :=
  if h : ∃ m : Fin 32, named ids m ∧ Nat.count (named ids) m = j then h.choose else 0

theorem lst_count (ids : S64x8.Idx → BitVec 32) (i : ℕ) (hi : i < 32) (hn : named ids i) : lst ids (Nat.count (named ids) i) = ⟨i, hi⟩ := by
  have h : ∃ m : Fin 32, named ids m ∧ Nat.count (named ids) m = Nat.count (named ids) i := ⟨⟨i, hi⟩, hn, rfl⟩
  unfold lst
  rw [dif_pos h]
  exact Fin.ext (Nat.count_injective h.choose_spec.1 hn h.choose_spec.2)

/-- The first words of `f` list the named experts below `i`, ascending. -/
def Lists (ids : S64x8.Idx → BitVec 32) (i : ℕ) (f : S33.Idx → BitVec 32) : Prop :=
  ∀ j < Nat.count (named ids) i, ordAt f j = BitVec.ofNat 32 (lst ids j)

theorem ordAt_set (f : S33.Idx → BitVec 32) (n : ℕ) (w : BitVec 32) (j : ℕ) (hj : j < 33) :
    ordAt (fun i => if (i 0 : ℕ) = n then w else f i) j = if j = n then w else ordAt f j := by
  unfold ordAt
  rw [dif_pos hj, dif_pos hj]

theorem lists_succ (ids : S64x8.Idx → BitVec 32) (i : ℕ) (hi : i < 32) (f : S33.Idx → BitVec 32) (h : Lists ids i f) :
    Lists ids (i + 1) (fun x => if (x 0 : ℕ) = Nat.count (named ids) i then BitVec.ofNat 32 i else f x) := by
  intro j hj
  have hc := Nat.count_le (p := named ids) (n := i + 1)
  rw [ordAt_set _ _ _ _ (by omega)]
  by_cases hn : named ids i
  · rw [Nat.count_succ, if_pos hn] at hj
    by_cases hj' : j = Nat.count (named ids) i
    · rw [if_pos hj', hj', lst_count ids i hi hn]
    · rw [if_neg hj']; exact h j (by omega)
  · rw [Nat.count_succ, if_neg hn] at hj
    rw [if_neg (by omega)]
    exact h j (by omega)

theorem t2_trips : k0_t2_loop.trips = 32 := by decide +kernel
theorem t2_off : ∀ k : Fin k0_t2_loop.trips, k0_off18 k = ![(k : ℕ)] := by decide +kernel
theorem t2_iv : ∀ k : Fin k0_t2_loop.trips, Scf.iv 0#32 1#32 k = BitVec.ofNat 32 k := by decide +kernel

def ordInv (i : ℕ) (v : BitVec 32) : sProp 𝕄 :=
  iprop((M15.view.loc (c : Thread nD τ) ↦{fullShare} flag (named a.ids)) ∗ (∃ f, ⌜Lists a.ids i f ∧ v = BitVec.ofNat 32 (Nat.count (named a.ids) i)⌝ ∗ (M16.view.loc (c : Thread nD τ) ↦{fullShare} f)))

theorem ord_step (k : Fin k0_t2_loop.trips) (v : BitVec 32) :
    ordInv c a k v ⊢ wp frame (wpE defs 𝒱 (c : Thread nD τ) bd) Set.univ (k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 k v) (fun v' => ordInv c a (k + 1) v') := by
  have hk : (k : ℕ) < 32 := k.isLt.trans_eq t2_trips
  have hc := Nat.count_le (p := named a.ids) (n := (k : ℕ))
  unfold k0_t2_body ordInv
  iintro ⟨H, ⟨%f, %hf, H16⟩⟩
  obtain ⟨hL, hv⟩ := hf
  have hvn : v.toNat = Nat.count (named a.ids) k := by rw [hv, BitVec.toNat_ofNat, Nat.mod_eq_of_lt (by omega)]
  iapply (wp_assume 𝒱 (c : Thread nD τ) bd Set.univ (chk9_of v (by omega)))
  iapply (wp_ld_ord 𝒱 c bd (hn := numel1_S1) (hw := rfl) rfl) $$ H16
  iintro H16
  iapply (wp_st_ord 𝒱 c bd (n := v.toNat) _ rfl rfl) $$ H16
  iintro H16
  iapply (wp_ld_seen 𝒱 c bd (hn := numel1_S1) (hw := rfl) (t2_off k)) $$ H
  iintro H
  iapply (le_wp_ret _ _)
  isplitl [H]; · iexact H
  iexists _
  isplitr [H16]
  swap
  · iexact H16
  ipureintro
  refine ⟨?_, ?_⟩
  · have := lists_succ a.ids k hk f hL
    rw [← hvn, ← t2_iv k] at this
    exact this
  · show v + seenAt (flag (named a.ids)) k = _
    unfold seenAt
    rw [dif_pos hk, hv, Nat.count_succ]
    show _ + (if named a.ids k then 1#32 else 0#32) = _
    split
    · rw [BitVec.ofNat_add]
    · rw [BitVec.add_zero, Nat.add_zero]

theorem run_ord (f16 : S33.Idx → BitVec 32) {Q : _ → sProp 𝕄} :
    iprop((M15.view.loc (c : Thread nD τ) ↦{fullShare} flag (named a.ids)) ∗ (M16.view.loc (c : Thread nD τ) ↦{fullShare} f16))
      ⊢ iprop((∀ v, ordInv c a 32 v -∗ Q v) -∗ wp frame (wpE defs 𝒱 (c : Thread nD τ) bd) Set.univ (Scf.Loop.for k0_t2_loop k0_t2_ok 0#32 (k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9)) Q) := by
  iintro ⟨H, H16⟩ HK
  iapply (Scf.wp_for frame (wpE defs 𝒱 (c : Thread nD τ) bd) Set.univ _ _ _ k0_t2_ok 0#32 _ (fun k v => ordInv c a k v) (fun k v => ord_step 𝒱 c bd a k v))
  isplitl [H H16]
  · unfold ordInv
    isplitl [H]; · iexact H
    iexists f16
    isplitr [H16]
    swap
    · iexact H16
    ipureintro
    exact ⟨fun j hj => absurd hj (by simp), by simp⟩
  iintro %v H
  rw [show Scf.trips k0_t2_loop.lb k0_t2_loop.ub k0_t2_loop.st = 32 from t2_trips]
  iapply HK
  iexact H

end Cert.Kernel.Hand
-- ==== Proof.Kernel.Body.lean ====
/-
  The whole body: the marks, the list, the first transfers, the loop, the result.
-/
module

public import proofs.«01_k».proof.Proof.Kernel.Loop
public import proofs.«01_k».proof.Proof.Kernel.Pro
public import proofs.«01_k».proof.Proof.Kernel.Order

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- How many experts the tokens name. -/
def nAct (ids : S64x8.Idx → BitVec 32) : Fin 33 :=
  ⟨Nat.count (named ids) 32, Nat.lt_succ_of_le (Nat.count_le ..)⟩

/-- What the kernel stores. -/
def outVal : S64x4096.Idx → Elt F .bf16 := k0_pay42 (accAt a (lst a.ids) (nAct a.ids))

theorem write_whole_f {h} (f w : S64x4096.Idx → Elt F .f32) :
    (M14.access (Rect.unit (s := S64x4096) ![0, 0] S64x4096.size h)).write (Elt F) f w Finset.univ = w := by
  refine (write_cols_f (L := 4096) (r := 0) rfl f w).trans ?_
  funext i
  have := (i 1).isLt
  rw [dif_pos ⟨Nat.zero_le _, by simpa using this⟩]
  refine congrArg w (funext fun t => ?_)
  fin_cases t <;> rfl

theorem write_whole_out {h} (f w : S64x4096.Idx → Elt F .bf16) :
    (M8.access (Rect.unit (s := S64x4096) ![0, 0] S64x4096.size h)).write (Elt F) f w Finset.univ = w := by
  funext i
  have hi : i = (M8.access (Rect.unit (s := S64x4096) ![0, 0] S64x4096.size h)).emb i := by
    funext t
    apply Fin.ext
    fin_cases t
    · show (i 0 : ℕ) = 0 + 1 * (i 0 : ℕ); omega
    · show (i 1 : ℕ) = 0 + 1 * (i 1 : ℕ); omega
  conv_lhs => rw [hi]
  rw [View.write_emb_of_mem _ _ (Finset.mem_univ _)]
  rfl

theorem wp_st_zero {α : Type} {Q : α → sProp 𝕄} {f w : S64x4096.Idx → Elt F .f32} {h} {h1 h2}
    {k : PUnit → Prog (TpuEff nD τ sig (Elt F) Λ₀ .tc) α} :
    (M14.view.loc (c : Thread nD τ) ↦{fullShare} f) ⊢ iprop(((M14.view.loc (c : Thread nD τ) ↦{fullShare} w) -∗ wp frame (wpE defs 𝒱 (c : Thread nD τ) bd) Set.univ (k ⟨⟩) Q)
          -∗ wp frame (wpE defs 𝒱 (c : Thread nD τ) bd) Set.univ (.op (.store M14 (Rect.unit (s := S64x4096) ![0, 0] S64x4096.size h) w Finset.univ h1 h2) k) Q) := by
  iintro H Hk
  iapply (wp_store 𝒱 (c : Thread nD τ) bd Set.univ (m := M14) (r := Rect.unit (s := S64x4096) ![0, 0] S64x4096.size h) (f := f)
    (S := Finset.univ) (hS := Finset.subset_univ _)) $$ H
  iintro H
  iapply Hk
  iapply (Entails.of_eq (congrArg (fun g : S64x4096.Idx → Elt F .f32 => ((M14.view.loc (c : Thread nD τ) ↦{fullShare} g) : sProp 𝕄)) (write_whole_f (h := h) f w)))
  iexact H

theorem wp_st_out {α : Type} {Q : α → sProp 𝕄} {f w : S64x4096.Idx → Elt F .bf16} {h} {h1 h2}
    {k : PUnit → Prog (TpuEff nD τ sig (Elt F) Λ₀ .tc) α} :
    (M8.view.loc (c : Thread nD τ) ↦{fullShare} f) ⊢ iprop(((M8.view.loc (c : Thread nD τ) ↦{fullShare} w) -∗ wp frame (wpE defs 𝒱 (c : Thread nD τ) bd) Set.univ (k ⟨⟩) Q)
          -∗ wp frame (wpE defs 𝒱 (c : Thread nD τ) bd) Set.univ (.op (.store M8 (Rect.unit (s := S64x4096) ![0, 0] S64x4096.size h) w Finset.univ h1 h2) k) Q) := by
  iintro H Hk
  iapply (wp_store 𝒱 (c : Thread nD τ) bd Set.univ (m := M8) (r := Rect.unit (s := S64x4096) ![0, 0] S64x4096.size h) (f := f)
    (S := Finset.univ) (hS := Finset.subset_univ _)) $$ H
  iintro H
  iapply Hk
  iapply (Entails.of_eq (congrArg (fun g : S64x4096.Idx → Elt F .bf16 => ((M8.view.loc (c : Thread nD τ) ↦{fullShare} g) : sProp 𝕄)) (write_whole_out (h := h) f w)))
  iexact H

/-- A slot is at rest once the loop is over. -/
theorem slotSt_end (n : ℕ) (E : ℕ → Fin 32) (s : ℕ) : slotSt c a n E n s ⊢ slotIdle c a s := by
  unfold slotSt
  rw [if_neg (by unfold nxt; omega)]

set_option maxHeartbeats 1000000 in
theorem run34 (hids : ∀ t j, (idAt a.ids t j).toNat < 32) {f13 : S64x1408.Idx → Elt F .bf16} {f14 : S64x4096.Idx → Elt F .f32} {f15 : S32.Idx → BitVec 32} {f16 : S33.Idx → BitVec 32} {Q : _ → sProp 𝕄} :
    iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (M13.view.loc (c : Thread nD τ) ↦{fullShare} f13) ∗ (M14.view.loc (c : Thread nD τ) ↦{fullShare} f14) ∗ (M15.view.loc (c : Thread nD τ) ↦{fullShare} clr 30 f15) ∗ (M16.view.loc (c : Thread nD τ) ↦{fullShare} f16) ∗ ow c ∗ slotIdle c a 0 ∗ slotIdle c a 1)
      ⊢ iprop((iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (∃ f, (M13.view.loc (c : Thread nD τ) ↦{fullShare} f)) ∗ (∃ f, (M14.view.loc (c : Thread nD τ) ↦{fullShare} f)) ∗ (∃ f, (M15.view.loc (c : Thread nD τ) ↦{fullShare} f)) ∗ (∃ f, (M16.view.loc (c : Thread nD τ) ↦{fullShare} f)) ∗ ow c ∗ slotIdle c a 0 ∗ slotIdle c a 1) -∗ Q (outVal a))
        -∗ wp frame (wpE defs 𝒱 (c : Thread nD τ) bd) Set.univ (k0_part34 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [k0_part34_eq_skeleton]
  unfold k0_part34_skel outVal
  iintro ⟨H0, H1, H2, H3, H13, H14, H15, H16, HO, HA, HB⟩ HK
  iapply (wp_clr 𝒱 c bd 30 (hn := numel1_S1) (hw := rfl) rfl rfl) $$ H15
  iintro H15
  iapply (wp_clr 𝒱 c bd 31 (hn := numel1_S1) (hw := rfl) rfl rfl) $$ H15
  iintro H15
  ihave H15 := (Entails.of_eq (congrArg (fun g : S32.Idx → BitVec 32 => ((M15.view.loc (c : Thread nD τ) ↦{fullShare} g) : sProp 𝕄)) (show clr 32 f15 = flag (namedTo a.ids 0) from by
    funext x
    have h32 : (x 0 : ℕ) < 32 := (x 0).isLt
    unfold clr flag
    rw [if_pos h32, if_neg (by rintro ⟨t, ht, _⟩; omega)]))) $$ H15
  simp only [ret_bind']
  rw [wp_bind]
  iapply (run_seen 𝒱 c bd a hids) $$ [H0 H15]
  · unfold seenInv
    isplitl [H0] <;> iassumption
  unfold seenInv
  iintro ⟨H0, H15⟩
  rw [wp_bind]
  iapply (run_ord 𝒱 c bd a f16) $$ [H15 H16]
  · isplitl [H15] <;> iassumption
  iintro %v34 H
  unfold ordInv
  icases H with ⟨H15, ⟨%ord, %hord, H16⟩⟩
  obtain ⟨hL, hv⟩ := hord
  have hv : v34 = BitVec.ofNat 32 (nAct a.ids) := hv
  subst hv
  have hE : ∀ i < (nAct a.ids : ℕ), (ordAt ord i).toNat = lst a.ids i := fun i hi => by
    rw [hL i hi, BitVec.toNat_ofNat, Nat.mod_eq_of_lt (by have := (lst a.ids i).isLt; omega)]
  iapply (wp_assume 𝒱 (c : Thread nD τ) bd Set.univ (chk12_of (nAct a.ids)))
  have e0 : nxt 0 0 = 0 := rfl
  have e1 : nxt 0 1 = 1 := rfl
  have hB : ¬ 1 < (nAct a.ids : ℕ) → (slotIdle c a 1 ⊢ slotSt c a (nAct a.ids) (lst a.ids) 0 1) := fun hn => by
    unfold slotSt; rw [e1, if_neg hn]
  have hA : ¬ 0 < (nAct a.ids : ℕ) → (slotIdle c a 0 ⊢ slotSt c a (nAct a.ids) (lst a.ids) 0 0) := fun hn => by
    unfold slotSt; rw [e0, if_neg hn]
  unfold slotIdle at hA hB ⊢
  try simp only [ret_bind']
  by_cases h1 : k0_cond1 (BitVec.ofNat 32 (nAct a.ids)) = 1#1
  case' pos =>
    have hn := (cond1_iff (nAct a.ids)).1 h1
    have he := hE 0 hn
    rw [dif_pos h1]
    rw [wp_bind]
    icases HA with ⟨Hz, Hg1, Hg2, Hg3, Hg4, Hg5, Hd0, Hd1, Hd2, Hd3⟩
    iapply (pro2 𝒱 c bd a _ h1 ord fullShare (chk10_of _ _ (by rw [he]; exact (lst a.ids 0).isLt)) (lst a.ids 0) he) $$ [H16 Hz]
    · isplitl [H16] <;> iassumption
    iintro ⟨H16, Hz⟩
    rw [wp_bind]
    iapply (pro3 𝒱 c bd a _ h1 _ _ (lst a.ids 0) he) $$ [Hg1 Hg2]
    · isplitl [Hg1] <;> iassumption
    iintro ⟨Hg1, Hg2⟩
    rw [wp_bind]
    iapply (pro4 𝒱 c bd a _ h1 _ _ (lst a.ids 0) he) $$ [Hg3 Hg4]
    · isplitl [Hg3] <;> iassumption
    iintro ⟨Hg3, Hg4⟩
    rw [wp_bind]
    iapply (pro5 𝒱 c bd a _ h1 _ _ (lst a.ids 0) he) $$ [Hg5 Hd0 Hd1 Hd2]
    · isplitl [Hg5]; · iexact Hg5
      isplitl [Hd0]; · iexact Hd0
      isplitl [Hd1] <;> iassumption
    iintro ⟨Hg5, Hd0, Hd1, Hd2⟩
    iapply (wp_enq_d1 𝒱 c bd a 0 3 rfl rfl he (dsem_eq rfl)) $$ Hd3
    iintro Hd3
    ihave HA := (show iprop(zFly c a 0 (lst a.ids 0) 0 ∗ gFly c a 0 1 (lst a.ids 0) ∗ gFly c a 0 2 (lst a.ids 0) ∗ gFly c a 0 3 (lst a.ids 0) ∗ gFly c a 0 4 (lst a.ids 0) ∗ gFly c a 0 5 (lst a.ids 0) ∗ dFly c a 0 0 (lst a.ids 0) ∗ dFly c a 0 1 (lst a.ids 0) ∗ dFly c a 0 2 (lst a.ids 0) ∗ dFly c a 0 3 (lst a.ids 0)) ⊢ slotSt c a (nAct a.ids) (lst a.ids) 0 0 from by
      unfold slotSt; rw [e0, if_pos hn]; exact .rfl) $$ [Hz Hg1 Hg2 Hg3 Hg4 Hg5 Hd0 Hd1 Hd2 Hd3]
    · isplitl [Hz]; · iexact Hz
      isplitl [Hg1]; · iexact Hg1
      isplitl [Hg2]; · iexact Hg2
      isplitl [Hg3]; · iexact Hg3
      isplitl [Hg4]; · iexact Hg4
      isplitl [Hg5]; · iexact Hg5
      isplitl [Hd0]; · iexact Hd0
      isplitl [Hd1]; · iexact Hd1
      isplitl [Hd2] <;> iassumption
  case' neg =>
    have hn : ¬ 0 < (nAct a.ids : ℕ) := fun h => h1 ((cond1_iff (nAct a.ids)).2 h)
    rw [dif_neg h1]
    ihave HA := (hA hn) $$ HA
  all_goals
    try simp only [ret_bind']
    clear hn
    by_cases h2 : k0_cond2 (BitVec.ofNat 32 (nAct a.ids)) = 1#1
    case' pos =>
      have hn := (cond2_iff (nAct a.ids)).1 h2
      have he := hE 1 hn
      rw [dif_pos h2]
      rw [wp_bind]
      icases HB with ⟨Hz, Hg1, Hg2, Hg3, Hg4, Hg5, Hd0, Hd1, Hd2, Hd3⟩
      iapply (pro6 𝒱 c bd a _ h2 ord fullShare (chk11_of _ _ (by rw [he]; exact (lst a.ids 1).isLt)) (lst a.ids 1) he) $$ [H16 Hz]
      · isplitl [H16] <;> iassumption
      iintro ⟨H16, Hz⟩
      rw [wp_bind]
      iapply (pro7 𝒱 c bd a _ h2 _ _ (lst a.ids 1) he) $$ [Hg1 Hg2]
      · isplitl [Hg1] <;> iassumption
      iintro ⟨Hg1, Hg2⟩
      rw [wp_bind]
      iapply (pro8 𝒱 c bd a _ h2 _ _ (lst a.ids 1) he) $$ [Hg3 Hg4]
      · isplitl [Hg3] <;> iassumption
      iintro ⟨Hg3, Hg4⟩
      rw [wp_bind]
      iapply (pro9 𝒱 c bd a _ h2 _ _ (lst a.ids 1) he) $$ [Hg5 Hd0 Hd1 Hd2]
      · isplitl [Hg5]; · iexact Hg5
        isplitl [Hd0]; · iexact Hd0
        isplitl [Hd1] <;> iassumption
      iintro ⟨Hg5, Hd0, Hd1, Hd2⟩
      iapply (wp_enq_d1 𝒱 c bd a 1 3 rfl rfl he (dsem_eq rfl)) $$ Hd3
      iintro Hd3
      ihave HB := (show iprop(zFly c a 1 (lst a.ids 1) 0 ∗ gFly c a 1 1 (lst a.ids 1) ∗ gFly c a 1 2 (lst a.ids 1) ∗ gFly c a 1 3 (lst a.ids 1) ∗ gFly c a 1 4 (lst a.ids 1) ∗ gFly c a 1 5 (lst a.ids 1) ∗ dFly c a 1 0 (lst a.ids 1) ∗ dFly c a 1 1 (lst a.ids 1) ∗ dFly c a 1 2 (lst a.ids 1) ∗ dFly c a 1 3 (lst a.ids 1)) ⊢ slotSt c a (nAct a.ids) (lst a.ids) 0 1 from by
        unfold slotSt; rw [e1, if_pos hn]; exact .rfl) $$ [Hz Hg1 Hg2 Hg3 Hg4 Hg5 Hd0 Hd1 Hd2 Hd3]
      · isplitl [Hz]; · iexact Hz
        isplitl [Hg1]; · iexact Hg1
        isplitl [Hg2]; · iexact Hg2
        isplitl [Hg3]; · iexact Hg3
        isplitl [Hg4]; · iexact Hg4
        isplitl [Hg5]; · iexact Hg5
        isplitl [Hd0]; · iexact Hd0
        isplitl [Hd1]; · iexact Hd1
        isplitl [Hd2] <;> iassumption
    case' neg =>
      have hn : ¬ 1 < (nAct a.ids : ℕ) := fun h => h2 ((cond2_iff (nAct a.ids)).2 h)
      rw [dif_neg h2]
      ihave HB := (hB hn) $$ HB
    all_goals
      try simp only [ret_bind']
      iapply (wp_ld_dead 𝒱 c bd (m := M14) (fun _ => rfl)) $$ H14
      iintro H14
      iapply (wp_st_zero 𝒱 c bd) $$ H14
      iintro H14
      try simp only [ret_bind']
      rw [wp_bind]
      iapply (run_loop 𝒱 c bd a (nAct a.ids) (lst a.ids) ord hE _) $$ [H16 H1 H2 H3 H13 H14 HO HA HB]
      · unfold loopInv
        isplitl [H16]; · iexact H16
        isplitl [H1]; · iexact H1
        isplitl [H2]; · iexact H2
        isplitl [H3]; · iexact H3
        isplitl [H13]; · iexists _; iexact H13
        isplitl [H14]; · iexact H14
        isplitl [HO]; · iexact HO
        isplitl [HA] <;> iassumption
      unfold loopInv
      iintro ⟨H16, H1, H2, H3, H13, H14, HO, HA, HB⟩
      rw [wp_bind]
      iapply (run_rest 𝒱 c bd (nAct a.ids) _ _)
      iapply (wp_ld_whole 𝒱 c bd (m := M14) (f := accAt a (lst a.ids) (nAct a.ids)) (accAt a (lst a.ids) (nAct a.ids)) (by funext i; fin_cases i <;> rfl) rfl) $$ H14
      iintro H14
      iapply (le_wp_ret _ _)
      iapply HK
      ihave HA := (slotSt_end c a (nAct a.ids) (lst a.ids) 0) $$ HA
      ihave HB := (slotSt_end c a (nAct a.ids) (lst a.ids) 1) $$ HB
      isplitl [H0]; · iexact H0
      isplitl [H1]; · iexact H1
      isplitl [H2]; · iexact H2
      isplitl [H3]; · iexact H3
      isplitl [H13]; · iexact H13
      isplitl [H14]; · iexists _; iexact H14
      isplitl [H15]; · iexists _; iexact H15
      isplitl [H16]; · iexists _; iexact H16
      isplitl [HO]; · iexact HO
      unfold slotIdle
      isplitl [HA] <;> iassumption

/-- The body: from the staged operands and everything else at rest, the result stored and everything else at rest again. -/
theorem run_body (hids : ∀ t j, (idAt a.ids t j).toNat < 32) {f8 : S64x4096.Idx → Elt F .bf16} {Q : _ → sProp 𝕄} :
    iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (M8.view.loc (c : Thread nD τ) ↦{fullShare} f8) ∗ (∃ f, (M13.view.loc (c : Thread nD τ) ↦{fullShare} f)) ∗ (∃ f, (M14.view.loc (c : Thread nD τ) ↦{fullShare} f)) ∗ (∃ f, (M15.view.loc (c : Thread nD τ) ↦{fullShare} f)) ∗ (∃ f, (M16.view.loc (c : Thread nD τ) ↦{fullShare} f)) ∗ ow c ∗ slotIdle c a 0 ∗ slotIdle c a 1)
      ⊢ iprop((iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (M8.view.loc (c : Thread nD τ) ↦{fullShare} outVal a) ∗ (∃ f, (M13.view.loc (c : Thread nD τ) ↦{fullShare} f)) ∗ (∃ f, (M14.view.loc (c : Thread nD τ) ↦{fullShare} f)) ∗ (∃ f, (M15.view.loc (c : Thread nD τ) ↦{fullShare} f)) ∗ (∃ f, (M16.view.loc (c : Thread nD τ) ↦{fullShare} f)) ∗ ow c ∗ slotIdle c a 0 ∗ slotIdle c a 1) -∗ Q ())
        -∗ wp frame (wpE defs 𝒱 (c : Thread nD τ) bd) Set.univ (cc0_moe_swiglu (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [cc0_moe_swiglu_eq_skeleton]
  unfold cc0_moe_swiglu_skel
  iintro ⟨H0, H1, H2, H3, H8, ⟨%f13, H13⟩, ⟨%f14, H14⟩, ⟨%f15, H15⟩, ⟨%f16, H16⟩, HO, HA, HB⟩ HK
  rw [wp_bind]
  iapply (run32 𝒱 c bd) $$ H15
  iintro H15
  rw [wp_bind]
  iapply (run33 𝒱 c bd) $$ H15
  iintro H15
  rw [wp_bind]
  iapply (run34 𝒱 c bd a hids) $$ [H0 H1 H2 H3 H13 H14 H15 H16 HO HA HB]
  · isplitl [H0]; · iexact H0
    isplitl [H1]; · iexact H1
    isplitl [H2]; · iexact H2
    isplitl [H3]; · iexact H3
    isplitl [H13]; · iexact H13
    isplitl [H14]; · iexact H14
    isplitl [H15]; · iexact H15
    isplitl [H16]; · iexact H16
    isplitl [HO]; · iexact HO
    isplitl [HA] <;> iassumption
  iintro ⟨H0, H1, H2, H3, H13, H14, H15, H16, HO, HA, HB⟩
  iapply (wp_ld_dead 𝒱 c bd (m := M8) (fun _ => rfl)) $$ H8
  iintro H8
  iapply (wp_st_out 𝒱 c bd) $$ H8
  iintro H8
  iapply (le_wp_ret _ _)
  iapply HK
  isplitl [H0]; · iexact H0
  isplitl [H1]; · iexact H1
  isplitl [H2]; · iexact H2
  isplitl [H3]; · iexact H3
  isplitl [H8]; · iexact H8
  isplitl [H13]; · iexact H13
  isplitl [H14]; · iexact H14
  isplitl [H15]; · iexact H15
  isplitl [H16]; · iexact H16
  isplitl [HO]; · iexact HO
  isplitl [HA] <;> iassumption

end Cert.Kernel.Hand
-- ==== Proof.Kernel.Split.lean ====
/-
  The two slots' windows, source shares and semaphores at rest, cut out of the whole scratch buffers, the whole operands
  and the pool of semaphores, and put back together.
-/
module

public import proofs.«01_k».proof.Proof.Kernel.Trip
public import Idealize.ShloMosaic.Lib.Ring

@[expose] public section

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD) (a : Ins F)

/-! ## One buffer into its windows, one operand into as many shares -/

theorem bigSep_range_fin {M : Type} [URA M] (N : ℕ) (Φ : ℕ → sProp M) :
    bigSep (Finset.range N) Φ = bigSep Finset.univ (fun b : Fin N => Φ b) := by
  rw [← Nat.Iio_eq_range, ← Fin.map_valEmbedding_univ, bigSep_map]
  rfl

section Cells

variable {N : ℕ} {ℓ ℓs : Loc nD τ sig} (I : Fin N → Finset (Idx ℓ))
  (hd : ∀ b b', b ≠ b' → Disjoint (I b) (I b')) (hc : Finset.univ.biUnion I = Finset.univ)

include hd hc in
theorem cells_split (g : Buf (Elt F) ℓs) :
    (iprop((∃ f, ℓ ↦{fullShare} f) ∗ (ℓs ↦{fullShare} g)) : sProp 𝕄)
      ⊢ iprop((ℓs ↦{shareDrop fullShare N} g) ∗ bigSep Finset.univ fun b : Fin N => iprop((∃ f, ℓ ↦[I b]{fullShare} f) ∗ (ℓs ↦{shareTokN fullShare b} g))) := by
  rw [bigSep_sep', ← bigSep_range_fin N (fun b => (ℓs ↦{shareTokN fullShare b} g : sProp 𝕄))]
  iintro ⟨⟨%f, H⟩, Hs⟩
  ihave Hs := (pointsTo_toks_range fullShare N).1 $$ Hs
  icases Hs with ⟨Hd, Ht⟩
  isplitl [Hd]; · iexact Hd
  isplitl [H]
  · iapply (show bigSep Finset.univ (fun b : Fin N => (ℓ ↦[I b]{fullShare} f : sProp 𝕄)) ⊢ bigSep Finset.univ (fun b : Fin N => (iprop(∃ f, ℓ ↦[I b]{fullShare} f) : sProp 𝕄)) from
      bigSep_mono fun b _ => (exists_intro (Φ := fun g => (ℓ ↦[I b]{fullShare} g : sProp 𝕄)) f))
    iapply (Entails.of_eq (Ring.pointsTo_blocks I hd hc f))
    iexact H
  iexact Ht

include hd hc in
theorem cells_join (f₀ : Buf (Elt F) ℓ) (g : Buf (Elt F) ℓs) :
    (iprop((ℓs ↦{shareDrop fullShare N} g) ∗ bigSep Finset.univ fun b : Fin N => iprop((∃ f, ℓ ↦[I b]{fullShare} f) ∗ (ℓs ↦{shareTokN fullShare b} g))) : sProp 𝕄)
      ⊢ iprop((∃ f, ℓ ↦{fullShare} f) ∗ (ℓs ↦{fullShare} g)) := by
  rw [bigSep_sep', ← bigSep_range_fin N (fun b => (ℓs ↦{shareTokN fullShare b} g : sProp 𝕄))]
  iintro ⟨Hd, H, Ht⟩
  isplitl [H]
  · iapply (Ring.pointsTo_blocks_join_exists I hd hc f₀)
    iexact H
  iapply (pointsTo_toks_range fullShare N).2
  isplitl [Hd] <;> iassumption

end Cells

/-! ## The four buffers' windows tile them -/

section Tiles
variable {d1 d2 : ℕ}

theorem win_disj {s r L s' r' L' : ℕ} (h : s ≠ s' ∨ r + L ≤ r' ∨ r' + L' ≤ r) :
    Disjoint (win (d0 := 2) (d1 := d1) (d2 := d2) s r L) (win s' r' L') := by
  rw [Finset.disjoint_left]
  intro i hi hi'
  rw [mem_win] at hi hi'
  omega
end Tiles

theorem g_disj : ∀ b b' : Fin 24, b ≠ b' → Disjoint (win (d0 := 2) (d1 := 2816) (d2 := 4096) ((b : ℕ) / 12) (gOff ((b : ℕ) % 12)) (gLen ((b : ℕ) % 12)))
    (win ((b' : ℕ) / 12) (gOff ((b' : ℕ) % 12)) (gLen ((b' : ℕ) % 12))) := by
  have key : ∀ b b' : Fin 24, b ≠ b' → ((b : ℕ) / 12 ≠ (b' : ℕ) / 12 ∨ gOff ((b : ℕ) % 12) + gLen ((b : ℕ) % 12) ≤ gOff ((b' : ℕ) % 12)
      ∨ gOff ((b' : ℕ) % 12) + gLen ((b' : ℕ) % 12) ≤ gOff ((b : ℕ) % 12)) := by unfold gOff gLen; decide +kernel
  exact fun b b' h => win_disj (key b b' h)

theorem g_cover : Finset.univ.biUnion (fun b : Fin 24 => win (d0 := 2) (d1 := 2816) (d2 := 4096) ((b : ℕ) / 12) (gOff ((b : ℕ) % 12)) (gLen ((b : ℕ) % 12))) = Finset.univ := by
  have key : ∀ s : Fin 2, ∀ t : Fin 22, ∃ b : Fin 24, (b : ℕ) / 12 = s ∧ gOff ((b : ℕ) % 12) ≤ 128 * (t : ℕ)
      ∧ 128 * (t : ℕ) + 128 ≤ gOff ((b : ℕ) % 12) + gLen ((b : ℕ) % 12) := by unfold gOff gLen; decide +kernel
  refine Finset.eq_univ_iff_forall.mpr fun i => ?_
  have h0 : (i 0 : ℕ) < 2 := (i 0).isLt
  have h1 : (i 1 : ℕ) < 2816 := (i 1).isLt
  obtain ⟨b, hb, hlo, hhi⟩ := key ⟨i 0, h0⟩ ⟨(i 1 : ℕ) / 128, by omega⟩
  simp only at hb hlo hhi
  refine Finset.mem_biUnion.mpr ⟨b, Finset.mem_univ _, mem_win.mpr ⟨hb.symm, ?_, ?_⟩⟩ <;> omega

theorem d_disj : ∀ b b' : Fin 8, b ≠ b' → Disjoint (win (d0 := 2) (d1 := 4096) (d2 := 1408) ((b : ℕ) / 4) (1024 * ((b : ℕ) % 4)) 1024)
    (win ((b' : ℕ) / 4) (1024 * ((b' : ℕ) % 4)) 1024) := by
  intro b b' h
  have : (b : ℕ) ≠ b' := fun e => h (Fin.ext e)
  exact win_disj (by omega)

theorem d_cover : Finset.univ.biUnion (fun b : Fin 8 => win (d0 := 2) (d1 := 4096) (d2 := 1408) ((b : ℕ) / 4) (1024 * ((b : ℕ) % 4)) 1024) = Finset.univ := by
  refine Finset.eq_univ_iff_forall.mpr fun i => ?_
  have h0 : (i 0 : ℕ) < 2 := (i 0).isLt
  have h1 : (i 1 : ℕ) < 4096 := (i 1).isLt
  refine Finset.mem_biUnion.mpr ⟨⟨4 * (i 0 : ℕ) + (i 1 : ℕ) / 1024, by omega⟩, Finset.mem_univ _, mem_win.mpr ⟨?_, ?_, ?_⟩⟩ <;> simp only <;> omega

theorem s_disj {d2 : ℕ} : ∀ b b' : Fin 2, b ≠ b' → Disjoint (win (d0 := 2) (d1 := 1) (d2 := d2) (b : ℕ) 0 1) (win (b' : ℕ) 0 1) := by
  intro b b' h
  exact win_disj (Or.inl fun e => h (Fin.ext e))

theorem s_cover {d2 : ℕ} : Finset.univ.biUnion (fun b : Fin 2 => win (d0 := 2) (d1 := 1) (d2 := d2) (b : ℕ) 0 1) = Finset.univ := by
  refine Finset.eq_univ_iff_forall.mpr fun i => ?_
  have h0 : (i 0 : ℕ) < 2 := (i 0).isLt
  have h1 : (i 1 : ℕ) < 1 := (i 1).isLt
  refine Finset.mem_biUnion.mpr ⟨⟨i 0, h0⟩, Finset.mem_univ _, mem_win.mpr ⟨rfl, ?_, ?_⟩⟩ <;> omega

/-! ## The four buffers -/

theorem g_list : (bigSep Finset.univ (fun b : Fin 24 => gHome c a ((b : ℕ) / 12) ((b : ℕ) % 12)) : sProp 𝕄) = iprop(gHome c a 0 0 ∗ gHome c a 0 1 ∗ gHome c a 0 2 ∗ gHome c a 0 3 ∗ gHome c a 0 4 ∗ gHome c a 0 5 ∗ gHome c a 0 6 ∗ gHome c a 0 7 ∗ gHome c a 0 8 ∗ gHome c a 0 9 ∗ gHome c a 0 10 ∗ gHome c a 0 11 ∗ gHome c a 1 0 ∗ gHome c a 1 1 ∗ gHome c a 1 2 ∗ gHome c a 1 3 ∗ gHome c a 1 4 ∗ gHome c a 1 5 ∗ gHome c a 1 6 ∗ gHome c a 1 7 ∗ gHome c a 1 8 ∗ gHome c a 1 9 ∗ gHome c a 1 10 ∗ gHome c a 1 11) :=
  bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide) _

theorem g_cells : (bigSep Finset.univ (fun b : Fin 24 => iprop((∃ f, M9.view.loc (c : Thread nD τ) ↦[(fun b : Fin 24 => win ((b : ℕ) / 12) (gOff ((b : ℕ) % 12)) (gLen ((b : ℕ) % 12))) b]{fullShare} f) ∗ (M6.view.loc (c : Thread nD τ) ↦{shareTokN fullShare b} a.wg))) : sProp 𝕄)
    = bigSep Finset.univ (fun b : Fin 24 => gHome c a ((b : ℕ) / 12) ((b : ℕ) % 12)) :=
  bigSep_congr fun b _ => by
    unfold gHome
    rw [show 12 * ((b : ℕ) / 12) + (b : ℕ) % 12 = (b : ℕ) from by omega]

theorem g_split : (iprop((∃ f, M9.view.loc (c : Thread nD τ) ↦{fullShare} f) ∗ (M6.view.loc (c : Thread nD τ) ↦{fullShare} a.wg)) : sProp 𝕄) ⊢ iprop((M6.view.loc (c : Thread nD τ) ↦{shareDrop fullShare 24} a.wg) ∗ gHome c a 0 0 ∗ gHome c a 0 1 ∗ gHome c a 0 2 ∗ gHome c a 0 3 ∗ gHome c a 0 4 ∗ gHome c a 0 5 ∗ gHome c a 0 6 ∗ gHome c a 0 7 ∗ gHome c a 0 8 ∗ gHome c a 0 9 ∗ gHome c a 0 10 ∗ gHome c a 0 11 ∗ gHome c a 1 0 ∗ gHome c a 1 1 ∗ gHome c a 1 2 ∗ gHome c a 1 3 ∗ gHome c a 1 4 ∗ gHome c a 1 5 ∗ gHome c a 1 6 ∗ gHome c a 1 7 ∗ gHome c a 1 8 ∗ gHome c a 1 9 ∗ gHome c a 1 10 ∗ gHome c a 1 11) := by
  exact (cells_split (ℓ := M9.view.loc (c : Thread nD τ)) (ℓs := M6.view.loc (c : Thread nD τ)) (fun b : Fin 24 => win ((b : ℕ) / 12) (gOff ((b : ℕ) % 12)) (gLen ((b : ℕ) % 12))) g_disj g_cover a.wg).trans
    (sep_mono_right (Entails.of_eq ((g_cells c a).trans (g_list c a))))

theorem g_join : (iprop((M6.view.loc (c : Thread nD τ) ↦{shareDrop fullShare 24} a.wg) ∗ gHome c a 0 0 ∗ gHome c a 0 1 ∗ gHome c a 0 2 ∗ gHome c a 0 3 ∗ gHome c a 0 4 ∗ gHome c a 0 5 ∗ gHome c a 0 6 ∗ gHome c a 0 7 ∗ gHome c a 0 8 ∗ gHome c a 0 9 ∗ gHome c a 0 10 ∗ gHome c a 0 11 ∗ gHome c a 1 0 ∗ gHome c a 1 1 ∗ gHome c a 1 2 ∗ gHome c a 1 3 ∗ gHome c a 1 4 ∗ gHome c a 1 5 ∗ gHome c a 1 6 ∗ gHome c a 1 7 ∗ gHome c a 1 8 ∗ gHome c a 1 9 ∗ gHome c a 1 10 ∗ gHome c a 1 11) : sProp 𝕄) ⊢ iprop((∃ f, M9.view.loc (c : Thread nD τ) ↦{fullShare} f) ∗ (M6.view.loc (c : Thread nD τ) ↦{fullShare} a.wg)) := by
  exact (sep_mono_right (Entails.of_eq ((g_cells c a).trans (g_list c a)).symm)).trans
    (cells_join (ℓ := M9.view.loc (c : Thread nD τ)) (ℓs := M6.view.loc (c : Thread nD τ)) (fun b : Fin 24 => win ((b : ℕ) / 12) (gOff ((b : ℕ) % 12)) (gLen ((b : ℕ) % 12))) g_disj g_cover (gC a 0) a.wg)

theorem d_list : (bigSep Finset.univ (fun b : Fin 8 => dHome c a ((b : ℕ) / 4) ((b : ℕ) % 4)) : sProp 𝕄) = iprop(dHome c a 0 0 ∗ dHome c a 0 1 ∗ dHome c a 0 2 ∗ dHome c a 0 3 ∗ dHome c a 1 0 ∗ dHome c a 1 1 ∗ dHome c a 1 2 ∗ dHome c a 1 3) :=
  bigSep_univ_eq_bigSepL [(0 : Fin 8), (1 : Fin 8), (2 : Fin 8), (3 : Fin 8), (4 : Fin 8), (5 : Fin 8), (6 : Fin 8), (7 : Fin 8)] (by decide) (by decide) _

theorem d_cells : (bigSep Finset.univ (fun b : Fin 8 => iprop((∃ f, M10.view.loc (c : Thread nD τ) ↦[(fun b : Fin 8 => win ((b : ℕ) / 4) (1024 * ((b : ℕ) % 4)) 1024) b]{fullShare} f) ∗ (M7.view.loc (c : Thread nD τ) ↦{shareTokN fullShare b} a.wd))) : sProp 𝕄)
    = bigSep Finset.univ (fun b : Fin 8 => dHome c a ((b : ℕ) / 4) ((b : ℕ) % 4)) :=
  bigSep_congr fun b _ => by
    unfold dHome
    rw [show 4 * ((b : ℕ) / 4) + (b : ℕ) % 4 = (b : ℕ) from by omega]

theorem d_split : (iprop((∃ f, M10.view.loc (c : Thread nD τ) ↦{fullShare} f) ∗ (M7.view.loc (c : Thread nD τ) ↦{fullShare} a.wd)) : sProp 𝕄) ⊢ iprop((M7.view.loc (c : Thread nD τ) ↦{shareDrop fullShare 8} a.wd) ∗ dHome c a 0 0 ∗ dHome c a 0 1 ∗ dHome c a 0 2 ∗ dHome c a 0 3 ∗ dHome c a 1 0 ∗ dHome c a 1 1 ∗ dHome c a 1 2 ∗ dHome c a 1 3) := by
  exact (cells_split (ℓ := M10.view.loc (c : Thread nD τ)) (ℓs := M7.view.loc (c : Thread nD τ)) (fun b : Fin 8 => win ((b : ℕ) / 4) (1024 * ((b : ℕ) % 4)) 1024) d_disj d_cover a.wd).trans
    (sep_mono_right (Entails.of_eq ((d_cells c a).trans (d_list c a))))

theorem d_join : (iprop((M7.view.loc (c : Thread nD τ) ↦{shareDrop fullShare 8} a.wd) ∗ dHome c a 0 0 ∗ dHome c a 0 1 ∗ dHome c a 0 2 ∗ dHome c a 0 3 ∗ dHome c a 1 0 ∗ dHome c a 1 1 ∗ dHome c a 1 2 ∗ dHome c a 1 3) : sProp 𝕄) ⊢ iprop((∃ f, M10.view.loc (c : Thread nD τ) ↦{fullShare} f) ∗ (M7.view.loc (c : Thread nD τ) ↦{fullShare} a.wd)) := by
  exact (sep_mono_right (Entails.of_eq ((d_cells c a).trans (d_list c a)).symm)).trans
    (cells_join (ℓ := M10.view.loc (c : Thread nD τ)) (ℓs := M7.view.loc (c : Thread nD τ)) (fun b : Fin 8 => win ((b : ℕ) / 4) (1024 * ((b : ℕ) % 4)) 1024) d_disj d_cover (dC a 0) a.wd)

theorem sg_list : (bigSep Finset.univ (fun b : Fin 2 => sgHome c a (b : ℕ)) : sProp 𝕄) = iprop(sgHome c a 0 ∗ sgHome c a 1) :=
  bigSep_univ_eq_bigSepL [(0 : Fin 2), (1 : Fin 2)] (by decide) (by decide) _

theorem sg_cells : (bigSep Finset.univ (fun b : Fin 2 => iprop((∃ f, M11.view.loc (c : Thread nD τ) ↦[(fun b : Fin 2 => win (b : ℕ) 0 1) b]{fullShare} f) ∗ (M4.view.loc (c : Thread nD τ) ↦{shareTokN fullShare b} a.sg))) : sProp 𝕄)
    = bigSep Finset.univ (fun b : Fin 2 => sgHome c a (b : ℕ)) :=
  bigSep_congr fun b _ => by
    unfold sgHome
    rfl

theorem sg_split : (iprop((∃ f, M11.view.loc (c : Thread nD τ) ↦{fullShare} f) ∗ (M4.view.loc (c : Thread nD τ) ↦{fullShare} a.sg)) : sProp 𝕄) ⊢ iprop((M4.view.loc (c : Thread nD τ) ↦{shareDrop fullShare 2} a.sg) ∗ sgHome c a 0 ∗ sgHome c a 1) := by
  exact (cells_split (ℓ := M11.view.loc (c : Thread nD τ)) (ℓs := M4.view.loc (c : Thread nD τ)) (fun b : Fin 2 => win (b : ℕ) 0 1) s_disj s_cover a.sg).trans
    (sep_mono_right (Entails.of_eq ((sg_cells c a).trans (sg_list c a))))

theorem sg_join : (iprop((M4.view.loc (c : Thread nD τ) ↦{shareDrop fullShare 2} a.sg) ∗ sgHome c a 0 ∗ sgHome c a 1) : sProp 𝕄) ⊢ iprop((∃ f, M11.view.loc (c : Thread nD τ) ↦{fullShare} f) ∗ (M4.view.loc (c : Thread nD τ) ↦{fullShare} a.sg)) := by
  exact (sep_mono_right (Entails.of_eq ((sg_cells c a).trans (sg_list c a)).symm)).trans
    (cells_join (ℓ := M11.view.loc (c : Thread nD τ)) (ℓs := M4.view.loc (c : Thread nD τ)) (fun b : Fin 2 => win (b : ℕ) 0 1) s_disj s_cover (sgC a 0) a.sg)

theorem sd_list : (bigSep Finset.univ (fun b : Fin 2 => sdHome c a (b : ℕ)) : sProp 𝕄) = iprop(sdHome c a 0 ∗ sdHome c a 1) :=
  bigSep_univ_eq_bigSepL [(0 : Fin 2), (1 : Fin 2)] (by decide) (by decide) _

theorem sd_cells : (bigSep Finset.univ (fun b : Fin 2 => iprop((∃ f, M12.view.loc (c : Thread nD τ) ↦[(fun b : Fin 2 => win (b : ℕ) 0 1) b]{fullShare} f) ∗ (M5.view.loc (c : Thread nD τ) ↦{shareTokN fullShare b} a.sd))) : sProp 𝕄)
    = bigSep Finset.univ (fun b : Fin 2 => sdHome c a (b : ℕ)) :=
  bigSep_congr fun b _ => by
    unfold sdHome
    rfl

theorem sd_split : (iprop((∃ f, M12.view.loc (c : Thread nD τ) ↦{fullShare} f) ∗ (M5.view.loc (c : Thread nD τ) ↦{fullShare} a.sd)) : sProp 𝕄) ⊢ iprop((M5.view.loc (c : Thread nD τ) ↦{shareDrop fullShare 2} a.sd) ∗ sdHome c a 0 ∗ sdHome c a 1) := by
  exact (cells_split (ℓ := M12.view.loc (c : Thread nD τ)) (ℓs := M5.view.loc (c : Thread nD τ)) (fun b : Fin 2 => win (b : ℕ) 0 1) s_disj s_cover a.sd).trans
    (sep_mono_right (Entails.of_eq ((sd_cells c a).trans (sd_list c a))))

theorem sd_join : (iprop((M5.view.loc (c : Thread nD τ) ↦{shareDrop fullShare 2} a.sd) ∗ sdHome c a 0 ∗ sdHome c a 1) : sProp 𝕄) ⊢ iprop((∃ f, M12.view.loc (c : Thread nD τ) ↦{fullShare} f) ∗ (M5.view.loc (c : Thread nD τ) ↦{fullShare} a.sd)) := by
  exact (sep_mono_right (Entails.of_eq ((sd_cells c a).trans (sd_list c a)).symm)).trans
    (cells_join (ℓ := M12.view.loc (c : Thread nD τ)) (ℓs := M5.view.loc (c : Thread nD τ)) (fun b : Fin 2 => win (b : ℕ) 0 1) s_disj s_cover (sdC a 0) a.sd)

/-! ## Both slots -/

/-- The scratch the slots use at some contents, and the operands they read, whole. -/
def buffers : sProp 𝕄 :=
  iprop(((∃ f, M9.view.loc (c : Thread nD τ) ↦{fullShare} f) ∗ (M6.view.loc (c : Thread nD τ) ↦{fullShare} a.wg)) ∗ ((∃ f, M10.view.loc (c : Thread nD τ) ↦{fullShare} f) ∗ (M7.view.loc (c : Thread nD τ) ↦{fullShare} a.wd)) ∗ ((∃ f, M11.view.loc (c : Thread nD τ) ↦{fullShare} f) ∗ (M4.view.loc (c : Thread nD τ) ↦{fullShare} a.sg)) ∗ ((∃ f, M12.view.loc (c : Thread nD τ) ↦{fullShare} f) ∗ (M5.view.loc (c : Thread nD τ) ↦{fullShare} a.sd)))
/-- The twenty semaphores at zero. -/
def pool : sProp 𝕄 :=
  iprop(semVal ((c : Thread nD τ), .dma (gsem 0 0)) 0 ∗ semVal ((c : Thread nD τ), .dma (gsem 0 1)) 0 ∗ semVal ((c : Thread nD τ), .dma (gsem 0 2)) 0 ∗ semVal ((c : Thread nD τ), .dma (gsem 0 3)) 0 ∗ semVal ((c : Thread nD τ), .dma (gsem 0 4)) 0 ∗ semVal ((c : Thread nD τ), .dma (gsem 0 5)) 0 ∗ semVal ((c : Thread nD τ), .dma (gsem 1 0)) 0 ∗ semVal ((c : Thread nD τ), .dma (gsem 1 1)) 0 ∗ semVal ((c : Thread nD τ), .dma (gsem 1 2)) 0 ∗ semVal ((c : Thread nD τ), .dma (gsem 1 3)) 0 ∗ semVal ((c : Thread nD τ), .dma (gsem 1 4)) 0 ∗ semVal ((c : Thread nD τ), .dma (gsem 1 5)) 0 ∗ semVal ((c : Thread nD τ), .dma (dsem 0 0)) 0 ∗ semVal ((c : Thread nD τ), .dma (dsem 0 1)) 0 ∗ semVal ((c : Thread nD τ), .dma (dsem 0 2)) 0 ∗ semVal ((c : Thread nD τ), .dma (dsem 0 3)) 0 ∗ semVal ((c : Thread nD τ), .dma (dsem 1 0)) 0 ∗ semVal ((c : Thread nD τ), .dma (dsem 1 1)) 0 ∗ semVal ((c : Thread nD τ), .dma (dsem 1 2)) 0 ∗ semVal ((c : Thread nD τ), .dma (dsem 1 3)) 0)
/-- What no slot holds of the operands. -/
def spare : sProp 𝕄 :=
  iprop((M6.view.loc (c : Thread nD τ) ↦{shareDrop fullShare 24} a.wg) ∗ (M7.view.loc (c : Thread nD τ) ↦{shareDrop fullShare 8} a.wd) ∗ (M4.view.loc (c : Thread nD τ) ↦{shareDrop fullShare 2} a.sg) ∗ (M5.view.loc (c : Thread nD τ) ↦{shareDrop fullShare 2} a.sd))

theorem slots_split : (iprop(buffers c a ∗ pool c) : sProp 𝕄) ⊢ iprop(spare c a ∗ slotIdle c a 0 ∗ slotIdle c a 1) := by
  unfold buffers pool spare slotIdle zIdle gIdle dIdle
  iintro ⟨⟨Bg, Bd, Bsg, Bsd⟩, S0, S1, S2, S3, S4, S5, S6, S7, S8, S9, S10, S11, S12, S13, S14, S15, S16, S17, S18, S19⟩
  ihave Bg := (g_split c a) $$ Bg
  icases Bg with ⟨Rg, G0, G1, G2, G3, G4, G5, G6, G7, G8, G9, G10, G11, G12, G13, G14, G15, G16, G17, G18, G19, G20, G21, G22, G23⟩
  ihave Bd := (d_split c a) $$ Bd
  icases Bd with ⟨Rd, D0, D1, D2, D3, D4, D5, D6, D7⟩
  ihave Bsg := (sg_split c a) $$ Bsg
  icases Bsg with ⟨Rsg, P0, P1⟩
  ihave Bsd := (sd_split c a) $$ Bsd
  icases Bsd with ⟨Rsd, Q0, Q1⟩
  isplitl [Rg Rd Rsg Rsd]
  · isplitl [Rg]; · iexact Rg
    isplitl [Rd]; · iexact Rd
    isplitl [Rsg] <;> iassumption
  isplitl [G0 G1 G2 G3 G4 G5 G6 G7 G8 G9 G10 G11 S0 S1 S2 S3 S4 S5 D0 D1 D2 D3 S12 S13 S14 S15 P0 Q0]
  · isplitl [G0 G6 P0 Q0 S0]
    · isplitl [G0 G6 P0 Q0]
      · isplitl [G0]; · iexact G0
        isplitl [G6]; · iexact G6
        isplitl [P0] <;> iassumption
      iexact S0
    isplitl [G1 G7 S1]
    · isplitl [G1]; · iexact G1
      isplitl [G7] <;> iassumption
    isplitl [G2 G8 S2]
    · isplitl [G2]; · iexact G2
      isplitl [G8] <;> iassumption
    isplitl [G3 G9 S3]
    · isplitl [G3]; · iexact G3
      isplitl [G9] <;> iassumption
    isplitl [G4 G10 S4]
    · isplitl [G4]; · iexact G4
      isplitl [G10] <;> iassumption
    isplitl [G5 G11 S5]
    · isplitl [G5]; · iexact G5
      isplitl [G11] <;> iassumption
    isplitl [D0 S12]
    · isplitl [D0] <;> iassumption
    isplitl [D1 S13]
    · isplitl [D1] <;> iassumption
    isplitl [D2 S14]
    · isplitl [D2] <;> iassumption
    isplitl [D3] <;> iassumption
  isplitl [G12 G18 P1 Q1 S6]
  · isplitl [G12 G18 P1 Q1]
    · isplitl [G12]; · iexact G12
      isplitl [G18]; · iexact G18
      isplitl [P1] <;> iassumption
    iexact S6
  isplitl [G13 G19 S7]
  · isplitl [G13]; · iexact G13
    isplitl [G19] <;> iassumption
  isplitl [G14 G20 S8]
  · isplitl [G14]; · iexact G14
    isplitl [G20] <;> iassumption
  isplitl [G15 G21 S9]
  · isplitl [G15]; · iexact G15
    isplitl [G21] <;> iassumption
  isplitl [G16 G22 S10]
  · isplitl [G16]; · iexact G16
    isplitl [G22] <;> iassumption
  isplitl [G17 G23 S11]
  · isplitl [G17]; · iexact G17
    isplitl [G23] <;> iassumption
  isplitl [D4 S16]
  · isplitl [D4] <;> iassumption
  isplitl [D5 S17]
  · isplitl [D5] <;> iassumption
  isplitl [D6 S18]
  · isplitl [D6] <;> iassumption
  isplitl [D7] <;> iassumption

theorem slots_join : (iprop(spare c a ∗ slotIdle c a 0 ∗ slotIdle c a 1) : sProp 𝕄) ⊢ iprop(buffers c a ∗ pool c) := by
  unfold buffers pool spare slotIdle zIdle gIdle dIdle
  iintro ⟨⟨Rg, Rd, Rsg, Rsd⟩, ⟨⟨⟨G0, G6, P0, Q0⟩, S0⟩, ⟨G1, G7, S1⟩, ⟨G2, G8, S2⟩, ⟨G3, G9, S3⟩, ⟨G4, G10, S4⟩, ⟨G5, G11, S5⟩, ⟨D0, S12⟩, ⟨D1, S13⟩, ⟨D2, S14⟩, ⟨D3, S15⟩⟩, ⟨⟨⟨G12, G18, P1, Q1⟩, S6⟩, ⟨G13, G19, S7⟩, ⟨G14, G20, S8⟩, ⟨G15, G21, S9⟩, ⟨G16, G22, S10⟩, ⟨G17, G23, S11⟩, ⟨D4, S16⟩, ⟨D5, S17⟩, ⟨D6, S18⟩, ⟨D7, S19⟩⟩⟩
  isplitl [Rg Rd Rsg Rsd P0 P1 Q0 Q1 G0 G1 G2 G3 G4 G5 G6 G7 G8 G9 G10 G11 G12 G13 G14 G15 G16 G17 G18 G19 G20 G21 G22 G23 D0 D1 D2 D3 D4 D5 D6 D7]
  · isplitl [Rg G0 G1 G2 G3 G4 G5 G6 G7 G8 G9 G10 G11 G12 G13 G14 G15 G16 G17 G18 G19 G20 G21 G22 G23]
    · iapply (g_join c a)
      isplitl [Rg]; · iexact Rg
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [G15]; · iexact G15
      isplitl [G16]; · iexact G16
      isplitl [G17]; · iexact G17
      isplitl [G18]; · iexact G18
      isplitl [G19]; · iexact G19
      isplitl [G20]; · iexact G20
      isplitl [G21]; · iexact G21
      isplitl [G22] <;> iassumption
    isplitl [Rd D0 D1 D2 D3 D4 D5 D6 D7]
    · iapply (d_join c a)
      isplitl [Rd]; · iexact Rd
      isplitl [D0]; · iexact D0
      isplitl [D1]; · iexact D1
      isplitl [D2]; · iexact D2
      isplitl [D3]; · iexact D3
      isplitl [D4]; · iexact D4
      isplitl [D5]; · iexact D5
      isplitl [D6] <;> iassumption
    isplitl [Rsg P0 P1]
    · iapply (sg_join c a)
      isplitl [Rsg]; · iexact Rsg
      isplitl [P0] <;> iassumption
    iapply (sd_join c a)
    isplitl [Rsd]; · iexact Rsd
    isplitl [Q0] <;> iassumption
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18] <;> iassumption

end Cert.Kernel.Hand
-- ==== Proof.Kernel.Launch.lean ====
/-
  The launch: the operands as the region finds them, the body obligation from `run_body`, and the run of @main.
-/
module

public import proofs.«01_k».proof.Proof.Kernel.Body
public import proofs.«01_k».proof.Proof.Kernel.Split
public import proofs.«01_k».proof.Proof.Gen.Kernel.Frame

@[expose] public section

set_option maxRecDepth 16384

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The operands -/

/-- What the body reads, as the region finds it. -/
def ins (c : Dev nD) : Ins F where
  ids := V m c main_v0
  cw := V m c main_v1
  x := V m c main_v2
  sg := V m c main_arg4
  sd := V m c main_arg6
  wg := V m c main_arg3
  wd := V m c main_arg5

theorem iblk_ids0 (c : Dev nD) (t : Fin cfg0.N) : iblk m c 0 t = (ins m c).ids := by
  funext i
  refine congrArg (V m c main_v0) (funext fun k => Fin.ext ?_)
  fin_cases k
  · show 0 * 64 + 1 * (i 0 : ℕ) = (i 0 : ℕ); omega
  · show 0 * 8 + 1 * (i 1 : ℕ) = (i 1 : ℕ); omega
theorem iblk_ids1 (c : Dev nD) (t : Fin cfg0.N) : iblk m c 1 t = (ins m c).ids := by
  funext i
  refine congrArg (V m c main_v0) (funext fun k => Fin.ext ?_)
  fin_cases k
  · show 0 * 64 + 1 * (i 0 : ℕ) = (i 0 : ℕ); omega
  · show 0 * 8 + 1 * (i 1 : ℕ) = (i 1 : ℕ); omega
theorem iblk_cw (c : Dev nD) (t : Fin cfg0.N) : iblk m c 2 t = (ins m c).cw := by
  funext i
  refine congrArg (V m c main_v1) (funext fun k => Fin.ext ?_)
  fin_cases k
  · show 0 * 64 + 1 * (i 0 : ℕ) = (i 0 : ℕ); omega
  · show 0 * 8 + 1 * (i 1 : ℕ) = (i 1 : ℕ); omega
theorem iblk_x (c : Dev nD) (t : Fin cfg0.N) : iblk m c 3 t = (ins m c).x := by
  funext i
  refine congrArg (V m c main_v2) (funext fun k => Fin.ext ?_)
  fin_cases k
  · show 0 * 64 + 1 * (i 0 : ℕ) = (i 0 : ℕ); omega
  · show 0 * 4096 + 1 * (i 1 : ℕ) = (i 1 : ℕ); omega

/-! ## The semaphores and the operands left in place -/

/-- The body's twenty semaphores: six, then six, for the up projection's tiles; four, then four, for the down projection's. -/
abbrev osem0 : Fin 20 → SemLoc sig := fun j => .dma ⟨5 + (j : ℕ), by have := j.isLt; show _ < 25; omega⟩
theorem ownSemFacts0 : Pipeline.OwnSemFacts spec0 osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄) = pool c := by
  rw [Pipeline.ownSems0_eq_of_list c osem0 [0, 1, 2, 3, 4, 5, 6, 7, 8, 9, 10, 11, 12, 13, 14, 15, 16, 17, 18, 19] (by decide) (by decide)]
  rfl

/-- The operands the transfers read. -/
def H0 : Finset (Ref sig .tc) := {main_arg3, main_arg4, main_arg5, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop((M6.view.loc (c : Thread nD τ) ↦{fullShare} (ins m c).wg) ∗ (M7.view.loc (c : Thread nD τ) ↦{fullShare} (ins m c).wd)
          ∗ (M4.view.loc (c : Thread nD τ) ↦{fullShare} (ins m c).sg) ∗ (M5.view.loc (c : Thread nD τ) ↦{fullShare} (ins m c).sd)) := by
  rw [BI.bigSep_eq_bigSepL_of_eq [main_arg3, main_arg5, main_arg4, main_arg6] (by decide) (by decide)]; rfl

theorem PhiD0_eq (c : Dev nD) :
    (Pipeline.ΦD osem0 spec0 H0 (V m) c : sProp 𝕄)
      = iprop(iprop((∃ f, M9.view.loc (c : Thread nD τ) ↦{fullShare} f) ∗ (∃ f, M10.view.loc (c : Thread nD τ) ↦{fullShare} f) ∗ (∃ f, M11.view.loc (c : Thread nD τ) ↦{fullShare} f) ∗ (∃ f, M12.view.loc (c : Thread nD τ) ↦{fullShare} f) ∗ (∃ f, M13.view.loc (c : Thread nD τ) ↦{fullShare} f) ∗ (∃ f, M14.view.loc (c : Thread nD τ) ↦{fullShare} f) ∗ (∃ f, M15.view.loc (c : Thread nD τ) ↦{fullShare} f) ∗ (∃ f, M16.view.loc (c : Thread nD τ) ↦{fullShare} f))
          ∗ (∃ r, prngReg c r) ∗ pool c
          ∗ iprop((M6.view.loc (c : Thread nD τ) ↦{fullShare} (ins m c).wg) ∗ (M7.view.loc (c : Thread nD τ) ↦{fullShare} (ins m c).wd)
          ∗ (M4.view.loc (c : Thread nD τ) ↦{fullShare} (ins m c).sg) ∗ (M5.view.loc (c : Thread nD τ) ↦{fullShare} (ins m c).sd))) := by
  rw [Pipeline.ΦD_eq, scopedRest0_eq, ownSems00_eq, hbmPts0_eq]
  try rfl

/-! ## The proof data -/

/-- Every operand's block stays, the result's is `outVal`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outVal (ins m c)
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)
theorem after0_4 (c : Dev nD) (t : Fin cfg0.N) : (dats m 0 c).after 4 t = outVal (ins m c) := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

theorem sound_body (c : Dev nD) (hids : ∀ t j, (idAt (ins m c).ids t j).toNat < 32) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.succ = (dats m 0 c).Φ t0_0.castSucc from rfl, after0_0, after0_1, after0_2, after0_3, after0_4,
    iblk_ids0, iblk_ids1, iblk_cw, iblk_x]
  simp only [before0_0, before0_1, before0_2, before0_3, iblk_ids0, iblk_ids1, iblk_cw, iblk_x]
  rw [show (dats m 0 c).Φ t0_0.castSucc = Pipeline.ΦD osem0 spec0 H0 (V m) c from rfl, PhiD0_eq]
  unfold Dat.owesAt Pipeline.owesWithin
  rw [show (dats m 0 c).owed t0_0.castSucc = 0 from rfl, show (dats m 0 c).owed t0_0.succ = 0 from rfl]
  iintro ⟨⟨⟨S9, S10, S11, S12, S13, S14, S15, S16⟩, Hg, Hp, ⟨H6, H7, H4, H5⟩⟩, ⟨%W, -, HW⟩, ⟨%d0, I0⟩, ⟨%d1, I1⟩, ⟨%d2, I2⟩, ⟨%d3, I3⟩, ⟨%d4, I8⟩⟩
  ihave I0 := (Entails.of_eq (show owns (c : Thread nD τ) M0 fullShare (ins m c).ids = (M0.view.loc (c : Thread nD τ) ↦{fullShare} (ins m c).ids : sProp 𝕄) from owns_whole ..)) $$ I0
  ihave I1 := (Entails.of_eq (show owns (c : Thread nD τ) M1 fullShare (ins m c).ids = (M1.view.loc (c : Thread nD τ) ↦{fullShare} (ins m c).ids : sProp 𝕄) from owns_whole ..)) $$ I1
  ihave I2 := (Entails.of_eq (show owns (c : Thread nD τ) M2 fullShare (ins m c).cw = (M2.view.loc (c : Thread nD τ) ↦{fullShare} (ins m c).cw : sProp 𝕄) from owns_whole ..)) $$ I2
  ihave I3 := (Entails.of_eq (show owns (c : Thread nD τ) M3 fullShare (ins m c).x = (M3.view.loc (c : Thread nD τ) ↦{fullShare} (ins m c).x : sProp 𝕄) from owns_whole ..)) $$ I3
  ihave I8 := (Entails.of_eq (show owns (c : Thread nD τ) M8 fullShare _ = (M8.view.loc (c : Thread nD τ) ↦{fullShare} _ : sProp 𝕄) from owns_whole ..)) $$ I8
  ihave HS := (slots_split c (ins m c)) $$ [S9 S10 S11 S12 H6 H7 H4 H5 Hp]
  · unfold buffers
    isplitr [Hp]
    · isplitl [S9 H6]; · isplitl [S9] <;> iassumption
      isplitl [S10 H7]; · isplitl [S10] <;> iassumption
      isplitl [S11 H4]; · isplitl [S11] <;> iassumption
      isplitl [S12] <;> iassumption
    iexact Hp
  icases HS with ⟨HR, HA, HB⟩
  iapply (run_body Variants.none c none (ins m c) hids) $$ [I0 I1 I2 I3 I8 S13 S14 S15 S16 HW HA HB]
  · isplitl [I0]; · iexact I0
    isplitl [I1]; · iexact I1
    isplitl [I2]; · iexact I2
    isplitl [I3]; · iexact I3
    isplitl [I8]; · iexact I8
    isplitl [S13]; · iexact S13
    isplitl [S14]; · iexact S14
    isplitl [S15]; · iexact S15
    isplitl [S16]; · iexact S16
    isplitl [HW]; · unfold ow; iexists W; iexact HW
    isplitl [HA] <;> iassumption
  iintro ⟨I0, I1, I2, I3, I8, S13, S14, S15, S16, HO, HA, HB⟩
  ihave HS := (slots_join c (ins m c)) $$ [HR HA HB]
  · isplitl [HR]; · iexact HR
    isplitl [HA] <;> iassumption
  unfold buffers ow
  icases HS with ⟨⟨⟨S9, H6⟩, ⟨S10, H7⟩, ⟨S11, H4⟩, ⟨S12, H5⟩⟩, Hp⟩
  icases HO with ⟨%W', HW⟩
  isplitl [S9 S10 S11 S12 S13 S14 S15 S16 Hg Hp H6 H7 H4 H5]
  · isplitl [S9 S10 S11 S12 S13 S14 S15 S16]
    · isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    isplitl [Hg]; · iexact Hg
    isplitl [Hp]; · iexact Hp
    isplitl [H6]; · iexact H6
    isplitl [H7]; · iexact H7
    isplitl [H4]; · iexact H4
    iexact H5
  isplitl [HW]
  · iexists W'; isplitr; · ipureintro; exact fun _ _ => Or.inl trivial
    iexact HW
  isplitl [I0]
  · iapply (Entails.of_eq (show owns (c : Thread nD τ) M0 fullShare (ins m c).ids = (M0.view.loc (c : Thread nD τ) ↦{fullShare} (ins m c).ids : sProp 𝕄) from owns_whole ..).symm)
    iexact I0
  isplitl [I1]
  · iapply (Entails.of_eq (show owns (c : Thread nD τ) M1 fullShare (ins m c).ids = (M1.view.loc (c : Thread nD τ) ↦{fullShare} (ins m c).ids : sProp 𝕄) from owns_whole ..).symm)
    iexact I1
  isplitl [I2]
  · iapply (Entails.of_eq (show owns (c : Thread nD τ) M2 fullShare (ins m c).cw = (M2.view.loc (c : Thread nD τ) ↦{fullShare} (ins m c).cw : sProp 𝕄) from owns_whole ..).symm)
    iexact I2
  isplitl [I3]
  · iapply (Entails.of_eq (show owns (c : Thread nD τ) M3 fullShare (ins m c).x = (M3.view.loc (c : Thread nD τ) ↦{fullShare} (ins m c).x : sProp 𝕄) from owns_whole ..).symm)
    iexact I3
  iapply (Entails.of_eq (show owns (c : Thread nD τ) M8 fullShare (outVal (ins m c)) = (M8.view.loc (c : Thread nD τ) ↦{fullShare} outVal (ins m c) : sProp 𝕄) from owns_whole ..).symm)
  iexact I8

theorem defs₀_row (t : Fin cfg0.N) :
    defs₀ (F := F) .tc cfg0.body (cfg0.bodyArgs t (cfg0.slots t)) = bodyAt0 t := by
  unfold defs₀; rw [Defs.onTc_tc]

theorem body_obligation (c : Dev nD) (hids : ∀ t j, (idAt (ins m c).ids t j).toNat < 32) :
    BodyObligation (dats (F := F) m 0 c) (defs₀ (F := F)) Variants.none () Set.univ := fun t => by
  rw [bigSep_W0, bigSep_W0, defs₀_row]
  exact triple_restated (sound_body m c hids t) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [StableHlo.reshape_bufs, Finset.mem_insert, Finset.mem_singleton, not_or]
  simp only [H0, Finset.mem_insert, Finset.mem_singleton] at hb
  rcases hb with rfl | rfl | rfl | rfl <;> exact ⟨StableHlo.devRef_ne_of_ne (by decide), StableHlo.devRef_ne_of_ne (by decide)⟩

set_option backward.isDefEq.respectTransparency.types false in
theorem run_main (hids : ∀ c t j, (idAt (ins m c).ids t j).toNat < 32) :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m c (hids c)).loose) (hq := fun _ _ _ => rfl)
    (howed := fun _ _ => rfl) (V₀ := V0 m) (opss := [hostOps1]) (hsub := sfx_subD) (hfresh := sfx_fresh) (hkeep := sfx_keeps)
    (hmain := hmainD m Variants.none) (hA := A_eq m)
    (hin := fun _ => .rfl) (hout := fun _ => .rfl)

/-! ## The frame -/

/-- An argument ends as launched. -/
theorem W_arg (c : Dev nD) (b : Ref sig .tc) (h1 : b ≠ main_v4) (h2 : ∀ w, Pipeline.arrRef spec0 w ≠ b) (h3 : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h1)),
    Pipeline.withArrays_of_ne _ c (V0 m c) _ b h2]
  exact h3

theorem args_kept {r : PUnit × MemSt nD τ sig (Elt F)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (W_arg m c main_arg0 (by decide) (by decide) (V_main_arg0 m c)),
    ((h c).2 main_arg1 (Pipeline.mem_restRefs_of main_arg1 (by decide) (by decide))).trans (W_arg m c main_arg1 (by decide) (by decide) (V_main_arg1 m c)),
    ((h c).2 main_arg2 (Pipeline.mem_restRefs_of main_arg2 (by decide) (by decide))).trans (W_arg m c main_arg2 (by decide) (by decide) (V_main_arg2 m c)),
    ((h c).2 main_arg3 (Pipeline.mem_restRefs_of main_arg3 (by decide) (by decide))).trans (W_arg m c main_arg3 (by decide) (by decide) (V_main_arg3 m c)),
    ((h c).2 main_arg4 (Pipeline.mem_restRefs_of main_arg4 (by decide) (by decide))).trans (W_arg m c main_arg4 (by decide) (by decide) (V_main_arg4 m c)),
    ((h c).2 main_arg5 (Pipeline.mem_restRefs_of main_arg5 (by decide) (by decide))).trans (W_arg m c main_arg5 (by decide) (by decide) (V_main_arg5 m c)),
    ((h c).2 main_arg6 (Pipeline.mem_restRefs_of main_arg6 (by decide) (by decide))).trans (W_arg m c main_arg6 (by decide) (by decide) (V_main_arg6 m c))⟩

/-- The frame, the semaphores at zero again. -/
theorem frame (hids : ∀ c t j, (idAt (ins m c).ids t j).toNat < 32) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ hids)

end Cert.Kernel.Hand
-- ==== Proof.Kernel.Named.lean ====
/-
  The operands in terms of the arguments; the precondition says that every expert id names an expert.
-/
module

public import proofs.«01_k».proof.Proof.Kernel.Launch
public import proofs.«01_k».proof.Proof.Gen.Pre_experts_named

@[expose] public section

set_option maxRecDepth 16384

noncomputable section

namespace Cert.Kernel.Hand

open Cert.Kernel Cert.Kernel.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

open Idealize.ShloMosaic.Pipeline (Dat Cfg Window BodyObligation cellOf)

variable (m : (ℓ : Loc nD τ sig) → Buf (Elt F) ℓ) (ρ : Dev nD → PrngReg)

/-! ## The operands -/

theorem ins_ids (c : Dev nD) : (ins m c).ids = fun i => shapeCast S64x8 (m ((c.tc : Thread nD τ).loc main_arg1)) shapeCasts_S64x1x8_S64x8 i := by
  show V m c main_v0 = _
  simp only [V, V0, hostOps0, List.flatten_cons, List.flatten_nil, List.append_nil]
  after_results
  rfl

theorem ins_cw (c : Dev nD) : (ins m c).cw = fun i => shapeCast S64x8 (m ((c.tc : Thread nD τ).loc main_arg2)) shapeCasts_S64x1x8_S64x8 i := by
  show V m c main_v1 = _
  simp only [V, V0, hostOps0, List.flatten_cons, List.flatten_nil, List.append_nil]
  after_results
  rfl

theorem ins_x (c : Dev nD) : (ins m c).x = fun i => shapeCast S64x4096 (m ((c.tc : Thread nD τ).loc main_arg0)) shapeCasts_S64x1x4096_S64x4096 i := by
  show V m c main_v2 = _
  simp only [V, V0, hostOps0, List.flatten_cons, List.flatten_nil, List.append_nil]
  after_results
  rfl

/-- A word that is at least 0 and at most 31 names an expert. -/
theorem toNat_lt_of_pre {x : BitVec 32} (h : IntOp.andi (IntOp.cmpi .sge x 0#32) (IntOp.cmpi .sle x 31#32) = 1#1) : x.toNat < 32 := by
  have h' : ((BitVec.sle 0#32 x) && (x.sle 31#32)) = true := by
    revert h
    simp only [IntOp.andi, IntOp.cmpi]
    cases BitVec.sle 0#32 x <;> cases x.sle 31#32 <;> decide
  rw [Bool.and_eq_true, BitVec.sle_iff_toInt_le, BitVec.sle_iff_toInt_le] at h'
  obtain ⟨h0, h1⟩ := h'
  have e0 : (0#32).toInt = 0 := by decide
  have e1 : (31#32).toInt = 31 := by decide
  rw [e0] at h0
  rw [e1] at h1
  rw [BitVec.toInt_eq_toNat_cond] at h0 h1
  have := x.isLt
  split at h0 <;> rename_i hc <;> simp only [hc, ↓reduceIte] at h1 <;> omega

theorem named_of_pre {c : Dev nD} {a0 a2 a3 a4 a5 a6}
    (h : Cert.Pre_experts_named.fn (F := F) a0 (m ((c.tc : Thread nD τ).loc main_arg1)) a2 a3 a4 a5 a6 = (fun _ => 1#1)) (t j : ℕ) :
    (idAt (ins m c).ids t j).toNat < 32 := by
  unfold idAt
  split
  · rw [ins_ids]
    exact toNat_lt_of_pre (congrFun h _)
  · decide

end Cert.Kernel.Hand
-- ==== Proof.KernelIdeal.Geometry.lean ====
/-
  The kernel's buffers, the windows its transfers move, what a window holds once it landed, and the semaphore cells.
-/
module

public import proofs.«01_k».proof.Proof.Gen.KernelIdeal.Skeleton
public import proofs.«01_k».proof.Proof.Flight
public import Idealize.ShloMosaic.Lib.ValueIdxCore

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The operands -/

abbrev M0 : Memref sig .tc .smem S64x8 .i32 := Memref.whole cc0_stg0_0
abbrev M1 : Memref sig .tc .vmem S64x8 .i32 := Memref.whole cc0_stg1_0
abbrev M2 : Memref sig .tc .vmem S64x8 .f32 := Memref.whole cc0_stg2_0
abbrev M3 : Memref sig .tc .vmem S64x4096 .bf16 := Memref.whole cc0_stg3_0
abbrev M4 : Memref sig .tc .hbm S32x2816 .f32 := Memref.whole main_arg4
abbrev M5 : Memref sig .tc .hbm S32x4096 .f32 := Memref.whole main_arg6
abbrev M6 : Memref sig .tc .hbm S32x2816x4096 .fp8e4m3 := Memref.whole main_arg3
abbrev M7 : Memref sig .tc .hbm S32x4096x1408 .fp8e4m3 := Memref.whole main_arg5
abbrev M8 : Memref sig .tc .vmem S64x4096 .bf16 := Memref.whole cc0_stg4_0
abbrev M9 : Memref sig .tc .vmem S2x2816x4096 .fp8e4m3 := Memref.whole cc0_scratch0
abbrev M10 : Memref sig .tc .vmem S2x4096x1408 .fp8e4m3 := Memref.whole cc0_scratch1
abbrev M11 : Memref sig .tc .vmem S2x1x2816 .f32 := Memref.whole cc0_scratch2
abbrev M12 : Memref sig .tc .vmem S2x1x4096 .f32 := Memref.whole cc0_scratch3
abbrev M13 : Memref sig .tc .vmem S64x1408 .bf16 := Memref.whole cc0_scratch4
abbrev M14 : Memref sig .tc .vmem S64x4096 .f32 := Memref.whole cc0_scratch5
abbrev M15 : Memref sig .tc .smem S32 .i32 := Memref.whole cc0_scratch6
abbrev M16 : Memref sig .tc .smem S33 .i32 := Memref.whole cc0_scratch7

/-- The arrays the body is lent: the token ids (twice), the combine weights, the tokens, the two scales, the two weights. -/
structure Ins (F : FTy → Type) where
  ids : S64x8.Idx → BitVec 32
  cw : S64x8.Idx → F .f32
  x : S64x4096.Idx → F .bf16
  sg : S32x2816.Idx → F .f32
  sd : S32x4096.Idx → F .f32
  wg : S32x2816x4096.Idx → F .fp8e4m3
  wd : S32x4096x1408.Idx → F .fp8e4m3

/-! ## Windows of the two slots -/

/-- Rows `r … r+L-1` of slot `s`. -/
def win {d0 d1 d2 : ℕ} (s r L : ℕ) : Finset (⟨3, ![d0, d1, d2]⟩ : Shape).Idx :=
  Finset.univ.filter fun i => (i 0 : ℕ) = s ∧ r ≤ (i 1 : ℕ) ∧ (i 1 : ℕ) < r + L

theorem mem_win {d0 d1 d2 s r L : ℕ} {i : (⟨3, ![d0, d1, d2]⟩ : Shape).Idx} :
    i ∈ win s r L ↔ (i 0 : ℕ) = s ∧ r ≤ (i 1 : ℕ) ∧ (i 1 : ℕ) < r + L := by
  simp [win]

theorem set_rect {d0 d1 d2 s r L : ℕ} (h : ∀ a, (![s, r, 0] : Fin 3 → ℕ) a + (![1, L, d2] : Fin 3 → ℕ) a ≤ (⟨3, ![d0, d1, d2]⟩ : Shape).size a) :
    (Rect.unit (s := ⟨3, ![d0, d1, d2]⟩) ![s, r, 0] ![1, L, d2] h).set = win s r L := by
  ext i
  rw [Rect.mem_set_unit, mem_win]
  have h2 := (i 2).isLt
  constructor
  · intro H
    have H0 := H 0; have H1 := H 1
    simp at H0 H1
    omega
  · rintro ⟨H0, H1, H2⟩ a
    fin_cases a
    · simp; omega
    · simp; omega
    · simpa using h2

/-- Row start of window `m` of the twelve of a gate/up slot (six gate tiles, six up tiles) and its number of rows. -/
def gOff (m : ℕ) : ℕ := if m < 6 then 256 * m else 1408 + 256 * (m - 6)
def gLen (m : ℕ) : ℕ := if m % 6 = 5 then 128 else 256

/-! ## What a landed window holds: the expert's rows, whichever slot -/

def gC (a : Ins F) (e : Fin 32) : S2x2816x4096.Idx → F .fp8e4m3 := fun i => a.wg (ValueIdx.ix3 e (i 1) (i 2))
def dC (a : Ins F) (e : Fin 32) : S2x4096x1408.Idx → F .fp8e4m3 := fun i => a.wd (ValueIdx.ix3 e (i 1) (i 2))
def sgC (a : Ins F) (e : Fin 32) : S2x1x2816.Idx → F .f32 := fun i => a.sg (ValueIdx.ix2 e (i 2))
def sdC (a : Ins F) (e : Fin 32) : S2x1x4096.Idx → F .f32 := fun i => a.sd (ValueIdx.ix2 e (i 2))

/-! ## The semaphore cells -/

/-- Cell `(s, j)` of the gate/up semaphores, cell `(s, q)` of the down semaphores. -/
def gsem (s j : ℕ) : DmaSem sig := if h : 5 + 6 * s + j < 25 then ⟨5 + 6 * s + j, h⟩ else 0
def dsem (s q : ℕ) : DmaSem sig := if h : 17 + 4 * s + q < 25 then ⟨17 + 4 * s + q, h⟩ else 0

theorem gsem_eq {s j : ℕ} {o : Fin 2 → ℕ} {h : ∀ a, o a + S1x1.size a ≤ S2x6.size a} {hq : S1x1.Squeezes S_} (ho : o = ![s, j]) :
    ((cc0_scratch8.slice (Rect.unit (s := S2x6) o S1x1.size h)).squeeze S_ hq).sem = gsem s j := by
  subst ho
  have hs0 : s < 2 := by have := h 0; simp at this; omega
  have hj0 : j < 6 := by have := h 1; simp at this; omega
  interval_cases s <;> interval_cases j <;> (clear hs0 hj0; revert hq h; decide +kernel)

theorem dsem_eq {s j : ℕ} {o : Fin 2 → ℕ} {h : ∀ a, o a + S1x1.size a ≤ S2x4.size a} {hq : S1x1.Squeezes S_} (ho : o = ![s, j]) :
    ((cc0_scratch9.slice (Rect.unit (s := S2x4) o S1x1.size h)).squeeze S_ hq).sem = dsem s j := by
  subst ho
  have hs0 : s < 2 := by have := h 0; simp at this; omega
  have hj0 : j < 4 := by have := h 1; simp at this; omega
  interval_cases s <;> interval_cases j <;> (clear hs0 hj0; revert hq h; decide +kernel)

/-! ## Amounts of the transfers -/

def JG (L : ℕ) : ℕ := sig.dmaCredit .tc (Kind.tc.table .vmem) M9.view.buf ⟨2, ![L, 4096]⟩ .fp8e4m3
def JD : ℕ := sig.dmaCredit .tc (Kind.tc.table .vmem) M10.view.buf S1024x1408 .fp8e4m3
def JSG : ℕ := sig.dmaCredit .tc (Kind.tc.table .vmem) M11.view.buf S1x2816 .f32
def JSD : ℕ := sig.dmaCredit .tc (Kind.tc.table .vmem) M12.view.buf S1x4096 .f32

theorem JG_pos {L : ℕ} (h : 0 < L) : 0 < JG L := sig.dmaCredit_pos _ _ _ _ _ (by simp [Shape.numel, Fin.prod_univ_two, h])
theorem JD_pos : 0 < JD := sig.dmaCredit_pos _ _ _ _ _ (by decide)
theorem JSG_pos : 0 < JSG := sig.dmaCredit_pos _ _ _ _ _ (by decide)
theorem JSD_pos : 0 < JSD := sig.dmaCredit_pos _ _ _ _ _ (by decide)

/-! ## A window at rest and a window landed -/

variable (c : Dev nD) (a : Ins F)

/-- Window `m` of slot `s` of the gate/up buffer at some contents, with the share of the weight array its transfer reads through. -/
def gHome (s m : ℕ) : sProp 𝕄 :=
  iprop((∃ f, M9.view.loc (c : Thread nD τ) ↦[win s (gOff m) (gLen m)]{fullShare} f) ∗ (M6.view.loc (c : Thread nD τ) ↦{shareTokN fullShare (12 * s + m)} a.wg))
/-- The same window once expert `e`'s rows landed. -/
def gLand (s m : ℕ) (e : Fin 32) : sProp 𝕄 :=
  iprop((M9.view.loc (c : Thread nD τ) ↦[win s (gOff m) (gLen m)]{fullShare} gC a e) ∗ (M6.view.loc (c : Thread nD τ) ↦{shareTokN fullShare (12 * s + m)} a.wg))
def dHome (s q : ℕ) : sProp 𝕄 :=
  iprop((∃ f, M10.view.loc (c : Thread nD τ) ↦[win s (1024 * q) 1024]{fullShare} f) ∗ (M7.view.loc (c : Thread nD τ) ↦{shareTokN fullShare (4 * s + q)} a.wd))
def dLand (s q : ℕ) (e : Fin 32) : sProp 𝕄 :=
  iprop((M10.view.loc (c : Thread nD τ) ↦[win s (1024 * q) 1024]{fullShare} dC a e) ∗ (M7.view.loc (c : Thread nD τ) ↦{shareTokN fullShare (4 * s + q)} a.wd))
def sgHome (s : ℕ) : sProp 𝕄 :=
  iprop((∃ f, M11.view.loc (c : Thread nD τ) ↦[win s 0 1]{fullShare} f) ∗ (M4.view.loc (c : Thread nD τ) ↦{shareTokN fullShare s} a.sg))
def sgLand (s : ℕ) (e : Fin 32) : sProp 𝕄 :=
  iprop((M11.view.loc (c : Thread nD τ) ↦[win s 0 1]{fullShare} sgC a e) ∗ (M4.view.loc (c : Thread nD τ) ↦{shareTokN fullShare s} a.sg))
def sdHome (s : ℕ) : sProp 𝕄 :=
  iprop((∃ f, M12.view.loc (c : Thread nD τ) ↦[win s 0 1]{fullShare} f) ∗ (M5.view.loc (c : Thread nD τ) ↦{shareTokN fullShare s} a.sd))
def sdLand (s : ℕ) (e : Fin 32) : sProp 𝕄 :=
  iprop((M12.view.loc (c : Thread nD τ) ↦[win s 0 1]{fullShare} sdC a e) ∗ (M5.view.loc (c : Thread nD τ) ↦{shareTokN fullShare s} a.sd))

instance (s m : ℕ) (e : Fin 32) : Storable (upEmb : UEmb _ 𝕄) (gLand c a s m e) := by unfold gLand; infer_instance
instance (s m : ℕ) (e : Fin 32) : Storable (upEmb : UEmb _ 𝕄) (dLand c a s m e) := by unfold dLand; infer_instance
instance (s : ℕ) (e : Fin 32) : Storable (upEmb : UEmb _ 𝕄) (sgLand c a s e) := by unfold sgLand; infer_instance
instance (s : ℕ) (e : Fin 32) : Storable (upEmb : UEmb _ 𝕄) (sdLand c a s e) := by unfold sdLand; infer_instance

theorem gLand_home (s m : ℕ) (e : Fin 32) : gLand c a s m e ⊢ gHome c a s m := by
  unfold gLand gHome
  iintro ⟨H, Hs⟩
  isplitl [H]
  · iexists gC a e; iexact H
  iexact Hs
theorem dLand_home (s m : ℕ) (e : Fin 32) : dLand c a s m e ⊢ dHome c a s m := by
  unfold dLand dHome
  iintro ⟨H, Hs⟩
  isplitl [H]
  · iexists dC a e; iexact H
  iexact Hs
theorem sgLand_home (s : ℕ) (e : Fin 32) : sgLand c a s e ⊢ sgHome c a s := by
  unfold sgLand sgHome
  iintro ⟨H, Hs⟩
  isplitl [H]
  · iexists sgC a e; iexact H
  iexact Hs
theorem sdLand_home (s : ℕ) (e : Fin 32) : sdLand c a s e ⊢ sdHome c a s := by
  unfold sdLand sdHome
  iintro ⟨H, Hs⟩
  isplitl [H]
  · iexists sdC a e; iexact H
  iexact Hs

end Cert.KernelIdeal.Hand
-- ==== Proof.KernelIdeal.Rules.lean ====
/-
  One step of the kernel at a time: issuing a transfer into a window, waiting for it, loading from a window that landed.
-/
module

public import proofs.«01_k».proof.Proof.KernelIdeal.Geometry

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-! ## The set of a window and what is read through it -/

theorem set_g {s r L : ℕ} {o : Fin 3 → ℕ} {h} {hr} {hq : (⟨3, ![1, L, 4096]⟩ : Shape).Squeezes ⟨2, ![L, 4096]⟩} (ho : o = ![s, r, 0]) :
    ((M9.slice (Rect.unit (s := S2x2816x4096) o ![1, L, 4096] h) hr).squeeze ⟨2, ![L, 4096]⟩ hq).view.set = win s r L := by
  subst ho
  show (((View.whole _).slice _).reshape _ _).set = _
  rw [View.set_reshape, View.set_slice_whole]
  exact set_rect h

theorem set_d {s r : ℕ} {o : Fin 3 → ℕ} {h} {hr} {hq : S1x1024x1408.Squeezes S1024x1408} (ho : o = ![s, r, 0]) :
    ((M10.slice (Rect.unit (s := S2x4096x1408) o S1x1024x1408.size h) hr).squeeze S1024x1408 hq).view.set = win s r 1024 := by
  subst ho
  show (((View.whole _).slice _).reshape _ _).set = _
  rw [View.set_reshape, View.set_slice_whole]
  exact set_rect h

theorem set_sg {s : ℕ} {o : Fin 3 → ℕ} {h} {hr} {hq : S1x1x2816.Squeezes S1x2816} (ho : o = ![s, 0, 0]) :
    ((M11.slice (Rect.unit (s := S2x1x2816) o S1x1x2816.size h) hr).squeeze S1x2816 hq).view.set = win s 0 1 := by
  subst ho
  show (((View.whole _).slice _).reshape _ _).set = _
  rw [View.set_reshape, View.set_slice_whole]
  exact set_rect h

theorem set_sd {s : ℕ} {o : Fin 3 → ℕ} {h} {hr} {hq : S1x1x4096.Squeezes S1x4096} (ho : o = ![s, 0, 0]) :
    ((M12.slice (Rect.unit (s := S2x1x4096) o S1x1x4096.size h) hr).squeeze S1x4096 hq).view.set = win s 0 1 := by
  subst ho
  show (((View.whole _).slice _).reshape _ _).set = _
  rw [View.set_reshape, View.set_slice_whole]
  exact set_rect h

theorem read_g {s r L : ℕ} {v : BitVec 32} {e : Fin 32} {o o' : Fin 3 → ℕ} {h h'} {hr hr'} {hq hq' : (⟨3, ![1, L, 4096]⟩ : Shape).Squeezes ⟨2, ![L, 4096]⟩}
    (ho : o = ![s, r, 0]) (ho' : o' = ![v.toNat, r, 0]) (he : v.toNat = e) (x) :
    ((M9.slice (Rect.unit (s := S2x2816x4096) o ![1, L, 4096] h) hr).squeeze ⟨2, ![L, 4096]⟩ hq).view.read (Elt F) (gC a e) x
      = ((M6.slice (Rect.unit (s := S32x2816x4096) o' ![1, L, 4096] h') hr').squeeze ⟨2, ![L, 4096]⟩ hq').view.read (Elt F) a.wg x := by
  rw [he] at ho'
  subst ho ho'
  show a.wg _ = a.wg _
  refine congrArg a.wg (funext fun k => Fin.ext ?_)
  show (_ : ℕ) = ((Rect.unit (s := S32x2816x4096) ![(e : ℕ), r, 0] ![1, L, 4096] h').emb (Shape.reshapeEquiv _ x) k : ℕ)
  rw [Shape.reshapeEquiv_cons_one (d := ![L, 4096])]
  fin_cases k
  · simp [Rect.emb_apply, ValueIdx.ix3]; rfl
  · show (((Rect.unit (s := S2x2816x4096) ![s, r, 0] ![1, L, 4096] h).emb (Shape.reshapeEquiv _ x) 1 : Fin _) : ℕ) = _
    rw [Shape.reshapeEquiv_cons_one (d := ![L, 4096])]; rfl
  · show (((Rect.unit (s := S2x2816x4096) ![s, r, 0] ![1, L, 4096] h).emb (Shape.reshapeEquiv _ x) 2 : Fin _) : ℕ) = _
    rw [Shape.reshapeEquiv_cons_one (d := ![L, 4096])]; rfl

theorem read_d {s r : ℕ} {v : BitVec 32} {e : Fin 32} {o o' : Fin 3 → ℕ} {h h'} {hr hr'} {hq hq' : S1x1024x1408.Squeezes S1024x1408}
    (ho : o = ![s, r, 0]) (ho' : o' = ![v.toNat, r, 0]) (he : v.toNat = e) (x) :
    ((M10.slice (Rect.unit (s := S2x4096x1408) o S1x1024x1408.size h) hr).squeeze S1024x1408 hq).view.read (Elt F) (dC a e) x
      = ((M7.slice (Rect.unit (s := S32x4096x1408) o' S1x1024x1408.size h') hr').squeeze S1024x1408 hq').view.read (Elt F) a.wd x := by
  rw [he] at ho'
  subst ho ho'
  show a.wd _ = a.wd _
  refine congrArg a.wd (funext fun k => Fin.ext ?_)
  show (_ : ℕ) = ((Rect.unit (s := S32x4096x1408) ![(e : ℕ), r, 0] S1x1024x1408.size h').emb (Shape.reshapeEquiv _ x) k : ℕ)
  rw [Shape.reshapeEquiv_cons_one (d := ![1024, 1408])]
  fin_cases k
  · simp [Rect.emb_apply, ValueIdx.ix3]; rfl
  · show (((Rect.unit (s := S2x4096x1408) ![s, r, 0] S1x1024x1408.size h).emb (Shape.reshapeEquiv _ x) 1 : Fin _) : ℕ) = _
    rw [Shape.reshapeEquiv_cons_one (d := ![1024, 1408])]; rfl
  · show (((Rect.unit (s := S2x4096x1408) ![s, r, 0] S1x1024x1408.size h).emb (Shape.reshapeEquiv _ x) 2 : Fin _) : ℕ) = _
    rw [Shape.reshapeEquiv_cons_one (d := ![1024, 1408])]; rfl

theorem read_sg {s : ℕ} {v : BitVec 32} {e : Fin 32} {o : Fin 3 → ℕ} {o' : Fin 2 → ℕ} {h h'} {hr hr'} {hq : S1x1x2816.Squeezes S1x2816}
    (ho : o = ![s, 0, 0]) (ho' : o' = ![v.toNat, 0]) (he : v.toNat = e) (x) :
    ((M11.slice (Rect.unit (s := S2x1x2816) o S1x1x2816.size h) hr).squeeze S1x2816 hq).view.read (Elt F) (sgC a e) x
      = (M4.slice (Rect.unit (s := S32x2816) o' S1x2816.size h') hr').view.read (Elt F) a.sg x := by
  rw [he] at ho'
  subst ho ho'
  show a.sg _ = a.sg _
  refine congrArg a.sg (funext fun k => Fin.ext ?_)
  show (_ : ℕ) = ((Rect.unit (s := S32x2816) ![(e : ℕ), 0] S1x2816.size h').emb x k : ℕ)
  have h0 : (x 0 : ℕ) = 0 := by have := (x 0).isLt; simp at this; omega
  fin_cases k
  · simp [Rect.emb_apply, ValueIdx.ix2, h0]
  · show (((Rect.unit (s := S2x1x2816) ![s, 0, 0] S1x1x2816.size h).emb (Shape.reshapeEquiv _ x) 2 : Fin _) : ℕ) = _
    rw [Shape.reshapeEquiv_cons_one (d := ![1, 2816])]; rfl

theorem read_sd {s : ℕ} {v : BitVec 32} {e : Fin 32} {o : Fin 3 → ℕ} {o' : Fin 2 → ℕ} {h h'} {hr hr'} {hq : S1x1x4096.Squeezes S1x4096}
    (ho : o = ![s, 0, 0]) (ho' : o' = ![v.toNat, 0]) (he : v.toNat = e) (x) :
    ((M12.slice (Rect.unit (s := S2x1x4096) o S1x1x4096.size h) hr).squeeze S1x4096 hq).view.read (Elt F) (sdC a e) x
      = (M5.slice (Rect.unit (s := S32x4096) o' S1x4096.size h') hr').view.read (Elt F) a.sd x := by
  rw [he] at ho'
  subst ho ho'
  show a.sd _ = a.sd _
  refine congrArg a.sd (funext fun k => Fin.ext ?_)
  show (_ : ℕ) = ((Rect.unit (s := S32x4096) ![(e : ℕ), 0] S1x4096.size h').emb x k : ℕ)
  have h0 : (x 0 : ℕ) = 0 := by have := (x 0).isLt; simp at this; omega
  fin_cases k
  · simp [Rect.emb_apply, ValueIdx.ix2, h0]
  · show (((Rect.unit (s := S2x1x4096) ![s, 0, 0] S1x1x4096.size h).emb (Shape.reshapeEquiv _ x) 2 : Fin _) : ℕ) = _
    rw [Shape.reshapeEquiv_cons_one (d := ![1, 4096])]; rfl

/-! ## Issuing -/

variable {n : ℕ} {A : Fin n → ℕ} {j : ℕ}

theorem wp_enq_g {Q : α → sProp 𝕄} {D : Fin n → sProp 𝕄} (s m : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {sem : DmaSem sig} {h1 h2 h3}
    {k : PUnit → Prog (TpuEff nD τ sig (Elt F) Λ .tc) α}
    (hL : gLen m = L) (ho : o = ![s, gOff m, 0]) (ho' : o' = ![v.toNat, gOff m, 0]) (he : v.toNat = e) (hsm : sm = sem)
    (hj : j < n) (hA : JG L = A ⟨j, hj⟩) (hD : gLand c a s m e ⊢ D ⟨j, hj⟩) :
    iprop(gHome c a s m ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  subst hsm
  subst hL
  unfold gHome
  iintro ⟨⟨⟨%f, Hd⟩, Hs⟩, HB⟩ Hk
  iapply (wp_issue 𝒱 (c : Thread nD τ) bd (set_g ho) hj (by exact hA) (fun x => read_g a ho ho' he x)
    (hD := (show _ ⊢ gLand c a s m e by unfold gLand; exact .rfl).trans hD)) $$ [Hd Hs HB]
  · isplitl [Hs]; · iexact Hs
    isplitl [Hd]; · iexact Hd
    iexact HB
  iexact Hk

theorem wp_enq_d {Q : α → sProp 𝕄} {D : Fin n → sProp 𝕄} (s q : ℕ) {v : BitVec 32} {e : Fin 32} {o o' : Fin 3 → ℕ} {h h'} {hr hr'}
    {hq hq' : S1x1024x1408.Squeezes S1024x1408} {sm : DmaSem sig} {sem : DmaSem sig} {h1 h2 h3}
    {k : PUnit → Prog (TpuEff nD τ sig (Elt F) Λ .tc) α}
    (ho : o = ![s, 1024 * q, 0]) (ho' : o' = ![v.toNat, 1024 * q, 0]) (he : v.toNat = e) (hsm : sm = sem)
    (hj : j < n) (hA : JD = A ⟨j, hj⟩) (hD : dLand c a s q e ⊢ D ⟨j, hj⟩) :
    iprop(dHome c a s q ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma ((M7.slice (Rect.unit (s := S32x4096x1408) o' S1x1024x1408.size h') hr').squeeze S1024x1408 hq')
              (.here ((M10.slice (Rect.unit (s := S2x4096x1408) o S1x1024x1408.size h) hr).squeeze S1024x1408 hq)) (.dma sm) h1 h2 h3) k) Q) := by
  subst hsm
  unfold dHome
  iintro ⟨⟨⟨%f, Hd⟩, Hs⟩, HB⟩ Hk
  iapply (wp_issue 𝒱 (c : Thread nD τ) bd (set_d ho) hj (by exact hA) (fun x => read_d a ho ho' he x)
    (hD := (show _ ⊢ dLand c a s q e by unfold dLand; exact .rfl).trans hD)) $$ [Hd Hs HB]
  · isplitl [Hs]; · iexact Hs
    isplitl [Hd]; · iexact Hd
    iexact HB
  iexact Hk

theorem wp_enq_sg {Q : α → sProp 𝕄} {D : Fin n → sProp 𝕄} (s : ℕ) {v : BitVec 32} {e : Fin 32} {o : Fin 3 → ℕ} {o' : Fin 2 → ℕ} {h h'} {hr hr'}
    {hq : S1x1x2816.Squeezes S1x2816} {sm : DmaSem sig} {sem : DmaSem sig} {h1 h2 h3}
    {k : PUnit → Prog (TpuEff nD τ sig (Elt F) Λ .tc) α}
    (ho : o = ![s, 0, 0]) (ho' : o' = ![v.toNat, 0]) (he : v.toNat = e) (hsm : sm = sem)
    (hj : j < n) (hA : JSG = A ⟨j, hj⟩) (hD : sgLand c a s e ⊢ D ⟨j, hj⟩) :
    iprop(sgHome c a s ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma (M4.slice (Rect.unit (s := S32x2816) o' S1x2816.size h') hr')
              (.here ((M11.slice (Rect.unit (s := S2x1x2816) o S1x1x2816.size h) hr).squeeze S1x2816 hq)) (.dma sm) h1 h2 h3) k) Q) := by
  subst hsm
  unfold sgHome
  iintro ⟨⟨⟨%f, Hd⟩, Hs⟩, HB⟩ Hk
  iapply (wp_issue 𝒱 (c : Thread nD τ) bd (set_sg ho) hj (by exact hA) (fun x => read_sg a ho ho' he x)
    (hD := (show _ ⊢ sgLand c a s e by unfold sgLand; exact .rfl).trans hD)) $$ [Hd Hs HB]
  · isplitl [Hs]; · iexact Hs
    isplitl [Hd]; · iexact Hd
    iexact HB
  iexact Hk

theorem wp_enq_sd {Q : α → sProp 𝕄} {D : Fin n → sProp 𝕄} (s : ℕ) {v : BitVec 32} {e : Fin 32} {o : Fin 3 → ℕ} {o' : Fin 2 → ℕ} {h h'} {hr hr'}
    {hq : S1x1x4096.Squeezes S1x4096} {sm : DmaSem sig} {sem : DmaSem sig} {h1 h2 h3}
    {k : PUnit → Prog (TpuEff nD τ sig (Elt F) Λ .tc) α}
    (ho : o = ![s, 0, 0]) (ho' : o' = ![v.toNat, 0]) (he : v.toNat = e) (hsm : sm = sem)
    (hj : j < n) (hA : JSD = A ⟨j, hj⟩) (hD : sdLand c a s e ⊢ D ⟨j, hj⟩) :
    iprop(sdHome c a s ∗ MixedBatch EC (c : Thread nD τ) (.dma sem) () A D j 0)
      ⊢ iprop((MixedBatch EC (c : Thread nD τ) (.dma sem) () A D (j + 1) 0 -∗ wp frame (wpE defs 𝒱 (c : Thread nD τ) bd) Set.univ (k ⟨⟩) Q)
          -∗ wp frame (wpE defs 𝒱 (c : Thread nD τ) bd) Set.univ
            (.op (.enqueueDma (M5.slice (Rect.unit (s := S32x4096) o' S1x4096.size h') hr')
              (.here ((M12.slice (Rect.unit (s := S2x1x4096) o S1x1x4096.size h) hr).squeeze S1x4096 hq)) (.dma sm) h1 h2 h3) k) Q) := by
  subst hsm
  unfold sdHome
  iintro ⟨⟨⟨%f, Hd⟩, Hs⟩, HB⟩ Hk
  iapply (wp_issue 𝒱 (c : Thread nD τ) bd (set_sd ho) hj (by exact hA) (fun x => read_sd a ho ho' he x)
    (hD := (show _ ⊢ sdLand c a s e by unfold sdLand; exact .rfl).trans hD)) $$ [Hd Hs HB]
  · isplitl [Hs]; · iexact Hs
    isplitl [Hd]; · iexact Hd
    iexact HB
  iexact Hk

/-! ## The cells: batches of a slot's transfers -/

def A2 (x y : ℕ) : Fin 2 → ℕ := fun t => if t = 0 then x else y
def D2 (P R : sProp 𝕄) : Fin 2 → sProp 𝕄 := fun t => if t = 0 then P else R
instance D2_storable {P R : sProp 𝕄} [hP : Storable (upEmb : UEmb _ 𝕄) P] [hR : Storable (upEmb : UEmb _ 𝕄) R] (t : Fin 2) :
    Storable (upEmb : UEmb _ 𝕄) (D2 P R t) := by
  fin_cases t
  · exact hP
  · exact hR
def A1 (x : ℕ) : Fin 1 → ℕ := fun _ => x
def D1 (P : sProp 𝕄) : Fin 1 → sProp 𝕄 := fun _ => P
instance D1_storable {P : sProp 𝕄} [hP : Storable (upEmb : UEmb _ 𝕄) P] (t : Fin 1) : Storable (upEmb : UEmb _ 𝕄) (D1 P t) := hP
def A4 (x y z w : ℕ) : Fin 4 → ℕ := ![x, y, z, w]
def D4 (P R S T : sProp 𝕄) : Fin 4 → sProp 𝕄
  | 0 => P
  | 1 => R
  | 2 => S
  | 3 => T
instance D4_storable {P R S T : sProp 𝕄} [hP : Storable (upEmb : UEmb _ 𝕄) P] [hR : Storable (upEmb : UEmb _ 𝕄) R]
    [hS : Storable (upEmb : UEmb _ 𝕄) S] [hT : Storable (upEmb : UEmb _ 𝕄) T] (t : Fin 4) : Storable (upEmb : UEmb _ 𝕄) (D4 P R S T t) := by
  fin_cases t
  · exact hP
  · exact hR
  · exact hS
  · exact hT

theorem close1 {sm : SemLoc sig} {x : ℕ} {P : sProp 𝕄} (hx : 0 < x) :
    MixedBatch EC (c : Thread nD τ) sm () (A1 x) (D1 P) 1 0 ⊢ Flying (c : Thread nD τ) sm x P 0 :=
  Flying.close (c : Thread nD τ) (fun _ => hx) (by simp [sumTo, A1]) (by
    rw [Finset.univ_unique, bigSep_singleton]; exact .rfl)

theorem close2 {sm : SemLoc sig} {x y : ℕ} {P R : sProp 𝕄} (hx : 0 < x) (hy : 0 < y) :
    MixedBatch EC (c : Thread nD τ) sm () (A2 x y) (D2 P R) 2 0 ⊢ Flying (c : Thread nD τ) sm (x + y) iprop(P ∗ R) 0 :=
  Flying.close (c : Thread nD τ) (fun t => by fin_cases t <;> assumption) (by simp [sumTo, A2]) (by
    rw [show (Finset.univ : Finset (Fin 2)) = insert 0 {1} by decide, bigSep_insert (by decide), bigSep_singleton]; exact .rfl)

theorem close4 {sm : SemLoc sig} {x y z w : ℕ} {P R S T : sProp 𝕄} (hx : 0 < x) (hy : 0 < y) (hz : 0 < z) (hw : 0 < w) :
    MixedBatch EC (c : Thread nD τ) sm () (A4 x y z w) (D4 P R S T) 4 0 ⊢ Flying (c : Thread nD τ) sm (x + y + z + w) iprop(P ∗ R ∗ S ∗ T) 0 :=
  Flying.close (c : Thread nD τ) (fun t => by fin_cases t <;> assumption) (by simp [sumTo, A4]) (by
    rw [show (Finset.univ : Finset (Fin 4)) = insert 0 (insert 1 (insert 2 {3})) by decide, bigSep_insert (by decide), bigSep_insert (by decide),
      bigSep_insert (by decide), bigSep_singleton]; exact .rfl)

/-! ## Waiting -/

theorem wait_amount_g {L m : ℕ} (hL : gLen m = L) {o : Fin 3 → ℕ} {h} {hr} {hq : (⟨3, ![1, L, 4096]⟩ : Shape).Squeezes ⟨2, ![L, 4096]⟩} :
    ((M9.slice (Rect.unit (s := S2x2816x4096) o ![1, L, 4096] h) hr).squeeze ⟨2, ![L, 4096]⟩ hq).view.dmaCredit = JG (gLen m) := by
  subst hL; rfl

/-! ## Loading from what landed -/

/-- The rows of window `m` as the body loads them. -/
def gTile (m L : ℕ) (hm : gOff m + L ≤ 2816) (e : Fin 32) : (⟨3, ![1, L, 4096]⟩ : Shape).Idx → Elt F .fp8e4m3 :=
  fun i => a.wg (ValueIdx.ix3 e ⟨gOff m + i 1, by have := (i 1).isLt; simp at this; omega⟩ (i 2))
def dTile (q : ℕ) (hq : q < 4) (e : Fin 32) : S1x1024x1408.Idx → Elt F .fp8e4m3 :=
  fun i => a.wd (ValueIdx.ix3 e ⟨1024 * q + i 1, by have := (i 1).isLt; simp at this; omega⟩ (i 2))
def sgTile (r L : ℕ) (hr : r + L ≤ 2816) (e : Fin 32) : (⟨3, ![1, 1, L]⟩ : Shape).Idx → Elt F .f32 :=
  fun i => a.sg (ValueIdx.ix2 e ⟨r + i 2, by have := (i 2).isLt; simp at this; omega⟩)
def sdTile (q : ℕ) (hq : q < 4) (e : Fin 32) : S1x1x1024.Idx → Elt F .f32 :=
  fun i => a.sd (ValueIdx.ix2 e ⟨1024 * q + i 2, by have := (i 2).isLt; simp at this; omega⟩)

theorem wp_ld_g {Q : α → sProp 𝕄} (s m : ℕ) {L : ℕ} {e : Fin 32} {o : Fin 3 → ℕ} {h} {h1}
    {k : ((⟨3, ![1, L, 4096]⟩ : Shape).Idx → Elt F .fp8e4m3) → Prog (TpuEff nD τ sig (Elt F) Λ .tc) α}
    (hL : gLen m = L) (hm : gOff m + L ≤ 2816) (ho : o = ![s, gOff m, 0]) :
    gLand c a s m e
      ⊢ iprop((gLand c a s m e -∗ wp frame (wpE defs 𝒱 (c : Thread nD τ) bd) Set.univ (k (gTile a m L hm e)) Q)
          -∗ wp frame (wpE defs 𝒱 (c : Thread nD τ) bd) Set.univ
            (.op (.load M9 (Rect.unit (s := S2x2816x4096) o ![1, L, 4096] h).toLoadRect h1) k) Q) := by
  subst hL ho
  unfold gLand
  iintro ⟨H, Hs⟩ Hk
  iapply (wp_load_rect 𝒱 (c : Thread nD τ) bd Set.univ (m := M9) (r := Rect.unit (s := S2x2816x4096) ![s, gOff m, 0] ![1, gLen m, 4096] h) (f := gC a e) (S := win s (gOff m) (gLen m))
    (hS := subset_of_eq ((View.set_slice_whole _ _).trans (set_rect h)))) $$ H
  iintro H
  rw [show (M9.access (Rect.unit (s := S2x2816x4096) ![s, gOff m, 0] ![1, gLen m, 4096] h)).read (Elt F) (gC a e) = gTile a m (gLen m) hm e from by
    funext x
    show a.wg _ = a.wg _
    refine congrArg a.wg (funext fun t => Fin.ext ?_)
    fin_cases t
    · rfl
    · show gOff m + 1 * (x 1 : ℕ) = gOff m + (x 1 : ℕ); omega
    · show 0 + 1 * (x 2 : ℕ) = (x 2 : ℕ); omega]
  iapply Hk
  isplitl [H] <;> iassumption

theorem wp_ld_d {Q : α → sProp 𝕄} (s q : ℕ) {e : Fin 32} {o : Fin 3 → ℕ} {h} {h1}
    {k : (S1x1024x1408.Idx → Elt F .fp8e4m3) → Prog (TpuEff nD τ sig (Elt F) Λ .tc) α}
    (hq : q < 4) (ho : o = ![s, 1024 * q, 0]) :
    dLand c a s q e
      ⊢ iprop((dLand c a s q e -∗ wp frame (wpE defs 𝒱 (c : Thread nD τ) bd) Set.univ (k (dTile a q hq e)) Q)
          -∗ wp frame (wpE defs 𝒱 (c : Thread nD τ) bd) Set.univ
            (.op (.load M10 (Rect.unit (s := S2x4096x1408) o S1x1024x1408.size h).toLoadRect h1) k) Q) := by
  subst ho
  unfold dLand
  iintro ⟨H, Hs⟩ Hk
  iapply (wp_load_rect 𝒱 (c : Thread nD τ) bd Set.univ (m := M10) (r := Rect.unit (s := S2x4096x1408) ![s, 1024 * q, 0] S1x1024x1408.size h) (f := dC a e) (S := win s (1024 * q) 1024)
    (hS := subset_of_eq ((View.set_slice_whole _ _).trans (set_rect h)))) $$ H
  iintro H
  rw [show (M10.access (Rect.unit (s := S2x4096x1408) ![s, 1024 * q, 0] S1x1024x1408.size h)).read (Elt F) (dC a e) = dTile a q hq e from by
    funext x
    show a.wd _ = a.wd _
    refine congrArg a.wd (funext fun t => Fin.ext ?_)
    fin_cases t
    · rfl
    · show 1024 * q + 1 * (x 1 : ℕ) = 1024 * q + (x 1 : ℕ); omega
    · show 0 + 1 * (x 2 : ℕ) = (x 2 : ℕ); omega]
  iapply Hk
  isplitl [H] <;> iassumption

theorem set_rect_sub {d0 d2 s r L : ℕ} (h : ∀ a, (![s, 0, r] : Fin 3 → ℕ) a + (![1, 1, L] : Fin 3 → ℕ) a ≤ (⟨3, ![d0, 1, d2]⟩ : Shape).size a) :
    (Rect.unit (s := ⟨3, ![d0, 1, d2]⟩) ![s, 0, r] ![1, 1, L] h).set ⊆ win s 0 1 := by
  intro i hi
  rw [Rect.mem_set_unit] at hi
  rw [mem_win]
  have H0 := hi 0; have H1 := hi 1
  simp at H0 H1
  refine ⟨?_, ?_, ?_⟩ <;> simp <;> omega

theorem wp_ld_sg {Q : α → sProp 𝕄} (s r L : ℕ) {e : Fin 32} {o : Fin 3 → ℕ} {h} {h1}
    {k : ((⟨3, ![1, 1, L]⟩ : Shape).Idx → Elt F .f32) → Prog (TpuEff nD τ sig (Elt F) Λ .tc) α}
    (hr : r + L ≤ 2816) (ho : o = ![s, 0, r]) :
    sgLand c a s e
      ⊢ iprop((sgLand c a s e -∗ wp frame (wpE defs 𝒱 (c : Thread nD τ) bd) Set.univ (k (sgTile a r L hr e)) Q)
          -∗ wp frame (wpE defs 𝒱 (c : Thread nD τ) bd) Set.univ
            (.op (.load M11 (Rect.unit (s := S2x1x2816) o ![1, 1, L] h).toLoadRect h1) k) Q) := by
  subst ho
  unfold sgLand
  iintro ⟨H, Hs⟩ Hk
  iapply (wp_load_rect 𝒱 (c : Thread nD τ) bd Set.univ (m := M11) (r := Rect.unit (s := S2x1x2816) ![s, 0, r] ![1, 1, L] h) (f := sgC a e) (S := win s 0 1)
    (hS := (subset_of_eq (View.set_slice_whole _ _)).trans (set_rect_sub h))) $$ H
  iintro H
  rw [show (M11.access (Rect.unit (s := S2x1x2816) ![s, 0, r] ![1, 1, L] h)).read (Elt F) (sgC a e) = sgTile a r L hr e from by
    funext x
    show a.sg _ = a.sg _
    refine congrArg a.sg (funext fun t => Fin.ext ?_)
    fin_cases t
    · rfl
    · show r + 1 * (x 2 : ℕ) = r + (x 2 : ℕ); omega]
  iapply Hk
  isplitl [H] <;> iassumption

theorem wp_ld_sd {Q : α → sProp 𝕄} (s q : ℕ) {e : Fin 32} {o : Fin 3 → ℕ} {h} {h1}
    {k : (S1x1x1024.Idx → Elt F .f32) → Prog (TpuEff nD τ sig (Elt F) Λ .tc) α}
    (hq : q < 4) (ho : o = ![s, 0, 1024 * q]) :
    sdLand c a s e
      ⊢ iprop((sdLand c a s e -∗ wp frame (wpE defs 𝒱 (c : Thread nD τ) bd) Set.univ (k (sdTile a q hq e)) Q)
          -∗ wp frame (wpE defs 𝒱 (c : Thread nD τ) bd) Set.univ
            (.op (.load M12 (Rect.unit (s := S2x1x4096) o S1x1x1024.size h).toLoadRect h1) k) Q) := by
  subst ho
  unfold sdLand
  iintro ⟨H, Hs⟩ Hk
  iapply (wp_load_rect 𝒱 (c : Thread nD τ) bd Set.univ (m := M12) (r := Rect.unit (s := S2x1x4096) ![s, 0, 1024 * q] S1x1x1024.size h) (f := sdC a e) (S := win s 0 1)
    (hS := (subset_of_eq (View.set_slice_whole _ _)).trans (set_rect_sub h))) $$ H
  iintro H
  rw [show (M12.access (Rect.unit (s := S2x1x4096) ![s, 0, 1024 * q] S1x1x1024.size h)).read (Elt F) (sdC a e) = sdTile a q hq e from by
    funext x
    show a.sd _ = a.sd _
    refine congrArg a.sd (funext fun t => Fin.ext ?_)
    fin_cases t
    · rfl
    · show 1024 * q + 1 * (x 2 : ℕ) = 1024 * q + (x 2 : ℕ); omega]
  iapply Hk
  isplitl [H] <;> iassumption

end Cert.KernelIdeal.Hand
-- ==== Proof.KernelIdeal.Steps.lean ====
/-
  What the kernel computes for one expert — its intermediate activations `hVal` and the accumulator after it, `accNext` —,
  and the loads and stores of the whole-array operands and of these two buffers.
-/
module

public import proofs.«01_k».proof.Proof.KernelIdeal.Rules

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-! ## One expert's intermediate activations -/

/-- Column tile `j` of the intermediate activations (the first five, 256 columns each). -/
def hT (j : ℕ) (hj : j < 5) (e : Fin 32) : S64x256.Idx → Elt F .bf16 :=
  k0_pay2 (gTile a j 256 (by unfold gOff; split <;> omega) e) (gTile a (6 + j) 256 (by unfold gOff; split <;> omega) e) a.x a.x
    (sgTile a (256 * j) 256 (by omega) e) (sgTile a (1408 + 256 * j) 256 (by omega) e)

/-- The last column tile, 128 columns. -/
def hT5 (e : Fin 32) : S64x128.Idx → Elt F .bf16 :=
  k0_pay14 (k0_pay12 (gTile a 5 128 (by decide) e) (gTile a 11 128 (by decide) e) a.x (sgTile a 2688 128 (by decide) e))
    (k0_pay13 (gTile a 5 128 (by decide) e) (gTile a 11 128 (by decide) e) a.x (sgTile a 1280 128 (by decide) e))

/-- Expert `e`'s intermediate activations, of every token. -/
def hVal (e : Fin 32) : S64x1408.Idx → Elt F .bf16 := fun i =>
  if h : (i 1 : ℕ) < 1280 then hT a ((i 1 : ℕ) / 256) (by omega) e (ValueIdx.ix2 (i 0) ⟨(i 1 : ℕ) % 256, Nat.mod_lt _ (by decide)⟩)
  else hT5 a e (ValueIdx.ix2 (i 0) ⟨(i 1 : ℕ) - 1280, by have := (i 1).isLt; simp at this; omega⟩)

/-- The buffer once `j` tiles were stored over contents `f`. -/
def hMid (j : ℕ) (e : Fin 32) (f : S64x1408.Idx → Elt F .bf16) : S64x1408.Idx → Elt F .bf16 := fun i =>
  if (i 1 : ℕ) < 256 * j then hVal a e i else f i

theorem hMid_zero (e : Fin 32) (f : S64x1408.Idx → Elt F .bf16) : hMid a 0 e f = f := by funext i; simp [hMid]
theorem hMid_six (e : Fin 32) (f : S64x1408.Idx → Elt F .bf16) : hMid a 6 e f = hVal a e := by
  funext i
  have := (i 1).isLt
  simp at this
  unfold hMid
  rw [if_pos (by omega)]

/-! ## The accumulator -/

/-- The combine weights of the expert a word names. -/
def cCol (e : Fin 32) : S64x1.Idx → Elt F .f32 := k0_pay1 (BitVec.ofNat 32 e) a.ids a.cw

theorem cCol_eq {v : BitVec 32} {e : Fin 32} (he : v.toNat = e) : k0_pay1 v a.ids a.cw = cCol a e := by
  unfold cCol
  rw [← he, BitVec.ofNat_toNat, BitVec.setWidth_eq]

/-- Columns `1024 q …` of an accumulator. -/
def accTile (q : ℕ) (hq : q < 4) (f : S64x4096.Idx → Elt F .f32) : S64x1024.Idx → Elt F .f32 := fun y =>
  f (ValueIdx.ix2 (y 0) ⟨1024 * q + y 1, by have := (y 1).isLt; simp at this; omega⟩)

/-- The accumulator after expert `e`. -/
def accNext (e : Fin 32) (f : S64x4096.Idx → Elt F .f32) : S64x4096.Idx → Elt F .f32 := fun i =>
  have hq : (i 1 : ℕ) / 1024 < 4 := by have := (i 1).isLt; simp at this; omega
  k0_pay15 (cCol a e) (hVal a e) (dTile a ((i 1 : ℕ) / 1024) hq e) (accTile ((i 1 : ℕ) / 1024) hq f) (sdTile a ((i 1 : ℕ) / 1024) hq e)
    (ValueIdx.ix2 (i 0) ⟨(i 1 : ℕ) % 1024, Nat.mod_lt _ (by decide)⟩)

/-- The accumulator once `q` column blocks of expert `e` were added. -/
def accMid (q : ℕ) (e : Fin 32) (f : S64x4096.Idx → Elt F .f32) : S64x4096.Idx → Elt F .f32 := fun i =>
  if (i 1 : ℕ) < 1024 * q then accNext a e f i else f i

theorem accMid_zero (e : Fin 32) (f : S64x4096.Idx → Elt F .f32) : accMid a 0 e f = f := by funext i; simp [accMid]
theorem accMid_four (e : Fin 32) (f : S64x4096.Idx → Elt F .f32) : accMid a 4 e f = accNext a e f := by
  funext i
  have := (i 1).isLt
  simp at this
  unfold accMid
  rw [if_pos (by omega)]

/-! ## A store of full-height columns -/

theorem write_cols_bf {r L : ℕ} {o : Fin 2 → ℕ} {h} (ho : o = ![0, r]) (f : S64x1408.Idx → Elt F .bf16) (w : (⟨2, ![64, L]⟩ : Shape).Idx → Elt F .bf16) :
    (M13.access (Rect.unit (s := S64x1408) o ![64, L] h)).write (Elt F) f w Finset.univ
      = fun i => if h' : r ≤ (i 1 : ℕ) ∧ (i 1 : ℕ) < r + L then w (ValueIdx.ix2 (i 0) ⟨(i 1 : ℕ) - r, by omega⟩) else f i := by
  subst ho
  funext i
  by_cases h' : r ≤ (i 1 : ℕ) ∧ (i 1 : ℕ) < r + L
  · rw [dif_pos h']
    have hi : i = (M13.access (Rect.unit (s := S64x1408) ![0, r] ![64, L] h)).emb (ValueIdx.ix2 (i 0) ⟨(i 1 : ℕ) - r, by omega⟩) := by
      funext t
      apply Fin.ext
      fin_cases t
      · show (i 0 : ℕ) = 0 + 1 * (i 0 : ℕ); omega
      · show (i 1 : ℕ) = r + 1 * ((i 1 : ℕ) - r); omega
    conv_lhs => rw [hi]
    rw [View.write_emb_of_mem _ _ (Finset.mem_univ _)]
    rfl
  · rw [dif_neg h']
    apply View.write_of_not_mem
    intro hi
    apply h'
    rw [View.setOn_univ] at hi
    erw [View.set_slice_whole] at hi
    rw [Rect.mem_set_unit] at hi
    simpa using hi 1

theorem write_cols_f {r L : ℕ} {o : Fin 2 → ℕ} {h} (ho : o = ![0, r]) (f : S64x4096.Idx → Elt F .f32) (w : (⟨2, ![64, L]⟩ : Shape).Idx → Elt F .f32) :
    (M14.access (Rect.unit (s := S64x4096) o ![64, L] h)).write (Elt F) f w Finset.univ
      = fun i => if h' : r ≤ (i 1 : ℕ) ∧ (i 1 : ℕ) < r + L then w (ValueIdx.ix2 (i 0) ⟨(i 1 : ℕ) - r, by omega⟩) else f i := by
  subst ho
  funext i
  by_cases h' : r ≤ (i 1 : ℕ) ∧ (i 1 : ℕ) < r + L
  · rw [dif_pos h']
    have hi : i = (M14.access (Rect.unit (s := S64x4096) ![0, r] ![64, L] h)).emb (ValueIdx.ix2 (i 0) ⟨(i 1 : ℕ) - r, by omega⟩) := by
      funext t
      apply Fin.ext
      fin_cases t
      · show (i 0 : ℕ) = 0 + 1 * (i 0 : ℕ); omega
      · show (i 1 : ℕ) = r + 1 * ((i 1 : ℕ) - r); omega
    conv_lhs => rw [hi]
    rw [View.write_emb_of_mem _ _ (Finset.mem_univ _)]
    rfl
  · rw [dif_neg h']
    apply View.write_of_not_mem
    intro hi
    apply h'
    rw [View.setOn_univ] at hi
    erw [View.set_slice_whole] at hi
    rw [Rect.mem_set_unit] at hi
    simpa using hi 1

theorem hMid_succ {j : ℕ} (hj : j < 5) (e : Fin 32) (f : S64x1408.Idx → Elt F .bf16) :
    (fun i : S64x1408.Idx => if h' : 256 * j ≤ (i 1 : ℕ) ∧ (i 1 : ℕ) < 256 * j + 256 then hT a j hj e (ValueIdx.ix2 (i 0) ⟨(i 1 : ℕ) - 256 * j, by omega⟩)
      else hMid a j e f i) = hMid a (j + 1) e f := by
  funext i
  unfold hMid
  by_cases h : 256 * j ≤ (i 1 : ℕ) ∧ (i 1 : ℕ) < 256 * j + 256
  · rw [dif_pos h, if_pos (by omega)]
    unfold hVal
    rw [dif_pos (by omega)]
    have h1 : (i 1 : ℕ) / 256 = j := by omega
    have h2 : (i 1 : ℕ) % 256 = (i 1 : ℕ) - 256 * j := by omega
    simp only [h1, h2]
  · rw [dif_neg h]
    by_cases h2 : (i 1 : ℕ) < 256 * j
    · rw [if_pos h2, if_pos (by omega)]
    · rw [if_neg h2, if_neg (by omega)]

theorem hMid_last (e : Fin 32) (f : S64x1408.Idx → Elt F .bf16) :
    (fun i : S64x1408.Idx => if h' : 1280 ≤ (i 1 : ℕ) ∧ (i 1 : ℕ) < 1280 + 128 then hT5 a e (ValueIdx.ix2 (i 0) ⟨(i 1 : ℕ) - 1280, by omega⟩)
      else hMid a 5 e f i) = hVal a e := by
  funext i
  have := (i 1).isLt
  simp at this
  by_cases h : 1280 ≤ (i 1 : ℕ) ∧ (i 1 : ℕ) < 1280 + 128
  · rw [dif_pos h]
    unfold hVal
    rw [dif_neg (by omega)]
  · rw [dif_neg h]
    unfold hMid
    rw [if_pos (by omega)]

theorem accMid_succ {q : ℕ} (hq : q < 4) (e : Fin 32) (f : S64x4096.Idx → Elt F .f32) :
    (fun i : S64x4096.Idx => if h' : 1024 * q ≤ (i 1 : ℕ) ∧ (i 1 : ℕ) < 1024 * q + 1024 then
        k0_pay15 (cCol a e) (hVal a e) (dTile a q hq e) (accTile q hq f) (sdTile a q hq e) (ValueIdx.ix2 (i 0) ⟨(i 1 : ℕ) - 1024 * q, by omega⟩)
      else accMid a q e f i) = accMid a (q + 1) e f := by
  funext i
  unfold accMid
  by_cases h : 1024 * q ≤ (i 1 : ℕ) ∧ (i 1 : ℕ) < 1024 * q + 1024
  · rw [dif_pos h, if_pos (by omega)]
    have h1 : q = (i 1 : ℕ) / 1024 := by omega
    subst h1
    have h2 : (i 1 : ℕ) - 1024 * ((i 1 : ℕ) / 1024) = (i 1 : ℕ) % 1024 := by omega
    unfold accNext
    simp only [h2]
  · rw [dif_neg h]
    by_cases h2 : (i 1 : ℕ) < 1024 * q
    · rw [if_pos h2, if_pos (by omega)]
    · rw [if_neg h2, if_neg (by omega)]

/-! ## The rules -/

theorem wp_st_h {Q : α → sProp 𝕄} (j : ℕ) (hj : j < 5) {e : Fin 32} {f : S64x1408.Idx → Elt F .bf16} {o : Fin 2 → ℕ} {h} {w : S64x256.Idx → Elt F .bf16} {h1 h2}
    {k : PUnit → Prog (TpuEff nD τ sig (Elt F) Λ .tc) α} (ho : o = ![0, 256 * j]) (hw : w = hT a j hj e) :
    (M13.view.loc (c : Thread nD τ) ↦{fullShare} hMid a j e f)
      ⊢ iprop(((M13.view.loc (c : Thread nD τ) ↦{fullShare} hMid a (j + 1) e f) -∗ wp frame (wpE defs 𝒱 (c : Thread nD τ) bd) Set.univ (k ⟨⟩) Q)
          -∗ wp frame (wpE defs 𝒱 (c : Thread nD τ) bd) Set.univ
            (.op (.store M13 (Rect.unit (s := S64x1408) o S64x256.size h) w Finset.univ h1 h2) k) Q) := by
  subst hw
  iintro H Hk
  iapply (wp_store 𝒱 (c : Thread nD τ) bd Set.univ (m := M13) (r := Rect.unit (s := S64x1408) o S64x256.size h) (f := hMid a j e f)
    (S := Finset.univ) (hS := Finset.subset_univ _)) $$ H
  iintro H
  iapply Hk
  have hs := (write_cols_bf (h := h) ho (hMid a j e f) (hT a j hj e)).trans (hMid_succ a hj e f)
  iapply (Entails.of_eq (congrArg (fun g : S64x1408.Idx → Elt F .bf16 => (M13.view.loc (c : Thread nD τ) ↦{fullShare} g : sProp 𝕄)) hs))
  iexact H

theorem wp_st_h5 {Q : α → sProp 𝕄} {e : Fin 32} {f : S64x1408.Idx → Elt F .bf16} {o : Fin 2 → ℕ} {h} {w : S64x128.Idx → Elt F .bf16} {h1 h2}
    {k : PUnit → Prog (TpuEff nD τ sig (Elt F) Λ .tc) α} (ho : o = ![0, 1280]) (hw : w = hT5 a e) :
    (M13.view.loc (c : Thread nD τ) ↦{fullShare} hMid a 5 e f)
      ⊢ iprop(((M13.view.loc (c : Thread nD τ) ↦{fullShare} hVal a e) -∗ wp frame (wpE defs 𝒱 (c : Thread nD τ) bd) Set.univ (k ⟨⟩) Q)
          -∗ wp frame (wpE defs 𝒱 (c : Thread nD τ) bd) Set.univ
            (.op (.store M13 (Rect.unit (s := S64x1408) o S64x128.size h) w Finset.univ h1 h2) k) Q) := by
  subst hw
  iintro H Hk
  iapply (wp_store 𝒱 (c : Thread nD τ) bd Set.univ (m := M13) (r := Rect.unit (s := S64x1408) o S64x128.size h) (f := hMid a 5 e f)
    (S := Finset.univ) (hS := Finset.subset_univ _)) $$ H
  iintro H
  iapply Hk
  have hs := (write_cols_bf (h := h) ho (hMid a 5 e f) (hT5 a e)).trans (hMid_last a e f)
  iapply (Entails.of_eq (congrArg (fun g : S64x1408.Idx → Elt F .bf16 => (M13.view.loc (c : Thread nD τ) ↦{fullShare} g : sProp 𝕄)) hs))
  iexact H

theorem wp_st_acc {Q : α → sProp 𝕄} (q : ℕ) (hq : q < 4) {e : Fin 32} {f : S64x4096.Idx → Elt F .f32} {o : Fin 2 → ℕ} {h} {w : S64x1024.Idx → Elt F .f32} {h1 h2}
    {k : PUnit → Prog (TpuEff nD τ sig (Elt F) Λ .tc) α} (ho : o = ![0, 1024 * q])
    (hw : w = k0_pay15 (cCol a e) (hVal a e) (dTile a q hq e) (accTile q hq f) (sdTile a q hq e)) :
    (M14.view.loc (c : Thread nD τ) ↦{fullShare} accMid a q e f)
      ⊢ iprop(((M14.view.loc (c : Thread nD τ) ↦{fullShare} accMid a (q + 1) e f) -∗ wp frame (wpE defs 𝒱 (c : Thread nD τ) bd) Set.univ (k ⟨⟩) Q)
          -∗ wp frame (wpE defs 𝒱 (c : Thread nD τ) bd) Set.univ
            (.op (.store M14 (Rect.unit (s := S64x4096) o S64x1024.size h) w Finset.univ h1 h2) k) Q) := by
  subst hw
  iintro H Hk
  iapply (wp_store 𝒱 (c : Thread nD τ) bd Set.univ (m := M14) (r := Rect.unit (s := S64x4096) o S64x1024.size h) (f := accMid a q e f)
    (S := Finset.univ) (hS := Finset.subset_univ _)) $$ H
  iintro H
  iapply Hk
  have hs := (write_cols_f (h := h) ho (accMid a q e f) (k0_pay15 (cCol a e) (hVal a e) (dTile a q hq e) (accTile q hq f) (sdTile a q hq e))).trans
    (accMid_succ a hq e f)
  iapply (Entails.of_eq (congrArg (fun g : S64x4096.Idx → Elt F .f32 => (M14.view.loc (c : Thread nD τ) ↦{fullShare} g : sProp 𝕄)) hs))
  iexact H

theorem wp_ld_acc {Q : α → sProp 𝕄} (q : ℕ) (hq : q < 4) {e : Fin 32} {f : S64x4096.Idx → Elt F .f32} {o : Fin 2 → ℕ} {h} {h1}
    {k : (S64x1024.Idx → Elt F .f32) → Prog (TpuEff nD τ sig (Elt F) Λ .tc) α} (ho : o = ![0, 1024 * q]) :
    (M14.view.loc (c : Thread nD τ) ↦{fullShare} accMid a q e f)
      ⊢ iprop(((M14.view.loc (c : Thread nD τ) ↦{fullShare} accMid a q e f) -∗ wp frame (wpE defs 𝒱 (c : Thread nD τ) bd) Set.univ (k (accTile q hq f)) Q)
          -∗ wp frame (wpE defs 𝒱 (c : Thread nD τ) bd) Set.univ
            (.op (.load M14 (Rect.unit (s := S64x4096) o S64x1024.size h).toLoadRect h1) k) Q) := by
  subst ho
  iintro H Hk
  iapply (wp_load_rect 𝒱 (c : Thread nD τ) bd Set.univ (m := M14) (r := Rect.unit (s := S64x4096) ![0, 1024 * q] S64x1024.size h) (f := accMid a q e f)
    (S := Finset.univ) (hS := Finset.subset_univ _)) $$ H
  iintro H
  rw [show (M14.access (Rect.unit (s := S64x4096) ![0, 1024 * q] S64x1024.size h)).read (Elt F) (accMid a q e f) = accTile q hq f from by
    funext y
    show accMid a q e f _ = f _
    have hy : ∀ i : S64x4096.Idx, 1024 * q ≤ (i 1 : ℕ) → accMid a q e f i = f i := fun i hi => by
      unfold accMid; rw [if_neg (by omega)]
    rw [hy _ (by show 1024 * q ≤ 1024 * q + 1 * (y 1 : ℕ); omega)]
    refine congrArg f (funext fun t => Fin.ext ?_)
    fin_cases t
    · show 0 + 1 * (y 0 : ℕ) = (y 0 : ℕ); omega
    · show 1024 * q + 1 * (y 1 : ℕ) = 1024 * q + (y 1 : ℕ); omega]
  iapply Hk
  iexact H

/-- A load whose value is not used. -/
theorem wp_ld_dead {Q : α → sProp 𝕄} {cs : CoreSpace} {s : Shape} {ty : EltTy} {m : Memref sig .tc cs s ty} {r : LoadRect s} {hl : m.view.LoadsAt r}
    {k : (r.shape.Idx → Elt F ty) → Prog (TpuEff nD τ sig (Elt F) Λ .tc) α} {k' : Prog (TpuEff nD τ sig (Elt F) Λ .tc) α} {q : PosShare TreeShare}
    {f : Buf (Elt F) (m.view.loc (c : Thread nD τ))} (hk : ∀ v, k v = k') :
    (m.view.loc (c : Thread nD τ) ↦{q} f)
      ⊢ iprop(((m.view.loc (c : Thread nD τ) ↦{q} f) -∗ wp frame (wpE defs 𝒱 (c : Thread nD τ) bd) Set.univ k' Q)
          -∗ wp frame (wpE defs 𝒱 (c : Thread nD τ) bd) Set.univ (.op (.load m r hl) k) Q) := by
  iintro H Hk
  iapply (wp_load 𝒱 (c : Thread nD τ) bd Set.univ (S := Finset.univ) (hS := Finset.subset_univ _)) $$ H
  iintro H
  rw [hk]
  iapply Hk
  iexact H

/-- A load of a whole buffer. -/
theorem wp_ld_whole {Q : α → sProp 𝕄} {cs : CoreSpace} {s : Shape} {ty : EltTy} {m : Memref sig .tc cs s ty} {o : Fin s.rank → ℕ} {h} {hl : m.view.LoadsAt (Rect.unit o s.size h).toLoadRect}
    {k : (s.Idx → Elt F ty) → Prog (TpuEff nD τ sig (Elt F) Λ .tc) α} {q : PosShare TreeShare}
    {f : Buf (Elt F) (m.view.loc (c : Thread nD τ))} (v : s.Idx → Elt F ty) (ho : o = fun _ => 0) (hv : m.view.read (Elt F) f = v) :
    (m.view.loc (c : Thread nD τ) ↦{q} f)
      ⊢ iprop(((m.view.loc (c : Thread nD τ) ↦{q} f) -∗ wp frame (wpE defs 𝒱 (c : Thread nD τ) bd) Set.univ (k v) Q)
          -∗ wp frame (wpE defs 𝒱 (c : Thread nD τ) bd) Set.univ (.op (.load m (Rect.unit o s.size h).toLoadRect hl) k) Q) := by
  subst ho hv
  iintro H Hk
  iapply (wp_load 𝒱 (c : Thread nD τ) bd Set.univ (S := Finset.univ) (hS := Finset.subset_univ _)) $$ H
  iintro H
  rw [show m.view.readAt (Elt F) (Rect.unit (fun _ => 0) s.size h).toLoadRect f = m.view.read (Elt F) f from by
    funext x
    show m.view.read (Elt F) f _ = _
    refine congrArg _ (funext fun t => Fin.ext ?_)
    show 0 + 1 * (x t : ℕ) = x t
    omega]
  iapply Hk
  iexact H

/-- Word `n` of the list of active experts. -/
def ordAt (f : S33.Idx → BitVec 32) (n : ℕ) : BitVec 32 := if h : n < 33 then f (ValueIdx.ix1 ⟨n, h⟩) else 0

theorem wp_ld_ord {Q : α → sProp 𝕄} {n : ℕ} {q : PosShare TreeShare} {f : S33.Idx → BitVec 32} {o : Fin 1 → ℕ} {h} {hn} {hw}
    {k : BitVec 32 → Prog (TpuEff nD τ sig (Elt F) Λ .tc) α} (ho : o = ![n]) :
    (M16.view.loc (c : Thread nD τ) ↦{q} f)
      ⊢ iprop(((M16.view.loc (c : Thread nD τ) ↦{q} f) -∗ wp frame (wpE defs 𝒱 (c : Thread nD τ) bd) Set.univ (k (ordAt f n)) Q)
          -∗ wp frame (wpE defs 𝒱 (c : Thread nD τ) bd) Set.univ
            ((smemLoad (Val := Elt F) (nD := nD) (τ := τ) (Λ := Λ) M16 (Rect.unit (s := S33) o S1.size h) hn hw).bind k) Q) := by
  subst ho
  rw [show (smemLoad (Val := Elt F) (nD := nD) (τ := τ) (Λ := Λ) M16 (Rect.unit (s := S33) ![n] S1.size h) hn hw).bind k
    = smemLoadElt M16 (Rect.unit (s := S33) ![n] S1.size h) (View.loads_smem_one hw hn) (Shape.Idx.first (hn.symm ▸ Nat.one_pos)) k from rfl]
  iintro H Hk
  iapply (wp_smemLoadElt 𝒱 (c : Thread nD τ) bd Set.univ (m := M16) (r := Rect.unit (s := S33) ![n] S1.size h) (f := f)
    (hw := View.loads_smem_one hw hn) (x := Shape.Idx.first (hn.symm ▸ Nat.one_pos)) (k := k)
    (S := Finset.univ) (hS := Finset.subset_univ _)) $$ H
  iintro H
  rw [show ordAt f n = (M16.access (Rect.unit (s := S33) ![n] S1.size h)).read (Elt F) f (Shape.Idx.first (hn.symm ▸ Nat.one_pos)) from by
    have hn' : n < 33 := by have := h 0; simp at this; omega
    unfold ordAt
    rw [dif_pos hn']
    show f _ = f _
    refine congrArg f (funext fun t => Fin.ext ?_)
    fin_cases t
    show n = n + 1 * ((Shape.Idx.first (s := S1) (hn.symm ▸ Nat.one_pos) 0 : Fin _) : ℕ)
    have := (Shape.Idx.first (s := S1) (hn.symm ▸ Nat.one_pos) 0).isLt
    simp at this
    omega]
  iapply Hk $$ H

end Cert.KernelIdeal.Hand
-- ==== Proof.KernelIdeal.Cells.lean ====
/-
  A slot's semaphore cells: the transfers in flight on each, the cell at rest, and the waits.
-/
module

public import proofs.«01_k».proof.Proof.KernelIdeal.Steps

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-- The waits the core recorded, whatever they are. -/
def ow : sProp 𝕄 := iprop(∃ W, owes (c : Thread nD τ) 0 W)

/-- Gate tile `j` and up tile `j` of expert `e` in flight into slot `s`. -/
def gFly (s j : ℕ) (e : Fin 32) : sProp 𝕄 :=
  Flying (c : Thread nD τ) (.dma (gsem s j)) (JG (gLen j) + JG (gLen (6 + j))) iprop(gLand c a s j e ∗ gLand c a s (6 + j) e) 0
def gHalf (s j : ℕ) (e : Fin 32) : sProp 𝕄 :=
  Flying (c : Thread nD τ) (.dma (gsem s j)) (JG (gLen j) + JG (gLen (6 + j))) iprop(gLand c a s j e ∗ gLand c a s (6 + j) e) (0 + JG (gLen j))
def gDone (s j : ℕ) (e : Fin 32) : sProp 𝕄 :=
  iprop(gLand c a s j e ∗ gLand c a s (6 + j) e ∗ semVal ((c : Thread nD τ), .dma (gsem s j)) 0)
def gIdle (s j : ℕ) : sProp 𝕄 :=
  iprop(gHome c a s j ∗ gHome c a s (6 + j) ∗ semVal ((c : Thread nD τ), .dma (gsem s j)) 0)

/-- Cell 0 of a slot also carries the two rows of scales. -/
def T0 : ℕ := JG (gLen 0) + JG (gLen 6) + JSG + JSD
def P0 (s : ℕ) (e : Fin 32) : sProp 𝕄 := iprop(gLand c a s 0 e ∗ gLand c a s 6 e ∗ sgLand c a s e ∗ sdLand c a s e)
def zFly (s : ℕ) (e : Fin 32) (u : ℕ) : sProp 𝕄 := Flying (c : Thread nD τ) (.dma (gsem s 0)) T0 (P0 c a s e) u
def zDone (s : ℕ) (e : Fin 32) : sProp 𝕄 := iprop(P0 c a s e ∗ semVal ((c : Thread nD τ), .dma (gsem s 0)) 0)
def zIdle (s : ℕ) : sProp 𝕄 :=
  iprop((gHome c a s 0 ∗ gHome c a s 6 ∗ sgHome c a s ∗ sdHome c a s) ∗ semVal ((c : Thread nD τ), .dma (gsem s 0)) 0)
/-- Cell 0 with its two tiles issued and the two rows of scales not yet. -/
def zHalf (s : ℕ) (e : Fin 32) : sProp 𝕄 :=
  MixedBatch EC (c : Thread nD τ) (.dma (gsem s 0)) () (A4 (JG (gLen 0)) (JG (gLen 6)) JSG JSD)
    (D4 (gLand c a s 0 e) (gLand c a s 6 e) (sgLand c a s e) (sdLand c a s e)) 2 0

def dFly (s q : ℕ) (e : Fin 32) : sProp 𝕄 := Flying (c : Thread nD τ) (.dma (dsem s q)) JD (dLand c a s q e) 0
def dDone (s q : ℕ) (e : Fin 32) : sProp 𝕄 := iprop(dLand c a s q e ∗ semVal ((c : Thread nD τ), .dma (dsem s q)) 0)
def dIdle (s q : ℕ) : sProp 𝕄 := iprop(dHome c a s q ∗ semVal ((c : Thread nD τ), .dma (dsem s q)) 0)

theorem gDone_idle (s j : ℕ) (e : Fin 32) :
    iprop(gLand c a s j e ∗ gLand c a s (6 + j) e ∗ semVal ((c : Thread nD τ), .dma (gsem s j)) 0) ⊢ gIdle c a s j := by
  unfold gIdle
  iintro ⟨H1, H2, H3⟩
  isplitl [H1]; · iapply (gLand_home c a s j e) $$ H1
  isplitl [H2]; · iapply (gLand_home c a s (6 + j) e) $$ H2
  iexact H3
theorem dDone_idle (s q : ℕ) (e : Fin 32) :
    iprop(dLand c a s q e ∗ semVal ((c : Thread nD τ), .dma (dsem s q)) 0) ⊢ dIdle c a s q := by
  unfold dIdle
  iintro ⟨H1, H3⟩
  isplitl [H1]; · iapply (dLand_home c a s q e) $$ H1
  iexact H3

/-! ## Waits -/

theorem wp_wait_g1 {Q : α → sProp 𝕄} (s j L : ℕ) (e : Fin 32) {sm : DmaSem sig} {o : Fin 3 → ℕ} {h} {hr} {hq : (⟨3, ![1, L, 4096]⟩ : Shape).Squeezes ⟨2, ![L, 4096]⟩}
    {sp' : Space} {s' : Shape} {e' : EltTy} {srcw : Memref sig .tc sp' s' e'} {h1 h2}
    {k : PUnit → Prog (TpuEff nD τ sig (Elt F) Λ .tc) α} (hL : gLen j = L) (hsm : sm = gsem s j) :
    iprop(gFly c a s j e ∗ ow c)
      ⊢ iprop((iprop(gHalf c a s j e ∗ ow c) -∗ wp frame (wpE defs 𝒱 (c : Thread nD τ) bd) Set.univ (k ⟨⟩) Q)
          -∗ wp frame (wpE defs 𝒱 (c : Thread nD τ) bd) Set.univ
            (.op (.waitDma2 sm srcw ((M9.slice (Rect.unit (s := S2x2816x4096) o ![1, L, 4096] h) hr).squeeze ⟨2, ![L, 4096]⟩ hq) h1 h2) k) Q) := by
  subst hL hsm
  unfold gFly gHalf ow
  exact wp_wait_more 𝒱 (c : Thread nD τ) bd (wait_amount_g rfl) (by omega)

theorem wp_wait_g2 {Q : α → sProp 𝕄} (s j L : ℕ) (e : Fin 32) {sm : DmaSem sig} {o : Fin 3 → ℕ} {h} {hr} {hq : (⟨3, ![1, L, 4096]⟩ : Shape).Squeezes ⟨2, ![L, 4096]⟩}
    {sp' : Space} {s' : Shape} {e' : EltTy} {srcw : Memref sig .tc sp' s' e'} {h1 h2}
    {k : PUnit → Prog (TpuEff nD τ sig (Elt F) Λ .tc) α} (hL : gLen (6 + j) = L) (hsm : sm = gsem s j) :
    iprop(gHalf c a s j e ∗ ow c)
      ⊢ iprop((iprop((gLand c a s j e ∗ gLand c a s (6 + j) e ∗ semVal ((c : Thread nD τ), .dma (gsem s j)) 0) ∗ ow c) -∗ wp frame (wpE defs 𝒱 (c : Thread nD τ) bd) Set.univ (k ⟨⟩) Q)
          -∗ wp frame (wpE defs 𝒱 (c : Thread nD τ) bd) Set.univ
            (.op (.waitDma2 sm srcw ((M9.slice (Rect.unit (s := S2x2816x4096) o ![1, L, 4096] h) hr).squeeze ⟨2, ![L, 4096]⟩ hq) h1 h2) k) Q) := by
  subst hL hsm
  unfold gHalf ow
  iintro H Hk
  iapply (wp_wait_last 𝒱 (c : Thread nD τ) bd (wait_amount_g rfl) (by omega)) $$ H
  iintro ⟨⟨H1, H2⟩, Hv, HO⟩
  iapply Hk
  isplitr [HO]
  · isplitl [H1]; · iexact H1
    isplitl [H2] <;> iassumption
  iexact HO

theorem wp_wait_d {Q : α → sProp 𝕄} (s q : ℕ) (e : Fin 32) {sm : DmaSem sig} {o : Fin 3 → ℕ} {h} {hr} {hq : S1x1024x1408.Squeezes S1024x1408}
    {sp' : Space} {s' : Shape} {e' : EltTy} {srcw : Memref sig .tc sp' s' e'} {h1 h2}
    {k : PUnit → Prog (TpuEff nD τ sig (Elt F) Λ .tc) α} (hsm : sm = dsem s q) :
    iprop(dFly c a s q e ∗ ow c)
      ⊢ iprop((iprop((dLand c a s q e ∗ semVal ((c : Thread nD τ), .dma (dsem s q)) 0) ∗ ow c) -∗ wp frame (wpE defs 𝒱 (c : Thread nD τ) bd) Set.univ (k ⟨⟩) Q)
          -∗ wp frame (wpE defs 𝒱 (c : Thread nD τ) bd) Set.univ
            (.op (.waitDma2 sm srcw ((M10.slice (Rect.unit (s := S2x4096x1408) o S1x1024x1408.size h) hr).squeeze S1024x1408 hq) h1 h2) k) Q) := by
  subst hsm
  unfold dFly ow
  iintro H Hk
  iapply (wp_wait_last 𝒱 (c : Thread nD τ) bd (J := JD) rfl (by omega)) $$ H
  iintro ⟨H1, Hv, HO⟩
  iapply Hk
  isplitr [HO]
  · isplitl [H1]; · iexact H1
    iexact Hv
  iexact HO

theorem wp_wait_zg {Q : α → sProp 𝕄} (s u : ℕ) (e : Fin 32) {sm : DmaSem sig} {o : Fin 3 → ℕ} {h} {hr} {hq : S1x256x4096.Squeezes S256x4096}
    {sp' : Space} {s' : Shape} {e' : EltTy} {srcw : Memref sig .tc sp' s' e'} {h1 h2}
    {k : PUnit → Prog (TpuEff nD τ sig (Elt F) Λ .tc) α} (hu : u + JG 256 ≤ T0) (hsm : sm = gsem s 0) :
    iprop(zFly c a s e u ∗ ow c)
      ⊢ iprop((iprop(zFly c a s e (u + JG 256) ∗ ow c) -∗ wp frame (wpE defs 𝒱 (c : Thread nD τ) bd) Set.univ (k ⟨⟩) Q)
          -∗ wp frame (wpE defs 𝒱 (c : Thread nD τ) bd) Set.univ
            (.op (.waitDma2 sm srcw ((M9.slice (Rect.unit (s := S2x2816x4096) o S1x256x4096.size h) hr).squeeze S256x4096 hq) h1 h2) k) Q) := by
  subst hsm
  unfold zFly ow
  exact wp_wait_more 𝒱 (c : Thread nD τ) bd rfl hu

theorem wp_wait_zsg {Q : α → sProp 𝕄} (s u : ℕ) (e : Fin 32) {sm : DmaSem sig} {o : Fin 3 → ℕ} {h} {hr} {hq : S1x1x2816.Squeezes S1x2816}
    {sp' : Space} {s' : Shape} {e' : EltTy} {srcw : Memref sig .tc sp' s' e'} {h1 h2}
    {k : PUnit → Prog (TpuEff nD τ sig (Elt F) Λ .tc) α} (hu : u + JSG ≤ T0) (hsm : sm = gsem s 0) :
    iprop(zFly c a s e u ∗ ow c)
      ⊢ iprop((iprop(zFly c a s e (u + JSG) ∗ ow c) -∗ wp frame (wpE defs 𝒱 (c : Thread nD τ) bd) Set.univ (k ⟨⟩) Q)
          -∗ wp frame (wpE defs 𝒱 (c : Thread nD τ) bd) Set.univ
            (.op (.waitDma2 sm srcw ((M11.slice (Rect.unit (s := S2x1x2816) o S1x1x2816.size h) hr).squeeze S1x2816 hq) h1 h2) k) Q) := by
  subst hsm
  unfold zFly ow
  exact wp_wait_more 𝒱 (c : Thread nD τ) bd rfl hu

theorem wp_wait_zsd {Q : α → sProp 𝕄} (s u : ℕ) (e : Fin 32) {sm : DmaSem sig} {o : Fin 3 → ℕ} {h} {hr} {hq : S1x1x4096.Squeezes S1x4096}
    {sp' : Space} {s' : Shape} {e' : EltTy} {srcw : Memref sig .tc sp' s' e'} {h1 h2}
    {k : PUnit → Prog (TpuEff nD τ sig (Elt F) Λ .tc) α} (hu : u + JSD = T0) (hsm : sm = gsem s 0) :
    iprop(zFly c a s e u ∗ ow c)
      ⊢ iprop((iprop(((gLand c a s 0 e ∗ gLand c a s 6 e ∗ sgLand c a s e ∗ sdLand c a s e) ∗ semVal ((c : Thread nD τ), .dma (gsem s 0)) 0) ∗ ow c) -∗ wp frame (wpE defs 𝒱 (c : Thread nD τ) bd) Set.univ (k ⟨⟩) Q)
          -∗ wp frame (wpE defs 𝒱 (c : Thread nD τ) bd) Set.univ
            (.op (.waitDma2 sm srcw ((M12.slice (Rect.unit (s := S2x1x4096) o S1x1x4096.size h) hr).squeeze S1x4096 hq) h1 h2) k) Q) := by
  subst hsm
  unfold zFly P0 ow
  iintro H Hk
  iapply (wp_wait_last 𝒱 (c : Thread nD τ) bd (J := JSD) rfl hu) $$ H
  iintro ⟨H1, Hv, HO⟩
  iapply Hk
  isplitr [HO]
  · isplitl [H1]; · iexact H1
    iexact Hv
  iexact HO

/-- A hand rule leaves its continuation applied, `(Prog.ret x).bind k`: the next statement is `k x`. -/
theorem ret_bind' {E : Type → Type} {β γ : Type} (x : β) (k : β → Prog E γ) : (Prog.ret x).bind k = k x := rfl

end Cert.KernelIdeal.Hand
-- ==== Proof.KernelIdeal.Enq.lean ====
/-
  Issuing a slot's transfers: each cell goes from rest, through what is half issued, to in flight.
-/
module

public import proofs.«01_k».proof.Proof.KernelIdeal.Cells

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {Λ : Labels} {defs : Defs nD τ sig (Elt F) Λ} (𝒱 : Variants) (c : Dev nD) (bd : Option 𝒱.V)
variable {α : Type} (a : Ins F)

/-- A batch of two tiles, of four transfers in the order of the main loop, and of four in the order of the start. -/
def B2 (s j : ℕ) (e : Fin 32) (n : ℕ) : sProp 𝕄 :=
  MixedBatch EC (c : Thread nD τ) (.dma (gsem s j)) () (A2 (JG (gLen j)) (JG (gLen (6 + j)))) (D2 (gLand c a s j e) (gLand c a s (6 + j) e)) n 0
def B4 (s : ℕ) (e : Fin 32) (n : ℕ) : sProp 𝕄 :=
  MixedBatch EC (c : Thread nD τ) (.dma (gsem s 0)) () (A4 (JG (gLen 0)) (JG (gLen 6)) JSG JSD)
    (D4 (gLand c a s 0 e) (gLand c a s 6 e) (sgLand c a s e) (sdLand c a s e)) n 0
def BP (s : ℕ) (e : Fin 32) (n : ℕ) : sProp 𝕄 :=
  MixedBatch EC (c : Thread nD τ) (.dma (gsem s 0)) () (A4 JSG JSD (JG (gLen 0)) (JG (gLen 6)))
    (D4 (sgLand c a s e) (sdLand c a s e) (gLand c a s 0 e) (gLand c a s 6 e)) n 0
def gOpen (s j : ℕ) (e : Fin 32) : sProp 𝕄 := iprop(gHome c a s (6 + j) ∗ B2 c a s j e 1)
def zOpen (s : ℕ) (e : Fin 32) : sProp 𝕄 := iprop(gHome c a s 6 ∗ B4 c a s e 1)
def pOpen (s : ℕ) (e : Fin 32) : sProp 𝕄 := iprop((sdHome c a s ∗ gHome c a s 0 ∗ gHome c a s 6) ∗ BP c a s e 1)
def pOpen2 (s : ℕ) (e : Fin 32) : sProp 𝕄 := iprop((gHome c a s 0 ∗ gHome c a s 6) ∗ BP c a s e 2)
def pOpen3 (s : ℕ) (e : Fin 32) : sProp 𝕄 := iprop(gHome c a s 6 ∗ BP c a s e 3)

theorem gLen_pos (m : ℕ) : 0 < gLen m := by unfold gLen; split <;> decide

theorem Flying.mono {c : Thread nD τ} {sm : SemLoc sig} {T T' u : ℕ} {P P' : sProp 𝕄} (hT : T = T') (hP : P ⊢ P') :
    Flying c sm T P u ⊢ Flying c sm T' P' u := by
  subst hT
  unfold Flying
  iintro ⟨%n, %A, %D, %hh, H⟩
  iexists n, A, D
  isplitr
  · ipureintro; exact ⟨hh.1, hh.2.1, hh.2.2.trans hP⟩
  iexact H

theorem B4_close (s : ℕ) (e : Fin 32) : B4 c a s e 4 ⊢ zFly c a s e 0 :=
  close4 c (JG_pos (gLen_pos 0)) (JG_pos (gLen_pos 6)) JSG_pos JSD_pos
theorem BP_close (s : ℕ) (e : Fin 32) : BP c a s e 4 ⊢ zFly c a s e 0 :=
  (close4 c JSG_pos JSD_pos (JG_pos (gLen_pos 0)) (JG_pos (gLen_pos 6))).trans
    (Flying.mono (by unfold T0; omega) (by
      unfold P0
      iintro ⟨H1, H2, H3, H4⟩
      isplitl [H3]; · iexact H3
      isplitl [H4]; · iexact H4
      isplitl [H1]; · iexact H1
      iexact H2))

theorem wp_enq_g1 {Q : α → sProp 𝕄} (s j : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen j = L) (ho : o = ![s, gOff j, 0]) (ho' : o' = ![v.toNat, gOff j, 0]) (he : v.toNat = e) (hsm : sm = gsem s j) :
    gIdle c a s j
      ⊢ iprop((gOpen c a s j e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold gIdle gOpen B2
  iintro ⟨H1, H2, Hv⟩ HK
  imod (mixedBatch_alloc' (Lvl := ℕ) EC (c : Thread nD τ) () (A2 (JG (gLen j)) (JG (gLen (6 + j)))) (D2 (gLand c a s j e) (gLand c a s (6 + j) e)) (E := Set.univ)) $$ Hv with HB
  iapply (wp_enq_g 𝒱 c bd a s j hL ho ho' he hsm (by decide : 0 < 2) (by subst hL; rfl) .rfl (A := A2 (JG (gLen j)) (JG (gLen (6 + j)))) (D := D2 (gLand c a s j e) (gLand c a s (6 + j) e))) $$ [H1 HB]
  · isplitl [H1]; · iexact H1
    iexact HB
  iintro HB
  iapply HK
  isplitl [H2]; · iexact H2
  iexact HB
theorem wp_enq_g2 {Q : α → sProp 𝕄} (s j : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen (6 + j) = L) (ho : o = ![s, gOff (6 + j), 0]) (ho' : o' = ![v.toNat, gOff (6 + j), 0]) (he : v.toNat = e) (hsm : sm = gsem s j) :
    gOpen c a s j e
      ⊢ iprop((gFly c a s j e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold gOpen B2
  iintro ⟨H1, HB⟩ HK
  iapply (wp_enq_g 𝒱 c bd a s (6 + j) hL ho ho' he hsm (by decide : 1 < 2) (by subst hL; rfl) .rfl (A := A2 (JG (gLen j)) (JG (gLen (6 + j)))) (D := D2 (gLand c a s j e) (gLand c a s (6 + j) e))) $$ [H1 HB]
  · isplitl [H1]; · iexact H1
    iexact HB
  iintro HB
  iapply HK
  unfold gFly
  iapply (close2 c (JG_pos (gLen_pos j)) (JG_pos (gLen_pos (6 + j)))) $$ HB
theorem wp_enq_d1 {Q : α → sProp 𝕄} (s q : ℕ) {v : BitVec 32} {e : Fin 32} {o o' : Fin 3 → ℕ} {h h'} {hr hr'}
    {hq hq' : S1x1024x1408.Squeezes S1024x1408} {sm : DmaSem sig} {h1 h2 h3}
    {k : PUnit → Prog (TpuEff nD τ sig (Elt F) Λ .tc) α}
    (ho : o = ![s, 1024 * q, 0]) (ho' : o' = ![v.toNat, 1024 * q, 0]) (he : v.toNat = e) (hsm : sm = dsem s q) :
    dIdle c a s q
      ⊢ iprop((dFly c a s q e -∗ wp frame (wpE defs 𝒱 (c : Thread nD τ) bd) Set.univ (k ⟨⟩) Q)
          -∗ wp frame (wpE defs 𝒱 (c : Thread nD τ) bd) Set.univ
            (.op (.enqueueDma ((M7.slice (Rect.unit (s := S32x4096x1408) o' S1x1024x1408.size h') hr').squeeze S1024x1408 hq')
              (.here ((M10.slice (Rect.unit (s := S2x4096x1408) o S1x1024x1408.size h) hr).squeeze S1024x1408 hq)) (.dma sm) h1 h2 h3) k) Q) := by
  unfold dIdle dFly
  iintro ⟨H1, Hv⟩ HK
  imod (mixedBatch_alloc' (Lvl := ℕ) EC (c : Thread nD τ) () (A1 JD) (D1 (dLand c a s q e)) (E := Set.univ)) $$ Hv with HB
  iapply (wp_enq_d 𝒱 c bd a s q ho ho' he hsm (by decide : 0 < 1) rfl .rfl (A := A1 JD) (D := D1 (dLand c a s q e))) $$ [H1 HB]
  · isplitl [H1]; · iexact H1
    iexact HB
  iintro HB
  iapply HK
  iapply (close1 c JD_pos) $$ HB
theorem wp_enq_z1 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 0 = L) (ho : o = ![s, gOff 0, 0]) (ho' : o' = ![v.toNat, gOff 0, 0]) (he : v.toNat = e) (hsm : sm = gsem s 0) :
    gIdle c a s 0
      ⊢ iprop((zOpen c a s e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold gIdle zOpen B4
  iintro ⟨H1, H2, Hv⟩ HK
  imod (mixedBatch_alloc' (Lvl := ℕ) EC (c : Thread nD τ) () (A4 (JG (gLen 0)) (JG (gLen 6)) JSG JSD) (D4 (gLand c a s 0 e) (gLand c a s 6 e) (sgLand c a s e) (sdLand c a s e)) (E := Set.univ)) $$ Hv with HB
  iapply (wp_enq_g 𝒱 c bd a s 0 hL ho ho' he hsm (by decide : 0 < 4) (by subst hL; rfl) .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  isplitl [H2]; · iexact H2
  iexact HB
theorem wp_enq_z2 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 6 = L) (ho : o = ![s, gOff 6, 0]) (ho' : o' = ![v.toNat, gOff 6, 0]) (he : v.toNat = e) (hsm : sm = gsem s 0) :
    zOpen c a s e
      ⊢ iprop((zHalf c a s e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold zOpen B4 zHalf
  iintro ⟨H1, HB⟩ HK
  iapply (wp_enq_g 𝒱 c bd a s 6 hL ho ho' he hsm (by decide : 1 < 4) (by subst hL; rfl) .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  iexact HB
theorem wp_enq_z3 {Q : α → sProp 𝕄} (s : ℕ) {v : BitVec 32} {e : Fin 32} {o : Fin 3 → ℕ} {o' : Fin 2 → ℕ} {h h'} {hr hr'}
    {hq : S1x1x2816.Squeezes S1x2816} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    iprop(sgHome c a s ∗ zHalf c a s e)
      ⊢ iprop((B4 c a s e 3 -∗ wp frame (wpE defs 𝒱 (c : Thread nD τ) bd) Set.univ (k ⟨⟩) Q)
          -∗ wp frame (wpE defs 𝒱 (c : Thread nD τ) bd) Set.univ
            (.op (.enqueueDma (M4.slice (Rect.unit (s := S32x2816) o' S1x2816.size h') hr')
              (.here ((M11.slice (Rect.unit (s := S2x1x2816) o S1x1x2816.size h) hr).squeeze S1x2816 hq)) (.dma sm) h1 h2 h3) k) Q) := by
  unfold B4 zHalf
  iintro ⟨H1, HB⟩ HK
  iapply (wp_enq_sg 𝒱 c bd a s ho ho' he hsm (by decide : 2 < 4) rfl .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  iexact HB
theorem wp_enq_z4 {Q : α → sProp 𝕄} (s : ℕ) {v : BitVec 32} {e : Fin 32} {o : Fin 3 → ℕ} {o' : Fin 2 → ℕ} {h h'} {hr hr'}
    {hq : S1x1x4096.Squeezes S1x4096} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    iprop(sdHome c a s ∗ B4 c a s e 3)
      ⊢ iprop((zFly c a s e 0 -∗ wp frame (wpE defs 𝒱 (c : Thread nD τ) bd) Set.univ (k ⟨⟩) Q)
          -∗ wp frame (wpE defs 𝒱 (c : Thread nD τ) bd) Set.univ
            (.op (.enqueueDma (M5.slice (Rect.unit (s := S32x4096) o' S1x4096.size h') hr')
              (.here ((M12.slice (Rect.unit (s := S2x1x4096) o S1x1x4096.size h) hr).squeeze S1x4096 hq)) (.dma sm) h1 h2 h3) k) Q) := by
  unfold B4
  iintro ⟨H1, HB⟩ HK
  iapply (wp_enq_sd 𝒱 c bd a s ho ho' he hsm (by decide : 3 < 4) rfl .rfl (A := A4 (JG (gLen 0)) (JG (gLen 6)) JSG JSD) (D := D4 (gLand c a s 0 e) (gLand c a s 6 e) (sgLand c a s e) (sdLand c a s e))) $$ [H1 HB]
  · isplitl [H1]; · iexact H1
    iexact HB
  iintro HB
  iapply HK
  iapply (show B4 c a s e (3 + 1) ⊢ _ from B4_close c a s e)
  unfold B4; iexact HB
theorem wp_enq_p1 {Q : α → sProp 𝕄} (s : ℕ) {v : BitVec 32} {e : Fin 32} {o : Fin 3 → ℕ} {o' : Fin 2 → ℕ} {h h'} {hr hr'}
    {hq : S1x1x2816.Squeezes S1x2816} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    zIdle c a s
      ⊢ iprop((pOpen c a s e -∗ wp frame (wpE defs 𝒱 (c : Thread nD τ) bd) Set.univ (k ⟨⟩) Q)
          -∗ wp frame (wpE defs 𝒱 (c : Thread nD τ) bd) Set.univ
            (.op (.enqueueDma (M4.slice (Rect.unit (s := S32x2816) o' S1x2816.size h') hr')
              (.here ((M11.slice (Rect.unit (s := S2x1x2816) o S1x1x2816.size h) hr).squeeze S1x2816 hq)) (.dma sm) h1 h2 h3) k) Q) := by
  unfold zIdle pOpen BP
  iintro ⟨⟨H1, H2, H3, H4⟩, Hv⟩ HK
  imod (mixedBatch_alloc' (Lvl := ℕ) EC (c : Thread nD τ) () (A4 JSG JSD (JG (gLen 0)) (JG (gLen 6))) (D4 (sgLand c a s e) (sdLand c a s e) (gLand c a s 0 e) (gLand c a s 6 e)) (E := Set.univ)) $$ Hv with HB
  iapply (wp_enq_sg 𝒱 c bd a s ho ho' he hsm (by decide : 0 < 4) rfl .rfl (A := A4 JSG JSD (JG (gLen 0)) (JG (gLen 6))) (D := D4 (sgLand c a s e) (sdLand c a s e) (gLand c a s 0 e) (gLand c a s 6 e))) $$ [H3 HB]
  · isplitl [H3]; · iexact H3
    iexact HB
  iintro HB
  iapply HK
  isplitr [HB]
  · isplitl [H4]; · iexact H4
    isplitl [H1]; · iexact H1
    iexact H2
  iexact HB
theorem wp_enq_p2 {Q : α → sProp 𝕄} (s : ℕ) {v : BitVec 32} {e : Fin 32} {o : Fin 3 → ℕ} {o' : Fin 2 → ℕ} {h h'} {hr hr'}
    {hq : S1x1x4096.Squeezes S1x4096} {sm : DmaSem sig} {h1 h2 h3}
    {k : PUnit → Prog (TpuEff nD τ sig (Elt F) Λ .tc) α}
    (ho : o = ![s, 0, 0]) (ho' : o' = ![v.toNat, 0]) (he : v.toNat = e) (hsm : sm = gsem s 0) :
    pOpen c a s e
      ⊢ iprop((pOpen2 c a s e -∗ wp frame (wpE defs 𝒱 (c : Thread nD τ) bd) Set.univ (k ⟨⟩) Q)
          -∗ wp frame (wpE defs 𝒱 (c : Thread nD τ) bd) Set.univ
            (.op (.enqueueDma (M5.slice (Rect.unit (s := S32x4096) o' S1x4096.size h') hr')
              (.here ((M12.slice (Rect.unit (s := S2x1x4096) o S1x1x4096.size h) hr).squeeze S1x4096 hq)) (.dma sm) h1 h2 h3) k) Q) := by
  unfold pOpen pOpen2 BP
  iintro ⟨⟨H1, H2⟩, HB⟩ HK
  iapply (wp_enq_sd 𝒱 c bd a s ho ho' he hsm (by decide : 1 < 4) rfl .rfl (A := A4 JSG JSD (JG (gLen 0)) (JG (gLen 6))) (D := D4 (sgLand c a s e) (sdLand c a s e) (gLand c a s 0 e) (gLand c a s 6 e))) $$ [H1 HB]
  · isplitl [H1]; · iexact H1
    iexact HB
  iintro HB
  iapply HK
  isplitl [H2]; · iexact H2
  iexact HB
theorem wp_enq_p3 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 0 = L) (ho : o = ![s, gOff 0, 0]) (ho' : o' = ![v.toNat, gOff 0, 0]) (he : v.toNat = e) (hsm : sm = gsem s 0) :
    pOpen2 c a s e
      ⊢ iprop((pOpen3 c a s e -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold pOpen2 pOpen3 BP
  iintro ⟨⟨H1, H2⟩, HB⟩ HK
  iapply (wp_enq_g 𝒱 c bd a s 0 hL ho ho' he hsm (by decide : 2 < 4) (by subst hL; rfl) .rfl (A := A4 JSG JSD (JG (gLen 0)) (JG (gLen 6))) (D := D4 (sgLand c a s e) (sdLand c a s e) (gLand c a s 0 e) (gLand c a s 6 e))) $$ [H1 HB]
  · isplitl [H1]; · iexact H1
    iexact HB
  iintro HB
  iapply HK
  isplitl [H2]; · iexact H2
  iexact HB
theorem wp_enq_p4 {Q : α → sProp 𝕄} (s : ℕ) {L : ℕ} {v : BitVec 32} {e : Fin 32} {o o' : Fin 3 → ℕ} {h h'} {hr hr'}
    {hq hq' : (⟨3, ![1, L, 4096]⟩ : Shape).Squeezes ⟨2, ![L, 4096]⟩} {sm : DmaSem sig} {h1 h2 h3}
    {k : PUnit → Prog (TpuEff nD τ sig (Elt F) Λ .tc) α}
    (hL : gLen 6 = L) (ho : o = ![s, gOff 6, 0]) (ho' : o' = ![v.toNat, gOff 6, 0]) (he : v.toNat = e) (hsm : sm = gsem s 0) :
    pOpen3 c a s e
      ⊢ iprop((zFly c a s e 0 -∗ wp frame (wpE defs 𝒱 (c : Thread nD τ) bd) Set.univ (k ⟨⟩) Q)
          -∗ wp frame (wpE defs 𝒱 (c : Thread nD τ) bd) Set.univ
            (.op (.enqueueDma ((M6.slice (Rect.unit (s := S32x2816x4096) o' ![1, L, 4096] h') hr').squeeze ⟨2, ![L, 4096]⟩ hq')
              (.here ((M9.slice (Rect.unit (s := S2x2816x4096) o ![1, L, 4096] h) hr).squeeze ⟨2, ![L, 4096]⟩ hq)) (.dma sm) h1 h2 h3) k) Q) := by
  unfold pOpen3 BP
  iintro ⟨H1, HB⟩ HK
  iapply (wp_enq_g 𝒱 c bd a s 6 hL ho ho' he hsm (by decide : 3 < 4) (by subst hL; rfl) .rfl (A := A4 JSG JSD (JG (gLen 0)) (JG (gLen 6))) (D := D4 (sgLand c a s e) (sdLand c a s e) (gLand c a s 0 e) (gLand c a s 6 e))) $$ [H1 HB]
  · isplitl [H1]; · iexact H1
    iexact HB
  iintro HB
  iapply HK
  iapply (show BP c a s e (3 + 1) ⊢ _ from BP_close c a s e)
  unfold BP; iexact HB

end Cert.KernelIdeal.Hand
-- ==== Proof.KernelIdeal.Loads.lean ====
/-
  Loads of whole buffers, and the slot of a trip.
-/
module

public import proofs.«01_k».proof.Proof.KernelIdeal.Enq

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- Loading the tokens, and the whole hidden tile. -/
theorem wp_ld_x {α : Type} {Q : α → sProp 𝕄} {h} {hl : M3.view.LoadsAt (Rect.unit (s := S64x4096) ![0, 0] S64x4096.size h).toLoadRect}
    {k : (S64x4096.Idx → Elt F .bf16) → Prog (TpuEff nD τ sig (Elt F) Λ₀ .tc) α} {q : PosShare TreeShare} {f : S64x4096.Idx → Elt F .bf16} :
    (M3.view.loc (c : Thread nD τ) ↦{q} f)
      ⊢ iprop(((M3.view.loc (c : Thread nD τ) ↦{q} f) -∗ wp frame (wpE defs 𝒱 (c : Thread nD τ) bd) Set.univ (k f) Q)
          -∗ wp frame (wpE defs 𝒱 (c : Thread nD τ) bd) Set.univ (.op (.load M3 (Rect.unit (s := S64x4096) ![0, 0] S64x4096.size h).toLoadRect hl) k) Q) :=
  wp_ld_whole 𝒱 c bd (m := M3) (f := f) f (by funext i; fin_cases i <;> rfl) rfl
theorem wp_ld_h {α : Type} {Q : α → sProp 𝕄} {h} {hl : M13.view.LoadsAt (Rect.unit (s := S64x1408) ![0, 0] S64x1408.size h).toLoadRect}
    {k : (S64x1408.Idx → Elt F .bf16) → Prog (TpuEff nD τ sig (Elt F) Λ₀ .tc) α} {q : PosShare TreeShare} {f : S64x1408.Idx → Elt F .bf16} :
    (M13.view.loc (c : Thread nD τ) ↦{q} f)
      ⊢ iprop(((M13.view.loc (c : Thread nD τ) ↦{q} f) -∗ wp frame (wpE defs 𝒱 (c : Thread nD τ) bd) Set.univ (k f) Q)
          -∗ wp frame (wpE defs 𝒱 (c : Thread nD τ) bd) Set.univ (.op (.load M13 (Rect.unit (s := S64x1408) ![0, 0] S64x1408.size h).toLoadRect hl) k) Q) :=
  wp_ld_whole 𝒱 c bd (m := M13) (f := f) f (by funext i; fin_cases i <;> rfl) rfl
theorem wp_ld_ids {α : Type} {Q : α → sProp 𝕄} {h} {hl : M1.view.LoadsAt (Rect.unit (s := S64x8) ![0, 0] S64x8.size h).toLoadRect}
    {k : (S64x8.Idx → Elt F .i32) → Prog (TpuEff nD τ sig (Elt F) Λ₀ .tc) α} {q : PosShare TreeShare} {f : S64x8.Idx → Elt F .i32} :
    (M1.view.loc (c : Thread nD τ) ↦{q} f)
      ⊢ iprop(((M1.view.loc (c : Thread nD τ) ↦{q} f) -∗ wp frame (wpE defs 𝒱 (c : Thread nD τ) bd) Set.univ (k f) Q)
          -∗ wp frame (wpE defs 𝒱 (c : Thread nD τ) bd) Set.univ (.op (.load M1 (Rect.unit (s := S64x8) ![0, 0] S64x8.size h).toLoadRect hl) k) Q) :=
  wp_ld_whole 𝒱 c bd (m := M1) (f := f) f (by funext i; fin_cases i <;> rfl) rfl
theorem wp_ld_cw {α : Type} {Q : α → sProp 𝕄} {h} {hl : M2.view.LoadsAt (Rect.unit (s := S64x8) ![0, 0] S64x8.size h).toLoadRect}
    {k : (S64x8.Idx → Elt F .f32) → Prog (TpuEff nD τ sig (Elt F) Λ₀ .tc) α} {q : PosShare TreeShare} {f : S64x8.Idx → Elt F .f32} :
    (M2.view.loc (c : Thread nD τ) ↦{q} f)
      ⊢ iprop(((M2.view.loc (c : Thread nD τ) ↦{q} f) -∗ wp frame (wpE defs 𝒱 (c : Thread nD τ) bd) Set.univ (k f) Q)
          -∗ wp frame (wpE defs 𝒱 (c : Thread nD τ) bd) Set.univ (.op (.load M2 (Rect.unit (s := S64x8) ![0, 0] S64x8.size h).toLoadRect hl) k) Q) :=
  wp_ld_whole 𝒱 c bd (m := M2) (f := f) f (by funext i; fin_cases i <;> rfl) rfl

/-- The slot of trip `k`. -/
def sl {v34 : BitVec 32} (k : Fin (k0_t3_loop v34).trips) : ℕ := (Scalar.remsi (Scf.iv 0#32 1#32 k) 2#32).toNat

end Cert.KernelIdeal.Hand
-- ==== Proof.KernelIdeal.TripA.lean ====
/-
  One trip of the main loop, piece by piece: the first half of the gate and up tiles.
-/
module

public import proofs.«01_k».proof.Proof.KernelIdeal.Loads

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem run10 (v34 : BitVec 32) (hw12 : k0_chk12 v34) (k : Fin (k0_t3_loop v34).trips) (v0 v1 : BitVec 32) (e : Fin 32) (ord : S33.Idx → BitVec 32) (n1 n2 : ℕ) (q : PosShare TreeShare) (hv0 : v0 = 0#32) (hv1 : v1 = 1#32)
    (ho1 : k0_off55 v34 k = ![n1]) (ho2 : k0_off56 v34 k = ![n2]) (hw13 : k0_chk13 (ordAt ord n1)) (hw14 : k0_chk14 v34 k (ordAt ord n2)) (he : (ordAt ord n1).toNat = e) {Q : _ → sProp 𝕄} :
    iprop((M16.view.loc (c : Thread nD τ) ↦{q} ord) ∗ (M1.view.loc (c : Thread nD τ) ↦{fullShare} a.ids) ∗ (M2.view.loc (c : Thread nD τ) ↦{fullShare} a.cw) ∗ zFly c a (sl k) e 0 ∗ ow c)
      ⊢ iprop((iprop((M16.view.loc (c : Thread nD τ) ↦{q} ord) ∗ (M1.view.loc (c : Thread nD τ) ↦{fullShare} a.ids) ∗ (M2.view.loc (c : Thread nD τ) ↦{fullShare} a.cw) ∗ zFly c a (sl k) e (0 + JG 256 + JG 256) ∗ ow c)
          -∗ Q ⟨Scalar.remsi (Scf.iv v0 v1 k) 2#32, ordAt ord n1, hw13, Scalar.cmpi .slt (Scalar.addi (Scf.iv v0 v1 k) 2#32) v34, ordAt ord n2, hw14, cCol a e⟩)
        -∗ wp frame (wpE defs 𝒱 (c : Thread nD τ) bd) Set.univ
          (k0_part10 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 v0 v1 k) Q) := by
  rw [k0_part10_eq_skeleton]
  unfold k0_part10_skel
  iintro ⟨H16, H1, H2, Hz, HO⟩ HK
  subst hv0 hv1
  rw [← cCol_eq a he]
  iapply (wp_ld_ord 𝒱 c bd ho1) $$ H16
  iintro H16
  iapply (wp_assume 𝒱 (c : Thread nD τ) bd Set.univ hw13)
  iapply (wp_ld_ord 𝒱 c bd (hn := numel1_S1) (hw := rfl) ho2) $$ H16
  iintro H16
  iapply (wp_assume 𝒱 (c : Thread nD τ) bd Set.univ hw14)
  iapply (wp_ld_ids 𝒱 c bd) $$ H1
  iintro H1
  iapply (wp_ld_cw 𝒱 c bd) $$ H2
  iintro H2
  iapply (wp_wait_zg 𝒱 c bd a (sl k) 0 e (by decide +kernel) (gsem_eq rfl)) $$ [Hz HO]
  · isplitl [Hz] <;> iassumption
  iintro ⟨Hz, HO⟩
  iapply (wp_wait_zg 𝒱 c bd a (sl k) (0 + JG 256) e (by decide +kernel) (gsem_eq rfl)) $$ [Hz HO]
  · isplitl [Hz] <;> iassumption
  iintro ⟨Hz, HO⟩
  try simp only [ret_bind']
  iapply (le_wp_ret _ _)
  iapply HK
  isplitl [H16]; · iexact H16
  isplitl [H1]; · iexact H1
  isplitl [H2]; · iexact H2
  isplitl [Hz]; · iexact Hz
  iexact HO

theorem run11 (v34 : BitVec 32) (hw12 : k0_chk12 v34) (k : Fin (k0_t3_loop v34).trips) (v53 v55 : BitVec 32) (hw13 : k0_chk13 v55) (e : Fin 32) (f13 : S64x1408.Idx → Elt F .bf16)
     {Q : _ → sProp 𝕄} :
    iprop(zFly c a (sl k) e (0 + JG 256 + JG 256) ∗ ow c ∗ (M3.view.loc (c : Thread nD τ) ↦{fullShare} a.x) ∗ (M13.view.loc (c : Thread nD τ) ↦{fullShare} (hMid a 0 e f13)))
      ⊢ iprop((iprop(gDone c a (sl k) 0 e ∗ sgLand c a (sl k) e ∗ sdLand c a (sl k) e ∗ ow c ∗ (M3.view.loc (c : Thread nD τ) ↦{fullShare} a.x) ∗ (M13.view.loc (c : Thread nD τ) ↦{fullShare} (hMid a 0 e f13)))
          -∗ Q (hT a 0 (by decide) e))
        -∗ wp frame (wpE defs 𝒱 (c : Thread nD τ) bd) Set.univ
          (k0_part11 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13) Q) := by
  rw [k0_part11_eq_skeleton]
  unfold k0_part11_skel gDone
  iintro ⟨Hz, HO, H3, H13⟩ HK
  iapply (wp_wait_zsg 𝒱 c bd a (sl k) (0 + JG 256 + JG 256) e (by decide +kernel) (gsem_eq rfl)) $$ [Hz HO]
  · isplitl [Hz] <;> iassumption
  iintro ⟨Hz, HO⟩
  iapply (wp_wait_zsd 𝒱 c bd a (sl k) (0 + JG 256 + JG 256 + JSG) e (by decide +kernel) (gsem_eq rfl)) $$ [Hz HO]
  · isplitl [Hz] <;> iassumption
  iintro ⟨⟨⟨HA, HB, Hsg, Hsd⟩, HV⟩, HO⟩
  iapply (wp_ld_g 𝒱 c bd a (sl k) 0 (L := 256) rfl (by decide) rfl) $$ HA
  iintro HA
  iapply (wp_ld_g 𝒱 c bd a (sl k) 6 (L := 256) rfl (by decide) rfl) $$ HB
  iintro HB
  iapply (wp_ld_x 𝒱 c bd) $$ H3
  iintro H3
  iapply (wp_ld_x 𝒱 c bd) $$ H3
  iintro H3
  iapply (wp_ld_sg 𝒱 c bd a (sl k) 0 256 (by decide) rfl) $$ Hsg
  iintro Hsg
  iapply (wp_ld_sg 𝒱 c bd a (sl k) 1408 256 (by decide) rfl) $$ Hsg
  iintro Hsg
  iapply (wp_ld_dead 𝒱 c bd (fun _ => rfl)) $$ H13
  iintro H13
  unfold hT
  try simp only [ret_bind']
  iapply (le_wp_ret _ _)
  iapply HK
  isplitl [HA HB HV]
  · isplitl [HA]; · iexact HA
    isplitl [HB] <;> iassumption
  isplitl [Hsg]; · iexact Hsg
  isplitl [Hsd]; · iexact Hsd
  isplitl [HO]; · iexact HO
  isplitl [H3]; · iexact H3
  iexact H13

theorem run12 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v122 : S64x256.Idx → Elt F .bf16) (e e' : Fin 32) (f13 : S64x1408.Idx → Elt F .bf16)
    (he' : k0_cond3 v34 k = 1#1 → v61.toNat = e') (h122 : v122 = hT a 0 (by decide) e) {Q : _ → sProp 𝕄} :
    iprop((M13.view.loc (c : Thread nD τ) ↦{fullShare} (hMid a 0 e f13)) ∗ gDone c a (sl k) 0 e ∗ gFly c a (sl k) 1 e ∗ ow c ∗ (M3.view.loc (c : Thread nD τ) ↦{fullShare} a.x) ∗ sgLand c a (sl k) e)
      ⊢ iprop((iprop((M13.view.loc (c : Thread nD τ) ↦{fullShare} (hMid a 1 e f13)) ∗ (if k0_cond3 v34 k = 1#1 then zHalf c a (sl k) e' else gIdle c a (sl k) 0) ∗ gDone c a (sl k) 1 e ∗ ow c ∗ (M3.view.loc (c : Thread nD τ) ↦{fullShare} a.x) ∗ sgLand c a (sl k) e)
          -∗ Q ⟨k0_pay3 (gTile a 7 256 (by decide) e) a.x, k0_pay4 (gTile a 1 256 (by decide) e) a.x (sgTile a 256 256 (by decide) e)⟩)
        -∗ wp frame (wpE defs 𝒱 (c : Thread nD τ) bd) Set.univ
          (k0_part12 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v122) Q) := by
  rw [k0_part12_eq_skeleton]
  unfold k0_part12_skel gDone
  iintro ⟨H13, Hg0, Hg1, HO, H3, Hsg⟩ HK
  iapply (wp_st_h 𝒱 c bd a 0 (by decide) (e := e) rfl h122) $$ H13
  iintro H13
  simp only [ret_bind']
  ihave Hi := (gDone_idle c a (sl k) 0 e) $$ Hg0
  by_cases h : k0_cond3 v34 k = 1#1
  case' pos =>
    rw [dif_pos h, if_pos h]
    iapply (wp_enq_z1 𝒱 c bd a (sl k) rfl rfl rfl (he' h) (gsem_eq rfl)) $$ Hi
    iintro Hi
    iapply (wp_enq_z2 𝒱 c bd a (sl k) rfl rfl rfl (he' h) (gsem_eq rfl)) $$ Hi
    iintro Hi
  case' neg =>
    rw [dif_neg h, if_neg h]
  all_goals
    try simp only [ret_bind']
    iapply (wp_wait_g1 𝒱 c bd a (sl k) 1 256 e rfl (gsem_eq rfl)) $$ [Hg1 HO]
    · isplitl [Hg1] <;> iassumption
    iintro ⟨Hg1, HO⟩
    iapply (wp_wait_g2 𝒱 c bd a (sl k) 1 256 e rfl (gsem_eq rfl)) $$ [Hg1 HO]
    · isplitl [Hg1] <;> iassumption
    iintro ⟨⟨HA, HB, HV⟩, HO⟩
    iapply (wp_ld_g 𝒱 c bd a (sl k) 1 (L := 256) rfl (by decide) rfl) $$ HA
    iintro HA
    iapply (wp_ld_g 𝒱 c bd a (sl k) 7 (L := 256) rfl (by decide) rfl) $$ HB
    iintro HB
    iapply (wp_ld_x 𝒱 c bd) $$ H3
    iintro H3
    iapply (wp_ld_x 𝒱 c bd) $$ H3
    iintro H3
    iapply (wp_ld_sg 𝒱 c bd a (sl k) 256 256 (by decide) rfl) $$ Hsg
    iintro Hsg
    try simp only [ret_bind']
    iapply (le_wp_ret _ _)
    iapply HK
    isplitl [H13]; · iexact H13
    isplitl [Hi]; · iexact Hi
    isplitl [HA HB HV]
    · isplitl [HA]; · iexact HA
      isplitl [HB] <;> iassumption
    isplitl [HO]; · iexact HO
    isplitl [H3]; · iexact H3
    iexact Hsg

theorem run13 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v148 v153 : S64x256.Idx → Elt F .f32) (e e' : Fin 32) (f13 : S64x1408.Idx → Elt F .bf16)
    (he' : k0_cond4 v34 k = 1#1 → v61.toNat = e') (h148 : v148 = k0_pay3 (gTile a 7 256 (by decide) e) a.x) (h153 : v153 = k0_pay4 (gTile a 1 256 (by decide) e) a.x (sgTile a 256 256 (by decide) e)) {Q : _ → sProp 𝕄} :
    iprop((M13.view.loc (c : Thread nD τ) ↦{fullShare} (hMid a 1 e f13)) ∗ gDone c a (sl k) 1 e ∗ gFly c a (sl k) 2 e ∗ ow c ∗ (M3.view.loc (c : Thread nD τ) ↦{fullShare} a.x) ∗ sgLand c a (sl k) e)
      ⊢ iprop((iprop((M13.view.loc (c : Thread nD τ) ↦{fullShare} (hMid a 2 e f13)) ∗ (if k0_cond4 v34 k = 1#1 then gFly c a (sl k) 1 e' else gIdle c a (sl k) 1) ∗ gDone c a (sl k) 2 e ∗ ow c ∗ (M3.view.loc (c : Thread nD τ) ↦{fullShare} a.x) ∗ sgLand c a (sl k) e)
          -∗ Q ⟨k0_pay6 (gTile a 8 256 (by decide) e), k0_pay7 (gTile a 2 256 (by decide) e) a.x⟩)
        -∗ wp frame (wpE defs 𝒱 (c : Thread nD τ) bd) Set.univ
          (k0_part13 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v148 v153) Q) := by
  rw [k0_part13_eq_skeleton]
  unfold k0_part13_skel gDone
  iintro ⟨H13, Hg1, Hg2, HO, H3, Hsg⟩ HK
  iapply (wp_ld_sg 𝒱 c bd a (sl k) 1664 256 (by decide) rfl) $$ Hsg
  iintro Hsg
  iapply (wp_ld_dead 𝒱 c bd (fun _ => rfl)) $$ H13
  iintro H13
  iapply (wp_st_h 𝒱 c bd a 1 (by decide) (e := e) rfl (by subst h148 h153; rfl)) $$ H13
  iintro H13
  simp only [ret_bind']
  ihave Hi := (gDone_idle c a (sl k) 1 e) $$ Hg1
  by_cases h : k0_cond4 v34 k = 1#1
  case' pos =>
    rw [dif_pos h, if_pos h]
    iapply (wp_enq_g1 𝒱 c bd a (sl k) 1 rfl rfl rfl (he' h) (gsem_eq rfl)) $$ Hi
    iintro Hi
    iapply (wp_enq_g2 𝒱 c bd a (sl k) 1 rfl rfl rfl (he' h) (gsem_eq rfl)) $$ Hi
    iintro Hi
  case' neg =>
    rw [dif_neg h, if_neg h]
  all_goals
    try simp only [ret_bind']
    iapply (wp_wait_g1 𝒱 c bd a (sl k) 2 256 e rfl (gsem_eq rfl)) $$ [Hg2 HO]
    · isplitl [Hg2] <;> iassumption
    iintro ⟨Hg2, HO⟩
    iapply (wp_wait_g2 𝒱 c bd a (sl k) 2 256 e rfl (gsem_eq rfl)) $$ [Hg2 HO]
    · isplitl [Hg2] <;> iassumption
    iintro ⟨⟨HA, HB, HV⟩, HO⟩
    iapply (wp_ld_g 𝒱 c bd a (sl k) 2 (L := 256) rfl (by decide) rfl) $$ HA
    iintro HA
    iapply (wp_ld_g 𝒱 c bd a (sl k) 8 (L := 256) rfl (by decide) rfl) $$ HB
    iintro HB
    iapply (wp_ld_x 𝒱 c bd) $$ H3
    iintro H3
    try simp only [ret_bind']
    iapply (le_wp_ret _ _)
    iapply HK
    isplitl [H13]; · iexact H13
    isplitl [Hi]; · iexact Hi
    isplitl [HA HB HV]
    · isplitl [HA]; · iexact HA
      isplitl [HB] <;> iassumption
    isplitl [HO]; · iexact HO
    isplitl [H3]; · iexact H3
    iexact Hsg

theorem run14 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v185 : S256x4096.Idx → Elt F .fp8e4m3) (v188 : S64x256.Idx → Elt F .f32) (e e' : Fin 32) (f13 : S64x1408.Idx → Elt F .bf16)
    (he' : k0_cond5 v34 k = 1#1 → v61.toNat = e') (h185 : v185 = k0_pay6 (gTile a 8 256 (by decide) e)) (h188 : v188 = k0_pay7 (gTile a 2 256 (by decide) e) a.x) {Q : _ → sProp 𝕄} :
    iprop((M13.view.loc (c : Thread nD τ) ↦{fullShare} (hMid a 2 e f13)) ∗ gDone c a (sl k) 2 e ∗ gFly c a (sl k) 3 e ∗ ow c ∗ (M3.view.loc (c : Thread nD τ) ↦{fullShare} a.x) ∗ sgLand c a (sl k) e)
      ⊢ iprop((iprop((M13.view.loc (c : Thread nD τ) ↦{fullShare} (hMid a 3 e f13)) ∗ (if k0_cond5 v34 k = 1#1 then gFly c a (sl k) 2 e' else gIdle c a (sl k) 2) ∗ gDone c a (sl k) 3 e ∗ ow c ∗ (M3.view.loc (c : Thread nD τ) ↦{fullShare} a.x) ∗ sgLand c a (sl k) e)
          -∗ Q ⟨⟩)
        -∗ wp frame (wpE defs 𝒱 (c : Thread nD τ) bd) Set.univ
          (k0_part14 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v185 v188) Q) := by
  rw [k0_part14_eq_skeleton]
  unfold k0_part14_skel gDone
  iintro ⟨H13, Hg2, Hg3, HO, H3, Hsg⟩ HK
  iapply (wp_ld_x 𝒱 c bd) $$ H3
  iintro H3
  iapply (wp_ld_sg 𝒱 c bd a (sl k) 512 256 (by decide) rfl) $$ Hsg
  iintro Hsg
  iapply (wp_ld_sg 𝒱 c bd a (sl k) 1920 256 (by decide) rfl) $$ Hsg
  iintro Hsg
  iapply (wp_ld_dead 𝒱 c bd (fun _ => rfl)) $$ H13
  iintro H13
  iapply (wp_st_h 𝒱 c bd a 2 (by decide) (e := e) rfl (by subst h185 h188; rfl)) $$ H13
  iintro H13
  simp only [ret_bind']
  ihave Hi := (gDone_idle c a (sl k) 2 e) $$ Hg2
  by_cases h : k0_cond5 v34 k = 1#1
  case' pos =>
    rw [dif_pos h, if_pos h]
    iapply (wp_enq_g1 𝒱 c bd a (sl k) 2 rfl rfl rfl (he' h) (gsem_eq rfl)) $$ Hi
    iintro Hi
    iapply (wp_enq_g2 𝒱 c bd a (sl k) 2 rfl rfl rfl (he' h) (gsem_eq rfl)) $$ Hi
    iintro Hi
  case' neg =>
    rw [dif_neg h, if_neg h]
  all_goals
    try simp only [ret_bind']
    iapply (wp_wait_g1 𝒱 c bd a (sl k) 3 256 e rfl (gsem_eq rfl)) $$ [Hg3 HO]
    · isplitl [Hg3] <;> iassumption
    iintro ⟨Hg3, HO⟩
    iapply (wp_wait_g2 𝒱 c bd a (sl k) 3 256 e rfl (gsem_eq rfl)) $$ [Hg3 HO]
    · isplitl [Hg3] <;> iassumption
    iintro ⟨⟨HA, HB, HV⟩, HO⟩
    try simp only [ret_bind']
    iapply (le_wp_ret _ _)
    iapply HK
    isplitl [H13]; · iexact H13
    isplitl [Hi]; · iexact Hi
    isplitl [HA HB HV]
    · isplitl [HA]; · iexact HA
      isplitl [HB] <;> iassumption
    isplitl [HO]; · iexact HO
    isplitl [H3]; · iexact H3
    iexact Hsg

end Cert.KernelIdeal.Hand
-- ==== Proof.KernelIdeal.TripB.lean ====
/-
  One trip of the main loop, piece by piece: the other tiles, and the down projection.
-/
module

public import proofs.«01_k».proof.Proof.KernelIdeal.Loads

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem run15 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (e e' : Fin 32) (f13 : S64x1408.Idx → Elt F .bf16)
    (he' : k0_cond6 v34 k = 1#1 → v61.toNat = e') {Q : _ → sProp 𝕄} :
    iprop((M13.view.loc (c : Thread nD τ) ↦{fullShare} (hMid a 3 e f13)) ∗ gDone c a (sl k) 3 e ∗ gFly c a (sl k) 4 e ∗ ow c ∗ (M3.view.loc (c : Thread nD τ) ↦{fullShare} a.x) ∗ sgLand c a (sl k) e)
      ⊢ iprop((iprop((M13.view.loc (c : Thread nD τ) ↦{fullShare} (hMid a 4 e f13)) ∗ (if k0_cond6 v34 k = 1#1 then gFly c a (sl k) 3 e' else gIdle c a (sl k) 3) ∗ gHalf c a (sl k) 4 e ∗ ow c ∗ (M3.view.loc (c : Thread nD τ) ↦{fullShare} a.x) ∗ sgLand c a (sl k) e)
          -∗ Q ⟨⟩)
        -∗ wp frame (wpE defs 𝒱 (c : Thread nD τ) bd) Set.univ
          (k0_part15 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14) Q) := by
  rw [k0_part15_eq_skeleton]
  unfold k0_part15_skel gDone
  iintro ⟨H13, Hg3, Hg4, HO, H3, Hsg⟩ HK
  icases Hg3 with ⟨HA, HB, HV⟩
  iapply (wp_ld_g 𝒱 c bd a (sl k) 3 (L := 256) rfl (by decide) rfl) $$ HA
  iintro HA
  iapply (wp_ld_g 𝒱 c bd a (sl k) 9 (L := 256) rfl (by decide) rfl) $$ HB
  iintro HB
  iapply (wp_ld_x 𝒱 c bd) $$ H3
  iintro H3
  iapply (wp_ld_x 𝒱 c bd) $$ H3
  iintro H3
  iapply (wp_ld_sg 𝒱 c bd a (sl k) 768 256 (by decide) rfl) $$ Hsg
  iintro Hsg
  iapply (wp_ld_sg 𝒱 c bd a (sl k) 2176 256 (by decide) rfl) $$ Hsg
  iintro Hsg
  iapply (wp_ld_dead 𝒱 c bd (fun _ => rfl)) $$ H13
  iintro H13
  iapply (wp_st_h 𝒱 c bd a 3 (by decide) (e := e) rfl rfl) $$ H13
  iintro H13
  simp only [ret_bind']
  ihave Hi := (gDone_idle c a (sl k) 3 e) $$ [HA HB HV]
  · isplitl [HA]; · iexact HA
    isplitl [HB] <;> iassumption
  by_cases h : k0_cond6 v34 k = 1#1
  case' pos =>
    rw [dif_pos h, if_pos h]
    iapply (wp_enq_g1 𝒱 c bd a (sl k) 3 rfl rfl rfl (he' h) (gsem_eq rfl)) $$ Hi
    iintro Hi
    iapply (wp_enq_g2 𝒱 c bd a (sl k) 3 rfl rfl rfl (he' h) (gsem_eq rfl)) $$ Hi
    iintro Hi
  case' neg =>
    rw [dif_neg h, if_neg h]
  all_goals
    try simp only [ret_bind']
    iapply (wp_wait_g1 𝒱 c bd a (sl k) 4 256 e rfl (gsem_eq rfl)) $$ [Hg4 HO]
    · isplitl [Hg4] <;> iassumption
    iintro ⟨Hg4, HO⟩
    try simp only [ret_bind']
    iapply (le_wp_ret _ _)
    iapply HK
    isplitl [H13]; · iexact H13
    isplitl [Hi]; · iexact Hi
    isplitl [Hg4]; · iexact Hg4
    isplitl [HO]; · iexact HO
    isplitl [H3]; · iexact H3
    iexact Hsg

theorem run16 (v34 : BitVec 32) (hw12 : k0_chk12 v34) (k : Fin (k0_t3_loop v34).trips) (v53 v55 : BitVec 32) (hw13 : k0_chk13 v55) (v57 : BitVec 1) (e : Fin 32) (f13 : S64x1408.Idx → Elt F .bf16)
     {Q : _ → sProp 𝕄} :
    iprop((M13.view.loc (c : Thread nD τ) ↦{fullShare} (hMid a 4 e f13)) ∗ gHalf c a (sl k) 4 e ∗ ow c ∗ (M3.view.loc (c : Thread nD τ) ↦{fullShare} a.x) ∗ sgLand c a (sl k) e)
      ⊢ iprop((iprop((M13.view.loc (c : Thread nD τ) ↦{fullShare} (hMid a 5 e f13)) ∗ gDone c a (sl k) 4 e ∗ ow c ∗ (M3.view.loc (c : Thread nD τ) ↦{fullShare} a.x) ∗ sgLand c a (sl k) e)
          -∗ Q ⟨⟩)
        -∗ wp frame (wpE defs 𝒱 (c : Thread nD τ) bd) Set.univ
          (k0_part16 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57) Q) := by
  rw [k0_part16_eq_skeleton]
  unfold k0_part16_skel gDone
  iintro ⟨H13, Hg4, HO, H3, Hsg⟩ HK
  iapply (wp_wait_g2 𝒱 c bd a (sl k) 4 256 e rfl (gsem_eq rfl)) $$ [Hg4 HO]
  · isplitl [Hg4] <;> iassumption
  iintro ⟨⟨HA, HB, HV⟩, HO⟩
  iapply (wp_ld_g 𝒱 c bd a (sl k) 4 (L := 256) rfl (by decide) rfl) $$ HA
  iintro HA
  iapply (wp_ld_g 𝒱 c bd a (sl k) 10 (L := 256) rfl (by decide) rfl) $$ HB
  iintro HB
  iapply (wp_ld_x 𝒱 c bd) $$ H3
  iintro H3
  iapply (wp_ld_x 𝒱 c bd) $$ H3
  iintro H3
  iapply (wp_ld_sg 𝒱 c bd a (sl k) 1024 256 (by decide) rfl) $$ Hsg
  iintro Hsg
  iapply (wp_ld_sg 𝒱 c bd a (sl k) 2432 256 (by decide) rfl) $$ Hsg
  iintro Hsg
  iapply (wp_ld_dead 𝒱 c bd (fun _ => rfl)) $$ H13
  iintro H13
  iapply (wp_st_h 𝒱 c bd a 4 (by decide) (e := e) rfl rfl) $$ H13
  iintro H13
  simp only [ret_bind']
  try simp only [ret_bind']
  iapply (le_wp_ret _ _)
  iapply HK
  isplitl [H13]; · iexact H13
  isplitl [HA HB HV]
  · isplitl [HA]; · iexact HA
    isplitl [HB] <;> iassumption
  isplitl [HO]; · iexact HO
  isplitl [H3]; · iexact H3
  iexact Hsg

theorem run17 (v34 : BitVec 32) (hw12 : k0_chk12 v34) (k : Fin (k0_t3_loop v34).trips) (v53 v55 : BitVec 32) (hw13 : k0_chk13 v55) (v61 : BitVec 32) (hw14 : k0_chk14 v34 k v61) (e e' : Fin 32)
    (he' : k0_cond7 v34 k = 1#1 → v61.toNat = e') {Q : _ → sProp 𝕄} :
    iprop(gDone c a (sl k) 4 e ∗ gFly c a (sl k) 5 e ∗ ow c ∗ (M3.view.loc (c : Thread nD τ) ↦{fullShare} a.x) ∗ sgLand c a (sl k) e)
      ⊢ iprop((iprop((if k0_cond7 v34 k = 1#1 then gFly c a (sl k) 4 e' else gIdle c a (sl k) 4) ∗ gDone c a (sl k) 5 e ∗ ow c ∗ (M3.view.loc (c : Thread nD τ) ↦{fullShare} a.x) ∗ sgLand c a (sl k) e)
          -∗ Q ⟨k0_pay12 (gTile a 5 128 (by decide) e) (gTile a 11 128 (by decide) e) a.x (sgTile a 2688 128 (by decide) e), k0_pay13 (gTile a 5 128 (by decide) e) (gTile a 11 128 (by decide) e) a.x (sgTile a 1280 128 (by decide) e)⟩)
        -∗ wp frame (wpE defs 𝒱 (c : Thread nD τ) bd) Set.univ
          (k0_part17 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v61 hw14) Q) := by
  rw [k0_part17_eq_skeleton]
  unfold k0_part17_skel gDone
  iintro ⟨Hg4, Hg5, HO, H3, Hsg⟩ HK
  ihave Hi := (gDone_idle c a (sl k) 4 e) $$ Hg4
  by_cases h : k0_cond7 v34 k = 1#1
  case' pos =>
    rw [dif_pos h, if_pos h]
    iapply (wp_enq_g1 𝒱 c bd a (sl k) 4 rfl rfl rfl (he' h) (gsem_eq rfl)) $$ Hi
    iintro Hi
    iapply (wp_enq_g2 𝒱 c bd a (sl k) 4 rfl rfl rfl (he' h) (gsem_eq rfl)) $$ Hi
    iintro Hi
  case' neg =>
    rw [dif_neg h, if_neg h]
  all_goals
    try simp only [ret_bind']
    iapply (wp_wait_g1 𝒱 c bd a (sl k) 5 128 e rfl (gsem_eq rfl)) $$ [Hg5 HO]
    · isplitl [Hg5] <;> iassumption
    iintro ⟨Hg5, HO⟩
    iapply (wp_wait_g2 𝒱 c bd a (sl k) 5 128 e rfl (gsem_eq rfl)) $$ [Hg5 HO]
    · isplitl [Hg5] <;> iassumption
    iintro ⟨⟨HA, HB, HV⟩, HO⟩
    iapply (wp_ld_g 𝒱 c bd a (sl k) 5 (L := 128) rfl (by decide) rfl) $$ HA
    iintro HA
    iapply (wp_ld_g 𝒱 c bd a (sl k) 11 (L := 128) rfl (by decide) rfl) $$ HB
    iintro HB
    iapply (wp_ld_x 𝒱 c bd) $$ H3
    iintro H3
    iapply (wp_ld_sg 𝒱 c bd a (sl k) 1280 128 (by decide) rfl) $$ Hsg
    iintro Hsg
    iapply (wp_ld_sg 𝒱 c bd a (sl k) 2688 128 (by decide) rfl) $$ Hsg
    iintro Hsg
    try simp only [ret_bind']
    iapply (le_wp_ret _ _)
    iapply HK
    isplitl [Hi]; · iexact Hi
    isplitl [HA HB HV]
    · isplitl [HA]; · iexact HA
      isplitl [HB] <;> iassumption
    isplitl [HO]; · iexact HO
    isplitl [H3]; · iexact H3
    iexact Hsg

theorem run18 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v71 : S64x1.Idx → Elt F .f32) (v330 v332 : S64x128.Idx → Elt F .f32) (e e' : Fin 32) (f13 : S64x1408.Idx → Elt F .bf16) (f14 : S64x4096.Idx → Elt F .f32)
    (he' : k0_cond8 v34 k = 1#1 → v61.toNat = e') (h71 : v71 = cCol a e) (h330 : v330 = k0_pay12 (gTile a 5 128 (by decide) e) (gTile a 11 128 (by decide) e) a.x (sgTile a 2688 128 (by decide) e)) (h332 : v332 = k0_pay13 (gTile a 5 128 (by decide) e) (gTile a 11 128 (by decide) e) a.x (sgTile a 1280 128 (by decide) e)) {Q : _ → sProp 𝕄} :
    iprop((M13.view.loc (c : Thread nD τ) ↦{fullShare} (hMid a 5 e f13)) ∗ (M14.view.loc (c : Thread nD τ) ↦{fullShare} (accMid a 0 e f14)) ∗ gDone c a (sl k) 5 e ∗ dFly c a (sl k) 0 e ∗ ow c ∗ sdLand c a (sl k) e)
      ⊢ iprop((iprop((M13.view.loc (c : Thread nD τ) ↦{fullShare} (hVal a e)) ∗ (M14.view.loc (c : Thread nD τ) ↦{fullShare} (accMid a 1 e f14)) ∗ (if k0_cond8 v34 k = 1#1 then gFly c a (sl k) 5 e' else gIdle c a (sl k) 5) ∗ (if k0_cond9 v34 k = 1#1 then dFly c a (sl k) 0 e' else dIdle c a (sl k) 0) ∗ ow c ∗ sdLand c a (sl k) e)
          -∗ Q ⟨⟩)
        -∗ wp frame (wpE defs 𝒱 (c : Thread nD τ) bd) Set.univ
          (k0_part18 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v71 v330 v332) Q) := by
  rw [k0_part18_eq_skeleton]
  unfold k0_part18_skel gDone
  iintro ⟨H13, H14, Hg5, Hd0, HO, Hsd⟩ HK
  iapply (wp_ld_dead 𝒱 c bd (fun _ => rfl)) $$ H13
  iintro H13
  iapply (wp_st_h5 𝒱 c bd a (e := e) rfl (by subst h330 h332; rfl)) $$ H13
  iintro H13
  simp only [ret_bind']
  ihave Hi := (gDone_idle c a (sl k) 5 e) $$ Hg5
  by_cases h : k0_cond8 v34 k = 1#1
  case' pos =>
    rw [dif_pos h, if_pos h]
    iapply (wp_enq_g1 𝒱 c bd a (sl k) 5 rfl rfl rfl (he' h) (gsem_eq rfl)) $$ Hi
    iintro Hi
    iapply (wp_enq_g2 𝒱 c bd a (sl k) 5 rfl rfl rfl (he' h) (gsem_eq rfl)) $$ Hi
    iintro Hi
  case' neg =>
    rw [dif_neg h, if_neg h]
  all_goals
    try simp only [ret_bind']
    iapply (wp_wait_d 𝒱 c bd a (sl k) 0 e (dsem_eq rfl)) $$ [Hd0 HO]
    · isplitl [Hd0] <;> iassumption
    iintro ⟨⟨HD, HVd⟩, HO⟩
    iapply (wp_ld_h 𝒱 c bd) $$ H13
    iintro H13
    iapply (wp_ld_d 𝒱 c bd a (sl k) 0 (by decide) rfl) $$ HD
    iintro HD
    iapply (wp_ld_acc 𝒱 c bd a 0 (by decide) (e := e) (f := f14) rfl) $$ H14
    iintro H14
    iapply (wp_ld_sd 𝒱 c bd a (sl k) 0 (by decide) rfl) $$ Hsd
    iintro Hsd
    iapply (wp_ld_dead 𝒱 c bd (fun _ => rfl)) $$ H14
    iintro H14
    iapply (wp_st_acc 𝒱 c bd a 0 (by decide) (e := e) (f := f14) rfl (by subst h71; rfl)) $$ H14
    iintro H14
    simp only [ret_bind']
    ihave Hj := (dDone_idle c a (sl k) 0 e) $$ [HD HVd]
    · isplitl [HD] <;> iassumption
    by_cases h' : k0_cond9 v34 k = 1#1
    case' pos =>
      rw [dif_pos h', if_pos h']
      iapply (wp_enq_d1 𝒱 c bd a (sl k) 0 rfl rfl (he' h') (dsem_eq rfl)) $$ Hj
      iintro Hj
    case' neg =>
      rw [dif_neg h', if_neg h']
    all_goals
      try simp only [ret_bind']
      iapply (le_wp_ret _ _)
      iapply HK
      isplitl [H13]; · iexact H13
      isplitl [H14]; · iexact H14
      isplitl [Hi]; · iexact Hi
      isplitl [Hj]; · iexact Hj
      isplitl [HO]; · iexact HO
      iexact Hsd

theorem run19 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v71 : S64x1.Idx → Elt F .f32) (e e' : Fin 32) (f14 : S64x4096.Idx → Elt F .f32)
    (he' : k0_cond10 v34 k = 1#1 → v61.toNat = e') (h71 : v71 = cCol a e) {Q : _ → sProp 𝕄} :
    iprop((M13.view.loc (c : Thread nD τ) ↦{fullShare} (hVal a e)) ∗ (M14.view.loc (c : Thread nD τ) ↦{fullShare} (accMid a 1 e f14)) ∗ dFly c a (sl k) 1 e ∗ dFly c a (sl k) 2 e ∗ ow c ∗ sdLand c a (sl k) e)
      ⊢ iprop((iprop((M13.view.loc (c : Thread nD τ) ↦{fullShare} (hVal a e)) ∗ (M14.view.loc (c : Thread nD τ) ↦{fullShare} (accMid a 2 e f14)) ∗ (if k0_cond10 v34 k = 1#1 then dFly c a (sl k) 1 e' else dIdle c a (sl k) 1) ∗ dDone c a (sl k) 2 e ∗ ow c ∗ sdLand c a (sl k) e)
          -∗ Q (hVal a e))
        -∗ wp frame (wpE defs 𝒱 (c : Thread nD τ) bd) Set.univ
          (k0_part19 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v71) Q) := by
  rw [k0_part19_eq_skeleton]
  unfold k0_part19_skel dDone
  iintro ⟨H13, H14, Hd1, Hd2, HO, Hsd⟩ HK
  iapply (wp_wait_d 𝒱 c bd a (sl k) 1 e (dsem_eq rfl)) $$ [Hd1 HO]
  · isplitl [Hd1] <;> iassumption
  iintro ⟨⟨HD, HVd⟩, HO⟩
  iapply (wp_ld_h 𝒱 c bd) $$ H13
  iintro H13
  iapply (wp_ld_d 𝒱 c bd a (sl k) 1 (by decide) rfl) $$ HD
  iintro HD
  iapply (wp_ld_acc 𝒱 c bd a 1 (by decide) (e := e) (f := f14) rfl) $$ H14
  iintro H14
  iapply (wp_ld_sd 𝒱 c bd a (sl k) 1 (by decide) rfl) $$ Hsd
  iintro Hsd
  iapply (wp_ld_dead 𝒱 c bd (fun _ => rfl)) $$ H14
  iintro H14
  iapply (wp_st_acc 𝒱 c bd a 1 (by decide) (e := e) (f := f14) rfl (by subst h71; rfl)) $$ H14
  iintro H14
  simp only [ret_bind']
  ihave Hj := (dDone_idle c a (sl k) 1 e) $$ [HD HVd]
  · isplitl [HD] <;> iassumption
  by_cases h : k0_cond10 v34 k = 1#1
  case' pos =>
    rw [dif_pos h, if_pos h]
    iapply (wp_enq_d1 𝒱 c bd a (sl k) 1 rfl rfl (he' h) (dsem_eq rfl)) $$ Hj
    iintro Hj
  case' neg =>
    rw [dif_neg h, if_neg h]
  all_goals
    try simp only [ret_bind']
    iapply (wp_wait_d 𝒱 c bd a (sl k) 2 e (dsem_eq rfl)) $$ [Hd2 HO]
    · isplitl [Hd2] <;> iassumption
    iintro ⟨⟨HD, HVd⟩, HO⟩
    iapply (wp_ld_h 𝒱 c bd) $$ H13
    iintro H13
    try simp only [ret_bind']
    iapply (le_wp_ret _ _)
    iapply HK
    isplitl [H13]; · iexact H13
    isplitl [H14]; · iexact H14
    isplitl [Hj]; · iexact Hj
    isplitl [HD HVd]
    · isplitl [HD] <;> iassumption
    isplitl [HO]; · iexact HO
    iexact Hsd

theorem run20 (v34 : BitVec 32) (hw12 : k0_chk12 v34) (k : Fin (k0_t3_loop v34).trips) (v53 v55 : BitVec 32) (hw13 : k0_chk13 v55) (v57 : BitVec 1) (v61 : BitVec 32) (hw14 : k0_chk14 v34 k v61) (v71 : S64x1.Idx → Elt F .f32) (v396 : S64x1408.Idx → Elt F .bf16) (e e' : Fin 32) (f14 : S64x4096.Idx → Elt F .f32)
    (he' : k0_cond11 v34 k = 1#1 → v61.toNat = e') (h71 : v71 = cCol a e) (h396 : v396 = hVal a e) {Q : _ → sProp 𝕄} :
    iprop((M13.view.loc (c : Thread nD τ) ↦{fullShare} (hVal a e)) ∗ (M14.view.loc (c : Thread nD τ) ↦{fullShare} (accMid a 2 e f14)) ∗ dDone c a (sl k) 2 e ∗ dFly c a (sl k) 3 e ∗ ow c ∗ sdLand c a (sl k) e)
      ⊢ iprop((iprop((M13.view.loc (c : Thread nD τ) ↦{fullShare} (hVal a e)) ∗ (M14.view.loc (c : Thread nD τ) ↦{fullShare} (accMid a 3 e f14)) ∗ (if k0_cond11 v34 k = 1#1 then dFly c a (sl k) 2 e' else dIdle c a (sl k) 2) ∗ dDone c a (sl k) 3 e ∗ ow c ∗ sdLand c a (sl k) e)
          -∗ Q ⟨accTile 3 (by decide) f14, k0_pay18 (hVal a e) (dTile a 3 (by decide) e) (sdTile a 3 (by decide) e), k0_pay19 v71⟩)
        -∗ wp frame (wpE defs 𝒱 (c : Thread nD τ) bd) Set.univ
          (k0_part20 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k v53 v55 hw13 v57 v61 hw14 v71 v396) Q) := by
  rw [k0_part20_eq_skeleton]
  unfold k0_part20_skel dDone
  iintro ⟨H13, H14, Hd2, Hd3, HO, Hsd⟩ HK
  icases Hd2 with ⟨HD, HVd⟩
  iapply (wp_ld_d 𝒱 c bd a (sl k) 2 (by decide) rfl) $$ HD
  iintro HD
  iapply (wp_ld_acc 𝒱 c bd a 2 (by decide) (e := e) (f := f14) rfl) $$ H14
  iintro H14
  iapply (wp_ld_sd 𝒱 c bd a (sl k) 2 (by decide) rfl) $$ Hsd
  iintro Hsd
  iapply (wp_ld_dead 𝒱 c bd (fun _ => rfl)) $$ H14
  iintro H14
  iapply (wp_st_acc 𝒱 c bd a 2 (by decide) (e := e) (f := f14) rfl (by subst h71 h396; rfl)) $$ H14
  iintro H14
  simp only [ret_bind']
  ihave Hj := (dDone_idle c a (sl k) 2 e) $$ [HD HVd]
  · isplitl [HD] <;> iassumption
  by_cases h : k0_cond11 v34 k = 1#1
  case' pos =>
    rw [dif_pos h, if_pos h]
    iapply (wp_enq_d1 𝒱 c bd a (sl k) 2 rfl rfl (he' h) (dsem_eq rfl)) $$ Hj
    iintro Hj
  case' neg =>
    rw [dif_neg h, if_neg h]
  all_goals
    try simp only [ret_bind']
    iapply (wp_wait_d 𝒱 c bd a (sl k) 3 e (dsem_eq rfl)) $$ [Hd3 HO]
    · isplitl [Hd3] <;> iassumption
    iintro ⟨⟨HD, HVd⟩, HO⟩
    iapply (wp_ld_h 𝒱 c bd) $$ H13
    iintro H13
    iapply (wp_ld_d 𝒱 c bd a (sl k) 3 (by decide) rfl) $$ HD
    iintro HD
    iapply (wp_ld_acc 𝒱 c bd a 3 (by decide) (e := e) (f := f14) rfl) $$ H14
    iintro H14
    iapply (wp_ld_sd 𝒱 c bd a (sl k) 3 (by decide) rfl) $$ Hsd
    iintro Hsd
    try simp only [ret_bind']
    iapply (le_wp_ret _ _)
    iapply HK
    isplitl [H13]; · iexact H13
    isplitl [H14]; · iexact H14
    isplitl [Hj]; · iexact Hj
    isplitl [HD HVd]
    · isplitl [HD] <;> iassumption
    isplitl [HO]; · iexact HO
    iexact Hsd

end Cert.KernelIdeal.Hand
-- ==== Proof.KernelIdeal.Trip.lean ====
/-
  One trip of the main loop.
-/
module

public import proofs.«01_k».proof.Proof.KernelIdeal.TripA
public import proofs.«01_k».proof.Proof.KernelIdeal.TripB

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- Every transfer of expert `e` into slot `s` in flight; the slot at rest. -/
def slotFly (s : ℕ) (e : Fin 32) : sProp 𝕄 :=
  iprop(zFly c a s e 0 ∗ gFly c a s 1 e ∗ gFly c a s 2 e ∗ gFly c a s 3 e ∗ gFly c a s 4 e ∗ gFly c a s 5 e ∗ dFly c a s 0 e ∗ dFly c a s 1 e ∗ dFly c a s 2 e ∗ dFly c a s 3 e)
def slotIdle (s : ℕ) : sProp 𝕄 :=
  iprop(zIdle c a s ∗ gIdle c a s 1 ∗ gIdle c a s 2 ∗ gIdle c a s 3 ∗ gIdle c a s 4 ∗ gIdle c a s 5 ∗ dIdle c a s 0 ∗ dIdle c a s 1 ∗ dIdle c a s 2 ∗ dIdle c a s 3)

theorem trip (v34 : BitVec 32) (hw12 : k0_chk12 v34) (k : Fin (k0_t3_loop v34).trips) (e e' : Fin 32) (ord : S33.Idx → BitVec 32) (n1 n2 : ℕ)
    (q : PosShare TreeShare) (f13 : S64x1408.Idx → Elt F .bf16) (f14 : S64x4096.Idx → Elt F .f32)
    (ho1 : k0_off55 v34 k = ![n1]) (ho2 : k0_off56 v34 k = ![n2]) (hw13 : k0_chk13 (ordAt ord n1)) (hw14 : k0_chk14 v34 k (ordAt ord n2))
    (he : (ordAt ord n1).toNat = e) (he' : k0_cond3 v34 k = 1#1 → (ordAt ord n2).toNat = e') {Q : _ → sProp 𝕄} :
    iprop((M16.view.loc (c : Thread nD τ) ↦{q} ord) ∗ (M1.view.loc (c : Thread nD τ) ↦{fullShare} a.ids) ∗ (M2.view.loc (c : Thread nD τ) ↦{fullShare} a.cw) ∗ (M3.view.loc (c : Thread nD τ) ↦{fullShare} a.x) ∗ (M13.view.loc (c : Thread nD τ) ↦{fullShare} f13) ∗ (M14.view.loc (c : Thread nD τ) ↦{fullShare} f14) ∗ ow c ∗ slotFly c a (sl k) e)
      ⊢ iprop((iprop((M16.view.loc (c : Thread nD τ) ↦{q} ord) ∗ (M1.view.loc (c : Thread nD τ) ↦{fullShare} a.ids) ∗ (M2.view.loc (c : Thread nD τ) ↦{fullShare} a.cw) ∗ (M3.view.loc (c : Thread nD τ) ↦{fullShare} a.x) ∗ (M13.view.loc (c : Thread nD τ) ↦{fullShare} (hVal a e)) ∗ (M14.view.loc (c : Thread nD τ) ↦{fullShare} (accNext a e f14)) ∗ ow c
          ∗ (if k0_cond3 v34 k = 1#1 then slotFly c a (sl k) e' else slotIdle c a (sl k)))
          -∗ Q ())
        -∗ wp frame (wpE defs 𝒱 (c : Thread nD τ) bd) Set.univ (k0_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 hw12 k ()) Q) := by
  unfold k0_t3_body slotFly
  iintro ⟨H16, H1, H2, H3, H13, H14, HO, Hz, Hg1, Hg2, Hg3, Hg4, Hg5, Hd0, Hd1, Hd2, Hd3⟩ HK
  rw [← hMid_zero a e f13, ← accMid_zero a e f14]
  rw [wp_bind]
  iapply (run10 𝒱 c bd a v34 hw12 k 0#32 1#32 e ord n1 n2 q rfl rfl ho1 ho2 hw13 hw14 he) $$ [H16 H1 H2 Hz HO]
  · isplitl [H16]; · iexact H16
    isplitl [H1]; · iexact H1
    isplitl [H2]; · iexact H2
    isplitl [Hz]; · iexact Hz
    iexact HO
  iintro ⟨H16, H1, H2, Hz, HO⟩
  rw [wp_bind]
  iapply (run11 𝒱 c bd a v34 hw12 k _ _ hw13 e f13) $$ [Hz HO H3 H13]
  · isplitl [Hz]; · iexact Hz
    isplitl [HO]; · iexact HO
    isplitl [H3]; · iexact H3
    iexact H13
  iintro ⟨Hg0, Hsg, Hsd, HO, H3, H13⟩
  rw [wp_bind]
  iapply (run12 𝒱 c bd a v34 hw12 k _ _ hw13 _ _ hw14 _ e e' f13 he' rfl) $$ [H13 Hg0 Hg1 HO H3 Hsg]
  · isplitl [H13]; · iexact H13
    isplitl [Hg0]; · iexact Hg0
    isplitl [Hg1]; · iexact Hg1
    isplitl [HO]; · iexact HO
    isplitl [H3]; · iexact H3
    iexact Hsg
  iintro ⟨H13, Hz, Hg1, HO, H3, Hsg⟩
  rw [wp_bind]
  iapply (run13 𝒱 c bd a v34 hw12 k _ _ hw13 _ _ hw14 _ _ e e' f13 he' rfl rfl) $$ [H13 Hg1 Hg2 HO H3 Hsg]
  · isplitl [H13]; · iexact H13
    isplitl [Hg1]; · iexact Hg1
    isplitl [Hg2]; · iexact Hg2
    isplitl [HO]; · iexact HO
    isplitl [H3]; · iexact H3
    iexact Hsg
  iintro ⟨H13, Hg1, Hg2, HO, H3, Hsg⟩
  rw [wp_bind]
  iapply (run14 𝒱 c bd a v34 hw12 k _ _ hw13 _ _ hw14 _ _ e e' f13 he' rfl rfl) $$ [H13 Hg2 Hg3 HO H3 Hsg]
  · isplitl [H13]; · iexact H13
    isplitl [Hg2]; · iexact Hg2
    isplitl [Hg3]; · iexact Hg3
    isplitl [HO]; · iexact HO
    isplitl [H3]; · iexact H3
    iexact Hsg
  iintro ⟨H13, Hg2, Hg3, HO, H3, Hsg⟩
  rw [wp_bind]
  iapply (run15 𝒱 c bd a v34 hw12 k _ _ hw13 _ _ hw14 e e' f13 he') $$ [H13 Hg3 Hg4 HO H3 Hsg]
  · isplitl [H13]; · iexact H13
    isplitl [Hg3]; · iexact Hg3
    isplitl [Hg4]; · iexact Hg4
    isplitl [HO]; · iexact HO
    isplitl [H3]; · iexact H3
    iexact Hsg
  iintro ⟨H13, Hg3, Hg4, HO, H3, Hsg⟩
  rw [wp_bind]
  iapply (run16 𝒱 c bd a v34 hw12 k _ _ hw13 _ e f13) $$ [H13 Hg4 HO H3 Hsg]
  · isplitl [H13]; · iexact H13
    isplitl [Hg4]; · iexact Hg4
    isplitl [HO]; · iexact HO
    isplitl [H3]; · iexact H3
    iexact Hsg
  iintro ⟨H13, Hg4, HO, H3, Hsg⟩
  rw [wp_bind]
  iapply (run17 𝒱 c bd a v34 hw12 k _ _ hw13 _ hw14 e e' he') $$ [Hg4 Hg5 HO H3 Hsg]
  · isplitl [Hg4]; · iexact Hg4
    isplitl [Hg5]; · iexact Hg5
    isplitl [HO]; · iexact HO
    isplitl [H3]; · iexact H3
    iexact Hsg
  iintro ⟨Hg4, Hg5, HO, H3, Hsg⟩
  rw [wp_bind]
  iapply (run18 𝒱 c bd a v34 hw12 k _ _ hw13 _ _ hw14 _ _ _ e e' f13 f14 he' rfl rfl rfl) $$ [H13 H14 Hg5 Hd0 HO Hsd]
  · isplitl [H13]; · iexact H13
    isplitl [H14]; · iexact H14
    isplitl [Hg5]; · iexact Hg5
    isplitl [Hd0]; · iexact Hd0
    isplitl [HO]; · iexact HO
    iexact Hsd
  iintro ⟨H13, H14, Hg5, Hd0, HO, Hsd⟩
  rw [wp_bind]
  iapply (run19 𝒱 c bd a v34 hw12 k _ _ hw13 _ _ hw14 _ e e' f14 he' rfl) $$ [H13 H14 Hd1 Hd2 HO Hsd]
  · isplitl [H13]; · iexact H13
    isplitl [H14]; · iexact H14
    isplitl [Hd1]; · iexact Hd1
    isplitl [Hd2]; · iexact Hd2
    isplitl [HO]; · iexact HO
    iexact Hsd
  iintro ⟨H13, H14, Hd1, Hd2, HO, Hsd⟩
  rw [wp_bind]
  iapply (run20 𝒱 c bd a v34 hw12 k _ _ hw13 _ _ hw14 _ _ e e' f14 he' rfl rfl) $$ [H13 H14 Hd2 Hd3 HO Hsd]
  · isplitl [H13]; · iexact H13
    isplitl [H14]; · iexact H14
    isplitl [Hd2]; · iexact Hd2
    isplitl [Hd3]; · iexact Hd3
    isplitl [HO]; · iexact HO
    iexact Hsd
  iintro ⟨H13, H14, Hd2, Hd3, HO, Hsd⟩
  unfold dDone
  icases Hd3 with ⟨HD, HVd⟩
  iapply (wp_ld_dead 𝒱 c bd (fun _ => rfl)) $$ H14
  iintro H14
  iapply (wp_st_acc 𝒱 c bd a 3 (by decide) (e := e) (f := f14) rfl rfl) $$ H14
  iintro H14
  ihave Hd3 := (dDone_idle c a (sl k) 3 e) $$ [HD HVd]
  · isplitl [HD] <;> iassumption
  ihave Hsg := (sgLand_home c a (sl k) e) $$ Hsg
  ihave Hsd := (sdLand_home c a (sl k) e) $$ Hsd
  rw [show accMid a (3 + 1) e f14 = accNext a e f14 from accMid_four a e f14]
  try simp only [ret_bind']
  by_cases h : k0_cond3 v34 k = 1#1
  · have h4 : k0_cond4 v34 k = 1#1 := h
    have h5 : k0_cond5 v34 k = 1#1 := h
    have h6 : k0_cond6 v34 k = 1#1 := h
    have h7 : k0_cond7 v34 k = 1#1 := h
    have h8 : k0_cond8 v34 k = 1#1 := h
    have h9 : k0_cond9 v34 k = 1#1 := h
    have h10 : k0_cond10 v34 k = 1#1 := h
    have h11 : k0_cond11 v34 k = 1#1 := h
    have h12 : k0_cond12 v34 k = 1#1 := h
    rw [dif_pos h12]
    simp only [if_pos h, if_pos h4, if_pos h5, if_pos h6, if_pos h7, if_pos h8, if_pos h9, if_pos h10, if_pos h11]
    iapply (wp_enq_d1 𝒱 c bd a (sl k) 3 rfl rfl (he' h) (dsem_eq rfl)) $$ Hd3
    iintro Hd3
    iapply (wp_enq_z3 𝒱 c bd a (sl k) rfl rfl (he' h) (gsem_eq rfl)) $$ [Hsg Hz]
    · isplitl [Hsg] <;> iassumption
    iintro Hz
    iapply (wp_enq_z4 𝒱 c bd a (sl k) rfl rfl (he' h) (gsem_eq rfl)) $$ [Hsd Hz]
    · isplitl [Hsd] <;> iassumption
    iintro Hz
    iapply (le_wp_ret _ _)
    iapply HK
    isplitl [H16]; · iexact H16
    isplitl [H1]; · iexact H1
    isplitl [H2]; · iexact H2
    isplitl [H3]; · iexact H3
    isplitl [H13]; · iexact H13
    isplitl [H14]; · iexact H14
    isplitl [HO]; · iexact HO
    isplitl [Hz]; · iexact Hz
    isplitl [Hg1]; · iexact Hg1
    isplitl [Hg2]; · iexact Hg2
    isplitl [Hg3]; · iexact Hg3
    isplitl [Hg4]; · iexact Hg4
    isplitl [Hg5]; · iexact Hg5
    isplitl [Hd0]; · iexact Hd0
    isplitl [Hd1]; · iexact Hd1
    isplitl [Hd2]; · iexact Hd2
    iexact Hd3
  · have h4 : ¬ k0_cond4 v34 k = 1#1 := h
    have h5 : ¬ k0_cond5 v34 k = 1#1 := h
    have h6 : ¬ k0_cond6 v34 k = 1#1 := h
    have h7 : ¬ k0_cond7 v34 k = 1#1 := h
    have h8 : ¬ k0_cond8 v34 k = 1#1 := h
    have h9 : ¬ k0_cond9 v34 k = 1#1 := h
    have h10 : ¬ k0_cond10 v34 k = 1#1 := h
    have h11 : ¬ k0_cond11 v34 k = 1#1 := h
    have h12 : ¬ k0_cond12 v34 k = 1#1 := h
    rw [dif_neg h12]
    simp only [if_neg h, if_neg h4, if_neg h5, if_neg h6, if_neg h7, if_neg h8, if_neg h9, if_neg h10, if_neg h11]
    iapply (le_wp_ret _ _)
    iapply HK
    unfold slotIdle zIdle gIdle
    icases Hz with ⟨Hz1, Hz2, HV⟩
    isplitl [H16]; · iexact H16
    isplitl [H1]; · iexact H1
    isplitl [H2]; · iexact H2
    isplitl [H3]; · iexact H3
    isplitl [H13]; · iexact H13
    isplitl [H14]; · iexact H14
    isplitl [HO]; · iexact HO
    isplitl [Hz1 Hz2 Hsg Hsd HV]
    · isplitr [HV]
      · isplitl [Hz1]; · iexact Hz1
        isplitl [Hz2]; · iexact Hz2
        isplitl [Hsg]; · iexact Hsg
        iexact Hsd
      iexact HV
    isplitl [Hg1]; · iexact Hg1
    isplitl [Hg2]; · iexact Hg2
    isplitl [Hg3]; · iexact Hg3
    isplitl [Hg4]; · iexact Hg4
    isplitl [Hg5]; · iexact Hg5
    isplitl [Hd0]; · iexact Hd0
    isplitl [Hd1]; · iexact Hd1
    isplitl [Hd2]; · iexact Hd2
    iexact Hd3

end Cert.KernelIdeal.Hand
-- ==== Proof.KernelIdeal.Words.lean ====
/-
  The words the kernel computes: trips, offsets, conditions, and the facts assumed of them.
-/
module

public import proofs.«01_k».proof.Proof.KernelIdeal.Loads
public import Idealize.ShloMosaic.Lib.Tactic.Disch

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem t3_trips : ∀ n : Fin 33, (k0_t3_loop (BitVec.ofNat 32 n)).trips = n := by decide +kernel
theorem t4_trips : ∀ n : Fin 33, (k0_t4_loop (BitVec.ofNat 32 n)).trips = 0 := by decide +kernel
theorem t3_slot : ∀ n : Fin 33, ∀ k : Fin (k0_t3_loop (BitVec.ofNat 32 n)).trips, sl k = k % 2 := by decide +kernel
theorem t3_off55 : ∀ n : Fin 33, ∀ k : Fin (k0_t3_loop (BitVec.ofNat 32 n)).trips, k0_off55 (BitVec.ofNat 32 n) k = ![(k : ℕ)] := by decide +kernel
theorem t3_off56 : ∀ n : Fin 33, ∀ k : Fin (k0_t3_loop (BitVec.ofNat 32 n)).trips,
    k0_off56 (BitVec.ofNat 32 n) k = ![min ((k : ℕ) + 2) ((n : ℕ) - 1)] := by decide +kernel
theorem t3_cond : ∀ n : Fin 33, ∀ k : Fin (k0_t3_loop (BitVec.ofNat 32 n)).trips,
    (k0_cond3 (BitVec.ofNat 32 n) k = 1#1 ↔ (k : ℕ) + 2 < n) := by decide +kernel
theorem cond1_iff : ∀ n : Fin 33, (k0_cond1 (BitVec.ofNat 32 n) = 1#1 ↔ 0 < (n : ℕ)) := by decide +kernel
theorem cond2_iff : ∀ n : Fin 33, (k0_cond2 (BitVec.ofNat 32 n) = 1#1 ↔ 1 < (n : ℕ)) := by decide +kernel

theorem slot_lt (n : Fin 33) (k : Fin (k0_t3_loop (BitVec.ofNat 32 n)).trips) :
    (Scalar.remsi (Scf.iv 0#32 1#32 k) 2#32).toNat + 1 ≤ 2 := by
  have := t3_slot n k
  unfold sl at this
  omega

/-! Bounds, axis by axis; words whole at a row offset that is a multiple of four. -/

theorem inb1 {x D : ℕ} (h : x + 1 ≤ D) (a : Fin 1) : (![x] : Fin 1 → ℕ) a + (![1] : Fin 1 → ℕ) a ≤ (![D] : Fin 1 → ℕ) a := by
  fin_cases a; exact h
theorem inb2 {x y L M D E : ℕ} (h : x + L ≤ D) (h' : Nat.ble (y + M) E = true) (a : Fin 2) :
    (![x, y] : Fin 2 → ℕ) a + (![L, M] : Fin 2 → ℕ) a ≤ (![D, E] : Fin 2 → ℕ) a := by
  fin_cases a
  · exact h
  · exact Nat.le_of_ble_eq_true h'
theorem inb3 {x y z L M N D E G : ℕ} (h : x + L ≤ D) (h' : Nat.ble (y + M) E = true) (h'' : Nat.ble (z + N) G = true) (a : Fin 3) :
    (![x, y, z] : Fin 3 → ℕ) a + (![L, M, N] : Fin 3 → ℕ) a ≤ (![D, E, G] : Fin 3 → ℕ) a := by
  fin_cases a
  · exact h
  · exact Nat.le_of_ble_eq_true h'
  · exact Nat.le_of_ble_eq_true h''
theorem words3 {A B C x y z L M N : ℕ}
    {inb : ∀ a : Fin 3, (![x, y, z] : Fin 3 → ℕ) a + (![L, M, N] : Fin 3 → ℕ) a ≤ (![A, B, C] : Fin 3 → ℕ) a}
    (ho : Nat.beq (y % 4) 0 = true) (hs : Nat.beq (M % 4) 0 = true) :
    (Rect.unit (s := ⟨3, ![A, B, C]⟩) ![x, y, z] ![L, M, N] inb).WholeWords (EltTy.packing .fp8e4m3) := by
  have h1 : 4 ∣ y := Nat.dvd_of_mod_eq_zero (Nat.eq_of_beq_eq_true ho)
  have h2 : 4 ∣ M := Nat.dvd_of_mod_eq_zero (Nat.eq_of_beq_eq_true hs)
  have h1' : EltTy.packing .fp8e4m3 ∣ (![x, y, z] : Fin 3 → ℕ) (Shape.rowAx (s := ⟨3, ![A, B, C]⟩) (by decide : 2 ≤ 3)) := h1
  have h2' : EltTy.packing .fp8e4m3 ∣ (![L, M, N] : Fin 3 → ℕ) (Shape.rowAx (s := ⟨3, ![A, B, C]⟩) (by decide : 2 ≤ 3)) := h2
  exact Affine.words_of_packed (Affine.packed_dvd (by decide : 2 ≤ 3) h1' h2')

theorem chk9_of (v : BitVec 32) (h : v.toNat < 33) : k0_chk9 v := fun a => inb1 (x := v.toNat) (D := 33) (by omega) a
theorem chk1_of (v : BitVec 32) (h : v.toNat < 32) : k0_chk1 v := fun a => inb1 (x := v.toNat) (D := 32) (by omega) a
theorem chk13_of (v : BitVec 32) (h : v.toNat < 32) : k0_chk13 v := by
  repeat' apply And.intro
  all_goals first
    | (intros; exact inb3 (Nat.succ_le_of_lt h) rfl rfl _)
    | (intros; exact inb2 (Nat.succ_le_of_lt h) rfl _)
    | (intros; exact words3 rfl rfl)
theorem chk10_of (v34 v : BitVec 32) (h : v.toNat < 32) : k0_chk10 v34 v := by
  repeat' apply And.intro
  all_goals first
    | (intros; exact inb3 (Nat.succ_le_of_lt h) rfl rfl _)
    | (intros; exact inb2 (Nat.succ_le_of_lt h) rfl _)
    | (intros; exact words3 rfl rfl)
theorem chk11_of (v34 v : BitVec 32) (h : v.toNat < 32) : k0_chk11 v34 v := by
  repeat' apply And.intro
  all_goals first
    | (intros; exact inb3 (Nat.succ_le_of_lt h) rfl rfl _)
    | (intros; exact inb2 (Nat.succ_le_of_lt h) rfl _)
    | (intros; exact words3 rfl rfl)
theorem chk14_of (v34 : BitVec 32) (k : Fin (k0_t3_loop v34).trips) (v : BitVec 32) (h : v.toNat < 32) : k0_chk14 v34 k v := by
  repeat' apply And.intro
  all_goals first
    | (intros; exact inb3 (Nat.succ_le_of_lt h) rfl rfl _)
    | (intros; exact inb2 (Nat.succ_le_of_lt h) rfl _)
    | (intros; exact words3 rfl rfl)

theorem off55_inb (n : Fin 33) (k : Fin (k0_t3_loop (BitVec.ofNat 32 n)).trips) (a : Fin 1) :
    k0_off55 (BitVec.ofNat 32 n) k a + S1.size a ≤ S33.size a := by
  rw [t3_off55]
  have := k.isLt.trans_eq (t3_trips n)
  exact inb1 (D := 33) (by omega) a
theorem off56_inb (n : Fin 33) (k : Fin (k0_t3_loop (BitVec.ofNat 32 n)).trips) (a : Fin 1) :
    k0_off56 (BitVec.ofNat 32 n) k a + S1.size a ≤ S33.size a := by
  rw [t3_off56]
  have := k.isLt.trans_eq (t3_trips n)
  exact inb1 (D := 33) (by omega) a

theorem t3_ok1 : ∀ n : Fin 33, 0 < (k0_t3_loop (BitVec.ofNat 32 n)).st.toInt := by decide +kernel
theorem t3_ok2 : ∀ n : Fin 33, (k0_t3_loop (BitVec.ofNat 32 n)).lb.toInt +
      ↑(Scf.trips (k0_t3_loop (BitVec.ofNat 32 n)).lb (k0_t3_loop (BitVec.ofNat 32 n)).ub (k0_t3_loop (BitVec.ofNat 32 n)).st) *
        (k0_t3_loop (BitVec.ofNat 32 n)).st.toInt < 2 ^ (32 - 1) := by decide +kernel
theorem t4_ok1 : ∀ n : Fin 33, 0 < (k0_t4_loop (BitVec.ofNat 32 n)).st.toInt := by decide +kernel
theorem t4_ok2 : ∀ n : Fin 33, (k0_t4_loop (BitVec.ofNat 32 n)).lb.toInt +
      ↑(Scf.trips (k0_t4_loop (BitVec.ofNat 32 n)).lb (k0_t4_loop (BitVec.ofNat 32 n)).ub (k0_t4_loop (BitVec.ofNat 32 n)).st) *
        (k0_t4_loop (BitVec.ofNat 32 n)).st.toInt < 2 ^ (32 - 1) := by decide +kernel
theorem t4_elim (n : Fin 33) (k : Fin (k0_t4_loop (BitVec.ofNat 32 n)).trips) : False :=
  Nat.not_lt_zero _ (k.isLt.trans_eq (t4_trips n))

theorem chk12_of (n : Fin 33) : k0_chk12 (BitVec.ofNat 32 n) := by
  repeat' apply And.intro
  all_goals first
    | with_reducible exact t3_ok1 n
    | with_reducible exact t3_ok2 n
    | with_reducible exact t4_ok1 n
    | with_reducible exact t4_ok2 n
    | ((with_reducible intro k); with_reducible exact (t4_elim n k).elim)
    | (intro k; with_reducible exact off55_inb n k)
    | (intro k; intros; with_reducible exact off56_inb n k _)
    | (intro k; intros; (with_reducible show Rect.WholeWords _ _); exact words3 rfl rfl)
    | (intro k; intros; (with_reducible show _ + _ ≤ _); exact inb3 (slot_lt n k) rfl rfl _)
    | (intro k; intros; (with_reducible show _ + _ ≤ _); exact inb2 (slot_lt n k) rfl _)
end Cert.KernelIdeal.Hand
-- ==== Proof.KernelIdeal.Loop.lean ====
/-
  The main loop: at trip `k` of `n` the transfers of trips `k` and `k + 1` are in flight (those below `n`).
-/
module

public import proofs.«01_k».proof.Proof.KernelIdeal.Trip
public import proofs.«01_k».proof.Proof.KernelIdeal.Words

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- The first trip from `k` on that uses slot `s`. -/
def nxt (k s : ℕ) : ℕ := k + (k + s) % 2
/-- Slot `s` before trip `k`. -/
def slotSt (n : ℕ) (E : ℕ → Fin 32) (k s : ℕ) : sProp 𝕄 :=
  if nxt k s < n then slotFly c a s (E (nxt k s)) else slotIdle c a s

/-- The accumulator before trip `k`, the experts listed by `E`. -/
def accAt (E : ℕ → Fin 32) : ℕ → S64x4096.Idx → Elt F .f32
  | 0 => k0_pay39
  | k + 1 => accNext a (E k) (accAt E k)

def loopInv (n : ℕ) (E : ℕ → Fin 32) (ord : S33.Idx → BitVec 32) (k : ℕ) : sProp 𝕄 :=
  iprop((M16.view.loc (c : Thread nD τ) ↦{fullShare} ord) ∗ (M1.view.loc (c : Thread nD τ) ↦{fullShare} a.ids) ∗ (M2.view.loc (c : Thread nD τ) ↦{fullShare} a.cw) ∗ (M3.view.loc (c : Thread nD τ) ↦{fullShare} a.x)
    ∗ (∃ f, (M13.view.loc (c : Thread nD τ) ↦{fullShare} f)) ∗ (M14.view.loc (c : Thread nD τ) ↦{fullShare} accAt a E k) ∗ ow c ∗ slotSt c a n E k 0 ∗ slotSt c a n E k 1)

theorem loop_step (n : Fin 33) (E : ℕ → Fin 32) (ord : S33.Idx → BitVec 32) (hE : ∀ i < (n : ℕ), (ordAt ord i).toNat = E i)
    (hw12 : k0_chk12 (BitVec.ofNat 32 n)) (k : Fin (k0_t3_loop (BitVec.ofNat 32 n)).trips) :
    loopInv c a n E ord k ⊢ wp frame (wpE defs 𝒱 (c : Thread nD τ) bd) Set.univ (k0_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 (BitVec.ofNat 32 n) hw12 k ()) (fun _ => loopInv c a n E ord (k + 1)) := by
  have hk : (k : ℕ) < n := k.isLt.trans_eq (t3_trips n)
  have hsl := t3_slot n k
  have hlt : min ((k : ℕ) + 2) ((n : ℕ) - 1) < n := by omega
  have h1 := hE k hk
  have h2 := hE _ hlt
  have hc : k0_cond3 (BitVec.ofNat 32 n) k = 1#1 → (ordAt ord (min ((k : ℕ) + 2) ((n : ℕ) - 1))).toNat = E (k + 2) := fun h => by
    have := (t3_cond n k).1 h
    rw [show min ((k : ℕ) + 2) ((n : ℕ) - 1) = k + 2 by omega]
    exact hE _ this
  have T := @trip F _ defs 𝒱 c bd a (BitVec.ofNat 32 n) hw12 k (E k) (E (k + 2)) ord k (min ((k : ℕ) + 2) ((n : ℕ) - 1)) fullShare
  unfold loopInv
  iintro ⟨H16, H1, H2, H3, ⟨%f13, H13⟩, H14, HO, HA, HB⟩
  have T := T f13 (accAt a E k) (t3_off55 n k) (t3_off56 n k) (chk13_of _ (by rw [h1]; exact (E _).isLt)) (chk14_of _ k _ (by rw [h2]; exact (E _).isLt)) h1 hc
    (Q := fun _ => loopInv c a n E ord (k + 1))
  unfold loopInv at T
  rcases Nat.mod_two_eq_zero_or_one (k : ℕ) with hp | hp
  · have e0 : nxt k 0 = k := by unfold nxt; omega
    have e1 : nxt k 1 = k + 1 := by unfold nxt; omega
    have e2 : nxt (k + 1) 0 = k + 2 := by unfold nxt; omega
    have e3 : nxt (k + 1) 1 = k + 1 := by unfold nxt; omega
    rw [hsl, hp] at T
    ihave HA := (Entails.of_eq (show slotSt c a n E k 0 = slotFly c a 0 (E k) from by unfold slotSt; rw [e0, if_pos hk])) $$ HA
    iapply T $$ [H16 H1 H2 H3 H13 H14 HO HA]
    · isplitl [H16]; · iexact H16
      isplitl [H1]; · iexact H1
      isplitl [H2]; · iexact H2
      isplitl [H3]; · iexact H3
      isplitl [H13]; · iexact H13
      isplitl [H14]; · iexact H14
      isplitl [HO]; · iexact HO
      iexact HA
    iintro ⟨H16, H1, H2, H3, H13, H14, HO, HA⟩
    isplitl [H16]; · iexact H16
    isplitl [H1]; · iexact H1
    isplitl [H2]; · iexact H2
    isplitl [H3]; · iexact H3
    isplitl [H13]; · iexists _; iexact H13
    isplitl [H14]; · iexact H14
    isplitl [HO]; · iexact HO
    ihave HA := (Entails.of_eq (show (if k0_cond3 (BitVec.ofNat 32 n) k = 1#1 then slotFly c a 0 (E (k + 2)) else slotIdle c a 0) = slotSt c a n E (k + 1) 0 from by
      unfold slotSt; rw [e2]; simp only [t3_cond n k])) $$ HA
    ihave HB := (Entails.of_eq (show slotSt c a n E k 1 = slotSt c a n E (k + 1) 1 from by unfold slotSt; rw [e1, e3])) $$ HB
    isplitl [HA]; · iexact HA
    iexact HB
  · have e0 : nxt k 1 = k := by unfold nxt; omega
    have e1 : nxt k 0 = k + 1 := by unfold nxt; omega
    have e2 : nxt (k + 1) 1 = k + 2 := by unfold nxt; omega
    have e3 : nxt (k + 1) 0 = k + 1 := by unfold nxt; omega
    rw [hsl, hp] at T
    ihave HB := (Entails.of_eq (show slotSt c a n E k 1 = slotFly c a 1 (E k) from by unfold slotSt; rw [e0, if_pos hk])) $$ HB
    iapply T $$ [H16 H1 H2 H3 H13 H14 HO HB]
    · isplitl [H16]; · iexact H16
      isplitl [H1]; · iexact H1
      isplitl [H2]; · iexact H2
      isplitl [H3]; · iexact H3
      isplitl [H13]; · iexact H13
      isplitl [H14]; · iexact H14
      isplitl [HO]; · iexact HO
      iexact HB
    iintro ⟨H16, H1, H2, H3, H13, H14, HO, HB⟩
    isplitl [H16]; · iexact H16
    isplitl [H1]; · iexact H1
    isplitl [H2]; · iexact H2
    isplitl [H3]; · iexact H3
    isplitl [H13]; · iexists _; iexact H13
    isplitl [H14]; · iexact H14
    isplitl [HO]; · iexact HO
    ihave HB := (Entails.of_eq (show (if k0_cond3 (BitVec.ofNat 32 n) k = 1#1 then slotFly c a 1 (E (k + 2)) else slotIdle c a 1) = slotSt c a n E (k + 1) 1 from by
      unfold slotSt; rw [e2]; simp only [t3_cond n k])) $$ HB
    ihave HA := (Entails.of_eq (show slotSt c a n E k 0 = slotSt c a n E (k + 1) 0 from by unfold slotSt; rw [e1, e3])) $$ HA
    isplitl [HA]; · iexact HA
    iexact HB

/-- The whole loop. -/
theorem run_loop (n : Fin 33) (E : ℕ → Fin 32) (ord : S33.Idx → BitVec 32) (hE : ∀ i < (n : ℕ), (ordAt ord i).toNat = E i)
    (hw12 : k0_chk12 (BitVec.ofNat 32 n)) {Q : _ → sProp 𝕄} :
    loopInv c a n E ord 0 ⊢ iprop((loopInv c a n E ord n -∗ Q ()) -∗ wp frame (wpE defs 𝒱 (c : Thread nD τ) bd) Set.univ
      (Scf.Loop.for (k0_t3_loop (BitVec.ofNat 32 n)) (k0_t3_ok (BitVec.ofNat 32 n) hw12) () (k0_t3_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 (BitVec.ofNat 32 n) hw12)) Q) := by
  iintro H HK
  iapply (Scf.wp_for frame (wpE defs 𝒱 (c : Thread nD τ) bd) Set.univ _ _ _ (k0_t3_ok (BitVec.ofNat 32 n) hw12) () _ (fun k _ => loopInv c a n E ord k)
    (fun k _ => loop_step 𝒱 c bd a n E ord hE hw12 k))
  isplitl [H]; · iexact H
  iintro %u H
  rw [show Scf.trips (k0_t3_loop (BitVec.ofNat 32 n)).lb (k0_t3_loop (BitVec.ofNat 32 n)).ub (k0_t3_loop (BitVec.ofNat 32 n)).st = n from t3_trips n]
  iapply HK
  iexact H

/-- The remainder loop runs no trip. -/
theorem run_rest (n : Fin 33) (hw12 : k0_chk12 (BitVec.ofNat 32 n)) (v49 : BitVec 32) {Q : _ → sProp 𝕄} :
    Q () ⊢ wp frame (wpE defs 𝒱 (c : Thread nD τ) bd) Set.univ
      (Scf.Loop.for (k0_t4_loop (BitVec.ofNat 32 n)) (k0_t4_ok (BitVec.ofNat 32 n) hw12) () (k0_t4_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 (BitVec.ofNat 32 n) hw12 v49)) Q := by
  iintro H
  iapply (Scf.wp_for frame (wpE defs 𝒱 (c : Thread nD τ) bd) Set.univ _ _ _ (k0_t4_ok (BitVec.ofNat 32 n) hw12) () _ (fun _ _ => Q ())
    (fun k _ => (t4_elim n k).elim))
  isplitl [H]; · iexact H
  iintro %u H
  iexact H

end Cert.KernelIdeal.Hand
-- ==== Proof.KernelIdeal.Pro.lean ====
/-
  The transfers issued before the loop: every transfer of the first expert into slot 0, of the second into slot 1.
-/
module

public import proofs.«01_k».proof.Proof.KernelIdeal.Trip
public import proofs.«01_k».proof.Proof.KernelIdeal.Words

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem pro2 (v34 : BitVec 32) (h : k0_cond1 v34 = 1#1) (ord : S33.Idx → BitVec 32) (q : PosShare TreeShare) (hw : k0_chk10 v34 (ordAt ord 0)) (e : Fin 32) (he : (ordAt ord 0).toNat = e) {Q : _ → sProp 𝕄} :
    iprop((M16.view.loc (c : Thread nD τ) ↦{q} ord) ∗ zIdle c a 0) ⊢ iprop((iprop((M16.view.loc (c : Thread nD τ) ↦{q} ord) ∗ zFly c a 0 e 0) -∗ Q ⟨ordAt ord 0, hw⟩) -∗ wp frame (wpE defs 𝒱 (c : Thread nD τ) bd) Set.univ (k0_part2 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h) Q) := by
  rw [k0_part2_eq_skeleton]
  unfold k0_part2_skel
  iintro ⟨H16, Hz⟩ HK
  iapply (wp_ld_ord 𝒱 c bd rfl) $$ H16
  iintro H16
  iapply (wp_assume 𝒱 (c : Thread nD τ) bd Set.univ hw)
  iapply (wp_enq_p1 𝒱 c bd a 0 rfl rfl he (gsem_eq rfl)) $$ Hz
  iintro Hz
  iapply (wp_enq_p2 𝒱 c bd a 0 rfl rfl he (gsem_eq rfl)) $$ Hz
  iintro Hz
  iapply (wp_enq_p3 𝒱 c bd a 0 rfl rfl rfl he (gsem_eq rfl)) $$ Hz
  iintro Hz
  iapply (wp_enq_p4 𝒱 c bd a 0 rfl rfl rfl he (gsem_eq rfl)) $$ Hz
  iintro Hz
  iapply (le_wp_ret _ _)
  iapply HK
  isplitl [H16]; · iexact H16
  iexact Hz

theorem pro3 (v34 : BitVec 32) (h : k0_cond1 v34 = 1#1) (v : BitVec 32) (hw : k0_chk10 v34 v) (e : Fin 32) (he : v.toNat = e) {Q : _ → sProp 𝕄} :
    iprop(gIdle c a 0 1 ∗ gIdle c a 0 2) ⊢ iprop((iprop(gFly c a 0 1 e ∗ gFly c a 0 2 e) -∗ Q ()) -∗ wp frame (wpE defs 𝒱 (c : Thread nD τ) bd) Set.univ (k0_part3 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part3_eq_skeleton]
  unfold k0_part3_skel
  iintro ⟨Hg1, Hg2⟩ HK
  iapply (wp_enq_g1 𝒱 c bd a 0 1 rfl rfl rfl he (gsem_eq rfl)) $$ Hg1
  iintro Hg1
  iapply (wp_enq_g2 𝒱 c bd a 0 1 rfl rfl rfl he (gsem_eq rfl)) $$ Hg1
  iintro Hg1
  iapply (wp_enq_g1 𝒱 c bd a 0 2 rfl rfl rfl he (gsem_eq rfl)) $$ Hg2
  iintro Hg2
  iapply (wp_enq_g2 𝒱 c bd a 0 2 rfl rfl rfl he (gsem_eq rfl)) $$ Hg2
  iintro Hg2
  iapply (le_wp_ret _ _)
  iapply HK
  isplitl [Hg1]; · iexact Hg1
  iexact Hg2

theorem pro4 (v34 : BitVec 32) (h : k0_cond1 v34 = 1#1) (v : BitVec 32) (hw : k0_chk10 v34 v) (e : Fin 32) (he : v.toNat = e) {Q : _ → sProp 𝕄} :
    iprop(gIdle c a 0 3 ∗ gIdle c a 0 4) ⊢ iprop((iprop(gFly c a 0 3 e ∗ gFly c a 0 4 e) -∗ Q ()) -∗ wp frame (wpE defs 𝒱 (c : Thread nD τ) bd) Set.univ (k0_part4 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part4_eq_skeleton]
  unfold k0_part4_skel
  iintro ⟨Hg1, Hg2⟩ HK
  iapply (wp_enq_g1 𝒱 c bd a 0 3 rfl rfl rfl he (gsem_eq rfl)) $$ Hg1
  iintro Hg1
  iapply (wp_enq_g2 𝒱 c bd a 0 3 rfl rfl rfl he (gsem_eq rfl)) $$ Hg1
  iintro Hg1
  iapply (wp_enq_g1 𝒱 c bd a 0 4 rfl rfl rfl he (gsem_eq rfl)) $$ Hg2
  iintro Hg2
  iapply (wp_enq_g2 𝒱 c bd a 0 4 rfl rfl rfl he (gsem_eq rfl)) $$ Hg2
  iintro Hg2
  iapply (le_wp_ret _ _)
  iapply HK
  isplitl [Hg1]; · iexact Hg1
  iexact Hg2

theorem pro5 (v34 : BitVec 32) (h : k0_cond1 v34 = 1#1) (v : BitVec 32) (hw : k0_chk10 v34 v) (e : Fin 32) (he : v.toNat = e) {Q : _ → sProp 𝕄} :
    iprop(gIdle c a 0 5 ∗ dIdle c a 0 0 ∗ dIdle c a 0 1 ∗ dIdle c a 0 2) ⊢ iprop((iprop(gFly c a 0 5 e ∗ dFly c a 0 0 e ∗ dFly c a 0 1 e ∗ dFly c a 0 2 e) -∗ Q ()) -∗ wp frame (wpE defs 𝒱 (c : Thread nD τ) bd) Set.univ (k0_part5 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part5_eq_skeleton]
  unfold k0_part5_skel
  iintro ⟨Hg1, Hd0, Hd1, Hd2⟩ HK
  iapply (wp_enq_g1 𝒱 c bd a 0 5 rfl rfl rfl he (gsem_eq rfl)) $$ Hg1
  iintro Hg1
  iapply (wp_enq_g2 𝒱 c bd a 0 5 rfl rfl rfl he (gsem_eq rfl)) $$ Hg1
  iintro Hg1
  iapply (wp_enq_d1 𝒱 c bd a 0 0 rfl rfl he (dsem_eq rfl)) $$ Hd0
  iintro Hd0
  iapply (wp_enq_d1 𝒱 c bd a 0 1 rfl rfl he (dsem_eq rfl)) $$ Hd1
  iintro Hd1
  iapply (wp_enq_d1 𝒱 c bd a 0 2 rfl rfl he (dsem_eq rfl)) $$ Hd2
  iintro Hd2
  iapply (le_wp_ret _ _)
  iapply HK
  isplitl [Hg1]; · iexact Hg1
  isplitl [Hd0]; · iexact Hd0
  isplitl [Hd1]; · iexact Hd1
  iexact Hd2

theorem pro6 (v34 : BitVec 32) (h : k0_cond2 v34 = 1#1) (ord : S33.Idx → BitVec 32) (q : PosShare TreeShare) (hw : k0_chk11 v34 (ordAt ord 1)) (e : Fin 32) (he : (ordAt ord 1).toNat = e) {Q : _ → sProp 𝕄} :
    iprop((M16.view.loc (c : Thread nD τ) ↦{q} ord) ∗ zIdle c a 1) ⊢ iprop((iprop((M16.view.loc (c : Thread nD τ) ↦{q} ord) ∗ zFly c a 1 e 0) -∗ Q ⟨ordAt ord 1, hw⟩) -∗ wp frame (wpE defs 𝒱 (c : Thread nD τ) bd) Set.univ (k0_part6 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h) Q) := by
  rw [k0_part6_eq_skeleton]
  unfold k0_part6_skel
  iintro ⟨H16, Hz⟩ HK
  iapply (wp_ld_ord 𝒱 c bd rfl) $$ H16
  iintro H16
  iapply (wp_assume 𝒱 (c : Thread nD τ) bd Set.univ hw)
  iapply (wp_enq_p1 𝒱 c bd a 1 rfl rfl he (gsem_eq rfl)) $$ Hz
  iintro Hz
  iapply (wp_enq_p2 𝒱 c bd a 1 rfl rfl he (gsem_eq rfl)) $$ Hz
  iintro Hz
  iapply (wp_enq_p3 𝒱 c bd a 1 rfl rfl rfl he (gsem_eq rfl)) $$ Hz
  iintro Hz
  iapply (wp_enq_p4 𝒱 c bd a 1 rfl rfl rfl he (gsem_eq rfl)) $$ Hz
  iintro Hz
  iapply (le_wp_ret _ _)
  iapply HK
  isplitl [H16]; · iexact H16
  iexact Hz

theorem pro7 (v34 : BitVec 32) (h : k0_cond2 v34 = 1#1) (v : BitVec 32) (hw : k0_chk11 v34 v) (e : Fin 32) (he : v.toNat = e) {Q : _ → sProp 𝕄} :
    iprop(gIdle c a 1 1 ∗ gIdle c a 1 2) ⊢ iprop((iprop(gFly c a 1 1 e ∗ gFly c a 1 2 e) -∗ Q ()) -∗ wp frame (wpE defs 𝒱 (c : Thread nD τ) bd) Set.univ (k0_part7 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part7_eq_skeleton]
  unfold k0_part7_skel
  iintro ⟨Hg1, Hg2⟩ HK
  iapply (wp_enq_g1 𝒱 c bd a 1 1 rfl rfl rfl he (gsem_eq rfl)) $$ Hg1
  iintro Hg1
  iapply (wp_enq_g2 𝒱 c bd a 1 1 rfl rfl rfl he (gsem_eq rfl)) $$ Hg1
  iintro Hg1
  iapply (wp_enq_g1 𝒱 c bd a 1 2 rfl rfl rfl he (gsem_eq rfl)) $$ Hg2
  iintro Hg2
  iapply (wp_enq_g2 𝒱 c bd a 1 2 rfl rfl rfl he (gsem_eq rfl)) $$ Hg2
  iintro Hg2
  iapply (le_wp_ret _ _)
  iapply HK
  isplitl [Hg1]; · iexact Hg1
  iexact Hg2

theorem pro8 (v34 : BitVec 32) (h : k0_cond2 v34 = 1#1) (v : BitVec 32) (hw : k0_chk11 v34 v) (e : Fin 32) (he : v.toNat = e) {Q : _ → sProp 𝕄} :
    iprop(gIdle c a 1 3 ∗ gIdle c a 1 4) ⊢ iprop((iprop(gFly c a 1 3 e ∗ gFly c a 1 4 e) -∗ Q ()) -∗ wp frame (wpE defs 𝒱 (c : Thread nD τ) bd) Set.univ (k0_part8 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part8_eq_skeleton]
  unfold k0_part8_skel
  iintro ⟨Hg1, Hg2⟩ HK
  iapply (wp_enq_g1 𝒱 c bd a 1 3 rfl rfl rfl he (gsem_eq rfl)) $$ Hg1
  iintro Hg1
  iapply (wp_enq_g2 𝒱 c bd a 1 3 rfl rfl rfl he (gsem_eq rfl)) $$ Hg1
  iintro Hg1
  iapply (wp_enq_g1 𝒱 c bd a 1 4 rfl rfl rfl he (gsem_eq rfl)) $$ Hg2
  iintro Hg2
  iapply (wp_enq_g2 𝒱 c bd a 1 4 rfl rfl rfl he (gsem_eq rfl)) $$ Hg2
  iintro Hg2
  iapply (le_wp_ret _ _)
  iapply HK
  isplitl [Hg1]; · iexact Hg1
  iexact Hg2

theorem pro9 (v34 : BitVec 32) (h : k0_cond2 v34 = 1#1) (v : BitVec 32) (hw : k0_chk11 v34 v) (e : Fin 32) (he : v.toNat = e) {Q : _ → sProp 𝕄} :
    iprop(gIdle c a 1 5 ∗ dIdle c a 1 0 ∗ dIdle c a 1 1 ∗ dIdle c a 1 2) ⊢ iprop((iprop(gFly c a 1 5 e ∗ dFly c a 1 0 e ∗ dFly c a 1 1 e ∗ dFly c a 1 2 e) -∗ Q ()) -∗ wp frame (wpE defs 𝒱 (c : Thread nD τ) bd) Set.univ (k0_part9 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 v34 h v hw) Q) := by
  rw [k0_part9_eq_skeleton]
  unfold k0_part9_skel
  iintro ⟨Hg1, Hd0, Hd1, Hd2⟩ HK
  iapply (wp_enq_g1 𝒱 c bd a 1 5 rfl rfl rfl he (gsem_eq rfl)) $$ Hg1
  iintro Hg1
  iapply (wp_enq_g2 𝒱 c bd a 1 5 rfl rfl rfl he (gsem_eq rfl)) $$ Hg1
  iintro Hg1
  iapply (wp_enq_d1 𝒱 c bd a 1 0 rfl rfl he (dsem_eq rfl)) $$ Hd0
  iintro Hd0
  iapply (wp_enq_d1 𝒱 c bd a 1 1 rfl rfl he (dsem_eq rfl)) $$ Hd1
  iintro Hd1
  iapply (wp_enq_d1 𝒱 c bd a 1 2 rfl rfl he (dsem_eq rfl)) $$ Hd2
  iintro Hd2
  iapply (le_wp_ret _ _)
  iapply HK
  isplitl [Hg1]; · iexact Hg1
  isplitl [Hd0]; · iexact Hd0
  isplitl [Hd1]; · iexact Hd1
  iexact Hd2

end Cert.KernelIdeal.Hand
-- ==== Proof.KernelIdeal.Order.lean ====
/-
  The two words arrays in scalar memory: which experts the tokens name, and the list of them in ascending order.
-/
module

public import proofs.«01_k».proof.Proof.KernelIdeal.Steps
public import Mathlib.Data.Nat.Count
public import proofs.«01_k».proof.Proof.KernelIdeal.Words

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

theorem write_seen {n : ℕ} {o : Fin 1 → ℕ} {h} (ho : o = ![n]) (f : S32.Idx → BitVec 32) (w : BitVec 32) :
    (M15.access (Rect.unit (s := S32) o S1.size h)).write (Elt F) f (fun _ => w) Finset.univ
      = fun i => if (i 0 : ℕ) = n then w else f i := by
  subst ho
  funext i
  by_cases h' : (i 0 : ℕ) = n
  · rw [if_pos h']
    have hi : i = (M15.access (Rect.unit (s := S32) ![n] S1.size h)).emb (ValueIdx.ix1 ⟨0, by decide⟩) := by
      funext t
      apply Fin.ext
      fin_cases t
      show (i 0 : ℕ) = n + 1 * 0; omega
    conv_lhs => rw [hi]
    rw [View.write_emb_of_mem _ _ (Finset.mem_univ _)]
    rfl
  · rw [if_neg h']
    apply View.write_of_not_mem
    intro hi
    apply h'
    rw [View.setOn_univ] at hi
    erw [View.set_slice_whole] at hi
    rw [Rect.mem_set_unit] at hi
    have := hi 0
    simp at this
    omega

theorem wp_st_seen {α : Type} {Q : α → sProp 𝕄} {n : ℕ} {w : BitVec 32} {f : S32.Idx → BitVec 32} (g : S32.Idx → BitVec 32) {o : Fin 1 → ℕ} {h} {h1 h2}
    {k : PUnit → Prog (TpuEff nD τ sig (Elt F) Λ₀ .tc) α} (ho : o = ![n]) (hg : (fun i => if (i 0 : ℕ) = n then w else f i) = g) :
    (M15.view.loc (c : Thread nD τ) ↦{fullShare} f)
      ⊢ iprop(((M15.view.loc (c : Thread nD τ) ↦{fullShare} g) -∗ wp frame (wpE defs 𝒱 (c : Thread nD τ) bd) Set.univ (k ⟨⟩) Q)
          -∗ wp frame (wpE defs 𝒱 (c : Thread nD τ) bd) Set.univ (.op (.store M15 (Rect.unit (s := S32) o S1.size h) (fun _ => w) Finset.univ h1 h2) k) Q) := by
  iintro H Hk
  iapply (wp_store 𝒱 (c : Thread nD τ) bd Set.univ (m := M15) (r := Rect.unit (s := S32) o S1.size h) (f := f)
    (S := Finset.univ) (hS := Finset.subset_univ _)) $$ H
  iintro H
  iapply Hk
  have hs := (write_seen (F := F) (h := h) ho f w).trans hg
  iapply (Entails.of_eq (congrArg (fun g : S32.Idx → BitVec 32 => (M15.view.loc (c : Thread nD τ) ↦{fullShare} g : sProp 𝕄)) hs))
  iexact H

theorem write_ord {n : ℕ} {o : Fin 1 → ℕ} {h} (ho : o = ![n]) (f : S33.Idx → BitVec 32) (w : BitVec 32) :
    (M16.access (Rect.unit (s := S33) o S1.size h)).write (Elt F) f (fun _ => w) Finset.univ
      = fun i => if (i 0 : ℕ) = n then w else f i := by
  subst ho
  funext i
  by_cases h' : (i 0 : ℕ) = n
  · rw [if_pos h']
    have hi : i = (M16.access (Rect.unit (s := S33) ![n] S1.size h)).emb (ValueIdx.ix1 ⟨0, by decide⟩) := by
      funext t
      apply Fin.ext
      fin_cases t
      show (i 0 : ℕ) = n + 1 * 0; omega
    conv_lhs => rw [hi]
    rw [View.write_emb_of_mem _ _ (Finset.mem_univ _)]
    rfl
  · rw [if_neg h']
    apply View.write_of_not_mem
    intro hi
    apply h'
    rw [View.setOn_univ] at hi
    erw [View.set_slice_whole] at hi
    rw [Rect.mem_set_unit] at hi
    have := hi 0
    simp at this
    omega

theorem wp_st_ord {α : Type} {Q : α → sProp 𝕄} {n : ℕ} {w : BitVec 32} {f : S33.Idx → BitVec 32} (g : S33.Idx → BitVec 32) {o : Fin 1 → ℕ} {h} {h1 h2}
    {k : PUnit → Prog (TpuEff nD τ sig (Elt F) Λ₀ .tc) α} (ho : o = ![n]) (hg : (fun i => if (i 0 : ℕ) = n then w else f i) = g) :
    (M16.view.loc (c : Thread nD τ) ↦{fullShare} f)
      ⊢ iprop(((M16.view.loc (c : Thread nD τ) ↦{fullShare} g) -∗ wp frame (wpE defs 𝒱 (c : Thread nD τ) bd) Set.univ (k ⟨⟩) Q)
          -∗ wp frame (wpE defs 𝒱 (c : Thread nD τ) bd) Set.univ (.op (.store M16 (Rect.unit (s := S33) o S1.size h) (fun _ => w) Finset.univ h1 h2) k) Q) := by
  iintro H Hk
  iapply (wp_store 𝒱 (c : Thread nD τ) bd Set.univ (m := M16) (r := Rect.unit (s := S33) o S1.size h) (f := f)
    (S := Finset.univ) (hS := Finset.subset_univ _)) $$ H
  iintro H
  iapply Hk
  have hs := (write_ord (F := F) (h := h) ho f w).trans hg
  iapply (Entails.of_eq (congrArg (fun g : S33.Idx → BitVec 32 => (M16.view.loc (c : Thread nD τ) ↦{fullShare} g : sProp 𝕄)) hs))
  iexact H

/-- Word `n` of the marks. -/
def seenAt (f : S32.Idx → BitVec 32) (n : ℕ) : BitVec 32 := if h : n < 32 then f (ValueIdx.ix1 ⟨n, h⟩) else 0

theorem wp_ld_seen {α : Type} {Q : α → sProp 𝕄} {n : ℕ} {f : S32.Idx → BitVec 32} {o : Fin 1 → ℕ} {h} {hn} {hw}
    {k : BitVec 32 → Prog (TpuEff nD τ sig (Elt F) Λ₀ .tc) α} (ho : o = ![n]) :
    (M15.view.loc (c : Thread nD τ) ↦{fullShare} f)
      ⊢ iprop(((M15.view.loc (c : Thread nD τ) ↦{fullShare} f) -∗ wp frame (wpE defs 𝒱 (c : Thread nD τ) bd) Set.univ (k (seenAt f n)) Q)
          -∗ wp frame (wpE defs 𝒱 (c : Thread nD τ) bd) Set.univ ((smemLoad (Val := Elt F) (nD := nD) (τ := τ) (Λ := Λ₀) M15 (Rect.unit (s := S32) o S1.size h) hn hw).bind k) Q) := by
  subst ho
  rw [show (smemLoad (Val := Elt F) (nD := nD) (τ := τ) (Λ := Λ₀) M15 (Rect.unit (s := S32) ![n] S1.size h) hn hw).bind k
    = smemLoadElt M15 (Rect.unit (s := S32) ![n] S1.size h) (View.loads_smem_one hw hn) (Shape.Idx.first (hn.symm ▸ Nat.one_pos)) k from rfl]
  iintro H Hk
  iapply (wp_smemLoadElt 𝒱 (c : Thread nD τ) bd Set.univ (m := M15) (r := Rect.unit (s := S32) ![n] S1.size h) (f := f)
    (hw := View.loads_smem_one hw hn) (x := Shape.Idx.first (hn.symm ▸ Nat.one_pos)) (k := k)
    (S := Finset.univ) (hS := Finset.subset_univ _)) $$ H
  iintro H
  rw [show seenAt f n = (M15.access (Rect.unit (s := S32) ![n] S1.size h)).read (Elt F) f (Shape.Idx.first (hn.symm ▸ Nat.one_pos)) from by
    have hn' : n < 32 := by have := h 0; simp at this; omega
    unfold seenAt
    rw [dif_pos hn']
    show f _ = f _
    refine congrArg f (funext fun t => Fin.ext ?_)
    fin_cases t
    show n = n + 1 * ((Shape.Idx.first (s := S1) (hn.symm ▸ Nat.one_pos) 0 : Fin _) : ℕ)
    have := (Shape.Idx.first (s := S1) (hn.symm ▸ Nat.one_pos) 0).isLt
    simp at this
    omega]
  iapply Hk $$ H

/-- Word `(t, j)` of the expert ids. -/
def idAt (f : S64x8.Idx → BitVec 32) (t j : ℕ) : BitVec 32 := if h : t < 64 ∧ j < 8 then f (ValueIdx.ix2 ⟨t, h.1⟩ ⟨j, h.2⟩) else 0

theorem wp_ld_id {α : Type} {Q : α → sProp 𝕄} {t j : ℕ} {f : S64x8.Idx → BitVec 32} {o : Fin 2 → ℕ} {h} {hn} {hw}
    {k : BitVec 32 → Prog (TpuEff nD τ sig (Elt F) Λ₀ .tc) α} (ho : o = ![t, j]) :
    (M0.view.loc (c : Thread nD τ) ↦{fullShare} f)
      ⊢ iprop(((M0.view.loc (c : Thread nD τ) ↦{fullShare} f) -∗ wp frame (wpE defs 𝒱 (c : Thread nD τ) bd) Set.univ (k (idAt f t j)) Q)
          -∗ wp frame (wpE defs 𝒱 (c : Thread nD τ) bd) Set.univ ((smemLoad (Val := Elt F) (nD := nD) (τ := τ) (Λ := Λ₀) M0 (Rect.unit (s := S64x8) o S1x1.size h) hn hw).bind k) Q) := by
  subst ho
  rw [show (smemLoad (Val := Elt F) (nD := nD) (τ := τ) (Λ := Λ₀) M0 (Rect.unit (s := S64x8) ![t, j] S1x1.size h) hn hw).bind k
    = smemLoadElt M0 (Rect.unit (s := S64x8) ![t, j] S1x1.size h) (View.loads_smem_one hw hn) (Shape.Idx.first (hn.symm ▸ Nat.one_pos)) k from rfl]
  iintro H Hk
  iapply (wp_smemLoadElt 𝒱 (c : Thread nD τ) bd Set.univ (m := M0) (r := Rect.unit (s := S64x8) ![t, j] S1x1.size h) (f := f)
    (hw := View.loads_smem_one hw hn) (x := Shape.Idx.first (hn.symm ▸ Nat.one_pos)) (k := k)
    (S := Finset.univ) (hS := Finset.subset_univ _)) $$ H
  iintro H
  rw [show idAt f t j = (M0.access (Rect.unit (s := S64x8) ![t, j] S1x1.size h)).read (Elt F) f (Shape.Idx.first (hn.symm ▸ Nat.one_pos)) from by
    have hn' : t < 64 ∧ j < 8 := by have h0 := h 0; have h1 := h 1; simp at h0 h1; omega
    unfold idAt
    rw [dif_pos hn']
    show f _ = f _
    refine congrArg f (funext fun u => Fin.ext ?_)
    fin_cases u
    · show t = t + 1 * ((Shape.Idx.first (s := S1x1) (hn.symm ▸ Nat.one_pos) 0 : Fin _) : ℕ)
      have := (Shape.Idx.first (s := S1x1) (hn.symm ▸ Nat.one_pos) 0).isLt
      simp at this
      omega
    · show j = j + 1 * ((Shape.Idx.first (s := S1x1) (hn.symm ▸ Nat.one_pos) 1 : Fin _) : ℕ)
      have := (Shape.Idx.first (s := S1x1) (hn.symm ▸ Nat.one_pos) 1).isLt
      simp at this
      omega]
  iapply Hk $$ H

/-! ## Clearing the marks -/

def clr (i : ℕ) (f : S32.Idx → BitVec 32) : S32.Idx → BitVec 32 := fun x => if (x 0 : ℕ) < i then 0#32 else f x

theorem clr_succ (i : ℕ) (f : S32.Idx → BitVec 32) : (fun x : S32.Idx => if (x 0 : ℕ) = i then 0#32 else clr i f x) = clr (i + 1) f := by
  funext x
  unfold clr
  by_cases h : (x 0 : ℕ) = i
  · rw [if_pos h, if_pos (by omega)]
  · rw [if_neg h]
    by_cases h2 : (x 0 : ℕ) < i
    · rw [if_pos h2, if_pos (by omega)]
    · rw [if_neg h2, if_neg (by omega)]

/-- One mark cleared: a load whose value is not used, then the store. -/
theorem wp_clr {α : Type} {Q : α → sProp 𝕄} (i : ℕ) {f : S32.Idx → BitVec 32} {o o' : Fin 1 → ℕ} {h h'} {hn hw h1 h2}
    {k : PUnit → Prog (TpuEff nD τ sig (Elt F) Λ₀ .tc) α} (ho : o = ![i]) (ho' : o' = ![i]) :
    (M15.view.loc (c : Thread nD τ) ↦{fullShare} clr i f)
      ⊢ iprop(((M15.view.loc (c : Thread nD τ) ↦{fullShare} clr (i + 1) f) -∗ wp frame (wpE defs 𝒱 (c : Thread nD τ) bd) Set.univ (k ⟨⟩) Q)
          -∗ wp frame (wpE defs 𝒱 (c : Thread nD τ) bd) Set.univ ((smemLoad (Val := Elt F) (nD := nD) (τ := τ) (Λ := Λ₀) M15 (Rect.unit (s := S32) o S1.size h) hn hw).bind
            (fun _ => .op (.store M15 (Rect.unit (s := S32) o' S1.size h') (fun _ => 0#32) Finset.univ h1 h2) k)) Q) := by
  iintro H Hk
  iapply (wp_ld_seen 𝒱 c bd ho) $$ H
  iintro H
  iapply (wp_st_seen 𝒱 c bd (clr (i + 1) f) ho' (clr_succ i f)) $$ H
  iintro H
  iapply Hk $$ H

theorem run32 {f : S32.Idx → BitVec 32} {Q : _ → sProp 𝕄} :
    (M15.view.loc (c : Thread nD τ) ↦{fullShare} f) ⊢ iprop(((M15.view.loc (c : Thread nD τ) ↦{fullShare} clr 15 f) -∗ Q ()) -∗ wp frame (wpE defs 𝒱 (c : Thread nD τ) bd) Set.univ (k0_part32 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [k0_part32_eq_skeleton]
  unfold k0_part32_skel
  iintro H Hk
  ihave H := (Entails.of_eq (congrArg (fun g : S32.Idx → BitVec 32 => ((M15.view.loc (c : Thread nD τ) ↦{fullShare} g) : sProp 𝕄)) (show f = clr 0 f from by funext x; simp [clr]))) $$ H
  iapply (wp_clr 𝒱 c bd 0 (hn := numel1_S1) (hw := rfl) rfl rfl) $$ H
  iintro H
  iapply (wp_clr 𝒱 c bd 1 (hn := numel1_S1) (hw := rfl) rfl rfl) $$ H
  iintro H
  iapply (wp_clr 𝒱 c bd 2 (hn := numel1_S1) (hw := rfl) rfl rfl) $$ H
  iintro H
  iapply (wp_clr 𝒱 c bd 3 (hn := numel1_S1) (hw := rfl) rfl rfl) $$ H
  iintro H
  iapply (wp_clr 𝒱 c bd 4 (hn := numel1_S1) (hw := rfl) rfl rfl) $$ H
  iintro H
  iapply (wp_clr 𝒱 c bd 5 (hn := numel1_S1) (hw := rfl) rfl rfl) $$ H
  iintro H
  iapply (wp_clr 𝒱 c bd 6 (hn := numel1_S1) (hw := rfl) rfl rfl) $$ H
  iintro H
  iapply (wp_clr 𝒱 c bd 7 (hn := numel1_S1) (hw := rfl) rfl rfl) $$ H
  iintro H
  iapply (wp_clr 𝒱 c bd 8 (hn := numel1_S1) (hw := rfl) rfl rfl) $$ H
  iintro H
  iapply (wp_clr 𝒱 c bd 9 (hn := numel1_S1) (hw := rfl) rfl rfl) $$ H
  iintro H
  iapply (wp_clr 𝒱 c bd 10 (hn := numel1_S1) (hw := rfl) rfl rfl) $$ H
  iintro H
  iapply (wp_clr 𝒱 c bd 11 (hn := numel1_S1) (hw := rfl) rfl rfl) $$ H
  iintro H
  iapply (wp_clr 𝒱 c bd 12 (hn := numel1_S1) (hw := rfl) rfl rfl) $$ H
  iintro H
  iapply (wp_clr 𝒱 c bd 13 (hn := numel1_S1) (hw := rfl) rfl rfl) $$ H
  iintro H
  iapply (wp_clr 𝒱 c bd 14 (hn := numel1_S1) (hw := rfl) rfl rfl) $$ H
  iintro H
  iapply (le_wp_ret _ _)
  iapply Hk $$ H

theorem run33 {f : S32.Idx → BitVec 32} {Q : _ → sProp 𝕄} :
    (M15.view.loc (c : Thread nD τ) ↦{fullShare} clr 15 f) ⊢ iprop(((M15.view.loc (c : Thread nD τ) ↦{fullShare} clr 30 f) -∗ Q ()) -∗ wp frame (wpE defs 𝒱 (c : Thread nD τ) bd) Set.univ (k0_part33 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [k0_part33_eq_skeleton]
  unfold k0_part33_skel
  iintro H Hk
  iapply (wp_clr 𝒱 c bd 15 (hn := numel1_S1) (hw := rfl) rfl rfl) $$ H
  iintro H
  iapply (wp_clr 𝒱 c bd 16 (hn := numel1_S1) (hw := rfl) rfl rfl) $$ H
  iintro H
  iapply (wp_clr 𝒱 c bd 17 (hn := numel1_S1) (hw := rfl) rfl rfl) $$ H
  iintro H
  iapply (wp_clr 𝒱 c bd 18 (hn := numel1_S1) (hw := rfl) rfl rfl) $$ H
  iintro H
  iapply (wp_clr 𝒱 c bd 19 (hn := numel1_S1) (hw := rfl) rfl rfl) $$ H
  iintro H
  iapply (wp_clr 𝒱 c bd 20 (hn := numel1_S1) (hw := rfl) rfl rfl) $$ H
  iintro H
  iapply (wp_clr 𝒱 c bd 21 (hn := numel1_S1) (hw := rfl) rfl rfl) $$ H
  iintro H
  iapply (wp_clr 𝒱 c bd 22 (hn := numel1_S1) (hw := rfl) rfl rfl) $$ H
  iintro H
  iapply (wp_clr 𝒱 c bd 23 (hn := numel1_S1) (hw := rfl) rfl rfl) $$ H
  iintro H
  iapply (wp_clr 𝒱 c bd 24 (hn := numel1_S1) (hw := rfl) rfl rfl) $$ H
  iintro H
  iapply (wp_clr 𝒱 c bd 25 (hn := numel1_S1) (hw := rfl) rfl rfl) $$ H
  iintro H
  iapply (wp_clr 𝒱 c bd 26 (hn := numel1_S1) (hw := rfl) rfl rfl) $$ H
  iintro H
  iapply (wp_clr 𝒱 c bd 27 (hn := numel1_S1) (hw := rfl) rfl rfl) $$ H
  iintro H
  iapply (wp_clr 𝒱 c bd 28 (hn := numel1_S1) (hw := rfl) rfl rfl) $$ H
  iintro H
  iapply (wp_clr 𝒱 c bd 29 (hn := numel1_S1) (hw := rfl) rfl rfl) $$ H
  iintro H
  iapply (le_wp_ret _ _)
  iapply Hk $$ H

/-! ## Marking the experts the tokens name -/

def flag (P : ℕ → Prop) [DecidablePred P] : S32.Idx → BitVec 32 := fun x => if P (x 0) then 1#32 else 0#32

theorem flag_congr (P P' : ℕ → Prop) [DecidablePred P] [DecidablePred P'] (h : ∀ m, P m ↔ P' m) : flag P = flag P' := by
  funext x; unfold flag; simp only [h]

theorem flag_or (P : ℕ → Prop) [DecidablePred P] (n : ℕ) :
    (fun x : S32.Idx => if (x 0 : ℕ) = n then 1#32 else flag P x) = flag (fun m => P m ∨ m = n) := by
  funext x
  unfold flag
  by_cases h : (x 0 : ℕ) = n
  · rw [if_pos h, if_pos (Or.inr h)]
  · rw [if_neg h]
    simp only [h, or_false]

/-- Word `v`'s mark set: a load whose value is not used, then the store. -/
theorem wp_mark {α : Type} {Q : α → sProp 𝕄} (v : BitVec 32) {P : ℕ → Prop} [DecidablePred P] {o o' : Fin 1 → ℕ} {h h'} {hn hw h1 h2}
    {k : PUnit → Prog (TpuEff nD τ sig (Elt F) Λ₀ .tc) α} (ho : o = ![v.toNat]) (ho' : o' = ![v.toNat]) :
    (M15.view.loc (c : Thread nD τ) ↦{fullShare} flag P)
      ⊢ iprop(((M15.view.loc (c : Thread nD τ) ↦{fullShare} flag (fun m => P m ∨ m = v.toNat)) -∗ wp frame (wpE defs 𝒱 (c : Thread nD τ) bd) Set.univ (k ⟨⟩) Q)
          -∗ wp frame (wpE defs 𝒱 (c : Thread nD τ) bd) Set.univ ((smemLoad (Val := Elt F) (nD := nD) (τ := τ) (Λ := Λ₀) M15 (Rect.unit (s := S32) o S1.size h) hn hw).bind
            (fun _ => .op (.store M15 (Rect.unit (s := S32) o' S1.size h') (fun _ => 1#32) Finset.univ h1 h2) k)) Q) := by
  iintro H Hk
  iapply (wp_ld_seen 𝒱 c bd ho) $$ H
  iintro H
  iapply (wp_st_seen 𝒱 c bd (flag (fun m => P m ∨ m = v.toNat)) ho' (flag_or P v.toNat)) $$ H
  iintro H
  iapply Hk $$ H

theorem t1_trips : k0_t1_loop.trips = 64 := by decide +kernel
theorem t1_off0 : ∀ k : Fin k0_t1_loop.trips, k0_off1 k = ![(k : ℕ), 0] := by decide +kernel
theorem t1_off1 : ∀ k : Fin k0_t1_loop.trips, k0_off3 k = ![(k : ℕ), 1] := by decide +kernel
theorem t1_off2 : ∀ k : Fin k0_t1_loop.trips, k0_off5 k = ![(k : ℕ), 2] := by decide +kernel
theorem t1_off3 : ∀ k : Fin k0_t1_loop.trips, k0_off7 k = ![(k : ℕ), 3] := by decide +kernel
theorem t1_off4 : ∀ k : Fin k0_t1_loop.trips, k0_off9 k = ![(k : ℕ), 4] := by decide +kernel
theorem t1_off5 : ∀ k : Fin k0_t1_loop.trips, k0_off11 k = ![(k : ℕ), 5] := by decide +kernel
theorem t1_off6 : ∀ k : Fin k0_t1_loop.trips, k0_off13 k = ![(k : ℕ), 6] := by decide +kernel
theorem t1_off7 : ∀ k : Fin k0_t1_loop.trips, k0_off15 k = ![(k : ℕ), 7] := by decide +kernel

/-- Expert `m` is named by one of the first `k` tokens. -/
def namedTo (ids : S64x8.Idx → BitVec 32) (k m : ℕ) : Prop := ∃ t : Fin 64, (t : ℕ) < k ∧ ∃ j : Fin 8, (idAt ids t j).toNat = m
instance (ids : S64x8.Idx → BitVec 32) (k : ℕ) : DecidablePred (namedTo ids k) := fun m => by unfold namedTo; infer_instance

theorem namedTo_succ (ids : S64x8.Idx → BitVec 32) (k : ℕ) (hk : k < 64) (m : ℕ) :
    (((((((namedTo ids k m ∨ m = (idAt ids k 0).toNat) ∨ m = (idAt ids k 1).toNat) ∨ m = (idAt ids k 2).toNat) ∨ m = (idAt ids k 3).toNat)
      ∨ m = (idAt ids k 4).toNat) ∨ m = (idAt ids k 5).toNat) ∨ m = (idAt ids k 6).toNat) ∨ m = (idAt ids k 7).toNat ↔ namedTo ids (k + 1) m := by
  have h8 : (∃ j : Fin 8, (idAt ids k j).toNat = m) ↔ m = (idAt ids k 0).toNat ∨ m = (idAt ids k 1).toNat ∨ m = (idAt ids k 2).toNat ∨ m = (idAt ids k 3).toNat
      ∨ m = (idAt ids k 4).toNat ∨ m = (idAt ids k 5).toNat ∨ m = (idAt ids k 6).toNat ∨ m = (idAt ids k 7).toNat := by
    constructor
    · rintro ⟨j, hj⟩
      fin_cases j <;> simp at hj <;> simp [← hj]
    · rintro (h | h | h | h | h | h | h | h)
      exacts [⟨0, h.symm⟩, ⟨1, h.symm⟩, ⟨2, h.symm⟩, ⟨3, h.symm⟩, ⟨4, h.symm⟩, ⟨5, h.symm⟩, ⟨6, h.symm⟩, ⟨7, h.symm⟩]
  have hs : namedTo ids (k + 1) m ↔ namedTo ids k m ∨ ∃ j : Fin 8, (idAt ids k j).toNat = m := by
    constructor
    · rintro ⟨t, ht, hj⟩
      rcases Nat.lt_succ_iff_lt_or_eq.1 ht with h | h
      · exact Or.inl ⟨t, h, hj⟩
      · rw [← h]; exact Or.inr hj
    · rintro (⟨t, ht, hj⟩ | hj)
      · exact ⟨t, Nat.lt_succ_of_lt ht, hj⟩
      · exact ⟨⟨k, hk⟩, Nat.lt_succ_self k, hj⟩
  rw [hs, h8]
  simp only [or_assoc]

theorem run1 (hids : ∀ t j, (idAt a.ids t j).toNat < 32) (k : Fin k0_t1_loop.trips) {P : ℕ → Prop} [DecidablePred P] {Q : _ → sProp 𝕄} :
    iprop((M0.view.loc (c : Thread nD τ) ↦{fullShare} a.ids) ∗ (M15.view.loc (c : Thread nD τ) ↦{fullShare} flag P))
      ⊢ iprop((iprop((M0.view.loc (c : Thread nD τ) ↦{fullShare} a.ids) ∗ (M15.view.loc (c : Thread nD τ) ↦{fullShare} flag (fun m => ((((((P m ∨ m = (idAt a.ids k 0).toNat) ∨ m = (idAt a.ids k 1).toNat) ∨ m = (idAt a.ids k 2).toNat) ∨ m = (idAt a.ids k 3).toNat) ∨ m = (idAt a.ids k 4).toNat) ∨ m = (idAt a.ids k 5).toNat) ∨ m = (idAt a.ids k 6).toNat))) -∗ Q (idAt a.ids k 7)) -∗ wp frame (wpE defs 𝒱 (c : Thread nD τ) bd) Set.univ (k0_part1 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 0#32 1#32 k) Q) := by
  rw [k0_part1_eq_skeleton]
  unfold k0_part1_skel
  iintro ⟨H0, H⟩ Hk
  iapply (wp_ld_id 𝒱 c bd (hn := numel1_S1x1) (hw := rfl) (t1_off0 k)) $$ H0
  iintro H0
  iapply (wp_assume 𝒱 (c : Thread nD τ) bd Set.univ (chk1_of _ (hids k 0)))
  iapply (wp_mark 𝒱 c bd (idAt a.ids k 0) (hn := numel1_S1) (hw := rfl) rfl rfl) $$ H
  iintro H
  iapply (wp_ld_id 𝒱 c bd (hn := numel1_S1x1) (hw := rfl) (t1_off1 k)) $$ H0
  iintro H0
  iapply (wp_assume 𝒱 (c : Thread nD τ) bd Set.univ (chk1_of _ (hids k 1)))
  iapply (wp_mark 𝒱 c bd (idAt a.ids k 1) (hn := numel1_S1) (hw := rfl) rfl rfl) $$ H
  iintro H
  iapply (wp_ld_id 𝒱 c bd (hn := numel1_S1x1) (hw := rfl) (t1_off2 k)) $$ H0
  iintro H0
  iapply (wp_assume 𝒱 (c : Thread nD τ) bd Set.univ (chk1_of _ (hids k 2)))
  iapply (wp_mark 𝒱 c bd (idAt a.ids k 2) (hn := numel1_S1) (hw := rfl) rfl rfl) $$ H
  iintro H
  iapply (wp_ld_id 𝒱 c bd (hn := numel1_S1x1) (hw := rfl) (t1_off3 k)) $$ H0
  iintro H0
  iapply (wp_assume 𝒱 (c : Thread nD τ) bd Set.univ (chk1_of _ (hids k 3)))
  iapply (wp_mark 𝒱 c bd (idAt a.ids k 3) (hn := numel1_S1) (hw := rfl) rfl rfl) $$ H
  iintro H
  iapply (wp_ld_id 𝒱 c bd (hn := numel1_S1x1) (hw := rfl) (t1_off4 k)) $$ H0
  iintro H0
  iapply (wp_assume 𝒱 (c : Thread nD τ) bd Set.univ (chk1_of _ (hids k 4)))
  iapply (wp_mark 𝒱 c bd (idAt a.ids k 4) (hn := numel1_S1) (hw := rfl) rfl rfl) $$ H
  iintro H
  iapply (wp_ld_id 𝒱 c bd (hn := numel1_S1x1) (hw := rfl) (t1_off5 k)) $$ H0
  iintro H0
  iapply (wp_assume 𝒱 (c : Thread nD τ) bd Set.univ (chk1_of _ (hids k 5)))
  iapply (wp_mark 𝒱 c bd (idAt a.ids k 5) (hn := numel1_S1) (hw := rfl) rfl rfl) $$ H
  iintro H
  iapply (wp_ld_id 𝒱 c bd (hn := numel1_S1x1) (hw := rfl) (t1_off6 k)) $$ H0
  iintro H0
  iapply (wp_assume 𝒱 (c : Thread nD τ) bd Set.univ (chk1_of _ (hids k 6)))
  iapply (wp_mark 𝒱 c bd (idAt a.ids k 6) (hn := numel1_S1) (hw := rfl) rfl rfl) $$ H
  iintro H
  iapply (wp_ld_id 𝒱 c bd (hn := numel1_S1x1) (hw := rfl) (t1_off7 k)) $$ H0
  iintro H0
  iapply (le_wp_ret _ _)
  iapply Hk
  isplitl [H0]; · iexact H0
  iexact H

def seenInv (k : ℕ) : sProp 𝕄 := iprop((M0.view.loc (c : Thread nD τ) ↦{fullShare} a.ids) ∗ (M15.view.loc (c : Thread nD τ) ↦{fullShare} flag (namedTo a.ids k)))

theorem seen_step (hids : ∀ t j, (idAt a.ids t j).toNat < 32) (k : Fin k0_t1_loop.trips) :
    seenInv c a k ⊢ wp frame (wpE defs 𝒱 (c : Thread nD τ) bd) Set.univ (k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 k ()) (fun _ => seenInv c a (k + 1)) := by
  have hk : (k : ℕ) < 64 := k.isLt.trans_eq t1_trips
  unfold k0_t1_body seenInv
  iintro ⟨H0, H⟩
  rw [wp_bind]
  iapply (run1 𝒱 c bd a hids k) $$ [H0 H]
  · isplitl [H0] <;> iassumption
  iintro ⟨H0, H⟩
  iapply (wp_assume 𝒱 (c : Thread nD τ) bd Set.univ (chk1_of _ (hids k 7)))
  iapply (wp_mark 𝒱 c bd (idAt a.ids k 7) (hn := numel1_S1) (hw := rfl) rfl rfl) $$ H
  iintro H
  iapply (le_wp_ret _ _)
  isplitl [H0]; · iexact H0
  iapply (Entails.of_eq (congrArg (fun g : S32.Idx → BitVec 32 => ((M15.view.loc (c : Thread nD τ) ↦{fullShare} g) : sProp 𝕄)) (flag_congr _ (namedTo a.ids (k + 1)) (namedTo_succ a.ids k hk))))
  iexact H

theorem run_seen (hids : ∀ t j, (idAt a.ids t j).toNat < 32) {Q : _ → sProp 𝕄} :
    seenInv c a 0 ⊢ iprop((seenInv c a 64 -∗ Q ()) -∗ wp frame (wpE defs 𝒱 (c : Thread nD τ) bd) Set.univ (Scf.Loop.for k0_t1_loop k0_t1_ok () (k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9)) Q) := by
  iintro H HK
  iapply (Scf.wp_for frame (wpE defs 𝒱 (c : Thread nD τ) bd) Set.univ _ _ _ k0_t1_ok () _ (fun k _ => seenInv c a k) (fun k _ => seen_step 𝒱 c bd a hids k))
  isplitl [H]; · iexact H
  iintro %u H
  rw [show Scf.trips k0_t1_loop.lb k0_t1_loop.ub k0_t1_loop.st = 64 from t1_trips]
  iapply HK
  iexact H

/-! ## Listing them -/

/-- Expert `m` is named by some token. -/
abbrev named (ids : S64x8.Idx → BitVec 32) : ℕ → Prop := namedTo ids 64

/-- The `j`-th named expert, ascending. -/
def lst (ids : S64x8.Idx → BitVec 32) (j : ℕ) : Fin 32 :=
  if h : ∃ m : Fin 32, named ids m ∧ Nat.count (named ids) m = j then h.choose else 0

theorem lst_count (ids : S64x8.Idx → BitVec 32) (i : ℕ) (hi : i < 32) (hn : named ids i) : lst ids (Nat.count (named ids) i) = ⟨i, hi⟩ := by
  have h : ∃ m : Fin 32, named ids m ∧ Nat.count (named ids) m = Nat.count (named ids) i := ⟨⟨i, hi⟩, hn, rfl⟩
  unfold lst
  rw [dif_pos h]
  exact Fin.ext (Nat.count_injective h.choose_spec.1 hn h.choose_spec.2)

/-- The first words of `f` list the named experts below `i`, ascending. -/
def Lists (ids : S64x8.Idx → BitVec 32) (i : ℕ) (f : S33.Idx → BitVec 32) : Prop :=
  ∀ j < Nat.count (named ids) i, ordAt f j = BitVec.ofNat 32 (lst ids j)

theorem ordAt_set (f : S33.Idx → BitVec 32) (n : ℕ) (w : BitVec 32) (j : ℕ) (hj : j < 33) :
    ordAt (fun i => if (i 0 : ℕ) = n then w else f i) j = if j = n then w else ordAt f j := by
  unfold ordAt
  rw [dif_pos hj, dif_pos hj]

theorem lists_succ (ids : S64x8.Idx → BitVec 32) (i : ℕ) (hi : i < 32) (f : S33.Idx → BitVec 32) (h : Lists ids i f) :
    Lists ids (i + 1) (fun x => if (x 0 : ℕ) = Nat.count (named ids) i then BitVec.ofNat 32 i else f x) := by
  intro j hj
  have hc := Nat.count_le (p := named ids) (n := i + 1)
  rw [ordAt_set _ _ _ _ (by omega)]
  by_cases hn : named ids i
  · rw [Nat.count_succ, if_pos hn] at hj
    by_cases hj' : j = Nat.count (named ids) i
    · rw [if_pos hj', hj', lst_count ids i hi hn]
    · rw [if_neg hj']; exact h j (by omega)
  · rw [Nat.count_succ, if_neg hn] at hj
    rw [if_neg (by omega)]
    exact h j (by omega)

theorem t2_trips : k0_t2_loop.trips = 32 := by decide +kernel
theorem t2_off : ∀ k : Fin k0_t2_loop.trips, k0_off18 k = ![(k : ℕ)] := by decide +kernel
theorem t2_iv : ∀ k : Fin k0_t2_loop.trips, Scf.iv 0#32 1#32 k = BitVec.ofNat 32 k := by decide +kernel

def ordInv (i : ℕ) (v : BitVec 32) : sProp 𝕄 :=
  iprop((M15.view.loc (c : Thread nD τ) ↦{fullShare} flag (named a.ids)) ∗ (∃ f, ⌜Lists a.ids i f ∧ v = BitVec.ofNat 32 (Nat.count (named a.ids) i)⌝ ∗ (M16.view.loc (c : Thread nD τ) ↦{fullShare} f)))

theorem ord_step (k : Fin k0_t2_loop.trips) (v : BitVec 32) :
    ordInv c a k v ⊢ wp frame (wpE defs 𝒱 (c : Thread nD τ) bd) Set.univ (k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9 k v) (fun v' => ordInv c a (k + 1) v') := by
  have hk : (k : ℕ) < 32 := k.isLt.trans_eq t2_trips
  have hc := Nat.count_le (p := named a.ids) (n := (k : ℕ))
  unfold k0_t2_body ordInv
  iintro ⟨H, ⟨%f, %hf, H16⟩⟩
  obtain ⟨hL, hv⟩ := hf
  have hvn : v.toNat = Nat.count (named a.ids) k := by rw [hv, BitVec.toNat_ofNat, Nat.mod_eq_of_lt (by omega)]
  iapply (wp_assume 𝒱 (c : Thread nD τ) bd Set.univ (chk9_of v (by omega)))
  iapply (wp_ld_ord 𝒱 c bd (hn := numel1_S1) (hw := rfl) rfl) $$ H16
  iintro H16
  iapply (wp_st_ord 𝒱 c bd (n := v.toNat) _ rfl rfl) $$ H16
  iintro H16
  iapply (wp_ld_seen 𝒱 c bd (hn := numel1_S1) (hw := rfl) (t2_off k)) $$ H
  iintro H
  iapply (le_wp_ret _ _)
  isplitl [H]; · iexact H
  iexists _
  isplitr [H16]
  swap
  · iexact H16
  ipureintro
  refine ⟨?_, ?_⟩
  · have := lists_succ a.ids k hk f hL
    rw [← hvn, ← t2_iv k] at this
    exact this
  · show v + seenAt (flag (named a.ids)) k = _
    unfold seenAt
    rw [dif_pos hk, hv, Nat.count_succ]
    show _ + (if named a.ids k then 1#32 else 0#32) = _
    split
    · rw [BitVec.ofNat_add]
    · rw [BitVec.add_zero, Nat.add_zero]

theorem run_ord (f16 : S33.Idx → BitVec 32) {Q : _ → sProp 𝕄} :
    iprop((M15.view.loc (c : Thread nD τ) ↦{fullShare} flag (named a.ids)) ∗ (M16.view.loc (c : Thread nD τ) ↦{fullShare} f16))
      ⊢ iprop((∀ v, ordInv c a 32 v -∗ Q v) -∗ wp frame (wpE defs 𝒱 (c : Thread nD τ) bd) Set.univ (Scf.Loop.for k0_t2_loop k0_t2_ok 0#32 (k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9)) Q) := by
  iintro ⟨H, H16⟩ HK
  iapply (Scf.wp_for frame (wpE defs 𝒱 (c : Thread nD τ) bd) Set.univ _ _ _ k0_t2_ok 0#32 _ (fun k v => ordInv c a k v) (fun k v => ord_step 𝒱 c bd a k v))
  isplitl [H H16]
  · unfold ordInv
    isplitl [H]; · iexact H
    iexists f16
    isplitr [H16]
    swap
    · iexact H16
    ipureintro
    exact ⟨fun j hj => absurd hj (by simp), by simp⟩
  iintro %v H
  rw [show Scf.trips k0_t2_loop.lb k0_t2_loop.ub k0_t2_loop.st = 32 from t2_trips]
  iapply HK
  iexact H

end Cert.KernelIdeal.Hand
-- ==== Proof.KernelIdeal.Body.lean ====
/-
  The whole body: the marks, the list, the first transfers, the loop, the result.
-/
module

public import proofs.«01_k».proof.Proof.KernelIdeal.Loop
public import proofs.«01_k».proof.Proof.KernelIdeal.Pro
public import proofs.«01_k».proof.Proof.KernelIdeal.Order

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V)
variable (a : Ins F)

/-- How many experts the tokens name. -/
def nAct (ids : S64x8.Idx → BitVec 32) : Fin 33 :=
  ⟨Nat.count (named ids) 32, Nat.lt_succ_of_le (Nat.count_le ..)⟩

/-- What the kernel stores. -/
def outVal : S64x4096.Idx → Elt F .bf16 := k0_pay42 (accAt a (lst a.ids) (nAct a.ids))

theorem write_whole_f {h} (f w : S64x4096.Idx → Elt F .f32) :
    (M14.access (Rect.unit (s := S64x4096) ![0, 0] S64x4096.size h)).write (Elt F) f w Finset.univ = w := by
  refine (write_cols_f (L := 4096) (r := 0) rfl f w).trans ?_
  funext i
  have := (i 1).isLt
  rw [dif_pos ⟨Nat.zero_le _, by simpa using this⟩]
  refine congrArg w (funext fun t => ?_)
  fin_cases t <;> rfl

theorem write_whole_out {h} (f w : S64x4096.Idx → Elt F .bf16) :
    (M8.access (Rect.unit (s := S64x4096) ![0, 0] S64x4096.size h)).write (Elt F) f w Finset.univ = w := by
  funext i
  have hi : i = (M8.access (Rect.unit (s := S64x4096) ![0, 0] S64x4096.size h)).emb i := by
    funext t
    apply Fin.ext
    fin_cases t
    · show (i 0 : ℕ) = 0 + 1 * (i 0 : ℕ); omega
    · show (i 1 : ℕ) = 0 + 1 * (i 1 : ℕ); omega
  conv_lhs => rw [hi]
  rw [View.write_emb_of_mem _ _ (Finset.mem_univ _)]
  rfl

theorem wp_st_zero {α : Type} {Q : α → sProp 𝕄} {f w : S64x4096.Idx → Elt F .f32} {h} {h1 h2}
    {k : PUnit → Prog (TpuEff nD τ sig (Elt F) Λ₀ .tc) α} :
    (M14.view.loc (c : Thread nD τ) ↦{fullShare} f) ⊢ iprop(((M14.view.loc (c : Thread nD τ) ↦{fullShare} w) -∗ wp frame (wpE defs 𝒱 (c : Thread nD τ) bd) Set.univ (k ⟨⟩) Q)
          -∗ wp frame (wpE defs 𝒱 (c : Thread nD τ) bd) Set.univ (.op (.store M14 (Rect.unit (s := S64x4096) ![0, 0] S64x4096.size h) w Finset.univ h1 h2) k) Q) := by
  iintro H Hk
  iapply (wp_store 𝒱 (c : Thread nD τ) bd Set.univ (m := M14) (r := Rect.unit (s := S64x4096) ![0, 0] S64x4096.size h) (f := f)
    (S := Finset.univ) (hS := Finset.subset_univ _)) $$ H
  iintro H
  iapply Hk
  iapply (Entails.of_eq (congrArg (fun g : S64x4096.Idx → Elt F .f32 => ((M14.view.loc (c : Thread nD τ) ↦{fullShare} g) : sProp 𝕄)) (write_whole_f (h := h) f w)))
  iexact H

theorem wp_st_out {α : Type} {Q : α → sProp 𝕄} {f w : S64x4096.Idx → Elt F .bf16} {h} {h1 h2}
    {k : PUnit → Prog (TpuEff nD τ sig (Elt F) Λ₀ .tc) α} :
    (M8.view.loc (c : Thread nD τ) ↦{fullShare} f) ⊢ iprop(((M8.view.loc (c : Thread nD τ) ↦{fullShare} w) -∗ wp frame (wpE defs 𝒱 (c : Thread nD τ) bd) Set.univ (k ⟨⟩) Q)
          -∗ wp frame (wpE defs 𝒱 (c : Thread nD τ) bd) Set.univ (.op (.store M8 (Rect.unit (s := S64x4096) ![0, 0] S64x4096.size h) w Finset.univ h1 h2) k) Q) := by
  iintro H Hk
  iapply (wp_store 𝒱 (c : Thread nD τ) bd Set.univ (m := M8) (r := Rect.unit (s := S64x4096) ![0, 0] S64x4096.size h) (f := f)
    (S := Finset.univ) (hS := Finset.subset_univ _)) $$ H
  iintro H
  iapply Hk
  iapply (Entails.of_eq (congrArg (fun g : S64x4096.Idx → Elt F .bf16 => ((M8.view.loc (c : Thread nD τ) ↦{fullShare} g) : sProp 𝕄)) (write_whole_out (h := h) f w)))
  iexact H

/-- A slot is at rest once the loop is over. -/
theorem slotSt_end (n : ℕ) (E : ℕ → Fin 32) (s : ℕ) : slotSt c a n E n s ⊢ slotIdle c a s := by
  unfold slotSt
  rw [if_neg (by unfold nxt; omega)]

set_option maxHeartbeats 1000000 in
theorem run34 (hids : ∀ t j, (idAt a.ids t j).toNat < 32) {f13 : S64x1408.Idx → Elt F .bf16} {f14 : S64x4096.Idx → Elt F .f32} {f15 : S32.Idx → BitVec 32} {f16 : S33.Idx → BitVec 32} {Q : _ → sProp 𝕄} :
    iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (M13.view.loc (c : Thread nD τ) ↦{fullShare} f13) ∗ (M14.view.loc (c : Thread nD τ) ↦{fullShare} f14) ∗ (M15.view.loc (c : Thread nD τ) ↦{fullShare} clr 30 f15) ∗ (M16.view.loc (c : Thread nD τ) ↦{fullShare} f16) ∗ ow c ∗ slotIdle c a 0 ∗ slotIdle c a 1)
      ⊢ iprop((iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (∃ f, (M13.view.loc (c : Thread nD τ) ↦{fullShare} f)) ∗ (∃ f, (M14.view.loc (c : Thread nD τ) ↦{fullShare} f)) ∗ (∃ f, (M15.view.loc (c : Thread nD τ) ↦{fullShare} f)) ∗ (∃ f, (M16.view.loc (c : Thread nD τ) ↦{fullShare} f)) ∗ ow c ∗ slotIdle c a 0 ∗ slotIdle c a 1) -∗ Q (outVal a))
        -∗ wp frame (wpE defs 𝒱 (c : Thread nD τ) bd) Set.univ (k0_part34 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [k0_part34_eq_skeleton]
  unfold k0_part34_skel outVal
  iintro ⟨H0, H1, H2, H3, H13, H14, H15, H16, HO, HA, HB⟩ HK
  iapply (wp_clr 𝒱 c bd 30 (hn := numel1_S1) (hw := rfl) rfl rfl) $$ H15
  iintro H15
  iapply (wp_clr 𝒱 c bd 31 (hn := numel1_S1) (hw := rfl) rfl rfl) $$ H15
  iintro H15
  ihave H15 := (Entails.of_eq (congrArg (fun g : S32.Idx → BitVec 32 => ((M15.view.loc (c : Thread nD τ) ↦{fullShare} g) : sProp 𝕄)) (show clr 32 f15 = flag (namedTo a.ids 0) from by
    funext x
    have h32 : (x 0 : ℕ) < 32 := (x 0).isLt
    unfold clr flag
    rw [if_pos h32, if_neg (by rintro ⟨t, ht, _⟩; omega)]))) $$ H15
  simp only [ret_bind']
  rw [wp_bind]
  iapply (run_seen 𝒱 c bd a hids) $$ [H0 H15]
  · unfold seenInv
    isplitl [H0] <;> iassumption
  unfold seenInv
  iintro ⟨H0, H15⟩
  rw [wp_bind]
  iapply (run_ord 𝒱 c bd a f16) $$ [H15 H16]
  · isplitl [H15] <;> iassumption
  iintro %v34 H
  unfold ordInv
  icases H with ⟨H15, ⟨%ord, %hord, H16⟩⟩
  obtain ⟨hL, hv⟩ := hord
  have hv : v34 = BitVec.ofNat 32 (nAct a.ids) := hv
  subst hv
  have hE : ∀ i < (nAct a.ids : ℕ), (ordAt ord i).toNat = lst a.ids i := fun i hi => by
    rw [hL i hi, BitVec.toNat_ofNat, Nat.mod_eq_of_lt (by have := (lst a.ids i).isLt; omega)]
  iapply (wp_assume 𝒱 (c : Thread nD τ) bd Set.univ (chk12_of (nAct a.ids)))
  have e0 : nxt 0 0 = 0 := rfl
  have e1 : nxt 0 1 = 1 := rfl
  have hB : ¬ 1 < (nAct a.ids : ℕ) → (slotIdle c a 1 ⊢ slotSt c a (nAct a.ids) (lst a.ids) 0 1) := fun hn => by
    unfold slotSt; rw [e1, if_neg hn]
  have hA : ¬ 0 < (nAct a.ids : ℕ) → (slotIdle c a 0 ⊢ slotSt c a (nAct a.ids) (lst a.ids) 0 0) := fun hn => by
    unfold slotSt; rw [e0, if_neg hn]
  unfold slotIdle at hA hB ⊢
  try simp only [ret_bind']
  by_cases h1 : k0_cond1 (BitVec.ofNat 32 (nAct a.ids)) = 1#1
  case' pos =>
    have hn := (cond1_iff (nAct a.ids)).1 h1
    have he := hE 0 hn
    rw [dif_pos h1]
    rw [wp_bind]
    icases HA with ⟨Hz, Hg1, Hg2, Hg3, Hg4, Hg5, Hd0, Hd1, Hd2, Hd3⟩
    iapply (pro2 𝒱 c bd a _ h1 ord fullShare (chk10_of _ _ (by rw [he]; exact (lst a.ids 0).isLt)) (lst a.ids 0) he) $$ [H16 Hz]
    · isplitl [H16] <;> iassumption
    iintro ⟨H16, Hz⟩
    rw [wp_bind]
    iapply (pro3 𝒱 c bd a _ h1 _ _ (lst a.ids 0) he) $$ [Hg1 Hg2]
    · isplitl [Hg1] <;> iassumption
    iintro ⟨Hg1, Hg2⟩
    rw [wp_bind]
    iapply (pro4 𝒱 c bd a _ h1 _ _ (lst a.ids 0) he) $$ [Hg3 Hg4]
    · isplitl [Hg3] <;> iassumption
    iintro ⟨Hg3, Hg4⟩
    rw [wp_bind]
    iapply (pro5 𝒱 c bd a _ h1 _ _ (lst a.ids 0) he) $$ [Hg5 Hd0 Hd1 Hd2]
    · isplitl [Hg5]; · iexact Hg5
      isplitl [Hd0]; · iexact Hd0
      isplitl [Hd1] <;> iassumption
    iintro ⟨Hg5, Hd0, Hd1, Hd2⟩
    iapply (wp_enq_d1 𝒱 c bd a 0 3 rfl rfl he (dsem_eq rfl)) $$ Hd3
    iintro Hd3
    ihave HA := (show iprop(zFly c a 0 (lst a.ids 0) 0 ∗ gFly c a 0 1 (lst a.ids 0) ∗ gFly c a 0 2 (lst a.ids 0) ∗ gFly c a 0 3 (lst a.ids 0) ∗ gFly c a 0 4 (lst a.ids 0) ∗ gFly c a 0 5 (lst a.ids 0) ∗ dFly c a 0 0 (lst a.ids 0) ∗ dFly c a 0 1 (lst a.ids 0) ∗ dFly c a 0 2 (lst a.ids 0) ∗ dFly c a 0 3 (lst a.ids 0)) ⊢ slotSt c a (nAct a.ids) (lst a.ids) 0 0 from by
      unfold slotSt; rw [e0, if_pos hn]; exact .rfl) $$ [Hz Hg1 Hg2 Hg3 Hg4 Hg5 Hd0 Hd1 Hd2 Hd3]
    · isplitl [Hz]; · iexact Hz
      isplitl [Hg1]; · iexact Hg1
      isplitl [Hg2]; · iexact Hg2
      isplitl [Hg3]; · iexact Hg3
      isplitl [Hg4]; · iexact Hg4
      isplitl [Hg5]; · iexact Hg5
      isplitl [Hd0]; · iexact Hd0
      isplitl [Hd1]; · iexact Hd1
      isplitl [Hd2] <;> iassumption
  case' neg =>
    have hn : ¬ 0 < (nAct a.ids : ℕ) := fun h => h1 ((cond1_iff (nAct a.ids)).2 h)
    rw [dif_neg h1]
    ihave HA := (hA hn) $$ HA
  all_goals
    try simp only [ret_bind']
    clear hn
    by_cases h2 : k0_cond2 (BitVec.ofNat 32 (nAct a.ids)) = 1#1
    case' pos =>
      have hn := (cond2_iff (nAct a.ids)).1 h2
      have he := hE 1 hn
      rw [dif_pos h2]
      rw [wp_bind]
      icases HB with ⟨Hz, Hg1, Hg2, Hg3, Hg4, Hg5, Hd0, Hd1, Hd2, Hd3⟩
      iapply (pro6 𝒱 c bd a _ h2 ord fullShare (chk11_of _ _ (by rw [he]; exact (lst a.ids 1).isLt)) (lst a.ids 1) he) $$ [H16 Hz]
      · isplitl [H16] <;> iassumption
      iintro ⟨H16, Hz⟩
      rw [wp_bind]
      iapply (pro7 𝒱 c bd a _ h2 _ _ (lst a.ids 1) he) $$ [Hg1 Hg2]
      · isplitl [Hg1] <;> iassumption
      iintro ⟨Hg1, Hg2⟩
      rw [wp_bind]
      iapply (pro8 𝒱 c bd a _ h2 _ _ (lst a.ids 1) he) $$ [Hg3 Hg4]
      · isplitl [Hg3] <;> iassumption
      iintro ⟨Hg3, Hg4⟩
      rw [wp_bind]
      iapply (pro9 𝒱 c bd a _ h2 _ _ (lst a.ids 1) he) $$ [Hg5 Hd0 Hd1 Hd2]
      · isplitl [Hg5]; · iexact Hg5
        isplitl [Hd0]; · iexact Hd0
        isplitl [Hd1] <;> iassumption
      iintro ⟨Hg5, Hd0, Hd1, Hd2⟩
      iapply (wp_enq_d1 𝒱 c bd a 1 3 rfl rfl he (dsem_eq rfl)) $$ Hd3
      iintro Hd3
      ihave HB := (show iprop(zFly c a 1 (lst a.ids 1) 0 ∗ gFly c a 1 1 (lst a.ids 1) ∗ gFly c a 1 2 (lst a.ids 1) ∗ gFly c a 1 3 (lst a.ids 1) ∗ gFly c a 1 4 (lst a.ids 1) ∗ gFly c a 1 5 (lst a.ids 1) ∗ dFly c a 1 0 (lst a.ids 1) ∗ dFly c a 1 1 (lst a.ids 1) ∗ dFly c a 1 2 (lst a.ids 1) ∗ dFly c a 1 3 (lst a.ids 1)) ⊢ slotSt c a (nAct a.ids) (lst a.ids) 0 1 from by
        unfold slotSt; rw [e1, if_pos hn]; exact .rfl) $$ [Hz Hg1 Hg2 Hg3 Hg4 Hg5 Hd0 Hd1 Hd2 Hd3]
      · isplitl [Hz]; · iexact Hz
        isplitl [Hg1]; · iexact Hg1
        isplitl [Hg2]; · iexact Hg2
        isplitl [Hg3]; · iexact Hg3
        isplitl [Hg4]; · iexact Hg4
        isplitl [Hg5]; · iexact Hg5
        isplitl [Hd0]; · iexact Hd0
        isplitl [Hd1]; · iexact Hd1
        isplitl [Hd2] <;> iassumption
    case' neg =>
      have hn : ¬ 1 < (nAct a.ids : ℕ) := fun h => h2 ((cond2_iff (nAct a.ids)).2 h)
      rw [dif_neg h2]
      ihave HB := (hB hn) $$ HB
    all_goals
      try simp only [ret_bind']
      iapply (wp_ld_dead 𝒱 c bd (m := M14) (fun _ => rfl)) $$ H14
      iintro H14
      iapply (wp_st_zero 𝒱 c bd) $$ H14
      iintro H14
      try simp only [ret_bind']
      rw [wp_bind]
      iapply (run_loop 𝒱 c bd a (nAct a.ids) (lst a.ids) ord hE _) $$ [H16 H1 H2 H3 H13 H14 HO HA HB]
      · unfold loopInv
        isplitl [H16]; · iexact H16
        isplitl [H1]; · iexact H1
        isplitl [H2]; · iexact H2
        isplitl [H3]; · iexact H3
        isplitl [H13]; · iexists _; iexact H13
        isplitl [H14]; · iexact H14
        isplitl [HO]; · iexact HO
        isplitl [HA] <;> iassumption
      unfold loopInv
      iintro ⟨H16, H1, H2, H3, H13, H14, HO, HA, HB⟩
      rw [wp_bind]
      iapply (run_rest 𝒱 c bd (nAct a.ids) _ _)
      iapply (wp_ld_whole 𝒱 c bd (m := M14) (f := accAt a (lst a.ids) (nAct a.ids)) (accAt a (lst a.ids) (nAct a.ids)) (by funext i; fin_cases i <;> rfl) rfl) $$ H14
      iintro H14
      iapply (le_wp_ret _ _)
      iapply HK
      ihave HA := (slotSt_end c a (nAct a.ids) (lst a.ids) 0) $$ HA
      ihave HB := (slotSt_end c a (nAct a.ids) (lst a.ids) 1) $$ HB
      isplitl [H0]; · iexact H0
      isplitl [H1]; · iexact H1
      isplitl [H2]; · iexact H2
      isplitl [H3]; · iexact H3
      isplitl [H13]; · iexact H13
      isplitl [H14]; · iexists _; iexact H14
      isplitl [H15]; · iexists _; iexact H15
      isplitl [H16]; · iexists _; iexact H16
      isplitl [HO]; · iexact HO
      unfold slotIdle
      isplitl [HA] <;> iassumption

/-- The body: from the staged operands and everything else at rest, the result stored and everything else at rest again. -/
theorem run_body (hids : ∀ t j, (idAt a.ids t j).toNat < 32) {f8 : S64x4096.Idx → Elt F .bf16} {Q : _ → sProp 𝕄} :
    iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (M8.view.loc (c : Thread nD τ) ↦{fullShare} f8) ∗ (∃ f, (M13.view.loc (c : Thread nD τ) ↦{fullShare} f)) ∗ (∃ f, (M14.view.loc (c : Thread nD τ) ↦{fullShare} f)) ∗ (∃ f, (M15.view.loc (c : Thread nD τ) ↦{fullShare} f)) ∗ (∃ f, (M16.view.loc (c : Thread nD τ) ↦{fullShare} f)) ∗ ow c ∗ slotIdle c a 0 ∗ slotIdle c a 1)
      ⊢ iprop((iprop((M0.view.loc (c : Thread nD τ) ↦{fullShare} a.ids) ∗ (M1.view.loc (c : Thread nD τ) ↦{fullShare} a.ids) ∗ (M2.view.loc (c : Thread nD τ) ↦{fullShare} a.cw) ∗ (M3.view.loc (c : Thread nD τ) ↦{fullShare} a.x) ∗ (M8.view.loc (c : Thread nD τ) ↦{fullShare} outVal a) ∗ (∃ f, (M13.view.loc (c : Thread nD τ) ↦{fullShare} f)) ∗ (∃ f, (M14.view.loc (c : Thread nD τ) ↦{fullShare} f)) ∗ (∃ f, (M15.view.loc (c : Thread nD τ) ↦{fullShare} f)) ∗ (∃ f, (M16.view.loc (c : Thread nD τ) ↦{fullShare} f)) ∗ ow c ∗ slotIdle c a 0 ∗ slotIdle c a 1) -∗ Q ())
        -∗ wp frame (wpE defs 𝒱 (c : Thread nD τ) bd) Set.univ (cc0_moe_swiglu (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch8 cc0_scratch9) Q) := by
  rw [cc0_moe_swiglu_eq_skeleton]
  unfold cc0_moe_swiglu_skel
  iintro ⟨H0, H1, H2, H3, H8, ⟨%f13, H13⟩, ⟨%f14, H14⟩, ⟨%f15, H15⟩, ⟨%f16, H16⟩, HO, HA, HB⟩ HK
  rw [wp_bind]
  iapply (run32 𝒱 c bd) $$ H15
  iintro H15
  rw [wp_bind]
  iapply (run33 𝒱 c bd) $$ H15
  iintro H15
  rw [wp_bind]
  iapply (run34 𝒱 c bd a hids) $$ [H0 H1 H2 H3 H13 H14 H15 H16 HO HA HB]
  · isplitl [H0]; · iexact H0
    isplitl [H1]; · iexact H1
    isplitl [H2]; · iexact H2
    isplitl [H3]; · iexact H3
    isplitl [H13]; · iexact H13
    isplitl [H14]; · iexact H14
    isplitl [H15]; · iexact H15
    isplitl [H16]; · iexact H16
    isplitl [HO]; · iexact HO
    isplitl [HA] <;> iassumption
  iintro ⟨H0, H1, H2, H3, H13, H14, H15, H16, HO, HA, HB⟩
  iapply (wp_ld_dead 𝒱 c bd (m := M8) (fun _ => rfl)) $$ H8
  iintro H8
  iapply (wp_st_out 𝒱 c bd) $$ H8
  iintro H8
  iapply (le_wp_ret _ _)
  iapply HK
  isplitl [H0]; · iexact H0
  isplitl [H1]; · iexact H1
  isplitl [H2]; · iexact H2
  isplitl [H3]; · iexact H3
  isplitl [H8]; · iexact H8
  isplitl [H13]; · iexact H13
  isplitl [H14]; · iexact H14
  isplitl [H15]; · iexact H15
  isplitl [H16]; · iexact H16
  isplitl [HO]; · iexact HO
  isplitl [HA] <;> iassumption

end Cert.KernelIdeal.Hand
-- ==== Proof.KernelIdeal.Split.lean ====
/-
  The two slots' windows, source shares and semaphores at rest, cut out of the whole scratch buffers, the whole operands
  and the pool of semaphores, and put back together.
-/
module

public import proofs.«01_k».proof.Proof.KernelIdeal.Trip
public import Idealize.ShloMosaic.Lib.Ring

@[expose] public section

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD) (a : Ins F)

/-! ## One buffer into its windows, one operand into as many shares -/

theorem bigSep_range_fin {M : Type} [URA M] (N : ℕ) (Φ : ℕ → sProp M) :
    bigSep (Finset.range N) Φ = bigSep Finset.univ (fun b : Fin N => Φ b) := by
  rw [← Nat.Iio_eq_range, ← Fin.map_valEmbedding_univ, bigSep_map]
  rfl

section Cells

variable {N : ℕ} {ℓ ℓs : Loc nD τ sig} (I : Fin N → Finset (Idx ℓ))
  (hd : ∀ b b', b ≠ b' → Disjoint (I b) (I b')) (hc : Finset.univ.biUnion I = Finset.univ)

include hd hc in
theorem cells_split (g : Buf (Elt F) ℓs) :
    (iprop((∃ f, ℓ ↦{fullShare} f) ∗ (ℓs ↦{fullShare} g)) : sProp 𝕄)
      ⊢ iprop((ℓs ↦{shareDrop fullShare N} g) ∗ bigSep Finset.univ fun b : Fin N => iprop((∃ f, ℓ ↦[I b]{fullShare} f) ∗ (ℓs ↦{shareTokN fullShare b} g))) := by
  rw [bigSep_sep', ← bigSep_range_fin N (fun b => (ℓs ↦{shareTokN fullShare b} g : sProp 𝕄))]
  iintro ⟨⟨%f, H⟩, Hs⟩
  ihave Hs := (pointsTo_toks_range fullShare N).1 $$ Hs
  icases Hs with ⟨Hd, Ht⟩
  isplitl [Hd]; · iexact Hd
  isplitl [H]
  · iapply (show bigSep Finset.univ (fun b : Fin N => (ℓ ↦[I b]{fullShare} f : sProp 𝕄)) ⊢ bigSep Finset.univ (fun b : Fin N => (iprop(∃ f, ℓ ↦[I b]{fullShare} f) : sProp 𝕄)) from
      bigSep_mono fun b _ => (exists_intro (Φ := fun g => (ℓ ↦[I b]{fullShare} g : sProp 𝕄)) f))
    iapply (Entails.of_eq (Ring.pointsTo_blocks I hd hc f))
    iexact H
  iexact Ht

include hd hc in
theorem cells_join (f₀ : Buf (Elt F) ℓ) (g : Buf (Elt F) ℓs) :
    (iprop((ℓs ↦{shareDrop fullShare N} g) ∗ bigSep Finset.univ fun b : Fin N => iprop((∃ f, ℓ ↦[I b]{fullShare} f) ∗ (ℓs ↦{shareTokN fullShare b} g))) : sProp 𝕄)
      ⊢ iprop((∃ f, ℓ ↦{fullShare} f) ∗ (ℓs ↦{fullShare} g)) := by
  rw [bigSep_sep', ← bigSep_range_fin N (fun b => (ℓs ↦{shareTokN fullShare b} g : sProp 𝕄))]
  iintro ⟨Hd, H, Ht⟩
  isplitl [H]
  · iapply (Ring.pointsTo_blocks_join_exists I hd hc f₀)
    iexact H
  iapply (pointsTo_toks_range fullShare N).2
  isplitl [Hd] <;> iassumption

end Cells

/-! ## The four buffers' windows tile them -/

section Tiles
variable {d1 d2 : ℕ}

theorem win_disj {s r L s' r' L' : ℕ} (h : s ≠ s' ∨ r + L ≤ r' ∨ r' + L' ≤ r) :
    Disjoint (win (d0 := 2) (d1 := d1) (d2 := d2) s r L) (win s' r' L') := by
  rw [Finset.disjoint_left]
  intro i hi hi'
  rw [mem_win] at hi hi'
  omega
end Tiles

theorem g_disj : ∀ b b' : Fin 24, b ≠ b' → Disjoint (win (d0 := 2) (d1 := 2816) (d2 := 4096) ((b : ℕ) / 12) (gOff ((b : ℕ) % 12)) (gLen ((b : ℕ) % 12)))
    (win ((b' : ℕ) / 12) (gOff ((b' : ℕ) % 12)) (gLen ((b' : ℕ) % 12))) := by
  have key : ∀ b b' : Fin 24, b ≠ b' → ((b : ℕ) / 12 ≠ (b' : ℕ) / 12 ∨ gOff ((b : ℕ) % 12) + gLen ((b : ℕ) % 12) ≤ gOff ((b' : ℕ) % 12)
      ∨ gOff ((b' : ℕ) % 12) + gLen ((b' : ℕ) % 12) ≤ gOff ((b : ℕ) % 12)) := by unfold gOff gLen; decide +kernel
  exact fun b b' h => win_disj (key b b' h)

theorem g_cover : Finset.univ.biUnion (fun b : Fin 24 => win (d0 := 2) (d1 := 2816) (d2 := 4096) ((b : ℕ) / 12) (gOff ((b : ℕ) % 12)) (gLen ((b : ℕ) % 12))) = Finset.univ := by
  have key : ∀ s : Fin 2, ∀ t : Fin 22, ∃ b : Fin 24, (b : ℕ) / 12 = s ∧ gOff ((b : ℕ) % 12) ≤ 128 * (t : ℕ)
      ∧ 128 * (t : ℕ) + 128 ≤ gOff ((b : ℕ) % 12) + gLen ((b : ℕ) % 12) := by unfold gOff gLen; decide +kernel
  refine Finset.eq_univ_iff_forall.mpr fun i => ?_
  have h0 : (i 0 : ℕ) < 2 := (i 0).isLt
  have h1 : (i 1 : ℕ) < 2816 := (i 1).isLt
  obtain ⟨b, hb, hlo, hhi⟩ := key ⟨i 0, h0⟩ ⟨(i 1 : ℕ) / 128, by omega⟩
  simp only at hb hlo hhi
  refine Finset.mem_biUnion.mpr ⟨b, Finset.mem_univ _, mem_win.mpr ⟨hb.symm, ?_, ?_⟩⟩ <;> omega

theorem d_disj : ∀ b b' : Fin 8, b ≠ b' → Disjoint (win (d0 := 2) (d1 := 4096) (d2 := 1408) ((b : ℕ) / 4) (1024 * ((b : ℕ) % 4)) 1024)
    (win ((b' : ℕ) / 4) (1024 * ((b' : ℕ) % 4)) 1024) := by
  intro b b' h
  have : (b : ℕ) ≠ b' := fun e => h (Fin.ext e)
  exact win_disj (by omega)

theorem d_cover : Finset.univ.biUnion (fun b : Fin 8 => win (d0 := 2) (d1 := 4096) (d2 := 1408) ((b : ℕ) / 4) (1024 * ((b : ℕ) % 4)) 1024) = Finset.univ := by
  refine Finset.eq_univ_iff_forall.mpr fun i => ?_
  have h0 : (i 0 : ℕ) < 2 := (i 0).isLt
  have h1 : (i 1 : ℕ) < 4096 := (i 1).isLt
  refine Finset.mem_biUnion.mpr ⟨⟨4 * (i 0 : ℕ) + (i 1 : ℕ) / 1024, by omega⟩, Finset.mem_univ _, mem_win.mpr ⟨?_, ?_, ?_⟩⟩ <;> simp only <;> omega

theorem s_disj {d2 : ℕ} : ∀ b b' : Fin 2, b ≠ b' → Disjoint (win (d0 := 2) (d1 := 1) (d2 := d2) (b : ℕ) 0 1) (win (b' : ℕ) 0 1) := by
  intro b b' h
  exact win_disj (Or.inl fun e => h (Fin.ext e))

theorem s_cover {d2 : ℕ} : Finset.univ.biUnion (fun b : Fin 2 => win (d0 := 2) (d1 := 1) (d2 := d2) (b : ℕ) 0 1) = Finset.univ := by
  refine Finset.eq_univ_iff_forall.mpr fun i => ?_
  have h0 : (i 0 : ℕ) < 2 := (i 0).isLt
  have h1 : (i 1 : ℕ) < 1 := (i 1).isLt
  refine Finset.mem_biUnion.mpr ⟨⟨i 0, h0⟩, Finset.mem_univ _, mem_win.mpr ⟨rfl, ?_, ?_⟩⟩ <;> omega

/-! ## The four buffers -/

theorem g_list : (bigSep Finset.univ (fun b : Fin 24 => gHome c a ((b : ℕ) / 12) ((b : ℕ) % 12)) : sProp 𝕄) = iprop(gHome c a 0 0 ∗ gHome c a 0 1 ∗ gHome c a 0 2 ∗ gHome c a 0 3 ∗ gHome c a 0 4 ∗ gHome c a 0 5 ∗ gHome c a 0 6 ∗ gHome c a 0 7 ∗ gHome c a 0 8 ∗ gHome c a 0 9 ∗ gHome c a 0 10 ∗ gHome c a 0 11 ∗ gHome c a 1 0 ∗ gHome c a 1 1 ∗ gHome c a 1 2 ∗ gHome c a 1 3 ∗ gHome c a 1 4 ∗ gHome c a 1 5 ∗ gHome c a 1 6 ∗ gHome c a 1 7 ∗ gHome c a 1 8 ∗ gHome c a 1 9 ∗ gHome c a 1 10 ∗ gHome c a 1 11) :=
  bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide) _

theorem g_cells : (bigSep Finset.univ (fun b : Fin 24 => iprop((∃ f, M9.view.loc (c : Thread nD τ) ↦[(fun b : Fin 24 => win ((b : ℕ) / 12) (gOff ((b : ℕ) % 12)) (gLen ((b : ℕ) % 12))) b]{fullShare} f) ∗ (M6.view.loc (c : Thread nD τ) ↦{shareTokN fullShare b} a.wg))) : sProp 𝕄)
    = bigSep Finset.univ (fun b : Fin 24 => gHome c a ((b : ℕ) / 12) ((b : ℕ) % 12)) :=
  bigSep_congr fun b _ => by
    unfold gHome
    rw [show 12 * ((b : ℕ) / 12) + (b : ℕ) % 12 = (b : ℕ) from by omega]

theorem g_split : (iprop((∃ f, M9.view.loc (c : Thread nD τ) ↦{fullShare} f) ∗ (M6.view.loc (c : Thread nD τ) ↦{fullShare} a.wg)) : sProp 𝕄) ⊢ iprop((M6.view.loc (c : Thread nD τ) ↦{shareDrop fullShare 24} a.wg) ∗ gHome c a 0 0 ∗ gHome c a 0 1 ∗ gHome c a 0 2 ∗ gHome c a 0 3 ∗ gHome c a 0 4 ∗ gHome c a 0 5 ∗ gHome c a 0 6 ∗ gHome c a 0 7 ∗ gHome c a 0 8 ∗ gHome c a 0 9 ∗ gHome c a 0 10 ∗ gHome c a 0 11 ∗ gHome c a 1 0 ∗ gHome c a 1 1 ∗ gHome c a 1 2 ∗ gHome c a 1 3 ∗ gHome c a 1 4 ∗ gHome c a 1 5 ∗ gHome c a 1 6 ∗ gHome c a 1 7 ∗ gHome c a 1 8 ∗ gHome c a 1 9 ∗ gHome c a 1 10 ∗ gHome c a 1 11) := by
  exact (cells_split (ℓ := M9.view.loc (c : Thread nD τ)) (ℓs := M6.view.loc (c : Thread nD τ)) (fun b : Fin 24 => win ((b : ℕ) / 12) (gOff ((b : ℕ) % 12)) (gLen ((b : ℕ) % 12))) g_disj g_cover a.wg).trans
    (sep_mono_right (Entails.of_eq ((g_cells c a).trans (g_list c a))))

theorem g_join : (iprop((M6.view.loc (c : Thread nD τ) ↦{shareDrop fullShare 24} a.wg) ∗ gHome c a 0 0 ∗ gHome c a 0 1 ∗ gHome c a 0 2 ∗ gHome c a 0 3 ∗ gHome c a 0 4 ∗ gHome c a 0 5 ∗ gHome c a 0 6 ∗ gHome c a 0 7 ∗ gHome c a 0 8 ∗ gHome c a 0 9 ∗ gHome c a 0 10 ∗ gHome c a 0 11 ∗ gHome c a 1 0 ∗ gHome c a 1 1 ∗ gHome c a 1 2 ∗ gHome c a 1 3 ∗ gHome c a 1 4 ∗ gHome c a 1 5 ∗ gHome c a 1 6 ∗ gHome c a 1 7 ∗ gHome c a 1 8 ∗ gHome c a 1 9 ∗ gHome c a 1 10 ∗ gHome c a 1 11) : sProp 𝕄) ⊢ iprop((∃ f, M9.view.loc (c : Thread nD τ) ↦{fullShare} f) ∗ (M6.view.loc (c : Thread nD τ) ↦{fullShare} a.wg)) := by
  exact (sep_mono_right (Entails.of_eq ((g_cells c a).trans (g_list c a)).symm)).trans
    (cells_join (ℓ := M9.view.loc (c : Thread nD τ)) (ℓs := M6.view.loc (c : Thread nD τ)) (fun b : Fin 24 => win ((b : ℕ) / 12) (gOff ((b : ℕ) % 12)) (gLen ((b : ℕ) % 12))) g_disj g_cover (gC a 0) a.wg)

theorem d_list : (bigSep Finset.univ (fun b : Fin 8 => dHome c a ((b : ℕ) / 4) ((b : ℕ) % 4)) : sProp 𝕄) = iprop(dHome c a 0 0 ∗ dHome c a 0 1 ∗ dHome c a 0 2 ∗ dHome c a 0 3 ∗ dHome c a 1 0 ∗ dHome c a 1 1 ∗ dHome c a 1 2 ∗ dHome c a 1 3) :=
  bigSep_univ_eq_bigSepL [(0 : Fin 8), (1 : Fin 8), (2 : Fin 8), (3 : Fin 8), (4 : Fin 8), (5 : Fin 8), (6 : Fin 8), (7 : Fin 8)] (by decide) (by decide) _

theorem d_cells : (bigSep Finset.univ (fun b : Fin 8 => iprop((∃ f, M10.view.loc (c : Thread nD τ) ↦[(fun b : Fin 8 => win ((b : ℕ) / 4) (1024 * ((b : ℕ) % 4)) 1024) b]{fullShare} f) ∗ (M7.view.loc (c : Thread nD τ) ↦{shareTokN fullShare b} a.wd))) : sProp 𝕄)
    = bigSep Finset.univ (fun b : Fin 8 => dHome c a ((b : ℕ) / 4) ((b : ℕ) % 4)) :=
  bigSep_congr fun b _ => by
    unfold dHome
    rw [show 4 * ((b : ℕ) / 4) + (b : ℕ) % 4 = (b : ℕ) from by omega]

theorem d_split : (iprop((∃ f, M10.view.loc (c : Thread nD τ) ↦{fullShare} f) ∗ (M7.view.loc (c : Thread nD τ) ↦{fullShare} a.wd)) : sProp 𝕄) ⊢ iprop((M7.view.loc (c : Thread nD τ) ↦{shareDrop fullShare 8} a.wd) ∗ dHome c a 0 0 ∗ dHome c a 0 1 ∗ dHome c a 0 2 ∗ dHome c a 0 3 ∗ dHome c a 1 0 ∗ dHome c a 1 1 ∗ dHome c a 1 2 ∗ dHome c a 1 3) := by
  exact (cells_split (ℓ := M10.view.loc (c : Thread nD τ)) (ℓs := M7.view.loc (c : Thread nD τ)) (fun b : Fin 8 => win ((b : ℕ) / 4) (1024 * ((b : ℕ) % 4)) 1024) d_disj d_cover a.wd).trans
    (sep_mono_right (Entails.of_eq ((d_cells c a).trans (d_list c a))))

theorem d_join : (iprop((M7.view.loc (c : Thread nD τ) ↦{shareDrop fullShare 8} a.wd) ∗ dHome c a 0 0 ∗ dHome c a 0 1 ∗ dHome c a 0 2 ∗ dHome c a 0 3 ∗ dHome c a 1 0 ∗ dHome c a 1 1 ∗ dHome c a 1 2 ∗ dHome c a 1 3) : sProp 𝕄) ⊢ iprop((∃ f, M10.view.loc (c : Thread nD τ) ↦{fullShare} f) ∗ (M7.view.loc (c : Thread nD τ) ↦{fullShare} a.wd)) := by
  exact (sep_mono_right (Entails.of_eq ((d_cells c a).trans (d_list c a)).symm)).trans
    (cells_join (ℓ := M10.view.loc (c : Thread nD τ)) (ℓs := M7.view.loc (c : Thread nD τ)) (fun b : Fin 8 => win ((b : ℕ) / 4) (1024 * ((b : ℕ) % 4)) 1024) d_disj d_cover (dC a 0) a.wd)

theorem sg_list : (bigSep Finset.univ (fun b : Fin 2 => sgHome c a (b : ℕ)) : sProp 𝕄) = iprop(sgHome c a 0 ∗ sgHome c a 1) :=
  bigSep_univ_eq_bigSepL [(0 : Fin 2), (1 : Fin 2)] (by decide) (by decide) _

theorem sg_cells : (bigSep Finset.univ (fun b : Fin 2 => iprop((∃ f, M11.view.loc (c : Thread nD τ) ↦[(fun b : Fin 2 => win (b : ℕ) 0 1) b]{fullShare} f) ∗ (M4.view.loc (c : Thread nD τ) ↦{shareTokN fullShare b} a.sg))) : sProp 𝕄)
    = bigSep Finset.univ (fun b : Fin 2 => sgHome c a (b : ℕ)) :=
  bigSep_congr fun b _ => by
    unfold sgHome
    rfl

theorem sg_split : (iprop((∃ f, M11.view.loc (c : Thread nD τ) ↦{fullShare} f) ∗ (M4.view.loc (c : Thread nD τ) ↦{fullShare} a.sg)) : sProp 𝕄) ⊢ iprop((M4.view.loc (c : Thread nD τ) ↦{shareDrop fullShare 2} a.sg) ∗ sgHome c a 0 ∗ sgHome c a 1) := by
  exact (cells_split (ℓ := M11.view.loc (c : Thread nD τ)) (ℓs := M4.view.loc (c : Thread nD τ)) (fun b : Fin 2 => win (b : ℕ) 0 1) s_disj s_cover a.sg).trans
    (sep_mono_right (Entails.of_eq ((sg_cells c a).trans (sg_list c a))))

theorem sg_join : (iprop((M4.view.loc (c : Thread nD τ) ↦{shareDrop fullShare 2} a.sg) ∗ sgHome c a 0 ∗ sgHome c a 1) : sProp 𝕄) ⊢ iprop((∃ f, M11.view.loc (c : Thread nD τ) ↦{fullShare} f) ∗ (M4.view.loc (c : Thread nD τ) ↦{fullShare} a.sg)) := by
  exact (sep_mono_right (Entails.of_eq ((sg_cells c a).trans (sg_list c a)).symm)).trans
    (cells_join (ℓ := M11.view.loc (c : Thread nD τ)) (ℓs := M4.view.loc (c : Thread nD τ)) (fun b : Fin 2 => win (b : ℕ) 0 1) s_disj s_cover (sgC a 0) a.sg)

theorem sd_list : (bigSep Finset.univ (fun b : Fin 2 => sdHome c a (b : ℕ)) : sProp 𝕄) = iprop(sdHome c a 0 ∗ sdHome c a 1) :=
  bigSep_univ_eq_bigSepL [(0 : Fin 2), (1 : Fin 2)] (by decide) (by decide) _

theorem sd_cells : (bigSep Finset.univ (fun b : Fin 2 => iprop((∃ f, M12.view.loc (c : Thread nD τ) ↦[(fun b : Fin 2 => win (b : ℕ) 0 1) b]{fullShare} f) ∗ (M5.view.loc (c : Thread nD τ) ↦{shareTokN fullShare b} a.sd))) : sProp 𝕄)
    = bigSep Finset.univ (fun b : Fin 2 => sdHome c a (b : ℕ)) :=
  bigSep_congr fun b _ => by
    unfold sdHome
    rfl

theorem sd_split : (iprop((∃ f, M12.view.loc (c : Thread nD τ) ↦{fullShare} f) ∗ (M5.view.loc (c : Thread nD τ) ↦{fullShare} a.sd)) : sProp 𝕄) ⊢ iprop((M5.view.loc (c : Thread nD τ) ↦{shareDrop fullShare 2} a.sd) ∗ sdHome c a 0 ∗ sdHome c a 1) := by
  exact (cells_split (ℓ := M12.view.loc (c : Thread nD τ)) (ℓs := M5.view.loc (c : Thread nD τ)) (fun b : Fin 2 => win (b : ℕ) 0 1) s_disj s_cover a.sd).trans
    (sep_mono_right (Entails.of_eq ((sd_cells c a).trans (sd_list c a))))

theorem sd_join : (iprop((M5.view.loc (c : Thread nD τ) ↦{shareDrop fullShare 2} a.sd) ∗ sdHome c a 0 ∗ sdHome c a 1) : sProp 𝕄) ⊢ iprop((∃ f, M12.view.loc (c : Thread nD τ) ↦{fullShare} f) ∗ (M5.view.loc (c : Thread nD τ) ↦{fullShare} a.sd)) := by
  exact (sep_mono_right (Entails.of_eq ((sd_cells c a).trans (sd_list c a)).symm)).trans
    (cells_join (ℓ := M12.view.loc (c : Thread nD τ)) (ℓs := M5.view.loc (c : Thread nD τ)) (fun b : Fin 2 => win (b : ℕ) 0 1) s_disj s_cover (sdC a 0) a.sd)

/-! ## Both slots -/

/-- The scratch the slots use at some contents, and the operands they read, whole. -/
def buffers : sProp 𝕄 :=
  iprop(((∃ f, M9.view.loc (c : Thread nD τ) ↦{fullShare} f) ∗ (M6.view.loc (c : Thread nD τ) ↦{fullShare} a.wg)) ∗ ((∃ f, M10.view.loc (c : Thread nD τ) ↦{fullShare} f) ∗ (M7.view.loc (c : Thread nD τ) ↦{fullShare} a.wd)) ∗ ((∃ f, M11.view.loc (c : Thread nD τ) ↦{fullShare} f) ∗ (M4.view.loc (c : Thread nD τ) ↦{fullShare} a.sg)) ∗ ((∃ f, M12.view.loc (c : Thread nD τ) ↦{fullShare} f) ∗ (M5.view.loc (c : Thread nD τ) ↦{fullShare} a.sd)))
/-- The twenty semaphores at zero. -/
def pool : sProp 𝕄 :=
  iprop(semVal ((c : Thread nD τ), .dma (gsem 0 0)) 0 ∗ semVal ((c : Thread nD τ), .dma (gsem 0 1)) 0 ∗ semVal ((c : Thread nD τ), .dma (gsem 0 2)) 0 ∗ semVal ((c : Thread nD τ), .dma (gsem 0 3)) 0 ∗ semVal ((c : Thread nD τ), .dma (gsem 0 4)) 0 ∗ semVal ((c : Thread nD τ), .dma (gsem 0 5)) 0 ∗ semVal ((c : Thread nD τ), .dma (gsem 1 0)) 0 ∗ semVal ((c : Thread nD τ), .dma (gsem 1 1)) 0 ∗ semVal ((c : Thread nD τ), .dma (gsem 1 2)) 0 ∗ semVal ((c : Thread nD τ), .dma (gsem 1 3)) 0 ∗ semVal ((c : Thread nD τ), .dma (gsem 1 4)) 0 ∗ semVal ((c : Thread nD τ), .dma (gsem 1 5)) 0 ∗ semVal ((c : Thread nD τ), .dma (dsem 0 0)) 0 ∗ semVal ((c : Thread nD τ), .dma (dsem 0 1)) 0 ∗ semVal ((c : Thread nD τ), .dma (dsem 0 2)) 0 ∗ semVal ((c : Thread nD τ), .dma (dsem 0 3)) 0 ∗ semVal ((c : Thread nD τ), .dma (dsem 1 0)) 0 ∗ semVal ((c : Thread nD τ), .dma (dsem 1 1)) 0 ∗ semVal ((c : Thread nD τ), .dma (dsem 1 2)) 0 ∗ semVal ((c : Thread nD τ), .dma (dsem 1 3)) 0)
/-- What no slot holds of the operands. -/
def spare : sProp 𝕄 :=
  iprop((M6.view.loc (c : Thread nD τ) ↦{shareDrop fullShare 24} a.wg) ∗ (M7.view.loc (c : Thread nD τ) ↦{shareDrop fullShare 8} a.wd) ∗ (M4.view.loc (c : Thread nD τ) ↦{shareDrop fullShare 2} a.sg) ∗ (M5.view.loc (c : Thread nD τ) ↦{shareDrop fullShare 2} a.sd))

theorem slots_split : (iprop(buffers c a ∗ pool c) : sProp 𝕄) ⊢ iprop(spare c a ∗ slotIdle c a 0 ∗ slotIdle c a 1) := by
  unfold buffers pool spare slotIdle zIdle gIdle dIdle
  iintro ⟨⟨Bg, Bd, Bsg, Bsd⟩, S0, S1, S2, S3, S4, S5, S6, S7, S8, S9, S10, S11, S12, S13, S14, S15, S16, S17, S18, S19⟩
  ihave Bg := (g_split c a) $$ Bg
  icases Bg with ⟨Rg, G0, G1, G2, G3, G4, G5, G6, G7, G8, G9, G10, G11, G12, G13, G14, G15, G16, G17, G18, G19, G20, G21, G22, G23⟩
  ihave Bd := (d_split c a) $$ Bd
  icases Bd with ⟨Rd, D0, D1, D2, D3, D4, D5, D6, D7⟩
  ihave Bsg := (sg_split c a) $$ Bsg
  icases Bsg with ⟨Rsg, P0, P1⟩
  ihave Bsd := (sd_split c a) $$ Bsd
  icases Bsd with ⟨Rsd, Q0, Q1⟩
  isplitl [Rg Rd Rsg Rsd]
  · isplitl [Rg]; · iexact Rg
    isplitl [Rd]; · iexact Rd
    isplitl [Rsg] <;> iassumption
  isplitl [G0 G1 G2 G3 G4 G5 G6 G7 G8 G9 G10 G11 S0 S1 S2 S3 S4 S5 D0 D1 D2 D3 S12 S13 S14 S15 P0 Q0]
  · isplitl [G0 G6 P0 Q0 S0]
    · isplitl [G0 G6 P0 Q0]
      · isplitl [G0]; · iexact G0
        isplitl [G6]; · iexact G6
        isplitl [P0] <;> iassumption
      iexact S0
    isplitl [G1 G7 S1]
    · isplitl [G1]; · iexact G1
      isplitl [G7] <;> iassumption
    isplitl [G2 G8 S2]
    · isplitl [G2]; · iexact G2
      isplitl [G8] <;> iassumption
    isplitl [G3 G9 S3]
    · isplitl [G3]; · iexact G3
      isplitl [G9] <;> iassumption
    isplitl [G4 G10 S4]
    · isplitl [G4]; · iexact G4
      isplitl [G10] <;> iassumption
    isplitl [G5 G11 S5]
    · isplitl [G5]; · iexact G5
      isplitl [G11] <;> iassumption
    isplitl [D0 S12]
    · isplitl [D0] <;> iassumption
    isplitl [D1 S13]
    · isplitl [D1] <;> iassumption
    isplitl [D2 S14]
    · isplitl [D2] <;> iassumption
    isplitl [D3] <;> iassumption
  isplitl [G12 G18 P1 Q1 S6]
  · isplitl [G12 G18 P1 Q1]
    · isplitl [G12]; · iexact G12
      isplitl [G18]; · iexact G18
      isplitl [P1] <;> iassumption
    iexact S6
  isplitl [G13 G19 S7]
  · isplitl [G13]; · iexact G13
    isplitl [G19] <;> iassumption
  isplitl [G14 G20 S8]
  · isplitl [G14]; · iexact G14
    isplitl [G20] <;> iassumption
  isplitl [G15 G21 S9]
  · isplitl [G15]; · iexact G15
    isplitl [G21] <;> iassumption
  isplitl [G16 G22 S10]
  · isplitl [G16]; · iexact G16
    isplitl [G22] <;> iassumption
  isplitl [G17 G23 S11]
  · isplitl [G17]; · iexact G17
    isplitl [G23] <;> iassumption
  isplitl [D4 S16]
  · isplitl [D4] <;> iassumption
  isplitl [D5 S17]
  · isplitl [D5] <;> iassumption
  isplitl [D6 S18]
  · isplitl [D6] <;> iassumption
  isplitl [D7] <;> iassumption

theorem slots_join : (iprop(spare c a ∗ slotIdle c a 0 ∗ slotIdle c a 1) : sProp 𝕄) ⊢ iprop(buffers c a ∗ pool c) := by
  unfold buffers pool spare slotIdle zIdle gIdle dIdle
  iintro ⟨⟨Rg, Rd, Rsg, Rsd⟩, ⟨⟨⟨G0, G6, P0, Q0⟩, S0⟩, ⟨G1, G7, S1⟩, ⟨G2, G8, S2⟩, ⟨G3, G9, S3⟩, ⟨G4, G10, S4⟩, ⟨G5, G11, S5⟩, ⟨D0, S12⟩, ⟨D1, S13⟩, ⟨D2, S14⟩, ⟨D3, S15⟩⟩, ⟨⟨⟨G12, G18, P1, Q1⟩, S6⟩, ⟨G13, G19, S7⟩, ⟨G14, G20, S8⟩, ⟨G15, G21, S9⟩, ⟨G16, G22, S10⟩, ⟨G17, G23, S11⟩, ⟨D4, S16⟩, ⟨D5, S17⟩, ⟨D6, S18⟩, ⟨D7, S19⟩⟩⟩
  isplitl [Rg Rd Rsg Rsd P0 P1 Q0 Q1 G0 G1 G2 G3 G4 G5 G6 G7 G8 G9 G10 G11 G12 G13 G14 G15 G16 G17 G18 G19 G20 G21 G22 G23 D0 D1 D2 D3 D4 D5 D6 D7]
  · isplitl [Rg G0 G1 G2 G3 G4 G5 G6 G7 G8 G9 G10 G11 G12 G13 G14 G15 G16 G17 G18 G19 G20 G21 G22 G23]
    · iapply (g_join c a)
      isplitl [Rg]; · iexact Rg
      isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [G15]; · iexact G15
      isplitl [G16]; · iexact G16
      isplitl [G17]; · iexact G17
      isplitl [G18]; · iexact G18
      isplitl [G19]; · iexact G19
      isplitl [G20]; · iexact G20
      isplitl [G21]; · iexact G21
      isplitl [G22] <;> iassumption
    isplitl [Rd D0 D1 D2 D3 D4 D5 D6 D7]
    · iapply (d_join c a)
      isplitl [Rd]; · iexact Rd
      isplitl [D0]; · iexact D0
      isplitl [D1]; · iexact D1
      isplitl [D2]; · iexact D2
      isplitl [D3]; · iexact D3
      isplitl [D4]; · iexact D4
      isplitl [D5]; · iexact D5
      isplitl [D6] <;> iassumption
    isplitl [Rsg P0 P1]
    · iapply (sg_join c a)
      isplitl [Rsg]; · iexact Rsg
      isplitl [P0] <;> iassumption
    iapply (sd_join c a)
    isplitl [Rsd]; · iexact Rsd
    isplitl [Q0] <;> iassumption
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18] <;> iassumption

end Cert.KernelIdeal.Hand
-- ==== Proof.KernelIdeal.Launch.lean ====
/-
  The launch: the operands as the region finds them, the body obligation from `run_body`, and the run of @main.
-/
module

public import proofs.«01_k».proof.Proof.KernelIdeal.Body
public import proofs.«01_k».proof.Proof.KernelIdeal.Split
public import proofs.«01_k».proof.Proof.Gen.KernelIdeal.Frame

@[expose] public section

set_option maxRecDepth 16384

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The operands -/

/-- What the body reads, as the region finds it. -/
def ins (c : Dev nD) : Ins F where
  ids := V m c main_v0
  cw := V m c main_v1
  x := V m c main_v2
  sg := V m c main_arg4
  sd := V m c main_arg6
  wg := V m c main_arg3
  wd := V m c main_arg5

theorem iblk_ids0 (c : Dev nD) (t : Fin cfg0.N) : iblk m c 0 t = (ins m c).ids := by
  funext i
  refine congrArg (V m c main_v0) (funext fun k => Fin.ext ?_)
  fin_cases k
  · show 0 * 64 + 1 * (i 0 : ℕ) = (i 0 : ℕ); omega
  · show 0 * 8 + 1 * (i 1 : ℕ) = (i 1 : ℕ); omega
theorem iblk_ids1 (c : Dev nD) (t : Fin cfg0.N) : iblk m c 1 t = (ins m c).ids := by
  funext i
  refine congrArg (V m c main_v0) (funext fun k => Fin.ext ?_)
  fin_cases k
  · show 0 * 64 + 1 * (i 0 : ℕ) = (i 0 : ℕ); omega
  · show 0 * 8 + 1 * (i 1 : ℕ) = (i 1 : ℕ); omega
theorem iblk_cw (c : Dev nD) (t : Fin cfg0.N) : iblk m c 2 t = (ins m c).cw := by
  funext i
  refine congrArg (V m c main_v1) (funext fun k => Fin.ext ?_)
  fin_cases k
  · show 0 * 64 + 1 * (i 0 : ℕ) = (i 0 : ℕ); omega
  · show 0 * 8 + 1 * (i 1 : ℕ) = (i 1 : ℕ); omega
theorem iblk_x (c : Dev nD) (t : Fin cfg0.N) : iblk m c 3 t = (ins m c).x := by
  funext i
  refine congrArg (V m c main_v2) (funext fun k => Fin.ext ?_)
  fin_cases k
  · show 0 * 64 + 1 * (i 0 : ℕ) = (i 0 : ℕ); omega
  · show 0 * 4096 + 1 * (i 1 : ℕ) = (i 1 : ℕ); omega

/-! ## The semaphores and the operands left in place -/

/-- The body's twenty semaphores: six, then six, for the up projection's tiles; four, then four, for the down projection's. -/
abbrev osem0 : Fin 20 → SemLoc sig := fun j => .dma ⟨5 + (j : ℕ), by have := j.isLt; show _ < 25; omega⟩
theorem ownSemFacts0 : Pipeline.OwnSemFacts spec0 osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄) = pool c := by
  rw [Pipeline.ownSems0_eq_of_list c osem0 [0, 1, 2, 3, 4, 5, 6, 7, 8, 9, 10, 11, 12, 13, 14, 15, 16, 17, 18, 19] (by decide) (by decide)]
  rfl

/-- The operands the transfers read. -/
def H0 : Finset (Ref sig .tc) := {main_arg3, main_arg4, main_arg5, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop((M6.view.loc (c : Thread nD τ) ↦{fullShare} (ins m c).wg) ∗ (M7.view.loc (c : Thread nD τ) ↦{fullShare} (ins m c).wd)
          ∗ (M4.view.loc (c : Thread nD τ) ↦{fullShare} (ins m c).sg) ∗ (M5.view.loc (c : Thread nD τ) ↦{fullShare} (ins m c).sd)) := by
  rw [BI.bigSep_eq_bigSepL_of_eq [main_arg3, main_arg5, main_arg4, main_arg6] (by decide) (by decide)]; rfl

theorem PhiD0_eq (c : Dev nD) :
    (Pipeline.ΦD osem0 spec0 H0 (V m) c : sProp 𝕄)
      = iprop(iprop((∃ f, M9.view.loc (c : Thread nD τ) ↦{fullShare} f) ∗ (∃ f, M10.view.loc (c : Thread nD τ) ↦{fullShare} f) ∗ (∃ f, M11.view.loc (c : Thread nD τ) ↦{fullShare} f) ∗ (∃ f, M12.view.loc (c : Thread nD τ) ↦{fullShare} f) ∗ (∃ f, M13.view.loc (c : Thread nD τ) ↦{fullShare} f) ∗ (∃ f, M14.view.loc (c : Thread nD τ) ↦{fullShare} f) ∗ (∃ f, M15.view.loc (c : Thread nD τ) ↦{fullShare} f) ∗ (∃ f, M16.view.loc (c : Thread nD τ) ↦{fullShare} f))
          ∗ (∃ r, prngReg c r) ∗ pool c
          ∗ iprop((M6.view.loc (c : Thread nD τ) ↦{fullShare} (ins m c).wg) ∗ (M7.view.loc (c : Thread nD τ) ↦{fullShare} (ins m c).wd)
          ∗ (M4.view.loc (c : Thread nD τ) ↦{fullShare} (ins m c).sg) ∗ (M5.view.loc (c : Thread nD τ) ↦{fullShare} (ins m c).sd))) := by
  rw [Pipeline.ΦD_eq, scopedRest0_eq, ownSems00_eq, hbmPts0_eq]
  try rfl

/-! ## The proof data -/

/-- Every operand's block stays, the result's is `outVal`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outVal (ins m c)
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)
theorem after0_4 (c : Dev nD) (t : Fin cfg0.N) : (dats m 0 c).after 4 t = outVal (ins m c) := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

theorem sound_body (c : Dev nD) (hids : ∀ t j, (idAt (ins m c).ids t j).toNat < 32) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.succ = (dats m 0 c).Φ t0_0.castSucc from rfl, after0_0, after0_1, after0_2, after0_3, after0_4,
    iblk_ids0, iblk_ids1, iblk_cw, iblk_x]
  simp only [before0_0, before0_1, before0_2, before0_3, iblk_ids0, iblk_ids1, iblk_cw, iblk_x]
  rw [show (dats m 0 c).Φ t0_0.castSucc = Pipeline.ΦD osem0 spec0 H0 (V m) c from rfl, PhiD0_eq]
  unfold Dat.owesAt Pipeline.owesWithin
  rw [show (dats m 0 c).owed t0_0.castSucc = 0 from rfl, show (dats m 0 c).owed t0_0.succ = 0 from rfl]
  iintro ⟨⟨⟨S9, S10, S11, S12, S13, S14, S15, S16⟩, Hg, Hp, ⟨H6, H7, H4, H5⟩⟩, ⟨%W, -, HW⟩, ⟨%d0, I0⟩, ⟨%d1, I1⟩, ⟨%d2, I2⟩, ⟨%d3, I3⟩, ⟨%d4, I8⟩⟩
  ihave I0 := (Entails.of_eq (show owns (c : Thread nD τ) M0 fullShare (ins m c).ids = (M0.view.loc (c : Thread nD τ) ↦{fullShare} (ins m c).ids : sProp 𝕄) from owns_whole ..)) $$ I0
  ihave I1 := (Entails.of_eq (show owns (c : Thread nD τ) M1 fullShare (ins m c).ids = (M1.view.loc (c : Thread nD τ) ↦{fullShare} (ins m c).ids : sProp 𝕄) from owns_whole ..)) $$ I1
  ihave I2 := (Entails.of_eq (show owns (c : Thread nD τ) M2 fullShare (ins m c).cw = (M2.view.loc (c : Thread nD τ) ↦{fullShare} (ins m c).cw : sProp 𝕄) from owns_whole ..)) $$ I2
  ihave I3 := (Entails.of_eq (show owns (c : Thread nD τ) M3 fullShare (ins m c).x = (M3.view.loc (c : Thread nD τ) ↦{fullShare} (ins m c).x : sProp 𝕄) from owns_whole ..)) $$ I3
  ihave I8 := (Entails.of_eq (show owns (c : Thread nD τ) M8 fullShare _ = (M8.view.loc (c : Thread nD τ) ↦{fullShare} _ : sProp 𝕄) from owns_whole ..)) $$ I8
  ihave HS := (slots_split c (ins m c)) $$ [S9 S10 S11 S12 H6 H7 H4 H5 Hp]
  · unfold buffers
    isplitr [Hp]
    · isplitl [S9 H6]; · isplitl [S9] <;> iassumption
      isplitl [S10 H7]; · isplitl [S10] <;> iassumption
      isplitl [S11 H4]; · isplitl [S11] <;> iassumption
      isplitl [S12] <;> iassumption
    iexact Hp
  icases HS with ⟨HR, HA, HB⟩
  iapply (run_body Variants.none c none (ins m c) hids) $$ [I0 I1 I2 I3 I8 S13 S14 S15 S16 HW HA HB]
  · isplitl [I0]; · iexact I0
    isplitl [I1]; · iexact I1
    isplitl [I2]; · iexact I2
    isplitl [I3]; · iexact I3
    isplitl [I8]; · iexact I8
    isplitl [S13]; · iexact S13
    isplitl [S14]; · iexact S14
    isplitl [S15]; · iexact S15
    isplitl [S16]; · iexact S16
    isplitl [HW]; · unfold ow; iexists W; iexact HW
    isplitl [HA] <;> iassumption
  iintro ⟨I0, I1, I2, I3, I8, S13, S14, S15, S16, HO, HA, HB⟩
  ihave HS := (slots_join c (ins m c)) $$ [HR HA HB]
  · isplitl [HR]; · iexact HR
    isplitl [HA] <;> iassumption
  unfold buffers ow
  icases HS with ⟨⟨⟨S9, H6⟩, ⟨S10, H7⟩, ⟨S11, H4⟩, ⟨S12, H5⟩⟩, Hp⟩
  icases HO with ⟨%W', HW⟩
  isplitl [S9 S10 S11 S12 S13 S14 S15 S16 Hg Hp H6 H7 H4 H5]
  · isplitl [S9 S10 S11 S12 S13 S14 S15 S16]
    · isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    isplitl [Hg]; · iexact Hg
    isplitl [Hp]; · iexact Hp
    isplitl [H6]; · iexact H6
    isplitl [H7]; · iexact H7
    isplitl [H4]; · iexact H4
    iexact H5
  isplitl [HW]
  · iexists W'; isplitr; · ipureintro; exact fun _ _ => Or.inl trivial
    iexact HW
  isplitl [I0]
  · iapply (Entails.of_eq (show owns (c : Thread nD τ) M0 fullShare (ins m c).ids = (M0.view.loc (c : Thread nD τ) ↦{fullShare} (ins m c).ids : sProp 𝕄) from owns_whole ..).symm)
    iexact I0
  isplitl [I1]
  · iapply (Entails.of_eq (show owns (c : Thread nD τ) M1 fullShare (ins m c).ids = (M1.view.loc (c : Thread nD τ) ↦{fullShare} (ins m c).ids : sProp 𝕄) from owns_whole ..).symm)
    iexact I1
  isplitl [I2]
  · iapply (Entails.of_eq (show owns (c : Thread nD τ) M2 fullShare (ins m c).cw = (M2.view.loc (c : Thread nD τ) ↦{fullShare} (ins m c).cw : sProp 𝕄) from owns_whole ..).symm)
    iexact I2
  isplitl [I3]
  · iapply (Entails.of_eq (show owns (c : Thread nD τ) M3 fullShare (ins m c).x = (M3.view.loc (c : Thread nD τ) ↦{fullShare} (ins m c).x : sProp 𝕄) from owns_whole ..).symm)
    iexact I3
  iapply (Entails.of_eq (show owns (c : Thread nD τ) M8 fullShare (outVal (ins m c)) = (M8.view.loc (c : Thread nD τ) ↦{fullShare} outVal (ins m c) : sProp 𝕄) from owns_whole ..).symm)
  iexact I8

theorem defs₀_row (t : Fin cfg0.N) :
    defs₀ (F := F) .tc cfg0.body (cfg0.bodyArgs t (cfg0.slots t)) = bodyAt0 t := by
  unfold defs₀; rw [Defs.onTc_tc]

theorem body_obligation (c : Dev nD) (hids : ∀ t j, (idAt (ins m c).ids t j).toNat < 32) :
    BodyObligation (dats (F := F) m 0 c) (defs₀ (F := F)) Variants.none () Set.univ := fun t => by
  rw [bigSep_W0, bigSep_W0, defs₀_row]
  exact triple_restated (sound_body m c hids t) rfl .rfl fun _ => .rfl

/-! ## The run -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [StableHlo.reshape_bufs, Finset.mem_insert, Finset.mem_singleton, not_or]
  simp only [H0, Finset.mem_insert, Finset.mem_singleton] at hb
  rcases hb with rfl | rfl | rfl | rfl <;> exact ⟨StableHlo.devRef_ne_of_ne (by decide), StableHlo.devRef_ne_of_ne (by decide)⟩

set_option backward.isDefEq.respectTransparency.types false in
theorem run_main (hids : ∀ c t j, (idAt (ins m c).ids t j).toNat < 32) :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m c (hids c)).loose) (hq := fun _ _ _ => rfl)
    (howed := fun _ _ => rfl) (V₀ := V0 m) (opss := [hostOps1]) (hsub := sfx_subD) (hfresh := sfx_fresh) (hkeep := sfx_keeps)
    (hmain := hmainD m Variants.none) (hA := A_eq m)
    (hin := fun _ => .rfl) (hout := fun _ => .rfl)

/-! ## The frame -/

/-- An argument ends as launched. -/
theorem W_arg (c : Dev nD) (b : Ref sig .tc) (h1 : b ≠ main_v4) (h2 : ∀ w, Pipeline.arrRef spec0 w ≠ b) (h3 : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h1)),
    Pipeline.withArrays_of_ne _ c (V0 m c) _ b h2]
  exact h3

theorem args_kept {r : PUnit × MemSt nD τ sig (Elt F)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (W_arg m c main_arg0 (by decide) (by decide) (V_main_arg0 m c)),
    ((h c).2 main_arg1 (Pipeline.mem_restRefs_of main_arg1 (by decide) (by decide))).trans (W_arg m c main_arg1 (by decide) (by decide) (V_main_arg1 m c)),
    ((h c).2 main_arg2 (Pipeline.mem_restRefs_of main_arg2 (by decide) (by decide))).trans (W_arg m c main_arg2 (by decide) (by decide) (V_main_arg2 m c)),
    ((h c).2 main_arg3 (Pipeline.mem_restRefs_of main_arg3 (by decide) (by decide))).trans (W_arg m c main_arg3 (by decide) (by decide) (V_main_arg3 m c)),
    ((h c).2 main_arg4 (Pipeline.mem_restRefs_of main_arg4 (by decide) (by decide))).trans (W_arg m c main_arg4 (by decide) (by decide) (V_main_arg4 m c)),
    ((h c).2 main_arg5 (Pipeline.mem_restRefs_of main_arg5 (by decide) (by decide))).trans (W_arg m c main_arg5 (by decide) (by decide) (V_main_arg5 m c)),
    ((h c).2 main_arg6 (Pipeline.mem_restRefs_of main_arg6 (by decide) (by decide))).trans (W_arg m c main_arg6 (by decide) (by decide) (V_main_arg6 m c))⟩

/-- The frame, the semaphores at zero again. -/
theorem frame (hids : ∀ c t j, (idAt (ins m c).ids t j).toNat < 32) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ hids)

end Cert.KernelIdeal.Hand
-- ==== Proof.KernelIdeal.Named.lean ====
/-
  The operands in terms of the arguments; the precondition says that every expert id names an expert.
-/
module

public import proofs.«01_k».proof.Proof.KernelIdeal.Launch
public import proofs.«01_k».proof.Proof.Gen.Pre_experts_named

@[expose] public section

set_option maxRecDepth 16384

noncomputable section

namespace Cert.KernelIdeal.Hand

open Cert.KernelIdeal Cert.KernelIdeal.Gen Cert.Flight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

open Idealize.ShloMosaic.Pipeline (Dat Cfg Window BodyObligation cellOf)

variable (m : (ℓ : Loc nD τ sig) → Buf (Elt F) ℓ) (ρ : Dev nD → PrngReg)

/-! ## The operands -/

theorem ins_ids (c : Dev nD) : (ins m c).ids = fun i => shapeCast S64x8 (m ((c.tc : Thread nD τ).loc main_arg1)) shapeCasts_S64x1x8_S64x8 i := by
  show V m c main_v0 = _
  simp only [V, V0, hostOps0, List.flatten_cons, List.flatten_nil, List.append_nil]
  after_results
  rfl

theorem ins_cw (c : Dev nD) : (ins m c).cw = fun i => shapeCast S64x8 (m ((c.tc : Thread nD τ).loc main_arg2)) shapeCasts_S64x1x8_S64x8 i := by
  show V m c main_v1 = _
  simp only [V, V0, hostOps0, List.flatten_cons, List.flatten_nil, List.append_nil]
  after_results
  rfl

theorem ins_x (c : Dev nD) : (ins m c).x = fun i => shapeCast S64x4096 (m ((c.tc : Thread nD τ).loc main_arg0)) shapeCasts_S64x1x4096_S64x4096 i := by
  show V m c main_v2 = _
  simp only [V, V0, hostOps0, List.flatten_cons, List.flatten_nil, List.append_nil]
  after_results
  rfl

/-- A word that is at least 0 and at most 31 names an expert. -/
theorem toNat_lt_of_pre {x : BitVec 32} (h : IntOp.andi (IntOp.cmpi .sge x 0#32) (IntOp.cmpi .sle x 31#32) = 1#1) : x.toNat < 32 := by
  have h' : ((BitVec.sle 0#32 x) && (x.sle 31#32)) = true := by
    revert h
    simp only [IntOp.andi, IntOp.cmpi]
    cases BitVec.sle 0#32 x <;> cases x.sle 31#32 <;> decide
  rw [Bool.and_eq_true, BitVec.sle_iff_toInt_le, BitVec.sle_iff_toInt_le] at h'
  obtain ⟨h0, h1⟩ := h'
  have e0 : (0#32).toInt = 0 := by decide
  have e1 : (31#32).toInt = 31 := by decide
  rw [e0] at h0
  rw [e1] at h1
  rw [BitVec.toInt_eq_toNat_cond] at h0 h1
  have := x.isLt
  split at h0 <;> rename_i hc <;> simp only [hc, ↓reduceIte] at h1 <;> omega

theorem named_of_pre {c : Dev nD} {a0 a2 a3 a4 a5 a6}
    (h : Cert.Pre_experts_named.fn (F := F) a0 (m ((c.tc : Thread nD τ).loc main_arg1)) a2 a3 a4 a5 a6 = (fun _ => 1#1)) (t j : ℕ) :
    (idAt (ins m c).ids t j).toNat < 32 := by
  unfold idAt
  split
  · rw [ins_ids]
    exact toNat_lt_of_pre (congrFun h _)
  · decide

end Cert.KernelIdeal.Hand
-- ==== Proof.Value.Spec.lean ====
/-
  The layer as plain sums over the extended reals: what one expert adds to a token's result, and the sum over the experts.
-/
module

public import Idealize.ShloMosaic.Lib.MatmulPlain
public import Idealize.ShloMosaic.Lib.IdealHost

@[expose] public section

noncomputable section

namespace Cert.Value

open Idealize.ShloMosaic

/-- The activation of a gate and an up value: `silu g * u`. -/
def glu (g u : EReal) : EReal := g * Ideal.logistic g * u

/-- Entry `f` of expert `e`'s intermediate activations of token `t`: the scaled gate and up products, activated. -/
def act (X : Fin 64 → Fin 4096 → EReal) (G : Fin 32 → Fin 2816 → Fin 4096 → EReal) (S : Fin 32 → Fin 2816 → EReal)
    (t : Fin 64) (e : Fin 32) (f : Fin 1408) : EReal :=
  glu ((∑ d, X t d * G e ⟨f, by omega⟩ d) * S e ⟨f, by omega⟩)
    ((∑ d, X t d * G e ⟨1408 + f, by omega⟩ d) * S e ⟨1408 + f, by omega⟩)

/-- The weight of expert `e` for token `t`: the weights of the places of the token's list that name it. -/
def weight (I : Fin 64 → Fin 8 → BitVec 32) (W : Fin 64 → Fin 8 → EReal) (t : Fin 64) (e : Fin 32) : EReal :=
  ∑ j, if I t j = BitVec.ofNat 32 e then W t j else 0

/-- What expert `e` adds to column `d` of token `t`'s result. -/
def part (X : Fin 64 → Fin 4096 → EReal) (I : Fin 64 → Fin 8 → BitVec 32) (W : Fin 64 → Fin 8 → EReal) (G : Fin 32 → Fin 2816 → Fin 4096 → EReal)
    (S : Fin 32 → Fin 2816 → EReal) (D : Fin 32 → Fin 4096 → Fin 1408 → EReal) (Z : Fin 32 → Fin 4096 → EReal)
    (t : Fin 64) (d : Fin 4096) (e : Fin 32) : EReal :=
  (∑ f, act X G S t e f * D e d f) * Z e d * weight I W t e

/-- The layer. -/
def layer (X : Fin 64 → Fin 4096 → EReal) (I : Fin 64 → Fin 8 → BitVec 32) (W : Fin 64 → Fin 8 → EReal) (G : Fin 32 → Fin 2816 → Fin 4096 → EReal)
    (S : Fin 32 → Fin 2816 → EReal) (D : Fin 32 → Fin 4096 → Fin 1408 → EReal) (Z : Fin 32 → Fin 4096 → EReal)
    (t : Fin 64) (d : Fin 4096) : EReal :=
  ∑ e, part X I W G S D Z t d e

/-- An expert no place of the token's list names adds nothing. -/
theorem part_eq_zero (X I W G S D Z) (t : Fin 64) (d : Fin 4096) (e : Fin 32) (h : ∀ j, I t j ≠ BitVec.ofNat 32 e) : part X I W G S D Z t d e = 0 := by
  unfold part weight
  rw [Finset.sum_eq_zero (fun j _ => if_neg (h j)), mul_zero]

/-- A choice by the equality of two words. -/
theorem select_cmpi_eq {w : ℕ} {α : Type} (x e : BitVec w) (y z : α) : Scalar.select (IntOp.cmpi .eq x e) y z = if x = e then y else z := by
  by_cases h : x = e
  · rw [if_pos h, h]; simp [Scalar.select, IntOp.cmpi]
  · have h' : (x == e) = false := by simpa using h
    rw [if_neg h]; simp [Scalar.select, IntOp.cmpi, h']

/-- The layer of equal entries. -/
theorem layer_congr {X X' : Fin 64 → Fin 4096 → EReal} {I I' : Fin 64 → Fin 8 → BitVec 32} {W W' : Fin 64 → Fin 8 → EReal}
    {G G' : Fin 32 → Fin 2816 → Fin 4096 → EReal} {S S' : Fin 32 → Fin 2816 → EReal} {D D' : Fin 32 → Fin 4096 → Fin 1408 → EReal} {Z Z' : Fin 32 → Fin 4096 → EReal}
    (hX : ∀ t d, X t d = X' t d) (hI : ∀ t j, I t j = I' t j) (hW : ∀ t j, W t j = W' t j) (hG : ∀ e r d, G e r d = G' e r d)
    (hS : ∀ e r, S e r = S' e r) (hD : ∀ e d f, D e d f = D' e d f) (hZ : ∀ e d, Z e d = Z' e d) (t : Fin 64) (d : Fin 4096) :
    layer X I W G S D Z t d = layer X' I' W' G' S' D' Z' t d := by
  obtain rfl : X = X' := funext fun _ => funext (hX _)
  obtain rfl : I = I' := funext fun _ => funext (hI _)
  obtain rfl : W = W' := funext fun _ => funext (hW _)
  obtain rfl : G = G' := funext fun _ => funext fun _ => funext (hG _ _)
  obtain rfl : S = S' := funext fun _ => funext (hS _)
  obtain rfl : D = D' := funext fun _ => funext fun _ => funext (hD _ _)
  obtain rfl : Z = Z' := funext fun _ => funext (hZ _)
  rfl

end Cert.Value
-- ==== Proof.Value.Expert.lean ====
/-
  What the kernel computes for one expert, over the extended reals, as plain sums.
-/
module

public import proofs.«01_k».proof.Proof.KernelIdeal.Order
public import proofs.«01_k».proof.Proof.Value.Spec
public import Idealize.ShloMosaic.Lib.Pointwise
public import Idealize.ShloMosaic.Lib.ValueLayoutCasts
public import Idealize.ShloMosaic.Lib.ValueLayout

@[expose] public section

set_option maxRecDepth 16384

noncomputable section

namespace Cert.Value

open Cert.KernelIdeal Cert.KernelIdeal.Gen Cert.KernelIdeal.Hand
open Idealize.ShloMosaic Idealize.ShloMosaic.Tactic

theorem pay2_apply (A B : Vec Ideal S1x256x4096 .fp8e4m3) (x y : Vec Ideal S64x4096 .bf16) (p q : Vec Ideal S1x1x256 .f32) (t : Fin 64) (f : Fin 256) :
    k0_pay2 A B x y p q (ValueIdx.ix2 t f)
      = glu ((∑ d : Fin 4096, x (ValueIdx.ix2 t d) * A (ValueIdx.ix3 0 f d)) * p (ValueIdx.ix3 0 0 f))
          ((∑ d : Fin 4096, y (ValueIdx.ix2 t d) * B (ValueIdx.ix3 0 f d)) * q (ValueIdx.ix3 0 0 f)) := by
  unfold k0_pay2
  rw [← ix2_eq_valueIdx]
  pointwise
  rfl

theorem pay15_apply (v : FVec Ideal S64x1 .f32) (h : Vec Ideal S64x1408 .bf16) (D : Vec Ideal S1x1024x1408 .fp8e4m3) (f : Vec Ideal S64x1024 .f32)
    (p : Vec Ideal S1x1x1024 .f32) (t : Fin 64) (d : Fin 1024) :
    k0_pay15 v h D f p (ValueIdx.ix2 t d)
      = f (ValueIdx.ix2 t d) + (∑ k : Fin 1408, h (ValueIdx.ix2 t k) * D (ValueIdx.ix3 0 d k)) * p (ValueIdx.ix3 0 0 d) * v (ValueIdx.ix2 t 0) := by
  unfold k0_pay15
  rw [← ix2_eq_valueIdx]
  pointwise
  rfl

theorem pay14_apply (A B : Vec Ideal S1x128x4096 .fp8e4m3) (x : Vec Ideal S64x4096 .bf16) (p q : Vec Ideal S1x1x128 .f32) (t : Fin 64) (f : Fin 128) :
    k0_pay14 (k0_pay12 A B x q) (k0_pay13 A B x p) (ValueIdx.ix2 t f)
      = glu ((∑ d : Fin 4096, x (ValueIdx.ix2 t d) * A (ValueIdx.ix3 0 f d)) * p (ValueIdx.ix3 0 0 f))
          ((∑ d : Fin 4096, x (ValueIdx.ix2 t d) * B (ValueIdx.ix3 0 f d)) * q (ValueIdx.ix3 0 0 f)) := by
  unfold k0_pay14 k0_pay12 k0_pay13 k0_pay11
  rw [← ix2_eq_valueIdx]
  pointwise
  rfl

theorem pay1_apply (e : BitVec 32) (I : Vec Ideal S64x8 .i32) (W : Vec Ideal S64x8 .f32) (t : Fin 64) :
    k0_pay1 (F := Ideal) e I W (ValueIdx.ix2 t 0) = ∑ j : Fin 8, if I (ValueIdx.ix2 t j) = e then W (ValueIdx.ix2 t j) else 0 := by
  unfold k0_pay1
  rw [← ix2_eq_valueIdx]
  pointwise
  refine Finset.sum_congr rfl fun j _ => ?_
  rw [ix2_eq_valueIdx, select_cmpi_eq]

/-! ## One expert -/

variable (a : Ins Ideal)

/-- The layer's arguments as functions of their coordinates. -/
def fX (t : Fin 64) (d : Fin 4096) : EReal := a.x (ValueIdx.ix2 t d)
def fI (t : Fin 64) (j : Fin 8) : BitVec 32 := a.ids (ValueIdx.ix2 t j)
def fW (t : Fin 64) (j : Fin 8) : EReal := a.cw (ValueIdx.ix2 t j)
def fG (e : Fin 32) (r : Fin 2816) (d : Fin 4096) : EReal := a.wg (ValueIdx.ix3 e r d)
def fS (e : Fin 32) (r : Fin 2816) : EReal := a.sg (ValueIdx.ix2 e r)
def fD (e : Fin 32) (d : Fin 4096) (f : Fin 1408) : EReal := a.wd (ValueIdx.ix3 e d f)
def fZ (e : Fin 32) (d : Fin 4096) : EReal := a.sd (ValueIdx.ix2 e d)

/-- A scaled gate or up product, read from row `r` of a tile. -/
theorem proj_tile (m L : ℕ) (hm : gOff m + L ≤ 2816) (o : ℕ) (ho : o + L ≤ 2816) (e : Fin 32) (t : Fin 64) (f : Fin L) (r : Fin 2816)
    (h1 : gOff m + f = r) (h2 : o + f = r) :
    (∑ d : Fin 4096, a.x (ValueIdx.ix2 t d) * gTile a m L hm e (ValueIdx.ix3 0 f d)) * sgTile a o L ho e (ValueIdx.ix3 0 0 f)
      = (∑ d, fX a t d * fG a e r d) * fS a e r := by
  have e1 : (⟨o + f, by omega⟩ : Fin 2816) = r := Fin.ext h2
  have e2 : (⟨gOff m + f, by omega⟩ : Fin 2816) = r := Fin.ext h1
  have hs : sgTile a o L ho e (ValueIdx.ix3 0 0 f) = fS a e r := congrArg (fun k => a.sg (ValueIdx.ix2 e k)) e1
  have hg : ∀ d : Fin 4096, gTile a m L hm e (ValueIdx.ix3 0 f d) = fG a e r d := fun d => congrArg (fun k => a.wg (ValueIdx.ix3 e k d)) e2
  rw [hs]
  exact congrArg (· * _) (Finset.sum_congr rfl fun d _ => congrArg (_ * ·) (hg d))

theorem hVal_apply (e : Fin 32) (t : Fin 64) (f : Fin 1408) : hVal a e (ValueIdx.ix2 t f) = act (fX a) (fG a) (fS a) t e f := by
  have hf := f.isLt
  unfold hVal act
  split
  · rename_i h
    have h' : (f : ℕ) < 1280 := h
    refine (pay2_apply _ _ _ _ _ _ t ⟨(f : ℕ) % 256, Nat.mod_lt _ (by decide)⟩).trans (congrArg₂ glu (proj_tile a _ _ _ _ _ e t _ _ ?_ ?_) (proj_tile a _ _ _ _ _ e t _ _ ?_ ?_))
    · show gOff ((f : ℕ) / 256) + (f : ℕ) % 256 = f
      unfold gOff; rw [if_pos (by omega)]; omega
    · show 256 * ((f : ℕ) / 256) + (f : ℕ) % 256 = f
      omega
    · show gOff (6 + (f : ℕ) / 256) + (f : ℕ) % 256 = 1408 + f
      unfold gOff; rw [if_neg (by omega)]; omega
    · show 1408 + 256 * ((f : ℕ) / 256) + (f : ℕ) % 256 = 1408 + f
      omega
  · rename_i h
    have h' : ¬ (f : ℕ) < 1280 := h
    refine (pay14_apply _ _ _ _ _ t ⟨(f : ℕ) - 1280, by omega⟩).trans (congrArg₂ glu (proj_tile a _ _ _ _ _ e t _ _ ?_ ?_) (proj_tile a _ _ _ _ _ e t _ _ ?_ ?_))
    · show 1280 + ((f : ℕ) - 1280) = f
      omega
    · show 1280 + ((f : ℕ) - 1280) = f
      omega
    · show 2688 + ((f : ℕ) - 1280) = 1408 + f
      omega
    · show 2688 + ((f : ℕ) - 1280) = 1408 + f
      omega

/-- The accumulator after an expert: what the expert adds to it. -/
theorem accNext_apply (e : Fin 32) (g : S64x4096.Idx → Elt Ideal .f32) (t : Fin 64) (d : Fin 4096) :
    accNext a e g (ValueIdx.ix2 t d) = g (ValueIdx.ix2 t d) + part (fX a) (fI a) (fW a) (fG a) (fS a) (fD a) (fZ a) t d e := by
  have hd := d.isLt
  have ed : (⟨1024 * ((d : ℕ) / 1024) + (d : ℕ) % 1024, by omega⟩ : Fin 4096) = d := Fin.ext (by show 1024 * ((d : ℕ) / 1024) + (d : ℕ) % 1024 = d; omega)
  unfold accNext part
  refine (pay15_apply _ _ _ _ _ t ⟨(d : ℕ) % 1024, Nat.mod_lt _ (by decide)⟩).trans ?_
  refine congrArg₂ (· + ·) (congrArg (fun k => g (ValueIdx.ix2 t k)) ed) (congrArg₂ (· * ·) (congrArg₂ (· * ·) (Finset.sum_congr rfl fun f _ => congrArg₂ (· * ·) (hVal_apply a e t f) ?_) ?_) ?_)
  · exact congrArg (fun k => a.wd (ValueIdx.ix3 e k f)) ed
  · exact congrArg (fun k => a.sd (ValueIdx.ix2 e k)) ed
  · exact pay1_apply _ _ _ t

end Cert.Value
-- ==== Proof.Value.Kernel.lean ====
/-
  The kernel's result over the extended reals: the layer. The experts that no token names add nothing, so the sum over the
  named experts in ascending order is the sum over all experts.
-/
module

public import proofs.«01_k».proof.Proof.Value.Expert
public import proofs.«01_k».proof.Proof.KernelIdeal.Named

@[expose] public section

set_option maxRecDepth 16384

noncomputable section

namespace Cert.Value

open Cert.KernelIdeal Cert.KernelIdeal.Gen Cert.KernelIdeal.Hand
open Idealize.ShloMosaic Idealize.ShloMosaic.TcCoe Idealize.ShloMosaic.Tactic Idealize.SL.Sem

variable (a : Ins Ideal)

/-- What expert number `i` adds. -/
def partAt (t : Fin 64) (d : Fin 4096) (i : ℕ) : EReal :=
  if h : i < 32 then part (fX a) (fI a) (fW a) (fG a) (fS a) (fD a) (fZ a) t d ⟨i, h⟩ else 0

/-- An expert that is not named adds nothing. -/
theorem partAt_eq_zero (t : Fin 64) (d : Fin 4096) (i : ℕ) (hi : i < 32) (hn : ¬ named a.ids i) : partAt a t d i = 0 := by
  unfold partAt
  rw [dif_pos hi]
  refine part_eq_zero _ _ _ _ _ _ _ t d _ fun j hj => hn ⟨t, t.isLt, j, ?_⟩
  have e : idAt a.ids t j = fI a t j := by
    unfold idAt fI
    rw [dif_pos ⟨t.isLt, j.isLt⟩]
  rw [e, hj]
  simp
  omega

/-- The accumulator after the named experts below `i`. -/
theorem accAt_count (t : Fin 64) (d : Fin 4096) (i : ℕ) (hi : i ≤ 32) :
    accAt a (lst a.ids) (Nat.count (named a.ids) i) (ValueIdx.ix2 t d) = ∑ k ∈ Finset.range i, partAt a t d k := by
  induction i with
  | zero =>
    rw [Finset.sum_range_zero]
    show k0_pay39 (F := Ideal) (ValueIdx.ix2 t d) = 0
    unfold k0_pay39
    rw [← ix2_eq_valueIdx]
    pointwise
  | succ i ih =>
    rw [Finset.sum_range_succ, ← ih (by omega), Nat.count_succ]
    split
    · rename_i hn
      show accNext a (lst a.ids (Nat.count (named a.ids) i)) _ _ = _
      rw [accNext_apply, lst_count _ i (by omega) hn]
      unfold partAt
      rw [dif_pos (show i < 32 by omega)]
    · rename_i hn
      rw [partAt_eq_zero a t d i (by omega) hn, add_zero, add_zero]

/-- The kernel's result is the layer. -/
theorem outVal_apply (t : Fin 64) (d : Fin 4096) :
    outVal a (ValueIdx.ix2 t d) = layer (fX a) (fI a) (fW a) (fG a) (fS a) (fD a) (fZ a) t d := by
  show k0_pay42 (F := Ideal) (accAt a (lst a.ids) (Nat.count (named a.ids) 32)) (ValueIdx.ix2 t d) = _
  have e : k0_pay42 (F := Ideal) (accAt a (lst a.ids) (Nat.count (named a.ids) 32)) (ValueIdx.ix2 t d)
      = accAt a (lst a.ids) (Nat.count (named a.ids) 32) (ValueIdx.ix2 t d) := rfl
  rw [e, accAt_count a t d 32 le_rfl, Finset.sum_range]
  refine Finset.sum_congr rfl fun i _ => ?_
  unfold partAt
  rw [dif_pos i.isLt]

end Cert.Value
-- ==== Proof.Value.Result.lean ====
/-
  The result array of the kernel after its run.
-/
module

public import proofs.«01_k».proof.Proof.Value.Kernel
public import Idealize.ShloMosaic.Lib.StableHlo.ReadAt
public import Idealize.ShloMosaic.Lib.Pipeline.ValueKit.Geometry

@[expose] public section

set_option maxRecDepth 16384

noncomputable section

namespace Cert.KernelIdeal.Hand

open Cert.KernelIdeal Cert.KernelIdeal.Gen Cert.Value
open Idealize.ShloMosaic Idealize.ShloMosaic.TcCoe Idealize.ShloMosaic.Tactic Idealize.SL.Sem
open Idealize.ShloMosaic.StableHlo

variable (m : (ℓ : Loc nD τ sig) → Buf (Elt Ideal) ℓ)

/-- The region's output array ends at `outVal`. -/
theorem arrAt_out (c : Dev nD) : (dats m 0 c).arrAt 4 cfg0.N = outVal (ins m c) :=
  (dats m 0 c).arrAt_eq_of_after_last 4 ⟨0, by decide⟩ (by decide +kernel) (outVal (ins m c)) fun j => by rw [after0_4]; rfl

/-- The program's result array is that array, reshaped. -/
theorem tail_result (c : Dev nD) (t : Fin 64) (d : Fin 4096) :
    Pipeline.afterTail₀ cfgs (dats m) 0 (V0 m) [hostOps1] c main_v4 (ValueIdx.ix3 t 0 d) = outVal (ins m c) (ValueIdx.ix2 t d) := by
  unfold Pipeline.afterTail₀
  have hW := Pipeline.withArrays_arr_shared spec0 c (V0 m c) (fun w => (dats m 0 c).arrAt w cfg0.N) ((dats m 0 c).arrAt_sharedIn (by decide) (V0 m c) (A_eq m c) _) 4
  have e : StableHlo.after (List.flatten [hostOps1]) (Pipeline.withArrays (cfgs 0).spec c (V0 m c) fun w => (dats m 0 c).arrAt w (cfgs 0).N) (Proc.devRef .tc main_v4)
      = fun i => shapeCast S64x1x4096 (outVal (ins m c)) shapeCasts_S64x4096_S64x1x4096 i := by
    simp only [List.flatten_cons, List.flatten_nil, List.append_nil, hostOps1]
    after_results
    rw [← arrAt_out m c, ← hW]
    rfl
  refine (congrFun e _).trans ?_
  rw [← ix2_eq_valueIdx, ← ix3_eq_valueIdx]
  pointwise

/-! ## The reshaped arguments -/

theorem flat_x (A : Vec Ideal S64x1x4096 .bf16) (t : Fin 64) (j : Fin 4096) :
    shapeCast S64x4096 A shapeCasts_S64x1x4096_S64x4096 (ValueIdx.ix2 t j) = A (ValueIdx.ix3 t 0 j) := by
  rw [← ix2_eq_valueIdx, ← ix3_eq_valueIdx]
  pointwise

theorem x_apply (c : Dev nD) (t : Fin 64) (j : Fin 4096) : fX (ins m c) t j = m ((c : Thread nD τ).loc main_arg0) (ValueIdx.ix3 t 0 j) := by
  unfold fX
  rw [ins_x]
  exact flat_x _ t j

theorem ids_apply (c : Dev nD) (t : Fin 64) (j : Fin 8) : fI (ins m c) t j = m ((c : Thread nD τ).loc main_arg1) (ValueIdx.ix3 t 0 j) := by
  refine (congrFun (ins_ids m c) _).trans ?_
  generalize m ((c : Thread nD τ).loc main_arg1) = A
  show shapeCast _ A _ (ValueIdx.ix2 t j) = _
  rw [← ix2_eq_valueIdx, ← ix3_eq_valueIdx]
  pointwise

theorem cw_apply (c : Dev nD) (t : Fin 64) (j : Fin 8) : fW (ins m c) t j = m ((c : Thread nD τ).loc main_arg2) (ValueIdx.ix3 t 0 j) := by
  refine (congrFun (ins_cw m c) _).trans ?_
  generalize m ((c : Thread nD τ).loc main_arg2) = A
  show shapeCast _ A _ (ValueIdx.ix2 t j) = _
  rw [← ix2_eq_valueIdx, ← ix3_eq_valueIdx]
  pointwise

/-- The kernel's result is the layer of its arguments. -/
theorem result_layer (c : Dev nD) (t : Fin 64) (d : Fin 4096) :
    Pipeline.afterTail₀ cfgs (dats m) 0 (V0 m) [hostOps1] c main_v4 (ValueIdx.ix3 t 0 d)
      = layer (fun t d => m ((c : Thread nD τ).loc main_arg0) (ValueIdx.ix3 t 0 d)) (fun t j => m ((c : Thread nD τ).loc main_arg1) (ValueIdx.ix3 t 0 j))
          (fun t j => m ((c : Thread nD τ).loc main_arg2) (ValueIdx.ix3 t 0 j)) (fun e r d => m ((c : Thread nD τ).loc main_arg3) (ValueIdx.ix3 e r d))
          (fun e r => m ((c : Thread nD τ).loc main_arg4) (ValueIdx.ix2 e r)) (fun e d f => m ((c : Thread nD τ).loc main_arg5) (ValueIdx.ix3 e d f))
          (fun e d => m ((c : Thread nD τ).loc main_arg6) (ValueIdx.ix2 e d)) t d := by
  refine (tail_result m c t d).trans ((outVal_apply (ins m c) t d).trans ?_)
  exact layer_congr (x_apply m c) (ids_apply m c) (cw_apply m c) (fun e r d => congrFun (V_main_arg3 m c) _)
    (fun e r => congrFun (V_main_arg4 m c) _) (fun e d f => congrFun (V_main_arg5 m c) _) (fun e d => congrFun (V_main_arg6 m c) _) t d

end Cert.KernelIdeal.Hand
-- ==== Proof.Value.Reference.lean ====
/-
  The result array of the reference after its run.
-/
module

public import proofs.«01_k».proof.Proof.Value.Spec
public import proofs.«01_k».proof.Proof.Gen.ReferenceIdeal.Frame
public import Idealize.ShloMosaic.Lib.Pointwise
public import Idealize.ShloMosaic.Lib.StableHlo.ReadAt
public import Idealize.ShloMosaic.Lib.Pipeline.ValueKit.Geometry

@[expose] public section

set_option maxRecDepth 16384

noncomputable section

namespace Cert.ReferenceIdeal.Hand

open Cert.ReferenceIdeal Cert.ReferenceIdeal.Gen Cert.Value
open Idealize.ShloMosaic Idealize.ShloMosaic.TcCoe Idealize.ShloMosaic.Tactic Idealize.SL.Sem
open Idealize.ShloMosaic.StableHlo

/-- The lines after the casts of the weights compute the layer from what they find. -/
theorem tail_read (W : Valuation τ sig (Elt Ideal)) (t : Fin 64) (d : Fin 4096) :
    StableHlo.after (List.flatten [hostOps1, hostOps1_1, hostOps1_2, hostOps1_3, hostOps1_4]) W (Proc.devRef .tc main_v36) (ValueIdx.ix3 t 0 d)
      = layer (fun t d => W (Proc.devRef .tc main_v0) (ValueIdx.ix2 t d)) (fun t j => W (Proc.devRef .tc main_arg1) (ValueIdx.ix3 t 0 j))
          (fun t j => W (Proc.devRef .tc main_arg2) (ValueIdx.ix3 t 0 j)) (fun e r d => W (Proc.devRef .tc main_v1_0) (ValueIdx.ix3 e r d))
          (fun e r => W (Proc.devRef .tc main_arg4) (ValueIdx.ix2 e r)) (fun e d f => W (Proc.devRef .tc main_v1_1) (ValueIdx.ix3 e d f))
          (fun e d => W (Proc.devRef .tc main_arg6) (ValueIdx.ix2 e d)) t d := by
  simp only [List.flatten_cons, List.flatten_nil, List.append_nil, hostOps1, hostOps1_1, hostOps1_2, hostOps1_3, hostOps1_4, List.cons_append, List.nil_append]
  rw [← ix3_eq_valueIdx]
  after_reads_at
  simp only [← ix3_eq_valueIdx, ← ix2_eq_valueIdx]
  refine Finset.sum_congr rfl fun e _ => ?_
  unfold part weight
  refine congrArg₂ (· * ·) (congrArg₂ (· * ·) (Finset.sum_congr rfl fun f _ => mul_comm _ _) rfl) (Finset.sum_congr rfl fun j _ => ?_)
  rw [select_cmpi_eq]
  have z : (id (constant (F := Ideal) S_ FTy.f32 0#32) ix0 : EReal) = 0 := by simp [constant_apply]
  rw [z]

variable (m : (ℓ : Loc nD τ sig) → Buf (Elt Ideal) ℓ)

/-! ## The cast weights -/

theorem iblk_g (c : Dev nD) (t : Fin cfg0.N) (e : Fin 32) (r : Fin 2816) (d : Fin 4096) :
    iblk m c 0 t (ValueIdx.ix3 e r d) = m ((c : Thread nD τ).loc main_arg3) (ValueIdx.ix3 e r d) := by
  refine Eq.trans (congrArg (V m c main_arg3) (funext fun k => Fin.ext ?_)) (congrFun (V_main_arg3 m c) _)
  fin_cases k
  · show 0 * 32 + 1 * (e : ℕ) = e; omega
  · show 0 * 2816 + 1 * (r : ℕ) = r; omega
  · show 0 * 4096 + 1 * (d : ℕ) = d; omega
theorem iblk_d (c : Dev nD) (t : Fin cfg0.N) (e : Fin 32) (d : Fin 4096) (f : Fin 1408) :
    iblk m c 1 t (ValueIdx.ix3 e d f) = m ((c : Thread nD τ).loc main_arg5) (ValueIdx.ix3 e d f) := by
  refine Eq.trans (congrArg (V m c main_arg5) (funext fun k => Fin.ext ?_)) (congrFun (V_main_arg5 m c) _)
  fin_cases k
  · show 0 * 32 + 1 * (e : ℕ) = e; omega
  · show 0 * 4096 + 1 * (d : ℕ) = d; omega
  · show 0 * 1408 + 1 * (f : ℕ) = f; omega

theorem emb_g (y : S32x2816x4096.Idx) : r0_0.emb y = y := by
  funext k; apply Fin.ext
  fin_cases k
  · show 0 + 1 * (y 0 : ℕ) = y 0; omega
  · show 0 + 1 * (y 1 : ℕ) = y 1; omega
  · show 0 + 1 * (y 2 : ℕ) = y 2; omega
theorem emb_d (y : S32x4096x1408.Idx) : r0_1.emb y = y := by
  funext k; apply Fin.ext
  fin_cases k
  · show 0 + 1 * (y 0 : ℕ) = y 0; omega
  · show 0 + 1 * (y 1 : ℕ) = y 1; omega
  · show 0 + 1 * (y 2 : ℕ) = y 2; omega

theorem out_g (x0 : Vec Ideal S32x2816x4096 .fp8e4m3) (x1 : Vec Ideal S32x4096x1408 .fp8e4m3) (y : S32x2816x4096.Idx) : out0_2 x0 x1 y = x0 y := by
  unfold out0_2
  rw [View.canon_unit_zero (by funext a; fin_cases a <;> rfl)]
  show x0 (r0_0.emb y) = x0 y
  rw [emb_g]
theorem out_d (x0 : Vec Ideal S32x2816x4096 .fp8e4m3) (x1 : Vec Ideal S32x4096x1408 .fp8e4m3) (y : S32x4096x1408.Idx) : out0_3 x0 x1 y = x1 y := by
  unfold out0_3
  rw [View.canon_unit_zero (by funext a; fin_cases a <;> rfl)]
  show x1 (r0_1.emb y) = x1 y
  rw [emb_d]

/-- The arrays of the cast weights at the end of the casts. -/
theorem arrAt_g (c : Dev nD) : (dats m 0 c).arrAt 2 cfg0.N = out0_2 (iblk m c 0 ⟨0, by decide⟩) (iblk m c 1 ⟨0, by decide⟩) := by
  generalize h : out0_2 (iblk m c 0 ⟨0, by decide⟩) (iblk m c 1 ⟨0, by decide⟩) = G
  refine (dats m 0 c).arrAt_eq_of_after_last 2 ⟨0, by decide⟩ (by decide +kernel) G fun j => ?_
  rw [after0_2, h]
  rfl
theorem arrAt_d (c : Dev nD) : (dats m 0 c).arrAt 3 cfg0.N = out0_3 (iblk m c 0 ⟨0, by decide⟩) (iblk m c 1 ⟨0, by decide⟩) := by
  generalize h : out0_3 (iblk m c 0 ⟨0, by decide⟩) (iblk m c 1 ⟨0, by decide⟩) = G
  refine (dats m 0 c).arrAt_eq_of_after_last 3 ⟨0, by decide⟩ (by decide +kernel) G fun j => ?_
  rw [after0_3, h]
  rfl

/-! ## The result -/

/-- The memory as the lines after the casts find it. -/
def mid (c : Dev nD) : Valuation τ sig (Elt Ideal) :=
  Pipeline.withArrays spec0 c (V0 m c) fun w => (dats m 0 c).arrAt w cfg0.N

theorem mid_of_ne (c : Dev nD) (b : Ref sig .tc) (h : ∀ w, Pipeline.arrRef spec0 w ≠ b) : mid m c (Proc.devRef .tc b) = V m c b :=
  Pipeline.withArrays_of_ne _ c (V0 m c) _ b h

theorem mid_g (c : Dev nD) (e : Fin 32) (r : Fin 2816) (d : Fin 4096) :
    mid m c (Proc.devRef .tc main_v1_0) (ValueIdx.ix3 e r d) = m ((c : Thread nD τ).loc main_arg3) (ValueIdx.ix3 e r d) := by
  have h := Pipeline.withArrays_arr spec0 (by decide) c (V0 m c) (fun w => (dats m 0 c).arrAt w cfg0.N) 2
  refine (congrFun (h.trans (arrAt_g m c)) _).trans ((out_g _ _ _).trans (iblk_g m c _ e r d))

theorem mid_d (c : Dev nD) (e : Fin 32) (d : Fin 4096) (f : Fin 1408) :
    mid m c (Proc.devRef .tc main_v1_1) (ValueIdx.ix3 e d f) = m ((c : Thread nD τ).loc main_arg5) (ValueIdx.ix3 e d f) := by
  have h := Pipeline.withArrays_arr spec0 (by decide) c (V0 m c) (fun w => (dats m 0 c).arrAt w cfg0.N) 3
  refine (congrFun (h.trans (arrAt_d m c)) _).trans ((out_d _ _ _).trans (iblk_d m c _ e d f))

theorem mid_x (c : Dev nD) (t : Fin 64) (d : Fin 4096) :
    mid m c (Proc.devRef .tc main_v0) (ValueIdx.ix2 t d) = m ((c : Thread nD τ).loc main_arg0) (ValueIdx.ix3 t 0 d) := by
  rw [mid_of_ne m c main_v0 (by decide)]
  show StableHlo.after hostOps0 (fun b => m (c, b)) (Proc.devRef .tc main_v0) (ValueIdx.ix2 t d) = m (c, Proc.devRef .tc main_arg0) (ValueIdx.ix3 t 0 d)
  rw [← ix2_eq_valueIdx, ← ix3_eq_valueIdx]
  after_reads_at

/-- The reference's result is the layer of its arguments. -/
theorem tail_result (c : Dev nD) (t : Fin 64) (d : Fin 4096) :
    Pipeline.afterTail₀ cfgs (dats m) 0 (V0 m) [hostOps1, hostOps1_1, hostOps1_2, hostOps1_3, hostOps1_4] c main_v36 (ValueIdx.ix3 t 0 d)
      = layer (fun t d => m ((c : Thread nD τ).loc main_arg0) (ValueIdx.ix3 t 0 d)) (fun t j => m ((c : Thread nD τ).loc main_arg1) (ValueIdx.ix3 t 0 j))
          (fun t j => m ((c : Thread nD τ).loc main_arg2) (ValueIdx.ix3 t 0 j)) (fun e r d => m ((c : Thread nD τ).loc main_arg3) (ValueIdx.ix3 e r d))
          (fun e r => m ((c : Thread nD τ).loc main_arg4) (ValueIdx.ix2 e r)) (fun e d f => m ((c : Thread nD τ).loc main_arg5) (ValueIdx.ix3 e d f))
          (fun e d => m ((c : Thread nD τ).loc main_arg6) (ValueIdx.ix2 e d)) t d := by
  refine (tail_read (mid m c) t d).trans ?_
  exact layer_congr (fun t d => mid_x m c t d) (fun t j => congrFun ((mid_of_ne m c main_arg1 (by decide)).trans (V_main_arg1 m c)) _)
    (fun t j => congrFun ((mid_of_ne m c main_arg2 (by decide)).trans (V_main_arg2 m c)) _) (fun e r d => mid_g m c e r d)
    (fun e r => congrFun ((mid_of_ne m c main_arg4 (by decide)).trans (V_main_arg4 m c)) _) (fun e d f => mid_d m c e d f)
    (fun e d => congrFun ((mid_of_ne m c main_arg6 (by decide)).trans (V_main_arg6 m c)) _) t d

end Cert.ReferenceIdeal.Hand
-- ==== Proof.Value.Algebraic.lean ====
/-
  The kernel and the reference, from memories with equal arguments: the two results are one array.
-/
module

public import proofs.«01_k».proof.Defs
public import proofs.«01_k».proof.Proof.Value.Result
public import proofs.«01_k».proof.Proof.Value.Reference

@[expose] public section

set_option maxRecDepth 16384

noncomputable section

namespace Cert.Value

open Idealize.ShloMosaic Idealize.ShloMosaic.TcCoe Idealize.ShloMosaic.Tactic Idealize.SL.Sem

/-- The array the kernel's run leaves in its result. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v4) :=
  Pipeline.afterTail₀ Cert.KernelIdeal.cfgs (Cert.KernelIdeal.Hand.dats m) 0 (Cert.KernelIdeal.Gen.V0 m) [Cert.KernelIdeal.Gen.hostOps1] c Cert.KernelIdeal.main_v4

/-- The reference's result is the kernel's, entry by entry. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Pipeline.afterTail₀ Cert.ReferenceIdeal.cfgs (Cert.ReferenceIdeal.Gen.dats m') 0 (Cert.ReferenceIdeal.Gen.V0 m')
      [Cert.ReferenceIdeal.Gen.hostOps1, Cert.ReferenceIdeal.Gen.hostOps1_1, Cert.ReferenceIdeal.Gen.hostOps1_2, Cert.ReferenceIdeal.Gen.hostOps1_3, Cert.ReferenceIdeal.Gen.hostOps1_4] c Cert.ReferenceIdeal.main_v36
      = result m c := by
  funext i
  have hi : i = ValueIdx.ix3 (i 0) 0 (i 2) := by
    funext k
    fin_cases k
    · rfl
    · exact Subsingleton.elim (α := Fin 1) _ _
    · rfl
  rw [hi]
  refine (Cert.ReferenceIdeal.Hand.tail_result m' c (i 0) (i 2)).trans (Eq.trans ?_ (Cert.KernelIdeal.Hand.result_layer m c (i 0) (i 2)).symm)
  exact layer_congr (fun t d => congrFun h0 _) (fun t j => congrFun h1 _) (fun t j => congrFun h2 _) (fun e r d => congrFun h3 _)
    (fun e r => congrFun h4 _) (fun e d f => congrFun h5 _) (fun e d => congrFun h6 _) _ _

/-- From equal arguments that name experts, both programs end with the same result and their arguments unchanged. -/
theorem algebraic : algebraic_KernelIdeal_ReferenceIdeal (hKernelIdeal := Cert.KernelIdeal.Gen.facts) (hReferenceIdeal := Cert.ReferenceIdeal.Gen.facts)
    (hPre_experts_named := Cert.Pre_experts_named.Gen.facts) := by
  intro m g m' g' hpre heq
  refine ⟨result m, ?_, ?_⟩
  · refine (θ_run _ _ _).mono (fun r h c => ?_) (Cert.KernelIdeal.Hand.run_main m g fun c t j => Cert.KernelIdeal.Hand.named_of_pre m (hpre c) t j)
    exact ⟨(h.1 c).2 Cert.KernelIdeal.main_v4 (Pipeline.mem_restRefs_of Cert.KernelIdeal.main_v4 (by decide) (by decide)),
      Cert.KernelIdeal.Hand.args_kept m h.1 c⟩
  · refine (θ_run _ _ _).mono (fun r h c => ?_) (θ_run_and (Cert.ReferenceIdeal.Gen.run_main m' g') (Cert.ReferenceIdeal.Gen.unchanged m' g'))
    obtain ⟨e0, e1, e2, e3, e4, e5, e6⟩ := heq c
    exact ⟨((h.1 c).2 Cert.ReferenceIdeal.main_v36 (Pipeline.mem_restRefs_of Cert.ReferenceIdeal.main_v36 (by decide) (by decide))).trans
      (reference_eq m m' c e0 e1 e2 e3 e4 e5 e6), h.2 c⟩

end Cert.Value
-- ==== Proof.lean ====
/-
  The proof of `Cert.Claim`: the frames from the runs of the three programs, and the equality of the results.
-/
module

public import proofs.«01_k».proof.Defs
public import proofs.«01_k».proof.Proof.Kernel.Named
public import proofs.«01_k».proof.Proof.KernelIdeal.Named
public import proofs.«01_k».proof.Proof.Gen.ReferenceIdeal.Frame
public import proofs.«01_k».proof.Proof.Value.Algebraic

@[expose] public section

namespace Cert.Proof

open Idealize.ShloMosaic Idealize.ShloMosaic.TcCoe Idealize.SL.Sem

theorem quiescent_kernel : quiescent_Kernel (hKernel := Cert.Kernel.Gen.facts) (hPre_experts_named := Cert.Pre_experts_named.Gen.facts) :=
  fun m g h => Cert.Kernel.Hand.frame m g (fun c t j => Cert.Kernel.Hand.named_of_pre m (h c) t j)

theorem quiescent_kernelIdeal : quiescent_KernelIdeal (hKernelIdeal := Cert.KernelIdeal.Gen.facts) (hPre_experts_named := Cert.Pre_experts_named.Gen.facts) :=
  fun m g h => Cert.KernelIdeal.Hand.frame m g (fun c t j => Cert.KernelIdeal.Hand.named_of_pre m (h c) t j)

theorem quiescent_referenceIdeal : quiescent_ReferenceIdeal (hReferenceIdeal := Cert.ReferenceIdeal.Gen.facts) :=
  fun m g _ => Cert.ReferenceIdeal.Gen.frame m g

theorem quiescent_referenceIdeal_named : quiescent_ReferenceIdeal_pre_experts_named (hReferenceIdeal := Cert.ReferenceIdeal.Gen.facts) (hPre_experts_named := Cert.Pre_experts_named.Gen.facts) :=
  fun m g _ => Cert.ReferenceIdeal.Gen.frame m g

theorem claim : Cert.Claim :=
  ⟨Cert.Kernel.Gen.facts, Cert.KernelIdeal.Gen.facts, Cert.ReferenceIdeal.Gen.facts, Cert.Pre_experts_named.Gen.facts,
    quiescent_kernel, quiescent_kernelIdeal, quiescent_referenceIdeal, quiescent_referenceIdeal_named, trivial, Cert.Value.algebraic⟩

end Cert.Proof
